-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_fit [hPre_labels_fit : Cert.Pre_labels_fit.Facts] (m : (ℓ : Loc Cert.KernelIdeal.nD Cert.KernelIdeal.τ Cert.KernelIdeal.sig) → Buf (Elt Ideal) ℓ) : Prop :=
  ∀ c : Dev Cert.KernelIdeal.nD,
    (Cert.Pre_labels_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_fit [hPre_labels_fit : Cert.Pre_labels_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_fit [hKernelIdeal : Cert.KernelIdeal.Facts] [hPre_labels_fit : Cert.Pre_labels_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_fit m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_fit [hReferenceIdeal : Cert.ReferenceIdeal.Facts] [hPre_labels_fit : Cert.Pre_labels_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_fit [hKernelIdeal : Cert.KernelIdeal.Facts] [hReferenceIdeal : Cert.ReferenceIdeal.Facts] [hPre_labels_fit : Cert.Pre_labels_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_fit : Cert.Pre_labels_fit.Facts),
    quiescent_Kernel (hKernel := hKernel)
    ∧ quiescent_KernelIdeal (hKernelIdeal := hKernelIdeal)
    ∧ quiescent_KernelIdeal_pre_labels_fit (hKernelIdeal := hKernelIdeal) (hPre_labels_fit := hPre_labels_fit)
    ∧ quiescent_ReferenceIdeal (hReferenceIdeal := hReferenceIdeal)
    ∧ quiescent_ReferenceIdeal_pre_labels_fit (hReferenceIdeal := hReferenceIdeal) (hPre_labels_fit := hPre_labels_fit)
    ∧ preserves_Kernel_KernelIdeal
    ∧ algebraic_KernelIdeal_ReferenceIdeal_pre_labels_fit (hKernelIdeal := hKernelIdeal) (hReferenceIdeal := hReferenceIdeal) (hPre_labels_fit := hPre_labels_fit)
-- ==== Pre_labels_fit.lean ====
abbrev S16384x64 : Shape := ⟨2, ![16384, 64]⟩
abbrev S16384 : Shape := ⟨1, ![16384]⟩
abbrev S1000000x64 : Shape := ⟨2, ![1000000, 64]⟩
abbrev S7813 : Shape := ⟨1, ![7813]⟩
abbrev S_ : Shape := ⟨0, ![]⟩
abbrev S7813x1 : Shape := ⟨2, ![7813, 1]⟩
abbrev S1x16384 : Shape := ⟨2, ![1, 16384]⟩
abbrev S7813x16384 : Shape := ⟨2, ![7813, 16384]⟩

class Facts : Prop where
  bcast_S_S7813 : S_.BroadcastsInDim S7813 (![] : Fin 0 → Fin S7813.rank)
  bcast_S7813_S7813x1_0 : S7813.BroadcastsInDim S7813x1 (![0] : Fin 1 → Fin S7813x1.rank)
  bcast_S16384_S1x16384_1 : S16384.BroadcastsInDim S1x16384 (![1] : Fin 1 → Fin S1x16384.rank)
  bcast_S1x16384_S7813x16384_0_1 : S1x16384.BroadcastsInDim S7813x16384 (![0, 1] : Fin 2 → Fin S7813x16384.rank)
  bcast_S7813x1_S7813x16384_0_1 : S7813x1.BroadcastsInDim S7813x16384 (![0, 1] : Fin 2 → Fin S7813x16384.rank)
  bcast_S_S7813x1 : S_.BroadcastsInDim S7813x1 (![] : Fin 0 → Fin S7813x1.rank)
  natLt_1_32 : 1 < 32
  reducesTo_S7813x16384_S7813_d1 : S7813x16384.ReducesTo [1] S7813
  h_S_ : 0 < S_.numel
  bcast_S_S1x16384 : S_.BroadcastsInDim S1x16384 (![] : Fin 0 → Fin S1x16384.rank)

variable [Facts]

def fn_part1 {F : FTy → Type} [FloatOps F] (main_v4 : IVec S1x16384 32) (main_v18 : IVec S7813x1 1) (main_c_3 : IVec S_ 32) : IVec S7813x16384 1 :=
  let main_v19 : IVec S1x16384 32 := broadcastInDim S1x16384 ![] bcast_S_S1x16384 main_c_3
  let main_v20 : IVec S1x16384 1 := cmpi .sge main_v4 main_v19
  let main_v21 : IVec S7813x16384 1 := broadcastInDim S7813x16384 ![0, 1] bcast_S7813x1_S7813x16384_0_1 main_v18
  let main_v22 : IVec S7813x16384 1 := broadcastInDim S7813x16384 ![0, 1] bcast_S1x16384_S7813x16384_0_1 main_v20
  let main_v23 : IVec S7813x16384 1 := andi main_v21 main_v22
  let main_c_4 : IVec S_ 32 := constantI S_ 32 1000000#32
  let main_v24 : IVec S1x16384 32 := broadcastInDim S1x16384 ![] bcast_S_S1x16384 main_c_4
  let main_v25 : IVec S1x16384 1 := cmpi .slt main_v4 main_v24
  let main_v26 : IVec S7813x16384 1 := broadcastInDim S7813x16384 ![0, 1] bcast_S1x16384_S7813x16384_0_1 main_v25
  let main_v27 : IVec S7813x16384 1 := andi main_v23 main_v26
  main_v27

def fn {F : FTy → Type} [FloatOps F] (main_arg0 : FVec F S16384x64 .f32) (main_arg1 : IVec S16384 32) (main_arg2 : FVec F S1000000x64 .f32) : IVec S7813x16384 1 :=
  let main_v0 : IVec S7813 32 := iotaInDim S7813 32 0
  let main_c : IVec S_ 32 := constantI S_ 32 128#32
  let main_v1 : IVec S7813 32 := broadcastInDim S7813 ![] bcast_S_S7813 main_c
  let main_v2 : IVec S7813 32 := muli main_v1 main_v0
  let main_v3 : IVec S7813x1 32 := broadcastInDim S7813x1 ![0] bcast_S7813_S7813x1_0 main_v2
  let main_v4 : IVec S1x16384 32 := broadcastInDim S1x16384 ![1] bcast_S16384_S1x16384_1 main_arg1
  let main_v5 : IVec S7813x16384 32 := broadcastInDim S7813x16384 ![0, 1] bcast_S1x16384_S7813x16384_0_1 main_v4
  let main_v6 : IVec S7813x16384 32 := broadcastInDim S7813x16384 ![0, 1] bcast_S7813x1_S7813x16384_0_1 main_v3
  let main_v7 : IVec S7813x16384 1 := cmpi .sge main_v5 main_v6
  let main_c_0 : IVec S_ 32 := constantI S_ 32 128#32
  let main_v8 : IVec S7813x1 32 := broadcastInDim S7813x1 ![] bcast_S_S7813x1 main_c_0
  let main_v9 : IVec S7813x1 32 := addi main_v3 main_v8
  let main_v10 : IVec S7813x16384 32 := broadcastInDim S7813x16384 ![0, 1] bcast_S1x16384_S7813x16384_0_1 main_v4
  let main_v11 : IVec S7813x16384 32 := broadcastInDim S7813x16384 ![0, 1] bcast_S7813x1_S7813x16384_0_1 main_v9
  let main_v12 : IVec S7813x16384 1 := cmpi .slt main_v10 main_v11
  let main_v13 : IVec S7813x16384 1 := andi main_v7 main_v12
  let main_v14 : IVec S7813x16384 32 := (extui 32 · natLt_1_32) main_v13
  let main_c_1 : IVec S_ 32 := constantI S_ 32 0#32
  let main_v15 : IVec S7813 32 := (fun x v => Host.reduce IntOp.addi x v reducesTo_S7813x16384_S7813_d1 h_S_) main_v14 main_c_1
  let main_c_2 : IVec S_ 32 := constantI S_ 32 32#32
  let main_v16 : IVec S7813 32 := broadcastInDim S7813 ![] bcast_S_S7813 main_c_2
  let main_v17 : IVec S7813 1 := cmpi .sle main_v15 main_v16
  let main_v18 : IVec S7813x1 1 := broadcastInDim S7813x1 ![0] bcast_S7813_S7813x1_0 main_v17
  let main_c_3 : IVec S_ 32 := constantI S_ 32 0#32
  fn_part1 (F := F) main_v4 main_v18 main_c_3
-- ==== Kernel.lean ====
abbrev S16384x64 : Shape := ⟨2, ![16384, 64]⟩
abbrev S16384 : Shape := ⟨1, ![16384]⟩
abbrev S1000000x64 : Shape := ⟨2, ![1000000, 64]⟩
abbrev S_ : Shape := ⟨0, ![]⟩
abbrev S1000064x64 : Shape := ⟨2, ![1000064, 64]⟩
abbrev S64x1000064 : Shape := ⟨2, ![64, 1000064]⟩
abbrev S32x16 : Shape := ⟨2, ![32, 16]⟩
abbrev S2048 : Shape := ⟨1, ![2048]⟩
abbrev S8192 : Shape := ⟨1, ![8192]⟩
abbrev S256 : Shape := ⟨1, ![256]⟩
abbrev S4x64x128 : Shape := ⟨3, ![4, 64, 128]⟩
abbrev S4x32x64 : Shape := ⟨3, ![4, 32, 64]⟩
abbrev S16 : Shape := ⟨1, ![16]⟩
abbrev S1 : Shape := ⟨1, ![1]⟩
abbrev S1x64x128 : Shape := ⟨3, ![1, 64, 128]⟩
abbrev S64x128 : Shape := ⟨2, ![64, 128]⟩
abbrev S1x32x64 : Shape := ⟨3, ![1, 32, 64]⟩
abbrev S32x64 : Shape := ⟨2, ![32, 64]⟩
abbrev S1x64 : Shape := ⟨2, ![1, 64]⟩
abbrev S1x1x16 : Shape := ⟨3, ![1, 1, 16]⟩
abbrev S1x16 : Shape := ⟨2, ![1, 16]⟩

abbrev nBuf : Table → Nat
  | .hbm => 12
  | .local .scVector .vmem => 7
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S1000000x64, .f32⟩
  | .hbm, ⟨3, _⟩ => ⟨S_, .i32⟩
  | .hbm, ⟨4, _⟩ => ⟨S_, .f32⟩
  | .hbm, ⟨5, _⟩ => ⟨S1000064x64, .f32⟩
  | .hbm, ⟨6, _⟩ => ⟨S64x1000064, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .scVector .vmem, ⟨0, _⟩ => ⟨S2048, .i32⟩
  | .local .scVector .vmem, ⟨1, _⟩ => ⟨S8192, .i32⟩
  | .local .scVector .vmem, ⟨2, _⟩ => ⟨S8192, .i32⟩
  | .local .scVector .vmem, ⟨3, _⟩ => ⟨S256, .i32⟩
  | .local .scVector .vmem, ⟨4, _⟩ => ⟨S4x64x128, .f32⟩
  | .local .scVector .vmem, ⟨5, _⟩ => ⟨S4x32x64, .f32⟩
  | .local .scVector .vmem, ⟨6, _⟩ => ⟨S16, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_arg0_scv : Ref sig .scVector := ⟨.hbm, 0, rfl⟩
abbrev main_arg1_scv : Ref sig .scVector := ⟨.hbm, 1, rfl⟩
abbrev main_v1_scv : Ref sig .scVector := ⟨.hbm, 6, rfl⟩
abbrev main_v2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c128_i32_7 : BitVec 32 := 128#32
  let v37 : BitVec 32 := Scalar.addi c0_i32_6 c128_i32_7
  let c1_i32_8 : BitVec 32 := 1#32
  ⟨c0_i32_6, v37, c1_i32_8⟩
def k0_off1 (k0_t1 : Fin k0_t1_loop.trips) : Fin 1 → Nat :=
  let c0_i32_6 : BitVec 32 := 0#32
  let c1_i32_8 : BitVec 32 := 1#32
  let arg21 : BitVec 32 := Scf.iv c0_i32_6 c1_i32_8 k0_t1
  let c16_i32_268 : BitVec 32 := 16#32
  let v483 : BitVec 32 := Scalar.muli arg21 c16_i32_268
  let v484 : Index := Scalar.indexCast v483
  ![v484.toNat]

def k0_chk2 (v512 : IVec S16 32) : Prop :=
  (∀ a x, ((![v512] : Fin 1 → IVec S16 32) a x).toNat < S8192.size a) ∧
  (∀ a x, ((![v512] : Fin 1 → IVec S16 32) a x).toNat < S8192.size a)
theorem k0_idx2_inb : ∀ (v512 : IVec S16 32) (k0_hw2 : k0_chk2 v512), ∀ a x, ((![v512] : Fin 1 → IVec S16 32) a x).toNat < S8192.size a := fun v512 k0_hw2 => k0_hw2.1
theorem k0_idx3_inb : ∀ (v512 : IVec S16 32) (k0_hw2 : k0_chk2 v512), ∀ a x, ((![v512] : Fin 1 → IVec S16 32) a x).toNat < S8192.size a := fun v512 k0_hw2 => k0_hw2.2

def k0_chk1 (v500 : IVec S16 32) : Prop :=
  (∀ a x, ((![v500] : Fin 1 → IVec S16 32) a x).toNat < S256.size a) ∧
  (∀ a x, ((![v500] : Fin 1 → IVec S16 32) a x).toNat < S256.size a)
theorem k0_idx1_inb : ∀ (v500 : IVec S16 32) (k0_hw1 : k0_chk1 v500), ∀ a x, ((![v500] : Fin 1 → IVec S16 32) a x).toNat < S256.size a := fun v500 k0_hw1 => k0_hw1.1
theorem k0_idx4_inb : ∀ (v500 : IVec S16 32) (k0_hw1 : k0_chk1 v500), ∀ a x, ((![v500] : Fin 1 → IVec S16 32) a x).toNat < S256.size a := fun v500 k0_hw1 => k0_hw1.2
@[reducible] def k0_t2_loop : Scf.Loop 32 :=
  let c0_i32_11 : BitVec 32 := 0#32
  let c128_i32_12 : BitVec 32 := 128#32
  let v38 : BitVec 32 := Scalar.addi c0_i32_11 c128_i32_12
  let c1_i32_13 : BitVec 32 := 1#32
  ⟨c0_i32_11, v38, c1_i32_13⟩
def k0_off2 (k0_t2 : Fin k0_t2_loop.trips) : Fin 1 → Nat :=
  let c0_i32_11 : BitVec 32 := 0#32
  let c1_i32_13 : BitVec 32 := 1#32
  let arg21 : BitVec 32 := Scf.iv c0_i32_11 c1_i32_13 k0_t2
  let c16_i32_268 : BitVec 32 := 16#32
  let v483 : BitVec 32 := Scalar.muli arg21 c16_i32_268
  let v484 : Index := Scalar.indexCast v483
  ![v484.toNat]

def k0_chk4 (v512 : IVec S16 32) : Prop :=
  (∀ a x, ((![v512] : Fin 1 → IVec S16 32) a x).toNat < S8192.size a) ∧
  (∀ a x, ((![v512] : Fin 1 → IVec S16 32) a x).toNat < S8192.size a)
theorem k0_idx6_inb : ∀ (v512 : IVec S16 32) (k0_hw4 : k0_chk4 v512), ∀ a x, ((![v512] : Fin 1 → IVec S16 32) a x).toNat < S8192.size a := fun v512 k0_hw4 => k0_hw4.1
theorem k0_idx7_inb : ∀ (v512 : IVec S16 32) (k0_hw4 : k0_chk4 v512), ∀ a x, ((![v512] : Fin 1 → IVec S16 32) a x).toNat < S8192.size a := fun v512 k0_hw4 => k0_hw4.2

def k0_chk3 (v500 : IVec S16 32) : Prop :=
  (∀ a x, ((![v500] : Fin 1 → IVec S16 32) a x).toNat < S256.size a) ∧
  (∀ a x, ((![v500] : Fin 1 → IVec S16 32) a x).toNat < S256.size a)
theorem k0_idx5_inb : ∀ (v500 : IVec S16 32) (k0_hw3 : k0_chk3 v500), ∀ a x, ((![v500] : Fin 1 → IVec S16 32) a x).toNat < S256.size a := fun v500 k0_hw3 => k0_hw3.1
theorem k0_idx8_inb : ∀ (v500 : IVec S16 32) (k0_hw3 : k0_chk3 v500), ∀ a x, ((![v500] : Fin 1 → IVec S16 32) a x).toNat < S256.size a := fun v500 k0_hw3 => k0_hw3.2
@[reducible] def k0_t3_loop : Scf.Loop 32 :=
  let c0_i32_16 : BitVec 32 := 0#32
  let c128_i32_17 : BitVec 32 := 128#32
  let v39 : BitVec 32 := Scalar.addi c0_i32_16 c128_i32_17
  let c1_i32_18 : BitVec 32 := 1#32
  ⟨c0_i32_16, v39, c1_i32_18⟩
def k0_off3 (k0_t3 : Fin k0_t3_loop.trips) : Fin 1 → Nat :=
  let c0_i32_16 : BitVec 32 := 0#32
  let c1_i32_18 : BitVec 32 := 1#32
  let arg21 : BitVec 32 := Scf.iv c0_i32_16 c1_i32_18 k0_t3
  let c16_i32_268 : BitVec 32 := 16#32
  let v483 : BitVec 32 := Scalar.muli arg21 c16_i32_268
  let v484 : Index := Scalar.indexCast v483
  ![v484.toNat]

def k0_chk6 (v512 : IVec S16 32) : Prop :=
  (∀ a x, ((![v512] : Fin 1 → IVec S16 32) a x).toNat < S8192.size a) ∧
  (∀ a x, ((![v512] : Fin 1 → IVec S16 32) a x).toNat < S8192.size a)
theorem k0_idx10_inb : ∀ (v512 : IVec S16 32) (k0_hw6 : k0_chk6 v512), ∀ a x, ((![v512] : Fin 1 → IVec S16 32) a x).toNat < S8192.size a := fun v512 k0_hw6 => k0_hw6.1
theorem k0_idx11_inb : ∀ (v512 : IVec S16 32) (k0_hw6 : k0_chk6 v512), ∀ a x, ((![v512] : Fin 1 → IVec S16 32) a x).toNat < S8192.size a := fun v512 k0_hw6 => k0_hw6.2

def k0_chk5 (v500 : IVec S16 32) : Prop :=
  (∀ a x, ((![v500] : Fin 1 → IVec S16 32) a x).toNat < S256.size a) ∧
  (∀ a x, ((![v500] : Fin 1 → IVec S16 32) a x).toNat < S256.size a)
theorem k0_idx9_inb : ∀ (v500 : IVec S16 32) (k0_hw5 : k0_chk5 v500), ∀ a x, ((![v500] : Fin 1 → IVec S16 32) a x).toNat < S256.size a := fun v500 k0_hw5 => k0_hw5.1
theorem k0_idx12_inb : ∀ (v500 : IVec S16 32) (k0_hw5 : k0_chk5 v500), ∀ a x, ((![v500] : Fin 1 → IVec S16 32) a x).toNat < S256.size a := fun v500 k0_hw5 => k0_hw5.2
@[reducible] def k0_t4_loop : Scf.Loop 32 :=
  let c0_i32_21 : BitVec 32 := 0#32
  let c128_i32_22 : BitVec 32 := 128#32
  let v40 : BitVec 32 := Scalar.addi c0_i32_21 c128_i32_22
  let c1_i32_23 : BitVec 32 := 1#32
  ⟨c0_i32_21, v40, c1_i32_23⟩
def k0_off4 (k0_t4 : Fin k0_t4_loop.trips) : Fin 1 → Nat :=
  let c0_i32_21 : BitVec 32 := 0#32
  let c1_i32_23 : BitVec 32 := 1#32
  let arg21 : BitVec 32 := Scf.iv c0_i32_21 c1_i32_23 k0_t4
  let c16_i32_268 : BitVec 32 := 16#32
  let v483 : BitVec 32 := Scalar.muli arg21 c16_i32_268
  let v484 : Index := Scalar.indexCast v483
  ![v484.toNat]

def k0_chk8 (v512 : IVec S16 32) : Prop :=
  (∀ a x, ((![v512] : Fin 1 → IVec S16 32) a x).toNat < S8192.size a) ∧
  (∀ a x, ((![v512] : Fin 1 → IVec S16 32) a x).toNat < S8192.size a)
theorem k0_idx14_inb : ∀ (v512 : IVec S16 32) (k0_hw8 : k0_chk8 v512), ∀ a x, ((![v512] : Fin 1 → IVec S16 32) a x).toNat < S8192.size a := fun v512 k0_hw8 => k0_hw8.1
theorem k0_idx15_inb : ∀ (v512 : IVec S16 32) (k0_hw8 : k0_chk8 v512), ∀ a x, ((![v512] : Fin 1 → IVec S16 32) a x).toNat < S8192.size a := fun v512 k0_hw8 => k0_hw8.2

def k0_chk7 (v500 : IVec S16 32) : Prop :=
  (∀ a x, ((![v500] : Fin 1 → IVec S16 32) a x).toNat < S256.size a) ∧
  (∀ a x, ((![v500] : Fin 1 → IVec S16 32) a x).toNat < S256.size a)
theorem k0_idx13_inb : ∀ (v500 : IVec S16 32) (k0_hw7 : k0_chk7 v500), ∀ a x, ((![v500] : Fin 1 → IVec S16 32) a x).toNat < S256.size a := fun v500 k0_hw7 => k0_hw7.1
theorem k0_idx16_inb : ∀ (v500 : IVec S16 32) (k0_hw7 : k0_chk7 v500), ∀ a x, ((![v500] : Fin 1 → IVec S16 32) a x).toNat < S256.size a := fun v500 k0_hw7 => k0_hw7.2
@[reducible] def k0_t5_loop : Scf.Loop 32 :=
  let c0_i32_26 : BitVec 32 := 0#32
  let c128_i32_27 : BitVec 32 := 128#32
  let v41 : BitVec 32 := Scalar.addi c0_i32_26 c128_i32_27
  let c1_i32_28 : BitVec 32 := 1#32
  ⟨c0_i32_26, v41, c1_i32_28⟩
def k0_off5 (k0_t5 : Fin k0_t5_loop.trips) : Fin 1 → Nat :=
  let c0_i32_26 : BitVec 32 := 0#32
  let c1_i32_28 : BitVec 32 := 1#32
  let arg21 : BitVec 32 := Scf.iv c0_i32_26 c1_i32_28 k0_t5
  let c16_i32_268 : BitVec 32 := 16#32
  let v483 : BitVec 32 := Scalar.muli arg21 c16_i32_268
  let v484 : Index := Scalar.indexCast v483
  ![v484.toNat]

def k0_chk10 (v512 : IVec S16 32) : Prop :=
  (∀ a x, ((![v512] : Fin 1 → IVec S16 32) a x).toNat < S8192.size a) ∧
  (∀ a x, ((![v512] : Fin 1 → IVec S16 32) a x).toNat < S8192.size a)
theorem k0_idx18_inb : ∀ (v512 : IVec S16 32) (k0_hw10 : k0_chk10 v512), ∀ a x, ((![v512] : Fin 1 → IVec S16 32) a x).toNat < S8192.size a := fun v512 k0_hw10 => k0_hw10.1
theorem k0_idx19_inb : ∀ (v512 : IVec S16 32) (k0_hw10 : k0_chk10 v512), ∀ a x, ((![v512] : Fin 1 → IVec S16 32) a x).toNat < S8192.size a := fun v512 k0_hw10 => k0_hw10.2

def k0_chk9 (v500 : IVec S16 32) : Prop :=
  (∀ a x, ((![v500] : Fin 1 → IVec S16 32) a x).toNat < S256.size a) ∧
  (∀ a x, ((![v500] : Fin 1 → IVec S16 32) a x).toNat < S256.size a)
theorem k0_idx17_inb : ∀ (v500 : IVec S16 32) (k0_hw9 : k0_chk9 v500), ∀ a x, ((![v500] : Fin 1 → IVec S16 32) a x).toNat < S256.size a := fun v500 k0_hw9 => k0_hw9.1
theorem k0_idx20_inb : ∀ (v500 : IVec S16 32) (k0_hw9 : k0_chk9 v500), ∀ a x, ((![v500] : Fin 1 → IVec S16 32) a x).toNat < S256.size a := fun v500 k0_hw9 => k0_hw9.2
@[reducible] def k0_t6_loop : Scf.Loop 32 :=
  let c0_i32_31 : BitVec 32 := 0#32
  let c128_i32_32 : BitVec 32 := 128#32
  let v42 : BitVec 32 := Scalar.addi c0_i32_31 c128_i32_32
  let c1_i32_33 : BitVec 32 := 1#32
  ⟨c0_i32_31, v42, c1_i32_33⟩
def k0_off6 (k0_t6 : Fin k0_t6_loop.trips) : Fin 1 → Nat :=
  let c0_i32_31 : BitVec 32 := 0#32
  let c1_i32_33 : BitVec 32 := 1#32
  let arg21 : BitVec 32 := Scf.iv c0_i32_31 c1_i32_33 k0_t6
  let c16_i32_268 : BitVec 32 := 16#32
  let v483 : BitVec 32 := Scalar.muli arg21 c16_i32_268
  let v484 : Index := Scalar.indexCast v483
  ![v484.toNat]

def k0_chk12 (v512 : IVec S16 32) : Prop :=
  (∀ a x, ((![v512] : Fin 1 → IVec S16 32) a x).toNat < S8192.size a) ∧
  (∀ a x, ((![v512] : Fin 1 → IVec S16 32) a x).toNat < S8192.size a)
theorem k0_idx22_inb : ∀ (v512 : IVec S16 32) (k0_hw12 : k0_chk12 v512), ∀ a x, ((![v512] : Fin 1 → IVec S16 32) a x).toNat < S8192.size a := fun v512 k0_hw12 => k0_hw12.1
theorem k0_idx23_inb : ∀ (v512 : IVec S16 32) (k0_hw12 : k0_chk12 v512), ∀ a x, ((![v512] : Fin 1 → IVec S16 32) a x).toNat < S8192.size a := fun v512 k0_hw12 => k0_hw12.2

def k0_chk11 (v500 : IVec S16 32) : Prop :=
  (∀ a x, ((![v500] : Fin 1 → IVec S16 32) a x).toNat < S256.size a) ∧
  (∀ a x, ((![v500] : Fin 1 → IVec S16 32) a x).toNat < S256.size a)
theorem k0_idx21_inb : ∀ (v500 : IVec S16 32) (k0_hw11 : k0_chk11 v500), ∀ a x, ((![v500] : Fin 1 → IVec S16 32) a x).toNat < S256.size a := fun v500 k0_hw11 => k0_hw11.1
theorem k0_idx24_inb : ∀ (v500 : IVec S16 32) (k0_hw11 : k0_chk11 v500), ∀ a x, ((![v500] : Fin 1 → IVec S16 32) a x).toNat < S256.size a := fun v500 k0_hw11 => k0_hw11.2
@[reducible] def k0_t7_loop : Scf.Loop 32 :=
  let c0_i32_36 : BitVec 32 := 0#32
  let c128_i32_37 : BitVec 32 := 128#32
  let v43 : BitVec 32 := Scalar.addi c0_i32_36 c128_i32_37
  let c1_i32_38 : BitVec 32 := 1#32
  ⟨c0_i32_36, v43, c1_i32_38⟩
def k0_off7 (k0_t7 : Fin k0_t7_loop.trips) : Fin 1 → Nat :=
  let c0_i32_36 : BitVec 32 := 0#32
  let c1_i32_38 : BitVec 32 := 1#32
  let arg21 : BitVec 32 := Scf.iv c0_i32_36 c1_i32_38 k0_t7
  let c16_i32_268 : BitVec 32 := 16#32
  let v483 : BitVec 32 := Scalar.muli arg21 c16_i32_268
  let v484 : Index := Scalar.indexCast v483
  ![v484.toNat]

def k0_chk14 (v512 : IVec S16 32) : Prop :=
  (∀ a x, ((![v512] : Fin 1 → IVec S16 32) a x).toNat < S8192.size a) ∧
  (∀ a x, ((![v512] : Fin 1 → IVec S16 32) a x).toNat < S8192.size a)
theorem k0_idx26_inb : ∀ (v512 : IVec S16 32) (k0_hw14 : k0_chk14 v512), ∀ a x, ((![v512] : Fin 1 → IVec S16 32) a x).toNat < S8192.size a := fun v512 k0_hw14 => k0_hw14.1
theorem k0_idx27_inb : ∀ (v512 : IVec S16 32) (k0_hw14 : k0_chk14 v512), ∀ a x, ((![v512] : Fin 1 → IVec S16 32) a x).toNat < S8192.size a := fun v512 k0_hw14 => k0_hw14.2

def k0_chk13 (v500 : IVec S16 32) : Prop :=
  (∀ a x, ((![v500] : Fin 1 → IVec S16 32) a x).toNat < S256.size a) ∧
  (∀ a x, ((![v500] : Fin 1 → IVec S16 32) a x).toNat < S256.size a)
theorem k0_idx25_inb : ∀ (v500 : IVec S16 32) (k0_hw13 : k0_chk13 v500), ∀ a x, ((![v500] : Fin 1 → IVec S16 32) a x).toNat < S256.size a := fun v500 k0_hw13 => k0_hw13.1
theorem k0_idx28_inb : ∀ (v500 : IVec S16 32) (k0_hw13 : k0_chk13 v500), ∀ a x, ((![v500] : Fin 1 → IVec S16 32) a x).toNat < S256.size a := fun v500 k0_hw13 => k0_hw13.2
@[reducible] def k0_t8_loop : Scf.Loop 32 :=
  let c0_i32_41 : BitVec 32 := 0#32
  let c128_i32_42 : BitVec 32 := 128#32
  let v44 : BitVec 32 := Scalar.addi c0_i32_41 c128_i32_42
  let c1_i32_43 : BitVec 32 := 1#32
  ⟨c0_i32_41, v44, c1_i32_43⟩
def k0_off8 (k0_t8 : Fin k0_t8_loop.trips) : Fin 1 → Nat :=
  let c0_i32_41 : BitVec 32 := 0#32
  let c1_i32_43 : BitVec 32 := 1#32
  let arg21 : BitVec 32 := Scf.iv c0_i32_41 c1_i32_43 k0_t8
  let c16_i32_268 : BitVec 32 := 16#32
  let v483 : BitVec 32 := Scalar.muli arg21 c16_i32_268
  let v484 : Index := Scalar.indexCast v483
  ![v484.toNat]

def k0_chk16 (v512 : IVec S16 32) : Prop :=
  (∀ a x, ((![v512] : Fin 1 → IVec S16 32) a x).toNat < S8192.size a) ∧
  (∀ a x, ((![v512] : Fin 1 → IVec S16 32) a x).toNat < S8192.size a)
theorem k0_idx30_inb : ∀ (v512 : IVec S16 32) (k0_hw16 : k0_chk16 v512), ∀ a x, ((![v512] : Fin 1 → IVec S16 32) a x).toNat < S8192.size a := fun v512 k0_hw16 => k0_hw16.1
theorem k0_idx31_inb : ∀ (v512 : IVec S16 32) (k0_hw16 : k0_chk16 v512), ∀ a x, ((![v512] : Fin 1 → IVec S16 32) a x).toNat < S8192.size a := fun v512 k0_hw16 => k0_hw16.2

def k0_chk15 (v500 : IVec S16 32) : Prop :=
  (∀ a x, ((![v500] : Fin 1 → IVec S16 32) a x).toNat < S256.size a) ∧
  (∀ a x, ((![v500] : Fin 1 → IVec S16 32) a x).toNat < S256.size a)
theorem k0_idx29_inb : ∀ (v500 : IVec S16 32) (k0_hw15 : k0_chk15 v500), ∀ a x, ((![v500] : Fin 1 → IVec S16 32) a x).toNat < S256.size a := fun v500 k0_hw15 => k0_hw15.1
theorem k0_idx32_inb : ∀ (v500 : IVec S16 32) (k0_hw15 : k0_chk15 v500), ∀ a x, ((![v500] : Fin 1 → IVec S16 32) a x).toNat < S256.size a := fun v500 k0_hw15 => k0_hw15.2
def k0_off9 : Fin 1 → Nat :=
  let c0_i32_45 : BitVec 32 := 0#32
  let c0_i32_46 : BitVec 32 := 0#32
  let v46 : BitVec 1 := Scalar.cmpi .sgt c0_i32_45 c0_i32_46
  let v47 : BitVec 32 := Scalar.extui v46
  let c0_i32_47 : BitVec 32 := 0#32
  let v48 : BitVec 1 := Scalar.cmpi .slt c0_i32_45 c0_i32_47
  let v49 : BitVec 32 := Scalar.extui v48
  let v50 : BitVec 32 := Scalar.subi v47 v49
  let c16_i32 : BitVec 32 := 16#32
  let c0_i32_48 : BitVec 32 := 0#32
  let v51 : BitVec 1 := Scalar.cmpi .sgt c16_i32 c0_i32_48
  let v52 : BitVec 32 := Scalar.extui v51
  let c0_i32_49 : BitVec 32 := 0#32
  let v53 : BitVec 1 := Scalar.cmpi .slt c16_i32 c0_i32_49
  let v54 : BitVec 32 := Scalar.extui v53
  let v55 : BitVec 32 := Scalar.subi v52 v54
  let v56 : BitVec 1 := Scalar.cmpi .ne v50 v55
  let v57 : BitVec 32 := Scalar.remsi c0_i32_45 c16_i32
  let c0_i32_50 : BitVec 32 := 0#32
  let v58 : BitVec 1 := Scalar.cmpi .ne v57 c0_i32_50
  let v59 : BitVec 1 := Scalar.andi v56 v58
  let v45 : BitVec 32 := Scalar.divsi c0_i32_45 c16_i32
  let c1_i32_51 : BitVec 32 := 1#32
  let v60 : BitVec 32 := Scalar.subi v45 c1_i32_51
  let v61 : BitVec 32 := Scalar.select v59 v60 v45
  let c16_i32_52 : BitVec 32 := 16#32
  let v62 : BitVec 32 := Scalar.muli v61 c16_i32_52
  let v63 : Index := Scalar.indexCast v62
  ![v63.toNat]
def k0_off10 (i : grid0.Coords) : Fin 2 → Nat :=
  let c0_i32_272 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c0_i32_66 : BitVec 32 := 0#32
  let c128_i32_268 : BitVec 32 := 128#32
  let v483 : BitVec 32 := Scalar.muli c0_i32_66 c128_i32_268
  let v484 : BitVec 32 := Scalar.addi v10 v483
  ![0, v484.toNat]
def k0_off11 : Fin 1 → Nat :=
  let c0_i32_68 : BitVec 32 := 0#32
  let c0_i32_70 : BitVec 32 := 0#32
  let v96 : BitVec 1 := Scalar.cmpi .sgt c0_i32_68 c0_i32_70
  let v97 : BitVec 32 := Scalar.extui v96
  let c0_i32_71 : BitVec 32 := 0#32
  let v98 : BitVec 1 := Scalar.cmpi .slt c0_i32_68 c0_i32_71
  let v99 : BitVec 32 := Scalar.extui v98
  let v100 : BitVec 32 := Scalar.subi v97 v99
  let c16_i32_69 : BitVec 32 := 16#32
  let c0_i32_72 : BitVec 32 := 0#32
  let v101 : BitVec 1 := Scalar.cmpi .sgt c16_i32_69 c0_i32_72
  let v102 : BitVec 32 := Scalar.extui v101
  let c0_i32_73 : BitVec 32 := 0#32
  let v103 : BitVec 1 := Scalar.cmpi .slt c16_i32_69 c0_i32_73
  let v104 : BitVec 32 := Scalar.extui v103
  let v105 : BitVec 32 := Scalar.subi v102 v104
  let v106 : BitVec 1 := Scalar.cmpi .ne v100 v105
  let v107 : BitVec 32 := Scalar.remsi c0_i32_68 c16_i32_69
  let c0_i32_74 : BitVec 32 := 0#32
  let v108 : BitVec 1 := Scalar.cmpi .ne v107 c0_i32_74
  let v109 : BitVec 1 := Scalar.andi v106 v108
  let v95 : BitVec 32 := Scalar.divsi c0_i32_68 c16_i32_69
  let c1_i32_75 : BitVec 32 := 1#32
  let v110 : BitVec 32 := Scalar.subi v95 c1_i32_75
  let v111 : BitVec 32 := Scalar.select v109 v110 v95
  let c16_i32_76 : BitVec 32 := 16#32
  let v112 : BitVec 32 := Scalar.muli v111 c16_i32_76
  let v113 : Index := Scalar.indexCast v112
  ![v113.toNat]
@[reducible] def k0_t9_loop (v140 : BitVec 32) : Scf.Loop 32 :=
  let c0_i32_92 : BitVec 32 := 0#32
  let c32_i32_89 : BitVec 32 := 32#32
  let v141 : BitVec 32 := Scalar.minsi v140 c32_i32_89
  let v142 : BitVec 32 := Scalar.subi v141 c0_i32_92
  let c1_i32_93 : BitVec 32 := 1#32
  let v144 : BitVec 32 := Scalar.divsi v142 c1_i32_93
  let v145 : BitVec 32 := Scalar.muli v144 c1_i32_93
  let v146 : BitVec 32 := Scalar.addi c0_i32_92 v145
  let c1_i32_94 : BitVec 32 := 1#32
  ⟨c0_i32_92, v146, c1_i32_94⟩

def k0_off12 (v140 : BitVec 32) (k0_t9 : Fin (k0_t9_loop v140).trips) : Fin 1 → Nat :=
  let c0_i32_91 : BitVec 32 := 0#32
  let c32_i32_268 : BitVec 32 := 32#32
  let v483 : BitVec 32 := Scalar.muli c0_i32_91 c32_i32_268
  let c0_i32_92 : BitVec 32 := 0#32
  let c1_i32_94 : BitVec 32 := 1#32
  let arg21 : BitVec 32 := Scf.iv c0_i32_92 c1_i32_94 k0_t9
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off13 (v140 : BitVec 32) (k0_t9 : Fin (k0_t9_loop v140).trips) : Fin 2 → Nat :=
  let c0_i32_92 : BitVec 32 := 0#32
  let c1_i32_94 : BitVec 32 := 1#32
  let arg21 : BitVec 32 := Scf.iv c0_i32_92 c1_i32_94 k0_t9
  let c0_i32_290 : BitVec 32 := 0#32
  ![arg21.toNat, 0]
def k0_off14 (v530 : BitVec 32) : Fin 2 → Nat :=
  let c0_i32_291 : BitVec 32 := 0#32
  ![v530.toNat, 0]

def k0_chk18 (v530 : BitVec 32) : Prop :=
  (∀ a, (k0_off14 v530) a + S1x64.size a ≤ S16384x64.size a)
theorem k0_off14_inb : ∀ (v530 : BitVec 32) (k0_hw18 : k0_chk18 v530), ∀ a, (k0_off14 v530) a + S1x64.size a ≤ S16384x64.size a := fun v530 k0_hw18 => k0_hw18

def k0_off15 (v140 : BitVec 32) (k0_t9 : Fin (k0_t9_loop v140).trips) : Fin 2 → Nat :=
  let c0_i32_92 : BitVec 32 := 0#32
  let c1_i32_94 : BitVec 32 := 1#32
  let arg21 : BitVec 32 := Scf.iv c0_i32_92 c1_i32_94 k0_t9
  let c0_i32_294 : BitVec 32 := 0#32
  ![arg21.toNat, 0]
@[reducible] def k0_t10_loop (v140 : BitVec 32) : Scf.Loop 32 :=
  let c0_i32_92 : BitVec 32 := 0#32
  let c32_i32_89 : BitVec 32 := 32#32
  let v141 : BitVec 32 := Scalar.minsi v140 c32_i32_89
  let v142 : BitVec 32 := Scalar.subi v141 c0_i32_92
  let c1_i32_93 : BitVec 32 := 1#32
  let v144 : BitVec 32 := Scalar.divsi v142 c1_i32_93
  let v145 : BitVec 32 := Scalar.muli v144 c1_i32_93
  let v146 : BitVec 32 := Scalar.addi c0_i32_92 v145
  let v143 : BitVec 32 := Scalar.addi c0_i32_92 v142
  let c1_i32_95 : BitVec 32 := 1#32
  ⟨v146, v143, c1_i32_95⟩
def k0_off16 (v140 : BitVec 32) (k0_t10 : Fin (k0_t10_loop v140).trips) : Fin 1 → Nat :=
  let c0_i32_91 : BitVec 32 := 0#32
  let c32_i32_268 : BitVec 32 := 32#32
  let v483 : BitVec 32 := Scalar.muli c0_i32_91 c32_i32_268
  let c0_i32_92 : BitVec 32 := 0#32
  let c32_i32_89 : BitVec 32 := 32#32
  let v141 : BitVec 32 := Scalar.minsi v140 c32_i32_89
  let v142 : BitVec 32 := Scalar.subi v141 c0_i32_92
  let c1_i32_93 : BitVec 32 := 1#32
  let v144 : BitVec 32 := Scalar.divsi v142 c1_i32_93
  let v145 : BitVec 32 := Scalar.muli v144 c1_i32_93
  let v146 : BitVec 32 := Scalar.addi c0_i32_92 v145
  let c1_i32_95 : BitVec 32 := 1#32
  let arg21 : BitVec 32 := Scf.iv v146 c1_i32_95 k0_t10
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off17 (v140 : BitVec 32) (k0_t10 : Fin (k0_t10_loop v140).trips) : Fin 2 → Nat :=
  let c0_i32_92 : BitVec 32 := 0#32
  let c32_i32_89 : BitVec 32 := 32#32
  let v141 : BitVec 32 := Scalar.minsi v140 c32_i32_89
  let v142 : BitVec 32 := Scalar.subi v141 c0_i32_92
  let c1_i32_93 : BitVec 32 := 1#32
  let v144 : BitVec 32 := Scalar.divsi v142 c1_i32_93
  let v145 : BitVec 32 := Scalar.muli v144 c1_i32_93
  let v146 : BitVec 32 := Scalar.addi c0_i32_92 v145
  let c1_i32_95 : BitVec 32 := 1#32
  let arg21 : BitVec 32 := Scf.iv v146 c1_i32_95 k0_t10
  let c0_i32_290 : BitVec 32 := 0#32
  ![arg21.toNat, 0]
def k0_off18 (v530 : BitVec 32) : Fin 2 → Nat :=
  let c0_i32_291 : BitVec 32 := 0#32
  ![v530.toNat, 0]

def k0_chk19 (v530 : BitVec 32) : Prop :=
  (∀ a, (k0_off18 v530) a + S1x64.size a ≤ S16384x64.size a)
theorem k0_off18_inb : ∀ (v530 : BitVec 32) (k0_hw19 : k0_chk19 v530), ∀ a, (k0_off18 v530) a + S1x64.size a ≤ S16384x64.size a := fun v530 k0_hw19 => k0_hw19

def k0_off19 (v140 : BitVec 32) (k0_t10 : Fin (k0_t10_loop v140).trips) : Fin 2 → Nat :=
  let c0_i32_92 : BitVec 32 := 0#32
  let c32_i32_89 : BitVec 32 := 32#32
  let v141 : BitVec 32 := Scalar.minsi v140 c32_i32_89
  let v142 : BitVec 32 := Scalar.subi v141 c0_i32_92
  let c1_i32_93 : BitVec 32 := 1#32
  let v144 : BitVec 32 := Scalar.divsi v142 c1_i32_93
  let v145 : BitVec 32 := Scalar.muli v144 c1_i32_93
  let v146 : BitVec 32 := Scalar.addi c0_i32_92 v145
  let c1_i32_95 : BitVec 32 := 1#32
  let arg21 : BitVec 32 := Scf.iv v146 c1_i32_95 k0_t10
  let c0_i32_294 : BitVec 32 := 0#32
  ![arg21.toNat, 0]

def k0_chk17 (v140 : BitVec 32) : Prop :=
  ((k0_t9_loop v140).OK) ∧
  (∀ k0_t9 : Fin (k0_t9_loop v140).trips, ∀ a, (k0_off12 v140 k0_t9) a + S16.size a ≤ S8192.size a) ∧
  (∀ k0_t9 : Fin (k0_t9_loop v140).trips, ∀ a, (k0_off13 v140 k0_t9) a + S1x64.size a ≤ S32x64.size a) ∧
  (∀ k0_t9 : Fin (k0_t9_loop v140).trips, ∀ a, (k0_off15 v140 k0_t9) a + S1x64.size a ≤ S32x64.size a) ∧
  ((k0_t10_loop v140).OK) ∧
  (∀ k0_t10 : Fin (k0_t10_loop v140).trips, ∀ a, (k0_off16 v140 k0_t10) a + S16.size a ≤ S8192.size a) ∧
  (∀ k0_t10 : Fin (k0_t10_loop v140).trips, ∀ a, (k0_off17 v140 k0_t10) a + S1x64.size a ≤ S32x64.size a) ∧
  (∀ k0_t10 : Fin (k0_t10_loop v140).trips, ∀ a, (k0_off19 v140 k0_t10) a + S1x64.size a ≤ S32x64.size a)
theorem k0_t9_ok : ∀ (v140 : BitVec 32) (k0_hw17 : k0_chk17 v140), (k0_t9_loop v140).OK := fun v140 k0_hw17 => k0_hw17.1
theorem k0_off12_inb : ∀ (v140 : BitVec 32) (k0_hw17 : k0_chk17 v140) (k0_t9 : Fin (k0_t9_loop v140).trips), ∀ a, (k0_off12 v140 k0_t9) a + S16.size a ≤ S8192.size a := fun v140 k0_hw17 k0_t9 => k0_hw17.2.1 k0_t9
theorem k0_off13_inb : ∀ (v140 : BitVec 32) (k0_hw17 : k0_chk17 v140) (k0_t9 : Fin (k0_t9_loop v140).trips), ∀ a, (k0_off13 v140 k0_t9) a + S1x64.size a ≤ S32x64.size a := fun v140 k0_hw17 k0_t9 => k0_hw17.2.2.1 k0_t9
theorem k0_off15_inb : ∀ (v140 : BitVec 32) (k0_hw17 : k0_chk17 v140) (k0_t9 : Fin (k0_t9_loop v140).trips), ∀ a, (k0_off15 v140 k0_t9) a + S1x64.size a ≤ S32x64.size a := fun v140 k0_hw17 k0_t9 => k0_hw17.2.2.2.1 k0_t9
theorem k0_t10_ok : ∀ (v140 : BitVec 32) (k0_hw17 : k0_chk17 v140), (k0_t10_loop v140).OK := fun v140 k0_hw17 => k0_hw17.2.2.2.2.1
theorem k0_off16_inb : ∀ (v140 : BitVec 32) (k0_hw17 : k0_chk17 v140) (k0_t10 : Fin (k0_t10_loop v140).trips), ∀ a, (k0_off16 v140 k0_t10) a + S16.size a ≤ S8192.size a := fun v140 k0_hw17 k0_t10 => k0_hw17.2.2.2.2.2.1 k0_t10
theorem k0_off17_inb : ∀ (v140 : BitVec 32) (k0_hw17 : k0_chk17 v140) (k0_t10 : Fin (k0_t10_loop v140).trips), ∀ a, (k0_off17 v140 k0_t10) a + S1x64.size a ≤ S32x64.size a := fun v140 k0_hw17 k0_t10 => k0_hw17.2.2.2.2.2.2.1 k0_t10
theorem k0_off19_inb : ∀ (v140 : BitVec 32) (k0_hw17 : k0_chk17 v140) (k0_t10 : Fin (k0_t10_loop v140).trips), ∀ a, (k0_off19 v140 k0_t10) a + S1x64.size a ≤ S32x64.size a := fun v140 k0_hw17 k0_t10 => k0_hw17.2.2.2.2.2.2.2 k0_t10

def k0_off20 : Fin 1 → Nat :=
  let c1_i32_96 : BitVec 32 := 1#32
  let c0_i32_98 : BitVec 32 := 0#32
  let v148 : BitVec 1 := Scalar.cmpi .sgt c1_i32_96 c0_i32_98
  let v149 : BitVec 32 := Scalar.extui v148
  let c0_i32_99 : BitVec 32 := 0#32
  let v150 : BitVec 1 := Scalar.cmpi .slt c1_i32_96 c0_i32_99
  let v151 : BitVec 32 := Scalar.extui v150
  let v152 : BitVec 32 := Scalar.subi v149 v151
  let c16_i32_97 : BitVec 32 := 16#32
  let c0_i32_100 : BitVec 32 := 0#32
  let v153 : BitVec 1 := Scalar.cmpi .sgt c16_i32_97 c0_i32_100
  let v154 : BitVec 32 := Scalar.extui v153
  let c0_i32_101 : BitVec 32 := 0#32
  let v155 : BitVec 1 := Scalar.cmpi .slt c16_i32_97 c0_i32_101
  let v156 : BitVec 32 := Scalar.extui v155
  let v157 : BitVec 32 := Scalar.subi v154 v156
  let v158 : BitVec 1 := Scalar.cmpi .ne v152 v157
  let v159 : BitVec 32 := Scalar.remsi c1_i32_96 c16_i32_97
  let c0_i32_102 : BitVec 32 := 0#32
  let v160 : BitVec 1 := Scalar.cmpi .ne v159 c0_i32_102
  let v161 : BitVec 1 := Scalar.andi v158 v160
  let v147 : BitVec 32 := Scalar.divsi c1_i32_96 c16_i32_97
  let c1_i32_103 : BitVec 32 := 1#32
  let v162 : BitVec 32 := Scalar.subi v147 c1_i32_103
  let v163 : BitVec 32 := Scalar.select v161 v162 v147
  let c16_i32_104 : BitVec 32 := 16#32
  let v164 : BitVec 32 := Scalar.muli v163 c16_i32_104
  let v165 : Index := Scalar.indexCast v164
  ![v165.toNat]
def k0_off21 (i : grid0.Coords) : Fin 2 → Nat :=
  let c0_i32_272 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c1_i32_119 : BitVec 32 := 1#32
  let c128_i32_268 : BitVec 32 := 128#32
  let v483 : BitVec 32 := Scalar.muli c1_i32_119 c128_i32_268
  let v484 : BitVec 32 := Scalar.addi v10 v483
  ![0, v484.toNat]
def k0_off22 : Fin 1 → Nat :=
  let c1_i32_121 : BitVec 32 := 1#32
  let c0_i32_123 : BitVec 32 := 0#32
  let v198 : BitVec 1 := Scalar.cmpi .sgt c1_i32_121 c0_i32_123
  let v199 : BitVec 32 := Scalar.extui v198
  let c0_i32_124 : BitVec 32 := 0#32
  let v200 : BitVec 1 := Scalar.cmpi .slt c1_i32_121 c0_i32_124
  let v201 : BitVec 32 := Scalar.extui v200
  let v202 : BitVec 32 := Scalar.subi v199 v201
  let c16_i32_122 : BitVec 32 := 16#32
  let c0_i32_125 : BitVec 32 := 0#32
  let v203 : BitVec 1 := Scalar.cmpi .sgt c16_i32_122 c0_i32_125
  let v204 : BitVec 32 := Scalar.extui v203
  let c0_i32_126 : BitVec 32 := 0#32
  let v205 : BitVec 1 := Scalar.cmpi .slt c16_i32_122 c0_i32_126
  let v206 : BitVec 32 := Scalar.extui v205
  let v207 : BitVec 32 := Scalar.subi v204 v206
  let v208 : BitVec 1 := Scalar.cmpi .ne v202 v207
  let v209 : BitVec 32 := Scalar.remsi c1_i32_121 c16_i32_122
  let c0_i32_127 : BitVec 32 := 0#32
  let v210 : BitVec 1 := Scalar.cmpi .ne v209 c0_i32_127
  let v211 : BitVec 1 := Scalar.andi v208 v210
  let v197 : BitVec 32 := Scalar.divsi c1_i32_121 c16_i32_122
  let c1_i32_128 : BitVec 32 := 1#32
  let v212 : BitVec 32 := Scalar.subi v197 c1_i32_128
  let v213 : BitVec 32 := Scalar.select v211 v212 v197
  let c16_i32_129 : BitVec 32 := 16#32
  let v214 : BitVec 32 := Scalar.muli v213 c16_i32_129
  let v215 : Index := Scalar.indexCast v214
  ![v215.toNat]
@[reducible] def k0_t11_loop (v242 : BitVec 32) : Scf.Loop 32 :=
  let c0_i32_145 : BitVec 32 := 0#32
  let c32_i32_142 : BitVec 32 := 32#32
  let v243 : BitVec 32 := Scalar.minsi v242 c32_i32_142
  let v244 : BitVec 32 := Scalar.subi v243 c0_i32_145
  let c1_i32_146 : BitVec 32 := 1#32
  let v246 : BitVec 32 := Scalar.divsi v244 c1_i32_146
  let v247 : BitVec 32 := Scalar.muli v246 c1_i32_146
  let v248 : BitVec 32 := Scalar.addi c0_i32_145 v247
  let c1_i32_147 : BitVec 32 := 1#32
  ⟨c0_i32_145, v248, c1_i32_147⟩

def k0_off23 (v242 : BitVec 32) (k0_t11 : Fin (k0_t11_loop v242).trips) : Fin 1 → Nat :=
  let c1_i32_144 : BitVec 32 := 1#32
  let c32_i32_268 : BitVec 32 := 32#32
  let v483 : BitVec 32 := Scalar.muli c1_i32_144 c32_i32_268
  let c0_i32_145 : BitVec 32 := 0#32
  let c1_i32_147 : BitVec 32 := 1#32
  let arg21 : BitVec 32 := Scf.iv c0_i32_145 c1_i32_147 k0_t11
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off24 (v242 : BitVec 32) (k0_t11 : Fin (k0_t11_loop v242).trips) : Fin 2 → Nat :=
  let c0_i32_145 : BitVec 32 := 0#32
  let c1_i32_147 : BitVec 32 := 1#32
  let arg21 : BitVec 32 := Scf.iv c0_i32_145 c1_i32_147 k0_t11
  let c0_i32_290 : BitVec 32 := 0#32
  ![arg21.toNat, 0]
def k0_off25 (v530 : BitVec 32) : Fin 2 → Nat :=
  let c0_i32_291 : BitVec 32 := 0#32
  ![v530.toNat, 0]

def k0_chk21 (v530 : BitVec 32) : Prop :=
  (∀ a, (k0_off25 v530) a + S1x64.size a ≤ S16384x64.size a)
theorem k0_off25_inb : ∀ (v530 : BitVec 32) (k0_hw21 : k0_chk21 v530), ∀ a, (k0_off25 v530) a + S1x64.size a ≤ S16384x64.size a := fun v530 k0_hw21 => k0_hw21

def k0_off26 (v242 : BitVec 32) (k0_t11 : Fin (k0_t11_loop v242).trips) : Fin 2 → Nat :=
  let c0_i32_145 : BitVec 32 := 0#32
  let c1_i32_147 : BitVec 32 := 1#32
  let arg21 : BitVec 32 := Scf.iv c0_i32_145 c1_i32_147 k0_t11
  let c0_i32_294 : BitVec 32 := 0#32
  ![arg21.toNat, 0]
@[reducible] def k0_t12_loop (v242 : BitVec 32) : Scf.Loop 32 :=
  let c0_i32_145 : BitVec 32 := 0#32
  let c32_i32_142 : BitVec 32 := 32#32
  let v243 : BitVec 32 := Scalar.minsi v242 c32_i32_142
  let v244 : BitVec 32 := Scalar.subi v243 c0_i32_145
  let c1_i32_146 : BitVec 32 := 1#32
  let v246 : BitVec 32 := Scalar.divsi v244 c1_i32_146
  let v247 : BitVec 32 := Scalar.muli v246 c1_i32_146
  let v248 : BitVec 32 := Scalar.addi c0_i32_145 v247
  let v245 : BitVec 32 := Scalar.addi c0_i32_145 v244
  let c1_i32_148 : BitVec 32 := 1#32
  ⟨v248, v245, c1_i32_148⟩
def k0_off27 (v242 : BitVec 32) (k0_t12 : Fin (k0_t12_loop v242).trips) : Fin 1 → Nat :=
  let c1_i32_144 : BitVec 32 := 1#32
  let c32_i32_268 : BitVec 32 := 32#32
  let v483 : BitVec 32 := Scalar.muli c1_i32_144 c32_i32_268
  let c0_i32_145 : BitVec 32 := 0#32
  let c32_i32_142 : BitVec 32 := 32#32
  let v243 : BitVec 32 := Scalar.minsi v242 c32_i32_142
  let v244 : BitVec 32 := Scalar.subi v243 c0_i32_145
  let c1_i32_146 : BitVec 32 := 1#32
  let v246 : BitVec 32 := Scalar.divsi v244 c1_i32_146
  let v247 : BitVec 32 := Scalar.muli v246 c1_i32_146
  let v248 : BitVec 32 := Scalar.addi c0_i32_145 v247
  let c1_i32_148 : BitVec 32 := 1#32
  let arg21 : BitVec 32 := Scf.iv v248 c1_i32_148 k0_t12
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off28 (v242 : BitVec 32) (k0_t12 : Fin (k0_t12_loop v242).trips) : Fin 2 → Nat :=
  let c0_i32_145 : BitVec 32 := 0#32
  let c32_i32_142 : BitVec 32 := 32#32
  let v243 : BitVec 32 := Scalar.minsi v242 c32_i32_142
  let v244 : BitVec 32 := Scalar.subi v243 c0_i32_145
  let c1_i32_146 : BitVec 32 := 1#32
  let v246 : BitVec 32 := Scalar.divsi v244 c1_i32_146
  let v247 : BitVec 32 := Scalar.muli v246 c1_i32_146
  let v248 : BitVec 32 := Scalar.addi c0_i32_145 v247
  let c1_i32_148 : BitVec 32 := 1#32
  let arg21 : BitVec 32 := Scf.iv v248 c1_i32_148 k0_t12
  let c0_i32_290 : BitVec 32 := 0#32
  ![arg21.toNat, 0]
def k0_off29 (v530 : BitVec 32) : Fin 2 → Nat :=
  let c0_i32_291 : BitVec 32 := 0#32
  ![v530.toNat, 0]

def k0_chk22 (v530 : BitVec 32) : Prop :=
  (∀ a, (k0_off29 v530) a + S1x64.size a ≤ S16384x64.size a)
theorem k0_off29_inb : ∀ (v530 : BitVec 32) (k0_hw22 : k0_chk22 v530), ∀ a, (k0_off29 v530) a + S1x64.size a ≤ S16384x64.size a := fun v530 k0_hw22 => k0_hw22

def k0_off30 (v242 : BitVec 32) (k0_t12 : Fin (k0_t12_loop v242).trips) : Fin 2 → Nat :=
  let c0_i32_145 : BitVec 32 := 0#32
  let c32_i32_142 : BitVec 32 := 32#32
  let v243 : BitVec 32 := Scalar.minsi v242 c32_i32_142
  let v244 : BitVec 32 := Scalar.subi v243 c0_i32_145
  let c1_i32_146 : BitVec 32 := 1#32
  let v246 : BitVec 32 := Scalar.divsi v244 c1_i32_146
  let v247 : BitVec 32 := Scalar.muli v246 c1_i32_146
  let v248 : BitVec 32 := Scalar.addi c0_i32_145 v247
  let c1_i32_148 : BitVec 32 := 1#32
  let arg21 : BitVec 32 := Scf.iv v248 c1_i32_148 k0_t12
  let c0_i32_294 : BitVec 32 := 0#32
  ![arg21.toNat, 0]

def k0_chk20 (v242 : BitVec 32) : Prop :=
  ((k0_t11_loop v242).OK) ∧
  (∀ k0_t11 : Fin (k0_t11_loop v242).trips, ∀ a, (k0_off23 v242 k0_t11) a + S16.size a ≤ S8192.size a) ∧
  (∀ k0_t11 : Fin (k0_t11_loop v242).trips, ∀ a, (k0_off24 v242 k0_t11) a + S1x64.size a ≤ S32x64.size a) ∧
  (∀ k0_t11 : Fin (k0_t11_loop v242).trips, ∀ a, (k0_off26 v242 k0_t11) a + S1x64.size a ≤ S32x64.size a) ∧
  ((k0_t12_loop v242).OK) ∧
  (∀ k0_t12 : Fin (k0_t12_loop v242).trips, ∀ a, (k0_off27 v242 k0_t12) a + S16.size a ≤ S8192.size a) ∧
  (∀ k0_t12 : Fin (k0_t12_loop v242).trips, ∀ a, (k0_off28 v242 k0_t12) a + S1x64.size a ≤ S32x64.size a) ∧
  (∀ k0_t12 : Fin (k0_t12_loop v242).trips, ∀ a, (k0_off30 v242 k0_t12) a + S1x64.size a ≤ S32x64.size a)
theorem k0_t11_ok : ∀ (v242 : BitVec 32) (k0_hw20 : k0_chk20 v242), (k0_t11_loop v242).OK := fun v242 k0_hw20 => k0_hw20.1
theorem k0_off23_inb : ∀ (v242 : BitVec 32) (k0_hw20 : k0_chk20 v242) (k0_t11 : Fin (k0_t11_loop v242).trips), ∀ a, (k0_off23 v242 k0_t11) a + S16.size a ≤ S8192.size a := fun v242 k0_hw20 k0_t11 => k0_hw20.2.1 k0_t11
theorem k0_off24_inb : ∀ (v242 : BitVec 32) (k0_hw20 : k0_chk20 v242) (k0_t11 : Fin (k0_t11_loop v242).trips), ∀ a, (k0_off24 v242 k0_t11) a + S1x64.size a ≤ S32x64.size a := fun v242 k0_hw20 k0_t11 => k0_hw20.2.2.1 k0_t11
theorem k0_off26_inb : ∀ (v242 : BitVec 32) (k0_hw20 : k0_chk20 v242) (k0_t11 : Fin (k0_t11_loop v242).trips), ∀ a, (k0_off26 v242 k0_t11) a + S1x64.size a ≤ S32x64.size a := fun v242 k0_hw20 k0_t11 => k0_hw20.2.2.2.1 k0_t11
theorem k0_t12_ok : ∀ (v242 : BitVec 32) (k0_hw20 : k0_chk20 v242), (k0_t12_loop v242).OK := fun v242 k0_hw20 => k0_hw20.2.2.2.2.1
theorem k0_off27_inb : ∀ (v242 : BitVec 32) (k0_hw20 : k0_chk20 v242) (k0_t12 : Fin (k0_t12_loop v242).trips), ∀ a, (k0_off27 v242 k0_t12) a + S16.size a ≤ S8192.size a := fun v242 k0_hw20 k0_t12 => k0_hw20.2.2.2.2.2.1 k0_t12
theorem k0_off28_inb : ∀ (v242 : BitVec 32) (k0_hw20 : k0_chk20 v242) (k0_t12 : Fin (k0_t12_loop v242).trips), ∀ a, (k0_off28 v242 k0_t12) a + S1x64.size a ≤ S32x64.size a := fun v242 k0_hw20 k0_t12 => k0_hw20.2.2.2.2.2.2.1 k0_t12
theorem k0_off30_inb : ∀ (v242 : BitVec 32) (k0_hw20 : k0_chk20 v242) (k0_t12 : Fin (k0_t12_loop v242).trips), ∀ a, (k0_off30 v242 k0_t12) a + S1x64.size a ≤ S32x64.size a := fun v242 k0_hw20 k0_t12 => k0_hw20.2.2.2.2.2.2.2 k0_t12

def k0_off31 : Fin 1 → Nat :=
  let c2_i32_149 : BitVec 32 := 2#32
  let c0_i32_151 : BitVec 32 := 0#32
  let v250 : BitVec 1 := Scalar.cmpi .sgt c2_i32_149 c0_i32_151
  let v251 : BitVec 32 := Scalar.extui v250
  let c0_i32_152 : BitVec 32 := 0#32
  let v252 : BitVec 1 := Scalar.cmpi .slt c2_i32_149 c0_i32_152
  let v253 : BitVec 32 := Scalar.extui v252
  let v254 : BitVec 32 := Scalar.subi v251 v253
  let c16_i32_150 : BitVec 32 := 16#32
  let c0_i32_153 : BitVec 32 := 0#32
  let v255 : BitVec 1 := Scalar.cmpi .sgt c16_i32_150 c0_i32_153
  let v256 : BitVec 32 := Scalar.extui v255
  let c0_i32_154 : BitVec 32 := 0#32
  let v257 : BitVec 1 := Scalar.cmpi .slt c16_i32_150 c0_i32_154
  let v258 : BitVec 32 := Scalar.extui v257
  let v259 : BitVec 32 := Scalar.subi v256 v258
  let v260 : BitVec 1 := Scalar.cmpi .ne v254 v259
  let v261 : BitVec 32 := Scalar.remsi c2_i32_149 c16_i32_150
  let c0_i32_155 : BitVec 32 := 0#32
  let v262 : BitVec 1 := Scalar.cmpi .ne v261 c0_i32_155
  let v263 : BitVec 1 := Scalar.andi v260 v262
  let v249 : BitVec 32 := Scalar.divsi c2_i32_149 c16_i32_150
  let c1_i32_156 : BitVec 32 := 1#32
  let v264 : BitVec 32 := Scalar.subi v249 c1_i32_156
  let v265 : BitVec 32 := Scalar.select v263 v264 v249
  let c16_i32_157 : BitVec 32 := 16#32
  let v266 : BitVec 32 := Scalar.muli v265 c16_i32_157
  let v267 : Index := Scalar.indexCast v266
  ![v267.toNat]
def k0_off32 (i : grid0.Coords) : Fin 2 → Nat :=
  let c0_i32_272 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c2_i32_172 : BitVec 32 := 2#32
  let c128_i32_268 : BitVec 32 := 128#32
  let v483 : BitVec 32 := Scalar.muli c2_i32_172 c128_i32_268
  let v484 : BitVec 32 := Scalar.addi v10 v483
  ![0, v484.toNat]
def k0_off33 : Fin 1 → Nat :=
  let c2_i32_174 : BitVec 32 := 2#32
  let c0_i32_176 : BitVec 32 := 0#32
  let v300 : BitVec 1 := Scalar.cmpi .sgt c2_i32_174 c0_i32_176
  let v301 : BitVec 32 := Scalar.extui v300
  let c0_i32_177 : BitVec 32 := 0#32
  let v302 : BitVec 1 := Scalar.cmpi .slt c2_i32_174 c0_i32_177
  let v303 : BitVec 32 := Scalar.extui v302
  let v304 : BitVec 32 := Scalar.subi v301 v303
  let c16_i32_175 : BitVec 32 := 16#32
  let c0_i32_178 : BitVec 32 := 0#32
  let v305 : BitVec 1 := Scalar.cmpi .sgt c16_i32_175 c0_i32_178
  let v306 : BitVec 32 := Scalar.extui v305
  let c0_i32_179 : BitVec 32 := 0#32
  let v307 : BitVec 1 := Scalar.cmpi .slt c16_i32_175 c0_i32_179
  let v308 : BitVec 32 := Scalar.extui v307
  let v309 : BitVec 32 := Scalar.subi v306 v308
  let v310 : BitVec 1 := Scalar.cmpi .ne v304 v309
  let v311 : BitVec 32 := Scalar.remsi c2_i32_174 c16_i32_175
  let c0_i32_180 : BitVec 32 := 0#32
  let v312 : BitVec 1 := Scalar.cmpi .ne v311 c0_i32_180
  let v313 : BitVec 1 := Scalar.andi v310 v312
  let v299 : BitVec 32 := Scalar.divsi c2_i32_174 c16_i32_175
  let c1_i32_181 : BitVec 32 := 1#32
  let v314 : BitVec 32 := Scalar.subi v299 c1_i32_181
  let v315 : BitVec 32 := Scalar.select v313 v314 v299
  let c16_i32_182 : BitVec 32 := 16#32
  let v316 : BitVec 32 := Scalar.muli v315 c16_i32_182
  let v317 : Index := Scalar.indexCast v316
  ![v317.toNat]
@[reducible] def k0_t13_loop (v344 : BitVec 32) : Scf.Loop 32 :=
  let c0_i32_198 : BitVec 32 := 0#32
  let c32_i32_195 : BitVec 32 := 32#32
  let v345 : BitVec 32 := Scalar.minsi v344 c32_i32_195
  let v346 : BitVec 32 := Scalar.subi v345 c0_i32_198
  let c1_i32_199 : BitVec 32 := 1#32
  let v348 : BitVec 32 := Scalar.divsi v346 c1_i32_199
  let v349 : BitVec 32 := Scalar.muli v348 c1_i32_199
  let v350 : BitVec 32 := Scalar.addi c0_i32_198 v349
  let c1_i32_200 : BitVec 32 := 1#32
  ⟨c0_i32_198, v350, c1_i32_200⟩

def k0_off34 (v344 : BitVec 32) (k0_t13 : Fin (k0_t13_loop v344).trips) : Fin 1 → Nat :=
  let c2_i32_197 : BitVec 32 := 2#32
  let c32_i32_268 : BitVec 32 := 32#32
  let v483 : BitVec 32 := Scalar.muli c2_i32_197 c32_i32_268
  let c0_i32_198 : BitVec 32 := 0#32
  let c1_i32_200 : BitVec 32 := 1#32
  let arg21 : BitVec 32 := Scf.iv c0_i32_198 c1_i32_200 k0_t13
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off35 (v344 : BitVec 32) (k0_t13 : Fin (k0_t13_loop v344).trips) : Fin 2 → Nat :=
  let c0_i32_198 : BitVec 32 := 0#32
  let c1_i32_200 : BitVec 32 := 1#32
  let arg21 : BitVec 32 := Scf.iv c0_i32_198 c1_i32_200 k0_t13
  let c0_i32_290 : BitVec 32 := 0#32
  ![arg21.toNat, 0]
def k0_off36 (v530 : BitVec 32) : Fin 2 → Nat :=
  let c0_i32_291 : BitVec 32 := 0#32
  ![v530.toNat, 0]

def k0_chk24 (v530 : BitVec 32) : Prop :=
  (∀ a, (k0_off36 v530) a + S1x64.size a ≤ S16384x64.size a)
theorem k0_off36_inb : ∀ (v530 : BitVec 32) (k0_hw24 : k0_chk24 v530), ∀ a, (k0_off36 v530) a + S1x64.size a ≤ S16384x64.size a := fun v530 k0_hw24 => k0_hw24

def k0_off37 (v344 : BitVec 32) (k0_t13 : Fin (k0_t13_loop v344).trips) : Fin 2 → Nat :=
  let c0_i32_198 : BitVec 32 := 0#32
  let c1_i32_200 : BitVec 32 := 1#32
  let arg21 : BitVec 32 := Scf.iv c0_i32_198 c1_i32_200 k0_t13
  let c0_i32_294 : BitVec 32 := 0#32
  ![arg21.toNat, 0]
@[reducible] def k0_t14_loop (v344 : BitVec 32) : Scf.Loop 32 :=
  let c0_i32_198 : BitVec 32 := 0#32
  let c32_i32_195 : BitVec 32 := 32#32
  let v345 : BitVec 32 := Scalar.minsi v344 c32_i32_195
  let v346 : BitVec 32 := Scalar.subi v345 c0_i32_198
  let c1_i32_199 : BitVec 32 := 1#32
  let v348 : BitVec 32 := Scalar.divsi v346 c1_i32_199
  let v349 : BitVec 32 := Scalar.muli v348 c1_i32_199
  let v350 : BitVec 32 := Scalar.addi c0_i32_198 v349
  let v347 : BitVec 32 := Scalar.addi c0_i32_198 v346
  let c1_i32_201 : BitVec 32 := 1#32
  ⟨v350, v347, c1_i32_201⟩
def k0_off38 (v344 : BitVec 32) (k0_t14 : Fin (k0_t14_loop v344).trips) : Fin 1 → Nat :=
  let c2_i32_197 : BitVec 32 := 2#32
  let c32_i32_268 : BitVec 32 := 32#32
  let v483 : BitVec 32 := Scalar.muli c2_i32_197 c32_i32_268
  let c0_i32_198 : BitVec 32 := 0#32
  let c32_i32_195 : BitVec 32 := 32#32
  let v345 : BitVec 32 := Scalar.minsi v344 c32_i32_195
  let v346 : BitVec 32 := Scalar.subi v345 c0_i32_198
  let c1_i32_199 : BitVec 32 := 1#32
  let v348 : BitVec 32 := Scalar.divsi v346 c1_i32_199
  let v349 : BitVec 32 := Scalar.muli v348 c1_i32_199
  let v350 : BitVec 32 := Scalar.addi c0_i32_198 v349
  let c1_i32_201 : BitVec 32 := 1#32
  let arg21 : BitVec 32 := Scf.iv v350 c1_i32_201 k0_t14
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off39 (v344 : BitVec 32) (k0_t14 : Fin (k0_t14_loop v344).trips) : Fin 2 → Nat :=
  let c0_i32_198 : BitVec 32 := 0#32
  let c32_i32_195 : BitVec 32 := 32#32
  let v345 : BitVec 32 := Scalar.minsi v344 c32_i32_195
  let v346 : BitVec 32 := Scalar.subi v345 c0_i32_198
  let c1_i32_199 : BitVec 32 := 1#32
  let v348 : BitVec 32 := Scalar.divsi v346 c1_i32_199
  let v349 : BitVec 32 := Scalar.muli v348 c1_i32_199
  let v350 : BitVec 32 := Scalar.addi c0_i32_198 v349
  let c1_i32_201 : BitVec 32 := 1#32
  let arg21 : BitVec 32 := Scf.iv v350 c1_i32_201 k0_t14
  let c0_i32_290 : BitVec 32 := 0#32
  ![arg21.toNat, 0]
def k0_off40 (v530 : BitVec 32) : Fin 2 → Nat :=
  let c0_i32_291 : BitVec 32 := 0#32
  ![v530.toNat, 0]

def k0_chk25 (v530 : BitVec 32) : Prop :=
  (∀ a, (k0_off40 v530) a + S1x64.size a ≤ S16384x64.size a)
theorem k0_off40_inb : ∀ (v530 : BitVec 32) (k0_hw25 : k0_chk25 v530), ∀ a, (k0_off40 v530) a + S1x64.size a ≤ S16384x64.size a := fun v530 k0_hw25 => k0_hw25

def k0_off41 (v344 : BitVec 32) (k0_t14 : Fin (k0_t14_loop v344).trips) : Fin 2 → Nat :=
  let c0_i32_198 : BitVec 32 := 0#32
  let c32_i32_195 : BitVec 32 := 32#32
  let v345 : BitVec 32 := Scalar.minsi v344 c32_i32_195
  let v346 : BitVec 32 := Scalar.subi v345 c0_i32_198
  let c1_i32_199 : BitVec 32 := 1#32
  let v348 : BitVec 32 := Scalar.divsi v346 c1_i32_199
  let v349 : BitVec 32 := Scalar.muli v348 c1_i32_199
  let v350 : BitVec 32 := Scalar.addi c0_i32_198 v349
  let c1_i32_201 : BitVec 32 := 1#32
  let arg21 : BitVec 32 := Scf.iv v350 c1_i32_201 k0_t14
  let c0_i32_294 : BitVec 32 := 0#32
  ![arg21.toNat, 0]

def k0_chk23 (v344 : BitVec 32) : Prop :=
  ((k0_t13_loop v344).OK) ∧
  (∀ k0_t13 : Fin (k0_t13_loop v344).trips, ∀ a, (k0_off34 v344 k0_t13) a + S16.size a ≤ S8192.size a) ∧
  (∀ k0_t13 : Fin (k0_t13_loop v344).trips, ∀ a, (k0_off35 v344 k0_t13) a + S1x64.size a ≤ S32x64.size a) ∧
  (∀ k0_t13 : Fin (k0_t13_loop v344).trips, ∀ a, (k0_off37 v344 k0_t13) a + S1x64.size a ≤ S32x64.size a) ∧
  ((k0_t14_loop v344).OK) ∧
  (∀ k0_t14 : Fin (k0_t14_loop v344).trips, ∀ a, (k0_off38 v344 k0_t14) a + S16.size a ≤ S8192.size a) ∧
  (∀ k0_t14 : Fin (k0_t14_loop v344).trips, ∀ a, (k0_off39 v344 k0_t14) a + S1x64.size a ≤ S32x64.size a) ∧
  (∀ k0_t14 : Fin (k0_t14_loop v344).trips, ∀ a, (k0_off41 v344 k0_t14) a + S1x64.size a ≤ S32x64.size a)
theorem k0_t13_ok : ∀ (v344 : BitVec 32) (k0_hw23 : k0_chk23 v344), (k0_t13_loop v344).OK := fun v344 k0_hw23 => k0_hw23.1
theorem k0_off34_inb : ∀ (v344 : BitVec 32) (k0_hw23 : k0_chk23 v344) (k0_t13 : Fin (k0_t13_loop v344).trips), ∀ a, (k0_off34 v344 k0_t13) a + S16.size a ≤ S8192.size a := fun v344 k0_hw23 k0_t13 => k0_hw23.2.1 k0_t13
theorem k0_off35_inb : ∀ (v344 : BitVec 32) (k0_hw23 : k0_chk23 v344) (k0_t13 : Fin (k0_t13_loop v344).trips), ∀ a, (k0_off35 v344 k0_t13) a + S1x64.size a ≤ S32x64.size a := fun v344 k0_hw23 k0_t13 => k0_hw23.2.2.1 k0_t13
theorem k0_off37_inb : ∀ (v344 : BitVec 32) (k0_hw23 : k0_chk23 v344) (k0_t13 : Fin (k0_t13_loop v344).trips), ∀ a, (k0_off37 v344 k0_t13) a + S1x64.size a ≤ S32x64.size a := fun v344 k0_hw23 k0_t13 => k0_hw23.2.2.2.1 k0_t13
theorem k0_t14_ok : ∀ (v344 : BitVec 32) (k0_hw23 : k0_chk23 v344), (k0_t14_loop v344).OK := fun v344 k0_hw23 => k0_hw23.2.2.2.2.1
theorem k0_off38_inb : ∀ (v344 : BitVec 32) (k0_hw23 : k0_chk23 v344) (k0_t14 : Fin (k0_t14_loop v344).trips), ∀ a, (k0_off38 v344 k0_t14) a + S16.size a ≤ S8192.size a := fun v344 k0_hw23 k0_t14 => k0_hw23.2.2.2.2.2.1 k0_t14
theorem k0_off39_inb : ∀ (v344 : BitVec 32) (k0_hw23 : k0_chk23 v344) (k0_t14 : Fin (k0_t14_loop v344).trips), ∀ a, (k0_off39 v344 k0_t14) a + S1x64.size a ≤ S32x64.size a := fun v344 k0_hw23 k0_t14 => k0_hw23.2.2.2.2.2.2.1 k0_t14
theorem k0_off41_inb : ∀ (v344 : BitVec 32) (k0_hw23 : k0_chk23 v344) (k0_t14 : Fin (k0_t14_loop v344).trips), ∀ a, (k0_off41 v344 k0_t14) a + S1x64.size a ≤ S32x64.size a := fun v344 k0_hw23 k0_t14 => k0_hw23.2.2.2.2.2.2.2 k0_t14

def k0_off42 : Fin 1 → Nat :=
  let c3_i32 : BitVec 32 := 3#32
  let c0_i32_203 : BitVec 32 := 0#32
  let v352 : BitVec 1 := Scalar.cmpi .sgt c3_i32 c0_i32_203
  let v353 : BitVec 32 := Scalar.extui v352
  let c0_i32_204 : BitVec 32 := 0#32
  let v354 : BitVec 1 := Scalar.cmpi .slt c3_i32 c0_i32_204
  let v355 : BitVec 32 := Scalar.extui v354
  let v356 : BitVec 32 := Scalar.subi v353 v355
  let c16_i32_202 : BitVec 32 := 16#32
  let c0_i32_205 : BitVec 32 := 0#32
  let v357 : BitVec 1 := Scalar.cmpi .sgt c16_i32_202 c0_i32_205
  let v358 : BitVec 32 := Scalar.extui v357
  let c0_i32_206 : BitVec 32 := 0#32
  let v359 : BitVec 1 := Scalar.cmpi .slt c16_i32_202 c0_i32_206
  let v360 : BitVec 32 := Scalar.extui v359
  let v361 : BitVec 32 := Scalar.subi v358 v360
  let v362 : BitVec 1 := Scalar.cmpi .ne v356 v361
  let v363 : BitVec 32 := Scalar.remsi c3_i32 c16_i32_202
  let c0_i32_207 : BitVec 32 := 0#32
  let v364 : BitVec 1 := Scalar.cmpi .ne v363 c0_i32_207
  let v365 : BitVec 1 := Scalar.andi v362 v364
  let v351 : BitVec 32 := Scalar.divsi c3_i32 c16_i32_202
  let c1_i32_208 : BitVec 32 := 1#32
  let v366 : BitVec 32 := Scalar.subi v351 c1_i32_208
  let v367 : BitVec 32 := Scalar.select v365 v366 v351
  let c16_i32_209 : BitVec 32 := 16#32
  let v368 : BitVec 32 := Scalar.muli v367 c16_i32_209
  let v369 : Index := Scalar.indexCast v368
  ![v369.toNat]
def k0_off43 (i : grid0.Coords) : Fin 2 → Nat :=
  let c0_i32_272 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c3_i32_224 : BitVec 32 := 3#32
  let c128_i32_268 : BitVec 32 := 128#32
  let v483 : BitVec 32 := Scalar.muli c3_i32_224 c128_i32_268
  let v484 : BitVec 32 := Scalar.addi v10 v483
  ![0, v484.toNat]
def k0_off44 : Fin 1 → Nat :=
  let c3_i32_226 : BitVec 32 := 3#32
  let c0_i32_228 : BitVec 32 := 0#32
  let v402 : BitVec 1 := Scalar.cmpi .sgt c3_i32_226 c0_i32_228
  let v403 : BitVec 32 := Scalar.extui v402
  let c0_i32_229 : BitVec 32 := 0#32
  let v404 : BitVec 1 := Scalar.cmpi .slt c3_i32_226 c0_i32_229
  let v405 : BitVec 32 := Scalar.extui v404
  let v406 : BitVec 32 := Scalar.subi v403 v405
  let c16_i32_227 : BitVec 32 := 16#32
  let c0_i32_230 : BitVec 32 := 0#32
  let v407 : BitVec 1 := Scalar.cmpi .sgt c16_i32_227 c0_i32_230
  let v408 : BitVec 32 := Scalar.extui v407
  let c0_i32_231 : BitVec 32 := 0#32
  let v409 : BitVec 1 := Scalar.cmpi .slt c16_i32_227 c0_i32_231
  let v410 : BitVec 32 := Scalar.extui v409
  let v411 : BitVec 32 := Scalar.subi v408 v410
  let v412 : BitVec 1 := Scalar.cmpi .ne v406 v411
  let v413 : BitVec 32 := Scalar.remsi c3_i32_226 c16_i32_227
  let c0_i32_232 : BitVec 32 := 0#32
  let v414 : BitVec 1 := Scalar.cmpi .ne v413 c0_i32_232
  let v415 : BitVec 1 := Scalar.andi v412 v414
  let v401 : BitVec 32 := Scalar.divsi c3_i32_226 c16_i32_227
  let c1_i32_233 : BitVec 32 := 1#32
  let v416 : BitVec 32 := Scalar.subi v401 c1_i32_233
  let v417 : BitVec 32 := Scalar.select v415 v416 v401
  let c16_i32_234 : BitVec 32 := 16#32
  let v418 : BitVec 32 := Scalar.muli v417 c16_i32_234
  let v419 : Index := Scalar.indexCast v418
  ![v419.toNat]
@[reducible] def k0_t15_loop (v446 : BitVec 32) : Scf.Loop 32 :=
  let c0_i32_250 : BitVec 32 := 0#32
  let c32_i32_247 : BitVec 32 := 32#32
  let v447 : BitVec 32 := Scalar.minsi v446 c32_i32_247
  let v448 : BitVec 32 := Scalar.subi v447 c0_i32_250
  let c1_i32_251 : BitVec 32 := 1#32
  let v450 : BitVec 32 := Scalar.divsi v448 c1_i32_251
  let v451 : BitVec 32 := Scalar.muli v450 c1_i32_251
  let v452 : BitVec 32 := Scalar.addi c0_i32_250 v451
  let c1_i32_252 : BitVec 32 := 1#32
  ⟨c0_i32_250, v452, c1_i32_252⟩

def k0_off45 (v446 : BitVec 32) (k0_t15 : Fin (k0_t15_loop v446).trips) : Fin 1 → Nat :=
  let c3_i32_249 : BitVec 32 := 3#32
  let c32_i32_268 : BitVec 32 := 32#32
  let v483 : BitVec 32 := Scalar.muli c3_i32_249 c32_i32_268
  let c0_i32_250 : BitVec 32 := 0#32
  let c1_i32_252 : BitVec 32 := 1#32
  let arg21 : BitVec 32 := Scf.iv c0_i32_250 c1_i32_252 k0_t15
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off46 (v446 : BitVec 32) (k0_t15 : Fin (k0_t15_loop v446).trips) : Fin 2 → Nat :=
  let c0_i32_250 : BitVec 32 := 0#32
  let c1_i32_252 : BitVec 32 := 1#32
  let arg21 : BitVec 32 := Scf.iv c0_i32_250 c1_i32_252 k0_t15
  let c0_i32_290 : BitVec 32 := 0#32
  ![arg21.toNat, 0]
def k0_off47 (v530 : BitVec 32) : Fin 2 → Nat :=
  let c0_i32_291 : BitVec 32 := 0#32
  ![v530.toNat, 0]

def k0_chk27 (v530 : BitVec 32) : Prop :=
  (∀ a, (k0_off47 v530) a + S1x64.size a ≤ S16384x64.size a)
theorem k0_off47_inb : ∀ (v530 : BitVec 32) (k0_hw27 : k0_chk27 v530), ∀ a, (k0_off47 v530) a + S1x64.size a ≤ S16384x64.size a := fun v530 k0_hw27 => k0_hw27

def k0_off48 (v446 : BitVec 32) (k0_t15 : Fin (k0_t15_loop v446).trips) : Fin 2 → Nat :=
  let c0_i32_250 : BitVec 32 := 0#32
  let c1_i32_252 : BitVec 32 := 1#32
  let arg21 : BitVec 32 := Scf.iv c0_i32_250 c1_i32_252 k0_t15
  let c0_i32_294 : BitVec 32 := 0#32
  ![arg21.toNat, 0]
@[reducible] def k0_t16_loop (v446 : BitVec 32) : Scf.Loop 32 :=
  let c0_i32_250 : BitVec 32 := 0#32
  let c32_i32_247 : BitVec 32 := 32#32
  let v447 : BitVec 32 := Scalar.minsi v446 c32_i32_247
  let v448 : BitVec 32 := Scalar.subi v447 c0_i32_250
  let c1_i32_251 : BitVec 32 := 1#32
  let v450 : BitVec 32 := Scalar.divsi v448 c1_i32_251
  let v451 : BitVec 32 := Scalar.muli v450 c1_i32_251
  let v452 : BitVec 32 := Scalar.addi c0_i32_250 v451
  let v449 : BitVec 32 := Scalar.addi c0_i32_250 v448
  let c1_i32_253 : BitVec 32 := 1#32
  ⟨v452, v449, c1_i32_253⟩
def k0_off49 (v446 : BitVec 32) (k0_t16 : Fin (k0_t16_loop v446).trips) : Fin 1 → Nat :=
  let c3_i32_249 : BitVec 32 := 3#32
  let c32_i32_268 : BitVec 32 := 32#32
  let v483 : BitVec 32 := Scalar.muli c3_i32_249 c32_i32_268
  let c0_i32_250 : BitVec 32 := 0#32
  let c32_i32_247 : BitVec 32 := 32#32
  let v447 : BitVec 32 := Scalar.minsi v446 c32_i32_247
  let v448 : BitVec 32 := Scalar.subi v447 c0_i32_250
  let c1_i32_251 : BitVec 32 := 1#32
  let v450 : BitVec 32 := Scalar.divsi v448 c1_i32_251
  let v451 : BitVec 32 := Scalar.muli v450 c1_i32_251
  let v452 : BitVec 32 := Scalar.addi c0_i32_250 v451
  let c1_i32_253 : BitVec 32 := 1#32
  let arg21 : BitVec 32 := Scf.iv v452 c1_i32_253 k0_t16
  let c0_i32_270 : BitVec 32 := 0#32
  let v485 : BitVec 1 := Scalar.cmpi .sgt arg21 c0_i32_270
  let v486 : BitVec 32 := Scalar.extui v485
  let c0_i32_271 : BitVec 32 := 0#32
  let v487 : BitVec 1 := Scalar.cmpi .slt arg21 c0_i32_271
  let v488 : BitVec 32 := Scalar.extui v487
  let v489 : BitVec 32 := Scalar.subi v486 v488
  let c16_i32_269 : BitVec 32 := 16#32
  let c0_i32_272 : BitVec 32 := 0#32
  let v490 : BitVec 1 := Scalar.cmpi .sgt c16_i32_269 c0_i32_272
  let v491 : BitVec 32 := Scalar.extui v490
  let c0_i32_273 : BitVec 32 := 0#32
  let v492 : BitVec 1 := Scalar.cmpi .slt c16_i32_269 c0_i32_273
  let v493 : BitVec 32 := Scalar.extui v492
  let v494 : BitVec 32 := Scalar.subi v491 v493
  let v495 : BitVec 1 := Scalar.cmpi .ne v489 v494
  let v496 : BitVec 32 := Scalar.remsi arg21 c16_i32_269
  let c0_i32_274 : BitVec 32 := 0#32
  let v497 : BitVec 1 := Scalar.cmpi .ne v496 c0_i32_274
  let v498 : BitVec 1 := Scalar.andi v495 v497
  let v484 : BitVec 32 := Scalar.divsi arg21 c16_i32_269
  let c1_i32_275 : BitVec 32 := 1#32
  let v499 : BitVec 32 := Scalar.subi v484 c1_i32_275
  let v500 : BitVec 32 := Scalar.select v498 v499 v484
  let c16_i32_276 : BitVec 32 := 16#32
  let v501 : BitVec 32 := Scalar.muli v500 c16_i32_276
  let v502 : BitVec 32 := Scalar.addi v483 v501
  let v522 : Index := Scalar.indexCast v502
  ![v522.toNat]
def k0_off50 (v446 : BitVec 32) (k0_t16 : Fin (k0_t16_loop v446).trips) : Fin 2 → Nat :=
  let c0_i32_250 : BitVec 32 := 0#32
  let c32_i32_247 : BitVec 32 := 32#32
  let v447 : BitVec 32 := Scalar.minsi v446 c32_i32_247
  let v448 : BitVec 32 := Scalar.subi v447 c0_i32_250
  let c1_i32_251 : BitVec 32 := 1#32
  let v450 : BitVec 32 := Scalar.divsi v448 c1_i32_251
  let v451 : BitVec 32 := Scalar.muli v450 c1_i32_251
  let v452 : BitVec 32 := Scalar.addi c0_i32_250 v451
  let c1_i32_253 : BitVec 32 := 1#32
  let arg21 : BitVec 32 := Scf.iv v452 c1_i32_253 k0_t16
  let c0_i32_290 : BitVec 32 := 0#32
  ![arg21.toNat, 0]
def k0_off51 (v530 : BitVec 32) : Fin 2 → Nat :=
  let c0_i32_291 : BitVec 32 := 0#32
  ![v530.toNat, 0]

def k0_chk28 (v530 : BitVec 32) : Prop :=
  (∀ a, (k0_off51 v530) a + S1x64.size a ≤ S16384x64.size a)
theorem k0_off51_inb : ∀ (v530 : BitVec 32) (k0_hw28 : k0_chk28 v530), ∀ a, (k0_off51 v530) a + S1x64.size a ≤ S16384x64.size a := fun v530 k0_hw28 => k0_hw28

def k0_off52 (v446 : BitVec 32) (k0_t16 : Fin (k0_t16_loop v446).trips) : Fin 2 → Nat :=
  let c0_i32_250 : BitVec 32 := 0#32
  let c32_i32_247 : BitVec 32 := 32#32
  let v447 : BitVec 32 := Scalar.minsi v446 c32_i32_247
  let v448 : BitVec 32 := Scalar.subi v447 c0_i32_250
  let c1_i32_251 : BitVec 32 := 1#32
  let v450 : BitVec 32 := Scalar.divsi v448 c1_i32_251
  let v451 : BitVec 32 := Scalar.muli v450 c1_i32_251
  let v452 : BitVec 32 := Scalar.addi c0_i32_250 v451
  let c1_i32_253 : BitVec 32 := 1#32
  let arg21 : BitVec 32 := Scf.iv v452 c1_i32_253 k0_t16
  let c0_i32_294 : BitVec 32 := 0#32
  ![arg21.toNat, 0]

def k0_chk26 (v446 : BitVec 32) : Prop :=
  ((k0_t15_loop v446).OK) ∧
  (∀ k0_t15 : Fin (k0_t15_loop v446).trips, ∀ a, (k0_off45 v446 k0_t15) a + S16.size a ≤ S8192.size a) ∧
  (∀ k0_t15 : Fin (k0_t15_loop v446).trips, ∀ a, (k0_off46 v446 k0_t15) a + S1x64.size a ≤ S32x64.size a) ∧
  (∀ k0_t15 : Fin (k0_t15_loop v446).trips, ∀ a, (k0_off48 v446 k0_t15) a + S1x64.size a ≤ S32x64.size a) ∧
  ((k0_t16_loop v446).OK) ∧
  (∀ k0_t16 : Fin (k0_t16_loop v446).trips, ∀ a, (k0_off49 v446 k0_t16) a + S16.size a ≤ S8192.size a) ∧
  (∀ k0_t16 : Fin (k0_t16_loop v446).trips, ∀ a, (k0_off50 v446 k0_t16) a + S1x64.size a ≤ S32x64.size a) ∧
  (∀ k0_t16 : Fin (k0_t16_loop v446).trips, ∀ a, (k0_off52 v446 k0_t16) a + S1x64.size a ≤ S32x64.size a)
theorem k0_t15_ok : ∀ (v446 : BitVec 32) (k0_hw26 : k0_chk26 v446), (k0_t15_loop v446).OK := fun v446 k0_hw26 => k0_hw26.1
theorem k0_off45_inb : ∀ (v446 : BitVec 32) (k0_hw26 : k0_chk26 v446) (k0_t15 : Fin (k0_t15_loop v446).trips), ∀ a, (k0_off45 v446 k0_t15) a + S16.size a ≤ S8192.size a := fun v446 k0_hw26 k0_t15 => k0_hw26.2.1 k0_t15
theorem k0_off46_inb : ∀ (v446 : BitVec 32) (k0_hw26 : k0_chk26 v446) (k0_t15 : Fin (k0_t15_loop v446).trips), ∀ a, (k0_off46 v446 k0_t15) a + S1x64.size a ≤ S32x64.size a := fun v446 k0_hw26 k0_t15 => k0_hw26.2.2.1 k0_t15
theorem k0_off48_inb : ∀ (v446 : BitVec 32) (k0_hw26 : k0_chk26 v446) (k0_t15 : Fin (k0_t15_loop v446).trips), ∀ a, (k0_off48 v446 k0_t15) a + S1x64.size a ≤ S32x64.size a := fun v446 k0_hw26 k0_t15 => k0_hw26.2.2.2.1 k0_t15
theorem k0_t16_ok : ∀ (v446 : BitVec 32) (k0_hw26 : k0_chk26 v446), (k0_t16_loop v446).OK := fun v446 k0_hw26 => k0_hw26.2.2.2.2.1
theorem k0_off49_inb : ∀ (v446 : BitVec 32) (k0_hw26 : k0_chk26 v446) (k0_t16 : Fin (k0_t16_loop v446).trips), ∀ a, (k0_off49 v446 k0_t16) a + S16.size a ≤ S8192.size a := fun v446 k0_hw26 k0_t16 => k0_hw26.2.2.2.2.2.1 k0_t16
theorem k0_off50_inb : ∀ (v446 : BitVec 32) (k0_hw26 : k0_chk26 v446) (k0_t16 : Fin (k0_t16_loop v446).trips), ∀ a, (k0_off50 v446 k0_t16) a + S1x64.size a ≤ S32x64.size a := fun v446 k0_hw26 k0_t16 => k0_hw26.2.2.2.2.2.2.1 k0_t16
theorem k0_off52_inb : ∀ (v446 : BitVec 32) (k0_hw26 : k0_chk26 v446) (k0_t16 : Fin (k0_t16_loop v446).trips), ∀ a, (k0_off52 v446 k0_t16) a + S1x64.size a ≤ S32x64.size a := fun v446 k0_hw26 k0_t16 => k0_hw26.2.2.2.2.2.2.2 k0_t16

@[reducible] def k0_t17_loop (i : grid0.Coords) : Scf.Loop 32 :=
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_265 : BitVec 32 := 1#32
  ⟨c0_i32_263, v476, c1_i32_265⟩
def k0_off53 (i : grid0.Coords) (k0_t17 : Fin (k0_t17_loop i).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c0_i32_271 : BitVec 32 := 0#32
  let v486 : BitVec 1 := Scalar.cmpi .sgt v484 c0_i32_271
  let v487 : BitVec 32 := Scalar.extui v486
  let c0_i32_272 : BitVec 32 := 0#32
  let v488 : BitVec 1 := Scalar.cmpi .slt v484 c0_i32_272
  let v489 : BitVec 32 := Scalar.extui v488
  let v490 : BitVec 32 := Scalar.subi v487 v489
  let c16_i32_270 : BitVec 32 := 16#32
  let c0_i32_273 : BitVec 32 := 0#32
  let v491 : BitVec 1 := Scalar.cmpi .sgt c16_i32_270 c0_i32_273
  let v492 : BitVec 32 := Scalar.extui v491
  let c0_i32_274 : BitVec 32 := 0#32
  let v493 : BitVec 1 := Scalar.cmpi .slt c16_i32_270 c0_i32_274
  let v494 : BitVec 32 := Scalar.extui v493
  let v495 : BitVec 32 := Scalar.subi v492 v494
  let v496 : BitVec 1 := Scalar.cmpi .ne v490 v495
  let v497 : BitVec 32 := Scalar.remsi v484 c16_i32_270
  let c0_i32_275 : BitVec 32 := 0#32
  let v498 : BitVec 1 := Scalar.cmpi .ne v497 c0_i32_275
  let v499 : BitVec 1 := Scalar.andi v496 v498
  let v485 : BitVec 32 := Scalar.divsi v484 c16_i32_270
  let c1_i32_276 : BitVec 32 := 1#32
  let v500 : BitVec 32 := Scalar.subi v485 c1_i32_276
  let v501 : BitVec 32 := Scalar.select v499 v500 v485
  let c16_i32_277 : BitVec 32 := 16#32
  let v502 : BitVec 32 := Scalar.muli v501 c16_i32_277
  let v503 : Index := Scalar.indexCast v502
  ![v503.toNat]
@[reducible] def k0_t18_loop (v530 : BitVec 32) : Scf.Loop 32 :=
  let c0_i32_292 : BitVec 32 := 0#32
  let c32_i32_288 : BitVec 32 := 32#32
  let v531 : BitVec 32 := Scalar.minsi v530 c32_i32_288
  let v537 : BitVec 32 := Scalar.subi v531 c0_i32_292
  let c1_i32_293 : BitVec 32 := 1#32
  let v539 : BitVec 32 := Scalar.divsi v537 c1_i32_293
  let v540 : BitVec 32 := Scalar.muli v539 c1_i32_293
  let v541 : BitVec 32 := Scalar.addi c0_i32_292 v540
  let c1_i32_294 : BitVec 32 := 1#32
  ⟨c0_i32_292, v541, c1_i32_294⟩

@[reducible] def k0_t19_loop (v530 : BitVec 32) : Scf.Loop 32 :=
  let c0_i32_292 : BitVec 32 := 0#32
  let c32_i32_288 : BitVec 32 := 32#32
  let v531 : BitVec 32 := Scalar.minsi v530 c32_i32_288
  let v537 : BitVec 32 := Scalar.subi v531 c0_i32_292
  let c1_i32_293 : BitVec 32 := 1#32
  let v539 : BitVec 32 := Scalar.divsi v537 c1_i32_293
  let v540 : BitVec 32 := Scalar.muli v539 c1_i32_293
  let v541 : BitVec 32 := Scalar.addi c0_i32_292 v540
  let v538 : BitVec 32 := Scalar.addi c0_i32_292 v537
  let c1_i32_295 : BitVec 32 := 1#32
  ⟨v541, v538, c1_i32_295⟩
@[reducible] def k0_t20_loop (v530 : BitVec 32) : Scf.Loop 32 :=
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_299 : BitVec 32 := 1#32
  ⟨c0_i32_297, v548, c1_i32_299⟩
def k0_off54 (i : grid0.Coords) (k0_t17 : Fin (k0_t17_loop i).trips) (v530 : BitVec 32) (k0_t20 : Fin (k0_t20_loop v530).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c32_i32_500 : BitVec 32 := 32#32
  let v987 : BitVec 32 := Scalar.muli v484 c32_i32_500
  let c0_i32_297 : BitVec 32 := 0#32
  let c1_i32_299 : BitVec 32 := 1#32
  let arg26 : BitVec 32 := Scf.iv c0_i32_297 c1_i32_299 k0_t20
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk30 (v1037 : IVec S16 32) (v1039 : IVec S16 32) : Prop :=
  (∀ a x, ((![v1039, v1037] : Fin 2 → IVec S16 32) a x).toNat < S64x128.size a)
theorem k0_idx33_inb : ∀ (v1037 : IVec S16 32) (v1039 : IVec S16 32) (k0_hw30 : k0_chk30 v1037 v1039), ∀ a x, ((![v1039, v1037] : Fin 2 → IVec S16 32) a x).toNat < S64x128.size a := fun v1037 v1039 k0_hw30 => k0_hw30
def k0_off55 (v530 : BitVec 32) (k0_t20 : Fin (k0_t20_loop v530).trips) : Fin 3 → Nat :=
  let c0_i32_523 : BitVec 32 := 0#32
  let v1043 : Index := Scalar.indexCast c0_i32_523
  let c0_i32_297 : BitVec 32 := 0#32
  let c1_i32_299 : BitVec 32 := 1#32
  let arg26 : BitVec 32 := Scf.iv c0_i32_297 c1_i32_299 k0_t20
  let v1044 : Index := Scalar.indexCast arg26
  let c0_524 : Index := 0#32
  ![0, v1044.toNat, 0]

def k0_chk31 (v1037 : IVec S16 32) (v1050 : IVec S16 32) : Prop :=
  (∀ a x, ((![v1050, v1037] : Fin 2 → IVec S16 32) a x).toNat < S64x128.size a)
theorem k0_idx34_inb : ∀ (v1037 : IVec S16 32) (v1050 : IVec S16 32) (k0_hw31 : k0_chk31 v1037 v1050), ∀ a x, ((![v1050, v1037] : Fin 2 → IVec S16 32) a x).toNat < S64x128.size a := fun v1037 v1050 k0_hw31 => k0_hw31
def k0_off56 (v530 : BitVec 32) (k0_t20 : Fin (k0_t20_loop v530).trips) : Fin 3 → Nat :=
  let c0_i32_529 : BitVec 32 := 0#32
  let v1054 : Index := Scalar.indexCast c0_i32_529
  let c0_i32_297 : BitVec 32 := 0#32
  let c1_i32_299 : BitVec 32 := 1#32
  let arg26 : BitVec 32 := Scf.iv c0_i32_297 c1_i32_299 k0_t20
  let v1055 : Index := Scalar.indexCast arg26
  let c16_530 : Index := 16#32
  ![0, v1055.toNat, 16]

def k0_chk32 (v1037 : IVec S16 32) (v1061 : IVec S16 32) : Prop :=
  (∀ a x, ((![v1061, v1037] : Fin 2 → IVec S16 32) a x).toNat < S64x128.size a)
theorem k0_idx35_inb : ∀ (v1037 : IVec S16 32) (v1061 : IVec S16 32) (k0_hw32 : k0_chk32 v1037 v1061), ∀ a x, ((![v1061, v1037] : Fin 2 → IVec S16 32) a x).toNat < S64x128.size a := fun v1037 v1061 k0_hw32 => k0_hw32
def k0_off57 (v530 : BitVec 32) (k0_t20 : Fin (k0_t20_loop v530).trips) : Fin 3 → Nat :=
  let c0_i32_535 : BitVec 32 := 0#32
  let v1065 : Index := Scalar.indexCast c0_i32_535
  let c0_i32_297 : BitVec 32 := 0#32
  let c1_i32_299 : BitVec 32 := 1#32
  let arg26 : BitVec 32 := Scf.iv c0_i32_297 c1_i32_299 k0_t20
  let v1066 : Index := Scalar.indexCast arg26
  let c32_536 : Index := 32#32
  ![0, v1066.toNat, 32]

def k0_chk33 (v1037 : IVec S16 32) (v1072 : IVec S16 32) : Prop :=
  (∀ a x, ((![v1072, v1037] : Fin 2 → IVec S16 32) a x).toNat < S64x128.size a)
theorem k0_idx36_inb : ∀ (v1037 : IVec S16 32) (v1072 : IVec S16 32) (k0_hw33 : k0_chk33 v1037 v1072), ∀ a x, ((![v1072, v1037] : Fin 2 → IVec S16 32) a x).toNat < S64x128.size a := fun v1037 v1072 k0_hw33 => k0_hw33
def k0_off58 (v530 : BitVec 32) (k0_t20 : Fin (k0_t20_loop v530).trips) : Fin 3 → Nat :=
  let c0_i32_540 : BitVec 32 := 0#32
  let v1076 : Index := Scalar.indexCast c0_i32_540
  let c0_i32_297 : BitVec 32 := 0#32
  let c1_i32_299 : BitVec 32 := 1#32
  let arg26 : BitVec 32 := Scf.iv c0_i32_297 c1_i32_299 k0_t20
  let v1077 : Index := Scalar.indexCast arg26
  let c48_541 : Index := 48#32
  ![0, v1077.toNat, 48]
@[reducible] def k0_t21_loop (v530 : BitVec 32) : Scf.Loop 32 :=
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let v545 : BitVec 32 := Scalar.addi c0_i32_297 v544
  let c1_i32_300 : BitVec 32 := 1#32
  ⟨v548, v545, c1_i32_300⟩
def k0_off59 (i : grid0.Coords) (k0_t17 : Fin (k0_t17_loop i).trips) (v530 : BitVec 32) (k0_t21 : Fin (k0_t21_loop v530).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c32_i32_500 : BitVec 32 := 32#32
  let v987 : BitVec 32 := Scalar.muli v484 c32_i32_500
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t21
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk34 (v1037 : IVec S16 32) (v1039 : IVec S16 32) : Prop :=
  (∀ a x, ((![v1039, v1037] : Fin 2 → IVec S16 32) a x).toNat < S64x128.size a)
theorem k0_idx37_inb : ∀ (v1037 : IVec S16 32) (v1039 : IVec S16 32) (k0_hw34 : k0_chk34 v1037 v1039), ∀ a x, ((![v1039, v1037] : Fin 2 → IVec S16 32) a x).toNat < S64x128.size a := fun v1037 v1039 k0_hw34 => k0_hw34
def k0_off60 (v530 : BitVec 32) (k0_t21 : Fin (k0_t21_loop v530).trips) : Fin 3 → Nat :=
  let c0_i32_523 : BitVec 32 := 0#32
  let v1043 : Index := Scalar.indexCast c0_i32_523
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t21
  let v1044 : Index := Scalar.indexCast arg26
  let c0_524 : Index := 0#32
  ![0, v1044.toNat, 0]

def k0_chk35 (v1037 : IVec S16 32) (v1050 : IVec S16 32) : Prop :=
  (∀ a x, ((![v1050, v1037] : Fin 2 → IVec S16 32) a x).toNat < S64x128.size a)
theorem k0_idx38_inb : ∀ (v1037 : IVec S16 32) (v1050 : IVec S16 32) (k0_hw35 : k0_chk35 v1037 v1050), ∀ a x, ((![v1050, v1037] : Fin 2 → IVec S16 32) a x).toNat < S64x128.size a := fun v1037 v1050 k0_hw35 => k0_hw35
def k0_off61 (v530 : BitVec 32) (k0_t21 : Fin (k0_t21_loop v530).trips) : Fin 3 → Nat :=
  let c0_i32_529 : BitVec 32 := 0#32
  let v1054 : Index := Scalar.indexCast c0_i32_529
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t21
  let v1055 : Index := Scalar.indexCast arg26
  let c16_530 : Index := 16#32
  ![0, v1055.toNat, 16]

def k0_chk36 (v1037 : IVec S16 32) (v1061 : IVec S16 32) : Prop :=
  (∀ a x, ((![v1061, v1037] : Fin 2 → IVec S16 32) a x).toNat < S64x128.size a)
theorem k0_idx39_inb : ∀ (v1037 : IVec S16 32) (v1061 : IVec S16 32) (k0_hw36 : k0_chk36 v1037 v1061), ∀ a x, ((![v1061, v1037] : Fin 2 → IVec S16 32) a x).toNat < S64x128.size a := fun v1037 v1061 k0_hw36 => k0_hw36
def k0_off62 (v530 : BitVec 32) (k0_t21 : Fin (k0_t21_loop v530).trips) : Fin 3 → Nat :=
  let c0_i32_535 : BitVec 32 := 0#32
  let v1065 : Index := Scalar.indexCast c0_i32_535
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t21
  let v1066 : Index := Scalar.indexCast arg26
  let c32_536 : Index := 32#32
  ![0, v1066.toNat, 32]

def k0_chk37 (v1037 : IVec S16 32) (v1072 : IVec S16 32) : Prop :=
  (∀ a x, ((![v1072, v1037] : Fin 2 → IVec S16 32) a x).toNat < S64x128.size a)
theorem k0_idx40_inb : ∀ (v1037 : IVec S16 32) (v1072 : IVec S16 32) (k0_hw37 : k0_chk37 v1037 v1072), ∀ a x, ((![v1072, v1037] : Fin 2 → IVec S16 32) a x).toNat < S64x128.size a := fun v1037 v1072 k0_hw37 => k0_hw37
def k0_off63 (v530 : BitVec 32) (k0_t21 : Fin (k0_t21_loop v530).trips) : Fin 3 → Nat :=
  let c0_i32_540 : BitVec 32 := 0#32
  let v1076 : Index := Scalar.indexCast c0_i32_540
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t21
  let v1077 : Index := Scalar.indexCast arg26
  let c48_541 : Index := 48#32
  ![0, v1077.toNat, 48]

def k0_chk29 (i : grid0.Coords) (k0_t17 : Fin (k0_t17_loop i).trips) (v530 : BitVec 32) : Prop :=
  ((k0_t18_loop v530).OK) ∧
  ((k0_t19_loop v530).OK) ∧
  ((k0_t20_loop v530).OK) ∧
  (∀ k0_t20 : Fin (k0_t20_loop v530).trips, ∀ a, (k0_off54 i k0_t17 v530 k0_t20) a + S16.size a ≤ S8192.size a) ∧
  (∀ k0_t20 : Fin (k0_t20_loop v530).trips, ∀ a, (k0_off55 v530 k0_t20) a + S1x1x16.size a ≤ S4x32x64.size a) ∧
  (∀ k0_t20 : Fin (k0_t20_loop v530).trips, ∀ a, (k0_off56 v530 k0_t20) a + S1x1x16.size a ≤ S4x32x64.size a) ∧
  (∀ k0_t20 : Fin (k0_t20_loop v530).trips, ∀ a, (k0_off57 v530 k0_t20) a + S1x1x16.size a ≤ S4x32x64.size a) ∧
  (∀ k0_t20 : Fin (k0_t20_loop v530).trips, ∀ a, (k0_off58 v530 k0_t20) a + S1x1x16.size a ≤ S4x32x64.size a) ∧
  ((k0_t21_loop v530).OK) ∧
  (∀ k0_t21 : Fin (k0_t21_loop v530).trips, ∀ a, (k0_off59 i k0_t17 v530 k0_t21) a + S16.size a ≤ S8192.size a) ∧
  (∀ k0_t21 : Fin (k0_t21_loop v530).trips, ∀ a, (k0_off60 v530 k0_t21) a + S1x1x16.size a ≤ S4x32x64.size a) ∧
  (∀ k0_t21 : Fin (k0_t21_loop v530).trips, ∀ a, (k0_off61 v530 k0_t21) a + S1x1x16.size a ≤ S4x32x64.size a) ∧
  (∀ k0_t21 : Fin (k0_t21_loop v530).trips, ∀ a, (k0_off62 v530 k0_t21) a + S1x1x16.size a ≤ S4x32x64.size a) ∧
  (∀ k0_t21 : Fin (k0_t21_loop v530).trips, ∀ a, (k0_off63 v530 k0_t21) a + S1x1x16.size a ≤ S4x32x64.size a)
theorem k0_t18_ok : ∀ (i : grid0.Coords) (k0_t17 : Fin (k0_t17_loop i).trips) (v530 : BitVec 32) (k0_hw29 : k0_chk29 i k0_t17 v530), (k0_t18_loop v530).OK := fun i k0_t17 v530 k0_hw29 => k0_hw29.1
theorem k0_t19_ok : ∀ (i : grid0.Coords) (k0_t17 : Fin (k0_t17_loop i).trips) (v530 : BitVec 32) (k0_hw29 : k0_chk29 i k0_t17 v530), (k0_t19_loop v530).OK := fun i k0_t17 v530 k0_hw29 => k0_hw29.2.1
theorem k0_t20_ok : ∀ (i : grid0.Coords) (k0_t17 : Fin (k0_t17_loop i).trips) (v530 : BitVec 32) (k0_hw29 : k0_chk29 i k0_t17 v530), (k0_t20_loop v530).OK := fun i k0_t17 v530 k0_hw29 => k0_hw29.2.2.1
theorem k0_off54_inb : ∀ (i : grid0.Coords) (k0_t17 : Fin (k0_t17_loop i).trips) (v530 : BitVec 32) (k0_hw29 : k0_chk29 i k0_t17 v530) (k0_t20 : Fin (k0_t20_loop v530).trips), ∀ a, (k0_off54 i k0_t17 v530 k0_t20) a + S16.size a ≤ S8192.size a := fun i k0_t17 v530 k0_hw29 k0_t20 => k0_hw29.2.2.2.1 k0_t20
theorem k0_off55_inb : ∀ (i : grid0.Coords) (k0_t17 : Fin (k0_t17_loop i).trips) (v530 : BitVec 32) (k0_hw29 : k0_chk29 i k0_t17 v530) (k0_t20 : Fin (k0_t20_loop v530).trips), ∀ a, (k0_off55 v530 k0_t20) a + S1x1x16.size a ≤ S4x32x64.size a := fun i k0_t17 v530 k0_hw29 k0_t20 => k0_hw29.2.2.2.2.1 k0_t20
theorem k0_off56_inb : ∀ (i : grid0.Coords) (k0_t17 : Fin (k0_t17_loop i).trips) (v530 : BitVec 32) (k0_hw29 : k0_chk29 i k0_t17 v530) (k0_t20 : Fin (k0_t20_loop v530).trips), ∀ a, (k0_off56 v530 k0_t20) a + S1x1x16.size a ≤ S4x32x64.size a := fun i k0_t17 v530 k0_hw29 k0_t20 => k0_hw29.2.2.2.2.2.1 k0_t20
theorem k0_off57_inb : ∀ (i : grid0.Coords) (k0_t17 : Fin (k0_t17_loop i).trips) (v530 : BitVec 32) (k0_hw29 : k0_chk29 i k0_t17 v530) (k0_t20 : Fin (k0_t20_loop v530).trips), ∀ a, (k0_off57 v530 k0_t20) a + S1x1x16.size a ≤ S4x32x64.size a := fun i k0_t17 v530 k0_hw29 k0_t20 => k0_hw29.2.2.2.2.2.2.1 k0_t20
theorem k0_off58_inb : ∀ (i : grid0.Coords) (k0_t17 : Fin (k0_t17_loop i).trips) (v530 : BitVec 32) (k0_hw29 : k0_chk29 i k0_t17 v530) (k0_t20 : Fin (k0_t20_loop v530).trips), ∀ a, (k0_off58 v530 k0_t20) a + S1x1x16.size a ≤ S4x32x64.size a := fun i k0_t17 v530 k0_hw29 k0_t20 => k0_hw29.2.2.2.2.2.2.2.1 k0_t20
theorem k0_t21_ok : ∀ (i : grid0.Coords) (k0_t17 : Fin (k0_t17_loop i).trips) (v530 : BitVec 32) (k0_hw29 : k0_chk29 i k0_t17 v530), (k0_t21_loop v530).OK := fun i k0_t17 v530 k0_hw29 => k0_hw29.2.2.2.2.2.2.2.2.1
theorem k0_off59_inb : ∀ (i : grid0.Coords) (k0_t17 : Fin (k0_t17_loop i).trips) (v530 : BitVec 32) (k0_hw29 : k0_chk29 i k0_t17 v530) (k0_t21 : Fin (k0_t21_loop v530).trips), ∀ a, (k0_off59 i k0_t17 v530 k0_t21) a + S16.size a ≤ S8192.size a := fun i k0_t17 v530 k0_hw29 k0_t21 => k0_hw29.2.2.2.2.2.2.2.2.2.1 k0_t21
theorem k0_off60_inb : ∀ (i : grid0.Coords) (k0_t17 : Fin (k0_t17_loop i).trips) (v530 : BitVec 32) (k0_hw29 : k0_chk29 i k0_t17 v530) (k0_t21 : Fin (k0_t21_loop v530).trips), ∀ a, (k0_off60 v530 k0_t21) a + S1x1x16.size a ≤ S4x32x64.size a := fun i k0_t17 v530 k0_hw29 k0_t21 => k0_hw29.2.2.2.2.2.2.2.2.2.2.1 k0_t21
theorem k0_off61_inb : ∀ (i : grid0.Coords) (k0_t17 : Fin (k0_t17_loop i).trips) (v530 : BitVec 32) (k0_hw29 : k0_chk29 i k0_t17 v530) (k0_t21 : Fin (k0_t21_loop v530).trips), ∀ a, (k0_off61 v530 k0_t21) a + S1x1x16.size a ≤ S4x32x64.size a := fun i k0_t17 v530 k0_hw29 k0_t21 => k0_hw29.2.2.2.2.2.2.2.2.2.2.2.1 k0_t21
theorem k0_off62_inb : ∀ (i : grid0.Coords) (k0_t17 : Fin (k0_t17_loop i).trips) (v530 : BitVec 32) (k0_hw29 : k0_chk29 i k0_t17 v530) (k0_t21 : Fin (k0_t21_loop v530).trips), ∀ a, (k0_off62 v530 k0_t21) a + S1x1x16.size a ≤ S4x32x64.size a := fun i k0_t17 v530 k0_hw29 k0_t21 => k0_hw29.2.2.2.2.2.2.2.2.2.2.2.2.1 k0_t21
theorem k0_off63_inb : ∀ (i : grid0.Coords) (k0_t17 : Fin (k0_t17_loop i).trips) (v530 : BitVec 32) (k0_hw29 : k0_chk29 i k0_t17 v530) (k0_t21 : Fin (k0_t21_loop v530).trips), ∀ a, (k0_off63 v530 k0_t21) a + S1x1x16.size a ≤ S4x32x64.size a := fun i k0_t17 v530 k0_hw29 k0_t21 => k0_hw29.2.2.2.2.2.2.2.2.2.2.2.2.2 k0_t21

def k0_off64 (i : grid0.Coords) (k0_t17 : Fin (k0_t17_loop i).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_302 : BitVec 32 := 4#32
  let v553 : BitVec 32 := Scalar.addi v484 c4_i32_302
  let c0_i32_304 : BitVec 32 := 0#32
  let v555 : BitVec 1 := Scalar.cmpi .sgt v553 c0_i32_304
  let v556 : BitVec 32 := Scalar.extui v555
  let c0_i32_305 : BitVec 32 := 0#32
  let v557 : BitVec 1 := Scalar.cmpi .slt v553 c0_i32_305
  let v558 : BitVec 32 := Scalar.extui v557
  let v559 : BitVec 32 := Scalar.subi v556 v558
  let c16_i32_303 : BitVec 32 := 16#32
  let c0_i32_306 : BitVec 32 := 0#32
  let v560 : BitVec 1 := Scalar.cmpi .sgt c16_i32_303 c0_i32_306
  let v561 : BitVec 32 := Scalar.extui v560
  let c0_i32_307 : BitVec 32 := 0#32
  let v562 : BitVec 1 := Scalar.cmpi .slt c16_i32_303 c0_i32_307
  let v563 : BitVec 32 := Scalar.extui v562
  let v564 : BitVec 32 := Scalar.subi v561 v563
  let v565 : BitVec 1 := Scalar.cmpi .ne v559 v564
  let v566 : BitVec 32 := Scalar.remsi v553 c16_i32_303
  let c0_i32_308 : BitVec 32 := 0#32
  let v567 : BitVec 1 := Scalar.cmpi .ne v566 c0_i32_308
  let v568 : BitVec 1 := Scalar.andi v565 v567
  let v554 : BitVec 32 := Scalar.divsi v553 c16_i32_303
  let c1_i32_309 : BitVec 32 := 1#32
  let v569 : BitVec 32 := Scalar.subi v554 c1_i32_309
  let v570 : BitVec 32 := Scalar.select v568 v569 v554
  let c16_i32_310 : BitVec 32 := 16#32
  let v571 : BitVec 32 := Scalar.muli v570 c16_i32_310
  let v572 : Index := Scalar.indexCast v571
  ![v572.toNat]
def k0_off65 (i : grid0.Coords) (k0_t17 : Fin (k0_t17_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c128_i32_501 : BitVec 32 := 128#32
  let v988 : BitVec 32 := Scalar.muli v987 c128_i32_501
  let v989 : BitVec 32 := Scalar.addi v10 v988
  ![0, v989.toNat]
def k0_cond6 (i : grid0.Coords) (k0_t17 : Fin (k0_t17_loop i).trips) (v599 : BitVec 32) : BitVec 1 :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_301 : BitVec 32 := 4#32
  let v551 : BitVec 32 := Scalar.addi v484 c4_i32_301
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v552 : BitVec 1 := Scalar.cmpi .slt v551 v9
  let c32_i32_321 : BitVec 32 := 32#32
  let v600 : BitVec 32 := Scalar.minsi v599 c32_i32_321
  let c0_i32_322 : BitVec 32 := 0#32
  let v601 : BitVec 1 := Scalar.cmpi .sgt v600 c0_i32_322
  let v602 : BitVec 1 := Scalar.andi v552 v601
  let v603 : BitVec 32 := Scalar.extui v602
  let c0_i32_323 : BitVec 32 := 0#32
  let v604 : BitVec 1 := Scalar.cmpi .ne v603 c0_i32_323
  v604

def k0_chk38 (i : grid0.Coords) (k0_t17 : Fin (k0_t17_loop i).trips) (v599 : BitVec 32) : Prop :=
  (∀ (k0_h6 : k0_cond6 i k0_t17 v599 = 1#1), ∀ a, (k0_off65 i k0_t17) a + S64x128.size a ≤ S64x1000064.size a)
theorem k0_off65_inb : ∀ (i : grid0.Coords) (k0_t17 : Fin (k0_t17_loop i).trips) (v599 : BitVec 32) (k0_hw38 : k0_chk38 i k0_t17 v599), ∀ (k0_h6 : k0_cond6 i k0_t17 v599 = 1#1), ∀ a, (k0_off65 i k0_t17) a + S64x128.size a ≤ S64x1000064.size a := fun i k0_t17 v599 k0_hw38 k0_h6 => k0_hw38 k0_h6

def k0_cond7 (i : grid0.Coords) (k0_t17 : Fin (k0_t17_loop i).trips) : BitVec 1 :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_324 : BitVec 32 := 4#32
  let v605 : BitVec 32 := Scalar.addi v484 c4_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v606 : BitVec 1 := Scalar.cmpi .slt v605 v9
  let v607 : BitVec 32 := Scalar.extui v606
  let c0_i32_325 : BitVec 32 := 0#32
  let v608 : BitVec 1 := Scalar.cmpi .ne v607 c0_i32_325
  v608

def k0_off66 (i : grid0.Coords) (k0_t17 : Fin (k0_t17_loop i).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t22_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off67 (i : grid0.Coords) (k0_t17 : Fin (k0_t17_loop i).trips) (v1033 : BitVec 32) (k0_t22 : Fin (k0_t22_loop v1033).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t22
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off68 (v1033 : BitVec 32) (k0_t22 : Fin (k0_t22_loop v1033).trips) : Fin 2 → Nat :=
  let c0_i32_521 : BitVec 32 := 0#32
  let c1_i32_523 : BitVec 32 := 1#32
  let arg26 : BitVec 32 := Scf.iv c0_i32_521 c1_i32_523 k0_t22
  let c0_i32_547 : BitVec 32 := 0#32
  ![arg26.toNat, 0]
def k0_off69 (v1087 : BitVec 32) : Fin 2 → Nat :=
  let c0_i32_548 : BitVec 32 := 0#32
  ![v1087.toNat, 0]

def k0_chk40 (i : grid0.Coords) (k0_t17 : Fin (k0_t17_loop i).trips) (v1087 : BitVec 32) : Prop :=
  (∀ (k0_h7 : k0_cond7 i k0_t17 = 1#1), ∀ a, (k0_off69 v1087) a + S1x64.size a ≤ S16384x64.size a)
theorem k0_off69_inb : ∀ (i : grid0.Coords) (k0_t17 : Fin (k0_t17_loop i).trips) (v1087 : BitVec 32) (k0_hw40 : k0_chk40 i k0_t17 v1087), ∀ (k0_h7 : k0_cond7 i k0_t17 = 1#1), ∀ a, (k0_off69 v1087) a + S1x64.size a ≤ S16384x64.size a := fun i k0_t17 v1087 k0_hw40 k0_h7 => k0_hw40 k0_h7

def k0_off70 (v1033 : BitVec 32) (k0_t22 : Fin (k0_t22_loop v1033).trips) : Fin 2 → Nat :=
  let c0_i32_521 : BitVec 32 := 0#32
  let c1_i32_523 : BitVec 32 := 1#32
  let arg26 : BitVec 32 := Scf.iv c0_i32_521 c1_i32_523 k0_t22
  let c0_i32_551 : BitVec 32 := 0#32
  ![arg26.toNat, 0]
@[reducible] def k0_t23_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off71 (i : grid0.Coords) (k0_t17 : Fin (k0_t17_loop i).trips) (v1033 : BitVec 32) (k0_t23 : Fin (k0_t23_loop v1033).trips) : Fin 1 → Nat :=
  let c4_i32_268 : BitVec 32 := 4#32
  let c0_i32_263 : BitVec 32 := 0#32
  let c1_i32_265 : BitVec 32 := 1#32
  let arg21 : BitVec 32 := Scf.iv c0_i32_263 c1_i32_265 k0_t17
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t23
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off72 (v1033 : BitVec 32) (k0_t23 : Fin (k0_t23_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t23
  let c0_i32_547 : BitVec 32 := 0#32
  ![arg26.toNat, 0]
def k0_off73 (v1087 : BitVec 32) : Fin 2 → Nat :=
  let c0_i32_548 : BitVec 32 := 0#32
  ![v1087.toNat, 0]

def k0_chk41 (i : grid0.Coords) (k0_t17 : Fin (k0_t17_loop i).trips) (v1087 : BitVec 32) : Prop :=
  (∀ (k0_h7 : k0_cond7 i k0_t17 = 1#1), ∀ a, (k0_off73 v1087) a + S1x64.size a ≤ S16384x64.size a)
theorem k0_off73_inb : ∀ (i : grid0.Coords) (k0_t17 : Fin (k0_t17_loop i).trips) (v1087 : BitVec 32) (k0_hw41 : k0_chk41 i k0_t17 v1087), ∀ (k0_h7 : k0_cond7 i k0_t17 = 1#1), ∀ a, (k0_off73 v1087) a + S1x64.size a ≤ S16384x64.size a := fun i k0_t17 v1087 k0_hw41 k0_h7 => k0_hw41 k0_h7

def k0_off74 (v1033 : BitVec 32) (k0_t23 : Fin (k0_t23_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t23
  let c0_i32_551 : BitVec 32 := 0#32
  ![arg26.toNat, 0]

def k0_chk39 (i : grid0.Coords) (k0_t17 : Fin (k0_t17_loop i).trips) (v1033 : BitVec 32) : Prop :=
  (∀ (k0_h7 : k0_cond7 i k0_t17 = 1#1), (k0_t22_loop v1033).OK) ∧
  (∀ k0_t22 : Fin (k0_t22_loop v1033).trips, ∀ (k0_h7 : k0_cond7 i k0_t17 = 1#1), ∀ a, (k0_off67 i k0_t17 v1033 k0_t22) a + S16.size a ≤ S8192.size a) ∧
  (∀ k0_t22 : Fin (k0_t22_loop v1033).trips, ∀ (k0_h7 : k0_cond7 i k0_t17 = 1#1), ∀ a, (k0_off68 v1033 k0_t22) a + S1x64.size a ≤ S32x64.size a) ∧
  (∀ k0_t22 : Fin (k0_t22_loop v1033).trips, ∀ (k0_h7 : k0_cond7 i k0_t17 = 1#1), ∀ a, (k0_off70 v1033 k0_t22) a + S1x64.size a ≤ S32x64.size a) ∧
  (∀ (k0_h7 : k0_cond7 i k0_t17 = 1#1), (k0_t23_loop v1033).OK) ∧
  (∀ k0_t23 : Fin (k0_t23_loop v1033).trips, ∀ (k0_h7 : k0_cond7 i k0_t17 = 1#1), ∀ a, (k0_off71 i k0_t17 v1033 k0_t23) a + S16.size a ≤ S8192.size a) ∧
  (∀ k0_t23 : Fin (k0_t23_loop v1033).trips, ∀ (k0_h7 : k0_cond7 i k0_t17 = 1#1), ∀ a, (k0_off72 v1033 k0_t23) a + S1x64.size a ≤ S32x64.size a) ∧
  (∀ k0_t23 : Fin (k0_t23_loop v1033).trips, ∀ (k0_h7 : k0_cond7 i k0_t17 = 1#1), ∀ a, (k0_off74 v1033 k0_t23) a + S1x64.size a ≤ S32x64.size a)
theorem k0_t22_ok : ∀ (i : grid0.Coords) (k0_t17 : Fin (k0_t17_loop i).trips) (v1033 : BitVec 32) (k0_hw39 : k0_chk39 i k0_t17 v1033), ∀ (k0_h7 : k0_cond7 i k0_t17 = 1#1), (k0_t22_loop v1033).OK := fun i k0_t17 v1033 k0_hw39 k0_h7 => k0_hw39.1 k0_h7
theorem k0_off67_inb : ∀ (i : grid0.Coords) (k0_t17 : Fin (k0_t17_loop i).trips) (v1033 : BitVec 32) (k0_hw39 : k0_chk39 i k0_t17 v1033) (k0_t22 : Fin (k0_t22_loop v1033).trips), ∀ (k0_h7 : k0_cond7 i k0_t17 = 1#1), ∀ a, (k0_off67 i k0_t17 v1033 k0_t22) a + S16.size a ≤ S8192.size a := fun i k0_t17 v1033 k0_hw39 k0_t22 k0_h7 => k0_hw39.2.1 k0_t22 k0_h7
theorem k0_off68_inb : ∀ (i : grid0.Coords) (k0_t17 : Fin (k0_t17_loop i).trips) (v1033 : BitVec 32) (k0_hw39 : k0_chk39 i k0_t17 v1033) (k0_t22 : Fin (k0_t22_loop v1033).trips), ∀ (k0_h7 : k0_cond7 i k0_t17 = 1#1), ∀ a, (k0_off68 v1033 k0_t22) a + S1x64.size a ≤ S32x64.size a := fun i k0_t17 v1033 k0_hw39 k0_t22 k0_h7 => k0_hw39.2.2.1 k0_t22 k0_h7
theorem k0_off70_inb : ∀ (i : grid0.Coords) (k0_t17 : Fin (k0_t17_loop i).trips) (v1033 : BitVec 32) (k0_hw39 : k0_chk39 i k0_t17 v1033) (k0_t22 : Fin (k0_t22_loop v1033).trips), ∀ (k0_h7 : k0_cond7 i k0_t17 = 1#1), ∀ a, (k0_off70 v1033 k0_t22) a + S1x64.size a ≤ S32x64.size a := fun i k0_t17 v1033 k0_hw39 k0_t22 k0_h7 => k0_hw39.2.2.2.1 k0_t22 k0_h7
theorem k0_t23_ok : ∀ (i : grid0.Coords) (k0_t17 : Fin (k0_t17_loop i).trips) (v1033 : BitVec 32) (k0_hw39 : k0_chk39 i k0_t17 v1033), ∀ (k0_h7 : k0_cond7 i k0_t17 = 1#1), (k0_t23_loop v1033).OK := fun i k0_t17 v1033 k0_hw39 k0_h7 => k0_hw39.2.2.2.2.1 k0_h7
theorem k0_off71_inb : ∀ (i : grid0.Coords) (k0_t17 : Fin (k0_t17_loop i).trips) (v1033 : BitVec 32) (k0_hw39 : k0_chk39 i k0_t17 v1033) (k0_t23 : Fin (k0_t23_loop v1033).trips), ∀ (k0_h7 : k0_cond7 i k0_t17 = 1#1), ∀ a, (k0_off71 i k0_t17 v1033 k0_t23) a + S16.size a ≤ S8192.size a := fun i k0_t17 v1033 k0_hw39 k0_t23 k0_h7 => k0_hw39.2.2.2.2.2.1 k0_t23 k0_h7
theorem k0_off72_inb : ∀ (i : grid0.Coords) (k0_t17 : Fin (k0_t17_loop i).trips) (v1033 : BitVec 32) (k0_hw39 : k0_chk39 i k0_t17 v1033) (k0_t23 : Fin (k0_t23_loop v1033).trips), ∀ (k0_h7 : k0_cond7 i k0_t17 = 1#1), ∀ a, (k0_off72 v1033 k0_t23) a + S1x64.size a ≤ S32x64.size a := fun i k0_t17 v1033 k0_hw39 k0_t23 k0_h7 => k0_hw39.2.2.2.2.2.2.1 k0_t23 k0_h7
theorem k0_off74_inb : ∀ (i : grid0.Coords) (k0_t17 : Fin (k0_t17_loop i).trips) (v1033 : BitVec 32) (k0_hw39 : k0_chk39 i k0_t17 v1033) (k0_t23 : Fin (k0_t23_loop v1033).trips), ∀ (k0_h7 : k0_cond7 i k0_t17 = 1#1), ∀ a, (k0_off74 v1033 k0_t23) a + S1x64.size a ≤ S32x64.size a := fun i k0_t17 v1033 k0_hw39 k0_t23 k0_h7 => k0_hw39.2.2.2.2.2.2.2 k0_t23 k0_h7

def k0_off75 (i : grid0.Coords) (k0_t17 : Fin (k0_t17_loop i).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c0_i32_329 : BitVec 32 := 0#32
  let v612 : BitVec 1 := Scalar.cmpi .sgt v610 c0_i32_329
  let v613 : BitVec 32 := Scalar.extui v612
  let c0_i32_330 : BitVec 32 := 0#32
  let v614 : BitVec 1 := Scalar.cmpi .slt v610 c0_i32_330
  let v615 : BitVec 32 := Scalar.extui v614
  let v616 : BitVec 32 := Scalar.subi v613 v615
  let c16_i32_328 : BitVec 32 := 16#32
  let c0_i32_331 : BitVec 32 := 0#32
  let v617 : BitVec 1 := Scalar.cmpi .sgt c16_i32_328 c0_i32_331
  let v618 : BitVec 32 := Scalar.extui v617
  let c0_i32_332 : BitVec 32 := 0#32
  let v619 : BitVec 1 := Scalar.cmpi .slt c16_i32_328 c0_i32_332
  let v620 : BitVec 32 := Scalar.extui v619
  let v621 : BitVec 32 := Scalar.subi v618 v620
  let v622 : BitVec 1 := Scalar.cmpi .ne v616 v621
  let v623 : BitVec 32 := Scalar.remsi v610 c16_i32_328
  let c0_i32_333 : BitVec 32 := 0#32
  let v624 : BitVec 1 := Scalar.cmpi .ne v623 c0_i32_333
  let v625 : BitVec 1 := Scalar.andi v622 v624
  let v611 : BitVec 32 := Scalar.divsi v610 c16_i32_328
  let c1_i32_334 : BitVec 32 := 1#32
  let v626 : BitVec 32 := Scalar.subi v611 c1_i32_334
  let v627 : BitVec 32 := Scalar.select v625 v626 v611
  let c16_i32_335 : BitVec 32 := 16#32
  let v628 : BitVec 32 := Scalar.muli v627 c16_i32_335
  let v629 : Index := Scalar.indexCast v628
  ![v629.toNat]
@[reducible] def k0_t24_loop (v656 : BitVec 32) : Scf.Loop 32 :=
  let c0_i32_350 : BitVec 32 := 0#32
  let c32_i32_346 : BitVec 32 := 32#32
  let v657 : BitVec 32 := Scalar.minsi v656 c32_i32_346
  let v663 : BitVec 32 := Scalar.subi v657 c0_i32_350
  let c1_i32_351 : BitVec 32 := 1#32
  let v665 : BitVec 32 := Scalar.divsi v663 c1_i32_351
  let v666 : BitVec 32 := Scalar.muli v665 c1_i32_351
  let v667 : BitVec 32 := Scalar.addi c0_i32_350 v666
  let c1_i32_352 : BitVec 32 := 1#32
  ⟨c0_i32_350, v667, c1_i32_352⟩

@[reducible] def k0_t25_loop (v656 : BitVec 32) : Scf.Loop 32 :=
  let c0_i32_350 : BitVec 32 := 0#32
  let c32_i32_346 : BitVec 32 := 32#32
  let v657 : BitVec 32 := Scalar.minsi v656 c32_i32_346
  let v663 : BitVec 32 := Scalar.subi v657 c0_i32_350
  let c1_i32_351 : BitVec 32 := 1#32
  let v665 : BitVec 32 := Scalar.divsi v663 c1_i32_351
  let v666 : BitVec 32 := Scalar.muli v665 c1_i32_351
  let v667 : BitVec 32 := Scalar.addi c0_i32_350 v666
  let v664 : BitVec 32 := Scalar.addi c0_i32_350 v663
  let c1_i32_353 : BitVec 32 := 1#32
  ⟨v667, v664, c1_i32_353⟩
@[reducible] def k0_t26_loop (v656 : BitVec 32) : Scf.Loop 32 :=
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_357 : BitVec 32 := 1#32
  ⟨c0_i32_355, v674, c1_i32_357⟩
def k0_off76 (i : grid0.Coords) (k0_t17 : Fin (k0_t17_loop i).trips) (v656 : BitVec 32) (k0_t26 : Fin (k0_t26_loop v656).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c32_i32_500 : BitVec 32 := 32#32
  let v987 : BitVec 32 := Scalar.muli v610 c32_i32_500
  let c0_i32_355 : BitVec 32 := 0#32
  let c1_i32_357 : BitVec 32 := 1#32
  let arg26 : BitVec 32 := Scf.iv c0_i32_355 c1_i32_357 k0_t26
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk43 (v1037 : IVec S16 32) (v1039 : IVec S16 32) : Prop :=
  (∀ a x, ((![v1039, v1037] : Fin 2 → IVec S16 32) a x).toNat < S64x128.size a)
theorem k0_idx41_inb : ∀ (v1037 : IVec S16 32) (v1039 : IVec S16 32) (k0_hw43 : k0_chk43 v1037 v1039), ∀ a x, ((![v1039, v1037] : Fin 2 → IVec S16 32) a x).toNat < S64x128.size a := fun v1037 v1039 k0_hw43 => k0_hw43
def k0_off77 (v656 : BitVec 32) (k0_t26 : Fin (k0_t26_loop v656).trips) : Fin 3 → Nat :=
  let c1_i32_523 : BitVec 32 := 1#32
  let v1043 : Index := Scalar.indexCast c1_i32_523
  let c0_i32_355 : BitVec 32 := 0#32
  let c1_i32_357 : BitVec 32 := 1#32
  let arg26 : BitVec 32 := Scf.iv c0_i32_355 c1_i32_357 k0_t26
  let v1044 : Index := Scalar.indexCast arg26
  let c0_524 : Index := 0#32
  ![1, v1044.toNat, 0]

def k0_chk44 (v1037 : IVec S16 32) (v1050 : IVec S16 32) : Prop :=
  (∀ a x, ((![v1050, v1037] : Fin 2 → IVec S16 32) a x).toNat < S64x128.size a)
theorem k0_idx42_inb : ∀ (v1037 : IVec S16 32) (v1050 : IVec S16 32) (k0_hw44 : k0_chk44 v1037 v1050), ∀ a x, ((![v1050, v1037] : Fin 2 → IVec S16 32) a x).toNat < S64x128.size a := fun v1037 v1050 k0_hw44 => k0_hw44
def k0_off78 (v656 : BitVec 32) (k0_t26 : Fin (k0_t26_loop v656).trips) : Fin 3 → Nat :=
  let c1_i32_529 : BitVec 32 := 1#32
  let v1054 : Index := Scalar.indexCast c1_i32_529
  let c0_i32_355 : BitVec 32 := 0#32
  let c1_i32_357 : BitVec 32 := 1#32
  let arg26 : BitVec 32 := Scf.iv c0_i32_355 c1_i32_357 k0_t26
  let v1055 : Index := Scalar.indexCast arg26
  let c16_530 : Index := 16#32
  ![1, v1055.toNat, 16]

def k0_chk45 (v1037 : IVec S16 32) (v1061 : IVec S16 32) : Prop :=
  (∀ a x, ((![v1061, v1037] : Fin 2 → IVec S16 32) a x).toNat < S64x128.size a)
theorem k0_idx43_inb : ∀ (v1037 : IVec S16 32) (v1061 : IVec S16 32) (k0_hw45 : k0_chk45 v1037 v1061), ∀ a x, ((![v1061, v1037] : Fin 2 → IVec S16 32) a x).toNat < S64x128.size a := fun v1037 v1061 k0_hw45 => k0_hw45
def k0_off79 (v656 : BitVec 32) (k0_t26 : Fin (k0_t26_loop v656).trips) : Fin 3 → Nat :=
  let c1_i32_535 : BitVec 32 := 1#32
  let v1065 : Index := Scalar.indexCast c1_i32_535
  let c0_i32_355 : BitVec 32 := 0#32
  let c1_i32_357 : BitVec 32 := 1#32
  let arg26 : BitVec 32 := Scf.iv c0_i32_355 c1_i32_357 k0_t26
  let v1066 : Index := Scalar.indexCast arg26
  let c32_536 : Index := 32#32
  ![1, v1066.toNat, 32]

def k0_chk46 (v1037 : IVec S16 32) (v1072 : IVec S16 32) : Prop :=
  (∀ a x, ((![v1072, v1037] : Fin 2 → IVec S16 32) a x).toNat < S64x128.size a)
theorem k0_idx44_inb : ∀ (v1037 : IVec S16 32) (v1072 : IVec S16 32) (k0_hw46 : k0_chk46 v1037 v1072), ∀ a x, ((![v1072, v1037] : Fin 2 → IVec S16 32) a x).toNat < S64x128.size a := fun v1037 v1072 k0_hw46 => k0_hw46
def k0_off80 (v656 : BitVec 32) (k0_t26 : Fin (k0_t26_loop v656).trips) : Fin 3 → Nat :=
  let c1_i32_540 : BitVec 32 := 1#32
  let v1076 : Index := Scalar.indexCast c1_i32_540
  let c0_i32_355 : BitVec 32 := 0#32
  let c1_i32_357 : BitVec 32 := 1#32
  let arg26 : BitVec 32 := Scf.iv c0_i32_355 c1_i32_357 k0_t26
  let v1077 : Index := Scalar.indexCast arg26
  let c48_541 : Index := 48#32
  ![1, v1077.toNat, 48]
@[reducible] def k0_t27_loop (v656 : BitVec 32) : Scf.Loop 32 :=
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let v671 : BitVec 32 := Scalar.addi c0_i32_355 v670
  let c1_i32_358 : BitVec 32 := 1#32
  ⟨v674, v671, c1_i32_358⟩
def k0_off81 (i : grid0.Coords) (k0_t17 : Fin (k0_t17_loop i).trips) (v656 : BitVec 32) (k0_t27 : Fin (k0_t27_loop v656).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c32_i32_500 : BitVec 32 := 32#32
  let v987 : BitVec 32 := Scalar.muli v610 c32_i32_500
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t27
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk47 (v1037 : IVec S16 32) (v1039 : IVec S16 32) : Prop :=
  (∀ a x, ((![v1039, v1037] : Fin 2 → IVec S16 32) a x).toNat < S64x128.size a)
theorem k0_idx45_inb : ∀ (v1037 : IVec S16 32) (v1039 : IVec S16 32) (k0_hw47 : k0_chk47 v1037 v1039), ∀ a x, ((![v1039, v1037] : Fin 2 → IVec S16 32) a x).toNat < S64x128.size a := fun v1037 v1039 k0_hw47 => k0_hw47
def k0_off82 (v656 : BitVec 32) (k0_t27 : Fin (k0_t27_loop v656).trips) : Fin 3 → Nat :=
  let c1_i32_523 : BitVec 32 := 1#32
  let v1043 : Index := Scalar.indexCast c1_i32_523
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t27
  let v1044 : Index := Scalar.indexCast arg26
  let c0_524 : Index := 0#32
  ![1, v1044.toNat, 0]

def k0_chk48 (v1037 : IVec S16 32) (v1050 : IVec S16 32) : Prop :=
  (∀ a x, ((![v1050, v1037] : Fin 2 → IVec S16 32) a x).toNat < S64x128.size a)
theorem k0_idx46_inb : ∀ (v1037 : IVec S16 32) (v1050 : IVec S16 32) (k0_hw48 : k0_chk48 v1037 v1050), ∀ a x, ((![v1050, v1037] : Fin 2 → IVec S16 32) a x).toNat < S64x128.size a := fun v1037 v1050 k0_hw48 => k0_hw48
def k0_off83 (v656 : BitVec 32) (k0_t27 : Fin (k0_t27_loop v656).trips) : Fin 3 → Nat :=
  let c1_i32_529 : BitVec 32 := 1#32
  let v1054 : Index := Scalar.indexCast c1_i32_529
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t27
  let v1055 : Index := Scalar.indexCast arg26
  let c16_530 : Index := 16#32
  ![1, v1055.toNat, 16]

def k0_chk49 (v1037 : IVec S16 32) (v1061 : IVec S16 32) : Prop :=
  (∀ a x, ((![v1061, v1037] : Fin 2 → IVec S16 32) a x).toNat < S64x128.size a)
theorem k0_idx47_inb : ∀ (v1037 : IVec S16 32) (v1061 : IVec S16 32) (k0_hw49 : k0_chk49 v1037 v1061), ∀ a x, ((![v1061, v1037] : Fin 2 → IVec S16 32) a x).toNat < S64x128.size a := fun v1037 v1061 k0_hw49 => k0_hw49
def k0_off84 (v656 : BitVec 32) (k0_t27 : Fin (k0_t27_loop v656).trips) : Fin 3 → Nat :=
  let c1_i32_535 : BitVec 32 := 1#32
  let v1065 : Index := Scalar.indexCast c1_i32_535
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t27
  let v1066 : Index := Scalar.indexCast arg26
  let c32_536 : Index := 32#32
  ![1, v1066.toNat, 32]

def k0_chk50 (v1037 : IVec S16 32) (v1072 : IVec S16 32) : Prop :=
  (∀ a x, ((![v1072, v1037] : Fin 2 → IVec S16 32) a x).toNat < S64x128.size a)
theorem k0_idx48_inb : ∀ (v1037 : IVec S16 32) (v1072 : IVec S16 32) (k0_hw50 : k0_chk50 v1037 v1072), ∀ a x, ((![v1072, v1037] : Fin 2 → IVec S16 32) a x).toNat < S64x128.size a := fun v1037 v1072 k0_hw50 => k0_hw50
def k0_off85 (v656 : BitVec 32) (k0_t27 : Fin (k0_t27_loop v656).trips) : Fin 3 → Nat :=
  let c1_i32_540 : BitVec 32 := 1#32
  let v1076 : Index := Scalar.indexCast c1_i32_540
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t27
  let v1077 : Index := Scalar.indexCast arg26
  let c48_541 : Index := 48#32
  ![1, v1077.toNat, 48]

def k0_chk42 (i : grid0.Coords) (k0_t17 : Fin (k0_t17_loop i).trips) (v656 : BitVec 32) : Prop :=
  ((k0_t24_loop v656).OK) ∧
  ((k0_t25_loop v656).OK) ∧
  ((k0_t26_loop v656).OK) ∧
  (∀ k0_t26 : Fin (k0_t26_loop v656).trips, ∀ a, (k0_off76 i k0_t17 v656 k0_t26) a + S16.size a ≤ S8192.size a) ∧
  (∀ k0_t26 : Fin (k0_t26_loop v656).trips, ∀ a, (k0_off77 v656 k0_t26) a + S1x1x16.size a ≤ S4x32x64.size a) ∧
  (∀ k0_t26 : Fin (k0_t26_loop v656).trips, ∀ a, (k0_off78 v656 k0_t26) a + S1x1x16.size a ≤ S4x32x64.size a) ∧
  (∀ k0_t26 : Fin (k0_t26_loop v656).trips, ∀ a, (k0_off79 v656 k0_t26) a + S1x1x16.size a ≤ S4x32x64.size a) ∧
  (∀ k0_t26 : Fin (k0_t26_loop v656).trips, ∀ a, (k0_off80 v656 k0_t26) a + S1x1x16.size a ≤ S4x32x64.size a) ∧
  ((k0_t27_loop v656).OK) ∧
  (∀ k0_t27 : Fin (k0_t27_loop v656).trips, ∀ a, (k0_off81 i k0_t17 v656 k0_t27) a + S16.size a ≤ S8192.size a) ∧
  (∀ k0_t27 : Fin (k0_t27_loop v656).trips, ∀ a, (k0_off82 v656 k0_t27) a + S1x1x16.size a ≤ S4x32x64.size a) ∧
  (∀ k0_t27 : Fin (k0_t27_loop v656).trips, ∀ a, (k0_off83 v656 k0_t27) a + S1x1x16.size a ≤ S4x32x64.size a) ∧
  (∀ k0_t27 : Fin (k0_t27_loop v656).trips, ∀ a, (k0_off84 v656 k0_t27) a + S1x1x16.size a ≤ S4x32x64.size a) ∧
  (∀ k0_t27 : Fin (k0_t27_loop v656).trips, ∀ a, (k0_off85 v656 k0_t27) a + S1x1x16.size a ≤ S4x32x64.size a)
theorem k0_t24_ok : ∀ (i : grid0.Coords) (k0_t17 : Fin (k0_t17_loop i).trips) (v656 : BitVec 32) (k0_hw42 : k0_chk42 i k0_t17 v656), (k0_t24_loop v656).OK := fun i k0_t17 v656 k0_hw42 => k0_hw42.1
theorem k0_t25_ok : ∀ (i : grid0.Coords) (k0_t17 : Fin (k0_t17_loop i).trips) (v656 : BitVec 32) (k0_hw42 : k0_chk42 i k0_t17 v656), (k0_t25_loop v656).OK := fun i k0_t17 v656 k0_hw42 => k0_hw42.2.1
theorem k0_t26_ok : ∀ (i : grid0.Coords) (k0_t17 : Fin (k0_t17_loop i).trips) (v656 : BitVec 32) (k0_hw42 : k0_chk42 i k0_t17 v656), (k0_t26_loop v656).OK := fun i k0_t17 v656 k0_hw42 => k0_hw42.2.2.1
theorem k0_off76_inb : ∀ (i : grid0.Coords) (k0_t17 : Fin (k0_t17_loop i).trips) (v656 : BitVec 32) (k0_hw42 : k0_chk42 i k0_t17 v656) (k0_t26 : Fin (k0_t26_loop v656).trips), ∀ a, (k0_off76 i k0_t17 v656 k0_t26) a + S16.size a ≤ S8192.size a := fun i k0_t17 v656 k0_hw42 k0_t26 => k0_hw42.2.2.2.1 k0_t26
theorem k0_off77_inb : ∀ (i : grid0.Coords) (k0_t17 : Fin (k0_t17_loop i).trips) (v656 : BitVec 32) (k0_hw42 : k0_chk42 i k0_t17 v656) (k0_t26 : Fin (k0_t26_loop v656).trips), ∀ a, (k0_off77 v656 k0_t26) a + S1x1x16.size a ≤ S4x32x64.size a := fun i k0_t17 v656 k0_hw42 k0_t26 => k0_hw42.2.2.2.2.1 k0_t26
theorem k0_off78_inb : ∀ (i : grid0.Coords) (k0_t17 : Fin (k0_t17_loop i).trips) (v656 : BitVec 32) (k0_hw42 : k0_chk42 i k0_t17 v656) (k0_t26 : Fin (k0_t26_loop v656).trips), ∀ a, (k0_off78 v656 k0_t26) a + S1x1x16.size a ≤ S4x32x64.size a := fun i k0_t17 v656 k0_hw42 k0_t26 => k0_hw42.2.2.2.2.2.1 k0_t26
theorem k0_off79_inb : ∀ (i : grid0.Coords) (k0_t17 : Fin (k0_t17_loop i).trips) (v656 : BitVec 32) (k0_hw42 : k0_chk42 i k0_t17 v656) (k0_t26 : Fin (k0_t26_loop v656).trips), ∀ a, (k0_off79 v656 k0_t26) a + S1x1x16.size a ≤ S4x32x64.size a := fun i k0_t17 v656 k0_hw42 k0_t26 => k0_hw42.2.2.2.2.2.2.1 k0_t26
theorem k0_off80_inb : ∀ (i : grid0.Coords) (k0_t17 : Fin (k0_t17_loop i).trips) (v656 : BitVec 32) (k0_hw42 : k0_chk42 i k0_t17 v656) (k0_t26 : Fin (k0_t26_loop v656).trips), ∀ a, (k0_off80 v656 k0_t26) a + S1x1x16.size a ≤ S4x32x64.size a := fun i k0_t17 v656 k0_hw42 k0_t26 => k0_hw42.2.2.2.2.2.2.2.1 k0_t26
theorem k0_t27_ok : ∀ (i : grid0.Coords) (k0_t17 : Fin (k0_t17_loop i).trips) (v656 : BitVec 32) (k0_hw42 : k0_chk42 i k0_t17 v656), (k0_t27_loop v656).OK := fun i k0_t17 v656 k0_hw42 => k0_hw42.2.2.2.2.2.2.2.2.1
theorem k0_off81_inb : ∀ (i : grid0.Coords) (k0_t17 : Fin (k0_t17_loop i).trips) (v656 : BitVec 32) (k0_hw42 : k0_chk42 i k0_t17 v656) (k0_t27 : Fin (k0_t27_loop v656).trips), ∀ a, (k0_off81 i k0_t17 v656 k0_t27) a + S16.size a ≤ S8192.size a := fun i k0_t17 v656 k0_hw42 k0_t27 => k0_hw42.2.2.2.2.2.2.2.2.2.1 k0_t27
theorem k0_off82_inb : ∀ (i : grid0.Coords) (k0_t17 : Fin (k0_t17_loop i).trips) (v656 : BitVec 32) (k0_hw42 : k0_chk42 i k0_t17 v656) (k0_t27 : Fin (k0_t27_loop v656).trips), ∀ a, (k0_off82 v656 k0_t27) a + S1x1x16.size a ≤ S4x32x64.size a := fun i k0_t17 v656 k0_hw42 k0_t27 => k0_hw42.2.2.2.2.2.2.2.2.2.2.1 k0_t27
theorem k0_off83_inb : ∀ (i : grid0.Coords) (k0_t17 : Fin (k0_t17_loop i).trips) (v656 : BitVec 32) (k0_hw42 : k0_chk42 i k0_t17 v656) (k0_t27 : Fin (k0_t27_loop v656).trips), ∀ a, (k0_off83 v656 k0_t27) a + S1x1x16.size a ≤ S4x32x64.size a := fun i k0_t17 v656 k0_hw42 k0_t27 => k0_hw42.2.2.2.2.2.2.2.2.2.2.2.1 k0_t27
theorem k0_off84_inb : ∀ (i : grid0.Coords) (k0_t17 : Fin (k0_t17_loop i).trips) (v656 : BitVec 32) (k0_hw42 : k0_chk42 i k0_t17 v656) (k0_t27 : Fin (k0_t27_loop v656).trips), ∀ a, (k0_off84 v656 k0_t27) a + S1x1x16.size a ≤ S4x32x64.size a := fun i k0_t17 v656 k0_hw42 k0_t27 => k0_hw42.2.2.2.2.2.2.2.2.2.2.2.2.1 k0_t27
theorem k0_off85_inb : ∀ (i : grid0.Coords) (k0_t17 : Fin (k0_t17_loop i).trips) (v656 : BitVec 32) (k0_hw42 : k0_chk42 i k0_t17 v656) (k0_t27 : Fin (k0_t27_loop v656).trips), ∀ a, (k0_off85 v656 k0_t27) a + S1x1x16.size a ≤ S4x32x64.size a := fun i k0_t17 v656 k0_hw42 k0_t27 => k0_hw42.2.2.2.2.2.2.2.2.2.2.2.2.2 k0_t27

def k0_off86 (i : grid0.Coords) (k0_t17 : Fin (k0_t17_loop i).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_360 : BitVec 32 := 4#32
  let v679 : BitVec 32 := Scalar.addi v610 c4_i32_360
  let c0_i32_362 : BitVec 32 := 0#32
  let v681 : BitVec 1 := Scalar.cmpi .sgt v679 c0_i32_362
  let v682 : BitVec 32 := Scalar.extui v681
  let c0_i32_363 : BitVec 32 := 0#32
  let v683 : BitVec 1 := Scalar.cmpi .slt v679 c0_i32_363
  let v684 : BitVec 32 := Scalar.extui v683
  let v685 : BitVec 32 := Scalar.subi v682 v684
  let c16_i32_361 : BitVec 32 := 16#32
  let c0_i32_364 : BitVec 32 := 0#32
  let v686 : BitVec 1 := Scalar.cmpi .sgt c16_i32_361 c0_i32_364
  let v687 : BitVec 32 := Scalar.extui v686
  let c0_i32_365 : BitVec 32 := 0#32
  let v688 : BitVec 1 := Scalar.cmpi .slt c16_i32_361 c0_i32_365
  let v689 : BitVec 32 := Scalar.extui v688
  let v690 : BitVec 32 := Scalar.subi v687 v689
  let v691 : BitVec 1 := Scalar.cmpi .ne v685 v690
  let v692 : BitVec 32 := Scalar.remsi v679 c16_i32_361
  let c0_i32_366 : BitVec 32 := 0#32
  let v693 : BitVec 1 := Scalar.cmpi .ne v692 c0_i32_366
  let v694 : BitVec 1 := Scalar.andi v691 v693
  let v680 : BitVec 32 := Scalar.divsi v679 c16_i32_361
  let c1_i32_367 : BitVec 32 := 1#32
  let v695 : BitVec 32 := Scalar.subi v680 c1_i32_367
  let v696 : BitVec 32 := Scalar.select v694 v695 v680
  let c16_i32_368 : BitVec 32 := 16#32
  let v697 : BitVec 32 := Scalar.muli v696 c16_i32_368
  let v698 : Index := Scalar.indexCast v697
  ![v698.toNat]
def k0_off87 (i : grid0.Coords) (k0_t17 : Fin (k0_t17_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c128_i32_501 : BitVec 32 := 128#32
  let v988 : BitVec 32 := Scalar.muli v987 c128_i32_501
  let v989 : BitVec 32 := Scalar.addi v10 v988
  ![0, v989.toNat]
def k0_cond9 (i : grid0.Coords) (k0_t17 : Fin (k0_t17_loop i).trips) (v725 : BitVec 32) : BitVec 1 :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_359 : BitVec 32 := 4#32
  let v677 : BitVec 32 := Scalar.addi v610 c4_i32_359
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v678 : BitVec 1 := Scalar.cmpi .slt v677 v9
  let c32_i32_379 : BitVec 32 := 32#32
  let v726 : BitVec 32 := Scalar.minsi v725 c32_i32_379
  let c0_i32_380 : BitVec 32 := 0#32
  let v727 : BitVec 1 := Scalar.cmpi .sgt v726 c0_i32_380
  let v728 : BitVec 1 := Scalar.andi v678 v727
  let v729 : BitVec 32 := Scalar.extui v728
  let c0_i32_381 : BitVec 32 := 0#32
  let v730 : BitVec 1 := Scalar.cmpi .ne v729 c0_i32_381
  v730

def k0_chk51 (i : grid0.Coords) (k0_t17 : Fin (k0_t17_loop i).trips) (v725 : BitVec 32) : Prop :=
  (∀ (k0_h9 : k0_cond9 i k0_t17 v725 = 1#1), ∀ a, (k0_off87 i k0_t17) a + S64x128.size a ≤ S64x1000064.size a)
theorem k0_off87_inb : ∀ (i : grid0.Coords) (k0_t17 : Fin (k0_t17_loop i).trips) (v725 : BitVec 32) (k0_hw51 : k0_chk51 i k0_t17 v725), ∀ (k0_h9 : k0_cond9 i k0_t17 v725 = 1#1), ∀ a, (k0_off87 i k0_t17) a + S64x128.size a ≤ S64x1000064.size a := fun i k0_t17 v725 k0_hw51 k0_h9 => k0_hw51 k0_h9

def k0_cond10 (i : grid0.Coords) (k0_t17 : Fin (k0_t17_loop i).trips) : BitVec 1 :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_382 : BitVec 32 := 4#32
  let v731 : BitVec 32 := Scalar.addi v610 c4_i32_382
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v732 : BitVec 1 := Scalar.cmpi .slt v731 v9
  let v733 : BitVec 32 := Scalar.extui v732
  let c0_i32_383 : BitVec 32 := 0#32
  let v734 : BitVec 1 := Scalar.cmpi .ne v733 c0_i32_383
  v734

def k0_off88 (i : grid0.Coords) (k0_t17 : Fin (k0_t17_loop i).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t28_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off89 (i : grid0.Coords) (k0_t17 : Fin (k0_t17_loop i).trips) (v1033 : BitVec 32) (k0_t28 : Fin (k0_t28_loop v1033).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t28
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off90 (v1033 : BitVec 32) (k0_t28 : Fin (k0_t28_loop v1033).trips) : Fin 2 → Nat :=
  let c0_i32_521 : BitVec 32 := 0#32
  let c1_i32_523 : BitVec 32 := 1#32
  let arg26 : BitVec 32 := Scf.iv c0_i32_521 c1_i32_523 k0_t28
  let c0_i32_547 : BitVec 32 := 0#32
  ![arg26.toNat, 0]
def k0_off91 (v1087 : BitVec 32) : Fin 2 → Nat :=
  let c0_i32_548 : BitVec 32 := 0#32
  ![v1087.toNat, 0]

def k0_chk53 (i : grid0.Coords) (k0_t17 : Fin (k0_t17_loop i).trips) (v1087 : BitVec 32) : Prop :=
  (∀ (k0_h10 : k0_cond10 i k0_t17 = 1#1), ∀ a, (k0_off91 v1087) a + S1x64.size a ≤ S16384x64.size a)
theorem k0_off91_inb : ∀ (i : grid0.Coords) (k0_t17 : Fin (k0_t17_loop i).trips) (v1087 : BitVec 32) (k0_hw53 : k0_chk53 i k0_t17 v1087), ∀ (k0_h10 : k0_cond10 i k0_t17 = 1#1), ∀ a, (k0_off91 v1087) a + S1x64.size a ≤ S16384x64.size a := fun i k0_t17 v1087 k0_hw53 k0_h10 => k0_hw53 k0_h10

def k0_off92 (v1033 : BitVec 32) (k0_t28 : Fin (k0_t28_loop v1033).trips) : Fin 2 → Nat :=
  let c0_i32_521 : BitVec 32 := 0#32
  let c1_i32_523 : BitVec 32 := 1#32
  let arg26 : BitVec 32 := Scf.iv c0_i32_521 c1_i32_523 k0_t28
  let c0_i32_551 : BitVec 32 := 0#32
  ![arg26.toNat, 0]
@[reducible] def k0_t29_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off93 (i : grid0.Coords) (k0_t17 : Fin (k0_t17_loop i).trips) (v1033 : BitVec 32) (k0_t29 : Fin (k0_t29_loop v1033).trips) : Fin 1 → Nat :=
  let c4_i32_326 : BitVec 32 := 4#32
  let c0_i32_263 : BitVec 32 := 0#32
  let c1_i32_265 : BitVec 32 := 1#32
  let arg21 : BitVec 32 := Scf.iv c0_i32_263 c1_i32_265 k0_t17
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t29
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off94 (v1033 : BitVec 32) (k0_t29 : Fin (k0_t29_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t29
  let c0_i32_547 : BitVec 32 := 0#32
  ![arg26.toNat, 0]
def k0_off95 (v1087 : BitVec 32) : Fin 2 → Nat :=
  let c0_i32_548 : BitVec 32 := 0#32
  ![v1087.toNat, 0]

def k0_chk54 (i : grid0.Coords) (k0_t17 : Fin (k0_t17_loop i).trips) (v1087 : BitVec 32) : Prop :=
  (∀ (k0_h10 : k0_cond10 i k0_t17 = 1#1), ∀ a, (k0_off95 v1087) a + S1x64.size a ≤ S16384x64.size a)
theorem k0_off95_inb : ∀ (i : grid0.Coords) (k0_t17 : Fin (k0_t17_loop i).trips) (v1087 : BitVec 32) (k0_hw54 : k0_chk54 i k0_t17 v1087), ∀ (k0_h10 : k0_cond10 i k0_t17 = 1#1), ∀ a, (k0_off95 v1087) a + S1x64.size a ≤ S16384x64.size a := fun i k0_t17 v1087 k0_hw54 k0_h10 => k0_hw54 k0_h10

def k0_off96 (v1033 : BitVec 32) (k0_t29 : Fin (k0_t29_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t29
  let c0_i32_551 : BitVec 32 := 0#32
  ![arg26.toNat, 0]

def k0_chk52 (i : grid0.Coords) (k0_t17 : Fin (k0_t17_loop i).trips) (v1033 : BitVec 32) : Prop :=
  (∀ (k0_h10 : k0_cond10 i k0_t17 = 1#1), (k0_t28_loop v1033).OK) ∧
  (∀ k0_t28 : Fin (k0_t28_loop v1033).trips, ∀ (k0_h10 : k0_cond10 i k0_t17 = 1#1), ∀ a, (k0_off89 i k0_t17 v1033 k0_t28) a + S16.size a ≤ S8192.size a) ∧
  (∀ k0_t28 : Fin (k0_t28_loop v1033).trips, ∀ (k0_h10 : k0_cond10 i k0_t17 = 1#1), ∀ a, (k0_off90 v1033 k0_t28) a + S1x64.size a ≤ S32x64.size a) ∧
  (∀ k0_t28 : Fin (k0_t28_loop v1033).trips, ∀ (k0_h10 : k0_cond10 i k0_t17 = 1#1), ∀ a, (k0_off92 v1033 k0_t28) a + S1x64.size a ≤ S32x64.size a) ∧
  (∀ (k0_h10 : k0_cond10 i k0_t17 = 1#1), (k0_t29_loop v1033).OK) ∧
  (∀ k0_t29 : Fin (k0_t29_loop v1033).trips, ∀ (k0_h10 : k0_cond10 i k0_t17 = 1#1), ∀ a, (k0_off93 i k0_t17 v1033 k0_t29) a + S16.size a ≤ S8192.size a) ∧
  (∀ k0_t29 : Fin (k0_t29_loop v1033).trips, ∀ (k0_h10 : k0_cond10 i k0_t17 = 1#1), ∀ a, (k0_off94 v1033 k0_t29) a + S1x64.size a ≤ S32x64.size a) ∧
  (∀ k0_t29 : Fin (k0_t29_loop v1033).trips, ∀ (k0_h10 : k0_cond10 i k0_t17 = 1#1), ∀ a, (k0_off96 v1033 k0_t29) a + S1x64.size a ≤ S32x64.size a)
theorem k0_t28_ok : ∀ (i : grid0.Coords) (k0_t17 : Fin (k0_t17_loop i).trips) (v1033 : BitVec 32) (k0_hw52 : k0_chk52 i k0_t17 v1033), ∀ (k0_h10 : k0_cond10 i k0_t17 = 1#1), (k0_t28_loop v1033).OK := fun i k0_t17 v1033 k0_hw52 k0_h10 => k0_hw52.1 k0_h10
theorem k0_off89_inb : ∀ (i : grid0.Coords) (k0_t17 : Fin (k0_t17_loop i).trips) (v1033 : BitVec 32) (k0_hw52 : k0_chk52 i k0_t17 v1033) (k0_t28 : Fin (k0_t28_loop v1033).trips), ∀ (k0_h10 : k0_cond10 i k0_t17 = 1#1), ∀ a, (k0_off89 i k0_t17 v1033 k0_t28) a + S16.size a ≤ S8192.size a := fun i k0_t17 v1033 k0_hw52 k0_t28 k0_h10 => k0_hw52.2.1 k0_t28 k0_h10
theorem k0_off90_inb : ∀ (i : grid0.Coords) (k0_t17 : Fin (k0_t17_loop i).trips) (v1033 : BitVec 32) (k0_hw52 : k0_chk52 i k0_t17 v1033) (k0_t28 : Fin (k0_t28_loop v1033).trips), ∀ (k0_h10 : k0_cond10 i k0_t17 = 1#1), ∀ a, (k0_off90 v1033 k0_t28) a + S1x64.size a ≤ S32x64.size a := fun i k0_t17 v1033 k0_hw52 k0_t28 k0_h10 => k0_hw52.2.2.1 k0_t28 k0_h10
theorem k0_off92_inb : ∀ (i : grid0.Coords) (k0_t17 : Fin (k0_t17_loop i).trips) (v1033 : BitVec 32) (k0_hw52 : k0_chk52 i k0_t17 v1033) (k0_t28 : Fin (k0_t28_loop v1033).trips), ∀ (k0_h10 : k0_cond10 i k0_t17 = 1#1), ∀ a, (k0_off92 v1033 k0_t28) a + S1x64.size a ≤ S32x64.size a := fun i k0_t17 v1033 k0_hw52 k0_t28 k0_h10 => k0_hw52.2.2.2.1 k0_t28 k0_h10
theorem k0_t29_ok : ∀ (i : grid0.Coords) (k0_t17 : Fin (k0_t17_loop i).trips) (v1033 : BitVec 32) (k0_hw52 : k0_chk52 i k0_t17 v1033), ∀ (k0_h10 : k0_cond10 i k0_t17 = 1#1), (k0_t29_loop v1033).OK := fun i k0_t17 v1033 k0_hw52 k0_h10 => k0_hw52.2.2.2.2.1 k0_h10
theorem k0_off93_inb : ∀ (i : grid0.Coords) (k0_t17 : Fin (k0_t17_loop i).trips) (v1033 : BitVec 32) (k0_hw52 : k0_chk52 i k0_t17 v1033) (k0_t29 : Fin (k0_t29_loop v1033).trips), ∀ (k0_h10 : k0_cond10 i k0_t17 = 1#1), ∀ a, (k0_off93 i k0_t17 v1033 k0_t29) a + S16.size a ≤ S8192.size a := fun i k0_t17 v1033 k0_hw52 k0_t29 k0_h10 => k0_hw52.2.2.2.2.2.1 k0_t29 k0_h10
theorem k0_off94_inb : ∀ (i : grid0.Coords) (k0_t17 : Fin (k0_t17_loop i).trips) (v1033 : BitVec 32) (k0_hw52 : k0_chk52 i k0_t17 v1033) (k0_t29 : Fin (k0_t29_loop v1033).trips), ∀ (k0_h10 : k0_cond10 i k0_t17 = 1#1), ∀ a, (k0_off94 v1033 k0_t29) a + S1x64.size a ≤ S32x64.size a := fun i k0_t17 v1033 k0_hw52 k0_t29 k0_h10 => k0_hw52.2.2.2.2.2.2.1 k0_t29 k0_h10
theorem k0_off96_inb : ∀ (i : grid0.Coords) (k0_t17 : Fin (k0_t17_loop i).trips) (v1033 : BitVec 32) (k0_hw52 : k0_chk52 i k0_t17 v1033) (k0_t29 : Fin (k0_t29_loop v1033).trips), ∀ (k0_h10 : k0_cond10 i k0_t17 = 1#1), ∀ a, (k0_off96 v1033 k0_t29) a + S1x64.size a ≤ S32x64.size a := fun i k0_t17 v1033 k0_hw52 k0_t29 k0_h10 => k0_hw52.2.2.2.2.2.2.2 k0_t29 k0_h10

def k0_off97 (i : grid0.Coords) (k0_t17 : Fin (k0_t17_loop i).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c0_i32_387 : BitVec 32 := 0#32
  let v738 : BitVec 1 := Scalar.cmpi .sgt v736 c0_i32_387
  let v739 : BitVec 32 := Scalar.extui v738
  let c0_i32_388 : BitVec 32 := 0#32
  let v740 : BitVec 1 := Scalar.cmpi .slt v736 c0_i32_388
  let v741 : BitVec 32 := Scalar.extui v740
  let v742 : BitVec 32 := Scalar.subi v739 v741
  let c16_i32_386 : BitVec 32 := 16#32
  let c0_i32_389 : BitVec 32 := 0#32
  let v743 : BitVec 1 := Scalar.cmpi .sgt c16_i32_386 c0_i32_389
  let v744 : BitVec 32 := Scalar.extui v743
  let c0_i32_390 : BitVec 32 := 0#32
  let v745 : BitVec 1 := Scalar.cmpi .slt c16_i32_386 c0_i32_390
  let v746 : BitVec 32 := Scalar.extui v745
  let v747 : BitVec 32 := Scalar.subi v744 v746
  let v748 : BitVec 1 := Scalar.cmpi .ne v742 v747
  let v749 : BitVec 32 := Scalar.remsi v736 c16_i32_386
  let c0_i32_391 : BitVec 32 := 0#32
  let v750 : BitVec 1 := Scalar.cmpi .ne v749 c0_i32_391
  let v751 : BitVec 1 := Scalar.andi v748 v750
  let v737 : BitVec 32 := Scalar.divsi v736 c16_i32_386
  let c1_i32_392 : BitVec 32 := 1#32
  let v752 : BitVec 32 := Scalar.subi v737 c1_i32_392
  let v753 : BitVec 32 := Scalar.select v751 v752 v737
  let c16_i32_393 : BitVec 32 := 16#32
  let v754 : BitVec 32 := Scalar.muli v753 c16_i32_393
  let v755 : Index := Scalar.indexCast v754
  ![v755.toNat]
@[reducible] def k0_t30_loop (v782 : BitVec 32) : Scf.Loop 32 :=
  let c0_i32_408 : BitVec 32 := 0#32
  let c32_i32_404 : BitVec 32 := 32#32
  let v783 : BitVec 32 := Scalar.minsi v782 c32_i32_404
  let v789 : BitVec 32 := Scalar.subi v783 c0_i32_408
  let c1_i32_409 : BitVec 32 := 1#32
  let v791 : BitVec 32 := Scalar.divsi v789 c1_i32_409
  let v792 : BitVec 32 := Scalar.muli v791 c1_i32_409
  let v793 : BitVec 32 := Scalar.addi c0_i32_408 v792
  let c1_i32_410 : BitVec 32 := 1#32
  ⟨c0_i32_408, v793, c1_i32_410⟩

@[reducible] def k0_t31_loop (v782 : BitVec 32) : Scf.Loop 32 :=
  let c0_i32_408 : BitVec 32 := 0#32
  let c32_i32_404 : BitVec 32 := 32#32
  let v783 : BitVec 32 := Scalar.minsi v782 c32_i32_404
  let v789 : BitVec 32 := Scalar.subi v783 c0_i32_408
  let c1_i32_409 : BitVec 32 := 1#32
  let v791 : BitVec 32 := Scalar.divsi v789 c1_i32_409
  let v792 : BitVec 32 := Scalar.muli v791 c1_i32_409
  let v793 : BitVec 32 := Scalar.addi c0_i32_408 v792
  let v790 : BitVec 32 := Scalar.addi c0_i32_408 v789
  let c1_i32_411 : BitVec 32 := 1#32
  ⟨v793, v790, c1_i32_411⟩
@[reducible] def k0_t32_loop (v782 : BitVec 32) : Scf.Loop 32 :=
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_415 : BitVec 32 := 1#32
  ⟨c0_i32_413, v800, c1_i32_415⟩
def k0_off98 (i : grid0.Coords) (k0_t17 : Fin (k0_t17_loop i).trips) (v782 : BitVec 32) (k0_t32 : Fin (k0_t32_loop v782).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c32_i32_500 : BitVec 32 := 32#32
  let v987 : BitVec 32 := Scalar.muli v736 c32_i32_500
  let c0_i32_413 : BitVec 32 := 0#32
  let c1_i32_415 : BitVec 32 := 1#32
  let arg26 : BitVec 32 := Scf.iv c0_i32_413 c1_i32_415 k0_t32
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk56 (v1037 : IVec S16 32) (v1039 : IVec S16 32) : Prop :=
  (∀ a x, ((![v1039, v1037] : Fin 2 → IVec S16 32) a x).toNat < S64x128.size a)
theorem k0_idx49_inb : ∀ (v1037 : IVec S16 32) (v1039 : IVec S16 32) (k0_hw56 : k0_chk56 v1037 v1039), ∀ a x, ((![v1039, v1037] : Fin 2 → IVec S16 32) a x).toNat < S64x128.size a := fun v1037 v1039 k0_hw56 => k0_hw56
def k0_off99 (v782 : BitVec 32) (k0_t32 : Fin (k0_t32_loop v782).trips) : Fin 3 → Nat :=
  let c2_i32_523 : BitVec 32 := 2#32
  let v1043 : Index := Scalar.indexCast c2_i32_523
  let c0_i32_413 : BitVec 32 := 0#32
  let c1_i32_415 : BitVec 32 := 1#32
  let arg26 : BitVec 32 := Scf.iv c0_i32_413 c1_i32_415 k0_t32
  let v1044 : Index := Scalar.indexCast arg26
  let c0_524 : Index := 0#32
  ![2, v1044.toNat, 0]

def k0_chk57 (v1037 : IVec S16 32) (v1050 : IVec S16 32) : Prop :=
  (∀ a x, ((![v1050, v1037] : Fin 2 → IVec S16 32) a x).toNat < S64x128.size a)
theorem k0_idx50_inb : ∀ (v1037 : IVec S16 32) (v1050 : IVec S16 32) (k0_hw57 : k0_chk57 v1037 v1050), ∀ a x, ((![v1050, v1037] : Fin 2 → IVec S16 32) a x).toNat < S64x128.size a := fun v1037 v1050 k0_hw57 => k0_hw57
def k0_off100 (v782 : BitVec 32) (k0_t32 : Fin (k0_t32_loop v782).trips) : Fin 3 → Nat :=
  let c2_i32_529 : BitVec 32 := 2#32
  let v1054 : Index := Scalar.indexCast c2_i32_529
  let c0_i32_413 : BitVec 32 := 0#32
  let c1_i32_415 : BitVec 32 := 1#32
  let arg26 : BitVec 32 := Scf.iv c0_i32_413 c1_i32_415 k0_t32
  let v1055 : Index := Scalar.indexCast arg26
  let c16_530 : Index := 16#32
  ![2, v1055.toNat, 16]

def k0_chk58 (v1037 : IVec S16 32) (v1061 : IVec S16 32) : Prop :=
  (∀ a x, ((![v1061, v1037] : Fin 2 → IVec S16 32) a x).toNat < S64x128.size a)
theorem k0_idx51_inb : ∀ (v1037 : IVec S16 32) (v1061 : IVec S16 32) (k0_hw58 : k0_chk58 v1037 v1061), ∀ a x, ((![v1061, v1037] : Fin 2 → IVec S16 32) a x).toNat < S64x128.size a := fun v1037 v1061 k0_hw58 => k0_hw58
def k0_off101 (v782 : BitVec 32) (k0_t32 : Fin (k0_t32_loop v782).trips) : Fin 3 → Nat :=
  let c2_i32_535 : BitVec 32 := 2#32
  let v1065 : Index := Scalar.indexCast c2_i32_535
  let c0_i32_413 : BitVec 32 := 0#32
  let c1_i32_415 : BitVec 32 := 1#32
  let arg26 : BitVec 32 := Scf.iv c0_i32_413 c1_i32_415 k0_t32
  let v1066 : Index := Scalar.indexCast arg26
  let c32_536 : Index := 32#32
  ![2, v1066.toNat, 32]

def k0_chk59 (v1037 : IVec S16 32) (v1072 : IVec S16 32) : Prop :=
  (∀ a x, ((![v1072, v1037] : Fin 2 → IVec S16 32) a x).toNat < S64x128.size a)
theorem k0_idx52_inb : ∀ (v1037 : IVec S16 32) (v1072 : IVec S16 32) (k0_hw59 : k0_chk59 v1037 v1072), ∀ a x, ((![v1072, v1037] : Fin 2 → IVec S16 32) a x).toNat < S64x128.size a := fun v1037 v1072 k0_hw59 => k0_hw59
def k0_off102 (v782 : BitVec 32) (k0_t32 : Fin (k0_t32_loop v782).trips) : Fin 3 → Nat :=
  let c2_i32_540 : BitVec 32 := 2#32
  let v1076 : Index := Scalar.indexCast c2_i32_540
  let c0_i32_413 : BitVec 32 := 0#32
  let c1_i32_415 : BitVec 32 := 1#32
  let arg26 : BitVec 32 := Scf.iv c0_i32_413 c1_i32_415 k0_t32
  let v1077 : Index := Scalar.indexCast arg26
  let c48_541 : Index := 48#32
  ![2, v1077.toNat, 48]
@[reducible] def k0_t33_loop (v782 : BitVec 32) : Scf.Loop 32 :=
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let v797 : BitVec 32 := Scalar.addi c0_i32_413 v796
  let c1_i32_416 : BitVec 32 := 1#32
  ⟨v800, v797, c1_i32_416⟩
def k0_off103 (i : grid0.Coords) (k0_t17 : Fin (k0_t17_loop i).trips) (v782 : BitVec 32) (k0_t33 : Fin (k0_t33_loop v782).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c32_i32_500 : BitVec 32 := 32#32
  let v987 : BitVec 32 := Scalar.muli v736 c32_i32_500
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t33
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk60 (v1037 : IVec S16 32) (v1039 : IVec S16 32) : Prop :=
  (∀ a x, ((![v1039, v1037] : Fin 2 → IVec S16 32) a x).toNat < S64x128.size a)
theorem k0_idx53_inb : ∀ (v1037 : IVec S16 32) (v1039 : IVec S16 32) (k0_hw60 : k0_chk60 v1037 v1039), ∀ a x, ((![v1039, v1037] : Fin 2 → IVec S16 32) a x).toNat < S64x128.size a := fun v1037 v1039 k0_hw60 => k0_hw60
def k0_off104 (v782 : BitVec 32) (k0_t33 : Fin (k0_t33_loop v782).trips) : Fin 3 → Nat :=
  let c2_i32_523 : BitVec 32 := 2#32
  let v1043 : Index := Scalar.indexCast c2_i32_523
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t33
  let v1044 : Index := Scalar.indexCast arg26
  let c0_524 : Index := 0#32
  ![2, v1044.toNat, 0]

def k0_chk61 (v1037 : IVec S16 32) (v1050 : IVec S16 32) : Prop :=
  (∀ a x, ((![v1050, v1037] : Fin 2 → IVec S16 32) a x).toNat < S64x128.size a)
theorem k0_idx54_inb : ∀ (v1037 : IVec S16 32) (v1050 : IVec S16 32) (k0_hw61 : k0_chk61 v1037 v1050), ∀ a x, ((![v1050, v1037] : Fin 2 → IVec S16 32) a x).toNat < S64x128.size a := fun v1037 v1050 k0_hw61 => k0_hw61
def k0_off105 (v782 : BitVec 32) (k0_t33 : Fin (k0_t33_loop v782).trips) : Fin 3 → Nat :=
  let c2_i32_529 : BitVec 32 := 2#32
  let v1054 : Index := Scalar.indexCast c2_i32_529
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t33
  let v1055 : Index := Scalar.indexCast arg26
  let c16_530 : Index := 16#32
  ![2, v1055.toNat, 16]

def k0_chk62 (v1037 : IVec S16 32) (v1061 : IVec S16 32) : Prop :=
  (∀ a x, ((![v1061, v1037] : Fin 2 → IVec S16 32) a x).toNat < S64x128.size a)
theorem k0_idx55_inb : ∀ (v1037 : IVec S16 32) (v1061 : IVec S16 32) (k0_hw62 : k0_chk62 v1037 v1061), ∀ a x, ((![v1061, v1037] : Fin 2 → IVec S16 32) a x).toNat < S64x128.size a := fun v1037 v1061 k0_hw62 => k0_hw62
def k0_off106 (v782 : BitVec 32) (k0_t33 : Fin (k0_t33_loop v782).trips) : Fin 3 → Nat :=
  let c2_i32_535 : BitVec 32 := 2#32
  let v1065 : Index := Scalar.indexCast c2_i32_535
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t33
  let v1066 : Index := Scalar.indexCast arg26
  let c32_536 : Index := 32#32
  ![2, v1066.toNat, 32]

def k0_chk63 (v1037 : IVec S16 32) (v1072 : IVec S16 32) : Prop :=
  (∀ a x, ((![v1072, v1037] : Fin 2 → IVec S16 32) a x).toNat < S64x128.size a)
theorem k0_idx56_inb : ∀ (v1037 : IVec S16 32) (v1072 : IVec S16 32) (k0_hw63 : k0_chk63 v1037 v1072), ∀ a x, ((![v1072, v1037] : Fin 2 → IVec S16 32) a x).toNat < S64x128.size a := fun v1037 v1072 k0_hw63 => k0_hw63
def k0_off107 (v782 : BitVec 32) (k0_t33 : Fin (k0_t33_loop v782).trips) : Fin 3 → Nat :=
  let c2_i32_540 : BitVec 32 := 2#32
  let v1076 : Index := Scalar.indexCast c2_i32_540
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t33
  let v1077 : Index := Scalar.indexCast arg26
  let c48_541 : Index := 48#32
  ![2, v1077.toNat, 48]

def k0_chk55 (i : grid0.Coords) (k0_t17 : Fin (k0_t17_loop i).trips) (v782 : BitVec 32) : Prop :=
  ((k0_t30_loop v782).OK) ∧
  ((k0_t31_loop v782).OK) ∧
  ((k0_t32_loop v782).OK) ∧
  (∀ k0_t32 : Fin (k0_t32_loop v782).trips, ∀ a, (k0_off98 i k0_t17 v782 k0_t32) a + S16.size a ≤ S8192.size a) ∧
  (∀ k0_t32 : Fin (k0_t32_loop v782).trips, ∀ a, (k0_off99 v782 k0_t32) a + S1x1x16.size a ≤ S4x32x64.size a) ∧
  (∀ k0_t32 : Fin (k0_t32_loop v782).trips, ∀ a, (k0_off100 v782 k0_t32) a + S1x1x16.size a ≤ S4x32x64.size a) ∧
  (∀ k0_t32 : Fin (k0_t32_loop v782).trips, ∀ a, (k0_off101 v782 k0_t32) a + S1x1x16.size a ≤ S4x32x64.size a) ∧
  (∀ k0_t32 : Fin (k0_t32_loop v782).trips, ∀ a, (k0_off102 v782 k0_t32) a + S1x1x16.size a ≤ S4x32x64.size a) ∧
  ((k0_t33_loop v782).OK) ∧
  (∀ k0_t33 : Fin (k0_t33_loop v782).trips, ∀ a, (k0_off103 i k0_t17 v782 k0_t33) a + S16.size a ≤ S8192.size a) ∧
  (∀ k0_t33 : Fin (k0_t33_loop v782).trips, ∀ a, (k0_off104 v782 k0_t33) a + S1x1x16.size a ≤ S4x32x64.size a) ∧
  (∀ k0_t33 : Fin (k0_t33_loop v782).trips, ∀ a, (k0_off105 v782 k0_t33) a + S1x1x16.size a ≤ S4x32x64.size a) ∧
  (∀ k0_t33 : Fin (k0_t33_loop v782).trips, ∀ a, (k0_off106 v782 k0_t33) a + S1x1x16.size a ≤ S4x32x64.size a) ∧
  (∀ k0_t33 : Fin (k0_t33_loop v782).trips, ∀ a, (k0_off107 v782 k0_t33) a + S1x1x16.size a ≤ S4x32x64.size a)
theorem k0_t30_ok : ∀ (i : grid0.Coords) (k0_t17 : Fin (k0_t17_loop i).trips) (v782 : BitVec 32) (k0_hw55 : k0_chk55 i k0_t17 v782), (k0_t30_loop v782).OK := fun i k0_t17 v782 k0_hw55 => k0_hw55.1
theorem k0_t31_ok : ∀ (i : grid0.Coords) (k0_t17 : Fin (k0_t17_loop i).trips) (v782 : BitVec 32) (k0_hw55 : k0_chk55 i k0_t17 v782), (k0_t31_loop v782).OK := fun i k0_t17 v782 k0_hw55 => k0_hw55.2.1
theorem k0_t32_ok : ∀ (i : grid0.Coords) (k0_t17 : Fin (k0_t17_loop i).trips) (v782 : BitVec 32) (k0_hw55 : k0_chk55 i k0_t17 v782), (k0_t32_loop v782).OK := fun i k0_t17 v782 k0_hw55 => k0_hw55.2.2.1
theorem k0_off98_inb : ∀ (i : grid0.Coords) (k0_t17 : Fin (k0_t17_loop i).trips) (v782 : BitVec 32) (k0_hw55 : k0_chk55 i k0_t17 v782) (k0_t32 : Fin (k0_t32_loop v782).trips), ∀ a, (k0_off98 i k0_t17 v782 k0_t32) a + S16.size a ≤ S8192.size a := fun i k0_t17 v782 k0_hw55 k0_t32 => k0_hw55.2.2.2.1 k0_t32
theorem k0_off99_inb : ∀ (i : grid0.Coords) (k0_t17 : Fin (k0_t17_loop i).trips) (v782 : BitVec 32) (k0_hw55 : k0_chk55 i k0_t17 v782) (k0_t32 : Fin (k0_t32_loop v782).trips), ∀ a, (k0_off99 v782 k0_t32) a + S1x1x16.size a ≤ S4x32x64.size a := fun i k0_t17 v782 k0_hw55 k0_t32 => k0_hw55.2.2.2.2.1 k0_t32
theorem k0_off100_inb : ∀ (i : grid0.Coords) (k0_t17 : Fin (k0_t17_loop i).trips) (v782 : BitVec 32) (k0_hw55 : k0_chk55 i k0_t17 v782) (k0_t32 : Fin (k0_t32_loop v782).trips), ∀ a, (k0_off100 v782 k0_t32) a + S1x1x16.size a ≤ S4x32x64.size a := fun i k0_t17 v782 k0_hw55 k0_t32 => k0_hw55.2.2.2.2.2.1 k0_t32
theorem k0_off101_inb : ∀ (i : grid0.Coords) (k0_t17 : Fin (k0_t17_loop i).trips) (v782 : BitVec 32) (k0_hw55 : k0_chk55 i k0_t17 v782) (k0_t32 : Fin (k0_t32_loop v782).trips), ∀ a, (k0_off101 v782 k0_t32) a + S1x1x16.size a ≤ S4x32x64.size a := fun i k0_t17 v782 k0_hw55 k0_t32 => k0_hw55.2.2.2.2.2.2.1 k0_t32
theorem k0_off102_inb : ∀ (i : grid0.Coords) (k0_t17 : Fin (k0_t17_loop i).trips) (v782 : BitVec 32) (k0_hw55 : k0_chk55 i k0_t17 v782) (k0_t32 : Fin (k0_t32_loop v782).trips), ∀ a, (k0_off102 v782 k0_t32) a + S1x1x16.size a ≤ S4x32x64.size a := fun i k0_t17 v782 k0_hw55 k0_t32 => k0_hw55.2.2.2.2.2.2.2.1 k0_t32
theorem k0_t33_ok : ∀ (i : grid0.Coords) (k0_t17 : Fin (k0_t17_loop i).trips) (v782 : BitVec 32) (k0_hw55 : k0_chk55 i k0_t17 v782), (k0_t33_loop v782).OK := fun i k0_t17 v782 k0_hw55 => k0_hw55.2.2.2.2.2.2.2.2.1
theorem k0_off103_inb : ∀ (i : grid0.Coords) (k0_t17 : Fin (k0_t17_loop i).trips) (v782 : BitVec 32) (k0_hw55 : k0_chk55 i k0_t17 v782) (k0_t33 : Fin (k0_t33_loop v782).trips), ∀ a, (k0_off103 i k0_t17 v782 k0_t33) a + S16.size a ≤ S8192.size a := fun i k0_t17 v782 k0_hw55 k0_t33 => k0_hw55.2.2.2.2.2.2.2.2.2.1 k0_t33
theorem k0_off104_inb : ∀ (i : grid0.Coords) (k0_t17 : Fin (k0_t17_loop i).trips) (v782 : BitVec 32) (k0_hw55 : k0_chk55 i k0_t17 v782) (k0_t33 : Fin (k0_t33_loop v782).trips), ∀ a, (k0_off104 v782 k0_t33) a + S1x1x16.size a ≤ S4x32x64.size a := fun i k0_t17 v782 k0_hw55 k0_t33 => k0_hw55.2.2.2.2.2.2.2.2.2.2.1 k0_t33
theorem k0_off105_inb : ∀ (i : grid0.Coords) (k0_t17 : Fin (k0_t17_loop i).trips) (v782 : BitVec 32) (k0_hw55 : k0_chk55 i k0_t17 v782) (k0_t33 : Fin (k0_t33_loop v782).trips), ∀ a, (k0_off105 v782 k0_t33) a + S1x1x16.size a ≤ S4x32x64.size a := fun i k0_t17 v782 k0_hw55 k0_t33 => k0_hw55.2.2.2.2.2.2.2.2.2.2.2.1 k0_t33
theorem k0_off106_inb : ∀ (i : grid0.Coords) (k0_t17 : Fin (k0_t17_loop i).trips) (v782 : BitVec 32) (k0_hw55 : k0_chk55 i k0_t17 v782) (k0_t33 : Fin (k0_t33_loop v782).trips), ∀ a, (k0_off106 v782 k0_t33) a + S1x1x16.size a ≤ S4x32x64.size a := fun i k0_t17 v782 k0_hw55 k0_t33 => k0_hw55.2.2.2.2.2.2.2.2.2.2.2.2.1 k0_t33
theorem k0_off107_inb : ∀ (i : grid0.Coords) (k0_t17 : Fin (k0_t17_loop i).trips) (v782 : BitVec 32) (k0_hw55 : k0_chk55 i k0_t17 v782) (k0_t33 : Fin (k0_t33_loop v782).trips), ∀ a, (k0_off107 v782 k0_t33) a + S1x1x16.size a ≤ S4x32x64.size a := fun i k0_t17 v782 k0_hw55 k0_t33 => k0_hw55.2.2.2.2.2.2.2.2.2.2.2.2.2 k0_t33

def k0_off108 (i : grid0.Coords) (k0_t17 : Fin (k0_t17_loop i).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_418 : BitVec 32 := 4#32
  let v805 : BitVec 32 := Scalar.addi v736 c4_i32_418
  let c0_i32_420 : BitVec 32 := 0#32
  let v807 : BitVec 1 := Scalar.cmpi .sgt v805 c0_i32_420
  let v808 : BitVec 32 := Scalar.extui v807
  let c0_i32_421 : BitVec 32 := 0#32
  let v809 : BitVec 1 := Scalar.cmpi .slt v805 c0_i32_421
  let v810 : BitVec 32 := Scalar.extui v809
  let v811 : BitVec 32 := Scalar.subi v808 v810
  let c16_i32_419 : BitVec 32 := 16#32
  let c0_i32_422 : BitVec 32 := 0#32
  let v812 : BitVec 1 := Scalar.cmpi .sgt c16_i32_419 c0_i32_422
  let v813 : BitVec 32 := Scalar.extui v812
  let c0_i32_423 : BitVec 32 := 0#32
  let v814 : BitVec 1 := Scalar.cmpi .slt c16_i32_419 c0_i32_423
  let v815 : BitVec 32 := Scalar.extui v814
  let v816 : BitVec 32 := Scalar.subi v813 v815
  let v817 : BitVec 1 := Scalar.cmpi .ne v811 v816
  let v818 : BitVec 32 := Scalar.remsi v805 c16_i32_419
  let c0_i32_424 : BitVec 32 := 0#32
  let v819 : BitVec 1 := Scalar.cmpi .ne v818 c0_i32_424
  let v820 : BitVec 1 := Scalar.andi v817 v819
  let v806 : BitVec 32 := Scalar.divsi v805 c16_i32_419
  let c1_i32_425 : BitVec 32 := 1#32
  let v821 : BitVec 32 := Scalar.subi v806 c1_i32_425
  let v822 : BitVec 32 := Scalar.select v820 v821 v806
  let c16_i32_426 : BitVec 32 := 16#32
  let v823 : BitVec 32 := Scalar.muli v822 c16_i32_426
  let v824 : Index := Scalar.indexCast v823
  ![v824.toNat]
def k0_off109 (i : grid0.Coords) (k0_t17 : Fin (k0_t17_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c128_i32_501 : BitVec 32 := 128#32
  let v988 : BitVec 32 := Scalar.muli v987 c128_i32_501
  let v989 : BitVec 32 := Scalar.addi v10 v988
  ![0, v989.toNat]
def k0_cond12 (i : grid0.Coords) (k0_t17 : Fin (k0_t17_loop i).trips) (v851 : BitVec 32) : BitVec 1 :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_417 : BitVec 32 := 4#32
  let v803 : BitVec 32 := Scalar.addi v736 c4_i32_417
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v804 : BitVec 1 := Scalar.cmpi .slt v803 v9
  let c32_i32_437 : BitVec 32 := 32#32
  let v852 : BitVec 32 := Scalar.minsi v851 c32_i32_437
  let c0_i32_438 : BitVec 32 := 0#32
  let v853 : BitVec 1 := Scalar.cmpi .sgt v852 c0_i32_438
  let v854 : BitVec 1 := Scalar.andi v804 v853
  let v855 : BitVec 32 := Scalar.extui v854
  let c0_i32_439 : BitVec 32 := 0#32
  let v856 : BitVec 1 := Scalar.cmpi .ne v855 c0_i32_439
  v856

def k0_chk64 (i : grid0.Coords) (k0_t17 : Fin (k0_t17_loop i).trips) (v851 : BitVec 32) : Prop :=
  (∀ (k0_h12 : k0_cond12 i k0_t17 v851 = 1#1), ∀ a, (k0_off109 i k0_t17) a + S64x128.size a ≤ S64x1000064.size a)
theorem k0_off109_inb : ∀ (i : grid0.Coords) (k0_t17 : Fin (k0_t17_loop i).trips) (v851 : BitVec 32) (k0_hw64 : k0_chk64 i k0_t17 v851), ∀ (k0_h12 : k0_cond12 i k0_t17 v851 = 1#1), ∀ a, (k0_off109 i k0_t17) a + S64x128.size a ≤ S64x1000064.size a := fun i k0_t17 v851 k0_hw64 k0_h12 => k0_hw64 k0_h12

def k0_cond13 (i : grid0.Coords) (k0_t17 : Fin (k0_t17_loop i).trips) : BitVec 1 :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_440 : BitVec 32 := 4#32
  let v857 : BitVec 32 := Scalar.addi v736 c4_i32_440
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v858 : BitVec 1 := Scalar.cmpi .slt v857 v9
  let v859 : BitVec 32 := Scalar.extui v858
  let c0_i32_441 : BitVec 32 := 0#32
  let v860 : BitVec 1 := Scalar.cmpi .ne v859 c0_i32_441
  v860

def k0_off110 (i : grid0.Coords) (k0_t17 : Fin (k0_t17_loop i).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t34_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off111 (i : grid0.Coords) (k0_t17 : Fin (k0_t17_loop i).trips) (v1033 : BitVec 32) (k0_t34 : Fin (k0_t34_loop v1033).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t34
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off112 (v1033 : BitVec 32) (k0_t34 : Fin (k0_t34_loop v1033).trips) : Fin 2 → Nat :=
  let c0_i32_521 : BitVec 32 := 0#32
  let c1_i32_523 : BitVec 32 := 1#32
  let arg26 : BitVec 32 := Scf.iv c0_i32_521 c1_i32_523 k0_t34
  let c0_i32_547 : BitVec 32 := 0#32
  ![arg26.toNat, 0]
def k0_off113 (v1087 : BitVec 32) : Fin 2 → Nat :=
  let c0_i32_548 : BitVec 32 := 0#32
  ![v1087.toNat, 0]

def k0_chk66 (i : grid0.Coords) (k0_t17 : Fin (k0_t17_loop i).trips) (v1087 : BitVec 32) : Prop :=
  (∀ (k0_h13 : k0_cond13 i k0_t17 = 1#1), ∀ a, (k0_off113 v1087) a + S1x64.size a ≤ S16384x64.size a)
theorem k0_off113_inb : ∀ (i : grid0.Coords) (k0_t17 : Fin (k0_t17_loop i).trips) (v1087 : BitVec 32) (k0_hw66 : k0_chk66 i k0_t17 v1087), ∀ (k0_h13 : k0_cond13 i k0_t17 = 1#1), ∀ a, (k0_off113 v1087) a + S1x64.size a ≤ S16384x64.size a := fun i k0_t17 v1087 k0_hw66 k0_h13 => k0_hw66 k0_h13

def k0_off114 (v1033 : BitVec 32) (k0_t34 : Fin (k0_t34_loop v1033).trips) : Fin 2 → Nat :=
  let c0_i32_521 : BitVec 32 := 0#32
  let c1_i32_523 : BitVec 32 := 1#32
  let arg26 : BitVec 32 := Scf.iv c0_i32_521 c1_i32_523 k0_t34
  let c0_i32_551 : BitVec 32 := 0#32
  ![arg26.toNat, 0]
@[reducible] def k0_t35_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off115 (i : grid0.Coords) (k0_t17 : Fin (k0_t17_loop i).trips) (v1033 : BitVec 32) (k0_t35 : Fin (k0_t35_loop v1033).trips) : Fin 1 → Nat :=
  let c4_i32_384 : BitVec 32 := 4#32
  let c0_i32_263 : BitVec 32 := 0#32
  let c1_i32_265 : BitVec 32 := 1#32
  let arg21 : BitVec 32 := Scf.iv c0_i32_263 c1_i32_265 k0_t17
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t35
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off116 (v1033 : BitVec 32) (k0_t35 : Fin (k0_t35_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t35
  let c0_i32_547 : BitVec 32 := 0#32
  ![arg26.toNat, 0]
def k0_off117 (v1087 : BitVec 32) : Fin 2 → Nat :=
  let c0_i32_548 : BitVec 32 := 0#32
  ![v1087.toNat, 0]

def k0_chk67 (i : grid0.Coords) (k0_t17 : Fin (k0_t17_loop i).trips) (v1087 : BitVec 32) : Prop :=
  (∀ (k0_h13 : k0_cond13 i k0_t17 = 1#1), ∀ a, (k0_off117 v1087) a + S1x64.size a ≤ S16384x64.size a)
theorem k0_off117_inb : ∀ (i : grid0.Coords) (k0_t17 : Fin (k0_t17_loop i).trips) (v1087 : BitVec 32) (k0_hw67 : k0_chk67 i k0_t17 v1087), ∀ (k0_h13 : k0_cond13 i k0_t17 = 1#1), ∀ a, (k0_off117 v1087) a + S1x64.size a ≤ S16384x64.size a := fun i k0_t17 v1087 k0_hw67 k0_h13 => k0_hw67 k0_h13

def k0_off118 (v1033 : BitVec 32) (k0_t35 : Fin (k0_t35_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t35
  let c0_i32_551 : BitVec 32 := 0#32
  ![arg26.toNat, 0]

def k0_chk65 (i : grid0.Coords) (k0_t17 : Fin (k0_t17_loop i).trips) (v1033 : BitVec 32) : Prop :=
  (∀ (k0_h13 : k0_cond13 i k0_t17 = 1#1), (k0_t34_loop v1033).OK) ∧
  (∀ k0_t34 : Fin (k0_t34_loop v1033).trips, ∀ (k0_h13 : k0_cond13 i k0_t17 = 1#1), ∀ a, (k0_off111 i k0_t17 v1033 k0_t34) a + S16.size a ≤ S8192.size a) ∧
  (∀ k0_t34 : Fin (k0_t34_loop v1033).trips, ∀ (k0_h13 : k0_cond13 i k0_t17 = 1#1), ∀ a, (k0_off112 v1033 k0_t34) a + S1x64.size a ≤ S32x64.size a) ∧
  (∀ k0_t34 : Fin (k0_t34_loop v1033).trips, ∀ (k0_h13 : k0_cond13 i k0_t17 = 1#1), ∀ a, (k0_off114 v1033 k0_t34) a + S1x64.size a ≤ S32x64.size a) ∧
  (∀ (k0_h13 : k0_cond13 i k0_t17 = 1#1), (k0_t35_loop v1033).OK) ∧
  (∀ k0_t35 : Fin (k0_t35_loop v1033).trips, ∀ (k0_h13 : k0_cond13 i k0_t17 = 1#1), ∀ a, (k0_off115 i k0_t17 v1033 k0_t35) a + S16.size a ≤ S8192.size a) ∧
  (∀ k0_t35 : Fin (k0_t35_loop v1033).trips, ∀ (k0_h13 : k0_cond13 i k0_t17 = 1#1), ∀ a, (k0_off116 v1033 k0_t35) a + S1x64.size a ≤ S32x64.size a) ∧
  (∀ k0_t35 : Fin (k0_t35_loop v1033).trips, ∀ (k0_h13 : k0_cond13 i k0_t17 = 1#1), ∀ a, (k0_off118 v1033 k0_t35) a + S1x64.size a ≤ S32x64.size a)
theorem k0_t34_ok : ∀ (i : grid0.Coords) (k0_t17 : Fin (k0_t17_loop i).trips) (v1033 : BitVec 32) (k0_hw65 : k0_chk65 i k0_t17 v1033), ∀ (k0_h13 : k0_cond13 i k0_t17 = 1#1), (k0_t34_loop v1033).OK := fun i k0_t17 v1033 k0_hw65 k0_h13 => k0_hw65.1 k0_h13
theorem k0_off111_inb : ∀ (i : grid0.Coords) (k0_t17 : Fin (k0_t17_loop i).trips) (v1033 : BitVec 32) (k0_hw65 : k0_chk65 i k0_t17 v1033) (k0_t34 : Fin (k0_t34_loop v1033).trips), ∀ (k0_h13 : k0_cond13 i k0_t17 = 1#1), ∀ a, (k0_off111 i k0_t17 v1033 k0_t34) a + S16.size a ≤ S8192.size a := fun i k0_t17 v1033 k0_hw65 k0_t34 k0_h13 => k0_hw65.2.1 k0_t34 k0_h13
theorem k0_off112_inb : ∀ (i : grid0.Coords) (k0_t17 : Fin (k0_t17_loop i).trips) (v1033 : BitVec 32) (k0_hw65 : k0_chk65 i k0_t17 v1033) (k0_t34 : Fin (k0_t34_loop v1033).trips), ∀ (k0_h13 : k0_cond13 i k0_t17 = 1#1), ∀ a, (k0_off112 v1033 k0_t34) a + S1x64.size a ≤ S32x64.size a := fun i k0_t17 v1033 k0_hw65 k0_t34 k0_h13 => k0_hw65.2.2.1 k0_t34 k0_h13
theorem k0_off114_inb : ∀ (i : grid0.Coords) (k0_t17 : Fin (k0_t17_loop i).trips) (v1033 : BitVec 32) (k0_hw65 : k0_chk65 i k0_t17 v1033) (k0_t34 : Fin (k0_t34_loop v1033).trips), ∀ (k0_h13 : k0_cond13 i k0_t17 = 1#1), ∀ a, (k0_off114 v1033 k0_t34) a + S1x64.size a ≤ S32x64.size a := fun i k0_t17 v1033 k0_hw65 k0_t34 k0_h13 => k0_hw65.2.2.2.1 k0_t34 k0_h13
theorem k0_t35_ok : ∀ (i : grid0.Coords) (k0_t17 : Fin (k0_t17_loop i).trips) (v1033 : BitVec 32) (k0_hw65 : k0_chk65 i k0_t17 v1033), ∀ (k0_h13 : k0_cond13 i k0_t17 = 1#1), (k0_t35_loop v1033).OK := fun i k0_t17 v1033 k0_hw65 k0_h13 => k0_hw65.2.2.2.2.1 k0_h13
theorem k0_off115_inb : ∀ (i : grid0.Coords) (k0_t17 : Fin (k0_t17_loop i).trips) (v1033 : BitVec 32) (k0_hw65 : k0_chk65 i k0_t17 v1033) (k0_t35 : Fin (k0_t35_loop v1033).trips), ∀ (k0_h13 : k0_cond13 i k0_t17 = 1#1), ∀ a, (k0_off115 i k0_t17 v1033 k0_t35) a + S16.size a ≤ S8192.size a := fun i k0_t17 v1033 k0_hw65 k0_t35 k0_h13 => k0_hw65.2.2.2.2.2.1 k0_t35 k0_h13
theorem k0_off116_inb : ∀ (i : grid0.Coords) (k0_t17 : Fin (k0_t17_loop i).trips) (v1033 : BitVec 32) (k0_hw65 : k0_chk65 i k0_t17 v1033) (k0_t35 : Fin (k0_t35_loop v1033).trips), ∀ (k0_h13 : k0_cond13 i k0_t17 = 1#1), ∀ a, (k0_off116 v1033 k0_t35) a + S1x64.size a ≤ S32x64.size a := fun i k0_t17 v1033 k0_hw65 k0_t35 k0_h13 => k0_hw65.2.2.2.2.2.2.1 k0_t35 k0_h13
theorem k0_off118_inb : ∀ (i : grid0.Coords) (k0_t17 : Fin (k0_t17_loop i).trips) (v1033 : BitVec 32) (k0_hw65 : k0_chk65 i k0_t17 v1033) (k0_t35 : Fin (k0_t35_loop v1033).trips), ∀ (k0_h13 : k0_cond13 i k0_t17 = 1#1), ∀ a, (k0_off118 v1033 k0_t35) a + S1x64.size a ≤ S32x64.size a := fun i k0_t17 v1033 k0_hw65 k0_t35 k0_h13 => k0_hw65.2.2.2.2.2.2.2 k0_t35 k0_h13

def k0_off119 (i : grid0.Coords) (k0_t17 : Fin (k0_t17_loop i).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c0_i32_445 : BitVec 32 := 0#32
  let v864 : BitVec 1 := Scalar.cmpi .sgt v862 c0_i32_445
  let v865 : BitVec 32 := Scalar.extui v864
  let c0_i32_446 : BitVec 32 := 0#32
  let v866 : BitVec 1 := Scalar.cmpi .slt v862 c0_i32_446
  let v867 : BitVec 32 := Scalar.extui v866
  let v868 : BitVec 32 := Scalar.subi v865 v867
  let c16_i32_444 : BitVec 32 := 16#32
  let c0_i32_447 : BitVec 32 := 0#32
  let v869 : BitVec 1 := Scalar.cmpi .sgt c16_i32_444 c0_i32_447
  let v870 : BitVec 32 := Scalar.extui v869
  let c0_i32_448 : BitVec 32 := 0#32
  let v871 : BitVec 1 := Scalar.cmpi .slt c16_i32_444 c0_i32_448
  let v872 : BitVec 32 := Scalar.extui v871
  let v873 : BitVec 32 := Scalar.subi v870 v872
  let v874 : BitVec 1 := Scalar.cmpi .ne v868 v873
  let v875 : BitVec 32 := Scalar.remsi v862 c16_i32_444
  let c0_i32_449 : BitVec 32 := 0#32
  let v876 : BitVec 1 := Scalar.cmpi .ne v875 c0_i32_449
  let v877 : BitVec 1 := Scalar.andi v874 v876
  let v863 : BitVec 32 := Scalar.divsi v862 c16_i32_444
  let c1_i32_450 : BitVec 32 := 1#32
  let v878 : BitVec 32 := Scalar.subi v863 c1_i32_450
  let v879 : BitVec 32 := Scalar.select v877 v878 v863
  let c16_i32_451 : BitVec 32 := 16#32
  let v880 : BitVec 32 := Scalar.muli v879 c16_i32_451
  let v881 : Index := Scalar.indexCast v880
  ![v881.toNat]
@[reducible] def k0_t36_loop (v908 : BitVec 32) : Scf.Loop 32 :=
  let c0_i32_466 : BitVec 32 := 0#32
  let c32_i32_462 : BitVec 32 := 32#32
  let v909 : BitVec 32 := Scalar.minsi v908 c32_i32_462
  let v915 : BitVec 32 := Scalar.subi v909 c0_i32_466
  let c1_i32_467 : BitVec 32 := 1#32
  let v917 : BitVec 32 := Scalar.divsi v915 c1_i32_467
  let v918 : BitVec 32 := Scalar.muli v917 c1_i32_467
  let v919 : BitVec 32 := Scalar.addi c0_i32_466 v918
  let c1_i32_468 : BitVec 32 := 1#32
  ⟨c0_i32_466, v919, c1_i32_468⟩

@[reducible] def k0_t37_loop (v908 : BitVec 32) : Scf.Loop 32 :=
  let c0_i32_466 : BitVec 32 := 0#32
  let c32_i32_462 : BitVec 32 := 32#32
  let v909 : BitVec 32 := Scalar.minsi v908 c32_i32_462
  let v915 : BitVec 32 := Scalar.subi v909 c0_i32_466
  let c1_i32_467 : BitVec 32 := 1#32
  let v917 : BitVec 32 := Scalar.divsi v915 c1_i32_467
  let v918 : BitVec 32 := Scalar.muli v917 c1_i32_467
  let v919 : BitVec 32 := Scalar.addi c0_i32_466 v918
  let v916 : BitVec 32 := Scalar.addi c0_i32_466 v915
  let c1_i32_469 : BitVec 32 := 1#32
  ⟨v919, v916, c1_i32_469⟩
@[reducible] def k0_t38_loop (v908 : BitVec 32) : Scf.Loop 32 :=
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_473 : BitVec 32 := 1#32
  ⟨c0_i32_471, v926, c1_i32_473⟩
def k0_off120 (i : grid0.Coords) (k0_t17 : Fin (k0_t17_loop i).trips) (v908 : BitVec 32) (k0_t38 : Fin (k0_t38_loop v908).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c32_i32_500 : BitVec 32 := 32#32
  let v987 : BitVec 32 := Scalar.muli v862 c32_i32_500
  let c0_i32_471 : BitVec 32 := 0#32
  let c1_i32_473 : BitVec 32 := 1#32
  let arg26 : BitVec 32 := Scf.iv c0_i32_471 c1_i32_473 k0_t38
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk69 (v1037 : IVec S16 32) (v1039 : IVec S16 32) : Prop :=
  (∀ a x, ((![v1039, v1037] : Fin 2 → IVec S16 32) a x).toNat < S64x128.size a)
theorem k0_idx57_inb : ∀ (v1037 : IVec S16 32) (v1039 : IVec S16 32) (k0_hw69 : k0_chk69 v1037 v1039), ∀ a x, ((![v1039, v1037] : Fin 2 → IVec S16 32) a x).toNat < S64x128.size a := fun v1037 v1039 k0_hw69 => k0_hw69
def k0_off121 (v908 : BitVec 32) (k0_t38 : Fin (k0_t38_loop v908).trips) : Fin 3 → Nat :=
  let c3_i32_523 : BitVec 32 := 3#32
  let v1043 : Index := Scalar.indexCast c3_i32_523
  let c0_i32_471 : BitVec 32 := 0#32
  let c1_i32_473 : BitVec 32 := 1#32
  let arg26 : BitVec 32 := Scf.iv c0_i32_471 c1_i32_473 k0_t38
  let v1044 : Index := Scalar.indexCast arg26
  let c0_524 : Index := 0#32
  ![3, v1044.toNat, 0]

def k0_chk70 (v1037 : IVec S16 32) (v1050 : IVec S16 32) : Prop :=
  (∀ a x, ((![v1050, v1037] : Fin 2 → IVec S16 32) a x).toNat < S64x128.size a)
theorem k0_idx58_inb : ∀ (v1037 : IVec S16 32) (v1050 : IVec S16 32) (k0_hw70 : k0_chk70 v1037 v1050), ∀ a x, ((![v1050, v1037] : Fin 2 → IVec S16 32) a x).toNat < S64x128.size a := fun v1037 v1050 k0_hw70 => k0_hw70
def k0_off122 (v908 : BitVec 32) (k0_t38 : Fin (k0_t38_loop v908).trips) : Fin 3 → Nat :=
  let c3_i32_529 : BitVec 32 := 3#32
  let v1054 : Index := Scalar.indexCast c3_i32_529
  let c0_i32_471 : BitVec 32 := 0#32
  let c1_i32_473 : BitVec 32 := 1#32
  let arg26 : BitVec 32 := Scf.iv c0_i32_471 c1_i32_473 k0_t38
  let v1055 : Index := Scalar.indexCast arg26
  let c16_530 : Index := 16#32
  ![3, v1055.toNat, 16]

def k0_chk71 (v1037 : IVec S16 32) (v1061 : IVec S16 32) : Prop :=
  (∀ a x, ((![v1061, v1037] : Fin 2 → IVec S16 32) a x).toNat < S64x128.size a)
theorem k0_idx59_inb : ∀ (v1037 : IVec S16 32) (v1061 : IVec S16 32) (k0_hw71 : k0_chk71 v1037 v1061), ∀ a x, ((![v1061, v1037] : Fin 2 → IVec S16 32) a x).toNat < S64x128.size a := fun v1037 v1061 k0_hw71 => k0_hw71
def k0_off123 (v908 : BitVec 32) (k0_t38 : Fin (k0_t38_loop v908).trips) : Fin 3 → Nat :=
  let c3_i32_535 : BitVec 32 := 3#32
  let v1065 : Index := Scalar.indexCast c3_i32_535
  let c0_i32_471 : BitVec 32 := 0#32
  let c1_i32_473 : BitVec 32 := 1#32
  let arg26 : BitVec 32 := Scf.iv c0_i32_471 c1_i32_473 k0_t38
  let v1066 : Index := Scalar.indexCast arg26
  let c32_536 : Index := 32#32
  ![3, v1066.toNat, 32]

def k0_chk72 (v1037 : IVec S16 32) (v1072 : IVec S16 32) : Prop :=
  (∀ a x, ((![v1072, v1037] : Fin 2 → IVec S16 32) a x).toNat < S64x128.size a)
theorem k0_idx60_inb : ∀ (v1037 : IVec S16 32) (v1072 : IVec S16 32) (k0_hw72 : k0_chk72 v1037 v1072), ∀ a x, ((![v1072, v1037] : Fin 2 → IVec S16 32) a x).toNat < S64x128.size a := fun v1037 v1072 k0_hw72 => k0_hw72
def k0_off124 (v908 : BitVec 32) (k0_t38 : Fin (k0_t38_loop v908).trips) : Fin 3 → Nat :=
  let c3_i32_540 : BitVec 32 := 3#32
  let v1076 : Index := Scalar.indexCast c3_i32_540
  let c0_i32_471 : BitVec 32 := 0#32
  let c1_i32_473 : BitVec 32 := 1#32
  let arg26 : BitVec 32 := Scf.iv c0_i32_471 c1_i32_473 k0_t38
  let v1077 : Index := Scalar.indexCast arg26
  let c48_541 : Index := 48#32
  ![3, v1077.toNat, 48]
@[reducible] def k0_t39_loop (v908 : BitVec 32) : Scf.Loop 32 :=
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let v923 : BitVec 32 := Scalar.addi c0_i32_471 v922
  let c1_i32_474 : BitVec 32 := 1#32
  ⟨v926, v923, c1_i32_474⟩
def k0_off125 (i : grid0.Coords) (k0_t17 : Fin (k0_t17_loop i).trips) (v908 : BitVec 32) (k0_t39 : Fin (k0_t39_loop v908).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c32_i32_500 : BitVec 32 := 32#32
  let v987 : BitVec 32 := Scalar.muli v862 c32_i32_500
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t39
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk73 (v1037 : IVec S16 32) (v1039 : IVec S16 32) : Prop :=
  (∀ a x, ((![v1039, v1037] : Fin 2 → IVec S16 32) a x).toNat < S64x128.size a)
theorem k0_idx61_inb : ∀ (v1037 : IVec S16 32) (v1039 : IVec S16 32) (k0_hw73 : k0_chk73 v1037 v1039), ∀ a x, ((![v1039, v1037] : Fin 2 → IVec S16 32) a x).toNat < S64x128.size a := fun v1037 v1039 k0_hw73 => k0_hw73
def k0_off126 (v908 : BitVec 32) (k0_t39 : Fin (k0_t39_loop v908).trips) : Fin 3 → Nat :=
  let c3_i32_523 : BitVec 32 := 3#32
  let v1043 : Index := Scalar.indexCast c3_i32_523
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t39
  let v1044 : Index := Scalar.indexCast arg26
  let c0_524 : Index := 0#32
  ![3, v1044.toNat, 0]

def k0_chk74 (v1037 : IVec S16 32) (v1050 : IVec S16 32) : Prop :=
  (∀ a x, ((![v1050, v1037] : Fin 2 → IVec S16 32) a x).toNat < S64x128.size a)
theorem k0_idx62_inb : ∀ (v1037 : IVec S16 32) (v1050 : IVec S16 32) (k0_hw74 : k0_chk74 v1037 v1050), ∀ a x, ((![v1050, v1037] : Fin 2 → IVec S16 32) a x).toNat < S64x128.size a := fun v1037 v1050 k0_hw74 => k0_hw74
def k0_off127 (v908 : BitVec 32) (k0_t39 : Fin (k0_t39_loop v908).trips) : Fin 3 → Nat :=
  let c3_i32_529 : BitVec 32 := 3#32
  let v1054 : Index := Scalar.indexCast c3_i32_529
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t39
  let v1055 : Index := Scalar.indexCast arg26
  let c16_530 : Index := 16#32
  ![3, v1055.toNat, 16]

def k0_chk75 (v1037 : IVec S16 32) (v1061 : IVec S16 32) : Prop :=
  (∀ a x, ((![v1061, v1037] : Fin 2 → IVec S16 32) a x).toNat < S64x128.size a)
theorem k0_idx63_inb : ∀ (v1037 : IVec S16 32) (v1061 : IVec S16 32) (k0_hw75 : k0_chk75 v1037 v1061), ∀ a x, ((![v1061, v1037] : Fin 2 → IVec S16 32) a x).toNat < S64x128.size a := fun v1037 v1061 k0_hw75 => k0_hw75
def k0_off128 (v908 : BitVec 32) (k0_t39 : Fin (k0_t39_loop v908).trips) : Fin 3 → Nat :=
  let c3_i32_535 : BitVec 32 := 3#32
  let v1065 : Index := Scalar.indexCast c3_i32_535
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t39
  let v1066 : Index := Scalar.indexCast arg26
  let c32_536 : Index := 32#32
  ![3, v1066.toNat, 32]

def k0_chk76 (v1037 : IVec S16 32) (v1072 : IVec S16 32) : Prop :=
  (∀ a x, ((![v1072, v1037] : Fin 2 → IVec S16 32) a x).toNat < S64x128.size a)
theorem k0_idx64_inb : ∀ (v1037 : IVec S16 32) (v1072 : IVec S16 32) (k0_hw76 : k0_chk76 v1037 v1072), ∀ a x, ((![v1072, v1037] : Fin 2 → IVec S16 32) a x).toNat < S64x128.size a := fun v1037 v1072 k0_hw76 => k0_hw76
def k0_off129 (v908 : BitVec 32) (k0_t39 : Fin (k0_t39_loop v908).trips) : Fin 3 → Nat :=
  let c3_i32_540 : BitVec 32 := 3#32
  let v1076 : Index := Scalar.indexCast c3_i32_540
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t39
  let v1077 : Index := Scalar.indexCast arg26
  let c48_541 : Index := 48#32
  ![3, v1077.toNat, 48]

def k0_chk68 (i : grid0.Coords) (k0_t17 : Fin (k0_t17_loop i).trips) (v908 : BitVec 32) : Prop :=
  ((k0_t36_loop v908).OK) ∧
  ((k0_t37_loop v908).OK) ∧
  ((k0_t38_loop v908).OK) ∧
  (∀ k0_t38 : Fin (k0_t38_loop v908).trips, ∀ a, (k0_off120 i k0_t17 v908 k0_t38) a + S16.size a ≤ S8192.size a) ∧
  (∀ k0_t38 : Fin (k0_t38_loop v908).trips, ∀ a, (k0_off121 v908 k0_t38) a + S1x1x16.size a ≤ S4x32x64.size a) ∧
  (∀ k0_t38 : Fin (k0_t38_loop v908).trips, ∀ a, (k0_off122 v908 k0_t38) a + S1x1x16.size a ≤ S4x32x64.size a) ∧
  (∀ k0_t38 : Fin (k0_t38_loop v908).trips, ∀ a, (k0_off123 v908 k0_t38) a + S1x1x16.size a ≤ S4x32x64.size a) ∧
  (∀ k0_t38 : Fin (k0_t38_loop v908).trips, ∀ a, (k0_off124 v908 k0_t38) a + S1x1x16.size a ≤ S4x32x64.size a) ∧
  ((k0_t39_loop v908).OK) ∧
  (∀ k0_t39 : Fin (k0_t39_loop v908).trips, ∀ a, (k0_off125 i k0_t17 v908 k0_t39) a + S16.size a ≤ S8192.size a) ∧
  (∀ k0_t39 : Fin (k0_t39_loop v908).trips, ∀ a, (k0_off126 v908 k0_t39) a + S1x1x16.size a ≤ S4x32x64.size a) ∧
  (∀ k0_t39 : Fin (k0_t39_loop v908).trips, ∀ a, (k0_off127 v908 k0_t39) a + S1x1x16.size a ≤ S4x32x64.size a) ∧
  (∀ k0_t39 : Fin (k0_t39_loop v908).trips, ∀ a, (k0_off128 v908 k0_t39) a + S1x1x16.size a ≤ S4x32x64.size a) ∧
  (∀ k0_t39 : Fin (k0_t39_loop v908).trips, ∀ a, (k0_off129 v908 k0_t39) a + S1x1x16.size a ≤ S4x32x64.size a)
theorem k0_t36_ok : ∀ (i : grid0.Coords) (k0_t17 : Fin (k0_t17_loop i).trips) (v908 : BitVec 32) (k0_hw68 : k0_chk68 i k0_t17 v908), (k0_t36_loop v908).OK := fun i k0_t17 v908 k0_hw68 => k0_hw68.1
theorem k0_t37_ok : ∀ (i : grid0.Coords) (k0_t17 : Fin (k0_t17_loop i).trips) (v908 : BitVec 32) (k0_hw68 : k0_chk68 i k0_t17 v908), (k0_t37_loop v908).OK := fun i k0_t17 v908 k0_hw68 => k0_hw68.2.1
theorem k0_t38_ok : ∀ (i : grid0.Coords) (k0_t17 : Fin (k0_t17_loop i).trips) (v908 : BitVec 32) (k0_hw68 : k0_chk68 i k0_t17 v908), (k0_t38_loop v908).OK := fun i k0_t17 v908 k0_hw68 => k0_hw68.2.2.1
theorem k0_off120_inb : ∀ (i : grid0.Coords) (k0_t17 : Fin (k0_t17_loop i).trips) (v908 : BitVec 32) (k0_hw68 : k0_chk68 i k0_t17 v908) (k0_t38 : Fin (k0_t38_loop v908).trips), ∀ a, (k0_off120 i k0_t17 v908 k0_t38) a + S16.size a ≤ S8192.size a := fun i k0_t17 v908 k0_hw68 k0_t38 => k0_hw68.2.2.2.1 k0_t38
theorem k0_off121_inb : ∀ (i : grid0.Coords) (k0_t17 : Fin (k0_t17_loop i).trips) (v908 : BitVec 32) (k0_hw68 : k0_chk68 i k0_t17 v908) (k0_t38 : Fin (k0_t38_loop v908).trips), ∀ a, (k0_off121 v908 k0_t38) a + S1x1x16.size a ≤ S4x32x64.size a := fun i k0_t17 v908 k0_hw68 k0_t38 => k0_hw68.2.2.2.2.1 k0_t38
theorem k0_off122_inb : ∀ (i : grid0.Coords) (k0_t17 : Fin (k0_t17_loop i).trips) (v908 : BitVec 32) (k0_hw68 : k0_chk68 i k0_t17 v908) (k0_t38 : Fin (k0_t38_loop v908).trips), ∀ a, (k0_off122 v908 k0_t38) a + S1x1x16.size a ≤ S4x32x64.size a := fun i k0_t17 v908 k0_hw68 k0_t38 => k0_hw68.2.2.2.2.2.1 k0_t38
theorem k0_off123_inb : ∀ (i : grid0.Coords) (k0_t17 : Fin (k0_t17_loop i).trips) (v908 : BitVec 32) (k0_hw68 : k0_chk68 i k0_t17 v908) (k0_t38 : Fin (k0_t38_loop v908).trips), ∀ a, (k0_off123 v908 k0_t38) a + S1x1x16.size a ≤ S4x32x64.size a := fun i k0_t17 v908 k0_hw68 k0_t38 => k0_hw68.2.2.2.2.2.2.1 k0_t38
theorem k0_off124_inb : ∀ (i : grid0.Coords) (k0_t17 : Fin (k0_t17_loop i).trips) (v908 : BitVec 32) (k0_hw68 : k0_chk68 i k0_t17 v908) (k0_t38 : Fin (k0_t38_loop v908).trips), ∀ a, (k0_off124 v908 k0_t38) a + S1x1x16.size a ≤ S4x32x64.size a := fun i k0_t17 v908 k0_hw68 k0_t38 => k0_hw68.2.2.2.2.2.2.2.1 k0_t38
theorem k0_t39_ok : ∀ (i : grid0.Coords) (k0_t17 : Fin (k0_t17_loop i).trips) (v908 : BitVec 32) (k0_hw68 : k0_chk68 i k0_t17 v908), (k0_t39_loop v908).OK := fun i k0_t17 v908 k0_hw68 => k0_hw68.2.2.2.2.2.2.2.2.1
theorem k0_off125_inb : ∀ (i : grid0.Coords) (k0_t17 : Fin (k0_t17_loop i).trips) (v908 : BitVec 32) (k0_hw68 : k0_chk68 i k0_t17 v908) (k0_t39 : Fin (k0_t39_loop v908).trips), ∀ a, (k0_off125 i k0_t17 v908 k0_t39) a + S16.size a ≤ S8192.size a := fun i k0_t17 v908 k0_hw68 k0_t39 => k0_hw68.2.2.2.2.2.2.2.2.2.1 k0_t39
theorem k0_off126_inb : ∀ (i : grid0.Coords) (k0_t17 : Fin (k0_t17_loop i).trips) (v908 : BitVec 32) (k0_hw68 : k0_chk68 i k0_t17 v908) (k0_t39 : Fin (k0_t39_loop v908).trips), ∀ a, (k0_off126 v908 k0_t39) a + S1x1x16.size a ≤ S4x32x64.size a := fun i k0_t17 v908 k0_hw68 k0_t39 => k0_hw68.2.2.2.2.2.2.2.2.2.2.1 k0_t39
theorem k0_off127_inb : ∀ (i : grid0.Coords) (k0_t17 : Fin (k0_t17_loop i).trips) (v908 : BitVec 32) (k0_hw68 : k0_chk68 i k0_t17 v908) (k0_t39 : Fin (k0_t39_loop v908).trips), ∀ a, (k0_off127 v908 k0_t39) a + S1x1x16.size a ≤ S4x32x64.size a := fun i k0_t17 v908 k0_hw68 k0_t39 => k0_hw68.2.2.2.2.2.2.2.2.2.2.2.1 k0_t39
theorem k0_off128_inb : ∀ (i : grid0.Coords) (k0_t17 : Fin (k0_t17_loop i).trips) (v908 : BitVec 32) (k0_hw68 : k0_chk68 i k0_t17 v908) (k0_t39 : Fin (k0_t39_loop v908).trips), ∀ a, (k0_off128 v908 k0_t39) a + S1x1x16.size a ≤ S4x32x64.size a := fun i k0_t17 v908 k0_hw68 k0_t39 => k0_hw68.2.2.2.2.2.2.2.2.2.2.2.2.1 k0_t39
theorem k0_off129_inb : ∀ (i : grid0.Coords) (k0_t17 : Fin (k0_t17_loop i).trips) (v908 : BitVec 32) (k0_hw68 : k0_chk68 i k0_t17 v908) (k0_t39 : Fin (k0_t39_loop v908).trips), ∀ a, (k0_off129 v908 k0_t39) a + S1x1x16.size a ≤ S4x32x64.size a := fun i k0_t17 v908 k0_hw68 k0_t39 => k0_hw68.2.2.2.2.2.2.2.2.2.2.2.2.2 k0_t39

def k0_off130 (i : grid0.Coords) (k0_t17 : Fin (k0_t17_loop i).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_476 : BitVec 32 := 4#32
  let v931 : BitVec 32 := Scalar.addi v862 c4_i32_476
  let c0_i32_478 : BitVec 32 := 0#32
  let v933 : BitVec 1 := Scalar.cmpi .sgt v931 c0_i32_478
  let v934 : BitVec 32 := Scalar.extui v933
  let c0_i32_479 : BitVec 32 := 0#32
  let v935 : BitVec 1 := Scalar.cmpi .slt v931 c0_i32_479
  let v936 : BitVec 32 := Scalar.extui v935
  let v937 : BitVec 32 := Scalar.subi v934 v936
  let c16_i32_477 : BitVec 32 := 16#32
  let c0_i32_480 : BitVec 32 := 0#32
  let v938 : BitVec 1 := Scalar.cmpi .sgt c16_i32_477 c0_i32_480
  let v939 : BitVec 32 := Scalar.extui v938
  let c0_i32_481 : BitVec 32 := 0#32
  let v940 : BitVec 1 := Scalar.cmpi .slt c16_i32_477 c0_i32_481
  let v941 : BitVec 32 := Scalar.extui v940
  let v942 : BitVec 32 := Scalar.subi v939 v941
  let v943 : BitVec 1 := Scalar.cmpi .ne v937 v942
  let v944 : BitVec 32 := Scalar.remsi v931 c16_i32_477
  let c0_i32_482 : BitVec 32 := 0#32
  let v945 : BitVec 1 := Scalar.cmpi .ne v944 c0_i32_482
  let v946 : BitVec 1 := Scalar.andi v943 v945
  let v932 : BitVec 32 := Scalar.divsi v931 c16_i32_477
  let c1_i32_483 : BitVec 32 := 1#32
  let v947 : BitVec 32 := Scalar.subi v932 c1_i32_483
  let v948 : BitVec 32 := Scalar.select v946 v947 v932
  let c16_i32_484 : BitVec 32 := 16#32
  let v949 : BitVec 32 := Scalar.muli v948 c16_i32_484
  let v950 : Index := Scalar.indexCast v949
  ![v950.toNat]
def k0_off131 (i : grid0.Coords) (k0_t17 : Fin (k0_t17_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c128_i32_501 : BitVec 32 := 128#32
  let v988 : BitVec 32 := Scalar.muli v987 c128_i32_501
  let v989 : BitVec 32 := Scalar.addi v10 v988
  ![0, v989.toNat]
def k0_cond15 (i : grid0.Coords) (k0_t17 : Fin (k0_t17_loop i).trips) (v977 : BitVec 32) : BitVec 1 :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_475 : BitVec 32 := 4#32
  let v929 : BitVec 32 := Scalar.addi v862 c4_i32_475
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v930 : BitVec 1 := Scalar.cmpi .slt v929 v9
  let c32_i32_495 : BitVec 32 := 32#32
  let v978 : BitVec 32 := Scalar.minsi v977 c32_i32_495
  let c0_i32_496 : BitVec 32 := 0#32
  let v979 : BitVec 1 := Scalar.cmpi .sgt v978 c0_i32_496
  let v980 : BitVec 1 := Scalar.andi v930 v979
  let v981 : BitVec 32 := Scalar.extui v980
  let c0_i32_497 : BitVec 32 := 0#32
  let v982 : BitVec 1 := Scalar.cmpi .ne v981 c0_i32_497
  v982

def k0_chk77 (i : grid0.Coords) (k0_t17 : Fin (k0_t17_loop i).trips) (v977 : BitVec 32) : Prop :=
  (∀ (k0_h15 : k0_cond15 i k0_t17 v977 = 1#1), ∀ a, (k0_off131 i k0_t17) a + S64x128.size a ≤ S64x1000064.size a)
theorem k0_off131_inb : ∀ (i : grid0.Coords) (k0_t17 : Fin (k0_t17_loop i).trips) (v977 : BitVec 32) (k0_hw77 : k0_chk77 i k0_t17 v977), ∀ (k0_h15 : k0_cond15 i k0_t17 v977 = 1#1), ∀ a, (k0_off131 i k0_t17) a + S64x128.size a ≤ S64x1000064.size a := fun i k0_t17 v977 k0_hw77 k0_h15 => k0_hw77 k0_h15

def k0_cond16 (i : grid0.Coords) (k0_t17 : Fin (k0_t17_loop i).trips) : BitVec 1 :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_498 : BitVec 32 := 4#32
  let v983 : BitVec 32 := Scalar.addi v862 c4_i32_498
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let v984 : BitVec 1 := Scalar.cmpi .slt v983 v9
  let v985 : BitVec 32 := Scalar.extui v984
  let c0_i32_499 : BitVec 32 := 0#32
  let v986 : BitVec 1 := Scalar.cmpi .ne v985 c0_i32_499
  v986

def k0_off132 (i : grid0.Coords) (k0_t17 : Fin (k0_t17_loop i).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t40_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off133 (i : grid0.Coords) (k0_t17 : Fin (k0_t17_loop i).trips) (v1033 : BitVec 32) (k0_t40 : Fin (k0_t40_loop v1033).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t40
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off134 (v1033 : BitVec 32) (k0_t40 : Fin (k0_t40_loop v1033).trips) : Fin 2 → Nat :=
  let c0_i32_521 : BitVec 32 := 0#32
  let c1_i32_523 : BitVec 32 := 1#32
  let arg26 : BitVec 32 := Scf.iv c0_i32_521 c1_i32_523 k0_t40
  let c0_i32_547 : BitVec 32 := 0#32
  ![arg26.toNat, 0]
def k0_off135 (v1087 : BitVec 32) : Fin 2 → Nat :=
  let c0_i32_548 : BitVec 32 := 0#32
  ![v1087.toNat, 0]

def k0_chk79 (i : grid0.Coords) (k0_t17 : Fin (k0_t17_loop i).trips) (v1087 : BitVec 32) : Prop :=
  (∀ (k0_h16 : k0_cond16 i k0_t17 = 1#1), ∀ a, (k0_off135 v1087) a + S1x64.size a ≤ S16384x64.size a)
theorem k0_off135_inb : ∀ (i : grid0.Coords) (k0_t17 : Fin (k0_t17_loop i).trips) (v1087 : BitVec 32) (k0_hw79 : k0_chk79 i k0_t17 v1087), ∀ (k0_h16 : k0_cond16 i k0_t17 = 1#1), ∀ a, (k0_off135 v1087) a + S1x64.size a ≤ S16384x64.size a := fun i k0_t17 v1087 k0_hw79 k0_h16 => k0_hw79 k0_h16

def k0_off136 (v1033 : BitVec 32) (k0_t40 : Fin (k0_t40_loop v1033).trips) : Fin 2 → Nat :=
  let c0_i32_521 : BitVec 32 := 0#32
  let c1_i32_523 : BitVec 32 := 1#32
  let arg26 : BitVec 32 := Scf.iv c0_i32_521 c1_i32_523 k0_t40
  let c0_i32_551 : BitVec 32 := 0#32
  ![arg26.toNat, 0]
@[reducible] def k0_t41_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off137 (i : grid0.Coords) (k0_t17 : Fin (k0_t17_loop i).trips) (v1033 : BitVec 32) (k0_t41 : Fin (k0_t41_loop v1033).trips) : Fin 1 → Nat :=
  let c4_i32_442 : BitVec 32 := 4#32
  let c0_i32_263 : BitVec 32 := 0#32
  let c1_i32_265 : BitVec 32 := 1#32
  let arg21 : BitVec 32 := Scf.iv c0_i32_263 c1_i32_265 k0_t17
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t41
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off138 (v1033 : BitVec 32) (k0_t41 : Fin (k0_t41_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t41
  let c0_i32_547 : BitVec 32 := 0#32
  ![arg26.toNat, 0]
def k0_off139 (v1087 : BitVec 32) : Fin 2 → Nat :=
  let c0_i32_548 : BitVec 32 := 0#32
  ![v1087.toNat, 0]

def k0_chk80 (i : grid0.Coords) (k0_t17 : Fin (k0_t17_loop i).trips) (v1087 : BitVec 32) : Prop :=
  (∀ (k0_h16 : k0_cond16 i k0_t17 = 1#1), ∀ a, (k0_off139 v1087) a + S1x64.size a ≤ S16384x64.size a)
theorem k0_off139_inb : ∀ (i : grid0.Coords) (k0_t17 : Fin (k0_t17_loop i).trips) (v1087 : BitVec 32) (k0_hw80 : k0_chk80 i k0_t17 v1087), ∀ (k0_h16 : k0_cond16 i k0_t17 = 1#1), ∀ a, (k0_off139 v1087) a + S1x64.size a ≤ S16384x64.size a := fun i k0_t17 v1087 k0_hw80 k0_h16 => k0_hw80 k0_h16

def k0_off140 (v1033 : BitVec 32) (k0_t41 : Fin (k0_t41_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t41
  let c0_i32_551 : BitVec 32 := 0#32
  ![arg26.toNat, 0]

def k0_chk78 (i : grid0.Coords) (k0_t17 : Fin (k0_t17_loop i).trips) (v1033 : BitVec 32) : Prop :=
  (∀ (k0_h16 : k0_cond16 i k0_t17 = 1#1), (k0_t40_loop v1033).OK) ∧
  (∀ k0_t40 : Fin (k0_t40_loop v1033).trips, ∀ (k0_h16 : k0_cond16 i k0_t17 = 1#1), ∀ a, (k0_off133 i k0_t17 v1033 k0_t40) a + S16.size a ≤ S8192.size a) ∧
  (∀ k0_t40 : Fin (k0_t40_loop v1033).trips, ∀ (k0_h16 : k0_cond16 i k0_t17 = 1#1), ∀ a, (k0_off134 v1033 k0_t40) a + S1x64.size a ≤ S32x64.size a) ∧
  (∀ k0_t40 : Fin (k0_t40_loop v1033).trips, ∀ (k0_h16 : k0_cond16 i k0_t17 = 1#1), ∀ a, (k0_off136 v1033 k0_t40) a + S1x64.size a ≤ S32x64.size a) ∧
  (∀ (k0_h16 : k0_cond16 i k0_t17 = 1#1), (k0_t41_loop v1033).OK) ∧
  (∀ k0_t41 : Fin (k0_t41_loop v1033).trips, ∀ (k0_h16 : k0_cond16 i k0_t17 = 1#1), ∀ a, (k0_off137 i k0_t17 v1033 k0_t41) a + S16.size a ≤ S8192.size a) ∧
  (∀ k0_t41 : Fin (k0_t41_loop v1033).trips, ∀ (k0_h16 : k0_cond16 i k0_t17 = 1#1), ∀ a, (k0_off138 v1033 k0_t41) a + S1x64.size a ≤ S32x64.size a) ∧
  (∀ k0_t41 : Fin (k0_t41_loop v1033).trips, ∀ (k0_h16 : k0_cond16 i k0_t17 = 1#1), ∀ a, (k0_off140 v1033 k0_t41) a + S1x64.size a ≤ S32x64.size a)
theorem k0_t40_ok : ∀ (i : grid0.Coords) (k0_t17 : Fin (k0_t17_loop i).trips) (v1033 : BitVec 32) (k0_hw78 : k0_chk78 i k0_t17 v1033), ∀ (k0_h16 : k0_cond16 i k0_t17 = 1#1), (k0_t40_loop v1033).OK := fun i k0_t17 v1033 k0_hw78 k0_h16 => k0_hw78.1 k0_h16
theorem k0_off133_inb : ∀ (i : grid0.Coords) (k0_t17 : Fin (k0_t17_loop i).trips) (v1033 : BitVec 32) (k0_hw78 : k0_chk78 i k0_t17 v1033) (k0_t40 : Fin (k0_t40_loop v1033).trips), ∀ (k0_h16 : k0_cond16 i k0_t17 = 1#1), ∀ a, (k0_off133 i k0_t17 v1033 k0_t40) a + S16.size a ≤ S8192.size a := fun i k0_t17 v1033 k0_hw78 k0_t40 k0_h16 => k0_hw78.2.1 k0_t40 k0_h16
theorem k0_off134_inb : ∀ (i : grid0.Coords) (k0_t17 : Fin (k0_t17_loop i).trips) (v1033 : BitVec 32) (k0_hw78 : k0_chk78 i k0_t17 v1033) (k0_t40 : Fin (k0_t40_loop v1033).trips), ∀ (k0_h16 : k0_cond16 i k0_t17 = 1#1), ∀ a, (k0_off134 v1033 k0_t40) a + S1x64.size a ≤ S32x64.size a := fun i k0_t17 v1033 k0_hw78 k0_t40 k0_h16 => k0_hw78.2.2.1 k0_t40 k0_h16
theorem k0_off136_inb : ∀ (i : grid0.Coords) (k0_t17 : Fin (k0_t17_loop i).trips) (v1033 : BitVec 32) (k0_hw78 : k0_chk78 i k0_t17 v1033) (k0_t40 : Fin (k0_t40_loop v1033).trips), ∀ (k0_h16 : k0_cond16 i k0_t17 = 1#1), ∀ a, (k0_off136 v1033 k0_t40) a + S1x64.size a ≤ S32x64.size a := fun i k0_t17 v1033 k0_hw78 k0_t40 k0_h16 => k0_hw78.2.2.2.1 k0_t40 k0_h16
theorem k0_t41_ok : ∀ (i : grid0.Coords) (k0_t17 : Fin (k0_t17_loop i).trips) (v1033 : BitVec 32) (k0_hw78 : k0_chk78 i k0_t17 v1033), ∀ (k0_h16 : k0_cond16 i k0_t17 = 1#1), (k0_t41_loop v1033).OK := fun i k0_t17 v1033 k0_hw78 k0_h16 => k0_hw78.2.2.2.2.1 k0_h16
theorem k0_off137_inb : ∀ (i : grid0.Coords) (k0_t17 : Fin (k0_t17_loop i).trips) (v1033 : BitVec 32) (k0_hw78 : k0_chk78 i k0_t17 v1033) (k0_t41 : Fin (k0_t41_loop v1033).trips), ∀ (k0_h16 : k0_cond16 i k0_t17 = 1#1), ∀ a, (k0_off137 i k0_t17 v1033 k0_t41) a + S16.size a ≤ S8192.size a := fun i k0_t17 v1033 k0_hw78 k0_t41 k0_h16 => k0_hw78.2.2.2.2.2.1 k0_t41 k0_h16
theorem k0_off138_inb : ∀ (i : grid0.Coords) (k0_t17 : Fin (k0_t17_loop i).trips) (v1033 : BitVec 32) (k0_hw78 : k0_chk78 i k0_t17 v1033) (k0_t41 : Fin (k0_t41_loop v1033).trips), ∀ (k0_h16 : k0_cond16 i k0_t17 = 1#1), ∀ a, (k0_off138 v1033 k0_t41) a + S1x64.size a ≤ S32x64.size a := fun i k0_t17 v1033 k0_hw78 k0_t41 k0_h16 => k0_hw78.2.2.2.2.2.2.1 k0_t41 k0_h16
theorem k0_off140_inb : ∀ (i : grid0.Coords) (k0_t17 : Fin (k0_t17_loop i).trips) (v1033 : BitVec 32) (k0_hw78 : k0_chk78 i k0_t17 v1033) (k0_t41 : Fin (k0_t41_loop v1033).trips), ∀ (k0_h16 : k0_cond16 i k0_t17 = 1#1), ∀ a, (k0_off140 v1033 k0_t41) a + S1x64.size a ≤ S32x64.size a := fun i k0_t17 v1033 k0_hw78 k0_t41 k0_h16 => k0_hw78.2.2.2.2.2.2.2 k0_t41 k0_h16

@[reducible] def k0_t42_loop (i : grid0.Coords) : Scf.Loop 32 :=
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let v473 : BitVec 32 := Scalar.addi c0_i32_263 v472
  let c1_i32_266 : BitVec 32 := 1#32
  ⟨v476, v473, c1_i32_266⟩
def k0_off141 (i : grid0.Coords) (k0_t42 : Fin (k0_t42_loop i).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c0_i32_271 : BitVec 32 := 0#32
  let v486 : BitVec 1 := Scalar.cmpi .sgt v484 c0_i32_271
  let v487 : BitVec 32 := Scalar.extui v486
  let c0_i32_272 : BitVec 32 := 0#32
  let v488 : BitVec 1 := Scalar.cmpi .slt v484 c0_i32_272
  let v489 : BitVec 32 := Scalar.extui v488
  let v490 : BitVec 32 := Scalar.subi v487 v489
  let c16_i32_270 : BitVec 32 := 16#32
  let c0_i32_273 : BitVec 32 := 0#32
  let v491 : BitVec 1 := Scalar.cmpi .sgt c16_i32_270 c0_i32_273
  let v492 : BitVec 32 := Scalar.extui v491
  let c0_i32_274 : BitVec 32 := 0#32
  let v493 : BitVec 1 := Scalar.cmpi .slt c16_i32_270 c0_i32_274
  let v494 : BitVec 32 := Scalar.extui v493
  let v495 : BitVec 32 := Scalar.subi v492 v494
  let v496 : BitVec 1 := Scalar.cmpi .ne v490 v495
  let v497 : BitVec 32 := Scalar.remsi v484 c16_i32_270
  let c0_i32_275 : BitVec 32 := 0#32
  let v498 : BitVec 1 := Scalar.cmpi .ne v497 c0_i32_275
  let v499 : BitVec 1 := Scalar.andi v496 v498
  let v485 : BitVec 32 := Scalar.divsi v484 c16_i32_270
  let c1_i32_276 : BitVec 32 := 1#32
  let v500 : BitVec 32 := Scalar.subi v485 c1_i32_276
  let v501 : BitVec 32 := Scalar.select v499 v500 v485
  let c16_i32_277 : BitVec 32 := 16#32
  let v502 : BitVec 32 := Scalar.muli v501 c16_i32_277
  let v503 : Index := Scalar.indexCast v502
  ![v503.toNat]
@[reducible] def k0_t43_loop (v530 : BitVec 32) : Scf.Loop 32 :=
  let c0_i32_292 : BitVec 32 := 0#32
  let c32_i32_288 : BitVec 32 := 32#32
  let v531 : BitVec 32 := Scalar.minsi v530 c32_i32_288
  let v537 : BitVec 32 := Scalar.subi v531 c0_i32_292
  let c1_i32_293 : BitVec 32 := 1#32
  let v539 : BitVec 32 := Scalar.divsi v537 c1_i32_293
  let v540 : BitVec 32 := Scalar.muli v539 c1_i32_293
  let v541 : BitVec 32 := Scalar.addi c0_i32_292 v540
  let c1_i32_294 : BitVec 32 := 1#32
  ⟨c0_i32_292, v541, c1_i32_294⟩

@[reducible] def k0_t44_loop (v530 : BitVec 32) : Scf.Loop 32 :=
  let c0_i32_292 : BitVec 32 := 0#32
  let c32_i32_288 : BitVec 32 := 32#32
  let v531 : BitVec 32 := Scalar.minsi v530 c32_i32_288
  let v537 : BitVec 32 := Scalar.subi v531 c0_i32_292
  let c1_i32_293 : BitVec 32 := 1#32
  let v539 : BitVec 32 := Scalar.divsi v537 c1_i32_293
  let v540 : BitVec 32 := Scalar.muli v539 c1_i32_293
  let v541 : BitVec 32 := Scalar.addi c0_i32_292 v540
  let v538 : BitVec 32 := Scalar.addi c0_i32_292 v537
  let c1_i32_295 : BitVec 32 := 1#32
  ⟨v541, v538, c1_i32_295⟩
@[reducible] def k0_t45_loop (v530 : BitVec 32) : Scf.Loop 32 :=
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_299 : BitVec 32 := 1#32
  ⟨c0_i32_297, v548, c1_i32_299⟩
def k0_off142 (i : grid0.Coords) (k0_t42 : Fin (k0_t42_loop i).trips) (v530 : BitVec 32) (k0_t45 : Fin (k0_t45_loop v530).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c32_i32_500 : BitVec 32 := 32#32
  let v987 : BitVec 32 := Scalar.muli v484 c32_i32_500
  let c0_i32_297 : BitVec 32 := 0#32
  let c1_i32_299 : BitVec 32 := 1#32
  let arg26 : BitVec 32 := Scf.iv c0_i32_297 c1_i32_299 k0_t45
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk82 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx65_inb : ∀ (i : grid0.Coords) (k0_t42 : Fin (k0_t42_loop i).trips) (v1037 : IVec S16 32) (v1039 : IVec S16 32) (k0_hw82 : k0_chk82 i k0_t42 v1037 v1039), ∀ a x, ((![v1039, v1037] : Fin 2 → IVec S16 32) a x).toNat < S64x128.size a := fun i k0_t42 v1037 v1039 k0_hw82 => k0_hw82
def k0_off143 (v530 : BitVec 32) (k0_t45 : Fin (k0_t45_loop v530).trips) : Fin 3 → Nat :=
  let c0_i32_523 : BitVec 32 := 0#32
  let v1043 : Index := Scalar.indexCast c0_i32_523
  let c0_i32_297 : BitVec 32 := 0#32
  let c1_i32_299 : BitVec 32 := 1#32
  let arg26 : BitVec 32 := Scf.iv c0_i32_297 c1_i32_299 k0_t45
  let v1044 : Index := Scalar.indexCast arg26
  let c0_524 : Index := 0#32
  ![0, v1044.toNat, 0]

def k0_chk83 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx66_inb : ∀ (i : grid0.Coords) (k0_t42 : Fin (k0_t42_loop i).trips) (v1037 : IVec S16 32) (v1050 : IVec S16 32) (k0_hw83 : k0_chk83 i k0_t42 v1037 v1050), ∀ a x, ((![v1050, v1037] : Fin 2 → IVec S16 32) a x).toNat < S64x128.size a := fun i k0_t42 v1037 v1050 k0_hw83 => k0_hw83
def k0_off144 (v530 : BitVec 32) (k0_t45 : Fin (k0_t45_loop v530).trips) : Fin 3 → Nat :=
  let c0_i32_529 : BitVec 32 := 0#32
  let v1054 : Index := Scalar.indexCast c0_i32_529
  let c0_i32_297 : BitVec 32 := 0#32
  let c1_i32_299 : BitVec 32 := 1#32
  let arg26 : BitVec 32 := Scf.iv c0_i32_297 c1_i32_299 k0_t45
  let v1055 : Index := Scalar.indexCast arg26
  let c16_530 : Index := 16#32
  ![0, v1055.toNat, 16]

def k0_chk84 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx67_inb : ∀ (i : grid0.Coords) (k0_t42 : Fin (k0_t42_loop i).trips) (v1037 : IVec S16 32) (v1061 : IVec S16 32) (k0_hw84 : k0_chk84 i k0_t42 v1037 v1061), ∀ a x, ((![v1061, v1037] : Fin 2 → IVec S16 32) a x).toNat < S64x128.size a := fun i k0_t42 v1037 v1061 k0_hw84 => k0_hw84
def k0_off145 (v530 : BitVec 32) (k0_t45 : Fin (k0_t45_loop v530).trips) : Fin 3 → Nat :=
  let c0_i32_535 : BitVec 32 := 0#32
  let v1065 : Index := Scalar.indexCast c0_i32_535
  let c0_i32_297 : BitVec 32 := 0#32
  let c1_i32_299 : BitVec 32 := 1#32
  let arg26 : BitVec 32 := Scf.iv c0_i32_297 c1_i32_299 k0_t45
  let v1066 : Index := Scalar.indexCast arg26
  let c32_536 : Index := 32#32
  ![0, v1066.toNat, 32]

def k0_chk85 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx68_inb : ∀ (i : grid0.Coords) (k0_t42 : Fin (k0_t42_loop i).trips) (v1037 : IVec S16 32) (v1072 : IVec S16 32) (k0_hw85 : k0_chk85 i k0_t42 v1037 v1072), ∀ a x, ((![v1072, v1037] : Fin 2 → IVec S16 32) a x).toNat < S64x128.size a := fun i k0_t42 v1037 v1072 k0_hw85 => k0_hw85
def k0_off146 (v530 : BitVec 32) (k0_t45 : Fin (k0_t45_loop v530).trips) : Fin 3 → Nat :=
  let c0_i32_540 : BitVec 32 := 0#32
  let v1076 : Index := Scalar.indexCast c0_i32_540
  let c0_i32_297 : BitVec 32 := 0#32
  let c1_i32_299 : BitVec 32 := 1#32
  let arg26 : BitVec 32 := Scf.iv c0_i32_297 c1_i32_299 k0_t45
  let v1077 : Index := Scalar.indexCast arg26
  let c48_541 : Index := 48#32
  ![0, v1077.toNat, 48]
@[reducible] def k0_t46_loop (v530 : BitVec 32) : Scf.Loop 32 :=
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let v545 : BitVec 32 := Scalar.addi c0_i32_297 v544
  let c1_i32_300 : BitVec 32 := 1#32
  ⟨v548, v545, c1_i32_300⟩
def k0_off147 (i : grid0.Coords) (k0_t42 : Fin (k0_t42_loop i).trips) (v530 : BitVec 32) (k0_t46 : Fin (k0_t46_loop v530).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c32_i32_500 : BitVec 32 := 32#32
  let v987 : BitVec 32 := Scalar.muli v484 c32_i32_500
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t46
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk86 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx69_inb : ∀ (i : grid0.Coords) (k0_t42 : Fin (k0_t42_loop i).trips) (v1037 : IVec S16 32) (v1039 : IVec S16 32) (k0_hw86 : k0_chk86 i k0_t42 v1037 v1039), ∀ a x, ((![v1039, v1037] : Fin 2 → IVec S16 32) a x).toNat < S64x128.size a := fun i k0_t42 v1037 v1039 k0_hw86 => k0_hw86
def k0_off148 (v530 : BitVec 32) (k0_t46 : Fin (k0_t46_loop v530).trips) : Fin 3 → Nat :=
  let c0_i32_523 : BitVec 32 := 0#32
  let v1043 : Index := Scalar.indexCast c0_i32_523
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t46
  let v1044 : Index := Scalar.indexCast arg26
  let c0_524 : Index := 0#32
  ![0, v1044.toNat, 0]

def k0_chk87 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx70_inb : ∀ (i : grid0.Coords) (k0_t42 : Fin (k0_t42_loop i).trips) (v1037 : IVec S16 32) (v1050 : IVec S16 32) (k0_hw87 : k0_chk87 i k0_t42 v1037 v1050), ∀ a x, ((![v1050, v1037] : Fin 2 → IVec S16 32) a x).toNat < S64x128.size a := fun i k0_t42 v1037 v1050 k0_hw87 => k0_hw87
def k0_off149 (v530 : BitVec 32) (k0_t46 : Fin (k0_t46_loop v530).trips) : Fin 3 → Nat :=
  let c0_i32_529 : BitVec 32 := 0#32
  let v1054 : Index := Scalar.indexCast c0_i32_529
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t46
  let v1055 : Index := Scalar.indexCast arg26
  let c16_530 : Index := 16#32
  ![0, v1055.toNat, 16]

def k0_chk88 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx71_inb : ∀ (i : grid0.Coords) (k0_t42 : Fin (k0_t42_loop i).trips) (v1037 : IVec S16 32) (v1061 : IVec S16 32) (k0_hw88 : k0_chk88 i k0_t42 v1037 v1061), ∀ a x, ((![v1061, v1037] : Fin 2 → IVec S16 32) a x).toNat < S64x128.size a := fun i k0_t42 v1037 v1061 k0_hw88 => k0_hw88
def k0_off150 (v530 : BitVec 32) (k0_t46 : Fin (k0_t46_loop v530).trips) : Fin 3 → Nat :=
  let c0_i32_535 : BitVec 32 := 0#32
  let v1065 : Index := Scalar.indexCast c0_i32_535
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t46
  let v1066 : Index := Scalar.indexCast arg26
  let c32_536 : Index := 32#32
  ![0, v1066.toNat, 32]

def k0_chk89 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx72_inb : ∀ (i : grid0.Coords) (k0_t42 : Fin (k0_t42_loop i).trips) (v1037 : IVec S16 32) (v1072 : IVec S16 32) (k0_hw89 : k0_chk89 i k0_t42 v1037 v1072), ∀ a x, ((![v1072, v1037] : Fin 2 → IVec S16 32) a x).toNat < S64x128.size a := fun i k0_t42 v1037 v1072 k0_hw89 => k0_hw89
def k0_off151 (v530 : BitVec 32) (k0_t46 : Fin (k0_t46_loop v530).trips) : Fin 3 → Nat :=
  let c0_i32_540 : BitVec 32 := 0#32
  let v1076 : Index := Scalar.indexCast c0_i32_540
  let c0_i32_297 : BitVec 32 := 0#32
  let c32_i32_288 : BitVec 32 := 32#32
  let v531 : BitVec 32 := Scalar.minsi v530 c32_i32_288
  let v544 : BitVec 32 := Scalar.subi v531 c0_i32_297
  let c1_i32_298 : BitVec 32 := 1#32
  let v546 : BitVec 32 := Scalar.divsi v544 c1_i32_298
  let v547 : BitVec 32 := Scalar.muli v546 c1_i32_298
  let v548 : BitVec 32 := Scalar.addi c0_i32_297 v547
  let c1_i32_300 : BitVec 32 := 1#32
  let arg26 : BitVec 32 := Scf.iv v548 c1_i32_300 k0_t46
  let v1077 : Index := Scalar.indexCast arg26
  let c48_541 : Index := 48#32
  ![0, v1077.toNat, 48]

def k0_chk81 (i : grid0.Coords) (k0_t42 : Fin (k0_t42_loop i).trips) (v530 : BitVec 32) : Prop :=
  ((k0_t43_loop v530).OK) ∧
  ((k0_t44_loop v530).OK) ∧
  ((k0_t45_loop v530).OK) ∧
  (∀ k0_t45 : Fin (k0_t45_loop v530).trips, ∀ a, (k0_off142 i k0_t42 v530 k0_t45) a + S16.size a ≤ S8192.size a) ∧
  (∀ k0_t45 : Fin (k0_t45_loop v530).trips, ∀ a, (k0_off143 v530 k0_t45) a + S1x1x16.size a ≤ S4x32x64.size a) ∧
  (∀ k0_t45 : Fin (k0_t45_loop v530).trips, ∀ a, (k0_off144 v530 k0_t45) a + S1x1x16.size a ≤ S4x32x64.size a) ∧
  (∀ k0_t45 : Fin (k0_t45_loop v530).trips, ∀ a, (k0_off145 v530 k0_t45) a + S1x1x16.size a ≤ S4x32x64.size a) ∧
  (∀ k0_t45 : Fin (k0_t45_loop v530).trips, ∀ a, (k0_off146 v530 k0_t45) a + S1x1x16.size a ≤ S4x32x64.size a) ∧
  ((k0_t46_loop v530).OK) ∧
  (∀ k0_t46 : Fin (k0_t46_loop v530).trips, ∀ a, (k0_off147 i k0_t42 v530 k0_t46) a + S16.size a ≤ S8192.size a) ∧
  (∀ k0_t46 : Fin (k0_t46_loop v530).trips, ∀ a, (k0_off148 v530 k0_t46) a + S1x1x16.size a ≤ S4x32x64.size a) ∧
  (∀ k0_t46 : Fin (k0_t46_loop v530).trips, ∀ a, (k0_off149 v530 k0_t46) a + S1x1x16.size a ≤ S4x32x64.size a) ∧
  (∀ k0_t46 : Fin (k0_t46_loop v530).trips, ∀ a, (k0_off150 v530 k0_t46) a + S1x1x16.size a ≤ S4x32x64.size a) ∧
  (∀ k0_t46 : Fin (k0_t46_loop v530).trips, ∀ a, (k0_off151 v530 k0_t46) a + S1x1x16.size a ≤ S4x32x64.size a)
theorem k0_t43_ok : ∀ (i : grid0.Coords) (k0_t42 : Fin (k0_t42_loop i).trips) (v530 : BitVec 32) (k0_hw81 : k0_chk81 i k0_t42 v530), (k0_t43_loop v530).OK := fun i k0_t42 v530 k0_hw81 => k0_hw81.1
theorem k0_t44_ok : ∀ (i : grid0.Coords) (k0_t42 : Fin (k0_t42_loop i).trips) (v530 : BitVec 32) (k0_hw81 : k0_chk81 i k0_t42 v530), (k0_t44_loop v530).OK := fun i k0_t42 v530 k0_hw81 => k0_hw81.2.1
theorem k0_t45_ok : ∀ (i : grid0.Coords) (k0_t42 : Fin (k0_t42_loop i).trips) (v530 : BitVec 32) (k0_hw81 : k0_chk81 i k0_t42 v530), (k0_t45_loop v530).OK := fun i k0_t42 v530 k0_hw81 => k0_hw81.2.2.1
theorem k0_off142_inb : ∀ (i : grid0.Coords) (k0_t42 : Fin (k0_t42_loop i).trips) (v530 : BitVec 32) (k0_hw81 : k0_chk81 i k0_t42 v530) (k0_t45 : Fin (k0_t45_loop v530).trips), ∀ a, (k0_off142 i k0_t42 v530 k0_t45) a + S16.size a ≤ S8192.size a := fun i k0_t42 v530 k0_hw81 k0_t45 => k0_hw81.2.2.2.1 k0_t45
theorem k0_off143_inb : ∀ (i : grid0.Coords) (k0_t42 : Fin (k0_t42_loop i).trips) (v530 : BitVec 32) (k0_hw81 : k0_chk81 i k0_t42 v530) (k0_t45 : Fin (k0_t45_loop v530).trips), ∀ a, (k0_off143 v530 k0_t45) a + S1x1x16.size a ≤ S4x32x64.size a := fun i k0_t42 v530 k0_hw81 k0_t45 => k0_hw81.2.2.2.2.1 k0_t45
theorem k0_off144_inb : ∀ (i : grid0.Coords) (k0_t42 : Fin (k0_t42_loop i).trips) (v530 : BitVec 32) (k0_hw81 : k0_chk81 i k0_t42 v530) (k0_t45 : Fin (k0_t45_loop v530).trips), ∀ a, (k0_off144 v530 k0_t45) a + S1x1x16.size a ≤ S4x32x64.size a := fun i k0_t42 v530 k0_hw81 k0_t45 => k0_hw81.2.2.2.2.2.1 k0_t45
theorem k0_off145_inb : ∀ (i : grid0.Coords) (k0_t42 : Fin (k0_t42_loop i).trips) (v530 : BitVec 32) (k0_hw81 : k0_chk81 i k0_t42 v530) (k0_t45 : Fin (k0_t45_loop v530).trips), ∀ a, (k0_off145 v530 k0_t45) a + S1x1x16.size a ≤ S4x32x64.size a := fun i k0_t42 v530 k0_hw81 k0_t45 => k0_hw81.2.2.2.2.2.2.1 k0_t45
theorem k0_off146_inb : ∀ (i : grid0.Coords) (k0_t42 : Fin (k0_t42_loop i).trips) (v530 : BitVec 32) (k0_hw81 : k0_chk81 i k0_t42 v530) (k0_t45 : Fin (k0_t45_loop v530).trips), ∀ a, (k0_off146 v530 k0_t45) a + S1x1x16.size a ≤ S4x32x64.size a := fun i k0_t42 v530 k0_hw81 k0_t45 => k0_hw81.2.2.2.2.2.2.2.1 k0_t45
theorem k0_t46_ok : ∀ (i : grid0.Coords) (k0_t42 : Fin (k0_t42_loop i).trips) (v530 : BitVec 32) (k0_hw81 : k0_chk81 i k0_t42 v530), (k0_t46_loop v530).OK := fun i k0_t42 v530 k0_hw81 => k0_hw81.2.2.2.2.2.2.2.2.1
theorem k0_off147_inb : ∀ (i : grid0.Coords) (k0_t42 : Fin (k0_t42_loop i).trips) (v530 : BitVec 32) (k0_hw81 : k0_chk81 i k0_t42 v530) (k0_t46 : Fin (k0_t46_loop v530).trips), ∀ a, (k0_off147 i k0_t42 v530 k0_t46) a + S16.size a ≤ S8192.size a := fun i k0_t42 v530 k0_hw81 k0_t46 => k0_hw81.2.2.2.2.2.2.2.2.2.1 k0_t46
theorem k0_off148_inb : ∀ (i : grid0.Coords) (k0_t42 : Fin (k0_t42_loop i).trips) (v530 : BitVec 32) (k0_hw81 : k0_chk81 i k0_t42 v530) (k0_t46 : Fin (k0_t46_loop v530).trips), ∀ a, (k0_off148 v530 k0_t46) a + S1x1x16.size a ≤ S4x32x64.size a := fun i k0_t42 v530 k0_hw81 k0_t46 => k0_hw81.2.2.2.2.2.2.2.2.2.2.1 k0_t46
theorem k0_off149_inb : ∀ (i : grid0.Coords) (k0_t42 : Fin (k0_t42_loop i).trips) (v530 : BitVec 32) (k0_hw81 : k0_chk81 i k0_t42 v530) (k0_t46 : Fin (k0_t46_loop v530).trips), ∀ a, (k0_off149 v530 k0_t46) a + S1x1x16.size a ≤ S4x32x64.size a := fun i k0_t42 v530 k0_hw81 k0_t46 => k0_hw81.2.2.2.2.2.2.2.2.2.2.2.1 k0_t46
theorem k0_off150_inb : ∀ (i : grid0.Coords) (k0_t42 : Fin (k0_t42_loop i).trips) (v530 : BitVec 32) (k0_hw81 : k0_chk81 i k0_t42 v530) (k0_t46 : Fin (k0_t46_loop v530).trips), ∀ a, (k0_off150 v530 k0_t46) a + S1x1x16.size a ≤ S4x32x64.size a := fun i k0_t42 v530 k0_hw81 k0_t46 => k0_hw81.2.2.2.2.2.2.2.2.2.2.2.2.1 k0_t46
theorem k0_off151_inb : ∀ (i : grid0.Coords) (k0_t42 : Fin (k0_t42_loop i).trips) (v530 : BitVec 32) (k0_hw81 : k0_chk81 i k0_t42 v530) (k0_t46 : Fin (k0_t46_loop v530).trips), ∀ a, (k0_off151 v530 k0_t46) a + S1x1x16.size a ≤ S4x32x64.size a := fun i k0_t42 v530 k0_hw81 k0_t46 => k0_hw81.2.2.2.2.2.2.2.2.2.2.2.2.2 k0_t46

def k0_off152 (i : grid0.Coords) (k0_t42 : Fin (k0_t42_loop i).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_302 : BitVec 32 := 4#32
  let v553 : BitVec 32 := Scalar.addi v484 c4_i32_302
  let c0_i32_304 : BitVec 32 := 0#32
  let v555 : BitVec 1 := Scalar.cmpi .sgt v553 c0_i32_304
  let v556 : BitVec 32 := Scalar.extui v555
  let c0_i32_305 : BitVec 32 := 0#32
  let v557 : BitVec 1 := Scalar.cmpi .slt v553 c0_i32_305
  let v558 : BitVec 32 := Scalar.extui v557
  let v559 : BitVec 32 := Scalar.subi v556 v558
  let c16_i32_303 : BitVec 32 := 16#32
  let c0_i32_306 : BitVec 32 := 0#32
  let v560 : BitVec 1 := Scalar.cmpi .sgt c16_i32_303 c0_i32_306
  let v561 : BitVec 32 := Scalar.extui v560
  let c0_i32_307 : BitVec 32 := 0#32
  let v562 : BitVec 1 := Scalar.cmpi .slt c16_i32_303 c0_i32_307
  let v563 : BitVec 32 := Scalar.extui v562
  let v564 : BitVec 32 := Scalar.subi v561 v563
  let v565 : BitVec 1 := Scalar.cmpi .ne v559 v564
  let v566 : BitVec 32 := Scalar.remsi v553 c16_i32_303
  let c0_i32_308 : BitVec 32 := 0#32
  let v567 : BitVec 1 := Scalar.cmpi .ne v566 c0_i32_308
  let v568 : BitVec 1 := Scalar.andi v565 v567
  let v554 : BitVec 32 := Scalar.divsi v553 c16_i32_303
  let c1_i32_309 : BitVec 32 := 1#32
  let v569 : BitVec 32 := Scalar.subi v554 c1_i32_309
  let v570 : BitVec 32 := Scalar.select v568 v569 v554
  let c16_i32_310 : BitVec 32 := 16#32
  let v571 : BitVec 32 := Scalar.muli v570 c16_i32_310
  let v572 : Index := Scalar.indexCast v571
  ![v572.toNat]
def k0_off153 (i : grid0.Coords) (k0_t42 : Fin (k0_t42_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_268 : BitVec 32 := 4#32
  let c0_i32_263 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c128_i32_501 : BitVec 32 := 128#32
  let v988 : BitVec 32 := Scalar.muli v987 c128_i32_501
  let v989 : BitVec 32 := Scalar.addi v10 v988
  ![0, v989.toNat]
def k0_cond19 (i : grid0.Coords) (k0_t42 : Fin (k0_t42_loop i).trips) : BitVec 1 :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_324 : BitVec 32 := 4#32
  let v605 : BitVec 32 := Scalar.addi v484 c4_i32_324
  let v606 : BitVec 1 := Scalar.cmpi .slt v605 v9
  let v607 : BitVec 32 := Scalar.extui v606
  let c0_i32_325 : BitVec 32 := 0#32
  let v608 : BitVec 1 := Scalar.cmpi .ne v607 c0_i32_325
  v608

def k0_off154 (i : grid0.Coords) (k0_t42 : Fin (k0_t42_loop i).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t47_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off155 (i : grid0.Coords) (k0_t42 : Fin (k0_t42_loop i).trips) (v1033 : BitVec 32) (k0_t47 : Fin (k0_t47_loop v1033).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t47
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off156 (v1033 : BitVec 32) (k0_t47 : Fin (k0_t47_loop v1033).trips) : Fin 2 → Nat :=
  let c0_i32_521 : BitVec 32 := 0#32
  let c1_i32_523 : BitVec 32 := 1#32
  let arg26 : BitVec 32 := Scf.iv c0_i32_521 c1_i32_523 k0_t47
  let c0_i32_547 : BitVec 32 := 0#32
  ![arg26.toNat, 0]
def k0_off157 (v1087 : BitVec 32) : Fin 2 → Nat :=
  let c0_i32_548 : BitVec 32 := 0#32
  ![v1087.toNat, 0]

def k0_chk91 (i : grid0.Coords) (k0_t42 : Fin (k0_t42_loop i).trips) (v1087 : BitVec 32) : Prop :=
  (∀ (k0_h19 : k0_cond19 i k0_t42 = 1#1), ∀ a, (k0_off157 v1087) a + S1x64.size a ≤ S16384x64.size a)
theorem k0_off157_inb : ∀ (i : grid0.Coords) (k0_t42 : Fin (k0_t42_loop i).trips) (v1087 : BitVec 32) (k0_hw91 : k0_chk91 i k0_t42 v1087), ∀ (k0_h19 : k0_cond19 i k0_t42 = 1#1), ∀ a, (k0_off157 v1087) a + S1x64.size a ≤ S16384x64.size a := fun i k0_t42 v1087 k0_hw91 k0_h19 => k0_hw91 k0_h19

def k0_off158 (v1033 : BitVec 32) (k0_t47 : Fin (k0_t47_loop v1033).trips) : Fin 2 → Nat :=
  let c0_i32_521 : BitVec 32 := 0#32
  let c1_i32_523 : BitVec 32 := 1#32
  let arg26 : BitVec 32 := Scf.iv c0_i32_521 c1_i32_523 k0_t47
  let c0_i32_551 : BitVec 32 := 0#32
  ![arg26.toNat, 0]
@[reducible] def k0_t48_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off159 (i : grid0.Coords) (k0_t42 : Fin (k0_t42_loop i).trips) (v1033 : BitVec 32) (k0_t48 : Fin (k0_t48_loop v1033).trips) : Fin 1 → Nat :=
  let c4_i32_268 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v483 : BitVec 32 := Scalar.muli c4_i32_268 arg21
  let c0_i32_269 : BitVec 32 := 0#32
  let v484 : BitVec 32 := Scalar.addi v483 c0_i32_269
  let c4_i32_500 : BitVec 32 := 4#32
  let v987 : BitVec 32 := Scalar.addi v484 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t48
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off160 (v1033 : BitVec 32) (k0_t48 : Fin (k0_t48_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t48
  let c0_i32_547 : BitVec 32 := 0#32
  ![arg26.toNat, 0]
def k0_off161 (v1087 : BitVec 32) : Fin 2 → Nat :=
  let c0_i32_548 : BitVec 32 := 0#32
  ![v1087.toNat, 0]

def k0_chk92 (i : grid0.Coords) (k0_t42 : Fin (k0_t42_loop i).trips) (v1087 : BitVec 32) : Prop :=
  (∀ (k0_h19 : k0_cond19 i k0_t42 = 1#1), ∀ a, (k0_off161 v1087) a + S1x64.size a ≤ S16384x64.size a)
theorem k0_off161_inb : ∀ (i : grid0.Coords) (k0_t42 : Fin (k0_t42_loop i).trips) (v1087 : BitVec 32) (k0_hw92 : k0_chk92 i k0_t42 v1087), ∀ (k0_h19 : k0_cond19 i k0_t42 = 1#1), ∀ a, (k0_off161 v1087) a + S1x64.size a ≤ S16384x64.size a := fun i k0_t42 v1087 k0_hw92 k0_h19 => k0_hw92 k0_h19

def k0_off162 (v1033 : BitVec 32) (k0_t48 : Fin (k0_t48_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t48
  let c0_i32_551 : BitVec 32 := 0#32
  ![arg26.toNat, 0]

def k0_chk90 (i : grid0.Coords) (k0_t42 : Fin (k0_t42_loop i).trips) (v1033 : BitVec 32) : Prop :=
  (∀ (k0_h19 : k0_cond19 i k0_t42 = 1#1), (k0_t47_loop v1033).OK) ∧
  (∀ k0_t47 : Fin (k0_t47_loop v1033).trips, ∀ (k0_h19 : k0_cond19 i k0_t42 = 1#1), ∀ a, (k0_off155 i k0_t42 v1033 k0_t47) a + S16.size a ≤ S8192.size a) ∧
  (∀ k0_t47 : Fin (k0_t47_loop v1033).trips, ∀ (k0_h19 : k0_cond19 i k0_t42 = 1#1), ∀ a, (k0_off156 v1033 k0_t47) a + S1x64.size a ≤ S32x64.size a) ∧
  (∀ k0_t47 : Fin (k0_t47_loop v1033).trips, ∀ (k0_h19 : k0_cond19 i k0_t42 = 1#1), ∀ a, (k0_off158 v1033 k0_t47) a + S1x64.size a ≤ S32x64.size a) ∧
  (∀ (k0_h19 : k0_cond19 i k0_t42 = 1#1), (k0_t48_loop v1033).OK) ∧
  (∀ k0_t48 : Fin (k0_t48_loop v1033).trips, ∀ (k0_h19 : k0_cond19 i k0_t42 = 1#1), ∀ a, (k0_off159 i k0_t42 v1033 k0_t48) a + S16.size a ≤ S8192.size a) ∧
  (∀ k0_t48 : Fin (k0_t48_loop v1033).trips, ∀ (k0_h19 : k0_cond19 i k0_t42 = 1#1), ∀ a, (k0_off160 v1033 k0_t48) a + S1x64.size a ≤ S32x64.size a) ∧
  (∀ k0_t48 : Fin (k0_t48_loop v1033).trips, ∀ (k0_h19 : k0_cond19 i k0_t42 = 1#1), ∀ a, (k0_off162 v1033 k0_t48) a + S1x64.size a ≤ S32x64.size a)
theorem k0_t47_ok : ∀ (i : grid0.Coords) (k0_t42 : Fin (k0_t42_loop i).trips) (v1033 : BitVec 32) (k0_hw90 : k0_chk90 i k0_t42 v1033), ∀ (k0_h19 : k0_cond19 i k0_t42 = 1#1), (k0_t47_loop v1033).OK := fun i k0_t42 v1033 k0_hw90 k0_h19 => k0_hw90.1 k0_h19
theorem k0_off155_inb : ∀ (i : grid0.Coords) (k0_t42 : Fin (k0_t42_loop i).trips) (v1033 : BitVec 32) (k0_hw90 : k0_chk90 i k0_t42 v1033) (k0_t47 : Fin (k0_t47_loop v1033).trips), ∀ (k0_h19 : k0_cond19 i k0_t42 = 1#1), ∀ a, (k0_off155 i k0_t42 v1033 k0_t47) a + S16.size a ≤ S8192.size a := fun i k0_t42 v1033 k0_hw90 k0_t47 k0_h19 => k0_hw90.2.1 k0_t47 k0_h19
theorem k0_off156_inb : ∀ (i : grid0.Coords) (k0_t42 : Fin (k0_t42_loop i).trips) (v1033 : BitVec 32) (k0_hw90 : k0_chk90 i k0_t42 v1033) (k0_t47 : Fin (k0_t47_loop v1033).trips), ∀ (k0_h19 : k0_cond19 i k0_t42 = 1#1), ∀ a, (k0_off156 v1033 k0_t47) a + S1x64.size a ≤ S32x64.size a := fun i k0_t42 v1033 k0_hw90 k0_t47 k0_h19 => k0_hw90.2.2.1 k0_t47 k0_h19
theorem k0_off158_inb : ∀ (i : grid0.Coords) (k0_t42 : Fin (k0_t42_loop i).trips) (v1033 : BitVec 32) (k0_hw90 : k0_chk90 i k0_t42 v1033) (k0_t47 : Fin (k0_t47_loop v1033).trips), ∀ (k0_h19 : k0_cond19 i k0_t42 = 1#1), ∀ a, (k0_off158 v1033 k0_t47) a + S1x64.size a ≤ S32x64.size a := fun i k0_t42 v1033 k0_hw90 k0_t47 k0_h19 => k0_hw90.2.2.2.1 k0_t47 k0_h19
theorem k0_t48_ok : ∀ (i : grid0.Coords) (k0_t42 : Fin (k0_t42_loop i).trips) (v1033 : BitVec 32) (k0_hw90 : k0_chk90 i k0_t42 v1033), ∀ (k0_h19 : k0_cond19 i k0_t42 = 1#1), (k0_t48_loop v1033).OK := fun i k0_t42 v1033 k0_hw90 k0_h19 => k0_hw90.2.2.2.2.1 k0_h19
theorem k0_off159_inb : ∀ (i : grid0.Coords) (k0_t42 : Fin (k0_t42_loop i).trips) (v1033 : BitVec 32) (k0_hw90 : k0_chk90 i k0_t42 v1033) (k0_t48 : Fin (k0_t48_loop v1033).trips), ∀ (k0_h19 : k0_cond19 i k0_t42 = 1#1), ∀ a, (k0_off159 i k0_t42 v1033 k0_t48) a + S16.size a ≤ S8192.size a := fun i k0_t42 v1033 k0_hw90 k0_t48 k0_h19 => k0_hw90.2.2.2.2.2.1 k0_t48 k0_h19
theorem k0_off160_inb : ∀ (i : grid0.Coords) (k0_t42 : Fin (k0_t42_loop i).trips) (v1033 : BitVec 32) (k0_hw90 : k0_chk90 i k0_t42 v1033) (k0_t48 : Fin (k0_t48_loop v1033).trips), ∀ (k0_h19 : k0_cond19 i k0_t42 = 1#1), ∀ a, (k0_off160 v1033 k0_t48) a + S1x64.size a ≤ S32x64.size a := fun i k0_t42 v1033 k0_hw90 k0_t48 k0_h19 => k0_hw90.2.2.2.2.2.2.1 k0_t48 k0_h19
theorem k0_off162_inb : ∀ (i : grid0.Coords) (k0_t42 : Fin (k0_t42_loop i).trips) (v1033 : BitVec 32) (k0_hw90 : k0_chk90 i k0_t42 v1033) (k0_t48 : Fin (k0_t48_loop v1033).trips), ∀ (k0_h19 : k0_cond19 i k0_t42 = 1#1), ∀ a, (k0_off162 v1033 k0_t48) a + S1x64.size a ≤ S32x64.size a := fun i k0_t42 v1033 k0_hw90 k0_t48 k0_h19 => k0_hw90.2.2.2.2.2.2.2 k0_t48 k0_h19

def k0_off163 (i : grid0.Coords) (k0_t42 : Fin (k0_t42_loop i).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c0_i32_329 : BitVec 32 := 0#32
  let v612 : BitVec 1 := Scalar.cmpi .sgt v610 c0_i32_329
  let v613 : BitVec 32 := Scalar.extui v612
  let c0_i32_330 : BitVec 32 := 0#32
  let v614 : BitVec 1 := Scalar.cmpi .slt v610 c0_i32_330
  let v615 : BitVec 32 := Scalar.extui v614
  let v616 : BitVec 32 := Scalar.subi v613 v615
  let c16_i32_328 : BitVec 32 := 16#32
  let c0_i32_331 : BitVec 32 := 0#32
  let v617 : BitVec 1 := Scalar.cmpi .sgt c16_i32_328 c0_i32_331
  let v618 : BitVec 32 := Scalar.extui v617
  let c0_i32_332 : BitVec 32 := 0#32
  let v619 : BitVec 1 := Scalar.cmpi .slt c16_i32_328 c0_i32_332
  let v620 : BitVec 32 := Scalar.extui v619
  let v621 : BitVec 32 := Scalar.subi v618 v620
  let v622 : BitVec 1 := Scalar.cmpi .ne v616 v621
  let v623 : BitVec 32 := Scalar.remsi v610 c16_i32_328
  let c0_i32_333 : BitVec 32 := 0#32
  let v624 : BitVec 1 := Scalar.cmpi .ne v623 c0_i32_333
  let v625 : BitVec 1 := Scalar.andi v622 v624
  let v611 : BitVec 32 := Scalar.divsi v610 c16_i32_328
  let c1_i32_334 : BitVec 32 := 1#32
  let v626 : BitVec 32 := Scalar.subi v611 c1_i32_334
  let v627 : BitVec 32 := Scalar.select v625 v626 v611
  let c16_i32_335 : BitVec 32 := 16#32
  let v628 : BitVec 32 := Scalar.muli v627 c16_i32_335
  let v629 : Index := Scalar.indexCast v628
  ![v629.toNat]
@[reducible] def k0_t49_loop (v656 : BitVec 32) : Scf.Loop 32 :=
  let c0_i32_350 : BitVec 32 := 0#32
  let c32_i32_346 : BitVec 32 := 32#32
  let v657 : BitVec 32 := Scalar.minsi v656 c32_i32_346
  let v663 : BitVec 32 := Scalar.subi v657 c0_i32_350
  let c1_i32_351 : BitVec 32 := 1#32
  let v665 : BitVec 32 := Scalar.divsi v663 c1_i32_351
  let v666 : BitVec 32 := Scalar.muli v665 c1_i32_351
  let v667 : BitVec 32 := Scalar.addi c0_i32_350 v666
  let c1_i32_352 : BitVec 32 := 1#32
  ⟨c0_i32_350, v667, c1_i32_352⟩

@[reducible] def k0_t50_loop (v656 : BitVec 32) : Scf.Loop 32 :=
  let c0_i32_350 : BitVec 32 := 0#32
  let c32_i32_346 : BitVec 32 := 32#32
  let v657 : BitVec 32 := Scalar.minsi v656 c32_i32_346
  let v663 : BitVec 32 := Scalar.subi v657 c0_i32_350
  let c1_i32_351 : BitVec 32 := 1#32
  let v665 : BitVec 32 := Scalar.divsi v663 c1_i32_351
  let v666 : BitVec 32 := Scalar.muli v665 c1_i32_351
  let v667 : BitVec 32 := Scalar.addi c0_i32_350 v666
  let v664 : BitVec 32 := Scalar.addi c0_i32_350 v663
  let c1_i32_353 : BitVec 32 := 1#32
  ⟨v667, v664, c1_i32_353⟩
@[reducible] def k0_t51_loop (v656 : BitVec 32) : Scf.Loop 32 :=
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_357 : BitVec 32 := 1#32
  ⟨c0_i32_355, v674, c1_i32_357⟩
def k0_off164 (i : grid0.Coords) (k0_t42 : Fin (k0_t42_loop i).trips) (v656 : BitVec 32) (k0_t51 : Fin (k0_t51_loop v656).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c32_i32_500 : BitVec 32 := 32#32
  let v987 : BitVec 32 := Scalar.muli v610 c32_i32_500
  let c0_i32_355 : BitVec 32 := 0#32
  let c1_i32_357 : BitVec 32 := 1#32
  let arg26 : BitVec 32 := Scf.iv c0_i32_355 c1_i32_357 k0_t51
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk94 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx73_inb : ∀ (i : grid0.Coords) (k0_t42 : Fin (k0_t42_loop i).trips) (v1037 : IVec S16 32) (v1039 : IVec S16 32) (k0_hw94 : k0_chk94 i k0_t42 v1037 v1039), ∀ a x, ((![v1039, v1037] : Fin 2 → IVec S16 32) a x).toNat < S64x128.size a := fun i k0_t42 v1037 v1039 k0_hw94 => k0_hw94
def k0_off165 (v656 : BitVec 32) (k0_t51 : Fin (k0_t51_loop v656).trips) : Fin 3 → Nat :=
  let c1_i32_523 : BitVec 32 := 1#32
  let v1043 : Index := Scalar.indexCast c1_i32_523
  let c0_i32_355 : BitVec 32 := 0#32
  let c1_i32_357 : BitVec 32 := 1#32
  let arg26 : BitVec 32 := Scf.iv c0_i32_355 c1_i32_357 k0_t51
  let v1044 : Index := Scalar.indexCast arg26
  let c0_524 : Index := 0#32
  ![1, v1044.toNat, 0]

def k0_chk95 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx74_inb : ∀ (i : grid0.Coords) (k0_t42 : Fin (k0_t42_loop i).trips) (v1037 : IVec S16 32) (v1050 : IVec S16 32) (k0_hw95 : k0_chk95 i k0_t42 v1037 v1050), ∀ a x, ((![v1050, v1037] : Fin 2 → IVec S16 32) a x).toNat < S64x128.size a := fun i k0_t42 v1037 v1050 k0_hw95 => k0_hw95
def k0_off166 (v656 : BitVec 32) (k0_t51 : Fin (k0_t51_loop v656).trips) : Fin 3 → Nat :=
  let c1_i32_529 : BitVec 32 := 1#32
  let v1054 : Index := Scalar.indexCast c1_i32_529
  let c0_i32_355 : BitVec 32 := 0#32
  let c1_i32_357 : BitVec 32 := 1#32
  let arg26 : BitVec 32 := Scf.iv c0_i32_355 c1_i32_357 k0_t51
  let v1055 : Index := Scalar.indexCast arg26
  let c16_530 : Index := 16#32
  ![1, v1055.toNat, 16]

def k0_chk96 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx75_inb : ∀ (i : grid0.Coords) (k0_t42 : Fin (k0_t42_loop i).trips) (v1037 : IVec S16 32) (v1061 : IVec S16 32) (k0_hw96 : k0_chk96 i k0_t42 v1037 v1061), ∀ a x, ((![v1061, v1037] : Fin 2 → IVec S16 32) a x).toNat < S64x128.size a := fun i k0_t42 v1037 v1061 k0_hw96 => k0_hw96
def k0_off167 (v656 : BitVec 32) (k0_t51 : Fin (k0_t51_loop v656).trips) : Fin 3 → Nat :=
  let c1_i32_535 : BitVec 32 := 1#32
  let v1065 : Index := Scalar.indexCast c1_i32_535
  let c0_i32_355 : BitVec 32 := 0#32
  let c1_i32_357 : BitVec 32 := 1#32
  let arg26 : BitVec 32 := Scf.iv c0_i32_355 c1_i32_357 k0_t51
  let v1066 : Index := Scalar.indexCast arg26
  let c32_536 : Index := 32#32
  ![1, v1066.toNat, 32]

def k0_chk97 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx76_inb : ∀ (i : grid0.Coords) (k0_t42 : Fin (k0_t42_loop i).trips) (v1037 : IVec S16 32) (v1072 : IVec S16 32) (k0_hw97 : k0_chk97 i k0_t42 v1037 v1072), ∀ a x, ((![v1072, v1037] : Fin 2 → IVec S16 32) a x).toNat < S64x128.size a := fun i k0_t42 v1037 v1072 k0_hw97 => k0_hw97
def k0_off168 (v656 : BitVec 32) (k0_t51 : Fin (k0_t51_loop v656).trips) : Fin 3 → Nat :=
  let c1_i32_540 : BitVec 32 := 1#32
  let v1076 : Index := Scalar.indexCast c1_i32_540
  let c0_i32_355 : BitVec 32 := 0#32
  let c1_i32_357 : BitVec 32 := 1#32
  let arg26 : BitVec 32 := Scf.iv c0_i32_355 c1_i32_357 k0_t51
  let v1077 : Index := Scalar.indexCast arg26
  let c48_541 : Index := 48#32
  ![1, v1077.toNat, 48]
@[reducible] def k0_t52_loop (v656 : BitVec 32) : Scf.Loop 32 :=
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let v671 : BitVec 32 := Scalar.addi c0_i32_355 v670
  let c1_i32_358 : BitVec 32 := 1#32
  ⟨v674, v671, c1_i32_358⟩
def k0_off169 (i : grid0.Coords) (k0_t42 : Fin (k0_t42_loop i).trips) (v656 : BitVec 32) (k0_t52 : Fin (k0_t52_loop v656).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c32_i32_500 : BitVec 32 := 32#32
  let v987 : BitVec 32 := Scalar.muli v610 c32_i32_500
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t52
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk98 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx77_inb : ∀ (i : grid0.Coords) (k0_t42 : Fin (k0_t42_loop i).trips) (v1037 : IVec S16 32) (v1039 : IVec S16 32) (k0_hw98 : k0_chk98 i k0_t42 v1037 v1039), ∀ a x, ((![v1039, v1037] : Fin 2 → IVec S16 32) a x).toNat < S64x128.size a := fun i k0_t42 v1037 v1039 k0_hw98 => k0_hw98
def k0_off170 (v656 : BitVec 32) (k0_t52 : Fin (k0_t52_loop v656).trips) : Fin 3 → Nat :=
  let c1_i32_523 : BitVec 32 := 1#32
  let v1043 : Index := Scalar.indexCast c1_i32_523
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t52
  let v1044 : Index := Scalar.indexCast arg26
  let c0_524 : Index := 0#32
  ![1, v1044.toNat, 0]

def k0_chk99 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx78_inb : ∀ (i : grid0.Coords) (k0_t42 : Fin (k0_t42_loop i).trips) (v1037 : IVec S16 32) (v1050 : IVec S16 32) (k0_hw99 : k0_chk99 i k0_t42 v1037 v1050), ∀ a x, ((![v1050, v1037] : Fin 2 → IVec S16 32) a x).toNat < S64x128.size a := fun i k0_t42 v1037 v1050 k0_hw99 => k0_hw99
def k0_off171 (v656 : BitVec 32) (k0_t52 : Fin (k0_t52_loop v656).trips) : Fin 3 → Nat :=
  let c1_i32_529 : BitVec 32 := 1#32
  let v1054 : Index := Scalar.indexCast c1_i32_529
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t52
  let v1055 : Index := Scalar.indexCast arg26
  let c16_530 : Index := 16#32
  ![1, v1055.toNat, 16]

def k0_chk100 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx79_inb : ∀ (i : grid0.Coords) (k0_t42 : Fin (k0_t42_loop i).trips) (v1037 : IVec S16 32) (v1061 : IVec S16 32) (k0_hw100 : k0_chk100 i k0_t42 v1037 v1061), ∀ a x, ((![v1061, v1037] : Fin 2 → IVec S16 32) a x).toNat < S64x128.size a := fun i k0_t42 v1037 v1061 k0_hw100 => k0_hw100
def k0_off172 (v656 : BitVec 32) (k0_t52 : Fin (k0_t52_loop v656).trips) : Fin 3 → Nat :=
  let c1_i32_535 : BitVec 32 := 1#32
  let v1065 : Index := Scalar.indexCast c1_i32_535
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t52
  let v1066 : Index := Scalar.indexCast arg26
  let c32_536 : Index := 32#32
  ![1, v1066.toNat, 32]

def k0_chk101 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx80_inb : ∀ (i : grid0.Coords) (k0_t42 : Fin (k0_t42_loop i).trips) (v1037 : IVec S16 32) (v1072 : IVec S16 32) (k0_hw101 : k0_chk101 i k0_t42 v1037 v1072), ∀ a x, ((![v1072, v1037] : Fin 2 → IVec S16 32) a x).toNat < S64x128.size a := fun i k0_t42 v1037 v1072 k0_hw101 => k0_hw101
def k0_off173 (v656 : BitVec 32) (k0_t52 : Fin (k0_t52_loop v656).trips) : Fin 3 → Nat :=
  let c1_i32_540 : BitVec 32 := 1#32
  let v1076 : Index := Scalar.indexCast c1_i32_540
  let c0_i32_355 : BitVec 32 := 0#32
  let c32_i32_346 : BitVec 32 := 32#32
  let v657 : BitVec 32 := Scalar.minsi v656 c32_i32_346
  let v670 : BitVec 32 := Scalar.subi v657 c0_i32_355
  let c1_i32_356 : BitVec 32 := 1#32
  let v672 : BitVec 32 := Scalar.divsi v670 c1_i32_356
  let v673 : BitVec 32 := Scalar.muli v672 c1_i32_356
  let v674 : BitVec 32 := Scalar.addi c0_i32_355 v673
  let c1_i32_358 : BitVec 32 := 1#32
  let arg26 : BitVec 32 := Scf.iv v674 c1_i32_358 k0_t52
  let v1077 : Index := Scalar.indexCast arg26
  let c48_541 : Index := 48#32
  ![1, v1077.toNat, 48]

def k0_chk93 (i : grid0.Coords) (k0_t42 : Fin (k0_t42_loop i).trips) (v656 : BitVec 32) : Prop :=
  ((k0_t49_loop v656).OK) ∧
  ((k0_t50_loop v656).OK) ∧
  ((k0_t51_loop v656).OK) ∧
  (∀ k0_t51 : Fin (k0_t51_loop v656).trips, ∀ a, (k0_off164 i k0_t42 v656 k0_t51) a + S16.size a ≤ S8192.size a) ∧
  (∀ k0_t51 : Fin (k0_t51_loop v656).trips, ∀ a, (k0_off165 v656 k0_t51) a + S1x1x16.size a ≤ S4x32x64.size a) ∧
  (∀ k0_t51 : Fin (k0_t51_loop v656).trips, ∀ a, (k0_off166 v656 k0_t51) a + S1x1x16.size a ≤ S4x32x64.size a) ∧
  (∀ k0_t51 : Fin (k0_t51_loop v656).trips, ∀ a, (k0_off167 v656 k0_t51) a + S1x1x16.size a ≤ S4x32x64.size a) ∧
  (∀ k0_t51 : Fin (k0_t51_loop v656).trips, ∀ a, (k0_off168 v656 k0_t51) a + S1x1x16.size a ≤ S4x32x64.size a) ∧
  ((k0_t52_loop v656).OK) ∧
  (∀ k0_t52 : Fin (k0_t52_loop v656).trips, ∀ a, (k0_off169 i k0_t42 v656 k0_t52) a + S16.size a ≤ S8192.size a) ∧
  (∀ k0_t52 : Fin (k0_t52_loop v656).trips, ∀ a, (k0_off170 v656 k0_t52) a + S1x1x16.size a ≤ S4x32x64.size a) ∧
  (∀ k0_t52 : Fin (k0_t52_loop v656).trips, ∀ a, (k0_off171 v656 k0_t52) a + S1x1x16.size a ≤ S4x32x64.size a) ∧
  (∀ k0_t52 : Fin (k0_t52_loop v656).trips, ∀ a, (k0_off172 v656 k0_t52) a + S1x1x16.size a ≤ S4x32x64.size a) ∧
  (∀ k0_t52 : Fin (k0_t52_loop v656).trips, ∀ a, (k0_off173 v656 k0_t52) a + S1x1x16.size a ≤ S4x32x64.size a)
theorem k0_t49_ok : ∀ (i : grid0.Coords) (k0_t42 : Fin (k0_t42_loop i).trips) (v656 : BitVec 32) (k0_hw93 : k0_chk93 i k0_t42 v656), (k0_t49_loop v656).OK := fun i k0_t42 v656 k0_hw93 => k0_hw93.1
theorem k0_t50_ok : ∀ (i : grid0.Coords) (k0_t42 : Fin (k0_t42_loop i).trips) (v656 : BitVec 32) (k0_hw93 : k0_chk93 i k0_t42 v656), (k0_t50_loop v656).OK := fun i k0_t42 v656 k0_hw93 => k0_hw93.2.1
theorem k0_t51_ok : ∀ (i : grid0.Coords) (k0_t42 : Fin (k0_t42_loop i).trips) (v656 : BitVec 32) (k0_hw93 : k0_chk93 i k0_t42 v656), (k0_t51_loop v656).OK := fun i k0_t42 v656 k0_hw93 => k0_hw93.2.2.1
theorem k0_off164_inb : ∀ (i : grid0.Coords) (k0_t42 : Fin (k0_t42_loop i).trips) (v656 : BitVec 32) (k0_hw93 : k0_chk93 i k0_t42 v656) (k0_t51 : Fin (k0_t51_loop v656).trips), ∀ a, (k0_off164 i k0_t42 v656 k0_t51) a + S16.size a ≤ S8192.size a := fun i k0_t42 v656 k0_hw93 k0_t51 => k0_hw93.2.2.2.1 k0_t51
theorem k0_off165_inb : ∀ (i : grid0.Coords) (k0_t42 : Fin (k0_t42_loop i).trips) (v656 : BitVec 32) (k0_hw93 : k0_chk93 i k0_t42 v656) (k0_t51 : Fin (k0_t51_loop v656).trips), ∀ a, (k0_off165 v656 k0_t51) a + S1x1x16.size a ≤ S4x32x64.size a := fun i k0_t42 v656 k0_hw93 k0_t51 => k0_hw93.2.2.2.2.1 k0_t51
theorem k0_off166_inb : ∀ (i : grid0.Coords) (k0_t42 : Fin (k0_t42_loop i).trips) (v656 : BitVec 32) (k0_hw93 : k0_chk93 i k0_t42 v656) (k0_t51 : Fin (k0_t51_loop v656).trips), ∀ a, (k0_off166 v656 k0_t51) a + S1x1x16.size a ≤ S4x32x64.size a := fun i k0_t42 v656 k0_hw93 k0_t51 => k0_hw93.2.2.2.2.2.1 k0_t51
theorem k0_off167_inb : ∀ (i : grid0.Coords) (k0_t42 : Fin (k0_t42_loop i).trips) (v656 : BitVec 32) (k0_hw93 : k0_chk93 i k0_t42 v656) (k0_t51 : Fin (k0_t51_loop v656).trips), ∀ a, (k0_off167 v656 k0_t51) a + S1x1x16.size a ≤ S4x32x64.size a := fun i k0_t42 v656 k0_hw93 k0_t51 => k0_hw93.2.2.2.2.2.2.1 k0_t51
theorem k0_off168_inb : ∀ (i : grid0.Coords) (k0_t42 : Fin (k0_t42_loop i).trips) (v656 : BitVec 32) (k0_hw93 : k0_chk93 i k0_t42 v656) (k0_t51 : Fin (k0_t51_loop v656).trips), ∀ a, (k0_off168 v656 k0_t51) a + S1x1x16.size a ≤ S4x32x64.size a := fun i k0_t42 v656 k0_hw93 k0_t51 => k0_hw93.2.2.2.2.2.2.2.1 k0_t51
theorem k0_t52_ok : ∀ (i : grid0.Coords) (k0_t42 : Fin (k0_t42_loop i).trips) (v656 : BitVec 32) (k0_hw93 : k0_chk93 i k0_t42 v656), (k0_t52_loop v656).OK := fun i k0_t42 v656 k0_hw93 => k0_hw93.2.2.2.2.2.2.2.2.1
theorem k0_off169_inb : ∀ (i : grid0.Coords) (k0_t42 : Fin (k0_t42_loop i).trips) (v656 : BitVec 32) (k0_hw93 : k0_chk93 i k0_t42 v656) (k0_t52 : Fin (k0_t52_loop v656).trips), ∀ a, (k0_off169 i k0_t42 v656 k0_t52) a + S16.size a ≤ S8192.size a := fun i k0_t42 v656 k0_hw93 k0_t52 => k0_hw93.2.2.2.2.2.2.2.2.2.1 k0_t52
theorem k0_off170_inb : ∀ (i : grid0.Coords) (k0_t42 : Fin (k0_t42_loop i).trips) (v656 : BitVec 32) (k0_hw93 : k0_chk93 i k0_t42 v656) (k0_t52 : Fin (k0_t52_loop v656).trips), ∀ a, (k0_off170 v656 k0_t52) a + S1x1x16.size a ≤ S4x32x64.size a := fun i k0_t42 v656 k0_hw93 k0_t52 => k0_hw93.2.2.2.2.2.2.2.2.2.2.1 k0_t52
theorem k0_off171_inb : ∀ (i : grid0.Coords) (k0_t42 : Fin (k0_t42_loop i).trips) (v656 : BitVec 32) (k0_hw93 : k0_chk93 i k0_t42 v656) (k0_t52 : Fin (k0_t52_loop v656).trips), ∀ a, (k0_off171 v656 k0_t52) a + S1x1x16.size a ≤ S4x32x64.size a := fun i k0_t42 v656 k0_hw93 k0_t52 => k0_hw93.2.2.2.2.2.2.2.2.2.2.2.1 k0_t52
theorem k0_off172_inb : ∀ (i : grid0.Coords) (k0_t42 : Fin (k0_t42_loop i).trips) (v656 : BitVec 32) (k0_hw93 : k0_chk93 i k0_t42 v656) (k0_t52 : Fin (k0_t52_loop v656).trips), ∀ a, (k0_off172 v656 k0_t52) a + S1x1x16.size a ≤ S4x32x64.size a := fun i k0_t42 v656 k0_hw93 k0_t52 => k0_hw93.2.2.2.2.2.2.2.2.2.2.2.2.1 k0_t52
theorem k0_off173_inb : ∀ (i : grid0.Coords) (k0_t42 : Fin (k0_t42_loop i).trips) (v656 : BitVec 32) (k0_hw93 : k0_chk93 i k0_t42 v656) (k0_t52 : Fin (k0_t52_loop v656).trips), ∀ a, (k0_off173 v656 k0_t52) a + S1x1x16.size a ≤ S4x32x64.size a := fun i k0_t42 v656 k0_hw93 k0_t52 => k0_hw93.2.2.2.2.2.2.2.2.2.2.2.2.2 k0_t52

def k0_off174 (i : grid0.Coords) (k0_t42 : Fin (k0_t42_loop i).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_360 : BitVec 32 := 4#32
  let v679 : BitVec 32 := Scalar.addi v610 c4_i32_360
  let c0_i32_362 : BitVec 32 := 0#32
  let v681 : BitVec 1 := Scalar.cmpi .sgt v679 c0_i32_362
  let v682 : BitVec 32 := Scalar.extui v681
  let c0_i32_363 : BitVec 32 := 0#32
  let v683 : BitVec 1 := Scalar.cmpi .slt v679 c0_i32_363
  let v684 : BitVec 32 := Scalar.extui v683
  let v685 : BitVec 32 := Scalar.subi v682 v684
  let c16_i32_361 : BitVec 32 := 16#32
  let c0_i32_364 : BitVec 32 := 0#32
  let v686 : BitVec 1 := Scalar.cmpi .sgt c16_i32_361 c0_i32_364
  let v687 : BitVec 32 := Scalar.extui v686
  let c0_i32_365 : BitVec 32 := 0#32
  let v688 : BitVec 1 := Scalar.cmpi .slt c16_i32_361 c0_i32_365
  let v689 : BitVec 32 := Scalar.extui v688
  let v690 : BitVec 32 := Scalar.subi v687 v689
  let v691 : BitVec 1 := Scalar.cmpi .ne v685 v690
  let v692 : BitVec 32 := Scalar.remsi v679 c16_i32_361
  let c0_i32_366 : BitVec 32 := 0#32
  let v693 : BitVec 1 := Scalar.cmpi .ne v692 c0_i32_366
  let v694 : BitVec 1 := Scalar.andi v691 v693
  let v680 : BitVec 32 := Scalar.divsi v679 c16_i32_361
  let c1_i32_367 : BitVec 32 := 1#32
  let v695 : BitVec 32 := Scalar.subi v680 c1_i32_367
  let v696 : BitVec 32 := Scalar.select v694 v695 v680
  let c16_i32_368 : BitVec 32 := 16#32
  let v697 : BitVec 32 := Scalar.muli v696 c16_i32_368
  let v698 : Index := Scalar.indexCast v697
  ![v698.toNat]
def k0_off175 (i : grid0.Coords) (k0_t42 : Fin (k0_t42_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_326 : BitVec 32 := 4#32
  let c0_i32_263 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c128_i32_501 : BitVec 32 := 128#32
  let v988 : BitVec 32 := Scalar.muli v987 c128_i32_501
  let v989 : BitVec 32 := Scalar.addi v10 v988
  ![0, v989.toNat]
def k0_cond22 (i : grid0.Coords) (k0_t42 : Fin (k0_t42_loop i).trips) : BitVec 1 :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_382 : BitVec 32 := 4#32
  let v731 : BitVec 32 := Scalar.addi v610 c4_i32_382
  let v732 : BitVec 1 := Scalar.cmpi .slt v731 v9
  let v733 : BitVec 32 := Scalar.extui v732
  let c0_i32_383 : BitVec 32 := 0#32
  let v734 : BitVec 1 := Scalar.cmpi .ne v733 c0_i32_383
  v734

def k0_off176 (i : grid0.Coords) (k0_t42 : Fin (k0_t42_loop i).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t53_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off177 (i : grid0.Coords) (k0_t42 : Fin (k0_t42_loop i).trips) (v1033 : BitVec 32) (k0_t53 : Fin (k0_t53_loop v1033).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t53
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off178 (v1033 : BitVec 32) (k0_t53 : Fin (k0_t53_loop v1033).trips) : Fin 2 → Nat :=
  let c0_i32_521 : BitVec 32 := 0#32
  let c1_i32_523 : BitVec 32 := 1#32
  let arg26 : BitVec 32 := Scf.iv c0_i32_521 c1_i32_523 k0_t53
  let c0_i32_547 : BitVec 32 := 0#32
  ![arg26.toNat, 0]
def k0_off179 (v1087 : BitVec 32) : Fin 2 → Nat :=
  let c0_i32_548 : BitVec 32 := 0#32
  ![v1087.toNat, 0]

def k0_chk103 (i : grid0.Coords) (k0_t42 : Fin (k0_t42_loop i).trips) (v1087 : BitVec 32) : Prop :=
  (∀ (k0_h22 : k0_cond22 i k0_t42 = 1#1), ∀ a, (k0_off179 v1087) a + S1x64.size a ≤ S16384x64.size a)
theorem k0_off179_inb : ∀ (i : grid0.Coords) (k0_t42 : Fin (k0_t42_loop i).trips) (v1087 : BitVec 32) (k0_hw103 : k0_chk103 i k0_t42 v1087), ∀ (k0_h22 : k0_cond22 i k0_t42 = 1#1), ∀ a, (k0_off179 v1087) a + S1x64.size a ≤ S16384x64.size a := fun i k0_t42 v1087 k0_hw103 k0_h22 => k0_hw103 k0_h22

def k0_off180 (v1033 : BitVec 32) (k0_t53 : Fin (k0_t53_loop v1033).trips) : Fin 2 → Nat :=
  let c0_i32_521 : BitVec 32 := 0#32
  let c1_i32_523 : BitVec 32 := 1#32
  let arg26 : BitVec 32 := Scf.iv c0_i32_521 c1_i32_523 k0_t53
  let c0_i32_551 : BitVec 32 := 0#32
  ![arg26.toNat, 0]
@[reducible] def k0_t54_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off181 (i : grid0.Coords) (k0_t42 : Fin (k0_t42_loop i).trips) (v1033 : BitVec 32) (k0_t54 : Fin (k0_t54_loop v1033).trips) : Fin 1 → Nat :=
  let c4_i32_326 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v609 : BitVec 32 := Scalar.muli c4_i32_326 arg21
  let c1_i32_327 : BitVec 32 := 1#32
  let v610 : BitVec 32 := Scalar.addi v609 c1_i32_327
  let c4_i32_500 : BitVec 32 := 4#32
  let v987 : BitVec 32 := Scalar.addi v610 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t54
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off182 (v1033 : BitVec 32) (k0_t54 : Fin (k0_t54_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t54
  let c0_i32_547 : BitVec 32 := 0#32
  ![arg26.toNat, 0]
def k0_off183 (v1087 : BitVec 32) : Fin 2 → Nat :=
  let c0_i32_548 : BitVec 32 := 0#32
  ![v1087.toNat, 0]

def k0_chk104 (i : grid0.Coords) (k0_t42 : Fin (k0_t42_loop i).trips) (v1087 : BitVec 32) : Prop :=
  (∀ (k0_h22 : k0_cond22 i k0_t42 = 1#1), ∀ a, (k0_off183 v1087) a + S1x64.size a ≤ S16384x64.size a)
theorem k0_off183_inb : ∀ (i : grid0.Coords) (k0_t42 : Fin (k0_t42_loop i).trips) (v1087 : BitVec 32) (k0_hw104 : k0_chk104 i k0_t42 v1087), ∀ (k0_h22 : k0_cond22 i k0_t42 = 1#1), ∀ a, (k0_off183 v1087) a + S1x64.size a ≤ S16384x64.size a := fun i k0_t42 v1087 k0_hw104 k0_h22 => k0_hw104 k0_h22

def k0_off184 (v1033 : BitVec 32) (k0_t54 : Fin (k0_t54_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t54
  let c0_i32_551 : BitVec 32 := 0#32
  ![arg26.toNat, 0]

def k0_chk102 (i : grid0.Coords) (k0_t42 : Fin (k0_t42_loop i).trips) (v1033 : BitVec 32) : Prop :=
  (∀ (k0_h22 : k0_cond22 i k0_t42 = 1#1), (k0_t53_loop v1033).OK) ∧
  (∀ k0_t53 : Fin (k0_t53_loop v1033).trips, ∀ (k0_h22 : k0_cond22 i k0_t42 = 1#1), ∀ a, (k0_off177 i k0_t42 v1033 k0_t53) a + S16.size a ≤ S8192.size a) ∧
  (∀ k0_t53 : Fin (k0_t53_loop v1033).trips, ∀ (k0_h22 : k0_cond22 i k0_t42 = 1#1), ∀ a, (k0_off178 v1033 k0_t53) a + S1x64.size a ≤ S32x64.size a) ∧
  (∀ k0_t53 : Fin (k0_t53_loop v1033).trips, ∀ (k0_h22 : k0_cond22 i k0_t42 = 1#1), ∀ a, (k0_off180 v1033 k0_t53) a + S1x64.size a ≤ S32x64.size a) ∧
  (∀ (k0_h22 : k0_cond22 i k0_t42 = 1#1), (k0_t54_loop v1033).OK) ∧
  (∀ k0_t54 : Fin (k0_t54_loop v1033).trips, ∀ (k0_h22 : k0_cond22 i k0_t42 = 1#1), ∀ a, (k0_off181 i k0_t42 v1033 k0_t54) a + S16.size a ≤ S8192.size a) ∧
  (∀ k0_t54 : Fin (k0_t54_loop v1033).trips, ∀ (k0_h22 : k0_cond22 i k0_t42 = 1#1), ∀ a, (k0_off182 v1033 k0_t54) a + S1x64.size a ≤ S32x64.size a) ∧
  (∀ k0_t54 : Fin (k0_t54_loop v1033).trips, ∀ (k0_h22 : k0_cond22 i k0_t42 = 1#1), ∀ a, (k0_off184 v1033 k0_t54) a + S1x64.size a ≤ S32x64.size a)
theorem k0_t53_ok : ∀ (i : grid0.Coords) (k0_t42 : Fin (k0_t42_loop i).trips) (v1033 : BitVec 32) (k0_hw102 : k0_chk102 i k0_t42 v1033), ∀ (k0_h22 : k0_cond22 i k0_t42 = 1#1), (k0_t53_loop v1033).OK := fun i k0_t42 v1033 k0_hw102 k0_h22 => k0_hw102.1 k0_h22
theorem k0_off177_inb : ∀ (i : grid0.Coords) (k0_t42 : Fin (k0_t42_loop i).trips) (v1033 : BitVec 32) (k0_hw102 : k0_chk102 i k0_t42 v1033) (k0_t53 : Fin (k0_t53_loop v1033).trips), ∀ (k0_h22 : k0_cond22 i k0_t42 = 1#1), ∀ a, (k0_off177 i k0_t42 v1033 k0_t53) a + S16.size a ≤ S8192.size a := fun i k0_t42 v1033 k0_hw102 k0_t53 k0_h22 => k0_hw102.2.1 k0_t53 k0_h22
theorem k0_off178_inb : ∀ (i : grid0.Coords) (k0_t42 : Fin (k0_t42_loop i).trips) (v1033 : BitVec 32) (k0_hw102 : k0_chk102 i k0_t42 v1033) (k0_t53 : Fin (k0_t53_loop v1033).trips), ∀ (k0_h22 : k0_cond22 i k0_t42 = 1#1), ∀ a, (k0_off178 v1033 k0_t53) a + S1x64.size a ≤ S32x64.size a := fun i k0_t42 v1033 k0_hw102 k0_t53 k0_h22 => k0_hw102.2.2.1 k0_t53 k0_h22
theorem k0_off180_inb : ∀ (i : grid0.Coords) (k0_t42 : Fin (k0_t42_loop i).trips) (v1033 : BitVec 32) (k0_hw102 : k0_chk102 i k0_t42 v1033) (k0_t53 : Fin (k0_t53_loop v1033).trips), ∀ (k0_h22 : k0_cond22 i k0_t42 = 1#1), ∀ a, (k0_off180 v1033 k0_t53) a + S1x64.size a ≤ S32x64.size a := fun i k0_t42 v1033 k0_hw102 k0_t53 k0_h22 => k0_hw102.2.2.2.1 k0_t53 k0_h22
theorem k0_t54_ok : ∀ (i : grid0.Coords) (k0_t42 : Fin (k0_t42_loop i).trips) (v1033 : BitVec 32) (k0_hw102 : k0_chk102 i k0_t42 v1033), ∀ (k0_h22 : k0_cond22 i k0_t42 = 1#1), (k0_t54_loop v1033).OK := fun i k0_t42 v1033 k0_hw102 k0_h22 => k0_hw102.2.2.2.2.1 k0_h22
theorem k0_off181_inb : ∀ (i : grid0.Coords) (k0_t42 : Fin (k0_t42_loop i).trips) (v1033 : BitVec 32) (k0_hw102 : k0_chk102 i k0_t42 v1033) (k0_t54 : Fin (k0_t54_loop v1033).trips), ∀ (k0_h22 : k0_cond22 i k0_t42 = 1#1), ∀ a, (k0_off181 i k0_t42 v1033 k0_t54) a + S16.size a ≤ S8192.size a := fun i k0_t42 v1033 k0_hw102 k0_t54 k0_h22 => k0_hw102.2.2.2.2.2.1 k0_t54 k0_h22
theorem k0_off182_inb : ∀ (i : grid0.Coords) (k0_t42 : Fin (k0_t42_loop i).trips) (v1033 : BitVec 32) (k0_hw102 : k0_chk102 i k0_t42 v1033) (k0_t54 : Fin (k0_t54_loop v1033).trips), ∀ (k0_h22 : k0_cond22 i k0_t42 = 1#1), ∀ a, (k0_off182 v1033 k0_t54) a + S1x64.size a ≤ S32x64.size a := fun i k0_t42 v1033 k0_hw102 k0_t54 k0_h22 => k0_hw102.2.2.2.2.2.2.1 k0_t54 k0_h22
theorem k0_off184_inb : ∀ (i : grid0.Coords) (k0_t42 : Fin (k0_t42_loop i).trips) (v1033 : BitVec 32) (k0_hw102 : k0_chk102 i k0_t42 v1033) (k0_t54 : Fin (k0_t54_loop v1033).trips), ∀ (k0_h22 : k0_cond22 i k0_t42 = 1#1), ∀ a, (k0_off184 v1033 k0_t54) a + S1x64.size a ≤ S32x64.size a := fun i k0_t42 v1033 k0_hw102 k0_t54 k0_h22 => k0_hw102.2.2.2.2.2.2.2 k0_t54 k0_h22

def k0_off185 (i : grid0.Coords) (k0_t42 : Fin (k0_t42_loop i).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c0_i32_387 : BitVec 32 := 0#32
  let v738 : BitVec 1 := Scalar.cmpi .sgt v736 c0_i32_387
  let v739 : BitVec 32 := Scalar.extui v738
  let c0_i32_388 : BitVec 32 := 0#32
  let v740 : BitVec 1 := Scalar.cmpi .slt v736 c0_i32_388
  let v741 : BitVec 32 := Scalar.extui v740
  let v742 : BitVec 32 := Scalar.subi v739 v741
  let c16_i32_386 : BitVec 32 := 16#32
  let c0_i32_389 : BitVec 32 := 0#32
  let v743 : BitVec 1 := Scalar.cmpi .sgt c16_i32_386 c0_i32_389
  let v744 : BitVec 32 := Scalar.extui v743
  let c0_i32_390 : BitVec 32 := 0#32
  let v745 : BitVec 1 := Scalar.cmpi .slt c16_i32_386 c0_i32_390
  let v746 : BitVec 32 := Scalar.extui v745
  let v747 : BitVec 32 := Scalar.subi v744 v746
  let v748 : BitVec 1 := Scalar.cmpi .ne v742 v747
  let v749 : BitVec 32 := Scalar.remsi v736 c16_i32_386
  let c0_i32_391 : BitVec 32 := 0#32
  let v750 : BitVec 1 := Scalar.cmpi .ne v749 c0_i32_391
  let v751 : BitVec 1 := Scalar.andi v748 v750
  let v737 : BitVec 32 := Scalar.divsi v736 c16_i32_386
  let c1_i32_392 : BitVec 32 := 1#32
  let v752 : BitVec 32 := Scalar.subi v737 c1_i32_392
  let v753 : BitVec 32 := Scalar.select v751 v752 v737
  let c16_i32_393 : BitVec 32 := 16#32
  let v754 : BitVec 32 := Scalar.muli v753 c16_i32_393
  let v755 : Index := Scalar.indexCast v754
  ![v755.toNat]
@[reducible] def k0_t55_loop (v782 : BitVec 32) : Scf.Loop 32 :=
  let c0_i32_408 : BitVec 32 := 0#32
  let c32_i32_404 : BitVec 32 := 32#32
  let v783 : BitVec 32 := Scalar.minsi v782 c32_i32_404
  let v789 : BitVec 32 := Scalar.subi v783 c0_i32_408
  let c1_i32_409 : BitVec 32 := 1#32
  let v791 : BitVec 32 := Scalar.divsi v789 c1_i32_409
  let v792 : BitVec 32 := Scalar.muli v791 c1_i32_409
  let v793 : BitVec 32 := Scalar.addi c0_i32_408 v792
  let c1_i32_410 : BitVec 32 := 1#32
  ⟨c0_i32_408, v793, c1_i32_410⟩

@[reducible] def k0_t56_loop (v782 : BitVec 32) : Scf.Loop 32 :=
  let c0_i32_408 : BitVec 32 := 0#32
  let c32_i32_404 : BitVec 32 := 32#32
  let v783 : BitVec 32 := Scalar.minsi v782 c32_i32_404
  let v789 : BitVec 32 := Scalar.subi v783 c0_i32_408
  let c1_i32_409 : BitVec 32 := 1#32
  let v791 : BitVec 32 := Scalar.divsi v789 c1_i32_409
  let v792 : BitVec 32 := Scalar.muli v791 c1_i32_409
  let v793 : BitVec 32 := Scalar.addi c0_i32_408 v792
  let v790 : BitVec 32 := Scalar.addi c0_i32_408 v789
  let c1_i32_411 : BitVec 32 := 1#32
  ⟨v793, v790, c1_i32_411⟩
@[reducible] def k0_t57_loop (v782 : BitVec 32) : Scf.Loop 32 :=
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_415 : BitVec 32 := 1#32
  ⟨c0_i32_413, v800, c1_i32_415⟩
def k0_off186 (i : grid0.Coords) (k0_t42 : Fin (k0_t42_loop i).trips) (v782 : BitVec 32) (k0_t57 : Fin (k0_t57_loop v782).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c32_i32_500 : BitVec 32 := 32#32
  let v987 : BitVec 32 := Scalar.muli v736 c32_i32_500
  let c0_i32_413 : BitVec 32 := 0#32
  let c1_i32_415 : BitVec 32 := 1#32
  let arg26 : BitVec 32 := Scf.iv c0_i32_413 c1_i32_415 k0_t57
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk106 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx81_inb : ∀ (i : grid0.Coords) (k0_t42 : Fin (k0_t42_loop i).trips) (v1037 : IVec S16 32) (v1039 : IVec S16 32) (k0_hw106 : k0_chk106 i k0_t42 v1037 v1039), ∀ a x, ((![v1039, v1037] : Fin 2 → IVec S16 32) a x).toNat < S64x128.size a := fun i k0_t42 v1037 v1039 k0_hw106 => k0_hw106
def k0_off187 (v782 : BitVec 32) (k0_t57 : Fin (k0_t57_loop v782).trips) : Fin 3 → Nat :=
  let c2_i32_523 : BitVec 32 := 2#32
  let v1043 : Index := Scalar.indexCast c2_i32_523
  let c0_i32_413 : BitVec 32 := 0#32
  let c1_i32_415 : BitVec 32 := 1#32
  let arg26 : BitVec 32 := Scf.iv c0_i32_413 c1_i32_415 k0_t57
  let v1044 : Index := Scalar.indexCast arg26
  let c0_524 : Index := 0#32
  ![2, v1044.toNat, 0]

def k0_chk107 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx82_inb : ∀ (i : grid0.Coords) (k0_t42 : Fin (k0_t42_loop i).trips) (v1037 : IVec S16 32) (v1050 : IVec S16 32) (k0_hw107 : k0_chk107 i k0_t42 v1037 v1050), ∀ a x, ((![v1050, v1037] : Fin 2 → IVec S16 32) a x).toNat < S64x128.size a := fun i k0_t42 v1037 v1050 k0_hw107 => k0_hw107
def k0_off188 (v782 : BitVec 32) (k0_t57 : Fin (k0_t57_loop v782).trips) : Fin 3 → Nat :=
  let c2_i32_529 : BitVec 32 := 2#32
  let v1054 : Index := Scalar.indexCast c2_i32_529
  let c0_i32_413 : BitVec 32 := 0#32
  let c1_i32_415 : BitVec 32 := 1#32
  let arg26 : BitVec 32 := Scf.iv c0_i32_413 c1_i32_415 k0_t57
  let v1055 : Index := Scalar.indexCast arg26
  let c16_530 : Index := 16#32
  ![2, v1055.toNat, 16]

def k0_chk108 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx83_inb : ∀ (i : grid0.Coords) (k0_t42 : Fin (k0_t42_loop i).trips) (v1037 : IVec S16 32) (v1061 : IVec S16 32) (k0_hw108 : k0_chk108 i k0_t42 v1037 v1061), ∀ a x, ((![v1061, v1037] : Fin 2 → IVec S16 32) a x).toNat < S64x128.size a := fun i k0_t42 v1037 v1061 k0_hw108 => k0_hw108
def k0_off189 (v782 : BitVec 32) (k0_t57 : Fin (k0_t57_loop v782).trips) : Fin 3 → Nat :=
  let c2_i32_535 : BitVec 32 := 2#32
  let v1065 : Index := Scalar.indexCast c2_i32_535
  let c0_i32_413 : BitVec 32 := 0#32
  let c1_i32_415 : BitVec 32 := 1#32
  let arg26 : BitVec 32 := Scf.iv c0_i32_413 c1_i32_415 k0_t57
  let v1066 : Index := Scalar.indexCast arg26
  let c32_536 : Index := 32#32
  ![2, v1066.toNat, 32]

def k0_chk109 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx84_inb : ∀ (i : grid0.Coords) (k0_t42 : Fin (k0_t42_loop i).trips) (v1037 : IVec S16 32) (v1072 : IVec S16 32) (k0_hw109 : k0_chk109 i k0_t42 v1037 v1072), ∀ a x, ((![v1072, v1037] : Fin 2 → IVec S16 32) a x).toNat < S64x128.size a := fun i k0_t42 v1037 v1072 k0_hw109 => k0_hw109
def k0_off190 (v782 : BitVec 32) (k0_t57 : Fin (k0_t57_loop v782).trips) : Fin 3 → Nat :=
  let c2_i32_540 : BitVec 32 := 2#32
  let v1076 : Index := Scalar.indexCast c2_i32_540
  let c0_i32_413 : BitVec 32 := 0#32
  let c1_i32_415 : BitVec 32 := 1#32
  let arg26 : BitVec 32 := Scf.iv c0_i32_413 c1_i32_415 k0_t57
  let v1077 : Index := Scalar.indexCast arg26
  let c48_541 : Index := 48#32
  ![2, v1077.toNat, 48]
@[reducible] def k0_t58_loop (v782 : BitVec 32) : Scf.Loop 32 :=
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let v797 : BitVec 32 := Scalar.addi c0_i32_413 v796
  let c1_i32_416 : BitVec 32 := 1#32
  ⟨v800, v797, c1_i32_416⟩
def k0_off191 (i : grid0.Coords) (k0_t42 : Fin (k0_t42_loop i).trips) (v782 : BitVec 32) (k0_t58 : Fin (k0_t58_loop v782).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c32_i32_500 : BitVec 32 := 32#32
  let v987 : BitVec 32 := Scalar.muli v736 c32_i32_500
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t58
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk110 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx85_inb : ∀ (i : grid0.Coords) (k0_t42 : Fin (k0_t42_loop i).trips) (v1037 : IVec S16 32) (v1039 : IVec S16 32) (k0_hw110 : k0_chk110 i k0_t42 v1037 v1039), ∀ a x, ((![v1039, v1037] : Fin 2 → IVec S16 32) a x).toNat < S64x128.size a := fun i k0_t42 v1037 v1039 k0_hw110 => k0_hw110
def k0_off192 (v782 : BitVec 32) (k0_t58 : Fin (k0_t58_loop v782).trips) : Fin 3 → Nat :=
  let c2_i32_523 : BitVec 32 := 2#32
  let v1043 : Index := Scalar.indexCast c2_i32_523
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t58
  let v1044 : Index := Scalar.indexCast arg26
  let c0_524 : Index := 0#32
  ![2, v1044.toNat, 0]

def k0_chk111 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx86_inb : ∀ (i : grid0.Coords) (k0_t42 : Fin (k0_t42_loop i).trips) (v1037 : IVec S16 32) (v1050 : IVec S16 32) (k0_hw111 : k0_chk111 i k0_t42 v1037 v1050), ∀ a x, ((![v1050, v1037] : Fin 2 → IVec S16 32) a x).toNat < S64x128.size a := fun i k0_t42 v1037 v1050 k0_hw111 => k0_hw111
def k0_off193 (v782 : BitVec 32) (k0_t58 : Fin (k0_t58_loop v782).trips) : Fin 3 → Nat :=
  let c2_i32_529 : BitVec 32 := 2#32
  let v1054 : Index := Scalar.indexCast c2_i32_529
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t58
  let v1055 : Index := Scalar.indexCast arg26
  let c16_530 : Index := 16#32
  ![2, v1055.toNat, 16]

def k0_chk112 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx87_inb : ∀ (i : grid0.Coords) (k0_t42 : Fin (k0_t42_loop i).trips) (v1037 : IVec S16 32) (v1061 : IVec S16 32) (k0_hw112 : k0_chk112 i k0_t42 v1037 v1061), ∀ a x, ((![v1061, v1037] : Fin 2 → IVec S16 32) a x).toNat < S64x128.size a := fun i k0_t42 v1037 v1061 k0_hw112 => k0_hw112
def k0_off194 (v782 : BitVec 32) (k0_t58 : Fin (k0_t58_loop v782).trips) : Fin 3 → Nat :=
  let c2_i32_535 : BitVec 32 := 2#32
  let v1065 : Index := Scalar.indexCast c2_i32_535
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t58
  let v1066 : Index := Scalar.indexCast arg26
  let c32_536 : Index := 32#32
  ![2, v1066.toNat, 32]

def k0_chk113 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx88_inb : ∀ (i : grid0.Coords) (k0_t42 : Fin (k0_t42_loop i).trips) (v1037 : IVec S16 32) (v1072 : IVec S16 32) (k0_hw113 : k0_chk113 i k0_t42 v1037 v1072), ∀ a x, ((![v1072, v1037] : Fin 2 → IVec S16 32) a x).toNat < S64x128.size a := fun i k0_t42 v1037 v1072 k0_hw113 => k0_hw113
def k0_off195 (v782 : BitVec 32) (k0_t58 : Fin (k0_t58_loop v782).trips) : Fin 3 → Nat :=
  let c2_i32_540 : BitVec 32 := 2#32
  let v1076 : Index := Scalar.indexCast c2_i32_540
  let c0_i32_413 : BitVec 32 := 0#32
  let c32_i32_404 : BitVec 32 := 32#32
  let v783 : BitVec 32 := Scalar.minsi v782 c32_i32_404
  let v796 : BitVec 32 := Scalar.subi v783 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg26 : BitVec 32 := Scf.iv v800 c1_i32_416 k0_t58
  let v1077 : Index := Scalar.indexCast arg26
  let c48_541 : Index := 48#32
  ![2, v1077.toNat, 48]

def k0_chk105 (i : grid0.Coords) (k0_t42 : Fin (k0_t42_loop i).trips) (v782 : BitVec 32) : Prop :=
  ((k0_t55_loop v782).OK) ∧
  ((k0_t56_loop v782).OK) ∧
  ((k0_t57_loop v782).OK) ∧
  (∀ k0_t57 : Fin (k0_t57_loop v782).trips, ∀ a, (k0_off186 i k0_t42 v782 k0_t57) a + S16.size a ≤ S8192.size a) ∧
  (∀ k0_t57 : Fin (k0_t57_loop v782).trips, ∀ a, (k0_off187 v782 k0_t57) a + S1x1x16.size a ≤ S4x32x64.size a) ∧
  (∀ k0_t57 : Fin (k0_t57_loop v782).trips, ∀ a, (k0_off188 v782 k0_t57) a + S1x1x16.size a ≤ S4x32x64.size a) ∧
  (∀ k0_t57 : Fin (k0_t57_loop v782).trips, ∀ a, (k0_off189 v782 k0_t57) a + S1x1x16.size a ≤ S4x32x64.size a) ∧
  (∀ k0_t57 : Fin (k0_t57_loop v782).trips, ∀ a, (k0_off190 v782 k0_t57) a + S1x1x16.size a ≤ S4x32x64.size a) ∧
  ((k0_t58_loop v782).OK) ∧
  (∀ k0_t58 : Fin (k0_t58_loop v782).trips, ∀ a, (k0_off191 i k0_t42 v782 k0_t58) a + S16.size a ≤ S8192.size a) ∧
  (∀ k0_t58 : Fin (k0_t58_loop v782).trips, ∀ a, (k0_off192 v782 k0_t58) a + S1x1x16.size a ≤ S4x32x64.size a) ∧
  (∀ k0_t58 : Fin (k0_t58_loop v782).trips, ∀ a, (k0_off193 v782 k0_t58) a + S1x1x16.size a ≤ S4x32x64.size a) ∧
  (∀ k0_t58 : Fin (k0_t58_loop v782).trips, ∀ a, (k0_off194 v782 k0_t58) a + S1x1x16.size a ≤ S4x32x64.size a) ∧
  (∀ k0_t58 : Fin (k0_t58_loop v782).trips, ∀ a, (k0_off195 v782 k0_t58) a + S1x1x16.size a ≤ S4x32x64.size a)
theorem k0_t55_ok : ∀ (i : grid0.Coords) (k0_t42 : Fin (k0_t42_loop i).trips) (v782 : BitVec 32) (k0_hw105 : k0_chk105 i k0_t42 v782), (k0_t55_loop v782).OK := fun i k0_t42 v782 k0_hw105 => k0_hw105.1
theorem k0_t56_ok : ∀ (i : grid0.Coords) (k0_t42 : Fin (k0_t42_loop i).trips) (v782 : BitVec 32) (k0_hw105 : k0_chk105 i k0_t42 v782), (k0_t56_loop v782).OK := fun i k0_t42 v782 k0_hw105 => k0_hw105.2.1
theorem k0_t57_ok : ∀ (i : grid0.Coords) (k0_t42 : Fin (k0_t42_loop i).trips) (v782 : BitVec 32) (k0_hw105 : k0_chk105 i k0_t42 v782), (k0_t57_loop v782).OK := fun i k0_t42 v782 k0_hw105 => k0_hw105.2.2.1
theorem k0_off186_inb : ∀ (i : grid0.Coords) (k0_t42 : Fin (k0_t42_loop i).trips) (v782 : BitVec 32) (k0_hw105 : k0_chk105 i k0_t42 v782) (k0_t57 : Fin (k0_t57_loop v782).trips), ∀ a, (k0_off186 i k0_t42 v782 k0_t57) a + S16.size a ≤ S8192.size a := fun i k0_t42 v782 k0_hw105 k0_t57 => k0_hw105.2.2.2.1 k0_t57
theorem k0_off187_inb : ∀ (i : grid0.Coords) (k0_t42 : Fin (k0_t42_loop i).trips) (v782 : BitVec 32) (k0_hw105 : k0_chk105 i k0_t42 v782) (k0_t57 : Fin (k0_t57_loop v782).trips), ∀ a, (k0_off187 v782 k0_t57) a + S1x1x16.size a ≤ S4x32x64.size a := fun i k0_t42 v782 k0_hw105 k0_t57 => k0_hw105.2.2.2.2.1 k0_t57
theorem k0_off188_inb : ∀ (i : grid0.Coords) (k0_t42 : Fin (k0_t42_loop i).trips) (v782 : BitVec 32) (k0_hw105 : k0_chk105 i k0_t42 v782) (k0_t57 : Fin (k0_t57_loop v782).trips), ∀ a, (k0_off188 v782 k0_t57) a + S1x1x16.size a ≤ S4x32x64.size a := fun i k0_t42 v782 k0_hw105 k0_t57 => k0_hw105.2.2.2.2.2.1 k0_t57
theorem k0_off189_inb : ∀ (i : grid0.Coords) (k0_t42 : Fin (k0_t42_loop i).trips) (v782 : BitVec 32) (k0_hw105 : k0_chk105 i k0_t42 v782) (k0_t57 : Fin (k0_t57_loop v782).trips), ∀ a, (k0_off189 v782 k0_t57) a + S1x1x16.size a ≤ S4x32x64.size a := fun i k0_t42 v782 k0_hw105 k0_t57 => k0_hw105.2.2.2.2.2.2.1 k0_t57
theorem k0_off190_inb : ∀ (i : grid0.Coords) (k0_t42 : Fin (k0_t42_loop i).trips) (v782 : BitVec 32) (k0_hw105 : k0_chk105 i k0_t42 v782) (k0_t57 : Fin (k0_t57_loop v782).trips), ∀ a, (k0_off190 v782 k0_t57) a + S1x1x16.size a ≤ S4x32x64.size a := fun i k0_t42 v782 k0_hw105 k0_t57 => k0_hw105.2.2.2.2.2.2.2.1 k0_t57
theorem k0_t58_ok : ∀ (i : grid0.Coords) (k0_t42 : Fin (k0_t42_loop i).trips) (v782 : BitVec 32) (k0_hw105 : k0_chk105 i k0_t42 v782), (k0_t58_loop v782).OK := fun i k0_t42 v782 k0_hw105 => k0_hw105.2.2.2.2.2.2.2.2.1
theorem k0_off191_inb : ∀ (i : grid0.Coords) (k0_t42 : Fin (k0_t42_loop i).trips) (v782 : BitVec 32) (k0_hw105 : k0_chk105 i k0_t42 v782) (k0_t58 : Fin (k0_t58_loop v782).trips), ∀ a, (k0_off191 i k0_t42 v782 k0_t58) a + S16.size a ≤ S8192.size a := fun i k0_t42 v782 k0_hw105 k0_t58 => k0_hw105.2.2.2.2.2.2.2.2.2.1 k0_t58
theorem k0_off192_inb : ∀ (i : grid0.Coords) (k0_t42 : Fin (k0_t42_loop i).trips) (v782 : BitVec 32) (k0_hw105 : k0_chk105 i k0_t42 v782) (k0_t58 : Fin (k0_t58_loop v782).trips), ∀ a, (k0_off192 v782 k0_t58) a + S1x1x16.size a ≤ S4x32x64.size a := fun i k0_t42 v782 k0_hw105 k0_t58 => k0_hw105.2.2.2.2.2.2.2.2.2.2.1 k0_t58
theorem k0_off193_inb : ∀ (i : grid0.Coords) (k0_t42 : Fin (k0_t42_loop i).trips) (v782 : BitVec 32) (k0_hw105 : k0_chk105 i k0_t42 v782) (k0_t58 : Fin (k0_t58_loop v782).trips), ∀ a, (k0_off193 v782 k0_t58) a + S1x1x16.size a ≤ S4x32x64.size a := fun i k0_t42 v782 k0_hw105 k0_t58 => k0_hw105.2.2.2.2.2.2.2.2.2.2.2.1 k0_t58
theorem k0_off194_inb : ∀ (i : grid0.Coords) (k0_t42 : Fin (k0_t42_loop i).trips) (v782 : BitVec 32) (k0_hw105 : k0_chk105 i k0_t42 v782) (k0_t58 : Fin (k0_t58_loop v782).trips), ∀ a, (k0_off194 v782 k0_t58) a + S1x1x16.size a ≤ S4x32x64.size a := fun i k0_t42 v782 k0_hw105 k0_t58 => k0_hw105.2.2.2.2.2.2.2.2.2.2.2.2.1 k0_t58
theorem k0_off195_inb : ∀ (i : grid0.Coords) (k0_t42 : Fin (k0_t42_loop i).trips) (v782 : BitVec 32) (k0_hw105 : k0_chk105 i k0_t42 v782) (k0_t58 : Fin (k0_t58_loop v782).trips), ∀ a, (k0_off195 v782 k0_t58) a + S1x1x16.size a ≤ S4x32x64.size a := fun i k0_t42 v782 k0_hw105 k0_t58 => k0_hw105.2.2.2.2.2.2.2.2.2.2.2.2.2 k0_t58

def k0_off196 (i : grid0.Coords) (k0_t42 : Fin (k0_t42_loop i).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_418 : BitVec 32 := 4#32
  let v805 : BitVec 32 := Scalar.addi v736 c4_i32_418
  let c0_i32_420 : BitVec 32 := 0#32
  let v807 : BitVec 1 := Scalar.cmpi .sgt v805 c0_i32_420
  let v808 : BitVec 32 := Scalar.extui v807
  let c0_i32_421 : BitVec 32 := 0#32
  let v809 : BitVec 1 := Scalar.cmpi .slt v805 c0_i32_421
  let v810 : BitVec 32 := Scalar.extui v809
  let v811 : BitVec 32 := Scalar.subi v808 v810
  let c16_i32_419 : BitVec 32 := 16#32
  let c0_i32_422 : BitVec 32 := 0#32
  let v812 : BitVec 1 := Scalar.cmpi .sgt c16_i32_419 c0_i32_422
  let v813 : BitVec 32 := Scalar.extui v812
  let c0_i32_423 : BitVec 32 := 0#32
  let v814 : BitVec 1 := Scalar.cmpi .slt c16_i32_419 c0_i32_423
  let v815 : BitVec 32 := Scalar.extui v814
  let v816 : BitVec 32 := Scalar.subi v813 v815
  let v817 : BitVec 1 := Scalar.cmpi .ne v811 v816
  let v818 : BitVec 32 := Scalar.remsi v805 c16_i32_419
  let c0_i32_424 : BitVec 32 := 0#32
  let v819 : BitVec 1 := Scalar.cmpi .ne v818 c0_i32_424
  let v820 : BitVec 1 := Scalar.andi v817 v819
  let v806 : BitVec 32 := Scalar.divsi v805 c16_i32_419
  let c1_i32_425 : BitVec 32 := 1#32
  let v821 : BitVec 32 := Scalar.subi v806 c1_i32_425
  let v822 : BitVec 32 := Scalar.select v820 v821 v806
  let c16_i32_426 : BitVec 32 := 16#32
  let v823 : BitVec 32 := Scalar.muli v822 c16_i32_426
  let v824 : Index := Scalar.indexCast v823
  ![v824.toNat]
def k0_off197 (i : grid0.Coords) (k0_t42 : Fin (k0_t42_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_384 : BitVec 32 := 4#32
  let c0_i32_263 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c128_i32_501 : BitVec 32 := 128#32
  let v988 : BitVec 32 := Scalar.muli v987 c128_i32_501
  let v989 : BitVec 32 := Scalar.addi v10 v988
  ![0, v989.toNat]
def k0_cond25 (i : grid0.Coords) (k0_t42 : Fin (k0_t42_loop i).trips) : BitVec 1 :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_440 : BitVec 32 := 4#32
  let v857 : BitVec 32 := Scalar.addi v736 c4_i32_440
  let v858 : BitVec 1 := Scalar.cmpi .slt v857 v9
  let v859 : BitVec 32 := Scalar.extui v858
  let c0_i32_441 : BitVec 32 := 0#32
  let v860 : BitVec 1 := Scalar.cmpi .ne v859 c0_i32_441
  v860

def k0_off198 (i : grid0.Coords) (k0_t42 : Fin (k0_t42_loop i).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t59_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off199 (i : grid0.Coords) (k0_t42 : Fin (k0_t42_loop i).trips) (v1033 : BitVec 32) (k0_t59 : Fin (k0_t59_loop v1033).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t59
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off200 (v1033 : BitVec 32) (k0_t59 : Fin (k0_t59_loop v1033).trips) : Fin 2 → Nat :=
  let c0_i32_521 : BitVec 32 := 0#32
  let c1_i32_523 : BitVec 32 := 1#32
  let arg26 : BitVec 32 := Scf.iv c0_i32_521 c1_i32_523 k0_t59
  let c0_i32_547 : BitVec 32 := 0#32
  ![arg26.toNat, 0]
def k0_off201 (v1087 : BitVec 32) : Fin 2 → Nat :=
  let c0_i32_548 : BitVec 32 := 0#32
  ![v1087.toNat, 0]

def k0_chk115 (i : grid0.Coords) (k0_t42 : Fin (k0_t42_loop i).trips) (v1087 : BitVec 32) : Prop :=
  (∀ (k0_h25 : k0_cond25 i k0_t42 = 1#1), ∀ a, (k0_off201 v1087) a + S1x64.size a ≤ S16384x64.size a)
theorem k0_off201_inb : ∀ (i : grid0.Coords) (k0_t42 : Fin (k0_t42_loop i).trips) (v1087 : BitVec 32) (k0_hw115 : k0_chk115 i k0_t42 v1087), ∀ (k0_h25 : k0_cond25 i k0_t42 = 1#1), ∀ a, (k0_off201 v1087) a + S1x64.size a ≤ S16384x64.size a := fun i k0_t42 v1087 k0_hw115 k0_h25 => k0_hw115 k0_h25

def k0_off202 (v1033 : BitVec 32) (k0_t59 : Fin (k0_t59_loop v1033).trips) : Fin 2 → Nat :=
  let c0_i32_521 : BitVec 32 := 0#32
  let c1_i32_523 : BitVec 32 := 1#32
  let arg26 : BitVec 32 := Scf.iv c0_i32_521 c1_i32_523 k0_t59
  let c0_i32_551 : BitVec 32 := 0#32
  ![arg26.toNat, 0]
@[reducible] def k0_t60_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off203 (i : grid0.Coords) (k0_t42 : Fin (k0_t42_loop i).trips) (v1033 : BitVec 32) (k0_t60 : Fin (k0_t60_loop v1033).trips) : Fin 1 → Nat :=
  let c4_i32_384 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v735 : BitVec 32 := Scalar.muli c4_i32_384 arg21
  let c2_i32_385 : BitVec 32 := 2#32
  let v736 : BitVec 32 := Scalar.addi v735 c2_i32_385
  let c4_i32_500 : BitVec 32 := 4#32
  let v987 : BitVec 32 := Scalar.addi v736 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t60
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off204 (v1033 : BitVec 32) (k0_t60 : Fin (k0_t60_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t60
  let c0_i32_547 : BitVec 32 := 0#32
  ![arg26.toNat, 0]
def k0_off205 (v1087 : BitVec 32) : Fin 2 → Nat :=
  let c0_i32_548 : BitVec 32 := 0#32
  ![v1087.toNat, 0]

def k0_chk116 (i : grid0.Coords) (k0_t42 : Fin (k0_t42_loop i).trips) (v1087 : BitVec 32) : Prop :=
  (∀ (k0_h25 : k0_cond25 i k0_t42 = 1#1), ∀ a, (k0_off205 v1087) a + S1x64.size a ≤ S16384x64.size a)
theorem k0_off205_inb : ∀ (i : grid0.Coords) (k0_t42 : Fin (k0_t42_loop i).trips) (v1087 : BitVec 32) (k0_hw116 : k0_chk116 i k0_t42 v1087), ∀ (k0_h25 : k0_cond25 i k0_t42 = 1#1), ∀ a, (k0_off205 v1087) a + S1x64.size a ≤ S16384x64.size a := fun i k0_t42 v1087 k0_hw116 k0_h25 => k0_hw116 k0_h25

def k0_off206 (v1033 : BitVec 32) (k0_t60 : Fin (k0_t60_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t60
  let c0_i32_551 : BitVec 32 := 0#32
  ![arg26.toNat, 0]

def k0_chk114 (i : grid0.Coords) (k0_t42 : Fin (k0_t42_loop i).trips) (v1033 : BitVec 32) : Prop :=
  (∀ (k0_h25 : k0_cond25 i k0_t42 = 1#1), (k0_t59_loop v1033).OK) ∧
  (∀ k0_t59 : Fin (k0_t59_loop v1033).trips, ∀ (k0_h25 : k0_cond25 i k0_t42 = 1#1), ∀ a, (k0_off199 i k0_t42 v1033 k0_t59) a + S16.size a ≤ S8192.size a) ∧
  (∀ k0_t59 : Fin (k0_t59_loop v1033).trips, ∀ (k0_h25 : k0_cond25 i k0_t42 = 1#1), ∀ a, (k0_off200 v1033 k0_t59) a + S1x64.size a ≤ S32x64.size a) ∧
  (∀ k0_t59 : Fin (k0_t59_loop v1033).trips, ∀ (k0_h25 : k0_cond25 i k0_t42 = 1#1), ∀ a, (k0_off202 v1033 k0_t59) a + S1x64.size a ≤ S32x64.size a) ∧
  (∀ (k0_h25 : k0_cond25 i k0_t42 = 1#1), (k0_t60_loop v1033).OK) ∧
  (∀ k0_t60 : Fin (k0_t60_loop v1033).trips, ∀ (k0_h25 : k0_cond25 i k0_t42 = 1#1), ∀ a, (k0_off203 i k0_t42 v1033 k0_t60) a + S16.size a ≤ S8192.size a) ∧
  (∀ k0_t60 : Fin (k0_t60_loop v1033).trips, ∀ (k0_h25 : k0_cond25 i k0_t42 = 1#1), ∀ a, (k0_off204 v1033 k0_t60) a + S1x64.size a ≤ S32x64.size a) ∧
  (∀ k0_t60 : Fin (k0_t60_loop v1033).trips, ∀ (k0_h25 : k0_cond25 i k0_t42 = 1#1), ∀ a, (k0_off206 v1033 k0_t60) a + S1x64.size a ≤ S32x64.size a)
theorem k0_t59_ok : ∀ (i : grid0.Coords) (k0_t42 : Fin (k0_t42_loop i).trips) (v1033 : BitVec 32) (k0_hw114 : k0_chk114 i k0_t42 v1033), ∀ (k0_h25 : k0_cond25 i k0_t42 = 1#1), (k0_t59_loop v1033).OK := fun i k0_t42 v1033 k0_hw114 k0_h25 => k0_hw114.1 k0_h25
theorem k0_off199_inb : ∀ (i : grid0.Coords) (k0_t42 : Fin (k0_t42_loop i).trips) (v1033 : BitVec 32) (k0_hw114 : k0_chk114 i k0_t42 v1033) (k0_t59 : Fin (k0_t59_loop v1033).trips), ∀ (k0_h25 : k0_cond25 i k0_t42 = 1#1), ∀ a, (k0_off199 i k0_t42 v1033 k0_t59) a + S16.size a ≤ S8192.size a := fun i k0_t42 v1033 k0_hw114 k0_t59 k0_h25 => k0_hw114.2.1 k0_t59 k0_h25
theorem k0_off200_inb : ∀ (i : grid0.Coords) (k0_t42 : Fin (k0_t42_loop i).trips) (v1033 : BitVec 32) (k0_hw114 : k0_chk114 i k0_t42 v1033) (k0_t59 : Fin (k0_t59_loop v1033).trips), ∀ (k0_h25 : k0_cond25 i k0_t42 = 1#1), ∀ a, (k0_off200 v1033 k0_t59) a + S1x64.size a ≤ S32x64.size a := fun i k0_t42 v1033 k0_hw114 k0_t59 k0_h25 => k0_hw114.2.2.1 k0_t59 k0_h25
theorem k0_off202_inb : ∀ (i : grid0.Coords) (k0_t42 : Fin (k0_t42_loop i).trips) (v1033 : BitVec 32) (k0_hw114 : k0_chk114 i k0_t42 v1033) (k0_t59 : Fin (k0_t59_loop v1033).trips), ∀ (k0_h25 : k0_cond25 i k0_t42 = 1#1), ∀ a, (k0_off202 v1033 k0_t59) a + S1x64.size a ≤ S32x64.size a := fun i k0_t42 v1033 k0_hw114 k0_t59 k0_h25 => k0_hw114.2.2.2.1 k0_t59 k0_h25
theorem k0_t60_ok : ∀ (i : grid0.Coords) (k0_t42 : Fin (k0_t42_loop i).trips) (v1033 : BitVec 32) (k0_hw114 : k0_chk114 i k0_t42 v1033), ∀ (k0_h25 : k0_cond25 i k0_t42 = 1#1), (k0_t60_loop v1033).OK := fun i k0_t42 v1033 k0_hw114 k0_h25 => k0_hw114.2.2.2.2.1 k0_h25
theorem k0_off203_inb : ∀ (i : grid0.Coords) (k0_t42 : Fin (k0_t42_loop i).trips) (v1033 : BitVec 32) (k0_hw114 : k0_chk114 i k0_t42 v1033) (k0_t60 : Fin (k0_t60_loop v1033).trips), ∀ (k0_h25 : k0_cond25 i k0_t42 = 1#1), ∀ a, (k0_off203 i k0_t42 v1033 k0_t60) a + S16.size a ≤ S8192.size a := fun i k0_t42 v1033 k0_hw114 k0_t60 k0_h25 => k0_hw114.2.2.2.2.2.1 k0_t60 k0_h25
theorem k0_off204_inb : ∀ (i : grid0.Coords) (k0_t42 : Fin (k0_t42_loop i).trips) (v1033 : BitVec 32) (k0_hw114 : k0_chk114 i k0_t42 v1033) (k0_t60 : Fin (k0_t60_loop v1033).trips), ∀ (k0_h25 : k0_cond25 i k0_t42 = 1#1), ∀ a, (k0_off204 v1033 k0_t60) a + S1x64.size a ≤ S32x64.size a := fun i k0_t42 v1033 k0_hw114 k0_t60 k0_h25 => k0_hw114.2.2.2.2.2.2.1 k0_t60 k0_h25
theorem k0_off206_inb : ∀ (i : grid0.Coords) (k0_t42 : Fin (k0_t42_loop i).trips) (v1033 : BitVec 32) (k0_hw114 : k0_chk114 i k0_t42 v1033) (k0_t60 : Fin (k0_t60_loop v1033).trips), ∀ (k0_h25 : k0_cond25 i k0_t42 = 1#1), ∀ a, (k0_off206 v1033 k0_t60) a + S1x64.size a ≤ S32x64.size a := fun i k0_t42 v1033 k0_hw114 k0_t60 k0_h25 => k0_hw114.2.2.2.2.2.2.2 k0_t60 k0_h25

def k0_off207 (i : grid0.Coords) (k0_t42 : Fin (k0_t42_loop i).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c0_i32_445 : BitVec 32 := 0#32
  let v864 : BitVec 1 := Scalar.cmpi .sgt v862 c0_i32_445
  let v865 : BitVec 32 := Scalar.extui v864
  let c0_i32_446 : BitVec 32 := 0#32
  let v866 : BitVec 1 := Scalar.cmpi .slt v862 c0_i32_446
  let v867 : BitVec 32 := Scalar.extui v866
  let v868 : BitVec 32 := Scalar.subi v865 v867
  let c16_i32_444 : BitVec 32 := 16#32
  let c0_i32_447 : BitVec 32 := 0#32
  let v869 : BitVec 1 := Scalar.cmpi .sgt c16_i32_444 c0_i32_447
  let v870 : BitVec 32 := Scalar.extui v869
  let c0_i32_448 : BitVec 32 := 0#32
  let v871 : BitVec 1 := Scalar.cmpi .slt c16_i32_444 c0_i32_448
  let v872 : BitVec 32 := Scalar.extui v871
  let v873 : BitVec 32 := Scalar.subi v870 v872
  let v874 : BitVec 1 := Scalar.cmpi .ne v868 v873
  let v875 : BitVec 32 := Scalar.remsi v862 c16_i32_444
  let c0_i32_449 : BitVec 32 := 0#32
  let v876 : BitVec 1 := Scalar.cmpi .ne v875 c0_i32_449
  let v877 : BitVec 1 := Scalar.andi v874 v876
  let v863 : BitVec 32 := Scalar.divsi v862 c16_i32_444
  let c1_i32_450 : BitVec 32 := 1#32
  let v878 : BitVec 32 := Scalar.subi v863 c1_i32_450
  let v879 : BitVec 32 := Scalar.select v877 v878 v863
  let c16_i32_451 : BitVec 32 := 16#32
  let v880 : BitVec 32 := Scalar.muli v879 c16_i32_451
  let v881 : Index := Scalar.indexCast v880
  ![v881.toNat]
@[reducible] def k0_t61_loop (v908 : BitVec 32) : Scf.Loop 32 :=
  let c0_i32_466 : BitVec 32 := 0#32
  let c32_i32_462 : BitVec 32 := 32#32
  let v909 : BitVec 32 := Scalar.minsi v908 c32_i32_462
  let v915 : BitVec 32 := Scalar.subi v909 c0_i32_466
  let c1_i32_467 : BitVec 32 := 1#32
  let v917 : BitVec 32 := Scalar.divsi v915 c1_i32_467
  let v918 : BitVec 32 := Scalar.muli v917 c1_i32_467
  let v919 : BitVec 32 := Scalar.addi c0_i32_466 v918
  let c1_i32_468 : BitVec 32 := 1#32
  ⟨c0_i32_466, v919, c1_i32_468⟩

@[reducible] def k0_t62_loop (v908 : BitVec 32) : Scf.Loop 32 :=
  let c0_i32_466 : BitVec 32 := 0#32
  let c32_i32_462 : BitVec 32 := 32#32
  let v909 : BitVec 32 := Scalar.minsi v908 c32_i32_462
  let v915 : BitVec 32 := Scalar.subi v909 c0_i32_466
  let c1_i32_467 : BitVec 32 := 1#32
  let v917 : BitVec 32 := Scalar.divsi v915 c1_i32_467
  let v918 : BitVec 32 := Scalar.muli v917 c1_i32_467
  let v919 : BitVec 32 := Scalar.addi c0_i32_466 v918
  let v916 : BitVec 32 := Scalar.addi c0_i32_466 v915
  let c1_i32_469 : BitVec 32 := 1#32
  ⟨v919, v916, c1_i32_469⟩
@[reducible] def k0_t63_loop (v908 : BitVec 32) : Scf.Loop 32 :=
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_473 : BitVec 32 := 1#32
  ⟨c0_i32_471, v926, c1_i32_473⟩
def k0_off208 (i : grid0.Coords) (k0_t42 : Fin (k0_t42_loop i).trips) (v908 : BitVec 32) (k0_t63 : Fin (k0_t63_loop v908).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c32_i32_500 : BitVec 32 := 32#32
  let v987 : BitVec 32 := Scalar.muli v862 c32_i32_500
  let c0_i32_471 : BitVec 32 := 0#32
  let c1_i32_473 : BitVec 32 := 1#32
  let arg26 : BitVec 32 := Scf.iv c0_i32_471 c1_i32_473 k0_t63
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk118 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx89_inb : ∀ (i : grid0.Coords) (k0_t42 : Fin (k0_t42_loop i).trips) (v1037 : IVec S16 32) (v1039 : IVec S16 32) (k0_hw118 : k0_chk118 i k0_t42 v1037 v1039), ∀ a x, ((![v1039, v1037] : Fin 2 → IVec S16 32) a x).toNat < S64x128.size a := fun i k0_t42 v1037 v1039 k0_hw118 => k0_hw118
def k0_off209 (v908 : BitVec 32) (k0_t63 : Fin (k0_t63_loop v908).trips) : Fin 3 → Nat :=
  let c3_i32_523 : BitVec 32 := 3#32
  let v1043 : Index := Scalar.indexCast c3_i32_523
  let c0_i32_471 : BitVec 32 := 0#32
  let c1_i32_473 : BitVec 32 := 1#32
  let arg26 : BitVec 32 := Scf.iv c0_i32_471 c1_i32_473 k0_t63
  let v1044 : Index := Scalar.indexCast arg26
  let c0_524 : Index := 0#32
  ![3, v1044.toNat, 0]

def k0_chk119 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx90_inb : ∀ (i : grid0.Coords) (k0_t42 : Fin (k0_t42_loop i).trips) (v1037 : IVec S16 32) (v1050 : IVec S16 32) (k0_hw119 : k0_chk119 i k0_t42 v1037 v1050), ∀ a x, ((![v1050, v1037] : Fin 2 → IVec S16 32) a x).toNat < S64x128.size a := fun i k0_t42 v1037 v1050 k0_hw119 => k0_hw119
def k0_off210 (v908 : BitVec 32) (k0_t63 : Fin (k0_t63_loop v908).trips) : Fin 3 → Nat :=
  let c3_i32_529 : BitVec 32 := 3#32
  let v1054 : Index := Scalar.indexCast c3_i32_529
  let c0_i32_471 : BitVec 32 := 0#32
  let c1_i32_473 : BitVec 32 := 1#32
  let arg26 : BitVec 32 := Scf.iv c0_i32_471 c1_i32_473 k0_t63
  let v1055 : Index := Scalar.indexCast arg26
  let c16_530 : Index := 16#32
  ![3, v1055.toNat, 16]

def k0_chk120 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx91_inb : ∀ (i : grid0.Coords) (k0_t42 : Fin (k0_t42_loop i).trips) (v1037 : IVec S16 32) (v1061 : IVec S16 32) (k0_hw120 : k0_chk120 i k0_t42 v1037 v1061), ∀ a x, ((![v1061, v1037] : Fin 2 → IVec S16 32) a x).toNat < S64x128.size a := fun i k0_t42 v1037 v1061 k0_hw120 => k0_hw120
def k0_off211 (v908 : BitVec 32) (k0_t63 : Fin (k0_t63_loop v908).trips) : Fin 3 → Nat :=
  let c3_i32_535 : BitVec 32 := 3#32
  let v1065 : Index := Scalar.indexCast c3_i32_535
  let c0_i32_471 : BitVec 32 := 0#32
  let c1_i32_473 : BitVec 32 := 1#32
  let arg26 : BitVec 32 := Scf.iv c0_i32_471 c1_i32_473 k0_t63
  let v1066 : Index := Scalar.indexCast arg26
  let c32_536 : Index := 32#32
  ![3, v1066.toNat, 32]

def k0_chk121 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx92_inb : ∀ (i : grid0.Coords) (k0_t42 : Fin (k0_t42_loop i).trips) (v1037 : IVec S16 32) (v1072 : IVec S16 32) (k0_hw121 : k0_chk121 i k0_t42 v1037 v1072), ∀ a x, ((![v1072, v1037] : Fin 2 → IVec S16 32) a x).toNat < S64x128.size a := fun i k0_t42 v1037 v1072 k0_hw121 => k0_hw121
def k0_off212 (v908 : BitVec 32) (k0_t63 : Fin (k0_t63_loop v908).trips) : Fin 3 → Nat :=
  let c3_i32_540 : BitVec 32 := 3#32
  let v1076 : Index := Scalar.indexCast c3_i32_540
  let c0_i32_471 : BitVec 32 := 0#32
  let c1_i32_473 : BitVec 32 := 1#32
  let arg26 : BitVec 32 := Scf.iv c0_i32_471 c1_i32_473 k0_t63
  let v1077 : Index := Scalar.indexCast arg26
  let c48_541 : Index := 48#32
  ![3, v1077.toNat, 48]
@[reducible] def k0_t64_loop (v908 : BitVec 32) : Scf.Loop 32 :=
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let v923 : BitVec 32 := Scalar.addi c0_i32_471 v922
  let c1_i32_474 : BitVec 32 := 1#32
  ⟨v926, v923, c1_i32_474⟩
def k0_off213 (i : grid0.Coords) (k0_t42 : Fin (k0_t42_loop i).trips) (v908 : BitVec 32) (k0_t64 : Fin (k0_t64_loop v908).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c32_i32_500 : BitVec 32 := 32#32
  let v987 : BitVec 32 := Scalar.muli v862 c32_i32_500
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t64
  let c0_i32_502 : BitVec 32 := 0#32
  let v989 : BitVec 1 := Scalar.cmpi .sgt arg26 c0_i32_502
  let v990 : BitVec 32 := Scalar.extui v989
  let c0_i32_503 : BitVec 32 := 0#32
  let v991 : BitVec 1 := Scalar.cmpi .slt arg26 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi arg26 c16_i32_501
  let c0_i32_506 : BitVec 32 := 0#32
  let v1001 : BitVec 1 := Scalar.cmpi .ne v1000 c0_i32_506
  let v1002 : BitVec 1 := Scalar.andi v999 v1001
  let v988 : BitVec 32 := Scalar.divsi arg26 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : BitVec 32 := Scalar.addi v987 v1005
  let v1026 : Index := Scalar.indexCast v1006
  ![v1026.toNat]

def k0_chk122 (i : grid0.Coords) (k0_t42 : Fin (k0_t42_loop i).trips) (v1037 : IVec S16 32) (v1039 : IVec S16 32) : Prop :=
  (∀ a x, ((![v1039, v1037] : Fin 2 → IVec S16 32) a x).toNat < S64x128.size a)
theorem k0_idx93_inb : ∀ (i : grid0.Coords) (k0_t42 : Fin (k0_t42_loop i).trips) (v1037 : IVec S16 32) (v1039 : IVec S16 32) (k0_hw122 : k0_chk122 i k0_t42 v1037 v1039), ∀ a x, ((![v1039, v1037] : Fin 2 → IVec S16 32) a x).toNat < S64x128.size a := fun i k0_t42 v1037 v1039 k0_hw122 => k0_hw122
def k0_off214 (v908 : BitVec 32) (k0_t64 : Fin (k0_t64_loop v908).trips) : Fin 3 → Nat :=
  let c3_i32_523 : BitVec 32 := 3#32
  let v1043 : Index := Scalar.indexCast c3_i32_523
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t64
  let v1044 : Index := Scalar.indexCast arg26
  let c0_524 : Index := 0#32
  ![3, v1044.toNat, 0]

def k0_chk123 (i : grid0.Coords) (k0_t42 : Fin (k0_t42_loop i).trips) (v1037 : IVec S16 32) (v1050 : IVec S16 32) : Prop :=
  (∀ a x, ((![v1050, v1037] : Fin 2 → IVec S16 32) a x).toNat < S64x128.size a)
theorem k0_idx94_inb : ∀ (i : grid0.Coords) (k0_t42 : Fin (k0_t42_loop i).trips) (v1037 : IVec S16 32) (v1050 : IVec S16 32) (k0_hw123 : k0_chk123 i k0_t42 v1037 v1050), ∀ a x, ((![v1050, v1037] : Fin 2 → IVec S16 32) a x).toNat < S64x128.size a := fun i k0_t42 v1037 v1050 k0_hw123 => k0_hw123
def k0_off215 (v908 : BitVec 32) (k0_t64 : Fin (k0_t64_loop v908).trips) : Fin 3 → Nat :=
  let c3_i32_529 : BitVec 32 := 3#32
  let v1054 : Index := Scalar.indexCast c3_i32_529
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t64
  let v1055 : Index := Scalar.indexCast arg26
  let c16_530 : Index := 16#32
  ![3, v1055.toNat, 16]

def k0_chk124 (i : grid0.Coords) (k0_t42 : Fin (k0_t42_loop i).trips) (v1037 : IVec S16 32) (v1061 : IVec S16 32) : Prop :=
  (∀ a x, ((![v1061, v1037] : Fin 2 → IVec S16 32) a x).toNat < S64x128.size a)
theorem k0_idx95_inb : ∀ (i : grid0.Coords) (k0_t42 : Fin (k0_t42_loop i).trips) (v1037 : IVec S16 32) (v1061 : IVec S16 32) (k0_hw124 : k0_chk124 i k0_t42 v1037 v1061), ∀ a x, ((![v1061, v1037] : Fin 2 → IVec S16 32) a x).toNat < S64x128.size a := fun i k0_t42 v1037 v1061 k0_hw124 => k0_hw124
def k0_off216 (v908 : BitVec 32) (k0_t64 : Fin (k0_t64_loop v908).trips) : Fin 3 → Nat :=
  let c3_i32_535 : BitVec 32 := 3#32
  let v1065 : Index := Scalar.indexCast c3_i32_535
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t64
  let v1066 : Index := Scalar.indexCast arg26
  let c32_536 : Index := 32#32
  ![3, v1066.toNat, 32]

def k0_chk125 (i : grid0.Coords) (k0_t42 : Fin (k0_t42_loop i).trips) (v1037 : IVec S16 32) (v1072 : IVec S16 32) : Prop :=
  (∀ a x, ((![v1072, v1037] : Fin 2 → IVec S16 32) a x).toNat < S64x128.size a)
theorem k0_idx96_inb : ∀ (i : grid0.Coords) (k0_t42 : Fin (k0_t42_loop i).trips) (v1037 : IVec S16 32) (v1072 : IVec S16 32) (k0_hw125 : k0_chk125 i k0_t42 v1037 v1072), ∀ a x, ((![v1072, v1037] : Fin 2 → IVec S16 32) a x).toNat < S64x128.size a := fun i k0_t42 v1037 v1072 k0_hw125 => k0_hw125
def k0_off217 (v908 : BitVec 32) (k0_t64 : Fin (k0_t64_loop v908).trips) : Fin 3 → Nat :=
  let c3_i32_540 : BitVec 32 := 3#32
  let v1076 : Index := Scalar.indexCast c3_i32_540
  let c0_i32_471 : BitVec 32 := 0#32
  let c32_i32_462 : BitVec 32 := 32#32
  let v909 : BitVec 32 := Scalar.minsi v908 c32_i32_462
  let v922 : BitVec 32 := Scalar.subi v909 c0_i32_471
  let c1_i32_472 : BitVec 32 := 1#32
  let v924 : BitVec 32 := Scalar.divsi v922 c1_i32_472
  let v925 : BitVec 32 := Scalar.muli v924 c1_i32_472
  let v926 : BitVec 32 := Scalar.addi c0_i32_471 v925
  let c1_i32_474 : BitVec 32 := 1#32
  let arg26 : BitVec 32 := Scf.iv v926 c1_i32_474 k0_t64
  let v1077 : Index := Scalar.indexCast arg26
  let c48_541 : Index := 48#32
  ![3, v1077.toNat, 48]

def k0_chk117 (i : grid0.Coords) (k0_t42 : Fin (k0_t42_loop i).trips) (v908 : BitVec 32) : Prop :=
  ((k0_t61_loop v908).OK) ∧
  ((k0_t62_loop v908).OK) ∧
  ((k0_t63_loop v908).OK) ∧
  (∀ k0_t63 : Fin (k0_t63_loop v908).trips, ∀ a, (k0_off208 i k0_t42 v908 k0_t63) a + S16.size a ≤ S8192.size a) ∧
  (∀ k0_t63 : Fin (k0_t63_loop v908).trips, ∀ a, (k0_off209 v908 k0_t63) a + S1x1x16.size a ≤ S4x32x64.size a) ∧
  (∀ k0_t63 : Fin (k0_t63_loop v908).trips, ∀ a, (k0_off210 v908 k0_t63) a + S1x1x16.size a ≤ S4x32x64.size a) ∧
  (∀ k0_t63 : Fin (k0_t63_loop v908).trips, ∀ a, (k0_off211 v908 k0_t63) a + S1x1x16.size a ≤ S4x32x64.size a) ∧
  (∀ k0_t63 : Fin (k0_t63_loop v908).trips, ∀ a, (k0_off212 v908 k0_t63) a + S1x1x16.size a ≤ S4x32x64.size a) ∧
  ((k0_t64_loop v908).OK) ∧
  (∀ k0_t64 : Fin (k0_t64_loop v908).trips, ∀ a, (k0_off213 i k0_t42 v908 k0_t64) a + S16.size a ≤ S8192.size a) ∧
  (∀ k0_t64 : Fin (k0_t64_loop v908).trips, ∀ a, (k0_off214 v908 k0_t64) a + S1x1x16.size a ≤ S4x32x64.size a) ∧
  (∀ k0_t64 : Fin (k0_t64_loop v908).trips, ∀ a, (k0_off215 v908 k0_t64) a + S1x1x16.size a ≤ S4x32x64.size a) ∧
  (∀ k0_t64 : Fin (k0_t64_loop v908).trips, ∀ a, (k0_off216 v908 k0_t64) a + S1x1x16.size a ≤ S4x32x64.size a) ∧
  (∀ k0_t64 : Fin (k0_t64_loop v908).trips, ∀ a, (k0_off217 v908 k0_t64) a + S1x1x16.size a ≤ S4x32x64.size a)
theorem k0_t61_ok : ∀ (i : grid0.Coords) (k0_t42 : Fin (k0_t42_loop i).trips) (v908 : BitVec 32) (k0_hw117 : k0_chk117 i k0_t42 v908), (k0_t61_loop v908).OK := fun i k0_t42 v908 k0_hw117 => k0_hw117.1
theorem k0_t62_ok : ∀ (i : grid0.Coords) (k0_t42 : Fin (k0_t42_loop i).trips) (v908 : BitVec 32) (k0_hw117 : k0_chk117 i k0_t42 v908), (k0_t62_loop v908).OK := fun i k0_t42 v908 k0_hw117 => k0_hw117.2.1
theorem k0_t63_ok : ∀ (i : grid0.Coords) (k0_t42 : Fin (k0_t42_loop i).trips) (v908 : BitVec 32) (k0_hw117 : k0_chk117 i k0_t42 v908), (k0_t63_loop v908).OK := fun i k0_t42 v908 k0_hw117 => k0_hw117.2.2.1
theorem k0_off208_inb : ∀ (i : grid0.Coords) (k0_t42 : Fin (k0_t42_loop i).trips) (v908 : BitVec 32) (k0_hw117 : k0_chk117 i k0_t42 v908) (k0_t63 : Fin (k0_t63_loop v908).trips), ∀ a, (k0_off208 i k0_t42 v908 k0_t63) a + S16.size a ≤ S8192.size a := fun i k0_t42 v908 k0_hw117 k0_t63 => k0_hw117.2.2.2.1 k0_t63
theorem k0_off209_inb : ∀ (i : grid0.Coords) (k0_t42 : Fin (k0_t42_loop i).trips) (v908 : BitVec 32) (k0_hw117 : k0_chk117 i k0_t42 v908) (k0_t63 : Fin (k0_t63_loop v908).trips), ∀ a, (k0_off209 v908 k0_t63) a + S1x1x16.size a ≤ S4x32x64.size a := fun i k0_t42 v908 k0_hw117 k0_t63 => k0_hw117.2.2.2.2.1 k0_t63
theorem k0_off210_inb : ∀ (i : grid0.Coords) (k0_t42 : Fin (k0_t42_loop i).trips) (v908 : BitVec 32) (k0_hw117 : k0_chk117 i k0_t42 v908) (k0_t63 : Fin (k0_t63_loop v908).trips), ∀ a, (k0_off210 v908 k0_t63) a + S1x1x16.size a ≤ S4x32x64.size a := fun i k0_t42 v908 k0_hw117 k0_t63 => k0_hw117.2.2.2.2.2.1 k0_t63
theorem k0_off211_inb : ∀ (i : grid0.Coords) (k0_t42 : Fin (k0_t42_loop i).trips) (v908 : BitVec 32) (k0_hw117 : k0_chk117 i k0_t42 v908) (k0_t63 : Fin (k0_t63_loop v908).trips), ∀ a, (k0_off211 v908 k0_t63) a + S1x1x16.size a ≤ S4x32x64.size a := fun i k0_t42 v908 k0_hw117 k0_t63 => k0_hw117.2.2.2.2.2.2.1 k0_t63
theorem k0_off212_inb : ∀ (i : grid0.Coords) (k0_t42 : Fin (k0_t42_loop i).trips) (v908 : BitVec 32) (k0_hw117 : k0_chk117 i k0_t42 v908) (k0_t63 : Fin (k0_t63_loop v908).trips), ∀ a, (k0_off212 v908 k0_t63) a + S1x1x16.size a ≤ S4x32x64.size a := fun i k0_t42 v908 k0_hw117 k0_t63 => k0_hw117.2.2.2.2.2.2.2.1 k0_t63
theorem k0_t64_ok : ∀ (i : grid0.Coords) (k0_t42 : Fin (k0_t42_loop i).trips) (v908 : BitVec 32) (k0_hw117 : k0_chk117 i k0_t42 v908), (k0_t64_loop v908).OK := fun i k0_t42 v908 k0_hw117 => k0_hw117.2.2.2.2.2.2.2.2.1
theorem k0_off213_inb : ∀ (i : grid0.Coords) (k0_t42 : Fin (k0_t42_loop i).trips) (v908 : BitVec 32) (k0_hw117 : k0_chk117 i k0_t42 v908) (k0_t64 : Fin (k0_t64_loop v908).trips), ∀ a, (k0_off213 i k0_t42 v908 k0_t64) a + S16.size a ≤ S8192.size a := fun i k0_t42 v908 k0_hw117 k0_t64 => k0_hw117.2.2.2.2.2.2.2.2.2.1 k0_t64
theorem k0_off214_inb : ∀ (i : grid0.Coords) (k0_t42 : Fin (k0_t42_loop i).trips) (v908 : BitVec 32) (k0_hw117 : k0_chk117 i k0_t42 v908) (k0_t64 : Fin (k0_t64_loop v908).trips), ∀ a, (k0_off214 v908 k0_t64) a + S1x1x16.size a ≤ S4x32x64.size a := fun i k0_t42 v908 k0_hw117 k0_t64 => k0_hw117.2.2.2.2.2.2.2.2.2.2.1 k0_t64
theorem k0_off215_inb : ∀ (i : grid0.Coords) (k0_t42 : Fin (k0_t42_loop i).trips) (v908 : BitVec 32) (k0_hw117 : k0_chk117 i k0_t42 v908) (k0_t64 : Fin (k0_t64_loop v908).trips), ∀ a, (k0_off215 v908 k0_t64) a + S1x1x16.size a ≤ S4x32x64.size a := fun i k0_t42 v908 k0_hw117 k0_t64 => k0_hw117.2.2.2.2.2.2.2.2.2.2.2.1 k0_t64
theorem k0_off216_inb : ∀ (i : grid0.Coords) (k0_t42 : Fin (k0_t42_loop i).trips) (v908 : BitVec 32) (k0_hw117 : k0_chk117 i k0_t42 v908) (k0_t64 : Fin (k0_t64_loop v908).trips), ∀ a, (k0_off216 v908 k0_t64) a + S1x1x16.size a ≤ S4x32x64.size a := fun i k0_t42 v908 k0_hw117 k0_t64 => k0_hw117.2.2.2.2.2.2.2.2.2.2.2.2.1 k0_t64
theorem k0_off217_inb : ∀ (i : grid0.Coords) (k0_t42 : Fin (k0_t42_loop i).trips) (v908 : BitVec 32) (k0_hw117 : k0_chk117 i k0_t42 v908) (k0_t64 : Fin (k0_t64_loop v908).trips), ∀ a, (k0_off217 v908 k0_t64) a + S1x1x16.size a ≤ S4x32x64.size a := fun i k0_t42 v908 k0_hw117 k0_t64 => k0_hw117.2.2.2.2.2.2.2.2.2.2.2.2.2 k0_t64

def k0_off218 (i : grid0.Coords) (k0_t42 : Fin (k0_t42_loop i).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_476 : BitVec 32 := 4#32
  let v931 : BitVec 32 := Scalar.addi v862 c4_i32_476
  let c0_i32_478 : BitVec 32 := 0#32
  let v933 : BitVec 1 := Scalar.cmpi .sgt v931 c0_i32_478
  let v934 : BitVec 32 := Scalar.extui v933
  let c0_i32_479 : BitVec 32 := 0#32
  let v935 : BitVec 1 := Scalar.cmpi .slt v931 c0_i32_479
  let v936 : BitVec 32 := Scalar.extui v935
  let v937 : BitVec 32 := Scalar.subi v934 v936
  let c16_i32_477 : BitVec 32 := 16#32
  let c0_i32_480 : BitVec 32 := 0#32
  let v938 : BitVec 1 := Scalar.cmpi .sgt c16_i32_477 c0_i32_480
  let v939 : BitVec 32 := Scalar.extui v938
  let c0_i32_481 : BitVec 32 := 0#32
  let v940 : BitVec 1 := Scalar.cmpi .slt c16_i32_477 c0_i32_481
  let v941 : BitVec 32 := Scalar.extui v940
  let v942 : BitVec 32 := Scalar.subi v939 v941
  let v943 : BitVec 1 := Scalar.cmpi .ne v937 v942
  let v944 : BitVec 32 := Scalar.remsi v931 c16_i32_477
  let c0_i32_482 : BitVec 32 := 0#32
  let v945 : BitVec 1 := Scalar.cmpi .ne v944 c0_i32_482
  let v946 : BitVec 1 := Scalar.andi v943 v945
  let v932 : BitVec 32 := Scalar.divsi v931 c16_i32_477
  let c1_i32_483 : BitVec 32 := 1#32
  let v947 : BitVec 32 := Scalar.subi v932 c1_i32_483
  let v948 : BitVec 32 := Scalar.select v946 v947 v932
  let c16_i32_484 : BitVec 32 := 16#32
  let v949 : BitVec 32 := Scalar.muli v948 c16_i32_484
  let v950 : Index := Scalar.indexCast v949
  ![v950.toNat]
def k0_off219 (i : grid0.Coords) (k0_t42 : Fin (k0_t42_loop i).trips) : Fin 2 → Nat :=
  let c0_i32_505 : BitVec 32 := 0#32
  let c244_i32 : BitVec 32 := 244#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c244_i32 v1
  let c4_i32 : BitVec 32 := 4#32
  let v3 : BitVec 32 := Scalar.minsi v1 c4_i32
  let v4 : BitVec 32 := Scalar.addi v2 v3
  let c128_i32 : BitVec 32 := 128#32
  let v10 : BitVec 32 := Scalar.muli v4 c128_i32
  let c4_i32_442 : BitVec 32 := 4#32
  let c0_i32_263 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c128_i32_501 : BitVec 32 := 128#32
  let v988 : BitVec 32 := Scalar.muli v987 c128_i32_501
  let v989 : BitVec 32 := Scalar.addi v10 v988
  ![0, v989.toNat]
def k0_cond28 (i : grid0.Coords) (k0_t42 : Fin (k0_t42_loop i).trips) : BitVec 1 :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_498 : BitVec 32 := 4#32
  let v983 : BitVec 32 := Scalar.addi v862 c4_i32_498
  let v984 : BitVec 1 := Scalar.cmpi .slt v983 v9
  let v985 : BitVec 32 := Scalar.extui v984
  let c0_i32_499 : BitVec 32 := 0#32
  let v986 : BitVec 1 := Scalar.cmpi .ne v985 c0_i32_499
  v986

def k0_off220 (i : grid0.Coords) (k0_t42 : Fin (k0_t42_loop i).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c0_i32_502 : BitVec 32 := 0#32
  let v989 : BitVec 1 := Scalar.cmpi .sgt v987 c0_i32_502
  let v990 : BitVec 32 := Scalar.extui v989
  let c0_i32_503 : BitVec 32 := 0#32
  let v991 : BitVec 1 := Scalar.cmpi .slt v987 c0_i32_503
  let v992 : BitVec 32 := Scalar.extui v991
  let v993 : BitVec 32 := Scalar.subi v990 v992
  let c16_i32_501 : BitVec 32 := 16#32
  let c0_i32_504 : BitVec 32 := 0#32
  let v994 : BitVec 1 := Scalar.cmpi .sgt c16_i32_501 c0_i32_504
  let v995 : BitVec 32 := Scalar.extui v994
  let c0_i32_505 : BitVec 32 := 0#32
  let v996 : BitVec 1 := Scalar.cmpi .slt c16_i32_501 c0_i32_505
  let v997 : BitVec 32 := Scalar.extui v996
  let v998 : BitVec 32 := Scalar.subi v995 v997
  let v999 : BitVec 1 := Scalar.cmpi .ne v993 v998
  let v1000 : BitVec 32 := Scalar.remsi v987 c16_i32_501
  let c0_i32_506 : BitVec 32 := 0#32
  let v1001 : BitVec 1 := Scalar.cmpi .ne v1000 c0_i32_506
  let v1002 : BitVec 1 := Scalar.andi v999 v1001
  let v988 : BitVec 32 := Scalar.divsi v987 c16_i32_501
  let c1_i32_507 : BitVec 32 := 1#32
  let v1003 : BitVec 32 := Scalar.subi v988 c1_i32_507
  let v1004 : BitVec 32 := Scalar.select v1002 v1003 v988
  let c16_i32_508 : BitVec 32 := 16#32
  let v1005 : BitVec 32 := Scalar.muli v1004 c16_i32_508
  let v1006 : Index := Scalar.indexCast v1005
  ![v1006.toNat]
@[reducible] def k0_t65_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_523 : BitVec 32 := 1#32
  ⟨c0_i32_521, v1039, c1_i32_523⟩

def k0_off221 (i : grid0.Coords) (k0_t42 : Fin (k0_t42_loop i).trips) (v1033 : BitVec 32) (k0_t65 : Fin (k0_t65_loop v1033).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c32_i32_525 : BitVec 32 := 32#32
  let v1040 : BitVec 32 := Scalar.muli v987 c32_i32_525
  let c0_i32_521 : BitVec 32 := 0#32
  let c1_i32_523 : BitVec 32 := 1#32
  let arg26 : BitVec 32 := Scf.iv c0_i32_521 c1_i32_523 k0_t65
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off222 (v1033 : BitVec 32) (k0_t65 : Fin (k0_t65_loop v1033).trips) : Fin 2 → Nat :=
  let c0_i32_521 : BitVec 32 := 0#32
  let c1_i32_523 : BitVec 32 := 1#32
  let arg26 : BitVec 32 := Scf.iv c0_i32_521 c1_i32_523 k0_t65
  let c0_i32_547 : BitVec 32 := 0#32
  ![arg26.toNat, 0]
def k0_off223 (v1087 : BitVec 32) : Fin 2 → Nat :=
  let c0_i32_548 : BitVec 32 := 0#32
  ![v1087.toNat, 0]

def k0_chk127 (i : grid0.Coords) (k0_t42 : Fin (k0_t42_loop i).trips) (v1087 : BitVec 32) : Prop :=
  (∀ (k0_h28 : k0_cond28 i k0_t42 = 1#1), ∀ a, (k0_off223 v1087) a + S1x64.size a ≤ S16384x64.size a)
theorem k0_off223_inb : ∀ (i : grid0.Coords) (k0_t42 : Fin (k0_t42_loop i).trips) (v1087 : BitVec 32) (k0_hw127 : k0_chk127 i k0_t42 v1087), ∀ (k0_h28 : k0_cond28 i k0_t42 = 1#1), ∀ a, (k0_off223 v1087) a + S1x64.size a ≤ S16384x64.size a := fun i k0_t42 v1087 k0_hw127 k0_h28 => k0_hw127 k0_h28

def k0_off224 (v1033 : BitVec 32) (k0_t65 : Fin (k0_t65_loop v1033).trips) : Fin 2 → Nat :=
  let c0_i32_521 : BitVec 32 := 0#32
  let c1_i32_523 : BitVec 32 := 1#32
  let arg26 : BitVec 32 := Scf.iv c0_i32_521 c1_i32_523 k0_t65
  let c0_i32_551 : BitVec 32 := 0#32
  ![arg26.toNat, 0]
@[reducible] def k0_t66_loop (v1033 : BitVec 32) : Scf.Loop 32 :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let v1036 : BitVec 32 := Scalar.addi c0_i32_521 v1035
  let c1_i32_524 : BitVec 32 := 1#32
  ⟨v1039, v1036, c1_i32_524⟩
def k0_off225 (i : grid0.Coords) (k0_t42 : Fin (k0_t42_loop i).trips) (v1033 : BitVec 32) (k0_t66 : Fin (k0_t66_loop v1033).trips) : Fin 1 → Nat :=
  let c4_i32_442 : BitVec 32 := 4#32
  let c0_i32_263 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c31_i32 : BitVec 32 := 31#32
  let v7 : BitVec 1 := Scalar.cmpi .eq v1 c31_i32
  let c1_i32 : BitVec 32 := 1#32
  let c0_i32 : BitVec 32 := 0#32
  let v8 : BitVec 32 := Scalar.select v7 c1_i32 c0_i32
  let v9 : BitVec 32 := Scalar.addi v6 v8
  let c4_i32_254 : BitVec 32 := 4#32
  let v453 : BitVec 32 := Scalar.addi v9 c4_i32_254
  let c1_i32_255 : BitVec 32 := 1#32
  let v454 : BitVec 32 := Scalar.subi v453 c1_i32_255
  let c0_i32_257 : BitVec 32 := 0#32
  let v456 : BitVec 1 := Scalar.cmpi .sgt v454 c0_i32_257
  let v457 : BitVec 32 := Scalar.extui v456
  let c0_i32_258 : BitVec 32 := 0#32
  let v458 : BitVec 1 := Scalar.cmpi .slt v454 c0_i32_258
  let v459 : BitVec 32 := Scalar.extui v458
  let v460 : BitVec 32 := Scalar.subi v457 v459
  let c4_i32_256 : BitVec 32 := 4#32
  let c0_i32_259 : BitVec 32 := 0#32
  let v461 : BitVec 1 := Scalar.cmpi .sgt c4_i32_256 c0_i32_259
  let v462 : BitVec 32 := Scalar.extui v461
  let c0_i32_260 : BitVec 32 := 0#32
  let v463 : BitVec 1 := Scalar.cmpi .slt c4_i32_256 c0_i32_260
  let v464 : BitVec 32 := Scalar.extui v463
  let v465 : BitVec 32 := Scalar.subi v462 v464
  let v466 : BitVec 1 := Scalar.cmpi .ne v460 v465
  let v467 : BitVec 32 := Scalar.remsi v454 c4_i32_256
  let c0_i32_261 : BitVec 32 := 0#32
  let v468 : BitVec 1 := Scalar.cmpi .ne v467 c0_i32_261
  let v469 : BitVec 1 := Scalar.andi v466 v468
  let v455 : BitVec 32 := Scalar.divsi v454 c4_i32_256
  let c1_i32_262 : BitVec 32 := 1#32
  let v470 : BitVec 32 := Scalar.subi v455 c1_i32_262
  let v471 : BitVec 32 := Scalar.select v469 v470 v455
  let v472 : BitVec 32 := Scalar.subi v471 c0_i32_263
  let c1_i32_264 : BitVec 32 := 1#32
  let v474 : BitVec 32 := Scalar.divsi v472 c1_i32_264
  let v475 : BitVec 32 := Scalar.muli v474 c1_i32_264
  let v476 : BitVec 32 := Scalar.addi c0_i32_263 v475
  let c1_i32_266 : BitVec 32 := 1#32
  let arg21 : BitVec 32 := Scf.iv v476 c1_i32_266 k0_t42
  let v861 : BitVec 32 := Scalar.muli c4_i32_442 arg21
  let c3_i32_443 : BitVec 32 := 3#32
  let v862 : BitVec 32 := Scalar.addi v861 c3_i32_443
  let c4_i32_500 : BitVec 32 := 4#32
  let v987 : BitVec 32 := Scalar.addi v862 c4_i32_500
  let c32_i32_525 : BitVec 32 := 32#32
  let v1040 : BitVec 32 := Scalar.muli v987 c32_i32_525
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t66
  let c0_i32_527 : BitVec 32 := 0#32
  let v1042 : BitVec 1 := Scalar.cmpi .sgt arg26 c0_i32_527
  let v1043 : BitVec 32 := Scalar.extui v1042
  let c0_i32_528 : BitVec 32 := 0#32
  let v1044 : BitVec 1 := Scalar.cmpi .slt arg26 c0_i32_528
  let v1045 : BitVec 32 := Scalar.extui v1044
  let v1046 : BitVec 32 := Scalar.subi v1043 v1045
  let c16_i32_526 : BitVec 32 := 16#32
  let c0_i32_529 : BitVec 32 := 0#32
  let v1047 : BitVec 1 := Scalar.cmpi .sgt c16_i32_526 c0_i32_529
  let v1048 : BitVec 32 := Scalar.extui v1047
  let c0_i32_530 : BitVec 32 := 0#32
  let v1049 : BitVec 1 := Scalar.cmpi .slt c16_i32_526 c0_i32_530
  let v1050 : BitVec 32 := Scalar.extui v1049
  let v1051 : BitVec 32 := Scalar.subi v1048 v1050
  let v1052 : BitVec 1 := Scalar.cmpi .ne v1046 v1051
  let v1053 : BitVec 32 := Scalar.remsi arg26 c16_i32_526
  let c0_i32_531 : BitVec 32 := 0#32
  let v1054 : BitVec 1 := Scalar.cmpi .ne v1053 c0_i32_531
  let v1055 : BitVec 1 := Scalar.andi v1052 v1054
  let v1041 : BitVec 32 := Scalar.divsi arg26 c16_i32_526
  let c1_i32_532 : BitVec 32 := 1#32
  let v1056 : BitVec 32 := Scalar.subi v1041 c1_i32_532
  let v1057 : BitVec 32 := Scalar.select v1055 v1056 v1041
  let c16_i32_533 : BitVec 32 := 16#32
  let v1058 : BitVec 32 := Scalar.muli v1057 c16_i32_533
  let v1059 : BitVec 32 := Scalar.addi v1040 v1058
  let v1079 : Index := Scalar.indexCast v1059
  ![v1079.toNat]
def k0_off226 (v1033 : BitVec 32) (k0_t66 : Fin (k0_t66_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t66
  let c0_i32_547 : BitVec 32 := 0#32
  ![arg26.toNat, 0]
def k0_off227 (v1087 : BitVec 32) : Fin 2 → Nat :=
  let c0_i32_548 : BitVec 32 := 0#32
  ![v1087.toNat, 0]

def k0_chk128 (i : grid0.Coords) (k0_t42 : Fin (k0_t42_loop i).trips) (v1087 : BitVec 32) : Prop :=
  (∀ (k0_h28 : k0_cond28 i k0_t42 = 1#1), ∀ a, (k0_off227 v1087) a + S1x64.size a ≤ S16384x64.size a)
theorem k0_off227_inb : ∀ (i : grid0.Coords) (k0_t42 : Fin (k0_t42_loop i).trips) (v1087 : BitVec 32) (k0_hw128 : k0_chk128 i k0_t42 v1087), ∀ (k0_h28 : k0_cond28 i k0_t42 = 1#1), ∀ a, (k0_off227 v1087) a + S1x64.size a ≤ S16384x64.size a := fun i k0_t42 v1087 k0_hw128 k0_h28 => k0_hw128 k0_h28

def k0_off228 (v1033 : BitVec 32) (k0_t66 : Fin (k0_t66_loop v1033).trips) : Fin 2 → Nat :=
  let c0_i32_521 : BitVec 32 := 0#32
  let c32_i32_519 : BitVec 32 := 32#32
  let v1034 : BitVec 32 := Scalar.minsi v1033 c32_i32_519
  let v1035 : BitVec 32 := Scalar.subi v1034 c0_i32_521
  let c1_i32_522 : BitVec 32 := 1#32
  let v1037 : BitVec 32 := Scalar.divsi v1035 c1_i32_522
  let v1038 : BitVec 32 := Scalar.muli v1037 c1_i32_522
  let v1039 : BitVec 32 := Scalar.addi c0_i32_521 v1038
  let c1_i32_524 : BitVec 32 := 1#32
  let arg26 : BitVec 32 := Scf.iv v1039 c1_i32_524 k0_t66
  let c0_i32_551 : BitVec 32 := 0#32
  ![arg26.toNat, 0]

def k0_chk126 (i : grid0.Coords) (k0_t42 : Fin (k0_t42_loop i).trips) (v1033 : BitVec 32) : Prop :=
  (∀ (k0_h28 : k0_cond28 i k0_t42 = 1#1), (k0_t65_loop v1033).OK) ∧
  (∀ k0_t65 : Fin (k0_t65_loop v1033).trips, ∀ (k0_h28 : k0_cond28 i k0_t42 = 1#1), ∀ a, (k0_off221 i k0_t42 v1033 k0_t65) a + S16.size a ≤ S8192.size a) ∧
  (∀ k0_t65 : Fin (k0_t65_loop v1033).trips, ∀ (k0_h28 : k0_cond28 i k0_t42 = 1#1), ∀ a, (k0_off222 v1033 k0_t65) a + S1x64.size a ≤ S32x64.size a) ∧
  (∀ k0_t65 : Fin (k0_t65_loop v1033).trips, ∀ (k0_h28 : k0_cond28 i k0_t42 = 1#1), ∀ a, (k0_off224 v1033 k0_t65) a + S1x64.size a ≤ S32x64.size a) ∧
  (∀ (k0_h28 : k0_cond28 i k0_t42 = 1#1), (k0_t66_loop v1033).OK) ∧
  (∀ k0_t66 : Fin (k0_t66_loop v1033).trips, ∀ (k0_h28 : k0_cond28 i k0_t42 = 1#1), ∀ a, (k0_off225 i k0_t42 v1033 k0_t66) a + S16.size a ≤ S8192.size a) ∧
  (∀ k0_t66 : Fin (k0_t66_loop v1033).trips, ∀ (k0_h28 : k0_cond28 i k0_t42 = 1#1), ∀ a, (k0_off226 v1033 k0_t66) a + S1x64.size a ≤ S32x64.size a) ∧
  (∀ k0_t66 : Fin (k0_t66_loop v1033).trips, ∀ (k0_h28 : k0_cond28 i k0_t42 = 1#1), ∀ a, (k0_off228 v1033 k0_t66) a + S1x64.size a ≤ S32x64.size a)
theorem k0_t65_ok : ∀ (i : grid0.Coords) (k0_t42 : Fin (k0_t42_loop i).trips) (v1033 : BitVec 32) (k0_hw126 : k0_chk126 i k0_t42 v1033), ∀ (k0_h28 : k0_cond28 i k0_t42 = 1#1), (k0_t65_loop v1033).OK := fun i k0_t42 v1033 k0_hw126 k0_h28 => k0_hw126.1 k0_h28
theorem k0_off221_inb : ∀ (i : grid0.Coords) (k0_t42 : Fin (k0_t42_loop i).trips) (v1033 : BitVec 32) (k0_hw126 : k0_chk126 i k0_t42 v1033) (k0_t65 : Fin (k0_t65_loop v1033).trips), ∀ (k0_h28 : k0_cond28 i k0_t42 = 1#1), ∀ a, (k0_off221 i k0_t42 v1033 k0_t65) a + S16.size a ≤ S8192.size a := fun i k0_t42 v1033 k0_hw126 k0_t65 k0_h28 => k0_hw126.2.1 k0_t65 k0_h28
theorem k0_off222_inb : ∀ (i : grid0.Coords) (k0_t42 : Fin (k0_t42_loop i).trips) (v1033 : BitVec 32) (k0_hw126 : k0_chk126 i k0_t42 v1033) (k0_t65 : Fin (k0_t65_loop v1033).trips), ∀ (k0_h28 : k0_cond28 i k0_t42 = 1#1), ∀ a, (k0_off222 v1033 k0_t65) a + S1x64.size a ≤ S32x64.size a := fun i k0_t42 v1033 k0_hw126 k0_t65 k0_h28 => k0_hw126.2.2.1 k0_t65 k0_h28
theorem k0_off224_inb : ∀ (i : grid0.Coords) (k0_t42 : Fin (k0_t42_loop i).trips) (v1033 : BitVec 32) (k0_hw126 : k0_chk126 i k0_t42 v1033) (k0_t65 : Fin (k0_t65_loop v1033).trips), ∀ (k0_h28 : k0_cond28 i k0_t42 = 1#1), ∀ a, (k0_off224 v1033 k0_t65) a + S1x64.size a ≤ S32x64.size a := fun i k0_t42 v1033 k0_hw126 k0_t65 k0_h28 => k0_hw126.2.2.2.1 k0_t65 k0_h28
theorem k0_t66_ok : ∀ (i : grid0.Coords) (k0_t42 : Fin (k0_t42_loop i).trips) (v1033 : BitVec 32) (k0_hw126 : k0_chk126 i k0_t42 v1033), ∀ (k0_h28 : k0_cond28 i k0_t42 = 1#1), (k0_t66_loop v1033).OK := fun i k0_t42 v1033 k0_hw126 k0_h28 => k0_hw126.2.2.2.2.1 k0_h28
theorem k0_off225_inb : ∀ (i : grid0.Coords) (k0_t42 : Fin (k0_t42_loop i).trips) (v1033 : BitVec 32) (k0_hw126 : k0_chk126 i k0_t42 v1033) (k0_t66 : Fin (k0_t66_loop v1033).trips), ∀ (k0_h28 : k0_cond28 i k0_t42 = 1#1), ∀ a, (k0_off225 i k0_t42 v1033 k0_t66) a + S16.size a ≤ S8192.size a := fun i k0_t42 v1033 k0_hw126 k0_t66 k0_h28 => k0_hw126.2.2.2.2.2.1 k0_t66 k0_h28
theorem k0_off226_inb : ∀ (i : grid0.Coords) (k0_t42 : Fin (k0_t42_loop i).trips) (v1033 : BitVec 32) (k0_hw126 : k0_chk126 i k0_t42 v1033) (k0_t66 : Fin (k0_t66_loop v1033).trips), ∀ (k0_h28 : k0_cond28 i k0_t42 = 1#1), ∀ a, (k0_off226 v1033 k0_t66) a + S1x64.size a ≤ S32x64.size a := fun i k0_t42 v1033 k0_hw126 k0_t66 k0_h28 => k0_hw126.2.2.2.2.2.2.1 k0_t66 k0_h28
theorem k0_off228_inb : ∀ (i : grid0.Coords) (k0_t42 : Fin (k0_t42_loop i).trips) (v1033 : BitVec 32) (k0_hw126 : k0_chk126 i k0_t42 v1033) (k0_t66 : Fin (k0_t66_loop v1033).trips), ∀ (k0_h28 : k0_cond28 i k0_t42 = 1#1), ∀ a, (k0_off228 v1033 k0_t66) a + S1x64.size a ≤ S32x64.size a := fun i k0_t42 v1033 k0_hw126 k0_t66 k0_h28 => k0_hw126.2.2.2.2.2.2.2 k0_t66 k0_h28

def k0_off229 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_268_r8 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S1000000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.Lists.lean ====
/- The lists a tile's scatter builds: for a window of labels `[lo, hi)` cut into blocks of 128, `L n b` is the list of the
   positions below `n` whose label lies in block `b`, and `Inv` says what the three scratch arrays (the counts, the labels
   and the positions of each block, 32 places per block) hold once the first `n` labels have been placed. The step of
   sixteen labels, by the operations' own definitions, lane by lane. -/
module

public import proofs.«01_k».proof.Proof.Gen.KernelIdeal.Skeleton

@[expose] public section

noncomputable section

namespace Cert.Proof.CL

open Cert.KernelIdeal Cert.KernelIdeal.Gen Idealize.ShloMosaic

/-- Position `p` carries a label of the window's block `b`. -/
def inB (lw : ℕ → BitVec 32) (lo hi b p : ℕ) : Prop :=
  lo ≤ (lw p).toNat ∧ (lw p).toNat < hi ∧ ((lw p).toNat - lo) / 128 = b

instance (lw : ℕ → BitVec 32) (lo hi b p : ℕ) : Decidable (inB lw lo hi b p) := by unfold inB; infer_instance

/-- The positions below `n` with a label in block `b`, in order. -/
def L (lw : ℕ → BitVec 32) (lo hi n b : ℕ) : List ℕ := (List.range n).filter fun p => decide (inB lw lo hi b p)

variable {lw : ℕ → BitVec 32} {lo hi : ℕ}

theorem L_zero (b : ℕ) : L lw lo hi 0 b = [] := rfl

theorem L_succ_of_in {n b : ℕ} (h : inB lw lo hi b n) : L lw lo hi (n + 1) b = L lw lo hi n b ++ [n] := by
  unfold L; rw [List.range_succ, List.filter_append]; simp [h]

theorem L_succ_of_not {n b : ℕ} (h : ¬ inB lw lo hi b n) : L lw lo hi (n + 1) b = L lw lo hi n b := by
  unfold L; rw [List.range_succ, List.filter_append]; simp [h]

theorem mem_L {n b p : ℕ} : p ∈ L lw lo hi n b ↔ p < n ∧ inB lw lo hi b p := by
  unfold L; simp [List.mem_filter]

/-- The lengths grow by the lanes of the block. -/
theorem L_length_add (n b : ℕ) : ∀ k : ℕ, k ≤ 16 →
    (L lw lo hi (n + k) b).length
      = (L lw lo hi n b).length + (Finset.univ.filter fun j : Fin 16 => j.val < k ∧ inB lw lo hi b (n + j.val)).card := by
  intro k
  induction k with
  | zero => intro _; simp
  | succ k ih =>
    intro hk
    have ih' := ih (by omega)
    have hne : ∀ j : Fin 16, (j.val < k + 1 ∧ inB lw lo hi b (n + j.val)) ↔
        ((j.val < k ∧ inB lw lo hi b (n + j.val)) ∨ (j = ⟨k, by omega⟩ ∧ inB lw lo hi b (n + k))) := by
      intro j
      constructor
      · rintro ⟨h1, h2⟩
        by_cases h : j.val < k
        · exact .inl ⟨h, h2⟩
        · have : j.val = k := by omega
          exact .inr ⟨Fin.ext this, this ▸ h2⟩
      · rintro (⟨h1, h2⟩ | ⟨rfl, h2⟩)
        · exact ⟨by omega, h2⟩
        · exact ⟨by simp, h2⟩
    rw [Finset.filter_congr fun j _ => hne j, Finset.filter_or, Finset.card_union_of_disjoint]
    · by_cases h : inB lw lo hi b (n + k)
      · rw [← Nat.add_assoc, L_succ_of_in h, List.length_append, ih']
        have : (Finset.univ.filter fun j : Fin 16 => j = ⟨k, by omega⟩ ∧ inB lw lo hi b (n + k)) = {⟨k, by omega⟩} := by
          ext j; simp [h]
        rw [this]; simp [Nat.add_assoc]
      · rw [← Nat.add_assoc, L_succ_of_not h, ih']
        have : (Finset.univ.filter fun j : Fin 16 => j = ⟨k, by omega⟩ ∧ inB lw lo hi b (n + k)) = ∅ := by
          ext j; simp [h]
        rw [this]; simp
    · rw [Finset.disjoint_left]
      intro j h1 h2
      simp only [Finset.mem_filter, Finset.mem_univ, true_and] at h1 h2
      have := congrArg Fin.val h2.1
      simp at this; omega

/-- What the scratch holds once the first `n` labels are placed. -/
structure Inv (lw : ℕ → BitVec 32) (lo hi n : ℕ) (cnt : S256.Idx → BitVec 32) (cls pos : S8192.Idx → BitVec 32) : Prop where
  cnt : ∀ b : S256.Idx, cnt b = BitVec.ofNat 32 (min 32 (L lw lo hi n (b 0).val).length)
  ent : ∀ (s : S8192.Idx) (h : (s 0).val % 32 < (L lw lo hi n ((s 0).val / 32)).length),
    cls s = lw ((L lw lo hi n ((s 0).val / 32))[(s 0).val % 32]) ∧ pos s = BitVec.ofNat 32 ((L lw lo hi n ((s 0).val / 32))[(s 0).val % 32])

theorem inv_zero {cnt : S256.Idx → BitVec 32} {cls pos : S8192.Idx → BitVec 32} (h : ∀ b, cnt b = 0#32) :
    Inv lw lo hi 0 cnt cls pos := ⟨fun b => by rw [h, L_zero]; rfl, fun s hs => by simp [L_zero] at hs⟩

/-- One label placed nowhere: it is outside the window, or its block is full. -/
theorem Inv.skip {n : ℕ} {cnt : S256.Idx → BitVec 32} {cls pos : S8192.Idx → BitVec 32} (H : Inv lw lo hi n cnt cls pos)
    (h : ∀ b, inB lw lo hi b n → 32 ≤ (L lw lo hi n b).length) : Inv lw lo hi (n + 1) cnt cls pos := by
  have key : ∀ b, L lw lo hi (n + 1) b = L lw lo hi n b ∨ (L lw lo hi (n + 1) b = L lw lo hi n b ++ [n] ∧ 32 ≤ (L lw lo hi n b).length) := by
    intro b
    by_cases hb : inB lw lo hi b n
    · exact .inr ⟨L_succ_of_in hb, h b hb⟩
    · exact .inl (L_succ_of_not hb)
  constructor
  · intro b
    rcases key (b 0).val with e | ⟨e, hl⟩
    · rw [e]; exact H.cnt b
    · rw [e, H.cnt b, List.length_append]; congr 1; simp; omega
  · intro s hs
    rcases key ((s 0).val / 32) with e | ⟨e, hl⟩
    · simp only [e] at hs ⊢; exact H.ent s hs
    · have h32 : (s 0).val % 32 < (L lw lo hi n ((s 0).val / 32)).length := lt_of_lt_of_le (Nat.mod_lt _ (by omega)) hl
      simp only [e, List.getElem_append_left h32]
      exact H.ent s h32

/-- One label placed in its block's next place. -/
theorem Inv.put {n : ℕ} {cnt : S256.Idx → BitVec 32} {cls pos : S8192.Idx → BitVec 32} (H : Inv lw lo hi n cnt cls pos)
    {b : ℕ} (hb : inB lw lo hi b n) (hl : (L lw lo hi n b).length < 32) {ib : S256.Idx} (hib : (ib 0).val = b)
    {is : S8192.Idx} (his : (is 0).val = 32 * b + (L lw lo hi n b).length) :
    Inv lw lo hi (n + 1) (fun j => if ∀ a, (j a).val = (ib a).val then cnt ib + 1#32 else cnt j)
      (fun j => if ∀ a, (j a).val = (is a).val then lw n else cls j)
      (fun j => if ∀ a, (j a).val = (is a).val then BitVec.ofNat 32 n else pos j) := by
  have hother : ∀ b', b' ≠ b → L lw lo hi (n + 1) b' = L lw lo hi n b' := fun b' h =>
    L_succ_of_not fun h' => h (h'.2.2.symm.trans hb.2.2)
  have hself := L_succ_of_in hb
  have e1 : ∀ {d : Fin 1 → ℕ} (x y : (⟨1, d⟩ : Shape).Idx), (∀ a, (x a).val = (y a).val) ↔ (x 0).val = (y 0).val :=
    fun x y => ⟨fun h => h 0, fun h a => by rw [Fin.eq_zero a]; exact h⟩
  constructor
  · intro j
    by_cases hj : (j 0).val = b
    · rw [if_pos ((e1 j ib).mpr (hj.trans hib.symm)), H.cnt ib, hib, hj, hself, List.length_append]
      have h1 : min 32 (L lw lo hi n b).length = (L lw lo hi n b).length := by omega
      have h2 : min 32 ((L lw lo hi n b).length + [n].length) = (L lw lo hi n b).length + 1 := by simp; omega
      rw [h1, h2, BitVec.ofNat_add]
    · rw [if_neg (fun h => hj (((e1 j ib).mp h).trans hib)), H.cnt j, hother _ hj]
  · intro s hs
    by_cases hsb : (s 0).val / 32 = b
    · simp only [hsb, hself] at hs ⊢
      by_cases hm : (s 0).val % 32 = (L lw lo hi n b).length
      · have he : (s 0).val = (is 0).val := by rw [his]; omega
        rw [if_pos ((e1 s is).mpr he), if_pos ((e1 s is).mpr he)]
        simp [hm]
      · have he : ¬ (s 0).val = (is 0).val := by rw [his]; omega
        have hlt : (s 0).val % 32 < (L lw lo hi n b).length := by simp at hs; omega
        rw [if_neg (fun h => he ((e1 s is).mp h)), if_neg (fun h => he ((e1 s is).mp h))]
        simp only [List.getElem_append_left hlt]
        have := H.ent s (by rw [hsb]; exact hlt)
        simpa only [hsb] using this
    · have he : ¬ (s 0).val = (is 0).val := by rw [his]; intro h; apply hsb; rw [h]; omega
      rw [if_neg (fun h => he ((e1 s is).mp h)), if_neg (fun h => he ((e1 s is).mp h))]
      simp only [hother _ hsb] at hs ⊢
      exact H.ent s hs

/-! ## Sixteen lanes -/

/-- A fold over the first `n` naturals, by an invariant. -/
theorem foldl_finRange {α : Type} (P : ℕ → α → Prop) {n : ℕ} (f : α → Fin n → α) (a : α) (h0 : P 0 a)
    (hs : ∀ (k : Fin n) (g : α), P k.val g → P (k.val + 1) (f g k)) : P n ((List.finRange n).foldl f a) := by
  have key : ∀ j, j ≤ n → P j (((List.finRange n).take j).foldl f a) := by
    intro j
    induction j with
    | zero => intro _; simpa using h0
    | succ j ih =>
      intro hj
      have hlt : j < (List.finRange n).length := by rw [List.length_finRange]; omega
      rw [List.take_succ_eq_append_getElem hlt, List.foldl_append]
      have := hs ⟨j, by omega⟩ _ (ih (by omega))
      simpa using this
  have := key n le_rfl
  rwa [List.take_of_length_le (by simp)] at this

theorem foldl_three {α β γ κ : Type} (f : α → κ → α) (g : β → κ → β) (h : γ → κ → γ) (l : List κ) (a : α) (b : β) (c : γ) :
    l.foldl (fun (s : α × β × γ) k => (f s.1 k, g s.2.1 k, h s.2.2 k)) (a, b, c) = (l.foldl f a, l.foldl g b, l.foldl h c) := by
  induction l generalizing a b c with
  | nil => rfl
  | cons x l ih => exact ih _ _ _

/-- Lane `k` of a vector of sixteen. -/
abbrev lane (k : Fin 16) : S16.Idx := Shape.ofLane (d := S16.size) k

theorem lane_val (k : Fin 16) : ((lane k) 0).val = k.val := rfl

theorem eq_lane (x : S16.Idx) : x = lane (x 0) := by
  funext a; rw [Fin.eq_zero a]; rfl

/-- A count of lanes as a count of lane numbers. -/
theorem card_lanes (p : S16.Idx → Prop) [DecidablePred p] :
    (Finset.univ.filter p).card = (Finset.univ.filter fun j : Fin 16 => p (lane j)).card := by
  refine (Finset.card_bij (fun (j : Fin 16) _ => lane j) ?_ ?_ ?_).symm
  · intro j hj; simpa using hj
  · intro a _ b _ h; exact congrFun h 0
  · intro x hx
    rw [Finset.mem_filter] at hx
    exact ⟨(x 0 : Fin 16), Finset.mem_filter.mpr ⟨Finset.mem_univ _, (eq_lane x) ▸ hx.2⟩, (eq_lane x).symm⟩

variable {F : FTy → Type} [FloatOps F]

/-- One lane of an indexed store. -/
def oneLane {s : Shape} {e : EltTy} (idxs : Fin s.rank → IVec S16 32) (v : Vec F S16 e) (mask : IVec S16 1) (add : Bool)
    (h : ∀ a x, (idxs a x).toNat < s.size a) (g : Vec F s e) (k : Fin 16) : Vec F s e :=
  if mask (lane k) = 1 then
    fun j => if (∀ a, (j a).val = (idxAt idxs h (lane k) a).val) then
      (if add then Elt.idxAdd e (g (idxAt idxs h (lane k))) (v (lane k)) else v (lane k)) else g j
  else g

theorem storeIdx_oneLane {s : Shape} {e : EltTy} (f : Vec F s e) (idxs : Fin s.rank → IVec S16 32) (v : Vec F S16 e)
    (mask : IVec S16 1) (add : Bool) (h : ∀ a x, (idxs a x).toNat < s.size a) :
    storeIdx f idxs v mask add h = (List.finRange 16).foldl (oneLane idxs v mask add h) f := by
  unfold storeIdx
  exact congrArg (fun g => List.foldl g f (List.finRange 16)) (funext fun g => funext fun k => by
    unfold oneLane
    by_cases hk : mask (lane k) = 1
    · exact (if_pos hk).trans (Eq.trans (funext fun j => by congr) (if_pos hk).symm)
    · exact (if_neg hk).trans (if_neg hk).symm)

theorem oneLane_pos {s : Shape} {e : EltTy} {idxs : Fin s.rank → IVec S16 32} {v : Vec F S16 e} {mask : IVec S16 1} {add : Bool}
    {h : ∀ a x, (idxs a x).toNat < s.size a} {g : Vec F s e} {k : Fin 16} (hk : mask (lane k) = 1) :
    oneLane idxs v mask add h g k = fun j => if (∀ a, (j a).val = (idxAt idxs h (lane k) a).val) then
      (if add then Elt.idxAdd e (g (idxAt idxs h (lane k))) (v (lane k)) else v (lane k)) else g j := if_pos hk

theorem oneLane_neg {s : Shape} {e : EltTy} {idxs : Fin s.rank → IVec S16 32} {v : Vec F S16 e} {mask : IVec S16 1} {add : Bool}
    {h : ∀ a x, (idxs a x).toNat < s.size a} {g : Vec F s e} {k : Fin 16} (hk : ¬ mask (lane k) = 1) :
    oneLane idxs v mask add h g k = g := if_neg hk

/-- A lane is placed when it is of the window and its block is not full; its place is then the block's next. The mask `M`
    marks the lanes of the window, `B` their blocks, `G` the counts gathered before; `M2` the lanes placed. -/
theorem lane_facts {n : ℕ} {cnt : S256.Idx → BitVec 32} {cls pos : S8192.Idx → BitVec 32} (H : Inv lw lo hi n cnt cls pos)
    (B G : S16.Idx → BitVec 32) (M M2 : S16.Idx → BitVec 1)
    (hM : ∀ k : Fin 16, M (lane k) = 1 ↔ lo ≤ (lw (n + k.val)).toNat ∧ (lw (n + k.val)).toNat < hi)
    (hB : ∀ k : Fin 16, M (lane k) = 1 → (B (lane k)).toNat = ((lw (n + k.val)).toNat - lo) / 128)
    (hBi : ∀ a x, ((![B] : Fin 1 → IVec S16 32) a x).toNat < S256.size a)
    (hG : ∀ x, G x = cnt (idxAt ![B] hBi x))
    (hM2 : ∀ x, M2 x = 1 ↔ M x = 1 ∧ (G x + ((scanCount M B).2 x - 1#32)).toInt < 32) (k : Fin 16) :
    (M2 (lane k) = 1 ↔ (M (lane k) = 1 ∧ (L lw lo hi (n + k.val) (B (lane k)).toNat).length < 32))
      ∧ (M2 (lane k) = 1 → (B (lane k) * 32#32 + (G (lane k) + ((scanCount M B).2 (lane k) - 1#32))).toNat
          = 32 * (B (lane k)).toNat + (L lw lo hi (n + k.val) (B (lane k)).toNat).length) := by
  -- the count a lane of the window reads, and its place among the lanes of its block
  have hdup : ∀ k : Fin 16, M (lane k) = 1 → (G (lane k) + ((scanCount M B).2 (lane k) - 1#32))
      = BitVec.ofNat 32 (min 32 (L lw lo hi n (B (lane k)).toNat).length
        + ((L lw lo hi (n + k.val) (B (lane k)).toNat).length - (L lw lo hi n (B (lane k)).toNat).length)) := by
    intro k hk
    rw [hG, H.cnt]
    have hb : ((idxAt (s := S256) ![B] hBi (lane k)) 0).val = (B (lane k)).toNat := rfl
    rw [hb]
    have hc : (scanCount M B).2 (lane k)
        = BitVec.ofNat 32 ((Finset.univ.filter fun j : Fin 16 => j.val < k.val ∧ inB lw lo hi (B (lane k)).toNat (n + j.val)).card + 1) := by
      show (if M (lane k) = 1 then BitVec.ofNat 32 _ else 1) = _
      rw [if_pos hk, card_lanes]
      congr 1
      have : ∀ j : Fin 16, ((S16.rowMajor (lane j)).val ≤ (S16.rowMajor (lane k)).val ∧ M (lane j) = 1 ∧ B (lane j) = B (lane k))
          ↔ ((j.val < k.val ∧ inB lw lo hi (B (lane k)).toNat (n + j.val)) ∨ j = k) := by
        intro j
        rw [show (S16.rowMajor (lane j)).val = j.val from Shape.rowMajor_val_one _,
          show (S16.rowMajor (lane k)).val = k.val from Shape.rowMajor_val_one _]
        constructor
        · rintro ⟨h1, h2, h3⟩
          by_cases h : j = k
          · exact .inr h
          · refine .inl ⟨lt_of_le_of_ne h1 fun e => h (Fin.ext e), ?_⟩
            have hm := (hM j).mp h2
            exact ⟨hm.1, hm.2, by rw [← hB j h2, h3]⟩
        · rintro (⟨h1, h2⟩ | rfl)
          · have hmj : M (lane j) = 1 := (hM j).mpr ⟨h2.1, h2.2.1⟩
            exact ⟨h1.le, hmj, BitVec.eq_of_toNat_eq ((hB j hmj).trans h2.2.2)⟩
          · exact ⟨le_rfl, hk, rfl⟩
      rw [Finset.filter_congr fun j _ => this j, Finset.filter_or, Finset.card_union_of_disjoint]
      · congr 1
        rw [show (Finset.univ.filter fun j : Fin 16 => j = k) = {k} by ext; simp]; rfl
      · rw [Finset.disjoint_left]
        intro j h1 h2
        simp only [Finset.mem_filter, Finset.mem_univ, true_and] at h1 h2
        subst h2; omega
    rw [hc, L_length_add n _ k.val (by omega), BitVec.ofNat_add _ 1]
    simp only [Nat.add_sub_cancel_left]
    rw [show BitVec.ofNat 32 1 = 1#32 from rfl, BitVec.add_sub_cancel, ← BitVec.ofNat_add]
  have hmono : ∀ (k : Fin 16) b, (L lw lo hi n b).length ≤ (L lw lo hi (n + k.val) b).length := by
    intro k b; rw [L_length_add n b k.val (by omega)]; omega
  have hup : ∀ (k : Fin 16) b, (L lw lo hi (n + k.val) b).length ≤ (L lw lo hi n b).length + 16 := by
    intro k b; rw [L_length_add n b k.val (by omega)]
    have := Finset.card_le_univ (Finset.univ.filter fun j : Fin 16 => j.val < k.val ∧ inB lw lo hi b (n + j.val))
    rw [Fintype.card_fin] at this; omega
  -- a lane placed is one of the window whose block is not full, and its place is the block's next
  have hput : ∀ k : Fin 16, M2 (lane k) = 1 ↔ (M (lane k) = 1 ∧ (L lw lo hi (n + k.val) (B (lane k)).toNat).length < 32) := by
    intro k
    rw [hM2]
    refine and_congr_right fun hk => ?_
    rw [hdup k hk]
    have h1 := hmono k (B (lane k)).toNat
    have h2 := hup k (B (lane k)).toNat
    rw [BitVec.toInt_eq_toNat_cond, BitVec.toNat_ofNat]
    rw [Nat.mod_eq_of_lt (by omega), if_pos (by omega)]
    omega
  refine ⟨hput k, fun hk => ?_⟩
  obtain ⟨hm, hlt⟩ := (hput k).mp hk
  have hbn : (B (lane k)).toNat < 256 := hBi 0 (lane k)
  rw [hdup k hm]
  have h1 := hmono k (B (lane k)).toNat
  rw [BitVec.toNat_add, BitVec.toNat_mul, BitVec.toNat_ofNat, BitVec.toNat_ofNat]
  rw [Nat.mod_eq_of_lt (a := 32) (by omega), Nat.mod_eq_of_lt (a := _ * 32) (by omega),
    Nat.mod_eq_of_lt (a := min _ _ + _) (by omega), Nat.mod_eq_of_lt (by omega)]
  omega

/-- The sixteen labels at positions `n …`: the three stores leave `Inv` at `n + 16` (`S` the places). -/
theorem inv_step {n : ℕ} {cnt : S256.Idx → BitVec 32} {cls pos : S8192.Idx → BitVec 32} (H : Inv lw lo hi n cnt cls pos)
    (lv pv B G : S16.Idx → BitVec 32) (M M2 : S16.Idx → BitVec 1) (S : S16.Idx → BitVec 32)
    (hlv : ∀ k : Fin 16, lv (lane k) = lw (n + k.val)) (hpv : ∀ k : Fin 16, pv (lane k) = BitVec.ofNat 32 (n + k.val))
    (hM : ∀ k : Fin 16, M (lane k) = 1 ↔ lo ≤ (lw (n + k.val)).toNat ∧ (lw (n + k.val)).toNat < hi)
    (hB : ∀ k : Fin 16, M (lane k) = 1 → (B (lane k)).toNat = ((lw (n + k.val)).toNat - lo) / 128)
    (hBi : ∀ a x, ((![B] : Fin 1 → IVec S16 32) a x).toNat < S256.size a)
    (hSi : ∀ a x, ((![S] : Fin 1 → IVec S16 32) a x).toNat < S8192.size a)
    (hG : ∀ x, G x = cnt (idxAt ![B] hBi x))
    (hM2 : ∀ x, M2 x = 1 ↔ M x = 1 ∧ (G x + ((scanCount M B).2 x - 1#32)).toInt < 32)
    (hS : ∀ x, M2 x = 1 → S x = B x * 32#32 + (G x + ((scanCount M B).2 x - 1#32)))
    (one : S16.Idx → BitVec 32) (hone : ∀ x, one x = 1#32) :
    Inv lw lo hi (n + 16) (storeIdx (F := F) (e := .i32) (s := S256) cnt ![B] one M2 true hBi)
      (storeIdx (F := F) (e := .i32) (s := S8192) cls ![S] lv M2 false hSi)
      (storeIdx (F := F) (e := .i32) (s := S8192) pos ![S] pv M2 false hSi) := by
  have hput := fun k => (lane_facts H B G M M2 hM hB hBi hG hM2 k).1
  have hpl := fun k => (lane_facts H B G M M2 hM hB hBi hG hM2 k).2
  rw [storeIdx_oneLane, storeIdx_oneLane, storeIdx_oneLane]
  have := foldl_finRange (n := 16)
    (fun j (s : (S256.Idx → BitVec 32) × (S8192.Idx → BitVec 32) × (S8192.Idx → BitVec 32)) => Inv lw lo hi (n + j) s.1 s.2.1 s.2.2)
    (fun s k => (oneLane (F := F) (e := .i32) (s := S256) ![B] one M2 true hBi s.1 k,
      oneLane (F := F) (e := .i32) (s := S8192) ![S] lv M2 false hSi s.2.1 k,
      oneLane (F := F) (e := .i32) (s := S8192) ![S] pv M2 false hSi s.2.2 k)) (cnt, cls, pos) H ?_
  · rw [foldl_three] at this
    exact this
  · intro k g hg
    by_cases hk : M2 (lane k) = 1
    · obtain ⟨hm, hlt⟩ := (hput k).mp hk
      have hin : inB lw lo hi (B (lane k)).toNat (n + k.val) :=
        ⟨((hM k).mp hm).1, ((hM k).mp hm).2, (hB k hm).symm⟩
      have hSv : (S (lane k)).toNat = 32 * (B (lane k)).toNat + (L lw lo hi (n + k.val) (B (lane k)).toNat).length := by
        rw [hS _ hk]; exact hpl k hk
      have := Inv.put hg hin hlt (ib := idxAt ![B] hBi (lane k)) rfl (is := idxAt ![S] hSi (lane k)) hSv
      rw [oneLane_pos hk, oneLane_pos hk, oneLane_pos hk]
      rw [← hlv k, ← hpv k, ← hone (lane k)] at this
      exact this
    · rw [oneLane_neg hk, oneLane_neg hk, oneLane_neg hk]
      refine Inv.skip hg fun b hb => ?_
      have hm : M (lane k) = 1 := (hM k).mpr ⟨hb.1, hb.2.1⟩
      have hbe : (B (lane k)).toNat = b := (hB k hm).trans hb.2.2
      by_contra hlt
      exact hk ((hput k).mpr ⟨hm, by rw [hbe]; exact not_le.mp hlt⟩)

end Cert.Proof.CL

end
-- ==== Proof.Words.lean ====
/- The integer words of the kernel: floored division and remainder by 16 as it spells them, the reading of one lane out of a
   vector of sixteen (a masked sum), the words of a tile's window, and the step of sixteen labels from those words. -/
module

public import proofs.«01_k».proof.Proof.Lists

@[expose] public section

noncomputable section

namespace Cert.Proof.CL

open Cert.KernelIdeal Cert.KernelIdeal.Gen Idealize.ShloMosaic

/-- Floored division by 16, as printed. -/
def fd16 (a : BitVec 32) : BitVec 32 :=
  Scalar.select (Scalar.andi (Scalar.cmpi .ne (Scalar.subi (Scalar.extui (Scalar.cmpi .sgt a 0#32)) (Scalar.extui (Scalar.cmpi .slt a 0#32)))
      (Scalar.subi (Scalar.extui (Scalar.cmpi .sgt 16#32 0#32)) (Scalar.extui (Scalar.cmpi .slt 16#32 0#32))))
    (Scalar.cmpi .ne (Scalar.remsi a 16#32) 0#32)) (Scalar.subi (Scalar.divsi a 16#32) 1#32) (Scalar.divsi a 16#32)

/-- The remainder by 16, as printed. -/
def md16 (a : BitVec 32) : BitVec 32 := Scalar.subi a (Scalar.muli (fd16 a) 16#32)

theorem fd16_ofNat : ∀ n : Fin 256, fd16 (BitVec.ofNat 32 n.val) = BitVec.ofNat 32 (n.val / 16) := by decide +kernel

theorem md16_ofNat : ∀ n : Fin 256, md16 (BitVec.ofNat 32 n.val) = BitVec.ofNat 32 (n.val % 16) := by decide +kernel

theorem iv_ofNat (t : ℕ) : Scf.iv 0#32 1#32 t = BitVec.ofNat 32 t := by
  unfold Scf.iv; simp

/-- The lanes' numbers. -/
abbrev iotaV : IVec S16 32 := iota .scVector S16 32 [0] iota_S16_d0_w32_scVector

theorem iotaV_lane (k : Fin 16) : iotaV (lane k) = BitVec.ofNat 32 k.val := by
  fin_cases k <;> rfl

/-- One lane read out of a vector: the sum of the lanes, all others zeroed. -/
def pick (v : IVec S16 32) (r : BitVec 32) : BitVec 32 :=
  extractAt ![15] (scan .sum (select (cmpi .eq iotaV (broadcast S16 r)) v (broadcast S16 0#32))) inpos_S16_p15

theorem scan15 (w : IVec S16 32) : extractAt ![15] (scan .sum w) inpos_S16_p15 =
    w (lane 0) + w (lane 1) + w (lane 2) + w (lane 3) + w (lane 4) + w (lane 5) + w (lane 6) + w (lane 7)
     + w (lane 8) + w (lane 9) + w (lane 10) + w (lane 11) + w (lane 12) + w (lane 13) + w (lane 14) + w (lane 15) := rfl

theorem pick_ofNat (v : IVec S16 32) (n : Fin 16) : pick v (BitVec.ofNat 32 n.val) = v (lane n) := by
  have h : ∀ k : Fin 16, (select (cmpi .eq iotaV (broadcast S16 (BitVec.ofNat 32 n.val))) v (broadcast S16 0#32)) (lane k)
      = if k = n then v (lane n) else 0#32 := by
    intro k
    show (if IntOp.cmpi .eq (iotaV (lane k)) (BitVec.ofNat 32 n.val) = 1 then v (lane k) else 0#32) = _
    rw [iotaV_lane]
    unfold IntOp.cmpi
    by_cases hk : k = n
    · subst hk; simp
    · have : ¬ (BitVec.ofNat 32 k.val = BitVec.ofNat 32 n.val) := fun e => by
        have := congrArg BitVec.toNat e
        rw [BitVec.toNat_ofNat, BitVec.toNat_ofNat, Nat.mod_eq_of_lt (by omega), Nat.mod_eq_of_lt (by omega)] at this
        exact hk (Fin.ext this)
      have hne : (BitVec.ofNat 32 k.val == BitVec.ofNat 32 n.val) = false := by simpa using this
      rw [if_neg hk]; simp only [hne]; rfl
  unfold pick
  rw [scan15]
  simp only [h]
  fin_cases n <;> simp

variable {F : FTy → Type} [FloatOps F]

/-! ## A tile's window -/

def bloN (wid : ℕ) : ℕ := 244 * wid + min wid 4
def nbN (wid : ℕ) : ℕ := (if wid < 4 then 245 else 244) + (if wid = 31 then 1 else 0)
def loN (wid : ℕ) : ℕ := 128 * bloN wid
def hiN (wid : ℕ) : ℕ := min (loN wid + 128 * nbN wid) 1000000

theorem bloN_succ : ∀ w : Fin 31, bloN (w.val + 1) = bloN w.val + nbN w.val := by decide
theorem nbN_le : ∀ w : Fin 32, nbN w.val ≤ 245 ∧ 244 ≤ nbN w.val := by decide
theorem loN_lt : ∀ w : Fin 32, loN w.val + 128 * nbN w.val ≤ 1000064 := by decide

/-! ## The step of sixteen labels -/

theorem v20_eq : extractAt ![0] k0_pay232 inpos_S1_p0 = 1#32 := by
  have h : (scanCount (broadcast S16 1#1) k0_pay229).2 (lane 0) = 1#32 := by
    show (if (1#1 : BitVec 1) = 1 then BitVec.ofNat 32 _ else 1) = _
    rw [if_pos (show (1#1 : BitVec 1) = 1 from rfl), card_lanes]
    rw [show (Finset.univ.filter fun j : Fin 16 => (S16.rowMajor (lane j)).val ≤ (S16.rowMajor (lane 0)).val ∧ broadcast S16 1#1 (lane j) = 1
        ∧ k0_pay229 (lane j) = k0_pay229 (lane 0)) = {0} from ?_]
    · rfl
    · ext j
      rw [Finset.mem_filter, show (S16.rowMajor (lane j)).val = j.val from Shape.rowMajor_val_one _,
          show (S16.rowMajor (lane 0)).val = 0 from Shape.rowMajor_val_one _]
      simp only [Finset.mem_univ, true_and, Finset.mem_singleton]
      exact ⟨fun h => Fin.ext (by simpa using h.1), fun h => by subst h; exact ⟨le_rfl, rfl, rfl⟩⟩
  exact h

theorem msk_iff {l : BitVec 32} {lo hi : ℕ} (hlo : lo < 2 ^ 31) (hhi : hi < 2 ^ 31) (h0 : lo ≤ hi) :
    IntOp.andi (IntOp.cmpi .sge l (BitVec.ofNat 32 lo)) (IntOp.cmpi .slt l (BitVec.ofNat 32 hi)) = 1#1
      ↔ lo ≤ l.toNat ∧ l.toNat < hi := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat]
  have := l.isLt
  rw [Nat.mod_eq_of_lt (a := lo) (by omega), Nat.mod_eq_of_lt (a := hi) (by omega)]
  constructor
  · rintro ⟨h1, h2⟩; split_ifs at h1 h2 <;> omega
  · rintro ⟨h1, h2⟩; split_ifs <;> omega

section Step

variable {lw : ℕ → BitVec 32} {lo hi n : ℕ} {cnt : S256.Idx → BitVec 32} {cls pos : S8192.Idx → BitVec 32}
  {lv pv : S16.Idx → BitVec 32}

theorem scat_M (hlo : lo < 2 ^ 31) (hhi : hi < 2 ^ 31) (h0 : lo ≤ hi) (hlv : ∀ k : Fin 16, lv (lane k) = lw (n + k.val)) (k : Fin 16) :
    k0_pay234 (F := F) (BitVec.ofNat 32 lo) (BitVec.ofNat 32 hi) lv (lane k) = 1 ↔ lo ≤ (lw (n + k.val)).toNat ∧ (lw (n + k.val)).toNat < hi := by
  rw [← hlv k]; exact msk_iff hlo hhi h0

theorem scat_B (hlo : lo < 2 ^ 31) (hhi : hi < 2 ^ 31) (h0 : lo ≤ hi) (hlv : ∀ k : Fin 16, lv (lane k) = lw (n + k.val)) (k : Fin 16)
    (hk : k0_pay234 (F := F) (BitVec.ofNat 32 lo) (BitVec.ofNat 32 hi) lv (lane k) = 1) :
    (k0_pay235 (F := F) (BitVec.ofNat 32 lo) (BitVec.ofNat 32 hi) lv (lane k)).toNat = ((lw (n + k.val)).toNat - lo) / 128 := by
  have hk' := (scat_M (F := F) hlo hhi h0 hlv k).mp hk
  show (if k0_pay234 (F := F) (BitVec.ofNat 32 lo) (BitVec.ofNat 32 hi) lv (lane k) = 1 then
    IntOp.shrui .vector (lv (lane k) - BitVec.ofNat 32 lo) 7#32 else 0#32).toNat = _
  rw [if_pos hk, hlv k]
  unfold IntOp.shrui
  rw [if_pos (by decide)]
  rw [BitVec.ushiftRight_eq', BitVec.toNat_ushiftRight, BitVec.toNat_sub, BitVec.toNat_ofNat]
  have := (lw (n + k.val)).isLt
  rw [Nat.shiftRight_eq_div_pow, Nat.mod_eq_of_lt (a := lo) (by omega)]
  show (2 ^ 32 - lo + (lw (n + k.val)).toNat) % 2 ^ 32 / 128 = _
  congr 1; omega

theorem scat_Bi (hlo : lo < 2 ^ 31) (hhi : hi < 2 ^ 31) (h0 : lo ≤ hi) (h1 : hi ≤ lo + 256 * 128) (lv : S16.Idx → BitVec 32) :
    k0_chk1 (k0_pay235 (F := F) (BitVec.ofNat 32 lo) (BitVec.ofNat 32 hi) lv) := by
  have key : ∀ x, (k0_pay235 (F := F) (BitVec.ofNat 32 lo) (BitVec.ofNat 32 hi) lv x).toNat < 256 := by
    intro x
    rw [eq_lane x]
    by_cases hk : k0_pay234 (F := F) (BitVec.ofNat 32 lo) (BitVec.ofNat 32 hi) lv (lane (x 0)) = 1
    · have e := scat_B (F := F) (lw := fun p => lv (lane (Fin.ofNat 16 p))) (n := 0) hlo hhi h0 (fun k => by simp) (x 0) hk
      have e' := (scat_M (F := F) (lw := fun p => lv (lane (Fin.ofNat 16 p))) (n := 0) hlo hhi h0 (fun k => by simp) (x 0)).mp hk
      rw [e]; omega
    · show (if k0_pay234 (F := F) (BitVec.ofNat 32 lo) (BitVec.ofNat 32 hi) lv (lane (x 0)) = 1 then
        IntOp.shrui .vector (lv (lane (x 0)) - BitVec.ofNat 32 lo) 7#32 else 0#32).toNat < _
      rw [if_neg hk]; decide
  have h : ∀ (a : Fin 1) x, ((![k0_pay235 (F := F) (BitVec.ofNat 32 lo) (BitVec.ofNat 32 hi) lv] : Fin 1 → IVec S16 32) a x).toNat < S256.size a := by
    intro a x; rw [Fin.eq_zero a]; exact key x
  exact ⟨h, h⟩

theorem slt_32_iff (x : BitVec 32) : IntOp.cmpi .slt x 32#32 = 1#1 ↔ x.toInt < 32 := by
  have ofBool_eq_one (p : Bool) : (BitVec.ofBool p = 1#1) ↔ p = true := by cases p <;> decide
  simp only [IntOp.cmpi, ofBool_eq_one, BitVec.slt_eq_decide, decide_eq_true_eq]
  rw [show (32#32 : BitVec 32).toInt = 32 from rfl]

theorem andi_one_iff (a b : BitVec 1) : IntOp.andi a b = 1 ↔ a = 1 ∧ b = 1 := by revert a b; decide

theorem scat_M2 (v10 v13 : BitVec 32) (lv G B : S16.Idx → BitVec 32) (x : S16.Idx) :
    k0_pay237 (F := F) v10 v13 1#32 lv B G x = 1 ↔ k0_pay234 (F := F) v10 v13 lv x = 1
      ∧ (G x + ((scanCount (k0_pay234 (F := F) v10 v13 lv) B).2 x - 1#32)).toInt < 32 := by
  exact (andi_one_iff _ _).trans (and_congr_right fun _ => slt_32_iff _)

theorem scat_chk2 (H : Inv lw lo hi n cnt cls pos) (hlo : lo < 2 ^ 31) (hhi : hi < 2 ^ 31) (h0 : lo ≤ hi)
    (hlv : ∀ k : Fin 16, lv (lane k) = lw (n + k.val)) (hBi) :
    k0_chk2 (k0_pay238 (F := F) (BitVec.ofNat 32 lo) (BitVec.ofNat 32 hi) 1#32 lv
      (k0_pay235 (F := F) (BitVec.ofNat 32 lo) (BitVec.ofNat 32 hi) lv)
      (loadIdx (F := F) (e := .i32) (s := S256) cnt ![k0_pay235 (F := F) (BitVec.ofNat 32 lo) (BitVec.ofNat 32 hi) lv] hBi)) := by
  set B := k0_pay235 (F := F) (BitVec.ofNat 32 lo) (BitVec.ofNat 32 hi) lv
  set G := loadIdx (F := F) (e := .i32) (s := S256) cnt ![B] hBi
  have key : ∀ x, (k0_pay238 (F := F) (BitVec.ofNat 32 lo) (BitVec.ofNat 32 hi) 1#32 lv B G x).toNat < 8192 := by
    intro x
    rw [eq_lane x]
    have hf := lane_facts H B G (k0_pay234 (F := F) (BitVec.ofNat 32 lo) (BitVec.ofNat 32 hi) lv)
      (k0_pay237 (F := F) (BitVec.ofNat 32 lo) (BitVec.ofNat 32 hi) 1#32 lv B G)
      (scat_M hlo hhi h0 hlv) (fun k => scat_B hlo hhi h0 hlv k) hBi (fun _ => rfl) (scat_M2 _ _ lv G B) (x 0)
    by_cases hk : k0_pay237 (F := F) (BitVec.ofNat 32 lo) (BitVec.ofNat 32 hi) 1#32 lv B G (lane (x 0)) = 1
    · have e : k0_pay238 (F := F) (BitVec.ofNat 32 lo) (BitVec.ofNat 32 hi) 1#32 lv B G (lane (x 0))
          = B (lane (x 0)) * 32#32 + (G (lane (x 0)) + ((scanCount (k0_pay234 (F := F) (BitVec.ofNat 32 lo) (BitVec.ofNat 32 hi) lv) B).2 (lane (x 0)) - 1#32)) := if_pos hk
      rw [e, hf.2 hk]
      have h1 := (hf.1.mp hk).2
      have h2 : (B (lane (x 0))).toNat < 256 := hBi 0 (lane (x 0))
      omega
    · have e : k0_pay238 (F := F) (BitVec.ofNat 32 lo) (BitVec.ofNat 32 hi) 1#32 lv B G (lane (x 0)) = 0#32 := if_neg hk
      rw [e]; decide
  have h : ∀ (a : Fin 1) x, ((![k0_pay238 (F := F) (BitVec.ofNat 32 lo) (BitVec.ofNat 32 hi) 1#32 lv B G] : Fin 1 → IVec S16 32) a x).toNat < S8192.size a := by
    intro a x; rw [Fin.eq_zero a]; exact key x
  exact ⟨h, h⟩

/-- The step in the kernel's own words. -/
theorem scat_step (H : Inv lw lo hi n cnt cls pos) (hlo : lo < 2 ^ 31) (hhi : hi < 2 ^ 31) (h0 : lo ≤ hi)
    (hlv : ∀ k : Fin 16, lv (lane k) = lw (n + k.val)) (hpv : ∀ k : Fin 16, pv (lane k) = BitVec.ofNat 32 (n + k.val))
    (B : S16.Idx → BitVec 32) (hBe : B = k0_pay235 (F := F) (BitVec.ofNat 32 lo) (BitVec.ofNat 32 hi) lv) (hBi)
    (G : S16.Idx → BitVec 32) (hGe : G = loadIdx (F := F) (e := .i32) (s := S256) cnt ![B] hBi) (hSi) (hBi') :
    Inv lw lo hi (n + 16)
      (storeIdx (F := F) (e := .i32) (s := S256) cnt ![B] k0_pay230 (k0_pay237 (F := F) (BitVec.ofNat 32 lo) (BitVec.ofNat 32 hi) 1#32 lv B G) true hBi')
      (storeIdx (F := F) (e := .i32) (s := S8192) cls ![k0_pay238 (F := F) (BitVec.ofNat 32 lo) (BitVec.ofNat 32 hi) 1#32 lv B G] lv
        (k0_pay237 (F := F) (BitVec.ofNat 32 lo) (BitVec.ofNat 32 hi) 1#32 lv B G) false hSi)
      (storeIdx (F := F) (e := .i32) (s := S8192) pos ![k0_pay238 (F := F) (BitVec.ofNat 32 lo) (BitVec.ofNat 32 hi) 1#32 lv B G] pv
        (k0_pay237 (F := F) (BitVec.ofNat 32 lo) (BitVec.ofNat 32 hi) 1#32 lv B G) false hSi) :=
  inv_step H lv pv B G (k0_pay234 (F := F) (BitVec.ofNat 32 lo) (BitVec.ofNat 32 hi) lv) _ _ hlv hpv
    (scat_M hlo hhi h0 hlv) (fun k => hBe ▸ scat_B hlo hhi h0 hlv k) hBi hSi (fun x => by rw [hGe]; rfl)
    (scat_M2 _ _ lv G B) (fun x hx => if_pos hx) _ (fun _ => rfl)

end Step

end Cert.Proof.CL

end
-- ==== Proof.Setup.lean ====
/- The launch as the run's theorem sees it, the kernel's arrays and scratch, and the rules for the operations of a tile on
   its own scratch, each stated over the scratch's contents as plain functions of indices. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Words

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds; the transfers' counters are the right factor. -/
abbrev EH : Emb UH (MT nD τ sig (HIx 1) (Elt F) ℕ UU ℕ) := embL

theorem nSub_zero : (K (F := F)).nSub 0 = 16 := rfl

/-! ## A tile's thread and its buffers -/

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev xM : Memref sig .scVector .hbm S16384x64 .f32 := Memref.whole main_arg0_scv
abbrev lM : Memref sig .scVector .hbm S16384 .i32 := Memref.whole main_arg1_scv
abbrev tM : Memref sig .scVector .hbm S64x1000064 .f32 := Memref.whole main_v1_scv
abbrev oM : Memref sig .scVector .hbm S32x16 .f32 := Memref.whole main_v2_scv
abbrev labM : Memref sig .scVector .vmem S2048 .i32 := Memref.whole cc0_scratch0
abbrev clsM : Memref sig .scVector .vmem S8192 .i32 := Memref.whole cc0_scratch1
abbrev posM : Memref sig .scVector .vmem S8192 .i32 := Memref.whole cc0_scratch2
abbrev cntM : Memref sig .scVector .vmem S256 .i32 := Memref.whole cc0_scratch3
abbrev bufM : Memref sig .scVector .vmem S4x64x128 .f32 := Memref.whole cc0_scratch4
abbrev xrM : Memref sig .scVector .vmem S4x32x64 .f32 := Memref.whole cc0_scratch5
abbrev partM : Memref sig .scVector .vmem S16 .f32 := Memref.whole cc0_scratch6

abbrev xLoc (d : Dev nD) : Loc nD τ sig := (SparseCore.T d).loc main_arg0
abbrev lLoc (d : Dev nD) : Loc nD τ sig := (SparseCore.T d).loc main_arg1
abbrev cLoc (d : Dev nD) : Loc nD τ sig := (SparseCore.T d).loc main_arg2
abbrev tLoc (d : Dev nD) : Loc nD τ sig := (SparseCore.T d).loc main_v1
abbrev oLoc (d : Dev nD) : Loc nD τ sig := (SparseCore.T d).loc main_v2

variable [FloatOps F]

/-- A tile's program. -/
abbrev TProg (F : FTy → Type) [FloatOps F] (i : grid0.Coords) (α : Type) : Type 1 :=
  Prog (TpuEff nD τ sig (Elt F) Λ₀ (.scVector ((i 0).castLE hcore0) ((i 1).castLE hsub0))) α

/-- A tile's weakest precondition. -/
abbrev WP {α : Type} (d : Dev nD) (i : grid0.Coords) (p : TProg F i α) (Q : α → sProp 𝕄) : sProp 𝕄 :=
  wp frame (wpE (defs₀ (F := F)) 𝒱₀ (thr d i) none) Set.univ p Q

section Pts

variable (d : Dev nD) (i : grid0.Coords)

abbrev labP (f : Vec F S2048 .i32) : sProp 𝕄 := (thr d i).loc cc0_scratch0 ↦{fullShare} f
abbrev clsP (f : Vec F S8192 .i32) : sProp 𝕄 := (thr d i).loc cc0_scratch1 ↦{fullShare} f
abbrev posP (f : Vec F S8192 .i32) : sProp 𝕄 := (thr d i).loc cc0_scratch2 ↦{fullShare} f
abbrev cntP (f : Vec F S256 .i32) : sProp 𝕄 := (thr d i).loc cc0_scratch3 ↦{fullShare} f
abbrev partP (f : Vec F S16 .f32) : sProp 𝕄 := (thr d i).loc cc0_scratch6 ↦{fullShare} f

end Pts

/-- Sixteen elements of an array of one axis from an offset. -/
def ld1 {α : Type} {n : ℕ} (f : (⟨1, ![n]⟩ : Shape).Idx → α) (off : Fin 1 → ℕ) (h : ∀ a, off a + S16.size a ≤ (⟨1, ![n]⟩ : Shape).size a) :
    S16.Idx → α := fun x => f fun a => ⟨off a + (x a).val, lt_of_lt_of_le (Nat.add_lt_add_left (x a).isLt _) (h a)⟩

section Rules

variable {d : Dev nD} {i : grid0.Coords} {α : Type}

theorem ld_lab {f : Vec F S2048 .i32} {off : Fin 1 → ℕ} {h : ∀ a, off a + S16.size a ≤ S2048.size a}
    {hl : labM.view.LoadsAt (Rect.unit (s := S2048) off S16.size h).toLoadRect} {k : (S16.Idx → BitVec 32) → TProg F i α} {Q : α → sProp 𝕄} :
    labP d i f ⊢ iprop((labP d i f -∗ WP d i (k (ld1 f off h)) Q) -∗ WP d i (.op (.load labM (Rect.unit (s := S2048) off S16.size h).toLoadRect hl) k) Q) := by
  have e : labM.view.readAt (Elt F) (Rect.unit (s := S2048) off S16.size h).toLoadRect f = ld1 f off h := by
    funext x
    show f ((Rect.unit (s := S2048) off S16.size h).emb x) = _
    unfold ld1; congr 1; funext a; apply Fin.ext
    show off a + 1 * (x a).val = _
    simp
  rw [← e]
  exact wp_load (defs := defs₀ (F := F)) 𝒱₀ (thr d i) none Set.univ (Q := Q) (m := labM) (hl := hl) (k := k) (S := Finset.univ) (q := fullShare) (f := f) (Finset.subset_univ _)

theorem ld_cls {f : Vec F S8192 .i32} {off : Fin 1 → ℕ} {h : ∀ a, off a + S16.size a ≤ S8192.size a}
    {hl : clsM.view.LoadsAt (Rect.unit (s := S8192) off S16.size h).toLoadRect} {k : (S16.Idx → BitVec 32) → TProg F i α} {Q : α → sProp 𝕄} :
    clsP d i f ⊢ iprop((clsP d i f -∗ WP d i (k (ld1 f off h)) Q) -∗ WP d i (.op (.load clsM (Rect.unit (s := S8192) off S16.size h).toLoadRect hl) k) Q) := by
  have e : clsM.view.readAt (Elt F) (Rect.unit (s := S8192) off S16.size h).toLoadRect f = ld1 f off h := by
    funext x
    show f ((Rect.unit (s := S8192) off S16.size h).emb x) = _
    unfold ld1; congr 1; funext a; apply Fin.ext
    show off a + 1 * (x a).val = _
    simp
  rw [← e]
  exact wp_load (defs := defs₀ (F := F)) 𝒱₀ (thr d i) none Set.univ (Q := Q) (m := clsM) (hl := hl) (k := k) (S := Finset.univ) (q := fullShare) (f := f) (Finset.subset_univ _)

theorem ld_pos {f : Vec F S8192 .i32} {off : Fin 1 → ℕ} {h : ∀ a, off a + S16.size a ≤ S8192.size a}
    {hl : posM.view.LoadsAt (Rect.unit (s := S8192) off S16.size h).toLoadRect} {k : (S16.Idx → BitVec 32) → TProg F i α} {Q : α → sProp 𝕄} :
    posP d i f ⊢ iprop((posP d i f -∗ WP d i (k (ld1 f off h)) Q) -∗ WP d i (.op (.load posM (Rect.unit (s := S8192) off S16.size h).toLoadRect hl) k) Q) := by
  have e : posM.view.readAt (Elt F) (Rect.unit (s := S8192) off S16.size h).toLoadRect f = ld1 f off h := by
    funext x
    show f ((Rect.unit (s := S8192) off S16.size h).emb x) = _
    unfold ld1; congr 1; funext a; apply Fin.ext
    show off a + 1 * (x a).val = _
    simp
  rw [← e]
  exact wp_load (defs := defs₀ (F := F)) 𝒱₀ (thr d i) none Set.univ (Q := Q) (m := posM) (hl := hl) (k := k) (S := Finset.univ) (q := fullShare) (f := f) (Finset.subset_univ _)

theorem ld_cnt {f : Vec F S256 .i32} {off : Fin 1 → ℕ} {h : ∀ a, off a + S16.size a ≤ S256.size a}
    {hl : cntM.view.LoadsAt (Rect.unit (s := S256) off S16.size h).toLoadRect} {k : (S16.Idx → BitVec 32) → TProg F i α} {Q : α → sProp 𝕄} :
    cntP d i f ⊢ iprop((cntP d i f -∗ WP d i (k (ld1 f off h)) Q) -∗ WP d i (.op (.load cntM (Rect.unit (s := S256) off S16.size h).toLoadRect hl) k) Q) := by
  have e : cntM.view.readAt (Elt F) (Rect.unit (s := S256) off S16.size h).toLoadRect f = ld1 f off h := by
    funext x
    show f ((Rect.unit (s := S256) off S16.size h).emb x) = _
    unfold ld1; congr 1; funext a; apply Fin.ext
    show off a + 1 * (x a).val = _
    simp
  rw [← e]
  exact wp_load (defs := defs₀ (F := F)) 𝒱₀ (thr d i) none Set.univ (Q := Q) (m := cntM) (hl := hl) (k := k) (S := Finset.univ) (q := fullShare) (f := f) (Finset.subset_univ _)

theorem sc_cls {f : Vec F S8192 .i32} {idx : IVec S16 32} {v : Vec F S16 .i32} {mask : IVec S16 1} {add : Bool}
    {h : ∀ a x, ((![idx] : Fin 1 → IVec S16 32) a x).toNat < S8192.size a} {hs : (clsM.access (.whole S8192)).Stores Finset.univ}
    {k : PUnit.{1} → TProg F i α} {Q : α → sProp 𝕄} :
    clsP d i f ⊢ iprop((clsP d i (storeIdx f ![idx] v mask add h) -∗ WP d i (k ⟨⟩) Q)
      -∗ WP d i (SparseCore.vectorStoreIdx clsM ![idx] v mask add h hs >>= k) Q) := by
  have := SparseCore.wp_vectorStoreIdx (defs := defs₀ (F := F)) 𝒱₀ (thr d i) none Set.univ (Q := Q) (base := clsM) (idxs := ![idx]) (v := v) (mask := mask)
    (add := add) (h := h) (hs := hs) (k := k) (f := f)
  have e1 : (clsM.access (Rect.whole S8192)).read (Elt F) f = f := Memref.read_access_whole _ _ _
  have e2 : (clsM.access (Rect.whole S8192)).set = Finset.univ := Memref.set_access_whole _
  have e3 : ∀ w : Vec F S8192 .i32, (clsM.access (Rect.whole S8192)).write (Elt F) f w Finset.univ = w := fun w => Memref.write_access_whole_univ _ _ _ _
  rw [e1, e2, e3] at this
  exact this

theorem sc_pos {f : Vec F S8192 .i32} {idx : IVec S16 32} {v : Vec F S16 .i32} {mask : IVec S16 1} {add : Bool}
    {h : ∀ a x, ((![idx] : Fin 1 → IVec S16 32) a x).toNat < S8192.size a} {hs : (posM.access (.whole S8192)).Stores Finset.univ}
    {k : PUnit.{1} → TProg F i α} {Q : α → sProp 𝕄} :
    posP d i f ⊢ iprop((posP d i (storeIdx f ![idx] v mask add h) -∗ WP d i (k ⟨⟩) Q)
      -∗ WP d i (SparseCore.vectorStoreIdx posM ![idx] v mask add h hs >>= k) Q) := by
  have := SparseCore.wp_vectorStoreIdx (defs := defs₀ (F := F)) 𝒱₀ (thr d i) none Set.univ (Q := Q) (base := posM) (idxs := ![idx]) (v := v) (mask := mask)
    (add := add) (h := h) (hs := hs) (k := k) (f := f)
  have e1 : (posM.access (Rect.whole S8192)).read (Elt F) f = f := Memref.read_access_whole _ _ _
  have e2 : (posM.access (Rect.whole S8192)).set = Finset.univ := Memref.set_access_whole _
  have e3 : ∀ w : Vec F S8192 .i32, (posM.access (Rect.whole S8192)).write (Elt F) f w Finset.univ = w := fun w => Memref.write_access_whole_univ _ _ _ _
  rw [e1, e2, e3] at this
  exact this

theorem sc_cnt {f : Vec F S256 .i32} {idx : IVec S16 32} {v : Vec F S16 .i32} {mask : IVec S16 1} {add : Bool}
    {h : ∀ a x, ((![idx] : Fin 1 → IVec S16 32) a x).toNat < S256.size a} {hs : (cntM.access (.whole S256)).Stores Finset.univ}
    {k : PUnit.{1} → TProg F i α} {Q : α → sProp 𝕄} :
    cntP d i f ⊢ iprop((cntP d i (storeIdx f ![idx] v mask add h) -∗ WP d i (k ⟨⟩) Q)
      -∗ WP d i (SparseCore.vectorStoreIdx cntM ![idx] v mask add h hs >>= k) Q) := by
  have := SparseCore.wp_vectorStoreIdx (defs := defs₀ (F := F)) 𝒱₀ (thr d i) none Set.univ (Q := Q) (base := cntM) (idxs := ![idx]) (v := v) (mask := mask)
    (add := add) (h := h) (hs := hs) (k := k) (f := f)
  have e1 : (cntM.access (Rect.whole S256)).read (Elt F) f = f := Memref.read_access_whole _ _ _
  have e2 : (cntM.access (Rect.whole S256)).set = Finset.univ := Memref.set_access_whole _
  have e3 : ∀ w : Vec F S256 .i32, (cntM.access (Rect.whole S256)).write (Elt F) f w Finset.univ = w := fun w => Memref.write_access_whole_univ _ _ _ _
  rw [e1, e2, e3] at this
  exact this

theorem ga_cnt {f : Vec F S256 .i32} {idx : IVec S16 32} {h : ∀ a x, ((![idx] : Fin 1 → IVec S16 32) a x).toNat < S256.size a}
    {hl : cntM.view.Loads} {k : (S16.Idx → BitVec 32) → TProg F i α} {Q : α → sProp 𝕄} :
    cntP d i f ⊢ iprop((cntP d i f -∗ WP d i (k (loadIdx (F := F) (e := .i32) (s := S256) f ![idx] h)) Q)
      -∗ WP d i (SparseCore.vectorLoadIdx cntM ![idx] h hl >>= k) Q) := by
  have := SparseCore.wp_vectorLoadIdx (defs := defs₀ (F := F)) 𝒱₀ (thr d i) none Set.univ (Q := Q) (base := cntM) (idxs := ![idx])
    (h := h) (hl := hl) (k := k) (q := fullShare) (f := f) (S := Finset.univ) (Finset.subset_univ _)
  have e1 : (cntM.access (Rect.whole S256)).read (Elt F) f = f := Memref.read_access_whole _ _ _
  rw [e1] at this
  exact this

/-- The counts with the first `n` zeroed. -/
def zUp (n : ℕ) (f : Vec F S256 .i32) : Vec F S256 .i32 := fun x => if (x 0).val < n then 0#32 else f x

theorem st_cnt {f : Vec F S256 .i32} {off : Fin 1 → ℕ} {h : ∀ a, off a + S16.size a ≤ S256.size a} {hx} {hm} {k : PUnit.{1} → TProg F i α} {Q : α → sProp 𝕄} :
    cntP d i (zUp (off 0) f) ⊢ iprop((cntP d i (zUp (off 0 + 16) f) -∗ WP d i (k ⟨⟩) Q)
      -∗ WP d i (.op (.store cntM (Rect.unit (s := S256) off S16.size h) k0_pay229 Finset.univ hx hm) k) Q) := by
  have e : (cntM.access (Rect.unit (s := S256) off S16.size h)).write (Elt F) (zUp (off 0) f) (k0_pay229 : S16.Idx → BitVec 32) Finset.univ
      = zUp (off 0 + 16) f := by
    funext x
    have hemb : ∀ y : S16.Idx, (((Rect.unit (s := S256) off S16.size h).emb y : S256.Idx) 0).val = off 0 + (y 0).val := by
      intro y
      show off 0 + 1 * (y 0).val = _
      simp
    by_cases hx' : off 0 ≤ (x 0).val ∧ (x 0).val < off 0 + 16
    · have : x = (cntM.access (Rect.unit (s := S256) off S16.size h)).emb (lane ⟨(x 0).val - off 0, by omega⟩) := by
        funext (a : Fin 1); obtain rfl : a = 0 := Subsingleton.elim _ _
        apply Fin.ext
        refine Eq.trans ?_ (hemb (lane ⟨(x 0).val - off 0, by omega⟩)).symm
        show _ = _ + ((x 0).val - off 0); omega
      rw [this, View.write_emb_of_mem _ _ (Finset.mem_univ _), ← this]
      unfold zUp; rw [if_pos hx'.2]; rfl
    · rw [View.write_of_not_mem]
      · unfold zUp
        by_cases h1 : (x 0).val < off 0
        · rw [if_pos h1, if_pos (by omega)]
        · rw [if_neg h1, if_neg (by omega)]
      · intro hc
        obtain ⟨y, -, hy⟩ := Finset.mem_map.mp hc
        have := congrArg (fun z : S256.Idx => (z 0).val) hy
        have h2 := (hemb y).symm.trans this
        have := (y 0).isLt
        apply hx'
        constructor
        · omega
        · have : (y 0).val < 16 := (y 0).isLt
          omega
  rw [← e]
  exact wp_store (defs := defs₀ (F := F)) 𝒱₀ (thr d i) none Set.univ (Q := Q) (m := cntM) (r := Rect.unit (s := S256) off S16.size h)
    (w := (k0_pay229 : S16.Idx → BitVec 32)) (hx := hx) (hm := hm) (k := k) (Mk := Finset.univ) (S := Finset.univ) (f := zUp (off 0) f) (Finset.subset_univ _)

theorem st_part {f v : Vec F S16 .f32} {h : ∀ a, (![0] : Fin 1 → ℕ) a + S16.size a ≤ S16.size a} {hx} {hm} {k : PUnit.{1} → TProg F i α} {Q : α → sProp 𝕄} :
    partP d i f ⊢ iprop((partP d i v -∗ WP d i (k ⟨⟩) Q)
      -∗ WP d i (.op (.store partM (Rect.unit (s := S16) ![0] S16.size h) v Finset.univ hx hm) k) Q) := by
  have e : (partM.access (Rect.unit (s := S16) ![0] S16.size h)).write (Elt F) f v Finset.univ = v :=
    Memref.write_access_unit_zero_univ (Elt F) cc0_scratch6 (off := ![0]) (by funext a; fin_cases a; rfl) h f v
  have key : ∀ w : Vec F S16 .f32, (partM.access (Rect.unit (s := S16) ![0] S16.size h)).write (Elt F) f v Finset.univ = w →
      (partP d i f ⊢ iprop((partP d i w -∗ WP d i (k ⟨⟩) Q)
        -∗ WP d i (.op (.store partM (Rect.unit (s := S16) ![0] S16.size h) v Finset.univ hx hm) k) Q)) := by
    rintro _ rfl
    exact wp_store (defs := defs₀ (F := F)) 𝒱₀ (thr d i) none Set.univ (Q := Q) (m := partM) (r := Rect.unit (s := S16) ![0] S16.size h)
      (w := v) (hx := hx) (hm := hm) (k := k) (Mk := Finset.univ) (S := Finset.univ) (f := f) (Finset.subset_univ _)
  exact key v e

theorem assumeWP {P : Prop} {dec : Decidable P} {k : PLift P → TProg F i α} {Q : α → sProp 𝕄} (h : P) :
    WP d i (k ⟨h⟩) Q ⊢ WP d i (.op (.assume P dec) k) Q := wp_assume (defs := defs₀ (F := F)) 𝒱₀ (thr d i) none Set.univ h

theorem retWP {a : α} {Q : α → sProp 𝕄} : Q a ⊢ WP d i (.ret a) Q := by
  unfold WP; rw [wp_ret]; exact fupd_intro

end Rules

end Cert.Proof.CL

end
-- ==== Proof.Copies.lean ====
/- A tile's copies: a block's columns of the table into one of the four slots, a row of `x` into its place in a slot, and a
   stage of labels, with what each leaves. -/
module

public import proofs.«01_k».proof.Proof.Setup

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What a tile owes, and an array it reads -/

/-- What the tile owes, with waits recorded beyond `W` only at the transfers' index. -/
def owW (d : Dev nD) (i : grid0.Coords) (O : CellTallies nD τ sig (HIx 1)) (W : Waits sig (HIx 1)) : sProp 𝕄 :=
  iprop(∃ W' : Waits sig (HIx 1), ⌜∀ p ∈ W', p ∈ W ∨ p.2 = none⌝ ∗ owes (thr d i) O W')

/-- An array read: some share of it. -/
def rd (ℓ : Loc nD τ sig) (f : Buf (Elt F) ℓ) : sProp 𝕄 := iprop(∃ q, ℓ ↦{q} f)

theorem rd_split {ℓ : Loc nD τ sig} {f : Buf (Elt F) ℓ} (S : Finset (Idx ℓ)) :
    rd ℓ f ⊢ (iprop(rd ℓ f ∗ ∃ q, ℓ ↦[S]{q} f) : sProp 𝕄) := by
  unfold rd
  iintro ⟨%q, H⟩
  ihave H' := (pointsTo_share (PosShare.mem_left_op_right q)).1 $$ H
  icases H' with ⟨H1, H2⟩
  isplitl [H1]
  · iexists _; iexact H1
  · ihave H3 := (pointsTo_split_subset (Finset.subset_univ S)).1 $$ H2
    icases H3 with ⟨H3, -⟩
    iexists _; iexact H3

/-- A transfer in flight that delivers `R`. -/
def FL (d : Dev nD) (i : grid0.Coords) (sm : SemLoc sig) (N : ℕ) (R : sProp 𝕄) : sProp 𝕄 :=
  iprop(∃ J : sProp 𝕄, Transfers.Flight countersEmb (thr d i) sm (none : HIx 1) N iprop(R ∗ J))

abbrev MW (d : Dev nD) (i : grid0.Coords) (O : CellTallies nD τ sig (HIx 1)) : sProp 𝕄 := Transfers.MayWaits (thr d i) (none : HIx 1) O

section Gen

variable {d : Dev nD} {i : grid0.Coords} {α : Type} {sp sp' : Space} {s s' : Shape} {e e' : EltTy}

theorem issueG {src : Memref sig .scVector sp s e} {dst : Memref sig .scVector sp' s e} {sm : SemLoc sig}
    {hsrc : src.view.WordExact} {hdst : dst.view.WordExact} {hsem : (DmaTarget.here dst : DmaTarget nD τ sig (thr d i).2 sp' s e).Typed sp sm}
    {k : PUnit.{1} → TProg F i α} {Q : α → sProp 𝕄} {fs : Buf (Elt F) (src.view.loc (thr d i))} {fd g : Buf (Elt F) (dst.view.loc (thr d i))}
    (N : ℕ) (hN : dst.view.amount sm = N) (hN0 : 0 < N)
    (hg : ∀ x ∈ dst.view.set, dst.view.write (Elt F) fd (src.view.read (Elt F) fs) Finset.univ x = g x) :
    iprop(rd (src.view.loc (thr d i)) fs ∗ (dst.view.loc (thr d i) ↦[dst.view.set]{fullShare} fd) ∗ semVal ((thr d i), sm) 0)
      ⊢ iprop((iprop(rd (src.view.loc (thr d i)) fs ∗ FL d i sm N (dst.view.loc (thr d i) ↦[dst.view.set]{fullShare} g)) -∗ WP d i (k ⟨⟩) Q)
        -∗ WP d i (.op (.enqueueDma src (.here dst) sm hsrc hdst hsem) k) Q) := by
  iintro ⟨Hr, Hd, Hs⟩ HK
  ihave Hr' := (rd_split src.view.set) $$ Hr
  icases Hr' with ⟨Hr, ⟨%q, Hq⟩⟩
  iapply (Transfers.wp_dmaLocal countersEmb 𝒱₀ (thr d i) none (none : HIx 1) N hN hN0 (Finset.Subset.refl _) (fd := fd) (fs := fs)) $$ [Hd Hs Hq]
  · isplitl [Hq]; · iexact Hq
    isplitl [Hd]; · iexact Hd
    iexact Hs
  iintro Hf
  iapply HK
  isplitl [Hr]; · iexact Hr
  unfold FL
  iexists _
  rw [show (dst.view.loc (thr d i) ↦[dst.view.set]{fullShare} g : sProp 𝕄)
    = dst.view.loc (thr d i) ↦[dst.view.set]{fullShare} dst.view.write (Elt F) fd (ReadAs.same.apply (src.view.read (Elt F) fs)) Finset.univ from
    (pointsTo_congr hg).symm]
  iexact Hf

theorem waitG {srcw : Memref sig .scVector sp' s' e'} {dstw : Memref sig .scVector sp s e} {sem : DmaSem sig} {hsrc : srcw.view.WordExact} {hdst : dstw.view.WordExact}
    {k : PUnit.{1} → TProg F i α} {Q : α → sProp 𝕄} {O : CellTallies nD τ sig (HIx 1)} {W : Waits sig (HIx 1)} {R : sProp 𝕄}
    {N : ℕ} (hN : dstw.view.dmaCredit = N) :
    iprop(□ MW d i O ∗ FL d i (.dma sem) N R ∗ owW d i O W)
      ⊢ iprop((iprop(R ∗ semVal ((thr d i), .dma sem) 0 ∗ owW d i O W) -∗ WP d i (k ⟨⟩) Q)
        -∗ WP d i (.op (.waitDma2 sem srcw dstw hsrc hdst) k) Q) := by
  unfold FL owW
  iintro ⟨#Hmw, ⟨%J, HF⟩, ⟨%W', %hW, HO⟩⟩ HK
  iapply (Transfers.wp_waitLocalO countersEmb 𝒱₀ (thr d i) none (none : HIx 1) hN) $$ [HF HO]
  · isplitl [HF]; · iexact HF
    isplitl [HO]; · iexact HO
    iapply (Transfers.MayWaits.elim (SemLoc.dma sem)) $$ Hmw
  iintro ⟨⟨HR, -⟩, Hs, HO⟩
  iapply HK
  isplitl [HR]; · iexact HR
  isplitl [Hs]; · iexact Hs
  iexists (insert (SemLoc.dma sem, (none : HIx 1)) W')
  isplitr
  · ipureintro
    intro p hp
    rcases Finset.mem_insert.mp hp with hp | hp
    · exact .inr (congrArg Prod.snd hp)
    · exact hW p hp
  · iexact HO

end Gen

/-! ## The slots -/

theorem slot_inb {q : ℕ} (hq : q < 4) : ∀ a, (![q, 0, 0] : Fin 3 → ℕ) a + S1x64x128.size a ≤ S4x64x128.size a := by
  intro a; fin_cases a
  · show q + 1 ≤ 4; omega
  · show 0 + 64 ≤ 64; omega
  · show 0 + 128 ≤ 128; omega

theorem xslot_inb {q : ℕ} (hq : q < 4) : ∀ a, (![q, 0, 0] : Fin 3 → ℕ) a + S1x32x64.size a ≤ S4x32x64.size a := by
  intro a; fin_cases a
  · show q + 1 ≤ 4; omega
  · show 0 + 32 ≤ 32; omega
  · show 0 + 64 ≤ 64; omega

/-- A slot of the table's blocks. -/
abbrev slotM (q : ℕ) (h : ∀ a, (![q, 0, 0] : Fin 3 → ℕ) a + S1x64x128.size a ≤ S4x64x128.size a) : Memref sig .scVector .vmem S64x128 .f32 :=
  (bufM.slice (Rect.unit (s := S4x64x128) ![q, 0, 0] S1x64x128.size h) (fun _ => rfl)).squeeze S64x128 squeezes_S1x64x128_S64x128

/-- A row of a slot of the rows of `x`. -/
abbrev rowM (q : ℕ) (h : ∀ a, (![q, 0, 0] : Fin 3 → ℕ) a + S1x32x64.size a ≤ S4x32x64.size a) (off : Fin 2 → ℕ)
    (ho : ∀ a, off a + S1x64.size a ≤ S32x64.size a) : Memref sig .scVector .vmem S1x64 .f32 :=
  ((xrM.slice (Rect.unit (s := S4x32x64) ![q, 0, 0] S1x32x64.size h) (fun _ => rfl)).squeeze S32x64 squeezes_S1x32x64_S32x64).slice
    (Rect.unit (s := S32x64) off S1x64.size ho) (fun _ => rfl)

theorem slot_emb (q : ℕ) (h) (y : S64x128.Idx) :
    (((slotM q h).view.emb y : S4x64x128.Idx) 0).val = q ∧ (((slotM q h).view.emb y : S4x64x128.Idx) 1).val = (y 0).val
      ∧ (((slotM q h).view.emb y : S4x64x128.Idx) 2).val = (y 1).val := by
  have e : ((slotM q h).view.emb y : S4x64x128.Idx)
      = (Rect.unit (s := S4x64x128) ![q, 0, 0] S1x64x128.size h).emb (Fin.cons ⟨0, Nat.one_pos⟩ y) := by
    show (Rect.unit (s := S4x64x128) ![q, 0, 0] S1x64x128.size h).emb (Shape.reshapeEquiv _ y) = _
    congr 1
    exact Shape.reshapeEquiv_cons_one (n := 2) (d := ![64, 128]) _ y
  rw [e]
  refine ⟨?_, ?_, ?_⟩
  · show q + 1 * 0 = q; omega
  · show 0 + 1 * (y 0).val = _; omega
  · show 0 + 1 * (y 1).val = _; omega

theorem row_emb (q : ℕ) (h) (off : Fin 2 → ℕ) (ho) (y : S1x64.Idx) :
    (((rowM q h off ho).view.emb y : S4x32x64.Idx) 0).val = q ∧ (((rowM q h off ho).view.emb y : S4x32x64.Idx) 1).val = off 0 + (y 0).val
      ∧ (((rowM q h off ho).view.emb y : S4x32x64.Idx) 2).val = off 1 + (y 1).val := by
  have e : ((rowM q h off ho).view.emb y : S4x32x64.Idx)
      = (Rect.unit (s := S4x32x64) ![q, 0, 0] S1x32x64.size h).emb
        (Fin.cons ⟨0, Nat.one_pos⟩ ((Rect.unit (s := S32x64) off S1x64.size ho).emb y)) := by
    show (Rect.unit (s := S4x32x64) ![q, 0, 0] S1x32x64.size h).emb (Shape.reshapeEquiv _ _) = _
    congr 1
    exact Shape.reshapeEquiv_cons_one (n := 2) (d := ![32, 64]) _ _
  rw [e]
  refine ⟨?_, ?_, ?_⟩
  · show q + 1 * 0 = q; omega
  · show 0 + 1 * (off 0 + 1 * (y 0).val) = _; omega
  · show 0 + 1 * (off 1 + 1 * (y 1).val) = _; omega

/-- The elements of a slot of the table's blocks, and of a row of a slot of the rows of `x`. -/
def SB (q : ℕ) : Finset S4x64x128.Idx := Finset.univ.filter fun x => (x 0).val = q
def SX (q t : ℕ) : Finset S4x32x64.Idx := Finset.univ.filter fun x => (x 0).val = q ∧ (x 1).val = t

theorem ix2_of {a b : ℕ} (x : ℕ) (y : ℕ) (hx : x < a) (hy : y < b) :
    ∃ z : (⟨2, ![a, b]⟩ : Shape).Idx, (z 0).val = x ∧ (z 1).val = y :=
  ⟨fun | 0 => ⟨x, hx⟩ | 1 => ⟨y, hy⟩, rfl, rfl⟩

theorem set_slot (q : ℕ) (h) : (slotM q h).view.set = SB q := by
  ext x
  constructor
  · intro hx
    obtain ⟨y, -, rfl⟩ := Finset.mem_map.mp hx
    exact Finset.mem_filter.mpr ⟨Finset.mem_univ _, (slot_emb q h y).1⟩
  · intro hx
    have hx0 := (Finset.mem_filter.mp hx).2
    obtain ⟨y, h0, h1⟩ := ix2_of (a := 64) (b := 128) ((x : S4x64x128.Idx) 1).val ((x : S4x64x128.Idx) 2).val (x 1).isLt (x 2).isLt
    refine Finset.mem_map.mpr ⟨y, Finset.mem_univ _, ?_⟩
    obtain ⟨e0, e1, e2⟩ := slot_emb q h y
    funext a
    apply Fin.ext
    match a with
    | ⟨0, _⟩ => exact e0.trans hx0.symm
    | ⟨1, _⟩ => exact e1.trans h0
    | ⟨2, _⟩ => exact e2.trans h1

theorem set_row (q : ℕ) (h) (off : Fin 2 → ℕ) (ho) (h1 : off 1 = 0) : (rowM q h off ho).view.set = SX q (off 0) := by
  ext x
  constructor
  · intro hx
    obtain ⟨y, -, rfl⟩ := Finset.mem_map.mp hx
    obtain ⟨e0, e1, e2⟩ := row_emb q h off ho y
    refine Finset.mem_filter.mpr ⟨Finset.mem_univ _, e0, e1.trans ?_⟩
    have : (y 0).val < 1 := (y 0).isLt
    omega
  · intro hx
    obtain ⟨-, hx0, hx1⟩ := Finset.mem_filter.mp hx
    obtain ⟨y, h0, h2⟩ := ix2_of (a := 1) (b := 64) 0 ((x : S4x32x64.Idx) 2).val (by omega) (x 2).isLt
    refine Finset.mem_map.mpr ⟨y, Finset.mem_univ _, ?_⟩
    obtain ⟨e0, e1, e2⟩ := row_emb q h off ho y
    funext a
    apply Fin.ext
    match a with
    | ⟨0, _⟩ => exact e0.trans hx0.symm
    | ⟨1, _⟩ => exact e1.trans ((show off 0 + (y 0).val = off 0 by omega).trans hx1.symm)
    | ⟨2, _⟩ => exact e2.trans ((show off 1 + (y 1).val = (y 1).val by omega).trans h2)

/-! ## The sources -/

abbrev tCol (off : Fin 2 → ℕ) (h : ∀ a, off a + S64x128.size a ≤ S64x1000064.size a) : Memref sig .scVector .hbm S64x128 .f32 :=
  tM.slice (Rect.unit (s := S64x1000064) off S64x128.size h) (fun _ => rfl)

abbrev xRow (off : Fin 2 → ℕ) (h : ∀ a, off a + S1x64.size a ≤ S16384x64.size a) : Memref sig .scVector .hbm S1x64 .f32 :=
  xM.slice (Rect.unit (s := S16384x64) off S1x64.size h) (fun _ => rfl)

abbrev labS (off : Fin 1 → ℕ) (h : ∀ a, off a + S2048.size a ≤ S16384.size a) : Memref sig .scVector .hbm S2048 .i32 :=
  lM.slice (Rect.unit (s := S16384) off S2048.size h) (fun _ => rfl)

/-- The table at a dimension and a class, and `x` at a row and a dimension. -/
def tAt (T : Vec F S64x1000064 .f32) (c k : ℕ) : F .f32 := if h : c < 64 ∧ k < 1000064 then T fun | 0 => ⟨c, h.1⟩ | 1 => ⟨k, h.2⟩ else FloatOps.ofBits .f32 0x00000000#32
def xAt (X : Vec F S16384x64 .f32) (p c : ℕ) : F .f32 := if h : p < 16384 ∧ c < 64 then X fun | 0 => ⟨p, h.1⟩ | 1 => ⟨c, h.2⟩ else FloatOps.ofBits .f32 0x00000000#32

/-- A slot holding the table's columns from `col`. -/
def slotV (T : Vec F S64x1000064 .f32) (col : ℕ) : Vec F S4x64x128 .f32 := fun x => tAt T (x 1).val (col + (x 2).val)
/-- A row holding row `p` of `x`. -/
def rowV (X : Vec F S16384x64 .f32) (p : ℕ) : Vec F S4x32x64 .f32 := fun x => xAt X p (x 2).val

theorem slot_val (T : Vec F S64x1000064 .f32) (fd : Vec F S4x64x128 .f32) (q : ℕ) (h) (off : Fin 2 → ℕ) (ho) (h0 : off 0 = 0) :
    ∀ x ∈ (slotM q h).view.set, (slotM q h).view.write (Elt F) fd ((tCol off ho).view.read (Elt F) T) Finset.univ x = slotV T (off 1) x := by
  intro x hx
  obtain ⟨y, -, rfl⟩ := Finset.mem_map.mp hx
  rw [View.write_emb_of_mem _ _ (Finset.mem_univ _)]
  obtain ⟨e0, e1, e2⟩ := slot_emb q h y
  show T ((Rect.unit (s := S64x1000064) off S64x128.size ho).emb y) = tAt T _ _
  have hy0 : (y 0).val < 64 := (y 0).isLt
  have hy1 : (y 1).val < 128 := (y 1).isLt
  have hh : off 1 + 128 ≤ 1000064 := ho 1
  rw [e1, e2]
  unfold tAt
  rw [dif_pos ⟨hy0, by omega⟩]
  congr 1
  funext a
  apply Fin.ext
  match a with
  | ⟨0, _⟩ => show off 0 + 1 * (y 0).val = (y 0).val; omega
  | ⟨1, _⟩ => show off 1 + 1 * (y 1).val = off 1 + (y 1).val; omega

theorem row_val (X : Vec F S16384x64 .f32) (fd : Vec F S4x32x64 .f32) (q : ℕ) (h) (off : Fin 2 → ℕ) (ho) (h1 : off 1 = 0)
    (off' : Fin 2 → ℕ) (ho') (h1' : off' 1 = 0) :
    ∀ x ∈ (rowM q h off ho).view.set, (rowM q h off ho).view.write (Elt F) fd ((xRow off' ho').view.read (Elt F) X) Finset.univ x
      = rowV X (off' 0) x := by
  intro x hx
  obtain ⟨y, -, rfl⟩ := Finset.mem_map.mp hx
  rw [View.write_emb_of_mem _ _ (Finset.mem_univ _)]
  obtain ⟨e0, e1, e2⟩ := row_emb q h off ho y
  show X ((Rect.unit (s := S16384x64) off' S1x64.size ho').emb y) = xAt X _ _
  have hy0 : (y 0).val < 1 := (y 0).isLt
  have hy1 : (y 1).val < 64 := (y 1).isLt
  have hh : off' 0 + 1 ≤ 16384 := ho' 0
  rw [e2]
  unfold xAt
  rw [dif_pos ⟨by omega, by omega⟩]
  congr 1
  funext a
  apply Fin.ext
  match a with
  | ⟨0, _⟩ => show off' 0 + 1 * (y 0).val = off' 0; omega
  | ⟨1, _⟩ => show off' 1 + 1 * (y 1).val = off 1 + (y 1).val; omega

end Cert.Proof.CL

end
-- ==== Proof.Loops.lean ====
/- A slot's copies and loops: the table's block in flight, the rows of `x` issued and awaited one by one. -/
module

public import proofs.«01_k».proof.Proof.Copies

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

abbrev bufS (d : Dev nD) (i : grid0.Coords) (q : ℕ) (f : Vec F S4x64x128 .f32) : sProp 𝕄 := (thr d i).loc cc0_scratch4 ↦[SB q]{fullShare} f
abbrev xrS (d : Dev nD) (i : grid0.Coords) (q t : ℕ) (f : Vec F S4x32x64 .f32) : sProp 𝕄 := (thr d i).loc cc0_scratch5 ↦[SX q t]{fullShare} f

theorem row0_inb : ∀ a, (![0, 0] : Fin 2 → ℕ) a + S1x64.size a ≤ S32x64.size a := by decide
theorem xrow0_inb : ∀ a, (![0, 0] : Fin 2 → ℕ) a + S1x64.size a ≤ S16384x64.size a := by decide
theorem tcol0_inb : ∀ a, (![0, 0] : Fin 2 → ℕ) a + S64x128.size a ≤ S64x1000064.size a := by decide

/-- What a copy of a block, and of a row, credits. -/
abbrev NT : ℕ := (slotM 0 (slot_inb (by decide))).view.dmaCredit
abbrev NX : ℕ := (rowM 0 (xslot_inb (by decide)) ![0, 0] row0_inb).view.dmaCredit

theorem NT_pos : 0 < NT := View.dmaCredit_pos _ (by decide)
theorem NX_pos : 0 < NX := View.dmaCredit_pos _ (by decide)

/-! ## The table's blocks -/

abbrev tblFL (d : Dev nD) (i : grid0.Coords) (q : ℕ) (gs : DmaSem sig) (T : Vec F S64x1000064 .f32) (col : ℕ) : sProp 𝕄 :=
  FL d i (.dma gs) NT (bufS d i q (slotV T col))
abbrev tblFree (d : Dev nD) (i : grid0.Coords) (q : ℕ) (gs : DmaSem sig) : sProp 𝕄 :=
  iprop(semVal ((thr d i), .dma gs) 0 ∗ ∃ f : Vec F S4x64x128 .f32, bufS d i q f)

theorem issueT {q : ℕ} {h} {gs : DmaSem sig} {off : Fin 2 → ℕ} {ho} {hsrc : (tCol off ho).view.WordExact} {hdst : (slotM q h).view.WordExact}
    {hsem : (DmaTarget.here (slotM q h) : DmaTarget nD τ sig (thr d i).2 .vmem S64x128 .f32).Typed .hbm (.dma gs)}
    {k : PUnit.{1} → TProg F i α} {Q : α → sProp 𝕄} {T : Vec F S64x1000064 .f32} (h0 : off 0 = 0) {col : ℕ} (h1 : off 1 = col) :
    iprop(rd (tLoc d) T ∗ tblFree (F := F) d i q gs)
      ⊢ iprop((iprop(rd (tLoc d) T ∗ tblFL d i q gs T col) -∗ WP d i (k ⟨⟩) Q)
        -∗ WP d i (.op (.enqueueDma (tCol off ho) (.here (slotM q h)) (.dma gs) hsrc hdst hsem) k) Q) := by
  subst h1
  iintro ⟨Hr, Hs, %f, Hb⟩ HK
  have key := issueG (d := d) (i := i) (src := tCol off ho) (dst := slotM q h) (hsrc := hsrc) (hdst := hdst) (hsem := hsem) (k := k) (Q := Q)
    (fs := T) (fd := f) (g := slotV T (off 1)) NT rfl NT_pos (slot_val T f q h off ho h0)
  rw [set_slot q h] at key
  iapply key $$ [Hr Hs Hb]
  · isplitl [Hr]; · iexact Hr
    isplitl [Hb]; · iexact Hb
    iexact Hs
  iexact HK

theorem waitT {q q' : ℕ} {h} {gs : DmaSem sig} {off : Fin 2 → ℕ} {ho} {hsrc : (tCol off ho).view.WordExact} {hdst : (slotM q' h).view.WordExact}
    {k : PUnit.{1} → TProg F i α} {Q : α → sProp 𝕄} {T : Vec F S64x1000064 .f32} {col : ℕ} {O : CellTallies nD τ sig (HIx 1)} {W : Waits sig (HIx 1)} :
    iprop(□ MW d i O ∗ tblFL d i q gs T col ∗ owW d i O W)
      ⊢ iprop((iprop(bufS d i q (slotV T col) ∗ semVal ((thr d i), .dma gs) 0 ∗ owW d i O W) -∗ WP d i (k ⟨⟩) Q)
        -∗ WP d i (.op (.waitDma2 gs (tCol off ho) (slotM q' h) hsrc hdst) k) Q) :=
  waitG rfl

/-! ## The rows of `x` -/

/-- A row of a slot, holding anything. -/
abbrev xfree (d : Dev nD) (i : grid0.Coords) (q : ℕ) (r : Fin 32) : sProp 𝕄 := iprop(∃ f : Vec F S4x32x64 .f32, xrS d i q r.val f)

/-- `k` rows of a slot's batch, row `t` delivering row `p t` of `x`. -/
abbrev xBatch (d : Dev nD) (i : grid0.Coords) (q : ℕ) (xs : DmaSem sig) (X : Vec F S16384x64 .f32) (p : ℕ → ℕ) (k n u : ℕ) : sProp 𝕄 :=
  Transfers.Batch countersEmb (thr d i) (.dma xs) (none : HIx 1) NX (fun t : Fin k => xrS d i q t.val (rowV X (p t.val))) n u

abbrev xRows (d : Dev nD) (i : grid0.Coords) (q : ℕ) (X : Vec F S16384x64 .f32) (p : ℕ → ℕ) (k : ℕ) : sProp 𝕄 :=
  bigSep (Finset.univ : Finset (Fin k)) fun t => xrS d i q t.val (rowV X (p t.val))

abbrev xRest (d : Dev nD) (i : grid0.Coords) (q k : ℕ) : sProp 𝕄 := bigSep (Transfers.pending (n := 32) k) fun r => xfree (F := F) d i q r

/-- A transfer of a batch issued, the source's share dropped. -/
theorem issueBG {sp sp' : Space} {s : Shape} {e : EltTy} {src : Memref sig .scVector sp s e} {dst : Memref sig .scVector sp' s e} {sm : SemLoc sig}
    {hsrc : src.view.WordExact} {hdst : dst.view.WordExact} {hsem : (DmaTarget.here dst : DmaTarget nD τ sig (thr d i).2 sp' s e).Typed sp sm}
    {k : PUnit.{1} → TProg F i α} {Q : α → sProp 𝕄} {fs : Buf (Elt F) (src.view.loc (thr d i))} {fd g : Buf (Elt F) (dst.view.loc (thr d i))}
    (N : ℕ) (hN : dst.view.amount sm = N) {n j : ℕ} (hj : j < n) {D : Fin n → sProp 𝕄}
    (hD : (dst.view.loc (thr d i) ↦[dst.view.set]{fullShare} g) ⊢ D ⟨j, hj⟩)
    (hg : ∀ x ∈ dst.view.set, dst.view.write (Elt F) fd (src.view.read (Elt F) fs) Finset.univ x = g x) :
    iprop(rd (src.view.loc (thr d i)) fs ∗ (dst.view.loc (thr d i) ↦[dst.view.set]{fullShare} fd)
        ∗ Transfers.Batch countersEmb (thr d i) sm (none : HIx 1) N D j 0)
      ⊢ iprop((iprop(rd (src.view.loc (thr d i)) fs ∗ Transfers.Batch countersEmb (thr d i) sm (none : HIx 1) N D (j + 1) 0) -∗ WP d i (k ⟨⟩) Q)
        -∗ WP d i (.op (.enqueueDma src (.here dst) sm hsrc hdst hsem) k) Q) := by
  iintro ⟨Hr, Hd, HB⟩ HK
  ihave Hr' := (rd_split src.view.set) $$ Hr
  icases Hr' with ⟨Hr, ⟨%q, Hq⟩⟩
  have hD' : iprop((dst.view.loc (thr d i) ↦[dst.view.set]{fullShare} dst.view.write (Elt F) fd (ReadAs.same.apply (src.view.read (Elt F) fs)) Finset.univ)
      ∗ (src.view.loc (thr d i) ↦[src.view.set]{q} fs)) ⊢ D ⟨j, hj⟩ := by
    rw [show (dst.view.loc (thr d i) ↦[dst.view.set]{fullShare} dst.view.write (Elt F) fd (ReadAs.same.apply (src.view.read (Elt F) fs)) Finset.univ : sProp 𝕄)
      = dst.view.loc (thr d i) ↦[dst.view.set]{fullShare} g from pointsTo_congr hg]
    iintro ⟨H, -⟩
    iapply hD $$ H
  iapply (Transfers.wp_dmaBatch countersEmb 𝒱₀ (thr d i) none (none : HIx 1) N hN (Finset.Subset.refl _) hj (Nat.zero_le _) hD') $$ [Hq Hd HB]
  · isplitl [Hq]; · iexact Hq
    isplitl [Hd]; · iexact Hd
    iexact HB
  iintro HB
  iapply HK
  isplitl [Hr]; · iexact Hr
  iexact HB

/-- A row's issue. -/
def issueXBody (i : grid0.Coords) (q : ℕ) (h : ∀ a, (![q, 0, 0] : Fin 3 → ℕ) a + S1x32x64.size a ≤ S4x32x64.size a) (xs : DmaSem sig) (offp : Fin 1 → ℕ) (hoffp : ∀ a, offp a + S16.size a ≤ S8192.size a) (r : BitVec 32)
    (offr : Fin 2 → ℕ) (hoffr : ∀ a, offr a + S1x64.size a ≤ S32x64.size a) (P : BitVec 32 → Prop) (dec : ∀ v, Decidable (P v))
    (hP : ∀ v, P v → ∀ a, (![v.toNat, 0] : Fin 2 → ℕ) a + S1x64.size a ≤ S16384x64.size a) : TProg F i Unit := do
  let pv : Vec F S16 .i32 ← Prog.lift (.load posM (Rect.unit (s := S8192) offp S16.size hoffp).toLoadRect (View.loadsAt_vmem h_S16))
  have hp : P (pick pv r) := (← Prog.lift (TpuEff.assume (P (pick pv r)) (dec (pick pv r)))).down
  Prog.lift (.enqueueDma (xRow ![(pick pv r).toNat, 0] (hP _ hp)) (.here (rowM q h offr hoffr)) (.dma xs) (View.wordExact_bits rfl) (View.wordExact_bits rfl) ⟨Or.inl rfl, trivial⟩)
  pure ⟨⟩

theorem wp_issueXBody {q : ℕ} {h : ∀ a, (![q, 0, 0] : Fin 3 → ℕ) a + S1x32x64.size a ≤ S4x32x64.size a} {xs : DmaSem sig} {offp : Fin 1 → ℕ} {hoffp} {r : BitVec 32} {offr : Fin 2 → ℕ} {hoffr} {P : BitVec 32 → Prop} {dec} {hP}
    (hP' : ∀ v, v.toNat < 16384 → P v) {X : Vec F S16384x64 .f32} {pos : Vec F S8192 .i32} {p : ℕ → ℕ} {k t : ℕ} (hk : k ≤ 32) (ht : t < k)
    (hr : r = BitVec.ofNat 32 (t % 16)) (hr0 : offr 0 = t) (hr1 : offr 1 = 0)
    (hpos : ∀ y : S8192.Idx, (y 0).val = offp 0 + t % 16 → pos y = BitVec.ofNat 32 (p t)) (hpt : p t < 16384) :
    iprop(rd (xLoc d) X ∗ posP d i pos ∗ xBatch d i q xs X p k t 0 ∗ xRest (F := F) d i q t)
      ⊢ WP d i (issueXBody i q h xs offp hoffp r offr hoffr P dec hP)
        fun _ => iprop(rd (xLoc d) X ∗ posP d i pos ∗ xBatch d i q xs X p k (t + 1) 0 ∗ xRest (F := F) d i q (t + 1)) := by
  unfold issueXBody
  simp only [Prog.lift, Prog.bind_op, Prog.bind_ret, Prog.pure_eq_ret]
  iintro ⟨Hr, Hp, HB, HX⟩
  iapply ld_pos $$ Hp
  iintro Hp
  have hv : pick (ld1 pos offp hoffp) r = BitVec.ofNat 32 (p t) := by
    rw [hr, pick_ofNat _ ⟨t % 16, by omega⟩]
    exact hpos _ rfl
  have hvt : (pick (ld1 pos offp hoffp) r).toNat = p t := by rw [hv, BitVec.toNat_ofNat, Nat.mod_eq_of_lt (by omega)]
  iapply (assumeWP (hP' _ (by rw [hvt]; exact hpt)))
  ihave HX' := (Entails.of_eq (Transfers.bigSep_pending_step (n := 32) (fun r => xfree (F := F) d i q r) t (by omega))) $$ HX
  icases HX' with ⟨⟨%fd, Hd⟩, HX⟩
  have hset := set_row q h offr hoffr hr1
  rw [hr0] at hset
  have hw := row_val X fd q h offr hoffr hr1 ![(pick (ld1 pos offp hoffp) r).toNat, 0] (hP _ (hP' _ (by rw [hvt]; exact hpt))) rfl
  rw [show (![(pick (ld1 pos offp hoffp) r).toNat, 0] : Fin 2 → ℕ) 0 = p t from hvt] at hw
  have key := fun hsrc hdst hsem kk Q => issueBG (d := d) (i := i) (α := Unit) (src := xRow ![(pick (ld1 pos offp hoffp) r).toNat, 0] (hP _ (hP' _ (by rw [hvt]; exact hpt))))
    (dst := rowM q h offr hoffr) (sm := .dma xs) (hsrc := hsrc) (hdst := hdst) (hsem := hsem) (k := kk) (Q := Q) (fs := X) (fd := fd) (g := rowV X (p t)) NX rfl ht
    (D := fun t : Fin k => xrS d i q t.val (rowV X (p t.val))) (by rw [hset]) hw
  rw [hset] at key
  iapply (key _ _ _ _ _) $$ [Hr Hd HB]
  · isplitl [Hr]; · iexact Hr
    isplitl [Hd]; · iexact Hd
    iexact HB
  iintro ⟨Hr, HB⟩
  iapply retWP
  isplitl [Hr]; · iexact Hr
  isplitl [Hp]; · iexact Hp
  isplitl [HB]; · iexact HB
  iexact HX

theorem wp_issueXLoop {q : ℕ} {h : ∀ a, (![q, 0, 0] : Fin 3 → ℕ) a + S1x32x64.size a ≤ S4x32x64.size a} {xs : DmaSem sig} {P : BitVec 32 → Prop} {dec : ∀ v, Decidable (P v)}
    {hP : ∀ v, P v → ∀ a, (![v.toNat, 0] : Fin 2 → ℕ) a + S1x64.size a ≤ S16384x64.size a} (hP' : ∀ v, v.toNat < 16384 → P v)
    {X : Vec F S16384x64 .f32} {pos : Vec F S8192 .i32} {p : ℕ → ℕ} {k j : ℕ} (hk : k ≤ 32)
    {lp : Scf.Loop 32} (htr : lp.trips = k) {ok : lp.OK} {body : Fin lp.trips → Unit → TProg F i Unit}
    {offp : Fin lp.trips → Fin 1 → ℕ} {hoffp : ∀ t a, offp t a + S16.size a ≤ S8192.size a} {r : Fin lp.trips → BitVec 32}
    {offr : Fin lp.trips → Fin 2 → ℕ} {hoffr : ∀ t a, offr t a + S1x64.size a ≤ S32x64.size a}
    (hb : ∀ t x, body t x = issueXBody i q h xs (offp t) (hoffp t) (r t) (offr t) (hoffr t) P dec hP)
    (hr : ∀ t, r t = BitVec.ofNat 32 (t.val % 16)) (hr0 : ∀ t, offr t 0 = t.val) (hr1 : ∀ t, offr t 1 = 0)
    (ho : ∀ t, offp t 0 = 32 * j + 16 * (t.val / 16))
    (hpos : ∀ t < k, ∀ y : S8192.Idx, (y 0).val = 32 * j + t → pos y = BitVec.ofNat 32 (p t)) (hpt : ∀ t < k, p t < 16384)
    {kk : Unit → TProg F i α} {Q : α → sProp 𝕄} :
    iprop(rd (xLoc d) X ∗ posP d i pos ∗ xBatch d i q xs X p k 0 0 ∗ xRest (F := F) d i q 0)
      ⊢ iprop((iprop(rd (xLoc d) X ∗ posP d i pos ∗ xBatch d i q xs X p k k 0 ∗ xRest (F := F) d i q k) -∗ WP d i (kk ⟨⟩) Q)
        -∗ WP d i (Scf.Loop.for lp ok (⟨⟩ : Unit) body >>= kk) Q) := by
  have key := Scf.wp_for_bind frame (wpE (defs₀ (F := F)) 𝒱₀ (thr d i) none) Set.univ lp.lb lp.ub lp.st ok (⟨⟩ : Unit) body
    (fun t _ => iprop(rd (xLoc d) X ∗ posP d i pos ∗ xBatch d i q xs X p k t 0 ∗ xRest (F := F) d i q t)) (fun t x => by
      rw [hb]
      have ht : t.val < k := htr ▸ t.isLt
      exact wp_issueXBody hP' hk ht (hr t) (hr0 t) (hr1 t)
        (fun y hy => hpos t.val ht y (by rw [hy, ho]; omega)) (hpt t.val ht)) (kk := kk) (Q := Q)
  rw [show Scf.trips lp.lb lp.ub lp.st = k from htr] at key
  iintro H HK
  iapply key $$ [H]
  · iexact H
  · iintro %acc H
    iapply HK
    iexact H

/-- A row's wait. -/
def waitXBody (i : grid0.Coords) (q : ℕ) (h : ∀ a, (![q, 0, 0] : Fin 3 → ℕ) a + S1x32x64.size a ≤ S4x32x64.size a) (xs : DmaSem sig) : TProg F i Unit := do
  Prog.lift (.waitDma2 xs (xRow ![0, 0] xrow0_inb) (rowM q h ![0, 0] row0_inb) (View.wordExact_bits rfl) (View.wordExact_bits rfl))
  pure ⟨⟩

/-- The rows awaited so far: a batch, or all delivered. -/
def xWaiting (d : Dev nD) (i : grid0.Coords) (q : ℕ) (xs : DmaSem sig) (X : Vec F S16384x64 .f32) (p : ℕ → ℕ) (k t : ℕ) : sProp 𝕄 :=
  if t = k then iprop(xRows d i q X p k ∗ semVal ((thr d i), .dma xs) 0) else xBatch d i q xs X p k k (NX * t)

theorem wp_waitXLoop {q : ℕ} {h : ∀ a, (![q, 0, 0] : Fin 3 → ℕ) a + S1x32x64.size a ≤ S4x32x64.size a} {xs : DmaSem sig} {X : Vec F S16384x64 .f32} {p : ℕ → ℕ} {k : ℕ}
    {O : CellTallies nD τ sig (HIx 1)} {W : Waits sig (HIx 1)}
    {lp : Scf.Loop 32} (htr : lp.trips = k) {ok : lp.OK} {body : Fin lp.trips → Unit → TProg F i Unit}
    (hb : ∀ t x, body t x = waitXBody i q h xs) {kk : Unit → TProg F i α} {Q : α → sProp 𝕄} :
    iprop(□ MW d i O ∗ xBatch d i q xs X p k k 0 ∗ owW d i O W)
      ⊢ iprop((iprop(xRows d i q X p k ∗ semVal ((thr d i), .dma xs) 0 ∗ owW d i O W) -∗ WP d i (kk ⟨⟩) Q)
        -∗ WP d i (Scf.Loop.for lp ok (⟨⟩ : Unit) body >>= kk) Q) := by
  have key := Scf.wp_for_bind frame (wpE (defs₀ (F := F)) 𝒱₀ (thr d i) none) Set.univ lp.lb lp.ub lp.st ok (⟨⟩ : Unit) body
    (fun t _ => iprop(□ MW d i O ∗ xWaiting d i q xs X p k t ∗ owW d i O W)) (fun t x => by
      rw [hb]
      have ht : t.val < k := htr ▸ t.isLt
      unfold waitXBody xWaiting owW
      simp only [Prog.lift, Prog.bind_op, Prog.bind_ret, Prog.pure_eq_ret]
      rw [if_neg (by omega)]
      iintro ⟨#Hmw, HB, %W', %hW, HO⟩
      have hW' : ∀ p ∈ insert (SemLoc.dma xs, (none : HIx 1)) W', p ∈ W ∨ p.2 = none := by
        intro p hp
        rcases Finset.mem_insert.mp hp with hp | hp
        · exact .inr (congrArg Prod.snd hp)
        · exact hW p hp
      by_cases hl : t.val + 1 = k
      · rw [if_pos hl]
        iapply (Transfers.wp_waitBatchLastO countersEmb 𝒱₀ (thr d i) none (none : HIx 1) (srcw := xRow ![0, 0] xrow0_inb) (dstw := rowM q h ![0, 0] row0_inb) (N := NX) rfl NX_pos
          (D := fun t : Fin k => xrS d i q t.val (rowV X (p t.val))) (u := NX * t.val) (by rw [← hl, Nat.mul_succ])) $$ [HB HO]
        · isplitl [HB]; · iexact HB
          isplitl [HO]; · iexact HO
          iapply (Transfers.MayWaits.elim (SemLoc.dma xs)) $$ Hmw
        iintro ⟨HD, Hs, HO⟩
        iapply retWP
        isplitr; · iexact Hmw
        isplitl [HD Hs]
        · isplitl [HD]; · iexact HD
          iexact Hs
        iexists _
        isplitr
        · ipureintro; exact hW'
        · iexact HO
      · rw [if_neg hl]
        iapply (Transfers.wp_waitBatchO countersEmb 𝒱₀ (thr d i) none (none : HIx 1) (srcw := xRow ![0, 0] xrow0_inb) (dstw := rowM q h ![0, 0] row0_inb) (N := NX) rfl
          (D := fun t : Fin k => xrS d i q t.val (rowV X (p t.val))) (u := NX * t.val) (by
            rw [← Nat.mul_succ]; exact Nat.mul_lt_mul_of_pos_left (by omega) NX_pos)) $$ [HB HO]
        · isplitl [HB]; · iexact HB
          isplitl [HO]; · iexact HO
          iapply (Transfers.MayWaits.elim (SemLoc.dma xs)) $$ Hmw
        iintro ⟨HB, HO⟩
        iapply retWP
        isplitr; · iexact Hmw
        isplitl [HB]
        · iexact HB
        iexists _
        isplitr
        · ipureintro; exact hW'
        · iexact HO) (kk := kk) (Q := Q)
  rw [show Scf.trips lp.lb lp.ub lp.st = k from htr] at key
  iintro ⟨#Hmw, HB, HO⟩ HK
  have e : xWaiting d i q xs X p k k = iprop(xRows d i q X p k ∗ semVal ((thr d i), .dma xs) 0) := if_pos rfl
  rw [e] at key
  by_cases hk : k = 0
  · subst hk
    imod (Transfers.batch_collect' countersEmb (c := thr d i) (sm := .dma xs) (ι := (none : HIx 1)) NX_pos
      (D := fun t : Fin 0 => xrS d i q t.val (rowV X (p t.val)))) $$ HB with ⟨HD, Hs⟩
    iapply key $$ [HD Hs HO]
    · isplitr; · iexact Hmw
      isplitl [HD Hs]
      · rw [e]
        isplitl [HD]; · iexact HD
        iexact Hs
      iexact HO
    · iintro %acc ⟨-, ⟨HD, Hs⟩, HO⟩
      iapply HK
      isplitl [HD]; · iexact HD
      isplitl [Hs]; · iexact Hs
      iexact HO
  · iapply key $$ [HB HO]
    · isplitr; · iexact Hmw
      isplitl [HB]
      · unfold xWaiting
        rw [if_neg (by omega)]
        iexact HB
      iexact HO
    · iintro %acc ⟨-, ⟨HD, Hs⟩, HO⟩
      iapply HK
      isplitl [HD]; · iexact HD
      isplitl [Hs]; · iexact Hs
      iexact HO

end Cert.Proof.CL

end
-- ==== Proof.Compute.lean ====
/- A block's distances: for each of its items, the row of `x` less the class's column of the slot, squared and added to the four
   sums of sixteen lanes. -/
module

public import proofs.«01_k».proof.Proof.Loops

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

/-! ## Values -/

/-- Sixteen dimensions, from `16 c`, of row `p` of `x`, and of the table's column `w`. -/
def xC (X : Vec F S16384x64 .f32) (p c : ℕ) : FVec F S16 .f32 := fun y => xAt X p (16 * c + (y 0).val)
def tC (T : Vec F S64x1000064 .f32) (w c : ℕ) : FVec F S16 .f32 := fun y => tAt T (16 * c + (y 0).val) w

/-- A chunk's sum with an item's squares added. -/
def stepC (X : Vec F S16384x64 .f32) (T : Vec F S64x1000064 .f32) (p w c : ℕ) (a : FVec F S16 .f32) : FVec F S16 .f32 :=
  addf a (mulf (subf (xC X p c) (tC T w c)) (subf (xC X p c) (tC T w c)))

/-- The four chunks' sums. -/
abbrev Quad (F : FTy → Type) : Type := FVec F S16 .f32 × FVec F S16 .f32 × FVec F S16 .f32 × FVec F S16 .f32

/-- The sums over a block's first `n` items, item `t` at position `p t` with label `w t`. -/
def foldC (X : Vec F S16384x64 .f32) (T : Vec F S64x1000064 .f32) (p w : ℕ → ℕ) (a : Quad F) : ℕ → Quad F
  | 0 => a
  | n + 1 =>
    (stepC X T (p n) (w n) 0 (foldC X T p w a n).1, stepC X T (p n) (w n) 1 (foldC X T p w a n).2.1,
      stepC X T (p n) (w n) 2 (foldC X T p w a n).2.2.1, stepC X T (p n) (w n) 3 (foldC X T p w a n).2.2.2)

/-! ## The gather and the load -/

theorem ga_buf {q : ℕ} {h} {T : Vec F S64x1000064 .f32} {col : ℕ} {r c : IVec S16 32}
    {hh : ∀ a x, ((![r, c] : Fin 2 → IVec S16 32) a x).toNat < S64x128.size a}
    {hl : (slotM q h).view.Loads} {k : (S16.Idx → F .f32) → TProg F i α} {Q : α → sProp 𝕄} :
    bufS d i q (slotV T col) ⊢ iprop((bufS d i q (slotV T col) -∗ WP d i (k fun x => tAt T (r x).toNat (col + (c x).toNat)) Q)
      -∗ WP d i (SparseCore.vectorLoadIdx (slotM q h) ![r, c] hh hl >>= k) Q) := by
  have hS : ((slotM q h).access (.whole S64x128)).set ⊆ SB q := by
    intro x hx
    obtain ⟨y, -, rfl⟩ := Finset.mem_map.mp hx
    exact Finset.mem_filter.mpr ⟨Finset.mem_univ _, (slot_emb q h ((Rect.whole S64x128).emb y)).1⟩
  have key := SparseCore.wp_vectorLoadIdx (defs := defs₀ (F := F)) 𝒱₀ (thr d i) none Set.univ (Q := Q) (base := slotM q h) (idxs := ![r, c])
    (h := hh) (hl := hl) (k := k) (q := fullShare) (f := slotV T col) (S := SB q) hS
  have e : loadIdx (((slotM q h).access (.whole S64x128)).read (Elt F) (slotV T col)) ![r, c] hh
      = fun x => tAt T (r x).toNat (col + (c x).toNat) := by
    funext x
    show slotV T col ((slotM q h).view.emb ((Rect.whole S64x128).emb (idxAt (s := S64x128) ![r, c] hh x))) = _
    rw [Rect.emb_whole_apply]
    obtain ⟨-, e1, e2⟩ := slot_emb q h (idxAt (s := S64x128) ![r, c] hh x)
    show tAt T _ (col + _) = _
    rw [e1, e2]
    rfl
  rw [e] at key
  exact key

theorem ld_xr {q t : ℕ} {f : Vec F S4x32x64 .f32} {off : Fin 3 → ℕ} {h : ∀ a, off a + S1x1x16.size a ≤ S4x32x64.size a}
    (h0 : off 0 = q) (h1 : off 1 = t) {hl : xrM.view.LoadsAt (Rect.unit (s := S4x32x64) off S1x1x16.size h).toLoadRect}
    {k : (S1x1x16.Idx → F .f32) → TProg F i α} {Q : α → sProp 𝕄} :
    xrS d i q t f ⊢ iprop((xrS d i q t f -∗ WP d i (k fun y => f ((Rect.unit (s := S4x32x64) off S1x1x16.size h).emb y)) Q)
      -∗ WP d i (.op (.load xrM (Rect.unit (s := S4x32x64) off S1x1x16.size h).toLoadRect hl) k) Q) := by
  have hS : (xrM.access (Rect.unit (s := S4x32x64) off S1x1x16.size h)).set ⊆ SX q t := by
    intro x hx
    obtain ⟨y, -, rfl⟩ := Finset.mem_map.mp hx
    refine Finset.mem_filter.mpr ⟨Finset.mem_univ _, ?_, ?_⟩
    · show off 0 + 1 * (y 0).val = q
      have : (y 0).val < 1 := (y 0).isLt
      omega
    · show off 1 + 1 * (y 1).val = t
      have : (y 1).val < 1 := (y 1).isLt
      omega
  exact wp_load_rect (defs := defs₀ (F := F)) 𝒱₀ (thr d i) none Set.univ (Q := Q) (m := xrM) (r := Rect.unit (s := S4x32x64) off S1x1x16.size h) (hl := hl) (k := k) (S := SX q t) (q := fullShare) (f := f) hS

theorem row_cast (X : Vec F S16384x64 .f32) (p c : ℕ) (off : Fin 3 → ℕ) (h : ∀ a, off a + S1x1x16.size a ≤ S4x32x64.size a) (h2 : off 2 = 16 * c) :
    shapeCast S16 (fun y : S1x1x16.Idx => rowV X p ((Rect.unit (s := S4x32x64) off S1x1x16.size h).emb y)) shapeCasts_S1x1x16_S16 = xC X p c := by
  funext y
  have e : Shape.reshapeEquiv shapeCasts_S1x1x16_S16 y = (fun | 0 => (0 : Fin 1) | 1 => (0 : Fin 1) | 2 => (y 0 : Fin 16) : S1x1x16.Idx) := by
    apply Shape.reshapeEquiv_eq_of_rowMajor
    rw [Shape.rowMajor_val_three, Shape.rowMajor_val_one]
    show (0 * 1 + 0) * 16 + (y 0).val = (y 0).val
    omega
  show rowV X p ((Rect.unit (s := S4x32x64) off S1x1x16.size h).emb (Shape.reshapeEquiv shapeCasts_S1x1x16_S16 y)) = _
  rw [e]
  show xAt X p (off 2 + 1 * (y 0).val) = xAt X p (16 * c + (y 0).val)
  rw [h2, Nat.one_mul]

/-! ## One chunk of an item -/

/-- A gather's indices lie in a slot. -/
def idxOK (r c : IVec S16 32) : Prop := ∀ a x, ((![r, c] : Fin 2 → IVec S16 32) a x).toNat < S64x128.size a

/-- The rows of a chunk. -/
def rowsI (c : BitVec 32) : IVec S16 32 := addi iotaV (broadcast S16 c)

theorem rowsI_toNat (c : ℕ) (hc : c < 4) (x : S16.Idx) : (rowsI (BitVec.ofNat 32 (16 * c)) x).toNat = 16 * c + (x 0).val := by
  have e : iotaV x = BitVec.ofNat 32 (x 0).val := (congrArg iotaV (eq_lane x)).trans (iotaV_lane (x 0))
  show (IntOp.addi (iotaV x) (BitVec.ofNat 32 (16 * c))).toNat = _
  rw [e]
  have : (x 0).val < 16 := (x 0).isLt
  unfold IntOp.addi
  rw [BitVec.toNat_add, BitVec.toNat_ofNat, BitVec.toNat_ofNat]
  omega

/-- A chunk of an item: the squares added to its sum. -/
def chunk (i : grid0.Coords) (q : ℕ) (h : ∀ a, (![q, 0, 0] : Fin 3 → ℕ) a + S1x64x128.size a ≤ S4x64x128.size a) (row colv : IVec S16 32)
    (dec : Decidable (idxOK row colv)) (off : Fin 3 → ℕ) (ho : ∀ a, off a + S1x1x16.size a ≤ S4x32x64.size a) (a : FVec F S16 .f32) :
    TProg F i (FVec F S16 .f32) := do
  have hw : idxOK row colv := (← Prog.lift (TpuEff.assume _ dec)).down
  let g : Vec F S16 .f32 ← SparseCore.vectorLoadIdx (slotM q h) ![row, colv] hw (View.loads_vmem h_S64x128)
  let l : Vec F S1x1x16 .f32 ← Prog.lift (.load xrM (Rect.unit (s := S4x32x64) off S1x1x16.size ho).toLoadRect (View.loadsAt_vmem h_S1x1x16))
  pure (addf a (mulf (subf (shapeCast S16 l shapeCasts_S1x1x16_S16) g) (subf (shapeCast S16 l shapeCasts_S1x1x16_S16) g)))

theorem wp_chunk {q : ℕ} {h} {t col m c p : ℕ} {row colv : IVec S16 32} {dec} {off : Fin 3 → ℕ} {ho} {a : FVec F S16 .f32}
    {X : Vec F S16384x64 .f32} {T : Vec F S64x1000064 .f32} (hc : c < 4) (hrow : row = rowsI (BitVec.ofNat 32 (16 * c)))
    (hcv : colv = broadcast S16 (BitVec.ofNat 32 m)) (hm : m < 128) (h0 : off 0 = q) (h1 : off 1 = t) (h2 : off 2 = 16 * c)
    {k : FVec F S16 .f32 → TProg F i α} {Q : α → sProp 𝕄} :
    iprop(bufS d i q (slotV T col) ∗ xrS d i q t (rowV X p))
      ⊢ iprop((iprop(bufS d i q (slotV T col) ∗ xrS d i q t (rowV X p)) -∗ WP d i (k (stepC X T p (col + m) c a)) Q)
        -∗ WP d i (chunk i q h row colv dec off ho a >>= k) Q) := by
  have hcx : ∀ x, (colv x).toNat = m := fun x => by
    rw [hcv]; show (BitVec.ofNat 32 m).toNat = m
    rw [BitVec.toNat_ofNat]; omega
  have hrx : ∀ x, (row x).toNat = 16 * c + (x 0).val := fun x => by rw [hrow]; exact rowsI_toNat c hc x
  have hok : idxOK row colv := by
    intro a x
    have : (x 0).val < 16 := (x 0).isLt
    match a with
    | 0 => show (row x).toNat < 64; rw [hrx]; omega
    | 1 => show (colv x).toNat < 128; rw [hcx]; omega
  unfold chunk
  simp only [bind_assoc, Prog.lift, Prog.bind_op, Prog.bind_ret, Prog.pure_eq_ret]
  iintro ⟨HB, HX⟩ HK
  iapply (assumeWP hok)
  iapply ga_buf $$ HB
  iintro HB
  iapply (ld_xr h0 h1) $$ HX
  iintro HX
  rw [row_cast X p c off ho h2]
  rw [show (fun x : S16.Idx => tAt T (row x).toNat (col + (colv x).toNat)) = tC T (col + m) c from by
    funext x; rw [hrx, hcx]; rfl]
  iapply HK
  isplitl [HB]; · iexact HB
  iexact HX

/-! ## One item -/

/-- The body of the loop over a block's items. -/
def computeBody (i : grid0.Coords) (q : ℕ) (h : ∀ a, (![q, 0, 0] : Fin 3 → ℕ) a + S1x64x128.size a ≤ S4x64x128.size a) (offc : Fin 1 → ℕ)
    (hoc : ∀ a, offc a + S16.size a ≤ S8192.size a) (v543 r : BitVec 32) (dec : ∀ row colv, Decidable (idxOK row colv))
    (o0 o1 o2 o3 : Fin 3 → ℕ) (ho0 : ∀ a, o0 a + S1x1x16.size a ≤ S4x32x64.size a) (ho1 : ∀ a, o1 a + S1x1x16.size a ≤ S4x32x64.size a)
    (ho2 : ∀ a, o2 a + S1x1x16.size a ≤ S4x32x64.size a) (ho3 : ∀ a, o3 a + S1x1x16.size a ≤ S4x32x64.size a) (a : Quad F) :
    TProg F i (Quad F) := do
  let cv : Vec F S16 .i32 ← Prog.lift (.load clsM (Rect.unit (s := S8192) offc S16.size hoc).toLoadRect (View.loadsAt_vmem h_S16))
  let a0 ← chunk i q h (rowsI 0#32) (broadcast S16 (pick (subi cv (broadcast S16 v543)) r)) (dec _ _) o0 ho0 a.1
  let a1 ← chunk i q h (rowsI 16#32) (broadcast S16 (pick (subi cv (broadcast S16 v543)) r)) (dec _ _) o1 ho1 a.2.1
  let a2 ← chunk i q h (rowsI 32#32) (broadcast S16 (pick (subi cv (broadcast S16 v543)) r)) (dec _ _) o2 ho2 a.2.2.1
  let a3 ← chunk i q h (rowsI 48#32) (broadcast S16 (pick (subi cv (broadcast S16 v543)) r)) (dec _ _) o3 ho3 a.2.2.2
  pure (a0, a1, a2, a3)

theorem pick_sub {cls : Vec F S8192 .i32} {j t w col : ℕ} {off : Fin 1 → ℕ} {ho : ∀ a, off a + S16.size a ≤ S8192.size a}
    (hoff : off 0 = 32 * j + 16 * (t / 16)) (hcls : ∀ s : S8192.Idx, (s 0).val = 32 * j + t → cls s = BitVec.ofNat 32 w)
    (h1 : col ≤ w) (h2 : w < col + 128) (h3 : col < 2000000) :
    pick (subi (ld1 cls off ho) (broadcast S16 (BitVec.ofNat 32 col))) (BitVec.ofNat 32 (t % 16)) = BitVec.ofNat 32 (w - col) := by
  have hl : t % 16 < 16 := Nat.mod_lt _ (by omega)
  have e := pick_ofNat (subi (ld1 cls off ho) (broadcast S16 (BitVec.ofNat 32 col))) ⟨t % 16, hl⟩
  refine e.trans ?_
  show IntOp.subi (ld1 cls off ho (lane ⟨t % 16, hl⟩)) (BitVec.ofNat 32 col) = _
  unfold ld1
  rw [hcls _ (by show off 0 + t % 16 = _; omega)]
  unfold IntOp.subi
  apply BitVec.eq_of_toNat_eq
  rw [BitVec.toNat_sub, BitVec.toNat_ofNat, BitVec.toNat_ofNat, BitVec.toNat_ofNat]
  omega

theorem wp_computeLoop {q : ℕ} {h : ∀ a, (![q, 0, 0] : Fin 3 → ℕ) a + S1x64x128.size a ≤ S4x64x128.size a} {cls : Vec F S8192 .i32}
    {X : Vec F S16384x64 .f32} {T : Vec F S64x1000064 .f32} {j k col : ℕ} {p w : ℕ → ℕ}
    {lp : Scf.Loop 32} (htr : lp.trips = k) {ok : lp.OK} {a : Quad F} {body : Fin lp.trips → Quad F → TProg F i (Quad F)}
    {offc : Fin lp.trips → Fin 1 → ℕ} {hoc : ∀ t a, offc t a + S16.size a ≤ S8192.size a} {v543 : BitVec 32} {r : Fin lp.trips → BitVec 32}
    {dec : ∀ row colv, Decidable (idxOK row colv)} {o0 o1 o2 o3 : Fin lp.trips → Fin 3 → ℕ}
    {ho0 : ∀ t a, o0 t a + S1x1x16.size a ≤ S4x32x64.size a} {ho1 : ∀ t a, o1 t a + S1x1x16.size a ≤ S4x32x64.size a}
    {ho2 : ∀ t a, o2 t a + S1x1x16.size a ≤ S4x32x64.size a} {ho3 : ∀ t a, o3 t a + S1x1x16.size a ≤ S4x32x64.size a}
    (hb : ∀ t x, body t x = computeBody i q h (offc t) (hoc t) v543 (r t) dec (o0 t) (o1 t) (o2 t) (o3 t) (ho0 t) (ho1 t) (ho2 t) (ho3 t) x)
    (hv : v543 = BitVec.ofNat 32 col) (hr : ∀ t, r t = BitVec.ofNat 32 (t.val % 16)) (hoff : ∀ t, offc t 0 = 32 * j + 16 * (t.val / 16))
    (h0 : ∀ t, o0 t = ![q, t.val, 0]) (h1 : ∀ t, o1 t = ![q, t.val, 16]) (h2 : ∀ t, o2 t = ![q, t.val, 32]) (h3 : ∀ t, o3 t = ![q, t.val, 48])
    (hcls : ∀ t, t < k → ∀ s : S8192.Idx, (s 0).val = 32 * j + t → cls s = BitVec.ofNat 32 (w t))
    (hw : ∀ t, t < k → col ≤ w t ∧ w t < col + 128) (hcol : col < 2000000)
    {kk : Quad F → TProg F i α} {Q : α → sProp 𝕄} :
    iprop(clsP d i cls ∗ bufS d i q (slotV T col) ∗ xRows d i q X p k)
      ⊢ iprop((iprop(clsP d i cls ∗ bufS d i q (slotV T col) ∗ xRows d i q X p k) -∗ WP d i (kk (foldC X T p w a k)) Q)
        -∗ WP d i (Scf.Loop.for lp ok a body >>= kk) Q) := by
  have key := Scf.wp_for_bind frame (wpE (defs₀ (F := F)) 𝒱₀ (thr d i) none) Set.univ lp.lb lp.ub lp.st ok a body
    (fun t acc => iprop(clsP d i cls ∗ bufS d i q (slotV T col) ∗ xRows d i q X p k ∗ ⌜acc = foldC X T p w a t⌝)) (fun t x => by
      rw [hb]
      have ht : t.val < k := htr ▸ t.isLt
      obtain ⟨hw1, hw2⟩ := hw t.val ht
      unfold computeBody xRows
      rw [SparseCore.bigSep_erase' (Finset.mem_univ (⟨t.val, ht⟩ : Fin k))]
      simp only [bind_assoc, Prog.lift, Prog.bind_op, Prog.bind_ret, Prog.pure_eq_ret]
      iintro ⟨HC, HB, ⟨HX, HXs⟩, %ha⟩
      subst ha
      iapply ld_cls $$ HC
      iintro HC
      have hcv : broadcast S16 (pick (subi (ld1 cls (offc t) (hoc t)) (broadcast S16 v543)) (r t)) = broadcast S16 (BitVec.ofNat 32 (w t.val - col)) := by
        rw [hv, hr, pick_sub (hoff t) (hcls t.val ht) hw1 hw2 hcol]
      have hm : w t.val - col < 128 := by omega
      have hs : col + (w t.val - col) = w t.val := by omega
      iapply (wp_chunk (c := 0) (m := w t.val - col) (t := t.val) (by decide) rfl hcv hm (by rw [h0]; rfl) (by rw [h0]; rfl) (by rw [h0]; rfl)) $$ [HB HX]
      · isplitl [HB]; · iexact HB
        iexact HX
      iintro ⟨HB, HX⟩
      iapply (wp_chunk (c := 1) (m := w t.val - col) (t := t.val) (by decide) rfl hcv hm (by rw [h1]; rfl) (by rw [h1]; rfl) (by rw [h1]; rfl)) $$ [HB HX]
      · isplitl [HB]; · iexact HB
        iexact HX
      iintro ⟨HB, HX⟩
      iapply (wp_chunk (c := 2) (m := w t.val - col) (t := t.val) (by decide) rfl hcv hm (by rw [h2]; rfl) (by rw [h2]; rfl) (by rw [h2]; rfl)) $$ [HB HX]
      · isplitl [HB]; · iexact HB
        iexact HX
      iintro ⟨HB, HX⟩
      iapply (wp_chunk (c := 3) (m := w t.val - col) (t := t.val) (by decide) rfl hcv hm (by rw [h3]; rfl) (by rw [h3]; rfl) (by rw [h3]; rfl)) $$ [HB HX]
      · isplitl [HB]; · iexact HB
        iexact HX
      iintro ⟨HB, HX⟩
      iapply retWP
      isplitl [HC]; · iexact HC
      isplitl [HB]; · iexact HB
      isplitl [HX HXs]
      · isplitl [HX]; · iexact HX
        iexact HXs
      ipureintro
      rw [hs]
      rfl) (kk := kk) (Q := Q)
  rw [show Scf.trips lp.lb lp.ub lp.st = k from htr] at key
  iintro ⟨HC, HB, HX⟩ HK
  iapply key $$ [HC HB HX]
  · isplitl [HC]; · iexact HC
    isplitl [HB]; · iexact HB
    isplitl [HX]; · iexact HX
    ipureintro; rfl
  · iintro %acc ⟨HC, HB, HX, %ha⟩
    subst ha
    iapply HK
    isplitl [HC]; · iexact HC
    isplitl [HB]; · iexact HB
    iexact HX

end Cert.Proof.CL

end
-- ==== Proof.Scat.lean ====
/- One trip over sixteen labels, and a loop of such trips over a stage's 2048 labels. -/
module

public import proofs.«01_k».proof.Proof.Setup

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- A trip over sixteen labels of the stage: count them into their blocks and keep each at its place. -/
def scatBody (i : grid0.Coords) (v10 v13 v20 : BitVec 32) (off : Fin 1 → ℕ) (hoff : ∀ a, off a + S16.size a ≤ S2048.size a) (pv : IVec S16 32) :
    TProg F i Unit := do
  let lv : Vec F S16 .i32 ← Prog.lift (.load labM (Rect.unit (s := S2048) off S16.size hoff).toLoadRect (View.loadsAt_vmem h_S16))
  have B : IVec S16 32 := k0_pay235 (F := F) v10 v13 lv
  have h1 : k0_chk1 B := (← Prog.lift (TpuEff.assume (k0_chk1 B) (k0_chk1.dec B))).down
  let G : Vec F S16 .i32 ← SparseCore.vectorLoadIdx cntM ![B] (k0_idx1_inb B h1) (View.loads_vmem h_S256)
  have P : IVec S16 32 := k0_pay238 (F := F) v10 v13 v20 lv B G
  have h2 : k0_chk2 P := (← Prog.lift (TpuEff.assume (k0_chk2 P) (k0_chk2.dec P))).down
  SparseCore.vectorStoreIdx clsM ![P] lv (k0_pay237 (F := F) v10 v13 v20 lv B G) false (k0_idx2_inb P h2) (View.stores_vmem_bits_univ h_S8192 rfl)
  SparseCore.vectorStoreIdx posM ![P] pv (k0_pay237 (F := F) v10 v13 v20 lv B G) false (k0_idx3_inb P h2) (View.stores_vmem_bits_univ h_S8192 rfl)
  SparseCore.vectorStoreIdx cntM ![B] k0_pay230 (k0_pay237 (F := F) v10 v13 v20 lv B G) true (k0_idx4_inb B h1) (View.stores_vmem_bits_univ h_S256 rfl)
  pure ⟨⟩

variable {d : Dev nD} {i : grid0.Coords}

/-- The counts, classes and positions of the first `n` labels. -/
def scatI (d : Dev nD) (i : grid0.Coords) (lw : ℕ → BitVec 32) (lo hi n : ℕ) : sProp 𝕄 :=
  iprop(∃ (cnt : Vec F S256 .i32) (cls pos : Vec F S8192 .i32), ⌜Inv lw lo hi n cnt cls pos⌝ ∗ cntP d i cnt ∗ clsP d i cls ∗ posP d i pos)

theorem wp_scatBody {lw : ℕ → BitVec 32} {lo hi n : ℕ} (hlo : lo < 2 ^ 31) (hhi : hi < 2 ^ 31) (h0 : lo ≤ hi) (h1 : hi ≤ lo + 256 * 128)
    {off : Fin 1 → ℕ} {hoff : ∀ a, off a + S16.size a ≤ S2048.size a} {pv : IVec S16 32} {lab : Vec F S2048 .i32}
    (hlv : ∀ k : Fin 16, ld1 lab off hoff (lane k) = lw (n + k.val)) (hpv : ∀ k : Fin 16, pv (lane k) = BitVec.ofNat 32 (n + k.val)) :
    iprop(labP d i lab ∗ scatI (F := F) d i lw lo hi n)
      ⊢ WP d i (scatBody i (BitVec.ofNat 32 lo) (BitVec.ofNat 32 hi) 1#32 off hoff pv)
        fun _ => iprop(labP d i lab ∗ scatI (F := F) d i lw lo hi (n + 16)) := by
  unfold scatBody scatI
  simp only [Prog.lift, Prog.bind_op, Prog.bind_ret, Prog.pure_eq_ret]
  iintro ⟨Hl, ⟨%cnt, %cls, %pos, %H, Hc, Hk, Hp⟩⟩
  iapply ld_lab $$ Hl
  iintro Hl
  have hBi := scat_Bi (F := F) hlo hhi h0 h1 (ld1 lab off hoff)
  iapply (assumeWP hBi)
  iapply ga_cnt $$ Hc
  iintro Hc
  have hPi := scat_chk2 (F := F) H hlo hhi h0 hlv hBi.1
  iapply (assumeWP hPi)
  iapply sc_cls $$ Hk
  iintro Hk
  iapply sc_pos $$ Hp
  iintro Hp
  iapply sc_cnt $$ Hc
  iintro Hc
  iapply retWP
  isplitl [Hl]; · iexact Hl
  iexists _, _, _
  isplitr
  · ipureintro
    exact scat_step H hlo hhi h0 hlv hpv _ rfl hBi.1 _ rfl hPi.1 hBi.2
  · isplitl [Hc]; · iexact Hc
    isplitl [Hk]; · iexact Hk
    iexact Hp

theorem wp_scatLoop {lw : ℕ → BitVec 32} {lo hi n : ℕ} (hlo : lo < 2 ^ 31) (hhi : hi < 2 ^ 31) (h0 : lo ≤ hi) (h1 : hi ≤ lo + 256 * 128)
    {lab : Vec F S2048 .i32} (hlab : ∀ p : S2048.Idx, lab p = lw (n + (p 0).val))
    {l u s : BitVec 32} (htr : Scf.trips l u s = 128) {ok : Scf.OK l u s} {body : Fin (Scf.trips l u s) → Unit → TProg F i Unit}
    {off : Fin (Scf.trips l u s) → Fin 1 → ℕ} {hoff : ∀ t, ∀ a, off t a + S16.size a ≤ S2048.size a} {pv : Fin (Scf.trips l u s) → IVec S16 32}
    (hb : ∀ t x, body t x = scatBody i (BitVec.ofNat 32 lo) (BitVec.ofNat 32 hi) 1#32 (off t) (hoff t) (pv t))
    (ho : ∀ t, off t 0 = 16 * t.val) (hpv : ∀ t (k : Fin 16), pv t (lane k) = BitVec.ofNat 32 (n + 16 * t.val + k.val))
    {α : Type} {kk : Unit → TProg F i α} {Q : α → sProp 𝕄} :
    iprop(labP d i lab ∗ scatI (F := F) d i lw lo hi n)
      ⊢ iprop((iprop(labP d i lab ∗ scatI (F := F) d i lw lo hi (n + 2048)) -∗ WP d i (kk ⟨⟩) Q)
        -∗ WP d i (Scf.for l u s ok (⟨⟩ : Unit) body >>= kk) Q) := by
  have key := Scf.wp_for_bind frame (wpE (defs₀ (F := F)) 𝒱₀ (thr d i) none) Set.univ l u s ok (⟨⟩ : Unit) body
    (fun t _ => iprop(labP d i lab ∗ scatI (F := F) d i lw lo hi (n + 16 * t))) (fun t x => by
      rw [hb]
      have hlv : ∀ k : Fin 16, ld1 lab (off t) (hoff t) (lane k) = lw (n + 16 * t.val + k.val) := fun k => by
        unfold ld1; rw [hlab]
        show lw (n + (off t 0 + k.val)) = _
        rw [ho]; congr 1; omega
      rw [show n + 16 * (t.val + 1) = n + 16 * t.val + 16 by omega]
      exact wp_scatBody (hoff := hoff t) hlo hhi h0 h1 hlv (hpv t)) (kk := kk) (Q := Q)
  rw [htr] at key
  iintro H HK
  iapply key $$ [H]
  · iexact H
  · iintro %acc H
    iapply HK
    iexact H

end Cert.Proof.CL

end
-- ==== Proof.Facts.lean ====
/- The words of a tile and of a block: the tile's window and its number of blocks, the offsets of a block's slots, the counted
   loops over a block's items, and the conditions on its count. -/
module

public import proofs.«01_k».proof.Proof.Compute
public import proofs.«01_k».proof.Proof.Scat

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## A tile's words -/

/-- A tile's number. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

def v1w (i : grid0.Coords) : BitVec 32 := Scalar.addi (Scalar.muli (BitVec.ofNat 32 (i 1).val) 2#32) (BitVec.ofNat 32 (i 0).val)
def nbF (v : BitVec 32) : BitVec 32 :=
  Scalar.addi (Scalar.select (Scalar.cmpi .slt v 4#32) 245#32 244#32) (Scalar.select (Scalar.cmpi .eq v 31#32) 1#32 0#32)
def loF (v : BitVec 32) : BitVec 32 := Scalar.muli (Scalar.addi (Scalar.muli 244#32 v) (Scalar.minsi v 4#32)) 128#32
def hiF (v : BitVec 32) : BitVec 32 := Scalar.minsi (Scalar.addi (loF v) (Scalar.muli (nbF v) 128#32)) 1000000#32

theorem v1w_eq (i : grid0.Coords) : v1w i = BitVec.ofNat 32 (wid i) := by
  have h0 : (i 0).val < 2 := (i 0).isLt
  have h1 : (i 1).val < 16 := (i 1).isLt
  apply BitVec.eq_of_toNat_eq
  show (BitVec.ofNat 32 (i 1).val * 2#32 + BitVec.ofNat 32 (i 0).val).toNat = _
  rw [BitVec.toNat_add, BitVec.toNat_mul, BitVec.toNat_ofNat, BitVec.toNat_ofNat, BitVec.toNat_ofNat, BitVec.toNat_ofNat]
  unfold wid; omega

theorem nbF_eq : ∀ w : Fin 32, nbF (BitVec.ofNat 32 w.val) = BitVec.ofNat 32 (nbN w.val) := by decide +kernel
theorem loF_eq : ∀ w : Fin 32, loF (BitVec.ofNat 32 w.val) = BitVec.ofNat 32 (loN w.val) := by decide +kernel
theorem hiF_eq : ∀ w : Fin 32, hiF (BitVec.ofNat 32 w.val) = BitVec.ofNat 32 (hiN w.val) := by decide +kernel

theorem nbw (i : grid0.Coords) : nbF (v1w i) = BitVec.ofNat 32 (nbN (wid i)) := by rw [v1w_eq]; exact nbF_eq ⟨_, wid_lt i⟩
theorem low (i : grid0.Coords) : loF (v1w i) = BitVec.ofNat 32 (loN (wid i)) := by rw [v1w_eq]; exact loF_eq ⟨_, wid_lt i⟩
theorem hiw (i : grid0.Coords) : hiF (v1w i) = BitVec.ofNat 32 (hiN (wid i)) := by rw [v1w_eq]; exact hiF_eq ⟨_, wid_lt i⟩

/-- The trips of the loop over a tile's blocks, four at a time. -/
def nT (i : grid0.Coords) : ℕ := (nbN (wid i) + 3) / 4

theorem t17_trips (i : grid0.Coords) : (k0_t17_loop i).trips = nT i := by
  have key : ∀ (a : Fin 2) (b : Fin 16), (k0_t17_loop (fun | 0 => a | 1 => b | ⟨_ + 2, h⟩ => absurd h (Nat.not_lt.2 (Nat.le_add_left _ _)))).trips
      = (nbN (2 * b.val + a.val) + 3) / 4 := by decide +kernel
  exact key (i 0) (i 1)

theorem nb_bounds (i : grid0.Coords) : nbN (wid i) ≤ 245 ∧ 244 ≤ nbN (wid i) := nbN_le ⟨_, wid_lt i⟩
theorem lo_bound (i : grid0.Coords) : loN (wid i) + 128 * nbN (wid i) ≤ 1000064 := loN_lt ⟨_, wid_lt i⟩

theorem nT_le (i : grid0.Coords) : 4 * nT i ≤ 248 := by
  have := nb_bounds i; unfold nT; omega
theorem nb_le_nT (i : grid0.Coords) : nbN (wid i) ≤ 4 * nT i := by unfold nT; omega

/-! ## A block's words -/

/-- The block of a trip and a slot, as a word; and the one four later. -/
def jW (q : BitVec 32) (t : ℕ) : BitVec 32 := Scalar.addi (Scalar.muli 4#32 (Scf.iv 0#32 1#32 t)) q
def jW4 (q : BitVec 32) (t : ℕ) : BitVec 32 := Scalar.addi (jW q t) 4#32

theorem jW_eq (q t : ℕ) : jW (BitVec.ofNat 32 q) t = BitVec.ofNat 32 (4 * t + q) := by
  unfold jW; rw [iv_ofNat]
  show 4#32 * BitVec.ofNat 32 t + BitVec.ofNat 32 q = _
  rw [BitVec.ofNat_add, BitVec.ofNat_mul]

theorem jW4_eq (q t : ℕ) : jW4 (BitVec.ofNat 32 q) t = BitVec.ofNat 32 (4 * t + q + 4) := by
  unfold jW4; rw [jW_eq]
  show BitVec.ofNat 32 _ + 4#32 = _
  rw [BitVec.ofNat_add (4 * t + q) 4]

section Offsets
variable {a : BitVec 32} {n : ℕ}

theorem cnt_off (ha : a = BitVec.ofNat 32 n) (hn : n < 256) : (Scalar.muli (fd16 a) 16#32).toNat = 16 * (n / 16) := by
  rw [ha, fd16_ofNat ⟨n, hn⟩]
  show (BitVec.ofNat 32 _ * 16#32).toNat = _
  rw [BitVec.toNat_mul, BitVec.toNat_ofNat]
  show (n / 16 % 2 ^ 32 * 16) % 2 ^ 32 = _
  omega

theorem item_off (ha : a = BitVec.ofNat 32 n) (hn : n < 256) {t : ℕ} (ht : t < 32) :
    (Scalar.addi (Scalar.muli a 32#32) (Scalar.muli (fd16 (Scf.iv 0#32 1#32 t)) 16#32)).toNat = 32 * n + 16 * (t / 16) := by
  rw [ha, iv_ofNat, fd16_ofNat ⟨t, by omega⟩]
  show (BitVec.ofNat 32 n * 32#32 + BitVec.ofNat 32 _ * 16#32).toNat = _
  rw [BitVec.toNat_add, BitVec.toNat_mul, BitVec.toNat_mul, BitVec.toNat_ofNat, BitVec.toNat_ofNat]
  show (n % 2 ^ 32 * 32 % 2 ^ 32 + t / 16 % 2 ^ 32 * 16 % 2 ^ 32) % 2 ^ 32 = _
  omega

theorem col_w (i : grid0.Coords) (ha : a = BitVec.ofNat 32 n) :
    Scalar.addi (loF (v1w i)) (Scalar.muli a 128#32) = BitVec.ofNat 32 (loN (wid i) + 128 * n) := by
  rw [ha, low]
  show BitVec.ofNat 32 _ + BitVec.ofNat 32 n * 128#32 = _
  rw [BitVec.ofNat_add, Nat.mul_comm 128 n, BitVec.ofNat_mul]

theorem col_off (i : grid0.Coords) (ha : a = BitVec.ofNat 32 n) (hn : n < 256) :
    (Scalar.addi (loF (v1w i)) (Scalar.muli a 128#32)).toNat = loN (wid i) + 128 * n := by
  rw [col_w i ha, BitVec.toNat_ofNat]
  have := lo_bound i
  omega

theorem iv_toNat {t : ℕ} (ht : t < 32) : (Scf.iv 0#32 1#32 t).toNat = t := by
  rw [iv_ofNat, BitVec.toNat_ofNat]; omega

theorem md_iv {t : ℕ} (ht : t < 32) : md16 (Scf.iv 0#32 1#32 t) = BitVec.ofNat 32 (t % 16) := by
  rw [iv_ofNat]; exact md16_ofNat ⟨t, by omega⟩

end Offsets

/-! ## The loops over a block's items -/

/-- The main loop, of as many trips as the count, and the remainder loop, of none. -/
@[reducible] def lpA (v : BitVec 32) : Scf.Loop 32 :=
  ⟨0#32, Scalar.addi 0#32 (Scalar.muli (Scalar.divsi (Scalar.subi (Scalar.minsi v 32#32) 0#32) 1#32) 1#32), 1#32⟩
@[reducible] def lpB (v : BitVec 32) : Scf.Loop 32 :=
  ⟨Scalar.addi 0#32 (Scalar.muli (Scalar.divsi (Scalar.subi (Scalar.minsi v 32#32) 0#32) 1#32) 1#32), Scalar.addi 0#32 (Scalar.subi (Scalar.minsi v 32#32) 0#32), 1#32⟩

theorem lpA_fin : ∀ k : Fin 33, (lpA (BitVec.ofNat 32 k.val)).trips = k.val := by decide +kernel
theorem lpB_fin : ∀ k : Fin 33, (lpB (BitVec.ofNat 32 k.val)).trips = 0 := by decide +kernel
theorem okA_fin : ∀ k : Fin 33, (lpA (BitVec.ofNat 32 k.val)).OK := by decide +kernel
theorem okB_fin : ∀ k : Fin 33, (lpB (BitVec.ofNat 32 k.val)).OK := by decide +kernel

section Loops
variable {v : BitVec 32} {k : ℕ}
theorem lpA_trips (hv : v = BitVec.ofNat 32 k) (hk : k ≤ 32) : (lpA v).trips = k := by rw [hv]; exact lpA_fin ⟨k, by omega⟩
theorem lpB_trips (hv : v = BitVec.ofNat 32 k) (hk : k ≤ 32) : (lpB v).trips = 0 := by rw [hv]; exact lpB_fin ⟨k, by omega⟩
theorem lpA_ok (hv : v = BitVec.ofNat 32 k) (hk : k ≤ 32) : (lpA v).OK := by rw [hv]; exact okA_fin ⟨k, by omega⟩
theorem lpB_ok (hv : v = BitVec.ofNat 32 k) (hk : k ≤ 32) : (lpB v).OK := by rw [hv]; exact okB_fin ⟨k, by omega⟩
theorem ltA (hv : v = BitVec.ofNat 32 k) (hk : k ≤ 32) (t : Fin (lpA v).trips) : t.val < 32 := by
  have := t.isLt; have e := lpA_trips hv hk; omega
theorem noB (hv : v = BitVec.ofNat 32 k) (hk : k ≤ 32) {C : Prop} (t : Fin (lpB v).trips) : C := by
  have := t.isLt; have e := lpB_trips hv hk; omega

/-! ## The conditions -/

theorem pos_fin : ∀ k : Fin 33, (Scalar.cmpi .sgt (Scalar.minsi (BitVec.ofNat 32 k.val) 32#32) 0#32) = if 0 < k.val then 1#1 else 0#1 := by decide +kernel
theorem slt_nat {n m : ℕ} (hn : n < 2 ^ 31) (hm : m < 2 ^ 31) : Scalar.cmpi .slt (BitVec.ofNat 32 n) (BitVec.ofNat 32 m) = if n < m then 1#1 else 0#1 := by
  have en : (BitVec.ofNat 32 n).toInt = n := by rw [BitVec.toInt_eq_toNat_cond, BitVec.toNat_ofNat, if_pos (by omega)]; omega
  have em : (BitVec.ofNat 32 m).toInt = m := by rw [BitVec.toInt_eq_toNat_cond, BitVec.toNat_ofNat, if_pos (by omega)]; omega
  show (BitVec.ofBool ((BitVec.ofNat 32 n).slt (BitVec.ofNat 32 m))) = _
  unfold BitVec.slt
  rw [en, em]
  by_cases h : n < m
  · simp [h]
  · simp [h]

/-- The count is positive. -/
def cPos (v : BitVec 32) : BitVec 1 := Scalar.cmpi .ne (Scalar.extui (Scalar.cmpi .sgt (Scalar.minsi v 32#32) 0#32) : BitVec 32) 0#32
/-- The block is one of the tile's. -/
def cBlk (a : BitVec 32) (n : BitVec 32) : BitVec 1 := Scalar.cmpi .ne (Scalar.extui (Scalar.cmpi .slt a n) : BitVec 32) 0#32
/-- Both. -/
def cBoth (a n v : BitVec 32) : BitVec 1 :=
  Scalar.cmpi .ne (Scalar.extui (Scalar.andi (Scalar.cmpi .slt a n) (Scalar.cmpi .sgt (Scalar.minsi v 32#32) 0#32)) : BitVec 32) 0#32

theorem cPos_iff (hv : v = BitVec.ofNat 32 k) (hk : k ≤ 32) : cPos v = 1#1 ↔ 0 < k := by
  unfold cPos; rw [hv, pos_fin ⟨k, by omega⟩]
  show _ ↔ 0 < k
  by_cases h : 0 < k
  · simp only [h, if_true]; decide
  · simp only [h, if_false]; decide

theorem cBlk_iff (i : grid0.Coords) {a : BitVec 32} {j : ℕ} (ha : a = BitVec.ofNat 32 j) (hj : j < 256) :
    cBlk a (nbF (v1w i)) = 1#1 ↔ j < nbN (wid i) := by
  have := nb_bounds i
  unfold cBlk; rw [ha, nbw, slt_nat (by omega) (by omega)]
  by_cases h : j < nbN (wid i)
  · simp only [h, if_true]; decide
  · simp only [h, if_false]; decide

theorem cBoth_iff (i : grid0.Coords) {a : BitVec 32} {j : ℕ} (ha : a = BitVec.ofNat 32 j) (hj : j < 256) (hv : v = BitVec.ofNat 32 k) (hk : k ≤ 32)
    (hb : 0 < k → j < nbN (wid i)) : cBoth a (nbF (v1w i)) v = 1#1 ↔ 0 < k := by
  have := nb_bounds i
  unfold cBoth; rw [ha, nbw, slt_nat (by omega) (by omega), hv, pos_fin ⟨k, by omega⟩]
  show _ ↔ 0 < k
  by_cases h : 0 < k
  · simp only [h, hb h, if_true]; decide
  · by_cases h' : j < nbN (wid i)
    · simp only [h, h', if_true, if_false]; decide
    · simp only [h, h', if_false]; decide

end Loops

/-! ## The tables a tile builds -/

/-- What the scatter leaves: block `j` has `k j` items, item `t` at position `p j t` with label `w j t`. -/
structure Tab (n lo : ℕ) (k : ℕ → ℕ) (p w : ℕ → ℕ → ℕ) (cnt : S256.Idx → BitVec 32) (cls pos : S8192.Idx → BitVec 32) : Prop where
  k32 : ∀ j, k j ≤ 32
  cnt : ∀ b : S256.Idx, cnt b = BitVec.ofNat 32 (k (b 0).val)
  cls : ∀ j t, t < k j → ∀ s : S8192.Idx, (s 0).val = 32 * j + t → cls s = BitVec.ofNat 32 (w j t)
  pos : ∀ j t, t < k j → ∀ s : S8192.Idx, (s 0).val = 32 * j + t → pos s = BitVec.ofNat 32 (p j t)
  plt : ∀ j t, t < k j → p j t < 16384
  win : ∀ j t, t < k j → lo + 128 * j ≤ w j t ∧ w j t < lo + 128 * j + 128
  knb : ∀ j, 0 < k j → j < n

def kN (lw : ℕ → BitVec 32) (wid j : ℕ) : ℕ := min 32 (L lw (loN wid) (hiN wid) 16384 j).length
def pN (lw : ℕ → BitVec 32) (wid j t : ℕ) : ℕ := (L lw (loN wid) (hiN wid) 16384 j).getD t 0
def wN (lw : ℕ → BitVec 32) (wid j t : ℕ) : ℕ := (lw (pN lw wid j t)).toNat

theorem getD_at {l : List ℕ} {t : ℕ} (h : t < l.length) : l.getD t 0 = l[t] := by simp [List.getD, h]

theorem pN_mem {lw : ℕ → BitVec 32} {w j t : ℕ} (h : t < kN lw w j) : pN lw w j t ∈ L lw (loN w) (hiN w) 16384 j := by
  have hl : t < (L lw (loN w) (hiN w) 16384 j).length := lt_of_lt_of_le h (min_le_right _ _)
  unfold pN; rw [getD_at hl]; exact List.getElem_mem hl

theorem pN_spec {lw : ℕ → BitVec 32} {w j t : ℕ} (h : t < kN lw w j) :
    pN lw w j t < 16384 ∧ loN w + 128 * j ≤ wN lw w j t ∧ wN lw w j t < loN w + 128 * j + 128 ∧ wN lw w j t < hiN w := by
  obtain ⟨h1, h2, h3, h4⟩ := mem_L.mp (pN_mem h)
  refine ⟨h1, ?_⟩
  unfold wN
  have := Nat.div_add_mod ((lw (pN lw w j t)).toNat - loN w) 128
  have := Nat.mod_lt ((lw (pN lw w j t)).toNat - loN w) (show 0 < 128 by decide)
  rw [h4] at *
  omega

theorem Inv.tab {lw : ℕ → BitVec 32} {w : ℕ} {cnt : S256.Idx → BitVec 32} {cls pos : S8192.Idx → BitVec 32}
    (H : Inv lw (loN w) (hiN w) 16384 cnt cls pos) : Tab (nbN w) (loN w) (kN lw w) (pN lw w) (wN lw w) cnt cls pos where
  k32 j := min_le_left _ _
  cnt := H.cnt
  cls j t h s hs := by
    have h32 : t < 32 := lt_of_lt_of_le h (min_le_left _ _)
    have e1 : (s 0).val % 32 = t := by omega
    have e2 : (s 0).val / 32 = j := by omega
    have hl : t < (L lw (loN w) (hiN w) 16384 j).length := lt_of_lt_of_le h (min_le_right _ _)
    have := (H.ent s (by rw [e1, e2]; exact hl)).1
    rw [this]
    unfold wN pN
    rw [getD_at hl]
    simp only [e1, e2, BitVec.ofNat_toNat, BitVec.setWidth_eq]
  pos j t h s hs := by
    have h32 : t < 32 := lt_of_lt_of_le h (min_le_left _ _)
    have e1 : (s 0).val % 32 = t := by omega
    have e2 : (s 0).val / 32 = j := by omega
    have hl : t < (L lw (loN w) (hiN w) 16384 j).length := lt_of_lt_of_le h (min_le_right _ _)
    have := (H.ent s (by rw [e1, e2]; exact hl)).2
    rw [this]
    unfold pN
    rw [getD_at hl]
    simp only [e1, e2]
  plt j t h := (pN_spec h).1
  win j t h := ⟨(pN_spec h).2.1, (pN_spec h).2.2.1⟩
  knb j h := by
    have := (pN_spec h)
    unfold hiN at this
    omega

/-- A block's count, read out of the counts. -/
theorem pick_cnt {n lo : ℕ} {k p w} {cnt : S256.Idx → BitVec 32} {cls pos} (H : Tab n lo k p w cnt cls pos) {a : BitVec 32} {j : ℕ}
    (ha : a = BitVec.ofNat 32 j) (hj : j < 256) {off : Fin 1 → ℕ} {ho : ∀ a, off a + S16.size a ≤ S256.size a} (hoff : off 0 = 16 * (j / 16)) :
    pick (ld1 cnt off ho) (md16 a) = BitVec.ofNat 32 (k j) := by
  rw [ha, md16_ofNat ⟨j, hj⟩]
  have hl : j % 16 < 16 := Nat.mod_lt _ (by omega)
  refine (pick_ofNat _ ⟨j % 16, hl⟩).trans ?_
  unfold ld1
  rw [H.cnt]
  congr 2
  show off 0 + j % 16 = j
  omega

end Cert.Proof.CL

end
-- ==== Proof.Phase.lean ====
/- The steps of a block's phase: its block awaited when it has items, its rows, the block four later issued when it has items. -/
module

public import proofs.«01_k».proof.Proof.Facts

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

/-- A slot's block: in flight when the block has items, the slot free otherwise. -/
def tblSlot (d : Dev nD) (i : grid0.Coords) (q : ℕ) (gs : DmaSem sig) (T : Vec F S64x1000064 .f32) (col k : ℕ) : sProp 𝕄 :=
  if 0 < k then tblFL d i q gs T col else tblFree (F := F) d i q gs

/-- A slot whose block, if it has items, has arrived. -/
def tblGot (d : Dev nD) (i : grid0.Coords) (q : ℕ) (gs : DmaSem sig) (T : Vec F S64x1000064 .f32) (col k : ℕ) : sProp 𝕄 :=
  iprop(semVal ((thr d i), .dma gs) 0 ∗ ∃ f : Vec F S4x64x128 .f32, ⌜0 < k → f = slotV T col⌝ ∗ bufS d i q f)

theorem for0 {σ : Type} {lp : Scf.Loop 32} {ok : lp.OK} {init : σ} {body : Fin lp.trips → σ → TProg F i σ} (htr : lp.trips = 0)
    {kk : σ → TProg F i α} {Q : α → sProp 𝕄} : WP d i (kk init) Q ⊢ WP d i (Scf.Loop.for lp ok init body >>= kk) Q :=
  Scf.wp_for0_bind' frame (wpE (defs₀ (F := F)) 𝒱₀ (thr d i) none) Set.univ lp.lb lp.ub lp.st ok init body htr kk Q _ .rfl

theorem cutWP {β : Type} {p : TProg F i β} {kk : β → TProg F i α} {Q : α → sProp 𝕄} {P : sProp 𝕄} {R : β → sProp 𝕄} (h : P ⊢ WP d i p R) :
    P ⊢ iprop((∀ r, R r -∗ WP d i (kk r) Q) -∗ WP d i (p >>= kk) Q) := by
  iintro HP HK
  unfold WP
  rw [wp_bind]
  ihave H := h $$ HP
  iapply (wp_wand Idealize.ShloMosaic.frame (wpE (defs₀ (F := F)) 𝒱₀ (thr d i) none) Set.univ (p := p) (Q := R)) $$ H HK

/-- A conditional step, its continuation the same in both branches. -/
theorem diteCut {c : Prop} [Decidable c] {A : c → TProg F i α} {K : TProg F i α} {Q : α → sProp 𝕄} {P R : sProp 𝕄}
    (hA : ∀ h, P ⊢ iprop((R -∗ WP d i K Q) -∗ WP d i (A h) Q)) (hE : ¬ c → P ⊢ R) :
    P ⊢ iprop((R -∗ WP d i K Q) -∗ WP d i (if h : c then A h else K) Q) := by
  by_cases h : c
  · rw [dif_pos h]; exact hA h
  · rw [dif_neg h]
    iintro HP HK
    iapply HK
    iapply (hE h) $$ HP

/-- The same, where what the untaken branch leaves is had by an update of ghost state. -/
theorem diteCutF {c : Prop} [Decidable c] {A : c → TProg F i α} {K : TProg F i α} {Q : α → sProp 𝕄} {P R : sProp 𝕄}
    (hA : ∀ h, P ⊢ iprop((R -∗ WP d i K Q) -∗ WP d i (A h) Q)) (hE : ¬ c → P ⊢ iprop(|={Set.univ}=> R)) :
    P ⊢ iprop((R -∗ WP d i K Q) -∗ WP d i (if h : c then A h else K) Q) := by
  by_cases h : c
  · rw [dif_pos h]; exact hA h
  · rw [dif_neg h]
    iintro HP HK
    imod (hE h) $$ HP with HR
    iapply HK $$ HR

theorem condWaitT {q : ℕ} {h} {gs : DmaSem sig} {off : Fin 2 → ℕ} {ho} {hsrc : (tCol off ho).view.WordExact} {hdst : (slotM q h).view.WordExact}
    {K : TProg F i α} {Q : α → sProp 𝕄} {T : Vec F S64x1000064 .f32} {col k : ℕ} {O : CellTallies nD τ sig (HIx 1)} {W : Waits sig (HIx 1)}
    {c : BitVec 1} (hc : c = 1#1 ↔ 0 < k) :
    iprop(□ MW d i O ∗ tblSlot d i q gs T col k ∗ owW d i O W)
      ⊢ iprop((iprop(tblGot d i q gs T col k ∗ owW d i O W) -∗ WP d i K Q)
        -∗ WP d i (if c = 1#1 then .op (.waitDma2 gs (tCol off ho) (slotM q h) hsrc hdst) (fun _ => K) else K) Q) := by
  unfold tblSlot tblGot
  by_cases hk : 0 < k
  · rw [if_pos (hc.mpr hk), if_pos hk]
    iintro H HK
    iapply waitT $$ H
    iintro ⟨Hb, Hs, HO⟩
    iapply HK
    isplitr [HO]
    · isplitl [Hs]; · iexact Hs
      iexists _
      isplitr
      · ipureintro; exact fun _ => rfl
      · iexact Hb
    · iexact HO
  · rw [if_neg (mt hc.mp hk), if_neg hk]
    iintro ⟨-, ⟨Hs, %f, Hb⟩, HO⟩ HK
    iapply HK
    isplitr [HO]
    · isplitl [Hs]; · iexact Hs
      iexists f
      isplitr
      · ipureintro; exact fun h => absurd h hk
      · iexact Hb
    · iexact HO

theorem condIssueT {q : ℕ} {h} {gs : DmaSem sig} {off : Fin 2 → ℕ} {c : BitVec 1} {ho : c = 1#1 → ∀ a, off a + S64x128.size a ≤ S64x1000064.size a}
    {hsrc : ∀ hc, (tCol off (ho hc)).view.WordExact} {hdst : c = 1#1 → (slotM q h).view.WordExact}
    {hsem : c = 1#1 → (DmaTarget.here (slotM q h) : DmaTarget nD τ sig (thr d i).2 .vmem S64x128 .f32).Typed .hbm (.dma gs)}
    {K : TProg F i α} {Q : α → sProp 𝕄} {T : Vec F S64x1000064 .f32} {k : ℕ} (hc : c = 1#1 ↔ 0 < k) (h0 : off 0 = 0) {col : ℕ} (h1 : off 1 = col) :
    iprop(rd (tLoc d) T ∗ tblFree (F := F) d i q gs)
      ⊢ iprop((iprop(rd (tLoc d) T ∗ tblSlot d i q gs T col k) -∗ WP d i K Q)
        -∗ WP d i (if hh : c = 1#1 then .op (.enqueueDma (tCol off (ho hh)) (.here (slotM q h)) (.dma gs) (hsrc hh) (hdst hh) (hsem hh)) (fun _ => K) else K) Q) := by
  unfold tblSlot
  refine diteCut (fun hh => ?_) (fun hh => ?_)
  · rw [if_pos (hc.mp hh)]
    exact issueT (F := F) (d := d) (i := i) (T := T) (k := fun _ => K) (Q := Q) h0 h1
  · rw [if_neg (mt hc.mpr hh)]

/-- A branch's condition known only by what it decides. -/
theorem iteP {c : Prop} {inst : Decidable c} {A B : TProg F i α} {Q : α → sProp 𝕄} {P : sProp 𝕄}
    (h : ∀ c' : BitVec 1, (c' = 1#1 ↔ c) → (P ⊢ WP d i (if c' = 1#1 then A else B) Q)) : P ⊢ WP d i (@ite _ c inst A B) Q := by
  by_cases hc : c
  · have := h 1#1 (by simp [hc])
    rw [if_pos rfl] at this
    rwa [if_pos hc]
  · have := h 0#1 (by simp [hc])
    rw [if_neg (by decide)] at this
    rwa [if_neg hc]

/-- The same, as a rule. -/
theorem iteI {c : Prop} {inst : Decidable c} {A B : TProg F i α} {Q : α → sProp 𝕄} :
    iprop(∀ c' : BitVec 1, ⌜c' = 1#1 ↔ c⌝ -∗ WP d i (if c' = 1#1 then A else B) Q) ⊢ WP d i (@ite _ c inst A B) Q := by
  refine iteP fun c' h => ?_
  iintro H
  iapply H $$ %c'
  ipureintro
  exact h

/-- The same, the condition's proof unused. -/
theorem condIssueI {q : ℕ} {h} {gs : DmaSem sig} {off : Fin 2 → ℕ} {c : BitVec 1} {ho : ∀ a, off a + S64x128.size a ≤ S64x1000064.size a}
    {hsrc : (tCol off ho).view.WordExact} {hdst : (slotM q h).view.WordExact}
    {hsem : (DmaTarget.here (slotM q h) : DmaTarget nD τ sig (thr d i).2 .vmem S64x128 .f32).Typed .hbm (.dma gs)}
    {K : TProg F i α} {Q : α → sProp 𝕄} {T : Vec F S64x1000064 .f32} {k : ℕ} (hc : c = 1#1 ↔ 0 < k) (h0 : off 0 = 0) {col : ℕ} (h1 : off 1 = col) :
    iprop(rd (tLoc d) T ∗ tblFree (F := F) d i q gs)
      ⊢ iprop((iprop(rd (tLoc d) T ∗ tblSlot d i q gs T col k) -∗ WP d i K Q)
        -∗ WP d i (if c = 1#1 then .op (.enqueueDma (tCol off ho) (.here (slotM q h)) (.dma gs) hsrc hdst hsem) (fun _ => K) else K) Q) :=
  condIssueT (q := q) (h := h) (gs := gs) (off := off) (ho := fun _ => ho) (hsrc := fun _ => hsrc) (hdst := fun _ => hdst) (hsem := fun _ => hsem) hc h0 h1

/-- Rows delivered and the rest of the slot are the whole slot. -/
theorem xJoin {q k : ℕ} (hk : k ≤ 32) {X : Vec F S16384x64 .f32} {p : ℕ → ℕ} :
    iprop(xRows d i q X p k ∗ xRest (F := F) d i q k) ⊢ xRest (F := F) d i q 0 := by
  have key : ∀ m n : ℕ, m + n = k → iprop(bigSep (Transfers.pending (n := k) m) (fun t : Fin k => xrS d i q t.val (rowV X (p t.val))) ∗ xRest (F := F) d i q k)
      ⊢ xRest (F := F) d i q m := by
    intro m n
    induction n generalizing m with
    | zero =>
      intro e
      obtain rfl : m = k := by omega
      iintro ⟨-, H⟩
      iexact H
    | succ n ih =>
      intro e
      rw [Transfers.bigSep_pending_step _ m (by omega : m < k)]
      unfold xRest
      rw [Transfers.bigSep_pending_step (n := 32) (fun r => xfree (F := F) d i q r) m (by omega)]
      iintro ⟨⟨H, H1⟩, H2⟩
      isplitl [H]
      · iexists _; iexact H
      · iapply (ih (m + 1) (by omega)) $$ [H1 H2]
        isplitl [H1]; · iexact H1
        iexact H2
  have := key 0 k (by omega)
  rw [← Transfers.bigSep_pending_zero] at this
  exact this

/-- A slot's rows and its block's, all issued: block `j` of `k` items. -/
def slotB (d : Dev nD) (i : grid0.Coords) (q : ℕ) (gs xs : DmaSem sig) (X : Vec F S16384x64 .f32) (T : Vec F S64x1000064 .f32) (p : ℕ → ℕ) (col k : ℕ) : sProp 𝕄 :=
  iprop(tblSlot d i q gs T col k ∗ xBatch d i q xs X p k k 0 ∗ xRest (F := F) d i q k)

/-- A slot with nothing in flight. -/
def slotF (d : Dev nD) (i : grid0.Coords) (q : ℕ) (gs xs : DmaSem sig) : sProp 𝕄 :=
  iprop(tblFree (F := F) d i q gs ∗ semVal ((thr d i), .dma xs) 0 ∗ xRest (F := F) d i q 0)

theorem slotB_zero {q : ℕ} {gs xs : DmaSem sig} {X : Vec F S16384x64 .f32} {T : Vec F S64x1000064 .f32} {p : ℕ → ℕ} {col : ℕ} :
    slotB d i q gs xs X T p col 0 ⊢ (iprop(|={Set.univ}=> slotF (F := F) d i q gs xs) : sProp 𝕄) := by
  unfold slotB slotF tblSlot
  rw [if_neg (lt_irrefl 0)]
  iintro ⟨Hs, HB, HX⟩
  imod (Transfers.batch_collect' countersEmb (c := thr d i) (sm := .dma xs) (ι := (none : HIx 1)) NX_pos
    (D := fun t : Fin 0 => xrS d i q t.val (rowV X (p t.val)))) $$ HB with ⟨-, Hx⟩
  imodintro
  isplitl [Hs]; · iexact Hs
  isplitl [Hx]; · iexact Hx
  iexact HX

/-- An empty batch of row copies. -/
theorem xBatch_none {q : ℕ} {xs : DmaSem sig} {X : Vec F S16384x64 .f32} {p : ℕ → ℕ} {k : ℕ} (hk : k = 0) :
    (semVal ((thr d i), .dma xs) 0 : sProp 𝕄) ⊢ iprop(|={Set.univ}=> xBatch d i q xs X p k k 0) := by
  subst hk
  exact Transfers.batch_alloc' countersEmb (c := thr d i) (sm := .dma xs) (none : HIx 1) NX (fun s : Fin 0 => xrS d i q s.val (rowV X (p s.val)))

/-- A fresh batch of row copies. -/
theorem xBatch_new {q : ℕ} {xs : DmaSem sig} {X : Vec F S16384x64 .f32} {p : ℕ → ℕ} {k : ℕ} :
    (semVal ((thr d i), .dma xs) 0 : sProp 𝕄) ⊢ iprop(|={Set.univ}=> xBatch d i q xs X p k 0 0) :=
  Transfers.batch_alloc' countersEmb (c := thr d i) (sm := .dma xs) (none : HIx 1) NX (fun s : Fin k => xrS d i q s.val (rowV X (p s.val)))

theorem computeGot {q : ℕ} {h : ∀ a, (![q, 0, 0] : Fin 3 → ℕ) a + S1x64x128.size a ≤ S4x64x128.size a} {gs : DmaSem sig} {cls : Vec F S8192 .i32}
    {X : Vec F S16384x64 .f32} {T : Vec F S64x1000064 .f32} {j k col : ℕ} {p w : ℕ → ℕ}
    {lp : Scf.Loop 32} (htr : lp.trips = k) {ok : lp.OK} {a : Quad F} {body : Fin lp.trips → Quad F → TProg F i (Quad F)}
    {offc : Fin lp.trips → Fin 1 → ℕ} {hoc : ∀ t a, offc t a + S16.size a ≤ S8192.size a} {v543 : BitVec 32} {r : Fin lp.trips → BitVec 32}
    {dec : ∀ row colv, Decidable (idxOK row colv)} {o0 o1 o2 o3 : Fin lp.trips → Fin 3 → ℕ}
    {ho0 : ∀ t a, o0 t a + S1x1x16.size a ≤ S4x32x64.size a} {ho1 : ∀ t a, o1 t a + S1x1x16.size a ≤ S4x32x64.size a}
    {ho2 : ∀ t a, o2 t a + S1x1x16.size a ≤ S4x32x64.size a} {ho3 : ∀ t a, o3 t a + S1x1x16.size a ≤ S4x32x64.size a}
    (hb : ∀ t x, body t x = computeBody i q h (offc t) (hoc t) v543 (r t) dec (o0 t) (o1 t) (o2 t) (o3 t) (ho0 t) (ho1 t) (ho2 t) (ho3 t) x)
    (hv : v543 = BitVec.ofNat 32 col) (hr : ∀ t, r t = BitVec.ofNat 32 (t.val % 16)) (hoff : ∀ t, offc t 0 = 32 * j + 16 * (t.val / 16))
    (h0 : ∀ t, o0 t = ![q, t.val, 0]) (h1 : ∀ t, o1 t = ![q, t.val, 16]) (h2 : ∀ t, o2 t = ![q, t.val, 32]) (h3 : ∀ t, o3 t = ![q, t.val, 48])
    (hcls : ∀ t, t < k → ∀ s : S8192.Idx, (s 0).val = 32 * j + t → cls s = BitVec.ofNat 32 (w t))
    (hw : ∀ t, t < k → col ≤ w t ∧ w t < col + 128) (hcol : col < 2000000)
    {kk : Quad F → TProg F i α} {Q : α → sProp 𝕄} :
    iprop(clsP d i cls ∗ tblGot d i q gs T col k ∗ xRows d i q X p k)
      ⊢ iprop((iprop(clsP d i cls ∗ tblFree (F := F) d i q gs ∗ xRows d i q X p k) -∗ WP d i (kk (foldC X T p w a k)) Q)
        -∗ WP d i (Scf.Loop.for lp ok a body >>= kk) Q) := by
  unfold tblGot
  by_cases hk : 0 < k
  · iintro ⟨Hc, ⟨Hs, %f, %hf, Hb⟩, Hx⟩ HK
    obtain rfl := hf hk
    iapply (wp_computeLoop (X := X) (T := T) (p := p) htr hb hv hr hoff h0 h1 h2 h3 hcls hw hcol) $$ [Hc Hb Hx]
    · isplitl [Hc]; · iexact Hc
      isplitl [Hb]; · iexact Hb
      iexact Hx
    iintro ⟨Hc, Hb, Hx⟩
    iapply HK
    isplitl [Hc]; · iexact Hc
    isplitr [Hx]
    · isplitl [Hs]; · iexact Hs
      iexists _; iexact Hb
    · iexact Hx
  · obtain rfl : k = 0 := by omega
    iintro ⟨Hc, ⟨Hs, %f, -, Hb⟩, Hx⟩ HK
    iapply (for0 htr)
    iapply HK
    isplitl [Hc]; · iexact Hc
    isplitr [Hx]
    · isplitl [Hs]; · iexact Hs
      iexists _; iexact Hb
    · iexact Hx

end Cert.Proof.CL

end
-- ==== Proof.Stage.lean ====
/- A stage of labels copied in and counted; the counts zeroed first. -/
module

public import proofs.«01_k».proof.Proof.Phase

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

/-- The labels by number. -/
def lwN (Lb : Vec F S16384 .i32) (p : ℕ) : BitVec 32 := if h : p < 16384 then Lb (fun | 0 => ⟨p, h⟩) else 0#32

/-- The labels of a stage. -/
def labV (Lb : Vec F S16384 .i32) (n : ℕ) : Vec F S2048 .i32 := fun x => lwN (F := F) Lb (n + (x 0).val)

abbrev NL : ℕ := labM.view.dmaCredit
theorem NL_pos : 0 < NL := View.dmaCredit_pos _ (by decide)

theorem lab_val (Lb : Vec F S16384 .i32) (fd : Vec F S2048 .i32) (off : Fin 1 → ℕ) (ho) :
    ∀ x ∈ labM.view.set, labM.view.write (Elt F) fd ((labS off ho).view.read (Elt F) Lb) Finset.univ x = labV Lb (off 0) x := by
  intro x hx
  have e : ∀ w : Vec F S2048 .i32, labM.view.write (Elt F) fd w Finset.univ x = w x := fun w => by
    show labM.view.write (Elt F) fd w Finset.univ (labM.view.emb x) = w x
    rw [View.write_emb_of_mem _ _ (Finset.mem_univ _)]; rfl
  rw [e]
  show Lb ((Rect.unit (s := S16384) off S2048.size ho).emb x) = _
  have hx0 : (x 0).val < 2048 := (x 0).isLt
  have hh : off 0 + 2048 ≤ 16384 := ho 0
  unfold labV lwN
  rw [dif_pos (by omega)]
  congr 1
  funext a
  apply Fin.ext
  match a with
  | ⟨0, _⟩ => show off 0 + 1 * (x 0).val = off 0 + (x 0).val; omega

/-- A stage's labels on their way. -/
abbrev labFL (d : Dev nD) (i : grid0.Coords) (sm : DmaSem sig) (Lb : Vec F S16384 .i32) (n : ℕ) : sProp 𝕄 :=
  FL d i (.dma sm) NL (labP d i (labV Lb n))

theorem issueL {sm : DmaSem sig} {off : Fin 1 → ℕ} {ho} {hsrc : (labS off ho).view.WordExact} {hdst : labM.view.WordExact}
    {hsem : (DmaTarget.here labM : DmaTarget nD τ sig (thr d i).2 .vmem S2048 .i32).Typed .hbm (.dma sm)}
    {k : PUnit.{1} → TProg F i α} {Q : α → sProp 𝕄} {Lb : Vec F S16384 .i32} {f : Vec F S2048 .i32} {n : ℕ} (hn : off 0 = n) :
    iprop(rd (lLoc d) Lb ∗ labP d i f ∗ semVal ((thr d i), .dma sm) 0)
      ⊢ iprop((iprop(rd (lLoc d) Lb ∗ labFL d i sm Lb n) -∗ WP d i (k ⟨⟩) Q)
        -∗ WP d i (.op (.enqueueDma (labS off ho) (.here labM) (.dma sm) hsrc hdst hsem) k) Q) := by
  subst hn
  have key := issueG (d := d) (i := i) (src := labS off ho) (dst := labM) (hsrc := hsrc) (hdst := hdst) (hsem := hsem) (k := k) (Q := Q)
    (fs := Lb) (fd := f) (g := labV Lb (off 0)) NL rfl NL_pos (lab_val Lb f off ho)
  have e : labM.view.set = Finset.univ := Finset.eq_univ_of_forall fun x => Finset.mem_map.mpr ⟨x, Finset.mem_univ _, rfl⟩
  rw [e] at key
  exact key

theorem waitL {sm : DmaSem sig} {off : Fin 1 → ℕ} {ho} {hsrc : (labS off ho).view.WordExact} {hdst : labM.view.WordExact}
    {k : PUnit.{1} → TProg F i α} {Q : α → sProp 𝕄} {Lb : Vec F S16384 .i32} {n : ℕ} {O : CellTallies nD τ sig (HIx 1)} {W : Waits sig (HIx 1)} :
    iprop(□ MW d i O ∗ labFL d i sm Lb n ∗ owW d i O W)
      ⊢ iprop((iprop(labP d i (labV Lb n) ∗ semVal ((thr d i), .dma sm) 0 ∗ owW d i O W) -∗ WP d i (k ⟨⟩) Q)
        -∗ WP d i (.op (.waitDma2 sm (labS off ho) labM hsrc hdst) k) Q) :=
  waitG rfl

end Cert.Proof.CL

end
-- ==== Proof.ProC.lean ====
/- The labels read and kept, stage by stage. -/
module

public import proofs.«01_k».proof.Proof.Stage

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

theorem iv_eq (t : ℕ) : Scf.iv 0#32 1#32 t = BitVec.ofNat 32 t := by
  unfold Scf.iv
  simp

theorem pv_lane (n t : ℕ) (k : Fin 16) :
    addi iotaV (broadcast S16 (Scalar.addi (BitVec.ofNat 32 n) (Scalar.muli (Scf.iv 0#32 1#32 t) 16#32))) (lane k) = BitVec.ofNat 32 (n + 16 * t + k.val) := by
  rw [iv_eq]
  show iotaV (lane k) + (BitVec.ofNat 32 n + BitVec.ofNat 32 t * 16#32) = _
  rw [iotaV_lane, show (16#32 : BitVec 32) = BitVec.ofNat 32 16 from rfl, ← BitVec.ofNat_mul, ← BitVec.ofNat_add, ← BitVec.ofNat_add]
  congr 1; omega

theorem off16 (t : ℕ) (ht : t < 128) : (Scalar.muli (Scf.iv 0#32 1#32 t) 16#32).toNat = 16 * t := by
  rw [iv_eq]
  show (BitVec.ofNat 32 t * 16#32).toNat = _
  rw [BitVec.toNat_mul, BitVec.toNat_ofNat]
  show (t % 2 ^ 32 * 16) % 2 ^ 32 = _
  omega

theorem win_fin : ∀ w : Fin 32, loN w.val < 2 ^ 31 ∧ hiN w.val < 2 ^ 31 ∧ loN w.val ≤ hiN w.val ∧ hiN w.val ≤ loN w.val + 256 * 128 := by decide +kernel
theorem win_bounds (i : grid0.Coords) : loN (wid i) < 2 ^ 31 ∧ hiN (wid i) < 2 ^ 31 ∧ loN (wid i) ≤ hiN (wid i) ∧ hiN (wid i) ≤ loN (wid i) + 256 * 128 :=
  win_fin ⟨_, wid_lt i⟩

variable {Lb : Vec F S16384 .i32}

/-- The counts and lists of the first `n` labels, the tile's own. -/
abbrev scI (d : Dev nD) (i : grid0.Coords) (Lb : Vec F S16384 .i32) (n : ℕ) : sProp 𝕄 :=
  scatI (F := F) d i (lwN Lb) (loN (wid i)) (hiN (wid i)) n

set_option maxRecDepth 65536 in
theorem stage1  {v15 : IVec S16 32} {ok : k0_t1_loop.OK} {kk : Unit → TProg F i α} {Q : α → sProp 𝕄} :
    iprop(labP d i (labV Lb 0) ∗ scI d i Lb 0)
      ⊢ iprop((iprop(labP d i (labV Lb 0) ∗ scI d i Lb 2048) -∗ WP d i (kk ⟨⟩) Q)
        -∗ WP d i (Scf.Loop.for k0_t1_loop ok (⟨⟩ : Unit) (k0_t1_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV v15 k0_pay230 1#32) >>= kk) Q) := by
  have hb := win_bounds i
  have htr : k0_t1_loop.trips = 128 := by decide +kernel
  exact wp_scatLoop hb.1 hb.2.1 hb.2.2.1 hb.2.2.2 (fun _ => rfl) htr (off := fun t => k0_off1 t) (hoff := fun t => k0_off1_inb t) (pv := fun t => k0_pay233 iotaV t)
    (fun t x => by rw [← low, ← hiw]; rfl) (fun t => off16 t.val (htr ▸ t.isLt)) (fun t k => pv_lane 0 t.val k)

set_option maxRecDepth 65536 in
theorem stage2  {ok : k0_t2_loop.OK} {kk : Unit → TProg F i α} {Q : α → sProp 𝕄} :
    iprop(labP d i (labV Lb 2048) ∗ scI d i Lb 2048)
      ⊢ iprop((iprop(labP d i (labV Lb 2048) ∗ scI d i Lb 4096) -∗ WP d i (kk ⟨⟩) Q)
        -∗ WP d i (Scf.Loop.for k0_t2_loop ok (⟨⟩ : Unit) (k0_t2_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32 0#32) >>= kk) Q) := by
  have hb := win_bounds i
  have htr : k0_t2_loop.trips = 128 := by decide +kernel
  exact wp_scatLoop hb.1 hb.2.1 hb.2.2.1 hb.2.2.2 (fun _ => rfl) htr (off := fun t => k0_off2 t) (hoff := fun t => k0_off2_inb t) (pv := fun t => k0_pay239 iotaV 0#32 t)
    (fun t x => by rw [← low, ← hiw]; rfl) (fun t => off16 t.val (htr ▸ t.isLt)) (fun t k => pv_lane 2048 t.val k)

set_option maxRecDepth 65536 in
theorem stage3  {ok : k0_t3_loop.OK} {kk : Unit → TProg F i α} {Q : α → sProp 𝕄} :
    iprop(labP d i (labV Lb 4096) ∗ scI d i Lb 4096)
      ⊢ iprop((iprop(labP d i (labV Lb 4096) ∗ scI d i Lb 6144) -∗ WP d i (kk ⟨⟩) Q)
        -∗ WP d i (Scf.Loop.for k0_t3_loop ok (⟨⟩ : Unit) (k0_t3_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32 0#32) >>= kk) Q) := by
  have hb := win_bounds i
  have htr : k0_t3_loop.trips = 128 := by decide +kernel
  exact wp_scatLoop hb.1 hb.2.1 hb.2.2.1 hb.2.2.2 (fun _ => rfl) htr (off := fun t => k0_off3 t) (hoff := fun t => k0_off3_inb t) (pv := fun t => k0_pay245 iotaV t)
    (fun t x => by rw [← low, ← hiw]; rfl) (fun t => off16 t.val (htr ▸ t.isLt)) (fun t k => pv_lane 4096 t.val k)

set_option maxRecDepth 65536 in
theorem stage4  {ok : k0_t4_loop.OK} {kk : Unit → TProg F i α} {Q : α → sProp 𝕄} :
    iprop(labP d i (labV Lb 6144) ∗ scI d i Lb 6144)
      ⊢ iprop((iprop(labP d i (labV Lb 6144) ∗ scI d i Lb 8192) -∗ WP d i (kk ⟨⟩) Q)
        -∗ WP d i (Scf.Loop.for k0_t4_loop ok (⟨⟩ : Unit) (k0_t4_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32 0#32) >>= kk) Q) := by
  have hb := win_bounds i
  have htr : k0_t4_loop.trips = 128 := by decide +kernel
  exact wp_scatLoop hb.1 hb.2.1 hb.2.2.1 hb.2.2.2 (fun _ => rfl) htr (off := fun t => k0_off4 t) (hoff := fun t => k0_off4_inb t) (pv := fun t => k0_pay251 iotaV t)
    (fun t x => by rw [← low, ← hiw]; rfl) (fun t => off16 t.val (htr ▸ t.isLt)) (fun t k => pv_lane 6144 t.val k)

set_option maxRecDepth 65536 in
theorem stage5  {ok : k0_t5_loop.OK} {kk : Unit → TProg F i α} {Q : α → sProp 𝕄} :
    iprop(labP d i (labV Lb 8192) ∗ scI d i Lb 8192)
      ⊢ iprop((iprop(labP d i (labV Lb 8192) ∗ scI d i Lb 10240) -∗ WP d i (kk ⟨⟩) Q)
        -∗ WP d i (Scf.Loop.for k0_t5_loop ok (⟨⟩ : Unit) (k0_t5_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32 0#32) >>= kk) Q) := by
  have hb := win_bounds i
  have htr : k0_t5_loop.trips = 128 := by decide +kernel
  exact wp_scatLoop hb.1 hb.2.1 hb.2.2.1 hb.2.2.2 (fun _ => rfl) htr (off := fun t => k0_off5 t) (hoff := fun t => k0_off5_inb t) (pv := fun t => k0_pay257 iotaV t)
    (fun t x => by rw [← low, ← hiw]; rfl) (fun t => off16 t.val (htr ▸ t.isLt)) (fun t k => pv_lane 8192 t.val k)

set_option maxRecDepth 65536 in
theorem stage6  {ok : k0_t6_loop.OK} {kk : Unit → TProg F i α} {Q : α → sProp 𝕄} :
    iprop(labP d i (labV Lb 10240) ∗ scI d i Lb 10240)
      ⊢ iprop((iprop(labP d i (labV Lb 10240) ∗ scI d i Lb 12288) -∗ WP d i (kk ⟨⟩) Q)
        -∗ WP d i (Scf.Loop.for k0_t6_loop ok (⟨⟩ : Unit) (k0_t6_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32) >>= kk) Q) := by
  have hb := win_bounds i
  have htr : k0_t6_loop.trips = 128 := by decide +kernel
  exact wp_scatLoop hb.1 hb.2.1 hb.2.2.1 hb.2.2.2 (fun _ => rfl) htr (off := fun t => k0_off6 t) (hoff := fun t => k0_off6_inb t) (pv := fun t => k0_pay263 iotaV t)
    (fun t x => by rw [← low, ← hiw]; rfl) (fun t => off16 t.val (htr ▸ t.isLt)) (fun t k => pv_lane 10240 t.val k)

set_option maxRecDepth 65536 in
theorem stage7  {ok : k0_t7_loop.OK} {kk : Unit → TProg F i α} {Q : α → sProp 𝕄} :
    iprop(labP d i (labV Lb 12288) ∗ scI d i Lb 12288)
      ⊢ iprop((iprop(labP d i (labV Lb 12288) ∗ scI d i Lb 14336) -∗ WP d i (kk ⟨⟩) Q)
        -∗ WP d i (Scf.Loop.for k0_t7_loop ok (⟨⟩ : Unit) (k0_t7_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32) >>= kk) Q) := by
  have hb := win_bounds i
  have htr : k0_t7_loop.trips = 128 := by decide +kernel
  exact wp_scatLoop hb.1 hb.2.1 hb.2.2.1 hb.2.2.2 (fun _ => rfl) htr (off := fun t => k0_off7 t) (hoff := fun t => k0_off7_inb t) (pv := fun t => k0_pay269 iotaV t)
    (fun t x => by rw [← low, ← hiw]; rfl) (fun t => off16 t.val (htr ▸ t.isLt)) (fun t k => pv_lane 12288 t.val k)

set_option maxRecDepth 65536 in
theorem stage8  {ok : k0_t8_loop.OK} {kk : Unit → TProg F i α} {Q : α → sProp 𝕄} :
    iprop(labP d i (labV Lb 14336) ∗ scI d i Lb 14336)
      ⊢ iprop((iprop(labP d i (labV Lb 14336) ∗ scI d i Lb 16384) -∗ WP d i (kk ⟨⟩) Q)
        -∗ WP d i (Scf.Loop.for k0_t8_loop ok (⟨⟩ : Unit) (k0_t8_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32) >>= kk) Q) := by
  have hb := win_bounds i
  have htr : k0_t8_loop.trips = 128 := by decide +kernel
  exact wp_scatLoop hb.1 hb.2.1 hb.2.2.1 hb.2.2.2 (fun _ => rfl) htr (off := fun t => k0_off8 t) (hoff := fun t => k0_off8_inb t) (pv := fun t => k0_pay275 iotaV t)
    (fun t x => by rw [← low, ← hiw]; rfl) (fun t => off16 t.val (htr ▸ t.isLt)) (fun t k => pv_lane 14336 t.val k)

variable {f : Vec F S256 .i32} {fl : Vec F S2048 .i32} {fc fp : Vec F S8192 .i32} {O : CellTallies nD τ sig (HIx 1)} {W : Waits sig (HIx 1)}

theorem st_cntN {n m : ℕ} {off : Fin 1 → ℕ} {h : ∀ a, off a + S16.size a ≤ S256.size a} {hx} {hm} {k : PUnit.{1} → TProg F i α} {Q : α → sProp 𝕄}
    (hn : off 0 = n) (hnm : n + 16 = m) :
    cntP d i (zUp n f) ⊢ iprop((cntP d i (zUp m f) -∗ WP d i (k ⟨⟩) Q)
      -∗ WP d i (.op (.store cntM (Rect.unit (s := S256) off S16.size h) k0_pay229 Finset.univ hx hm) k) Q) := by
  subst hn hnm
  exact st_cnt

theorem zUp_zero : zUp 0 f = f := by funext x; unfold zUp; rw [if_neg (by omega)]
theorem zUp_all (x) : zUp 256 f x = 0#32 := by unfold zUp; rw [if_pos (show (x 0).val < 256 from (x 0).isLt)]

theorem scI_zero : iprop(cntP d i (zUp 256 f) ∗ clsP d i fc ∗ posP d i fp) ⊢ scI d i Lb 0 := by
  unfold scI scatI
  iintro ⟨Hcnt, Hc, Hp⟩
  iexists _, _, _
  isplitr
  · ipureintro; exact inv_zero (cls := fc) (pos := fp) (zUp_all (F := F) (f := f))
  isplitl [Hcnt]; · iexact Hcnt
  isplitl [Hc]; · iexact Hc
  iexact Hp

set_option maxRecDepth 65536 in
theorem wp_part89 :
    iprop(cntP d i f)
      ⊢ WP d i (k0_part89 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8)
        fun r => iprop(⌜r.1 = nbF (v1w i) ∧ r.2.1 = loF (v1w i) ∧ r.2.2.1 = hiF (v1w i) ∧ r.2.2.2.1 = iotaV ∧ r.2.2.2.2.1 = k0_pay229 ∧ r.2.2.2.2.2.1 = k0_pay230 ∧ r.2.2.2.2.2.2.1 = k0_pay231 (F := F) ∧ r.2.2.2.2.2.2.2 = 1#32⌝
          ∗ cntP d i (zUp 96 f)) := by
  rw [k0_part89_eq_skeleton]
  unfold k0_part89_skel
  simp only [bind_assoc, Prog.lift, Prog.bind_op, Prog.bind_ret, Prog.pure_eq_ret]
  rw [show cntP d i f = cntP d i (zUp 0 f) by rw [zUp_zero]]
  iintro Hcnt
  iapply ld_cnt $$ Hcnt
  iintro Hcnt
  iapply (st_cntN (off := ![0]) (n := 0) (m := 16) rfl rfl) $$ Hcnt
  iintro Hcnt
  iapply ld_cnt $$ Hcnt
  iintro Hcnt
  iapply (st_cntN (off := ![16]) (n := 16) (m := 32) rfl rfl) $$ Hcnt
  iintro Hcnt
  iapply ld_cnt $$ Hcnt
  iintro Hcnt
  iapply (st_cntN (off := ![32]) (n := 32) (m := 48) rfl rfl) $$ Hcnt
  iintro Hcnt
  iapply ld_cnt $$ Hcnt
  iintro Hcnt
  iapply (st_cntN (off := ![48]) (n := 48) (m := 64) rfl rfl) $$ Hcnt
  iintro Hcnt
  iapply ld_cnt $$ Hcnt
  iintro Hcnt
  iapply (st_cntN (off := ![64]) (n := 64) (m := 80) rfl rfl) $$ Hcnt
  iintro Hcnt
  iapply ld_cnt $$ Hcnt
  iintro Hcnt
  iapply (st_cntN (off := ![80]) (n := 80) (m := 96) rfl rfl) $$ Hcnt
  iintro Hcnt
  iapply retWP
  isplitr
  · ipureintro; exact ⟨rfl, rfl, rfl, rfl, rfl, rfl, rfl, v20_eq⟩
  iexact Hcnt

set_option maxRecDepth 65536 in
theorem wp_part90 :
    iprop(□ MW d i O ∗ owW d i O W ∗ rd (lLoc d) Lb ∗ cntP d i (zUp 96 f) ∗ clsP d i fc ∗ posP d i fp ∗ labP d i fl ∗ semVal ((thr d i), .dma cc0_scoped0.sem) 0 ∗ semVal ((thr d i), .dma cc0_scoped1.sem) 0)
      ⊢ WP d i (k0_part90 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay229 k0_pay230 1#32)
        fun r => iprop(⌜r = 0#32⌝
          ∗ owW d i O W ∗ rd (lLoc d) Lb ∗ scI d i Lb 2048 ∗ labP d i (labV Lb 2048) ∗ semVal ((thr d i), .dma cc0_scoped0.sem) 0 ∗ semVal ((thr d i), .dma cc0_scoped1.sem) 0) := by
  rw [k0_part90_eq_skeleton]
  unfold k0_part90_skel
  simp only [bind_assoc, Prog.lift, Prog.bind_op, Prog.bind_ret, Prog.pure_eq_ret]
  iintro ⟨#Hmw, HO, Hr, Hcnt, Hc, Hp, Hl, Hs0, Hs1⟩
  iapply ld_cnt $$ Hcnt
  iintro Hcnt
  iapply (st_cntN (off := ![96]) (n := 96) (m := 112) rfl rfl) $$ Hcnt
  iintro Hcnt
  iapply ld_cnt $$ Hcnt
  iintro Hcnt
  iapply (st_cntN (off := ![112]) (n := 112) (m := 128) rfl rfl) $$ Hcnt
  iintro Hcnt
  iapply ld_cnt $$ Hcnt
  iintro Hcnt
  iapply (st_cntN (off := ![128]) (n := 128) (m := 144) rfl rfl) $$ Hcnt
  iintro Hcnt
  iapply ld_cnt $$ Hcnt
  iintro Hcnt
  iapply (st_cntN (off := ![144]) (n := 144) (m := 160) rfl rfl) $$ Hcnt
  iintro Hcnt
  iapply ld_cnt $$ Hcnt
  iintro Hcnt
  iapply (st_cntN (off := ![160]) (n := 160) (m := 176) rfl rfl) $$ Hcnt
  iintro Hcnt
  iapply ld_cnt $$ Hcnt
  iintro Hcnt
  iapply (st_cntN (off := ![176]) (n := 176) (m := 192) rfl rfl) $$ Hcnt
  iintro Hcnt
  iapply ld_cnt $$ Hcnt
  iintro Hcnt
  iapply (st_cntN (off := ![192]) (n := 192) (m := 208) rfl rfl) $$ Hcnt
  iintro Hcnt
  iapply ld_cnt $$ Hcnt
  iintro Hcnt
  iapply (st_cntN (off := ![208]) (n := 208) (m := 224) rfl rfl) $$ Hcnt
  iintro Hcnt
  iapply ld_cnt $$ Hcnt
  iintro Hcnt
  iapply (st_cntN (off := ![224]) (n := 224) (m := 240) rfl rfl) $$ Hcnt
  iintro Hcnt
  iapply ld_cnt $$ Hcnt
  iintro Hcnt
  iapply (st_cntN (off := ![240]) (n := 240) (m := 256) rfl rfl) $$ Hcnt
  iintro Hcnt
  iapply (issueL (sm := cc0_scoped0.sem) (Lb := Lb) (n := 0) rfl) $$ [Hr Hl Hs0]
  · isplitl [Hr]; · iexact Hr
    isplitl [Hl]; · iexact Hl
    iexact Hs0
  iintro ⟨Hr, HF⟩
  iapply (waitL (sm := cc0_scoped0.sem) (Lb := Lb) (n := 0) (O := O) (W := W)) $$ [HF HO]
  · isplitr; · iexact Hmw
    isplitl [HF]; · iexact HF
    iexact HO
  iintro ⟨Hl, Hs0, HO⟩
  ihave HS := (scI_zero (Lb := Lb)) $$ [Hcnt Hc Hp]
  · isplitl [Hcnt]; · iexact Hcnt
    isplitl [Hc]; · iexact Hc
    iexact Hp
  iapply (stage1 (Lb := Lb)) $$ [Hl HS]
  · isplitl [Hl]; · iexact Hl
    iexact HS
  iintro ⟨Hl, HS⟩
  iapply (issueL (sm := cc0_scoped1.sem) (Lb := Lb) (n := 2048) rfl) $$ [Hr Hl Hs1]
  · isplitl [Hr]; · iexact Hr
    isplitl [Hl]; · iexact Hl
    iexact Hs1
  iintro ⟨Hr, HF⟩
  iapply (waitL (sm := cc0_scoped1.sem) (Lb := Lb) (n := 2048) (O := O) (W := W)) $$ [HF HO]
  · isplitr; · iexact Hmw
    isplitl [HF]; · iexact HF
    iexact HO
  iintro ⟨Hl, Hs1, HO⟩
  iapply retWP
  isplitr
  · ipureintro; rfl
  isplitl [HO]; · iexact HO
  isplitl [Hr]; · iexact Hr
  isplitl [HS]; · iexact HS
  isplitl [Hl]; · iexact Hl
  isplitl [Hs0]; · iexact Hs0
  iexact Hs1

set_option maxRecDepth 65536 in
theorem wp_part91 :
    iprop(□ MW d i O ∗ owW d i O W ∗ rd (lLoc d) Lb ∗ scI d i Lb 2048 ∗ labP d i (labV Lb 2048) ∗ semVal ((thr d i), .dma cc0_scoped2.sem) 0 ∗ semVal ((thr d i), .dma cc0_scoped3.sem) 0 ∗ semVal ((thr d i), .dma cc0_scoped4.sem) 0 ∗ semVal ((thr d i), .dma cc0_scoped5.sem) 0)
      ⊢ WP d i (k0_part91 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32 0#32)
        fun r => iprop(⌜True⌝
          ∗ owW d i O W ∗ rd (lLoc d) Lb ∗ scI d i Lb 10240 ∗ labFL d i cc0_scoped5.sem Lb 10240 ∗ semVal ((thr d i), .dma cc0_scoped2.sem) 0 ∗ semVal ((thr d i), .dma cc0_scoped3.sem) 0 ∗ semVal ((thr d i), .dma cc0_scoped4.sem) 0) := by
  rw [k0_part91_eq_skeleton]
  unfold k0_part91_skel
  simp only [bind_assoc, Prog.lift, Prog.bind_op, Prog.bind_ret, Prog.pure_eq_ret]
  iintro ⟨#Hmw, HO, Hr, HS, Hl, Hs2, Hs3, Hs4, Hs5⟩
  iapply (stage2 (Lb := Lb)) $$ [Hl HS]
  · isplitl [Hl]; · iexact Hl
    iexact HS
  iintro ⟨Hl, HS⟩
  iapply (issueL (sm := cc0_scoped2.sem) (Lb := Lb) (n := 4096) rfl) $$ [Hr Hl Hs2]
  · isplitl [Hr]; · iexact Hr
    isplitl [Hl]; · iexact Hl
    iexact Hs2
  iintro ⟨Hr, HF⟩
  iapply (waitL (sm := cc0_scoped2.sem) (Lb := Lb) (n := 4096) (O := O) (W := W)) $$ [HF HO]
  · isplitr; · iexact Hmw
    isplitl [HF]; · iexact HF
    iexact HO
  iintro ⟨Hl, Hs2, HO⟩
  iapply (stage3 (Lb := Lb)) $$ [Hl HS]
  · isplitl [Hl]; · iexact Hl
    iexact HS
  iintro ⟨Hl, HS⟩
  iapply (issueL (sm := cc0_scoped3.sem) (Lb := Lb) (n := 6144) rfl) $$ [Hr Hl Hs3]
  · isplitl [Hr]; · iexact Hr
    isplitl [Hl]; · iexact Hl
    iexact Hs3
  iintro ⟨Hr, HF⟩
  iapply (waitL (sm := cc0_scoped3.sem) (Lb := Lb) (n := 6144) (O := O) (W := W)) $$ [HF HO]
  · isplitr; · iexact Hmw
    isplitl [HF]; · iexact HF
    iexact HO
  iintro ⟨Hl, Hs3, HO⟩
  iapply (stage4 (Lb := Lb)) $$ [Hl HS]
  · isplitl [Hl]; · iexact Hl
    iexact HS
  iintro ⟨Hl, HS⟩
  iapply (issueL (sm := cc0_scoped4.sem) (Lb := Lb) (n := 8192) rfl) $$ [Hr Hl Hs4]
  · isplitl [Hr]; · iexact Hr
    isplitl [Hl]; · iexact Hl
    iexact Hs4
  iintro ⟨Hr, HF⟩
  iapply (waitL (sm := cc0_scoped4.sem) (Lb := Lb) (n := 8192) (O := O) (W := W)) $$ [HF HO]
  · isplitr; · iexact Hmw
    isplitl [HF]; · iexact HF
    iexact HO
  iintro ⟨Hl, Hs4, HO⟩
  iapply (stage5 (Lb := Lb)) $$ [Hl HS]
  · isplitl [Hl]; · iexact Hl
    iexact HS
  iintro ⟨Hl, HS⟩
  iapply (issueL (sm := cc0_scoped5.sem) (Lb := Lb) (n := 10240) rfl) $$ [Hr Hl Hs5]
  · isplitl [Hr]; · iexact Hr
    isplitl [Hl]; · iexact Hl
    iexact Hs5
  iintro ⟨Hr, HF⟩
  iapply retWP
  isplitr
  · ipureintro; trivial
  isplitl [HO]; · iexact HO
  isplitl [Hr]; · iexact Hr
  isplitl [HS]; · iexact HS
  isplitl [HF]; · iexact HF
  isplitl [Hs2]; · iexact Hs2
  isplitl [Hs3]; · iexact Hs3
  iexact Hs4

set_option maxRecDepth 65536 in
theorem wp_part92 :
    iprop(□ MW d i O ∗ owW d i O W ∗ rd (lLoc d) Lb ∗ scI d i Lb 10240 ∗ labFL d i cc0_scoped5.sem Lb 10240 ∗ semVal ((thr d i), .dma cc0_scoped6.sem) 0 ∗ semVal ((thr d i), .dma cc0_scoped7.sem) 0)
      ⊢ WP d i (k0_part92 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) (hiF (v1w i)) iotaV k0_pay230 1#32)
        fun r => iprop(⌜True⌝
          ∗ owW d i O W ∗ rd (lLoc d) Lb ∗ scI d i Lb 16384 ∗ labP d i (labV Lb 14336) ∗ semVal ((thr d i), .dma cc0_scoped5.sem) 0 ∗ semVal ((thr d i), .dma cc0_scoped6.sem) 0 ∗ semVal ((thr d i), .dma cc0_scoped7.sem) 0) := by
  rw [k0_part92_eq_skeleton]
  unfold k0_part92_skel
  simp only [bind_assoc, Prog.lift, Prog.bind_op, Prog.bind_ret, Prog.pure_eq_ret]
  iintro ⟨#Hmw, HO, Hr, HS, HF, Hs6, Hs7⟩
  iapply (waitL (sm := cc0_scoped5.sem) (Lb := Lb) (n := 10240) (O := O) (W := W)) $$ [HF HO]
  · isplitr; · iexact Hmw
    isplitl [HF]; · iexact HF
    iexact HO
  iintro ⟨Hl, Hs5, HO⟩
  iapply (stage6 (Lb := Lb)) $$ [Hl HS]
  · isplitl [Hl]; · iexact Hl
    iexact HS
  iintro ⟨Hl, HS⟩
  iapply (issueL (sm := cc0_scoped6.sem) (Lb := Lb) (n := 12288) rfl) $$ [Hr Hl Hs6]
  · isplitl [Hr]; · iexact Hr
    isplitl [Hl]; · iexact Hl
    iexact Hs6
  iintro ⟨Hr, HF⟩
  iapply (waitL (sm := cc0_scoped6.sem) (Lb := Lb) (n := 12288) (O := O) (W := W)) $$ [HF HO]
  · isplitr; · iexact Hmw
    isplitl [HF]; · iexact HF
    iexact HO
  iintro ⟨Hl, Hs6, HO⟩
  iapply (stage7 (Lb := Lb)) $$ [Hl HS]
  · isplitl [Hl]; · iexact Hl
    iexact HS
  iintro ⟨Hl, HS⟩
  iapply (issueL (sm := cc0_scoped7.sem) (Lb := Lb) (n := 14336) rfl) $$ [Hr Hl Hs7]
  · isplitl [Hr]; · iexact Hr
    isplitl [Hl]; · iexact Hl
    iexact Hs7
  iintro ⟨Hr, HF⟩
  iapply (waitL (sm := cc0_scoped7.sem) (Lb := Lb) (n := 14336) (O := O) (W := W)) $$ [HF HO]
  · isplitr; · iexact Hmw
    isplitl [HF]; · iexact HF
    iexact HO
  iintro ⟨Hl, Hs7, HO⟩
  iapply (stage8 (Lb := Lb)) $$ [Hl HS]
  · isplitl [Hl]; · iexact Hl
    iexact HS
  iintro ⟨Hl, HS⟩
  iapply retWP
  isplitr
  · ipureintro; trivial
  isplitl [HO]; · iexact HO
  isplitl [Hr]; · iexact Hr
  isplitl [HS]; · iexact HS
  isplitl [Hl]; · iexact Hl
  isplitl [Hs5]; · iexact Hs5
  isplitl [Hs6]; · iexact Hs6
  iexact Hs7

end Cert.Proof.CL

end
-- ==== Proof.Checks.lean ====
/- The checks a trip of the main loop makes, from the counts they are about. -/
module

public import proofs.«01_k».proof.Proof.Phase

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem item_inb {off : Fin 1 → ℕ} {n t : ℕ} (h : off 0 = 32 * n + 16 * (t / 16)) (hn : n < 256) (ht : t < 32) : ∀ a, off a + S16.size a ≤ S8192.size a := by
  intro a
  obtain rfl : a = 0 := Subsingleton.elim _ _
  show off 0 + 16 ≤ 8192
  rw [h]; omega

theorem cell_inb {off : Fin 3 → ℕ} {q t c : ℕ} (h : off = ![q, t, c]) (hq : q < 4) (ht : t < 32) (hc : c ≤ 48) : ∀ a, off a + S1x1x16.size a ≤ S4x32x64.size a := by
  subst h
  intro a; fin_cases a
  · show q + 1 ≤ 4; omega
  · show t + 1 ≤ 32; omega
  · show c + 16 ≤ 64; omega

theorem xrow_inb {off : Fin 2 → ℕ} {t : ℕ} (h : off = ![t, 0]) (ht : t < 32) : ∀ a, off a + S1x64.size a ≤ S32x64.size a := by
  subst h
  intro a; fin_cases a
  · show t + 1 ≤ 32; omega
  · show 0 + 64 ≤ 64; omega

theorem xsrc_inb {v : BitVec 32} (h : v.toNat < 16384) : ∀ a, (![v.toNat, 0] : Fin 2 → ℕ) a + S1x64.size a ≤ S16384x64.size a := by
  intro a; fin_cases a
  · show v.toNat + 1 ≤ 16384; omega
  · show 0 + 64 ≤ 64; omega

theorem col_inb (i : grid0.Coords) {off : Fin 2 → ℕ} {n : ℕ} (h0 : off 0 = 0) (h : off 1 = loN (wid i) + 128 * n) (hn : n < nbN (wid i)) :
    ∀ a, off a + S64x128.size a ≤ S64x1000064.size a := by
  have := lo_bound i
  intro a; fin_cases a
  · show off 0 + 64 ≤ 64; omega
  · show off 1 + 128 ≤ 1000064; omega

theorem cellEq {q t c : ℕ} (ht : t < 32) : (![q, (Scf.iv 0#32 1#32 t).toNat, c] : Fin 3 → ℕ) = ![q, t, c] := by rw [iv_toNat ht]
theorem rowEq {t : ℕ} (ht : t < 32) : (![(Scf.iv 0#32 1#32 t).toNat, 0] : Fin 2 → ℕ) = ![t, 0] := by rw [iv_toNat ht]

section Main

variable {i : grid0.Coords} {v : BitVec 32} {k : ℕ}

theorem t17_lt (t : Fin (k0_t17_loop i).trips) : 4 * t.val + 7 < 256 := by
  have h1 := t.isLt
  have h2 := nT_le i
  have h3 := t17_trips i
  omega

theorem chk29_ok (t : Fin (k0_t17_loop i).trips) (hv : v = BitVec.ofNat 32 k) (hk : k ≤ 32) : k0_chk29 i t v := by
  have ht := t17_lt t
  unfold k0_chk29
  exact ⟨lpA_ok hv hk, lpB_ok hv hk, lpA_ok hv hk,
    fun s => item_inb (n := 4 * t.val + 0) (item_off (jW_eq 0 t.val) (by omega) (ltA hv hk s)) (by omega) (ltA hv hk s),
    fun s => cell_inb (q := 0) (c := 0) (cellEq (ltA hv hk s)) (by decide) (ltA hv hk s) (by decide), fun s => cell_inb (q := 0) (c := 16) (cellEq (ltA hv hk s)) (by decide) (ltA hv hk s) (by decide), fun s => cell_inb (q := 0) (c := 32) (cellEq (ltA hv hk s)) (by decide) (ltA hv hk s) (by decide), fun s => cell_inb (q := 0) (c := 48) (cellEq (ltA hv hk s)) (by decide) (ltA hv hk s) (by decide),
    lpB_ok hv hk, fun s => noB hv hk s, fun s => noB hv hk s, fun s => noB hv hk s, fun s => noB hv hk s, fun s => noB hv hk s⟩

theorem cond6_iff (t : Fin (k0_t17_loop i).trips) (hv : v = BitVec.ofNat 32 k) (hk : k ≤ 32) (hb : 0 < k → 4 * t.val + 0 + 4 < nbN (wid i)) :
    k0_cond6 i t v = 1#1 ↔ 0 < k := by
  have ht := t17_lt t
  exact cBoth_iff i (jW4_eq 0 t.val) (by omega) hv hk hb

theorem cond7_iff (t : Fin (k0_t17_loop i).trips) : k0_cond7 i t = 1#1 ↔ 4 * t.val + 0 + 4 < nbN (wid i) := by
  have ht := t17_lt t
  exact cBlk_iff i (jW4_eq 0 t.val) (by omega)

theorem chk38_ok (t : Fin (k0_t17_loop i).trips) (hv : v = BitVec.ofNat 32 k) (hk : k ≤ 32) (hb : 0 < k → 4 * t.val + 0 + 4 < nbN (wid i)) : k0_chk38 i t v := by
  have ht := t17_lt t
  unfold k0_chk38
  exact fun h => col_inb i rfl (col_off i (jW4_eq 0 t.val) (by omega)) (hb ((cond6_iff t hv hk hb).mp h))

theorem chk39_ok (t : Fin (k0_t17_loop i).trips) (hv : v = BitVec.ofNat 32 k) (hk : k ≤ 32) : k0_chk39 i t v := by
  have ht := t17_lt t
  unfold k0_chk39
  exact ⟨fun _ => lpA_ok hv hk, fun s _ => item_inb (n := 4 * t.val + 0 + 4) (item_off (jW4_eq 0 t.val) (by omega) (ltA hv hk s)) (by omega) (ltA hv hk s),
    fun s _ => xrow_inb (rowEq (ltA hv hk s)) (ltA hv hk s), fun s _ => xrow_inb (rowEq (ltA hv hk s)) (ltA hv hk s),
    fun _ => lpB_ok hv hk, fun s => noB hv hk s, fun s => noB hv hk s, fun s => noB hv hk s⟩

theorem chk40_ok (t : Fin (k0_t17_loop i).trips) (hv : v.toNat < 16384) : k0_chk40 i t v := by
  unfold k0_chk40
  exact fun _ => xsrc_inb hv

theorem chk42_ok (t : Fin (k0_t17_loop i).trips) (hv : v = BitVec.ofNat 32 k) (hk : k ≤ 32) : k0_chk42 i t v := by
  have ht := t17_lt t
  unfold k0_chk42
  exact ⟨lpA_ok hv hk, lpB_ok hv hk, lpA_ok hv hk,
    fun s => item_inb (n := 4 * t.val + 1) (item_off (jW_eq 1 t.val) (by omega) (ltA hv hk s)) (by omega) (ltA hv hk s),
    fun s => cell_inb (q := 1) (c := 0) (cellEq (ltA hv hk s)) (by decide) (ltA hv hk s) (by decide), fun s => cell_inb (q := 1) (c := 16) (cellEq (ltA hv hk s)) (by decide) (ltA hv hk s) (by decide), fun s => cell_inb (q := 1) (c := 32) (cellEq (ltA hv hk s)) (by decide) (ltA hv hk s) (by decide), fun s => cell_inb (q := 1) (c := 48) (cellEq (ltA hv hk s)) (by decide) (ltA hv hk s) (by decide),
    lpB_ok hv hk, fun s => noB hv hk s, fun s => noB hv hk s, fun s => noB hv hk s, fun s => noB hv hk s, fun s => noB hv hk s⟩

theorem cond9_iff (t : Fin (k0_t17_loop i).trips) (hv : v = BitVec.ofNat 32 k) (hk : k ≤ 32) (hb : 0 < k → 4 * t.val + 1 + 4 < nbN (wid i)) :
    k0_cond9 i t v = 1#1 ↔ 0 < k := by
  have ht := t17_lt t
  exact cBoth_iff i (jW4_eq 1 t.val) (by omega) hv hk hb

theorem cond10_iff (t : Fin (k0_t17_loop i).trips) : k0_cond10 i t = 1#1 ↔ 4 * t.val + 1 + 4 < nbN (wid i) := by
  have ht := t17_lt t
  exact cBlk_iff i (jW4_eq 1 t.val) (by omega)

theorem chk51_ok (t : Fin (k0_t17_loop i).trips) (hv : v = BitVec.ofNat 32 k) (hk : k ≤ 32) (hb : 0 < k → 4 * t.val + 1 + 4 < nbN (wid i)) : k0_chk51 i t v := by
  have ht := t17_lt t
  unfold k0_chk51
  exact fun h => col_inb i rfl (col_off i (jW4_eq 1 t.val) (by omega)) (hb ((cond9_iff t hv hk hb).mp h))

theorem chk52_ok (t : Fin (k0_t17_loop i).trips) (hv : v = BitVec.ofNat 32 k) (hk : k ≤ 32) : k0_chk52 i t v := by
  have ht := t17_lt t
  unfold k0_chk52
  exact ⟨fun _ => lpA_ok hv hk, fun s _ => item_inb (n := 4 * t.val + 1 + 4) (item_off (jW4_eq 1 t.val) (by omega) (ltA hv hk s)) (by omega) (ltA hv hk s),
    fun s _ => xrow_inb (rowEq (ltA hv hk s)) (ltA hv hk s), fun s _ => xrow_inb (rowEq (ltA hv hk s)) (ltA hv hk s),
    fun _ => lpB_ok hv hk, fun s => noB hv hk s, fun s => noB hv hk s, fun s => noB hv hk s⟩

theorem chk53_ok (t : Fin (k0_t17_loop i).trips) (hv : v.toNat < 16384) : k0_chk53 i t v := by
  unfold k0_chk53
  exact fun _ => xsrc_inb hv

theorem chk55_ok (t : Fin (k0_t17_loop i).trips) (hv : v = BitVec.ofNat 32 k) (hk : k ≤ 32) : k0_chk55 i t v := by
  have ht := t17_lt t
  unfold k0_chk55
  exact ⟨lpA_ok hv hk, lpB_ok hv hk, lpA_ok hv hk,
    fun s => item_inb (n := 4 * t.val + 2) (item_off (jW_eq 2 t.val) (by omega) (ltA hv hk s)) (by omega) (ltA hv hk s),
    fun s => cell_inb (q := 2) (c := 0) (cellEq (ltA hv hk s)) (by decide) (ltA hv hk s) (by decide), fun s => cell_inb (q := 2) (c := 16) (cellEq (ltA hv hk s)) (by decide) (ltA hv hk s) (by decide), fun s => cell_inb (q := 2) (c := 32) (cellEq (ltA hv hk s)) (by decide) (ltA hv hk s) (by decide), fun s => cell_inb (q := 2) (c := 48) (cellEq (ltA hv hk s)) (by decide) (ltA hv hk s) (by decide),
    lpB_ok hv hk, fun s => noB hv hk s, fun s => noB hv hk s, fun s => noB hv hk s, fun s => noB hv hk s, fun s => noB hv hk s⟩

theorem cond12_iff (t : Fin (k0_t17_loop i).trips) (hv : v = BitVec.ofNat 32 k) (hk : k ≤ 32) (hb : 0 < k → 4 * t.val + 2 + 4 < nbN (wid i)) :
    k0_cond12 i t v = 1#1 ↔ 0 < k := by
  have ht := t17_lt t
  exact cBoth_iff i (jW4_eq 2 t.val) (by omega) hv hk hb

theorem cond13_iff (t : Fin (k0_t17_loop i).trips) : k0_cond13 i t = 1#1 ↔ 4 * t.val + 2 + 4 < nbN (wid i) := by
  have ht := t17_lt t
  exact cBlk_iff i (jW4_eq 2 t.val) (by omega)

theorem chk64_ok (t : Fin (k0_t17_loop i).trips) (hv : v = BitVec.ofNat 32 k) (hk : k ≤ 32) (hb : 0 < k → 4 * t.val + 2 + 4 < nbN (wid i)) : k0_chk64 i t v := by
  have ht := t17_lt t
  unfold k0_chk64
  exact fun h => col_inb i rfl (col_off i (jW4_eq 2 t.val) (by omega)) (hb ((cond12_iff t hv hk hb).mp h))

theorem chk65_ok (t : Fin (k0_t17_loop i).trips) (hv : v = BitVec.ofNat 32 k) (hk : k ≤ 32) : k0_chk65 i t v := by
  have ht := t17_lt t
  unfold k0_chk65
  exact ⟨fun _ => lpA_ok hv hk, fun s _ => item_inb (n := 4 * t.val + 2 + 4) (item_off (jW4_eq 2 t.val) (by omega) (ltA hv hk s)) (by omega) (ltA hv hk s),
    fun s _ => xrow_inb (rowEq (ltA hv hk s)) (ltA hv hk s), fun s _ => xrow_inb (rowEq (ltA hv hk s)) (ltA hv hk s),
    fun _ => lpB_ok hv hk, fun s => noB hv hk s, fun s => noB hv hk s, fun s => noB hv hk s⟩

theorem chk66_ok (t : Fin (k0_t17_loop i).trips) (hv : v.toNat < 16384) : k0_chk66 i t v := by
  unfold k0_chk66
  exact fun _ => xsrc_inb hv

theorem chk68_ok (t : Fin (k0_t17_loop i).trips) (hv : v = BitVec.ofNat 32 k) (hk : k ≤ 32) : k0_chk68 i t v := by
  have ht := t17_lt t
  unfold k0_chk68
  exact ⟨lpA_ok hv hk, lpB_ok hv hk, lpA_ok hv hk,
    fun s => item_inb (n := 4 * t.val + 3) (item_off (jW_eq 3 t.val) (by omega) (ltA hv hk s)) (by omega) (ltA hv hk s),
    fun s => cell_inb (q := 3) (c := 0) (cellEq (ltA hv hk s)) (by decide) (ltA hv hk s) (by decide), fun s => cell_inb (q := 3) (c := 16) (cellEq (ltA hv hk s)) (by decide) (ltA hv hk s) (by decide), fun s => cell_inb (q := 3) (c := 32) (cellEq (ltA hv hk s)) (by decide) (ltA hv hk s) (by decide), fun s => cell_inb (q := 3) (c := 48) (cellEq (ltA hv hk s)) (by decide) (ltA hv hk s) (by decide),
    lpB_ok hv hk, fun s => noB hv hk s, fun s => noB hv hk s, fun s => noB hv hk s, fun s => noB hv hk s, fun s => noB hv hk s⟩

theorem cond15_iff (t : Fin (k0_t17_loop i).trips) (hv : v = BitVec.ofNat 32 k) (hk : k ≤ 32) (hb : 0 < k → 4 * t.val + 3 + 4 < nbN (wid i)) :
    k0_cond15 i t v = 1#1 ↔ 0 < k := by
  have ht := t17_lt t
  exact cBoth_iff i (jW4_eq 3 t.val) (by omega) hv hk hb

theorem cond16_iff (t : Fin (k0_t17_loop i).trips) : k0_cond16 i t = 1#1 ↔ 4 * t.val + 3 + 4 < nbN (wid i) := by
  have ht := t17_lt t
  exact cBlk_iff i (jW4_eq 3 t.val) (by omega)

theorem chk77_ok (t : Fin (k0_t17_loop i).trips) (hv : v = BitVec.ofNat 32 k) (hk : k ≤ 32) (hb : 0 < k → 4 * t.val + 3 + 4 < nbN (wid i)) : k0_chk77 i t v := by
  have ht := t17_lt t
  unfold k0_chk77
  exact fun h => col_inb i rfl (col_off i (jW4_eq 3 t.val) (by omega)) (hb ((cond15_iff t hv hk hb).mp h))

theorem chk78_ok (t : Fin (k0_t17_loop i).trips) (hv : v = BitVec.ofNat 32 k) (hk : k ≤ 32) : k0_chk78 i t v := by
  have ht := t17_lt t
  unfold k0_chk78
  exact ⟨fun _ => lpA_ok hv hk, fun s _ => item_inb (n := 4 * t.val + 3 + 4) (item_off (jW4_eq 3 t.val) (by omega) (ltA hv hk s)) (by omega) (ltA hv hk s),
    fun s _ => xrow_inb (rowEq (ltA hv hk s)) (ltA hv hk s), fun s _ => xrow_inb (rowEq (ltA hv hk s)) (ltA hv hk s),
    fun _ => lpB_ok hv hk, fun s => noB hv hk s, fun s => noB hv hk s, fun s => noB hv hk s⟩

theorem chk79_ok (t : Fin (k0_t17_loop i).trips) (hv : v.toNat < 16384) : k0_chk79 i t v := by
  unfold k0_chk79
  exact fun _ => xsrc_inb hv

end Main

end Cert.Proof.CL

end
-- ==== Proof.ProA.lean ====
/- The rows of the first four blocks issued, as printed. -/
module

public import proofs.«01_k».proof.Proof.Checks

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

theorem chk17_ok {v : BitVec 32} {k : ℕ} (hv : v = BitVec.ofNat 32 k) (hk : k ≤ 32) : k0_chk17 v := by
  unfold k0_chk17
  exact ⟨lpA_ok hv hk, fun s => item_inb (n := 0) (item_off (a := 0#32) rfl (by omega) (ltA hv hk s)) (by omega) (ltA hv hk s),
    fun s => xrow_inb (rowEq (ltA hv hk s)) (ltA hv hk s), fun s => xrow_inb (rowEq (ltA hv hk s)) (ltA hv hk s),
    lpB_ok hv hk, fun s => noB hv hk s, fun s => noB hv hk s, fun s => noB hv hk s⟩

theorem chk18_ok {v : BitVec 32} (hv : v.toNat < 16384) : k0_chk18 v := by
  unfold k0_chk18
  exact xsrc_inb hv

theorem chk20_ok {v : BitVec 32} {k : ℕ} (hv : v = BitVec.ofNat 32 k) (hk : k ≤ 32) : k0_chk20 v := by
  unfold k0_chk20
  exact ⟨lpA_ok hv hk, fun s => item_inb (n := 1) (item_off (a := 1#32) rfl (by omega) (ltA hv hk s)) (by omega) (ltA hv hk s),
    fun s => xrow_inb (rowEq (ltA hv hk s)) (ltA hv hk s), fun s => xrow_inb (rowEq (ltA hv hk s)) (ltA hv hk s),
    lpB_ok hv hk, fun s => noB hv hk s, fun s => noB hv hk s, fun s => noB hv hk s⟩

theorem chk21_ok {v : BitVec 32} (hv : v.toNat < 16384) : k0_chk21 v := by
  unfold k0_chk21
  exact xsrc_inb hv

theorem chk23_ok {v : BitVec 32} {k : ℕ} (hv : v = BitVec.ofNat 32 k) (hk : k ≤ 32) : k0_chk23 v := by
  unfold k0_chk23
  exact ⟨lpA_ok hv hk, fun s => item_inb (n := 2) (item_off (a := 2#32) rfl (by omega) (ltA hv hk s)) (by omega) (ltA hv hk s),
    fun s => xrow_inb (rowEq (ltA hv hk s)) (ltA hv hk s), fun s => xrow_inb (rowEq (ltA hv hk s)) (ltA hv hk s),
    lpB_ok hv hk, fun s => noB hv hk s, fun s => noB hv hk s, fun s => noB hv hk s⟩

theorem chk24_ok {v : BitVec 32} (hv : v.toNat < 16384) : k0_chk24 v := by
  unfold k0_chk24
  exact xsrc_inb hv

theorem chk26_ok {v : BitVec 32} {k : ℕ} (hv : v = BitVec.ofNat 32 k) (hk : k ≤ 32) : k0_chk26 v := by
  unfold k0_chk26
  exact ⟨lpA_ok hv hk, fun s => item_inb (n := 3) (item_off (a := 3#32) rfl (by omega) (ltA hv hk s)) (by omega) (ltA hv hk s),
    fun s => xrow_inb (rowEq (ltA hv hk s)) (ltA hv hk s), fun s => xrow_inb (rowEq (ltA hv hk s)) (ltA hv hk s),
    lpB_ok hv hk, fun s => noB hv hk s, fun s => noB hv hk s, fun s => noB hv hk s⟩

theorem chk27_ok {v : BitVec 32} (hv : v.toNat < 16384) : k0_chk27 v := by
  unfold k0_chk27
  exact xsrc_inb hv

set_option maxRecDepth 65536 in
theorem issueP0 (H : Tab (nbN (wid i)) (loN (wid i)) k p w cnt cls pos) {v : BitVec 32} (hv : v = BitVec.ofNat 32 (k (4 * 0 + 0)))
     {v114 : Vec F S16 .i32} {v134 : IVec S16 32} {h : k0_chk17 v} {ok : (k0_t9_loop v).OK} {kk : Unit → TProg F i α} {Q : α → sProp 𝕄} :
    iprop(rd (xLoc d) X ∗ posP d i pos ∗ xBatch d i 0 cc0_scratch11.sem X (p (4 * 0 + 0)) (k (4 * 0 + 0)) 0 0 ∗ xRest (F := F) d i 0 0)
      ⊢ iprop((iprop(rd (xLoc d) X ∗ posP d i pos ∗ xBatch d i 0 cc0_scratch11.sem X (p (4 * 0 + 0)) (k (4 * 0 + 0)) (k (4 * 0 + 0)) 0 ∗ xRest (F := F) d i 0 (k (4 * 0 + 0))) -∗ WP d i (kk ⟨⟩) Q)
        -∗ WP d i (Scf.Loop.for (k0_t9_loop v) ok (⟨⟩ : Unit) (k0_t9_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v114 v134 v h) >>= kk) Q) := by
  have htr := lpA_trips hv (H.k32 _)
  refine wp_issueXLoop (q := 0) (h := inb_S4x32x64_S1x32x64_0_0_0) (P := k0_chk18) (dec := k0_chk18.dec) (hP := fun v1 h1 => k0_off14_inb v1 h1) (j := 4 * 0 + 0)
    (offp := fun s => k0_off12 v s) (hoffp := fun s => k0_off12_inb v h s) (r := fun s => md16 (Scf.iv 0#32 1#32 s.val))
    (offr := fun s => k0_off15 v s) (hoffr := fun s => k0_off15_inb v h s)
    (fun _ h => chk18_ok h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (a := 0#32) rfl (by omega) (ltA hv (H.k32 _) s)

set_option maxRecDepth 65536 in
theorem issueP1 (H : Tab (nbN (wid i)) (loN (wid i)) k p w cnt cls pos) {v : BitVec 32} (hv : v = BitVec.ofNat 32 (k (4 * 0 + 1)))
     {v248 : BitVec 32} {h : k0_chk20 v} {ok : (k0_t11_loop v).OK} {kk : Unit → TProg F i α} {Q : α → sProp 𝕄} :
    iprop(rd (xLoc d) X ∗ posP d i pos ∗ xBatch d i 1 cc0_scratch12.sem X (p (4 * 0 + 1)) (k (4 * 0 + 1)) 0 0 ∗ xRest (F := F) d i 1 0)
      ⊢ iprop((iprop(rd (xLoc d) X ∗ posP d i pos ∗ xBatch d i 1 cc0_scratch12.sem X (p (4 * 0 + 1)) (k (4 * 0 + 1)) (k (4 * 0 + 1)) 0 ∗ xRest (F := F) d i 1 (k (4 * 0 + 1))) -∗ WP d i (kk ⟨⟩) Q)
        -∗ WP d i (Scf.Loop.for (k0_t11_loop v) ok (⟨⟩ : Unit) (k0_t11_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v h 1#32 0#32 v248 1#32) >>= kk) Q) := by
  have htr := lpA_trips hv (H.k32 _)
  refine wp_issueXLoop (q := 1) (h := inb_S4x32x64_S1x32x64_1_0_0) (P := k0_chk21) (dec := k0_chk21.dec) (hP := fun v1 h1 => k0_off25_inb v1 h1) (j := 4 * 0 + 1)
    (offp := fun s => k0_off23 v s) (hoffp := fun s => k0_off23_inb v h s) (r := fun s => md16 (Scf.iv 0#32 1#32 s.val))
    (offr := fun s => k0_off26 v s) (hoffr := fun s => k0_off26_inb v h s)
    (fun _ h => chk21_ok h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (a := 1#32) rfl (by omega) (ltA hv (H.k32 _) s)

set_option maxRecDepth 65536 in
theorem issueP2 (H : Tab (nbN (wid i)) (loN (wid i)) k p w cnt cls pos) {v : BitVec 32} (hv : v = BitVec.ofNat 32 (k (4 * 0 + 2)))
     {v318 : Vec F S16 .i32} {c2_i32_183 : BitVec 32} {c16_i32_184 : BitVec 32} {v319 : BitVec 32} {v324 : BitVec 32} {v325 : BitVec 1} {h : k0_chk23 v} {ok : (k0_t13_loop v).OK} {kk : Unit → TProg F i α} {Q : α → sProp 𝕄} :
    iprop(rd (xLoc d) X ∗ posP d i pos ∗ xBatch d i 2 cc0_scratch13.sem X (p (4 * 0 + 2)) (k (4 * 0 + 2)) 0 0 ∗ xRest (F := F) d i 2 0)
      ⊢ iprop((iprop(rd (xLoc d) X ∗ posP d i pos ∗ xBatch d i 2 cc0_scratch13.sem X (p (4 * 0 + 2)) (k (4 * 0 + 2)) (k (4 * 0 + 2)) 0 ∗ xRest (F := F) d i 2 (k (4 * 0 + 2))) -∗ WP d i (kk ⟨⟩) Q)
        -∗ WP d i (Scf.Loop.for (k0_t13_loop v) ok (⟨⟩ : Unit) (k0_t13_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v318 c2_i32_183 c16_i32_184 v319 v324 v325 v h) >>= kk) Q) := by
  have htr := lpA_trips hv (H.k32 _)
  refine wp_issueXLoop (q := 2) (h := inb_S4x32x64_S1x32x64_2_0_0) (P := k0_chk24) (dec := k0_chk24.dec) (hP := fun v1 h1 => k0_off36_inb v1 h1) (j := 4 * 0 + 2)
    (offp := fun s => k0_off34 v s) (hoffp := fun s => k0_off34_inb v h s) (r := fun s => md16 (Scf.iv 0#32 1#32 s.val))
    (offr := fun s => k0_off37 v s) (hoffr := fun s => k0_off37_inb v h s)
    (fun _ h => chk24_ok h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (a := 2#32) rfl (by omega) (ltA hv (H.k32 _) s)

set_option maxRecDepth 65536 in
theorem issueP3 (H : Tab (nbN (wid i)) (loN (wid i)) k p w cnt cls pos) {v : BitVec 32} (hv : v = BitVec.ofNat 32 (k (4 * 0 + 3)))
     {v9 : BitVec 32} {v10 : BitVec 32} {v17 : FVec F S16 .f32} {v420 : Vec F S16 .i32} {v441 : IVec S16 1} {v442 : IVec S16 32} {h : k0_chk26 v} {ok : (k0_t15_loop v).OK} {kk : Unit → TProg F i α} {Q : α → sProp 𝕄} :
    iprop(rd (xLoc d) X ∗ posP d i pos ∗ xBatch d i 3 cc0_scratch14.sem X (p (4 * 0 + 3)) (k (4 * 0 + 3)) 0 0 ∗ xRest (F := F) d i 3 0)
      ⊢ iprop((iprop(rd (xLoc d) X ∗ posP d i pos ∗ xBatch d i 3 cc0_scratch14.sem X (p (4 * 0 + 3)) (k (4 * 0 + 3)) (k (4 * 0 + 3)) 0 ∗ xRest (F := F) d i 3 (k (4 * 0 + 3))) -∗ WP d i (kk ⟨⟩) Q)
        -∗ WP d i (Scf.Loop.for (k0_t15_loop v) ok (⟨⟩ : Unit) (k0_t15_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV v17 v420 v441 v442 v h) >>= kk) Q) := by
  have htr := lpA_trips hv (H.k32 _)
  refine wp_issueXLoop (q := 3) (h := inb_S4x32x64_S1x32x64_3_0_0) (P := k0_chk27) (dec := k0_chk27.dec) (hP := fun v1 h1 => k0_off47_inb v1 h1) (j := 4 * 0 + 3)
    (offp := fun s => k0_off45 v s) (hoffp := fun s => k0_off45_inb v h s) (r := fun s => md16 (Scf.iv 0#32 1#32 s.val))
    (offr := fun s => k0_off48 v s) (hoffr := fun s => k0_off48_inb v h s)
    (fun _ h => chk27_ok h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (a := 3#32) rfl (by omega) (ltA hv (H.k32 _) s)

end Trip

end Cert.Proof.CL

end
-- ==== Proof.ProB.lean ====
/- The first four blocks issued, part by part. -/
module

public import proofs.«01_k».proof.Proof.ProA

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

set_option maxRecDepth 65536 in
theorem wp_part93 (H : Tab (nbN (wid i)) (loN (wid i)) k p w cnt cls pos) (c0_i32_45 : BitVec 32) (c16_i32 : BitVec 32) (v45 : BitVec 32) (v50 : BitVec 32) (v52 : BitVec 32) (v53 : BitVec 1)
     :
    iprop(cntP d i cnt)
      ⊢ WP d i (k0_part93 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV c0_i32_45 c16_i32 v45 v50 v52 v53)
        fun r => iprop(⌜r.2 = 1#1 ↔ 0 < k (4 * 0 + 0)⌝
          ∗ cntP d i cnt) := by
  have hlo := lo_bound i
  have hnb := nb_bounds i
  rw [k0_part93_eq_skeleton]
  unfold k0_part93_skel
  simp only [bind_assoc, Prog.lift, Prog.bind_op, Prog.bind_ret, Prog.pure_eq_ret]
  iintro Hcnt
  iapply ld_cnt $$ Hcnt
  iintro Hcnt
  have hv : (extractAt ![15] (k0_pay281 (F := F) iotaV (ld1 cnt k0_off9 k0_off9_inb)) inpos_S16_p15 : BitVec 32) = BitVec.ofNat 32 (k (4 * 0 + 0)) := pick_cnt H (ho := k0_off9_inb) (a := 0#32) rfl (by omega) (cnt_off (a := 0#32) rfl (by omega))
  iapply retWP
  isplitr
  · ipureintro; exact cPos_iff hv (H.k32 _)
  iexact Hcnt

set_option maxRecDepth 65536 in
theorem wp_part94 (H : Tab (nbN (wid i)) (loN (wid i)) k p w cnt cls pos) (c0_i32_66 : BitVec 32) (v94 : BitVec 1)
    (hc : v94 = 1#1 ↔ 0 < k (4 * 0 + 0)) :
    iprop(rd (tLoc d) T ∗ tblFree (F := F) d i 0 cc0_scratch7.sem ∗ cntP d i cnt)
      ⊢ WP d i (k0_part94 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) c0_i32_66 v94)
        fun r => iprop(⌜(extractAt ![15] (k0_pay283 (F := F) iotaV r.1 r.2) inpos_S16_p15 : BitVec 32) = BitVec.ofNat 32 (k (4 * 0 + 0))⌝
          ∗ rd (tLoc d) T ∗ tblSlot d i 0 cc0_scratch7.sem T (loN (wid i) + 128 * (4 * 0 + 0)) (k (4 * 0 + 0)) ∗ cntP d i cnt) := by
  have hlo := lo_bound i
  have hnb := nb_bounds i
  rw [k0_part94_eq_skeleton]
  unfold k0_part94_skel
  simp only [bind_assoc, Prog.lift, Prog.bind_op, Prog.bind_ret, Prog.pure_eq_ret]
  iintro ⟨HrT, HT0, Hcnt⟩
  iapply (condIssueI (q := 0) (h := inb_S4x64x128_S1x64x128_0_0_0) (gs := cc0_scratch7.sem) (T := T) (k := k (4 * 0 + 0)) (col := loN (wid i) + 128 * (4 * 0 + 0))
    hc rfl (col_off i (a := 0#32) rfl (by omega))) $$ [HrT HT0]
  · isplitl [HrT]; · iexact HrT
    iexact HT0
  iintro ⟨HrT, HT0⟩
  iapply ld_cnt $$ Hcnt
  iintro Hcnt
  iapply retWP
  isplitr
  · ipureintro; exact pick_cnt H (ho := k0_off11_inb) (a := 0#32) rfl (by omega) (cnt_off (a := 0#32) rfl (by omega))
  isplitl [HrT]; · iexact HrT
  isplitl [HT0]; · iexact HT0
  iexact Hcnt

set_option maxRecDepth 65536 in
theorem wp_part95 (H : Tab (nbN (wid i)) (loN (wid i)) k p w cnt cls pos) (v114 : Vec F S16 .i32) (v134 : IVec S16 32)
    (hv : (extractAt ![15] (k0_pay283 (F := F) iotaV v114 v134) inpos_S16_p15 : BitVec 32) = BitVec.ofNat 32 (k (4 * 0 + 0))) :
    iprop(rd (xLoc d) X ∗ posP d i pos ∗ semVal ((thr d i), .dma cc0_scratch11.sem) 0 ∗ xRest (F := F) d i 0 0 ∗ cntP d i cnt)
      ⊢ WP d i (k0_part95 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v114 v134)
        fun r => iprop(⌜(extractAt ![15] (k0_pay286 (F := F) iotaV r.1 r.2.1 r.2.2.1 r.2.2.2.1 r.2.2.2.2.1 r.2.2.2.2.2) inpos_S16_p15 : BitVec 32) = BitVec.ofNat 32 (k (4 * 0 + 1))⌝
          ∗ rd (xLoc d) X ∗ posP d i pos ∗ xBatch d i 0 cc0_scratch11.sem X (p (4 * 0 + 0)) (k (4 * 0 + 0)) (k (4 * 0 + 0)) 0 ∗ xRest (F := F) d i 0 (k (4 * 0 + 0)) ∗ cntP d i cnt) := by
  have hlo := lo_bound i
  have hnb := nb_bounds i
  rw [k0_part95_eq_skeleton]
  unfold k0_part95_skel
  simp only [bind_assoc, Prog.lift, Prog.bind_op, Prog.bind_ret, Prog.pure_eq_ret]
  iintro ⟨HrX, Hpos, Hx0, HR0, Hcnt⟩
  iapply (assumeWP (chk17_ok hv (H.k32 _)))
  imod (xBatch_new (q := 0) (X := X) (p := p (4 * 0 + 0)) (k := k (4 * 0 + 0))) $$ Hx0 with HB
  iapply (issueP0 H hv (X := X)) $$ [HrX Hpos HB HR0]
  · isplitl [HrX]; · iexact HrX
    isplitl [Hpos]; · iexact Hpos
    isplitl [HB]; · iexact HB
    iexact HR0
  iintro ⟨HrX, Hpos, HX0, HR0⟩
  iapply (for0 (lpB_trips hv (H.k32 _)))
  iapply ld_cnt $$ Hcnt
  iintro Hcnt
  iapply retWP
  isplitr
  · ipureintro; exact pick_cnt H (ho := k0_off20_inb) (a := 1#32) rfl (by omega) (cnt_off (a := 1#32) rfl (by omega))
  isplitl [HrX]; · iexact HrX
  isplitl [Hpos]; · iexact Hpos
  isplitl [HX0]; · iexact HX0
  isplitl [HR0]; · iexact HR0
  iexact Hcnt

set_option maxRecDepth 65536 in
theorem wp_part96 (H : Tab (nbN (wid i)) (loN (wid i)) k p w cnt cls pos) (v166 : Vec F S16 .i32) (c1_i32_105 : BitVec 32) (c16_i32_106 : BitVec 32) (v167 : BitVec 32) (v169 : BitVec 32) (c0_i32_108 : BitVec 32)
    (hv : (extractAt ![15] (k0_pay286 (F := F) iotaV v166 c1_i32_105 c16_i32_106 v167 v169 c0_i32_108) inpos_S16_p15 : BitVec 32) = BitVec.ofNat 32 (k (4 * 0 + 1))) :
    iprop(rd (tLoc d) T ∗ tblFree (F := F) d i 1 cc0_scratch8.sem ∗ cntP d i cnt)
      ⊢ WP d i (k0_part96 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) iotaV v166 c1_i32_105 c16_i32_106 v167 v169 c0_i32_108)
        fun r => iprop(⌜True⌝
          ∗ rd (tLoc d) T ∗ tblSlot d i 1 cc0_scratch8.sem T (loN (wid i) + 128 * (4 * 0 + 1)) (k (4 * 0 + 1)) ∗ cntP d i cnt) := by
  have hlo := lo_bound i
  have hnb := nb_bounds i
  rw [k0_part96_eq_skeleton]
  unfold k0_part96_skel
  simp only [bind_assoc, Prog.lift, Prog.bind_op, Prog.bind_ret, Prog.pure_eq_ret]
  iintro ⟨HrT, HT1, Hcnt⟩
  have hc : (Scalar.cmpi .ne (Scalar.extui (Scalar.cmpi .sgt (Scalar.minsi (extractAt ![15] (k0_pay286 (F := F) iotaV v166 c1_i32_105 c16_i32_106 v167 v169 c0_i32_108) inpos_S16_p15 : BitVec 32) 32#32) 0#32) : BitVec 32) 0#32 = 1#1) = (0 < k (4 * 0 + 1)) :=
    propext (cPos_iff hv (H.k32 _))
  simp only [hc]
  iapply iteI
  clear hc
  iintro %c' %hc
  iapply (condIssueI (q := 1) (h := inb_S4x64x128_S1x64x128_1_0_0) (gs := cc0_scratch8.sem) (T := T) (k := k (4 * 0 + 1)) (col := loN (wid i) + 128 * (4 * 0 + 1))
    hc rfl (col_off i (a := 1#32) rfl (by omega))) $$ [HrT HT1]
  · isplitl [HrT]; · iexact HrT
    iexact HT1
  iintro ⟨HrT, HT1⟩
  iapply retWP
  isplitr
  · ipureintro; trivial
  isplitl [HrT]; · iexact HrT
  isplitl [HT1]; · iexact HT1
  iexact Hcnt

set_option maxRecDepth 65536 in
theorem wp_part97 (H : Tab (nbN (wid i)) (loN (wid i)) k p w cnt cls pos) (v197 : BitVec 32) (v208 : BitVec 1) (v209 : BitVec 32) (c0_i32_127 : BitVec 32)
     :
    iprop(cntP d i cnt)
      ⊢ WP d i (k0_part97 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v197 v208 v209 c0_i32_127)
        fun r => iprop(⌜r.1 = BitVec.ofNat 32 (k (4 * 0 + 1)) ∧ r.2.2.1 = 1#32 ∧ r.2.2.2.1 = 0#32 ∧ r.2.2.2.2.2 = 1#32⌝
          ∗ cntP d i cnt) := by
  have hlo := lo_bound i
  have hnb := nb_bounds i
  rw [k0_part97_eq_skeleton]
  unfold k0_part97_skel
  simp only [bind_assoc, Prog.lift, Prog.bind_op, Prog.bind_ret, Prog.pure_eq_ret]
  iintro Hcnt
  iapply ld_cnt $$ Hcnt
  iintro Hcnt
  have hv : (extractAt ![15] (k0_pay287 (F := F) iotaV (ld1 cnt k0_off22 k0_off22_inb)) inpos_S16_p15 : BitVec 32) = BitVec.ofNat 32 (k (4 * 0 + 1)) := pick_cnt H (ho := k0_off22_inb) (a := 1#32) rfl (by omega) (cnt_off (a := 1#32) rfl (by omega))
  iapply (assumeWP (chk20_ok hv (H.k32 _)))
  iapply retWP
  isplitr
  · ipureintro; exact ⟨hv, rfl, rfl, rfl⟩
  iexact Hcnt

set_option maxRecDepth 65536 in
theorem wp_part98 (H : Tab (nbN (wid i)) (loN (wid i)) k p w cnt cls pos) (v242 : BitVec 32) (k0_hw20 : k0_chk20 v242) (v248 : BitVec 32)
    (hv : v242 = BitVec.ofNat 32 (k (4 * 0 + 1))) :
    iprop(rd (xLoc d) X ∗ posP d i pos ∗ semVal ((thr d i), .dma cc0_scratch12.sem) 0 ∗ xRest (F := F) d i 1 0 ∗ cntP d i cnt)
      ⊢ WP d i (k0_part98 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v242 k0_hw20 1#32 0#32 v248 1#32)
        fun r => iprop(⌜(extractAt ![15] (k0_pay290 (F := F) iotaV r.1 r.2.1 r.2.2) inpos_S16_p15 : BitVec 32) = BitVec.ofNat 32 (k (4 * 0 + 2))⌝
          ∗ rd (xLoc d) X ∗ posP d i pos ∗ xBatch d i 1 cc0_scratch12.sem X (p (4 * 0 + 1)) (k (4 * 0 + 1)) (k (4 * 0 + 1)) 0 ∗ xRest (F := F) d i 1 (k (4 * 0 + 1)) ∗ cntP d i cnt) := by
  have hlo := lo_bound i
  have hnb := nb_bounds i
  rw [k0_part98_eq_skeleton]
  unfold k0_part98_skel
  simp only [bind_assoc, Prog.lift, Prog.bind_op, Prog.bind_ret, Prog.pure_eq_ret]
  iintro ⟨HrX, Hpos, Hx1, HR1, Hcnt⟩
  imod (xBatch_new (q := 1) (X := X) (p := p (4 * 0 + 1)) (k := k (4 * 0 + 1))) $$ Hx1 with HB
  iapply (issueP1 H hv (X := X)) $$ [HrX Hpos HB HR1]
  · isplitl [HrX]; · iexact HrX
    isplitl [Hpos]; · iexact Hpos
    isplitl [HB]; · iexact HB
    iexact HR1
  iintro ⟨HrX, Hpos, HX1, HR1⟩
  iapply (for0 (lpB_trips hv (H.k32 _)))
  iapply ld_cnt $$ Hcnt
  iintro Hcnt
  iapply retWP
  isplitr
  · ipureintro; exact pick_cnt H (ho := k0_off31_inb) (a := 2#32) rfl (by omega) (cnt_off (a := 2#32) rfl (by omega))
  isplitl [HrX]; · iexact HrX
  isplitl [Hpos]; · iexact Hpos
  isplitl [HX1]; · iexact HX1
  isplitl [HR1]; · iexact HR1
  iexact Hcnt

set_option maxRecDepth 65536 in
theorem wp_part99 (H : Tab (nbN (wid i)) (loN (wid i)) k p w cnt cls pos) (v268 : Vec F S16 .i32) (v286 : BitVec 32) (c2_i32_167 : BitVec 32)
    (hv : (extractAt ![15] (k0_pay290 (F := F) iotaV v268 v286 c2_i32_167) inpos_S16_p15 : BitVec 32) = BitVec.ofNat 32 (k (4 * 0 + 2))) :
    iprop(rd (tLoc d) T ∗ tblFree (F := F) d i 2 cc0_scratch9.sem ∗ cntP d i cnt)
      ⊢ WP d i (k0_part99 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) iotaV v268 v286 c2_i32_167)
        fun r => iprop(⌜(extractAt ![15] (k0_pay291 (F := F) iotaV r.1 r.2.1 r.2.2.1 r.2.2.2.1 r.2.2.2.2.1 r.2.2.2.2.2) inpos_S16_p15 : BitVec 32) = BitVec.ofNat 32 (k (4 * 0 + 2))⌝
          ∗ rd (tLoc d) T ∗ tblSlot d i 2 cc0_scratch9.sem T (loN (wid i) + 128 * (4 * 0 + 2)) (k (4 * 0 + 2)) ∗ cntP d i cnt) := by
  have hlo := lo_bound i
  have hnb := nb_bounds i
  rw [k0_part99_eq_skeleton]
  unfold k0_part99_skel
  simp only [bind_assoc, Prog.lift, Prog.bind_op, Prog.bind_ret, Prog.pure_eq_ret]
  iintro ⟨HrT, HT2, Hcnt⟩
  have hc : (Scalar.cmpi .ne (Scalar.extui (Scalar.cmpi .sgt (Scalar.minsi (extractAt ![15] (k0_pay290 (F := F) iotaV v268 v286 c2_i32_167) inpos_S16_p15 : BitVec 32) 32#32) 0#32) : BitVec 32) 0#32 = 1#1) = (0 < k (4 * 0 + 2)) :=
    propext (cPos_iff hv (H.k32 _))
  simp only [hc]
  iapply iteI
  clear hc
  iintro %c' %hc
  iapply (condIssueI (q := 2) (h := inb_S4x64x128_S1x64x128_2_0_0) (gs := cc0_scratch9.sem) (T := T) (k := k (4 * 0 + 2)) (col := loN (wid i) + 128 * (4 * 0 + 2))
    hc rfl (col_off i (a := 2#32) rfl (by omega))) $$ [HrT HT2]
  · isplitl [HrT]; · iexact HrT
    iexact HT2
  iintro ⟨HrT, HT2⟩
  iapply ld_cnt $$ Hcnt
  iintro Hcnt
  iapply retWP
  isplitr
  · ipureintro; exact pick_cnt H (ho := k0_off33_inb) (a := 2#32) rfl (by omega) (cnt_off (a := 2#32) rfl (by omega))
  isplitl [HrT]; · iexact HrT
  isplitl [HT2]; · iexact HT2
  iexact Hcnt

set_option maxRecDepth 65536 in
theorem wp_part100 (H : Tab (nbN (wid i)) (loN (wid i)) k p w cnt cls pos) (v318 : Vec F S16 .i32) (c2_i32_183 : BitVec 32) (c16_i32_184 : BitVec 32) (v319 : BitVec 32) (v324 : BitVec 32) (v325 : BitVec 1)
    (hv : (extractAt ![15] (k0_pay291 (F := F) iotaV v318 c2_i32_183 c16_i32_184 v319 v324 v325) inpos_S16_p15 : BitVec 32) = BitVec.ofNat 32 (k (4 * 0 + 2))) :
    iprop(rd (xLoc d) X ∗ posP d i pos ∗ semVal ((thr d i), .dma cc0_scratch13.sem) 0 ∗ xRest (F := F) d i 2 0)
      ⊢ WP d i (k0_part100 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV v318 c2_i32_183 c16_i32_184 v319 v324 v325)
        fun r => iprop(⌜True⌝
          ∗ rd (xLoc d) X ∗ posP d i pos ∗ xBatch d i 2 cc0_scratch13.sem X (p (4 * 0 + 2)) (k (4 * 0 + 2)) (k (4 * 0 + 2)) 0 ∗ xRest (F := F) d i 2 (k (4 * 0 + 2))) := by
  have hlo := lo_bound i
  have hnb := nb_bounds i
  rw [k0_part100_eq_skeleton]
  unfold k0_part100_skel
  simp only [bind_assoc, Prog.lift, Prog.bind_op, Prog.bind_ret, Prog.pure_eq_ret]
  iintro ⟨HrX, Hpos, Hx2, HR2⟩
  iapply (assumeWP (chk23_ok hv (H.k32 _)))
  imod (xBatch_new (q := 2) (X := X) (p := p (4 * 0 + 2)) (k := k (4 * 0 + 2))) $$ Hx2 with HB
  iapply (issueP2 H hv (X := X)) $$ [HrX Hpos HB HR2]
  · isplitl [HrX]; · iexact HrX
    isplitl [Hpos]; · iexact Hpos
    isplitl [HB]; · iexact HB
    iexact HR2
  iintro ⟨HrX, Hpos, HX2, HR2⟩
  iapply (for0 (lpB_trips hv (H.k32 _)))
  iapply retWP
  isplitr
  · ipureintro; trivial
  isplitl [HrX]; · iexact HrX
  isplitl [Hpos]; · iexact Hpos
  isplitl [HX2]; · iexact HX2
  iexact HR2

set_option maxRecDepth 65536 in
theorem wp_part101 (H : Tab (nbN (wid i)) (loN (wid i)) k p w cnt cls pos) (c3_i32 : BitVec 32) (c16_i32_202 : BitVec 32) (v351 : BitVec 32) (v362 : BitVec 1)
     :
    iprop(rd (tLoc d) T ∗ tblFree (F := F) d i 3 cc0_scratch10.sem ∗ cntP d i cnt)
      ⊢ WP d i (k0_part101 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (loF (v1w i)) iotaV c3_i32 c16_i32_202 v351 v362)
        fun r => iprop(⌜True⌝
          ∗ rd (tLoc d) T ∗ tblSlot d i 3 cc0_scratch10.sem T (loN (wid i) + 128 * (4 * 0 + 3)) (k (4 * 0 + 3)) ∗ cntP d i cnt) := by
  have hlo := lo_bound i
  have hnb := nb_bounds i
  rw [k0_part101_eq_skeleton]
  unfold k0_part101_skel
  simp only [bind_assoc, Prog.lift, Prog.bind_op, Prog.bind_ret, Prog.pure_eq_ret]
  iintro ⟨HrT, HT3, Hcnt⟩
  iapply ld_cnt $$ Hcnt
  iintro Hcnt
  have hv : (extractAt ![15] (k0_pay294 (F := F) iotaV (ld1 cnt k0_off42 k0_off42_inb)) inpos_S16_p15 : BitVec 32) = BitVec.ofNat 32 (k (4 * 0 + 3)) := pick_cnt H (ho := k0_off42_inb) (a := 3#32) rfl (by omega) (cnt_off (a := 3#32) rfl (by omega))
  have hc : (Scalar.cmpi .ne (Scalar.extui (Scalar.cmpi .sgt (Scalar.minsi (extractAt ![15] (k0_pay294 (F := F) iotaV (ld1 cnt k0_off42 k0_off42_inb)) inpos_S16_p15 : BitVec 32) 32#32) 0#32) : BitVec 32) 0#32 = 1#1) = (0 < k (4 * 0 + 3)) :=
    propext (cPos_iff hv (H.k32 _))
  simp only [hc]
  iapply iteI
  clear hc
  iintro %c' %hc
  iapply (condIssueI (q := 3) (h := inb_S4x64x128_S1x64x128_3_0_0) (gs := cc0_scratch10.sem) (T := T) (k := k (4 * 0 + 3)) (col := loN (wid i) + 128 * (4 * 0 + 3))
    hc rfl (col_off i (a := 3#32) rfl (by omega))) $$ [HrT HT3]
  · isplitl [HrT]; · iexact HrT
    iexact HT3
  iintro ⟨HrT, HT3⟩
  iapply retWP
  isplitr
  · ipureintro; trivial
  isplitl [HrT]; · iexact HrT
  isplitl [HT3]; · iexact HT3
  iexact Hcnt

set_option maxRecDepth 65536 in
theorem wp_part102 (H : Tab (nbN (wid i)) (loN (wid i)) k p w cnt cls pos) (c3_i32_226 : BitVec 32) (c16_i32_227 : BitVec 32)
     :
    iprop(cntP d i cnt)
      ⊢ WP d i (k0_part102 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV c3_i32_226 c16_i32_227)
        fun r => iprop(⌜(extractAt ![15] (k0_pay297 (F := F) r.1 r.2.1 r.2.2) inpos_S16_p15 : BitVec 32) = BitVec.ofNat 32 (k (4 * 0 + 3))⌝
          ∗ cntP d i cnt) := by
  have hlo := lo_bound i
  have hnb := nb_bounds i
  rw [k0_part102_eq_skeleton]
  unfold k0_part102_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off44_inb) (a := 3#32) rfl (by omega) (cnt_off (a := 3#32) rfl (by omega))
  iexact Hcnt

end Trip

end Cert.Proof.CL

end
-- ==== Proof.Steps.lean ====
/- The main loop's inner loops, as printed: a block's items computed, and the rows of the block four later issued. -/
module

public import proofs.«01_k».proof.Proof.Checks

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

set_option maxRecDepth 65536 in
theorem comp0 (H : Tab (nbN (wid i)) (loN (wid i)) k p w cnt cls pos) {t : Fin (k0_t17_loop i).trips} {v : BitVec 32} (hv : v = BitVec.ofNat 32 (k (4 * t.val + 0)))
     {v9 : BitVec 32} {v10 : BitVec 32} {arg22 : FVec F S16 .f32} {arg23 : FVec F S16 .f32} {arg24 : FVec F S16 .f32} {arg25 : FVec F S16 .f32} {v484 : BitVec 32} {v504 : Vec F S16 .i32} {v523 : BitVec 32} {v543 : BitVec 32} {h : k0_chk29 i t v} (hv' : v543 = BitVec.ofNat 32 (loN (wid i) + 128 * (4 * t.val + 0)))
    {ok : (k0_t20_loop v).OK} {a : Quad F} {kk : Quad F → TProg F i α} {Q : α → sProp 𝕄} :
    iprop(clsP d i cls ∗ tblGot d i 0 cc0_scratch7.sem T (loN (wid i) + 128 * (4 * t.val + 0)) (k (4 * t.val + 0)) ∗ xRows d i 0 X (p (4 * t.val + 0)) (k (4 * t.val + 0)))
      ⊢ iprop((iprop(clsP d i cls ∗ tblFree (F := F) d i 0 cc0_scratch7.sem ∗ xRows d i 0 X (p (4 * t.val + 0)) (k (4 * t.val + 0)))
          -∗ WP d i (kk (foldC X T (p (4 * t.val + 0)) (w (4 * t.val + 0)) a (k (4 * t.val + 0)))) Q)
        -∗ WP d i (Scf.Loop.for (k0_t20_loop v) ok a (k0_t20_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t arg22 arg23 arg24 arg25 v484 v504 v523 v h v543) >>= kk) Q) := by
  have ht := t17_lt t
  have hlo := lo_bound i
  have hnb := nb_bounds i
  have htr := lpA_trips hv (H.k32 _)
  refine computeGot (q := 0) (h := inb_S4x64x128_S1x64x128_0_0_0) (j := 4 * t.val + 0) (offc := fun s => k0_off54 i t v s) (hoc := fun s => k0_off54_inb i t v h s) (r := fun s => md16 (Scf.iv 0#32 1#32 s.val))
    (dec := fun r c => k0_chk30.dec c r) (o0 := fun s => k0_off55 v s) (o1 := fun s => k0_off56 v s) (o2 := fun s => k0_off57 v s) (o3 := fun s => k0_off58 v s)
    (ho0 := fun s => k0_off55_inb i t v h s) (ho1 := fun s => k0_off56_inb i t v h s) (ho2 := fun s => k0_off57_inb i t v h s) (ho3 := fun s => k0_off58_inb i t v h s)
    htr ?_ hv' ?_ ?_ ?_ ?_ ?_ ?_ (H.cls _) (H.win _) (by omega)
  · exact fun _ _ => rfl
  · exact fun s => md_iv (ltA hv (H.k32 _) s)
  · exact fun s => item_off (jW_eq 0 t.val) (by omega) (ltA hv (H.k32 _) s)
  all_goals exact fun s => cellEq (ltA hv (H.k32 _) s)

set_option maxRecDepth 65536 in
theorem issueX0 (H : Tab (nbN (wid i)) (loN (wid i)) k p w cnt cls pos) {t : Fin (k0_t17_loop i).trips} {v : BitVec 32} (hv : v = BitVec.ofNat 32 (k (4 * t.val + 0 + 4)))
     {v9 : BitVec 32} {v10 : BitVec 32} {arg21 : BitVec 32} {v484 : BitVec 32} {v552 : BitVec 1} {v599 : BitVec 32} {k0_hw38 : k0_chk38 i t v599} {v601 : BitVec 1} {v987 : BitVec 32} {hh : k0_cond7 i t = 1#1} {h : k0_chk39 i t v} {ok : (k0_t22_loop v).OK} {kk : Unit → TProg F i α} {Q : α → sProp 𝕄} :
    iprop(rd (xLoc d) X ∗ posP d i pos ∗ xBatch d i 0 cc0_scratch11.sem X (p (4 * t.val + 0 + 4)) (k (4 * t.val + 0 + 4)) 0 0 ∗ xRest (F := F) d i 0 0)
      ⊢ iprop((iprop(rd (xLoc d) X ∗ posP d i pos ∗ xBatch d i 0 cc0_scratch11.sem X (p (4 * t.val + 0 + 4)) (k (4 * t.val + 0 + 4)) (k (4 * t.val + 0 + 4)) 0 ∗ xRest (F := F) d i 0 (k (4 * t.val + 0 + 4))) -∗ WP d i (kk ⟨⟩) Q)
        -∗ WP d i (Scf.Loop.for (k0_t22_loop v) ok (⟨⟩ : Unit) (k0_t22_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t arg21 v484 v552 v599 k0_hw38 v601 hh v987 v h) >>= kk) Q) := by
  have ht := t17_lt t
  have htr := lpA_trips hv (H.k32 _)
  refine wp_issueXLoop (q := 0) (h := inb_S4x32x64_S1x32x64_0_0_0) (P := k0_chk40 i t) (dec := k0_chk40.dec i t) (hP := fun v1 h1 => k0_off69_inb i t v1 h1 hh) (j := 4 * t.val + 0 + 4)
    (offp := fun s => k0_off67 i t v s) (hoffp := fun s => k0_off67_inb i t v h s hh) (r := fun s => md16 (Scf.iv 0#32 1#32 s.val))
    (offr := fun s => k0_off70 v s) (hoffr := fun s => k0_off70_inb i t v h s hh)
    (fun _ h => chk40_ok t h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (jW4_eq 0 t.val) (by omega) (ltA hv (H.k32 _) s)

set_option maxRecDepth 65536 in
theorem comp1 (H : Tab (nbN (wid i)) (loN (wid i)) k p w cnt cls pos) {t : Fin (k0_t17_loop i).trips} {v : BitVec 32} (hv : v = BitVec.ofNat 32 (k (4 * t.val + 1)))
     {v9 : BitVec 32} {v10 : BitVec 32} {v550_0 : FVec F S16 .f32} {v550_1 : FVec F S16 .f32} {v550_2 : FVec F S16 .f32} {v550_3 : FVec F S16 .f32} {v610 : BitVec 32} {v630 : Vec F S16 .i32} {c16_i32_336 : BitVec 32} {v631 : BitVec 32} {v636 : BitVec 32} {v641 : BitVec 32} {v543 : BitVec 32} {h : k0_chk42 i t v} (hv' : v543 = BitVec.ofNat 32 (loN (wid i) + 128 * (4 * t.val + 1)))
    {ok : (k0_t26_loop v).OK} {a : Quad F} {kk : Quad F → TProg F i α} {Q : α → sProp 𝕄} :
    iprop(clsP d i cls ∗ tblGot d i 1 cc0_scratch8.sem T (loN (wid i) + 128 * (4 * t.val + 1)) (k (4 * t.val + 1)) ∗ xRows d i 1 X (p (4 * t.val + 1)) (k (4 * t.val + 1)))
      ⊢ iprop((iprop(clsP d i cls ∗ tblFree (F := F) d i 1 cc0_scratch8.sem ∗ xRows d i 1 X (p (4 * t.val + 1)) (k (4 * t.val + 1)))
          -∗ WP d i (kk (foldC X T (p (4 * t.val + 1)) (w (4 * t.val + 1)) a (k (4 * t.val + 1)))) Q)
        -∗ WP d i (Scf.Loop.for (k0_t26_loop v) ok a (k0_t26_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t v550_0 v550_1 v550_2 v550_3 v610 v630 c16_i32_336 v631 v636 v641 v h v543) >>= kk) Q) := by
  have ht := t17_lt t
  have hlo := lo_bound i
  have hnb := nb_bounds i
  have htr := lpA_trips hv (H.k32 _)
  refine computeGot (q := 1) (h := inb_S4x64x128_S1x64x128_1_0_0) (j := 4 * t.val + 1) (offc := fun s => k0_off76 i t v s) (hoc := fun s => k0_off76_inb i t v h s) (r := fun s => md16 (Scf.iv 0#32 1#32 s.val))
    (dec := fun r c => k0_chk43.dec c r) (o0 := fun s => k0_off77 v s) (o1 := fun s => k0_off78 v s) (o2 := fun s => k0_off79 v s) (o3 := fun s => k0_off80 v s)
    (ho0 := fun s => k0_off77_inb i t v h s) (ho1 := fun s => k0_off78_inb i t v h s) (ho2 := fun s => k0_off79_inb i t v h s) (ho3 := fun s => k0_off80_inb i t v h s)
    htr ?_ hv' ?_ ?_ ?_ ?_ ?_ ?_ (H.cls _) (H.win _) (by omega)
  · exact fun _ _ => rfl
  · exact fun s => md_iv (ltA hv (H.k32 _) s)
  · exact fun s => item_off (jW_eq 1 t.val) (by omega) (ltA hv (H.k32 _) s)
  all_goals exact fun s => cellEq (ltA hv (H.k32 _) s)

set_option maxRecDepth 65536 in
theorem issueX1 (H : Tab (nbN (wid i)) (loN (wid i)) k p w cnt cls pos) {t : Fin (k0_t17_loop i).trips} {v : BitVec 32} (hv : v = BitVec.ofNat 32 (k (4 * t.val + 1 + 4)))
     {v9 : BitVec 32} {v10 : BitVec 32} {arg21 : BitVec 32} {v610 : BitVec 32} {v678 : BitVec 1} {v699 : Vec F S16 .i32} {v720 : IVec S16 1} {c0_i32_377 : BitVec 32} {v987 : BitVec 32} {hh : k0_cond10 i t = 1#1} {h : k0_chk52 i t v} {ok : (k0_t28_loop v).OK} {kk : Unit → TProg F i α} {Q : α → sProp 𝕄} :
    iprop(rd (xLoc d) X ∗ posP d i pos ∗ xBatch d i 1 cc0_scratch12.sem X (p (4 * t.val + 1 + 4)) (k (4 * t.val + 1 + 4)) 0 0 ∗ xRest (F := F) d i 1 0)
      ⊢ iprop((iprop(rd (xLoc d) X ∗ posP d i pos ∗ xBatch d i 1 cc0_scratch12.sem X (p (4 * t.val + 1 + 4)) (k (4 * t.val + 1 + 4)) (k (4 * t.val + 1 + 4)) 0 ∗ xRest (F := F) d i 1 (k (4 * t.val + 1 + 4))) -∗ WP d i (kk ⟨⟩) Q)
        -∗ WP d i (Scf.Loop.for (k0_t28_loop v) ok (⟨⟩ : Unit) (k0_t28_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t arg21 v610 v678 v699 v720 c0_i32_377 hh v987 v h) >>= kk) Q) := by
  have ht := t17_lt t
  have htr := lpA_trips hv (H.k32 _)
  refine wp_issueXLoop (q := 1) (h := inb_S4x32x64_S1x32x64_1_0_0) (P := k0_chk53 i t) (dec := k0_chk53.dec i t) (hP := fun v1 h1 => k0_off91_inb i t v1 h1 hh) (j := 4 * t.val + 1 + 4)
    (offp := fun s => k0_off89 i t v s) (hoffp := fun s => k0_off89_inb i t v h s hh) (r := fun s => md16 (Scf.iv 0#32 1#32 s.val))
    (offr := fun s => k0_off92 v s) (hoffr := fun s => k0_off92_inb i t v h s hh)
    (fun _ h => chk53_ok t h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (jW4_eq 1 t.val) (by omega) (ltA hv (H.k32 _) s)

set_option maxRecDepth 65536 in
theorem comp2 (H : Tab (nbN (wid i)) (loN (wid i)) k p w cnt cls pos) {t : Fin (k0_t17_loop i).trips} {v : BitVec 32} (hv : v = BitVec.ofNat 32 (k (4 * t.val + 2)))
     {v9 : BitVec 32} {v676_0 : FVec F S16 .f32} {v676_1 : FVec F S16 .f32} {v676_2 : FVec F S16 .f32} {v676_3 : FVec F S16 .f32} {v736 : BitVec 32} {v796 : BitVec 32} {v543 : BitVec 32} {h : k0_chk55 i t v} (hv' : v543 = BitVec.ofNat 32 (loN (wid i) + 128 * (4 * t.val + 2)))
    {ok : (k0_t32_loop v).OK} {a : Quad F} {kk : Quad F → TProg F i α} {Q : α → sProp 𝕄} :
    iprop(clsP d i cls ∗ tblGot d i 2 cc0_scratch9.sem T (loN (wid i) + 128 * (4 * t.val + 2)) (k (4 * t.val + 2)) ∗ xRows d i 2 X (p (4 * t.val + 2)) (k (4 * t.val + 2)))
      ⊢ iprop((iprop(clsP d i cls ∗ tblFree (F := F) d i 2 cc0_scratch9.sem ∗ xRows d i 2 X (p (4 * t.val + 2)) (k (4 * t.val + 2)))
          -∗ WP d i (kk (foldC X T (p (4 * t.val + 2)) (w (4 * t.val + 2)) a (k (4 * t.val + 2)))) Q)
        -∗ WP d i (Scf.Loop.for (k0_t32_loop v) ok a (k0_t32_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 iotaV t v676_0 v676_1 v676_2 v676_3 v736 v h v543 0#32 v796) >>= kk) Q) := by
  have ht := t17_lt t
  have hlo := lo_bound i
  have hnb := nb_bounds i
  have htr := lpA_trips hv (H.k32 _)
  refine computeGot (q := 2) (h := inb_S4x64x128_S1x64x128_2_0_0) (j := 4 * t.val + 2) (offc := fun s => k0_off98 i t v s) (hoc := fun s => k0_off98_inb i t v h s) (r := fun s => md16 (Scf.iv 0#32 1#32 s.val))
    (dec := fun r c => k0_chk56.dec c r) (o0 := fun s => k0_off99 v s) (o1 := fun s => k0_off100 v s) (o2 := fun s => k0_off101 v s) (o3 := fun s => k0_off102 v s)
    (ho0 := fun s => k0_off99_inb i t v h s) (ho1 := fun s => k0_off100_inb i t v h s) (ho2 := fun s => k0_off101_inb i t v h s) (ho3 := fun s => k0_off102_inb i t v h s)
    htr ?_ hv' ?_ ?_ ?_ ?_ ?_ ?_ (H.cls _) (H.win _) (by omega)
  · exact fun _ _ => rfl
  · exact fun s => md_iv (ltA hv (H.k32 _) s)
  · exact fun s => item_off (jW_eq 2 t.val) (by omega) (ltA hv (H.k32 _) s)
  all_goals exact fun s => cellEq (ltA hv (H.k32 _) s)

set_option maxRecDepth 65536 in
theorem issueX2 (H : Tab (nbN (wid i)) (loN (wid i)) k p w cnt cls pos) {t : Fin (k0_t17_loop i).trips} {v : BitVec 32} (hv : v = BitVec.ofNat 32 (k (4 * t.val + 2 + 4)))
     {v9 : BitVec 32} {v10 : BitVec 32} {arg21 : BitVec 32} {v736 : BitVec 32} {v804 : BitVec 1} {v805 : BitVec 32} {v825 : Vec F S16 .i32} {v826 : BitVec 32} {v837 : BitVec 1} {v838 : BitVec 32} {c0_i32_432 : BitVec 32} {v987 : BitVec 32} {hh : k0_cond13 i t = 1#1} {h : k0_chk65 i t v} {ok : (k0_t34_loop v).OK} {kk : Unit → TProg F i α} {Q : α → sProp 𝕄} :
    iprop(rd (xLoc d) X ∗ posP d i pos ∗ xBatch d i 2 cc0_scratch13.sem X (p (4 * t.val + 2 + 4)) (k (4 * t.val + 2 + 4)) 0 0 ∗ xRest (F := F) d i 2 0)
      ⊢ iprop((iprop(rd (xLoc d) X ∗ posP d i pos ∗ xBatch d i 2 cc0_scratch13.sem X (p (4 * t.val + 2 + 4)) (k (4 * t.val + 2 + 4)) (k (4 * t.val + 2 + 4)) 0 ∗ xRest (F := F) d i 2 (k (4 * t.val + 2 + 4))) -∗ WP d i (kk ⟨⟩) Q)
        -∗ WP d i (Scf.Loop.for (k0_t34_loop v) ok (⟨⟩ : Unit) (k0_t34_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t arg21 v736 v804 v805 v825 v826 v837 v838 c0_i32_432 hh v987 v h) >>= kk) Q) := by
  have ht := t17_lt t
  have htr := lpA_trips hv (H.k32 _)
  refine wp_issueXLoop (q := 2) (h := inb_S4x32x64_S1x32x64_2_0_0) (P := k0_chk66 i t) (dec := k0_chk66.dec i t) (hP := fun v1 h1 => k0_off113_inb i t v1 h1 hh) (j := 4 * t.val + 2 + 4)
    (offp := fun s => k0_off111 i t v s) (hoffp := fun s => k0_off111_inb i t v h s hh) (r := fun s => md16 (Scf.iv 0#32 1#32 s.val))
    (offr := fun s => k0_off114 v s) (hoffr := fun s => k0_off114_inb i t v h s hh)
    (fun _ h => chk66_ok t h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (jW4_eq 2 t.val) (by omega) (ltA hv (H.k32 _) s)

set_option maxRecDepth 65536 in
theorem comp3 (H : Tab (nbN (wid i)) (loN (wid i)) k p w cnt cls pos) {t : Fin (k0_t17_loop i).trips} {v : BitVec 32} (hv : v = BitVec.ofNat 32 (k (4 * t.val + 3)))
     {v9 : BitVec 32} {v10 : BitVec 32} {v802_0 : FVec F S16 .f32} {v802_1 : FVec F S16 .f32} {v802_2 : FVec F S16 .f32} {v802_3 : FVec F S16 .f32} {v862 : BitVec 32} {v909 : BitVec 32} {c0_i32_466 : BitVec 32} {v918 : BitVec 32} {v543 : BitVec 32} {h : k0_chk68 i t v} (hv' : v543 = BitVec.ofNat 32 (loN (wid i) + 128 * (4 * t.val + 3)))
    {ok : (k0_t38_loop v).OK} {a : Quad F} {kk : Quad F → TProg F i α} {Q : α → sProp 𝕄} :
    iprop(clsP d i cls ∗ tblGot d i 3 cc0_scratch10.sem T (loN (wid i) + 128 * (4 * t.val + 3)) (k (4 * t.val + 3)) ∗ xRows d i 3 X (p (4 * t.val + 3)) (k (4 * t.val + 3)))
      ⊢ iprop((iprop(clsP d i cls ∗ tblFree (F := F) d i 3 cc0_scratch10.sem ∗ xRows d i 3 X (p (4 * t.val + 3)) (k (4 * t.val + 3)))
          -∗ WP d i (kk (foldC X T (p (4 * t.val + 3)) (w (4 * t.val + 3)) a (k (4 * t.val + 3)))) Q)
        -∗ WP d i (Scf.Loop.for (k0_t38_loop v) ok a (k0_t38_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV t v802_0 v802_1 v802_2 v802_3 v862 v h v909 c0_i32_466 v918 v543) >>= kk) Q) := by
  have ht := t17_lt t
  have hlo := lo_bound i
  have hnb := nb_bounds i
  have htr := lpA_trips hv (H.k32 _)
  refine computeGot (q := 3) (h := inb_S4x64x128_S1x64x128_3_0_0) (j := 4 * t.val + 3) (offc := fun s => k0_off120 i t v s) (hoc := fun s => k0_off120_inb i t v h s) (r := fun s => md16 (Scf.iv 0#32 1#32 s.val))
    (dec := fun r c => k0_chk69.dec c r) (o0 := fun s => k0_off121 v s) (o1 := fun s => k0_off122 v s) (o2 := fun s => k0_off123 v s) (o3 := fun s => k0_off124 v s)
    (ho0 := fun s => k0_off121_inb i t v h s) (ho1 := fun s => k0_off122_inb i t v h s) (ho2 := fun s => k0_off123_inb i t v h s) (ho3 := fun s => k0_off124_inb i t v h s)
    htr ?_ hv' ?_ ?_ ?_ ?_ ?_ ?_ (H.cls _) (H.win _) (by omega)
  · exact fun _ _ => rfl
  · exact fun s => md_iv (ltA hv (H.k32 _) s)
  · exact fun s => item_off (jW_eq 3 t.val) (by omega) (ltA hv (H.k32 _) s)
  all_goals exact fun s => cellEq (ltA hv (H.k32 _) s)

set_option maxRecDepth 65536 in
theorem issueX3 (H : Tab (nbN (wid i)) (loN (wid i)) k p w cnt cls pos) {t : Fin (k0_t17_loop i).trips} {v : BitVec 32} (hv : v = BitVec.ofNat 32 (k (4 * t.val + 3 + 4)))
     {v9 : BitVec 32} {v10 : BitVec 32} {v17 : FVec F S16 .f32} {v420 : Vec F S16 .i32} {v441 : IVec S16 1} {v442 : IVec S16 32} {v987 : BitVec 32} {hh : k0_cond16 i t = 1#1} {h : k0_chk78 i t v} {ok : (k0_t40_loop v).OK} {kk : Unit → TProg F i α} {Q : α → sProp 𝕄} :
    iprop(rd (xLoc d) X ∗ posP d i pos ∗ xBatch d i 3 cc0_scratch14.sem X (p (4 * t.val + 3 + 4)) (k (4 * t.val + 3 + 4)) 0 0 ∗ xRest (F := F) d i 3 0)
      ⊢ iprop((iprop(rd (xLoc d) X ∗ posP d i pos ∗ xBatch d i 3 cc0_scratch14.sem X (p (4 * t.val + 3 + 4)) (k (4 * t.val + 3 + 4)) (k (4 * t.val + 3 + 4)) 0 ∗ xRest (F := F) d i 3 (k (4 * t.val + 3 + 4))) -∗ WP d i (kk ⟨⟩) Q)
        -∗ WP d i (Scf.Loop.for (k0_t40_loop v) ok (⟨⟩ : Unit) (k0_t40_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 v9 v10 iotaV v17 v420 v441 v442 t hh v987 v h) >>= kk) Q) := by
  have ht := t17_lt t
  have htr := lpA_trips hv (H.k32 _)
  refine wp_issueXLoop (q := 3) (h := inb_S4x32x64_S1x32x64_3_0_0) (P := k0_chk79 i t) (dec := k0_chk79.dec i t) (hP := fun v1 h1 => k0_off135_inb i t v1 h1 hh) (j := 4 * t.val + 3 + 4)
    (offp := fun s => k0_off133 i t v s) (hoffp := fun s => k0_off133_inb i t v h s hh) (r := fun s => md16 (Scf.iv 0#32 1#32 s.val))
    (offr := fun s => k0_off136 v s) (hoffr := fun s => k0_off136_inb i t v h s hh)
    (fun _ h => chk79_ok t h) (H.k32 _) htr ?_ ?_ ?_ ?_ ?_ (H.pos _) (H.plt _)
  · exact fun _ _ => rfl
  · exact fun s => md_iv (ltA hv (H.k32 _) s)
  · exact fun s => iv_toNat (ltA hv (H.k32 _) s)
  · exact fun _ => rfl
  · exact fun s => item_off (jW4_eq 3 t.val) (by omega) (ltA hv (H.k32 _) s)

end Trip

end Cert.Proof.CL

end
-- ==== Proof.TripA.lean ====
/- The main loop's trip, part by part: a block's rows awaited and folded into the accumulators. -/
module

public import proofs.«01_k».proof.Proof.Steps

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

set_option maxRecDepth 65536 in
theorem wp_part37 (H : Tab (nbN (wid i)) (loN (wid i)) k p w cnt cls pos) (t : Fin (k0_t17_loop i).trips)
     :
    iprop(cntP d i cnt)
      ⊢ WP d i (k0_part37 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 0#32 1#32 t)
        fun r => iprop(⌜r.1 = Scf.iv 0#32 1#32 t.val ∧ r.2.1 = jW 0#32 t.val ∧ (extractAt ![15] (k0_pay78 (F := F) iotaV r.2.2.1 r.2.2.2) inpos_S16_p15 : BitVec 32) = BitVec.ofNat 32 (k (4 * t.val + 0))⌝
          ∗ cntP d i cnt) := by
  have ht := t17_lt t
  have hlo := lo_bound i
  have hnb := nb_bounds i
  rw [k0_part37_eq_skeleton]
  unfold k0_part37_skel
  simp only [bind_assoc, Prog.lift, Prog.bind_op, Prog.bind_ret, Prog.pure_eq_ret]
  iintro Hcnt
  iapply ld_cnt $$ Hcnt
  iintro Hcnt
  iapply retWP
  isplitr
  · ipureintro; exact ⟨rfl, rfl, pick_cnt H (ho := k0_off53_inb i t) (jW_eq 0 t.val) (by omega) (cnt_off (jW_eq 0 t.val) (by omega))⟩
  iexact Hcnt

set_option maxRecDepth 65536 in
theorem wp_part38 (H : Tab (nbN (wid i)) (loN (wid i)) k p w cnt cls pos) (t : Fin (k0_t17_loop i).trips) (arg22 : FVec F S16 .f32) (arg23 : FVec F S16 .f32) (arg24 : FVec F S16 .f32) (arg25 : FVec F S16 .f32) (v504 : Vec F S16 .i32) (v523 : BitVec 32)
    (hv : (extractAt ![15] (k0_pay78 (F := F) iotaV v504 v523) inpos_S16_p15 : BitVec 32) = BitVec.ofNat 32 (k (4 * t.val + 0))) :
    iprop(□ MW d i O ∗ clsP d i cls ∗ owW d i O W ∗ tblSlot d i 0 cc0_scratch7.sem T (loN (wid i) + 128 * (4 * t.val + 0)) (k (4 * t.val + 0)) ∗ xBatch d i 0 cc0_scratch11.sem X (p (4 * t.val + 0)) (k (4 * t.val + 0)) (k (4 * t.val + 0)) 0 ∗ xRest (F := F) d i 0 (k (4 * t.val + 0)))
      ⊢ WP d i (k0_part38 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t arg22 arg23 arg24 arg25 (jW 0#32 t.val) v504 v523)
        fun r => iprop(⌜(r.1, r.2.1, r.2.2.1, r.2.2.2.1) = foldC X T (p (4 * t.val + 0)) (w (4 * t.val + 0)) (arg22, arg23, arg24, arg25) (k (4 * t.val + 0)) ∧ r.2.2.2.2.2.1 = jW4 0#32 t.val⌝
          ∗ clsP d i cls ∗ owW d i O W ∗ tblFree (F := F) d i 0 cc0_scratch7.sem ∗ semVal ((thr d i), .dma cc0_scratch11.sem) 0 ∗ xRest (F := F) d i 0 0) := by
  have ht := t17_lt t
  have hlo := lo_bound i
  have hnb := nb_bounds i
  rw [k0_part38_eq_skeleton]
  unfold k0_part38_skel
  simp only [bind_assoc, Prog.lift, Prog.bind_op, Prog.bind_ret, Prog.pure_eq_ret]
  iintro ⟨#Hmw, Hcls, HO, HT0, HX0, HR0⟩
  iapply (assumeWP (chk29_ok t hv (H.k32 _)))
  iapply (condWaitT (q := 0) (h := inb_S4x64x128_S1x64x128_0_0_0) (gs := cc0_scratch7.sem) (T := T) (col := loN (wid i) + 128 * (4 * t.val + 0)) (k := k (4 * t.val + 0)) (O := O) (W := W)
    (cBoth_iff i (jW_eq 0 t.val) (by omega) hv (H.k32 _) (H.knb _))) $$ [HT0 HO]
  · isplitr; · iexact Hmw
    isplitl [HT0]; · iexact HT0
    iexact HO
  iintro ⟨HT0, HO⟩
  iapply (wp_waitXLoop (q := 0) (h := inb_S4x32x64_S1x32x64_0_0_0) (xs := cc0_scratch11.sem) (X := X) (p := p (4 * t.val + 0)) (k := k (4 * t.val + 0)) (O := O) (W := W)
    (lpA_trips hv (H.k32 _)) (fun _ _ => rfl)) $$ [HX0 HO]
  · isplitr; · iexact Hmw
    isplitl [HX0]; · iexact HX0
    iexact HO
  iintro ⟨HX0, Hx0, HO⟩
  iapply (for0 (lpB_trips hv (H.k32 _)))
  iapply (comp0 H hv (col_w i (jW_eq 0 t.val)) (X := X) (T := T)) $$ [Hcls HT0 HX0]
  · isplitl [Hcls]; · iexact Hcls
    isplitl [HT0]; · iexact HT0
    iexact HX0
  iintro ⟨Hcls, HT0, HX0⟩
  iapply (for0 (lpB_trips hv (H.k32 _)))
  ihave HR0 := (xJoin (H.k32 _)) $$ [HX0 HR0]
  · isplitl [HX0]; · iexact HX0
    iexact HR0
  iapply retWP
  isplitr
  · ipureintro; exact ⟨rfl, rfl⟩
  isplitl [Hcls]; · iexact Hcls
  isplitl [HO]; · iexact HO
  isplitl [HT0]; · iexact HT0
  isplitl [Hx0]; · iexact Hx0
  iexact HR0

set_option maxRecDepth 65536 in
theorem wp_part39 (H : Tab (nbN (wid i)) (loN (wid i)) k p w cnt cls pos) (t : Fin (k0_t17_loop i).trips) (c16_i32_303 : BitVec 32) (v554 : BitVec 32) (v559 : BitVec 32)
     :
    iprop(cntP d i cnt)
      ⊢ WP d i (k0_part39 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW4 0#32 t.val) c16_i32_303 v554 v559)
        fun r => iprop(⌜r.1 = BitVec.ofNat 32 (k (4 * t.val + 0 + 4))⌝
          ∗ cntP d i cnt) := by
  have ht := t17_lt t
  have hlo := lo_bound i
  have hnb := nb_bounds i
  rw [k0_part39_eq_skeleton]
  unfold k0_part39_skel
  simp only [bind_assoc, Prog.lift, Prog.bind_op, Prog.bind_ret, Prog.pure_eq_ret]
  iintro Hcnt
  iapply ld_cnt $$ Hcnt
  iintro Hcnt
  have hv : (extractAt ![15] (k0_pay85 (F := F) iotaV (jW4 0#32 t.val) (ld1 cnt (k0_off64 i t) (k0_off64_inb i t))) inpos_S16_p15 : BitVec 32) = BitVec.ofNat 32 (k (4 * t.val + 0 + 4)) := pick_cnt H (ho := k0_off64_inb i t) (jW4_eq 0 t.val) (by omega) (cnt_off (jW4_eq 0 t.val) (by omega))
  iapply (assumeWP (chk38_ok t hv (H.k32 _) (H.knb _)))
  iapply retWP
  isplitr
  · ipureintro; exact hv
  iexact Hcnt

set_option maxRecDepth 65536 in
theorem wp_part41 (H : Tab (nbN (wid i)) (loN (wid i)) k p w cnt cls pos) (t : Fin (k0_t17_loop i).trips) (v550_0 : FVec F S16 .f32) (v550_1 : FVec F S16 .f32) (v550_2 : FVec F S16 .f32) (v550_3 : FVec F S16 .f32) (v630 : Vec F S16 .i32) (c16_i32_336 : BitVec 32) (v631 : BitVec 32) (v636 : BitVec 32) (v641 : BitVec 32)
    (hv : (extractAt ![15] (k0_pay89 (F := F) iotaV (jW 1#32 t.val) v630 c16_i32_336 v631 v636 v641) inpos_S16_p15 : BitVec 32) = BitVec.ofNat 32 (k (4 * t.val + 1))) :
    iprop(□ MW d i O ∗ clsP d i cls ∗ owW d i O W ∗ tblSlot d i 1 cc0_scratch8.sem T (loN (wid i) + 128 * (4 * t.val + 1)) (k (4 * t.val + 1)) ∗ xBatch d i 1 cc0_scratch12.sem X (p (4 * t.val + 1)) (k (4 * t.val + 1)) (k (4 * t.val + 1)) 0 ∗ xRest (F := F) d i 1 (k (4 * t.val + 1)))
      ⊢ WP d i (k0_part41 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t v550_0 v550_1 v550_2 v550_3 (jW 1#32 t.val) v630 c16_i32_336 v631 v636 v641)
        fun r => iprop(⌜(r.1, r.2.1, r.2.2.1, r.2.2.2.1) = foldC X T (p (4 * t.val + 1)) (w (4 * t.val + 1)) (v550_0, v550_1, v550_2, v550_3) (k (4 * t.val + 1))⌝
          ∗ clsP d i cls ∗ owW d i O W ∗ tblFree (F := F) d i 1 cc0_scratch8.sem ∗ semVal ((thr d i), .dma cc0_scratch12.sem) 0 ∗ xRest (F := F) d i 1 0) := by
  have ht := t17_lt t
  have hlo := lo_bound i
  have hnb := nb_bounds i
  rw [k0_part41_eq_skeleton]
  unfold k0_part41_skel
  simp only [bind_assoc, Prog.lift, Prog.bind_op, Prog.bind_ret, Prog.pure_eq_ret]
  iintro ⟨#Hmw, Hcls, HO, HT1, HX1, HR1⟩
  iapply (assumeWP (chk42_ok t hv (H.k32 _)))
  iapply (condWaitT (q := 1) (h := inb_S4x64x128_S1x64x128_1_0_0) (gs := cc0_scratch8.sem) (T := T) (col := loN (wid i) + 128 * (4 * t.val + 1)) (k := k (4 * t.val + 1)) (O := O) (W := W)
    (cBoth_iff i (jW_eq 1 t.val) (by omega) hv (H.k32 _) (H.knb _))) $$ [HT1 HO]
  · isplitr; · iexact Hmw
    isplitl [HT1]; · iexact HT1
    iexact HO
  iintro ⟨HT1, HO⟩
  iapply (wp_waitXLoop (q := 1) (h := inb_S4x32x64_S1x32x64_1_0_0) (xs := cc0_scratch12.sem) (X := X) (p := p (4 * t.val + 1)) (k := k (4 * t.val + 1)) (O := O) (W := W)
    (lpA_trips hv (H.k32 _)) (fun _ _ => rfl)) $$ [HX1 HO]
  · isplitr; · iexact Hmw
    isplitl [HX1]; · iexact HX1
    iexact HO
  iintro ⟨HX1, Hx1, HO⟩
  iapply (for0 (lpB_trips hv (H.k32 _)))
  iapply (comp1 H hv (col_w i (jW_eq 1 t.val)) (X := X) (T := T)) $$ [Hcls HT1 HX1]
  · isplitl [Hcls]; · iexact Hcls
    isplitl [HT1]; · iexact HT1
    iexact HX1
  iintro ⟨Hcls, HT1, HX1⟩
  iapply (for0 (lpB_trips hv (H.k32 _)))
  ihave HR1 := (xJoin (H.k32 _)) $$ [HX1 HR1]
  · isplitl [HX1]; · iexact HX1
    iexact HR1
  iapply retWP
  isplitr
  · ipureintro; rfl
  isplitl [Hcls]; · iexact Hcls
  isplitl [HO]; · iexact HO
  isplitl [HT1]; · iexact HT1
  isplitl [Hx1]; · iexact Hx1
  iexact HR1

set_option maxRecDepth 65536 in
theorem wp_part42 (H : Tab (nbN (wid i)) (loN (wid i)) k p w cnt cls pos) (t : Fin (k0_t17_loop i).trips)
     :
    iprop(cntP d i cnt)
      ⊢ WP d i (k0_part42 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW 1#32 t.val))
        fun r => iprop(⌜(extractAt ![15] (k0_pay97 (F := F) r.1 r.2.1 r.2.2) inpos_S16_p15 : BitVec 32) = BitVec.ofNat 32 (k (4 * t.val + 1 + 4))⌝
          ∗ cntP d i cnt) := by
  have ht := t17_lt t
  have hlo := lo_bound i
  have hnb := nb_bounds i
  rw [k0_part42_eq_skeleton]
  unfold k0_part42_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off86_inb i t) (jW4_eq 1 t.val) (by omega) (cnt_off (jW4_eq 1 t.val) (by omega))
  iexact Hcnt

end Trip

end Cert.Proof.CL

end
-- ==== Proof.TripB.lean ====
/- The main loop's trip, part by part: the copies of a block four later issued. -/
module

public import proofs.«01_k».proof.Proof.Steps

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

set_option maxRecDepth 65536 in
theorem wp_part15 (H : Tab (nbN (wid i)) (loN (wid i)) k p w cnt cls pos) (t : Fin (k0_t17_loop i).trips) (hh : k0_cond7 i t = 1#1) :
    iprop(cntP d i cnt)
      ⊢ WP d i (k0_part15 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW 0#32 t.val) hh)
        fun r => iprop(⌜(extractAt ![15] (k0_pay86 (F := F) r.2.1 r.2.2.1 r.2.2.2) inpos_S16_p15 : BitVec 32) = BitVec.ofNat 32 (k (4 * t.val + 0 + 4))⌝ ∗ cntP d i cnt) := by
  have ht := t17_lt t
  rw [k0_part15_eq_skeleton]
  unfold k0_part15_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off66_inb i t hh) (jW4_eq 0 t.val) (by omega) (cnt_off (jW4_eq 0 t.val) (by omega))
  iexact Hcnt

set_option maxRecDepth 65536 in
theorem wp_part22 (H : Tab (nbN (wid i)) (loN (wid i)) k p w cnt cls pos) (t : Fin (k0_t17_loop i).trips) (hh : k0_cond10 i t = 1#1) :
    iprop(cntP d i cnt)
      ⊢ WP d i (k0_part22 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW 1#32 t.val) hh)
        fun r => iprop(⌜(extractAt ![15] (k0_pay98 (F := F) r.2.1 r.2.2.1 r.2.2.2) inpos_S16_p15 : BitVec 32) = BitVec.ofNat 32 (k (4 * t.val + 1 + 4))⌝ ∗ cntP d i cnt) := by
  have ht := t17_lt t
  rw [k0_part22_eq_skeleton]
  unfold k0_part22_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off88_inb i t hh) (jW4_eq 1 t.val) (by omega) (cnt_off (jW4_eq 1 t.val) (by omega))
  iexact Hcnt

set_option maxRecDepth 65536 in
theorem wp_part29 (H : Tab (nbN (wid i)) (loN (wid i)) k p w cnt cls pos) (t : Fin (k0_t17_loop i).trips) (hh : k0_cond13 i t = 1#1) :
    iprop(cntP d i cnt)
      ⊢ WP d i (k0_part29 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW 2#32 t.val) hh)
        fun r => iprop(⌜(extractAt ![15] (k0_pay109 (F := F) r.2.1 r.2.2.1 r.2.2.2) inpos_S16_p15 : BitVec 32) = BitVec.ofNat 32 (k (4 * t.val + 2 + 4))⌝ ∗ cntP d i cnt) := by
  have ht := t17_lt t
  rw [k0_part29_eq_skeleton]
  unfold k0_part29_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off110_inb i t hh) (jW4_eq 2 t.val) (by omega) (cnt_off (jW4_eq 2 t.val) (by omega))
  iexact Hcnt

set_option maxRecDepth 65536 in
theorem wp_part36 (H : Tab (nbN (wid i)) (loN (wid i)) k p w cnt cls pos) (t : Fin (k0_t17_loop i).trips) (hh : k0_cond16 i t = 1#1) :
    iprop(cntP d i cnt)
      ⊢ WP d i (k0_part36 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 iotaV t (jW 3#32 t.val) hh)
        fun r => iprop(⌜(extractAt ![15] (k0_pay301 (F := F) r.2.1 r.2.2.1 r.2.2.2) inpos_S16_p15 : BitVec 32) = BitVec.ofNat 32 (k (4 * t.val + 3 + 4))⌝ ∗ cntP d i cnt) := by
  have ht := t17_lt t
  rw [k0_part36_eq_skeleton]
  unfold k0_part36_skel
  simp only [bind_assoc, Prog.lift, Prog.bind_op, Prog.bind_ret, Prog.pure_eq_ret]
  iintro Hcnt
  iapply ld_cnt $$ Hcnt
  iintro Hcnt
  iapply retWP
  isplitr
  · ipureintro; exact pick_cnt H (ho := k0_off132_inb i t hh) (jW4_eq 3 t.val) (by omega) (cnt_off (jW4_eq 3 t.val) (by omega))
  iexact Hcnt

set_option maxRecDepth 65536 in
theorem wp_part40 (H : Tab (nbN (wid i)) (loN (wid i)) k p w cnt cls pos) (t : Fin (k0_t17_loop i).trips) (v552 : BitVec 1) (v599 : BitVec 32) (k0_hw38 : k0_chk38 i t v599) (v601 : BitVec 1)
    (hv : v599 = BitVec.ofNat 32 (k (4 * t.val + 0 + 4))) :
    iprop(rd (xLoc d) X ∗ rd (tLoc d) T ∗ cntP d i cnt ∗ posP d i pos ∗ tblFree (F := F) d i 0 cc0_scratch7.sem ∗ semVal ((thr d i), .dma cc0_scratch11.sem) 0 ∗ xRest (F := F) d i 0 0)
      ⊢ WP d i (k0_part40 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t (Scf.iv 0#32 1#32 t.val) (jW 0#32 t.val) v552 v599 k0_hw38 v601)
        fun r => iprop(⌜r.1 = jW 1#32 t.val ∧ (extractAt ![15] (k0_pay89 (F := F) iotaV r.1 r.2.1 r.2.2.1 r.2.2.2.1 r.2.2.2.2.1 r.2.2.2.2.2) inpos_S16_p15 : BitVec 32) = BitVec.ofNat 32 (k (4 * t.val + 1))⌝
          ∗ rd (xLoc d) X ∗ rd (tLoc d) T ∗ cntP d i cnt ∗ posP d i pos ∗ tblSlot d i 0 cc0_scratch7.sem T (loN (wid i) + 128 * (4 * t.val + 0 + 4)) (k (4 * t.val + 0 + 4)) ∗ xBatch d i 0 cc0_scratch11.sem X (p (4 * t.val + 0 + 4)) (k (4 * t.val + 0 + 4)) (k (4 * t.val + 0 + 4)) 0 ∗ xRest (F := F) d i 0 (k (4 * t.val + 0 + 4))) := by
  have ht := t17_lt t
  have hlo := lo_bound i
  have hnb := nb_bounds i
  rw [k0_part40_eq_skeleton]
  unfold k0_part40_skel
  simp only [bind_assoc, Prog.lift, Prog.bind_op, Prog.bind_ret, Prog.pure_eq_ret]
  iintro ⟨HrX, HrT, Hcnt, Hpos, HT0, Hx0, HR0⟩
  iapply (condIssueT (q := 0) (h := inb_S4x64x128_S1x64x128_0_0_0) (gs := cc0_scratch7.sem) (T := T) (k := k (4 * t.val + 0 + 4)) (col := loN (wid i) + 128 * (4 * t.val + 0 + 4))
    (cond6_iff t hv (H.k32 _) (H.knb _)) rfl (col_off i (jW4_eq 0 t.val) (by omega))) $$ [HrT HT0]
  · isplitl [HrT]; · iexact HrT
    iexact HT0
  iintro ⟨HrT, HT0⟩
  iapply (diteCutF (P := iprop(rd (xLoc d) X ∗ cntP d i cnt ∗ posP d i pos ∗ semVal ((thr d i), .dma cc0_scratch11.sem) 0 ∗ xRest (F := F) d i 0 0))
    (R := iprop(rd (xLoc d) X ∗ cntP d i cnt ∗ posP d i pos ∗ xBatch d i 0 cc0_scratch11.sem X (p (4 * t.val + 0 + 4)) (k (4 * t.val + 0 + 4)) (k (4 * t.val + 0 + 4)) 0
      ∗ xRest (F := F) d i 0 (k (4 * t.val + 0 + 4)))) (fun hh => by
      iintro ⟨HrX, Hcnt, Hpos, Hx, HR⟩ HK
      iapply (cutWP (wp_part15 H t hh)) $$ Hcnt
      iintro %r ⟨%hr, Hcnt⟩
      iapply (assumeWP (chk39_ok t hr (H.k32 _)))
      imod (xBatch_new (q := 0) (X := X) (p := p (4 * t.val + 0 + 4)) (k := k (4 * t.val + 0 + 4))) $$ Hx with HB
      iapply (issueX0 H hr (X := X)) $$ [HrX Hpos HB HR]
      · isplitl [HrX]; · iexact HrX
        isplitl [Hpos]; · iexact Hpos
        isplitl [HB]; · iexact HB
        iexact HR
      iintro ⟨HrX, Hpos, HB, HR⟩
      iapply (for0 (lpB_trips hr (H.k32 _)))
      iapply HK
      isplitl [HrX]; · iexact HrX
      isplitl [Hcnt]; · iexact Hcnt
      isplitl [Hpos]; · iexact Hpos
      isplitl [HB]; · iexact HB
      iexact HR) (fun hh => by
      have e : k (4 * t.val + 0 + 4) = 0 := by
        rw [cond7_iff] at hh
        by_contra hk
        exact hh (H.knb _ (by omega))
      iintro ⟨HrX, Hcnt, Hpos, Hx, HR⟩
      imod (xBatch_none (q := 0) (X := X) (p := p (4 * t.val + 0 + 4)) e) $$ Hx with HB
      imodintro
      isplitl [HrX]; · iexact HrX
      isplitl [Hcnt]; · iexact Hcnt
      isplitl [Hpos]; · iexact Hpos
      isplitl [HB]; · iexact HB
      rw [e]
      iexact HR)) $$ [HrX Hcnt Hpos Hx0 HR0]
  · isplitl [HrX]; · iexact HrX
    isplitl [Hcnt]; · iexact Hcnt
    isplitl [Hpos]; · iexact Hpos
    isplitl [Hx0]; · iexact Hx0
    iexact HR0
  iintro ⟨HrX, Hcnt, Hpos, HX0, HR0⟩
  iapply ld_cnt $$ Hcnt
  iintro Hcnt
  iapply retWP
  isplitr
  · ipureintro; exact ⟨rfl, pick_cnt H (ho := k0_off75_inb i t) (jW_eq 1 t.val) (by omega) (cnt_off (jW_eq 1 t.val) (by omega))⟩
  isplitl [HrX]; · iexact HrX
  isplitl [HrT]; · iexact HrT
  isplitl [Hcnt]; · iexact Hcnt
  isplitl [Hpos]; · iexact Hpos
  isplitl [HT0]; · iexact HT0
  isplitl [HX0]; · iexact HX0
  iexact HR0

set_option maxRecDepth 65536 in
theorem wp_part43 (H : Tab (nbN (wid i)) (loN (wid i)) k p w cnt cls pos) (t : Fin (k0_t17_loop i).trips) (v678 : BitVec 1) (v699 : Vec F S16 .i32) (v720 : IVec S16 1) (c0_i32_377 : BitVec 32)
    (hv : (extractAt ![15] (k0_pay97 (F := F) v699 v720 c0_i32_377) inpos_S16_p15 : BitVec 32) = BitVec.ofNat 32 (k (4 * t.val + 1 + 4))) :
    iprop(rd (xLoc d) X ∗ rd (tLoc d) T ∗ cntP d i cnt ∗ posP d i pos ∗ tblFree (F := F) d i 1 cc0_scratch8.sem ∗ semVal ((thr d i), .dma cc0_scratch12.sem) 0 ∗ xRest (F := F) d i 1 0)
      ⊢ WP d i (k0_part43 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t (Scf.iv 0#32 1#32 t.val) (jW 1#32 t.val) v678 v699 v720 c0_i32_377)
        fun r => iprop(⌜r.1 = jW 2#32 t.val ∧ (extractAt ![15] (k0_pay101 (F := F) iotaV r.1 r.2.1 r.2.2.1 r.2.2.2.1 r.2.2.2.2) inpos_S16_p15 : BitVec 32) = BitVec.ofNat 32 (k (4 * t.val + 2))⌝
          ∗ rd (xLoc d) X ∗ rd (tLoc d) T ∗ cntP d i cnt ∗ posP d i pos ∗ tblSlot d i 1 cc0_scratch8.sem T (loN (wid i) + 128 * (4 * t.val + 1 + 4)) (k (4 * t.val + 1 + 4)) ∗ xBatch d i 1 cc0_scratch12.sem X (p (4 * t.val + 1 + 4)) (k (4 * t.val + 1 + 4)) (k (4 * t.val + 1 + 4)) 0 ∗ xRest (F := F) d i 1 (k (4 * t.val + 1 + 4))) := by
  have ht := t17_lt t
  have hlo := lo_bound i
  have hnb := nb_bounds i
  rw [k0_part43_eq_skeleton]
  unfold k0_part43_skel
  simp only [bind_assoc, Prog.lift, Prog.bind_op, Prog.bind_ret, Prog.pure_eq_ret]
  iintro ⟨HrX, HrT, Hcnt, Hpos, HT1, Hx1, HR1⟩
  iapply (assumeWP (chk51_ok t hv (H.k32 _) (H.knb _)))
  iapply (condIssueT (q := 1) (h := inb_S4x64x128_S1x64x128_1_0_0) (gs := cc0_scratch8.sem) (T := T) (k := k (4 * t.val + 1 + 4)) (col := loN (wid i) + 128 * (4 * t.val + 1 + 4))
    (cond9_iff t hv (H.k32 _) (H.knb _)) rfl (col_off i (jW4_eq 1 t.val) (by omega))) $$ [HrT HT1]
  · isplitl [HrT]; · iexact HrT
    iexact HT1
  iintro ⟨HrT, HT1⟩
  iapply (diteCutF (P := iprop(rd (xLoc d) X ∗ cntP d i cnt ∗ posP d i pos ∗ semVal ((thr d i), .dma cc0_scratch12.sem) 0 ∗ xRest (F := F) d i 1 0))
    (R := iprop(rd (xLoc d) X ∗ cntP d i cnt ∗ posP d i pos ∗ xBatch d i 1 cc0_scratch12.sem X (p (4 * t.val + 1 + 4)) (k (4 * t.val + 1 + 4)) (k (4 * t.val + 1 + 4)) 0
      ∗ xRest (F := F) d i 1 (k (4 * t.val + 1 + 4)))) (fun hh => by
      iintro ⟨HrX, Hcnt, Hpos, Hx, HR⟩ HK
      iapply (cutWP (wp_part22 H t hh)) $$ Hcnt
      iintro %r ⟨%hr, Hcnt⟩
      iapply (assumeWP (chk52_ok t hr (H.k32 _)))
      imod (xBatch_new (q := 1) (X := X) (p := p (4 * t.val + 1 + 4)) (k := k (4 * t.val + 1 + 4))) $$ Hx with HB
      iapply (issueX1 H hr (X := X)) $$ [HrX Hpos HB HR]
      · isplitl [HrX]; · iexact HrX
        isplitl [Hpos]; · iexact Hpos
        isplitl [HB]; · iexact HB
        iexact HR
      iintro ⟨HrX, Hpos, HB, HR⟩
      iapply (for0 (lpB_trips hr (H.k32 _)))
      iapply HK
      isplitl [HrX]; · iexact HrX
      isplitl [Hcnt]; · iexact Hcnt
      isplitl [Hpos]; · iexact Hpos
      isplitl [HB]; · iexact HB
      iexact HR) (fun hh => by
      have e : k (4 * t.val + 1 + 4) = 0 := by
        rw [cond10_iff] at hh
        by_contra hk
        exact hh (H.knb _ (by omega))
      iintro ⟨HrX, Hcnt, Hpos, Hx, HR⟩
      imod (xBatch_none (q := 1) (X := X) (p := p (4 * t.val + 1 + 4)) e) $$ Hx with HB
      imodintro
      isplitl [HrX]; · iexact HrX
      isplitl [Hcnt]; · iexact Hcnt
      isplitl [Hpos]; · iexact Hpos
      isplitl [HB]; · iexact HB
      rw [e]
      iexact HR)) $$ [HrX Hcnt Hpos Hx1 HR1]
  · isplitl [HrX]; · iexact HrX
    isplitl [Hcnt]; · iexact Hcnt
    isplitl [Hpos]; · iexact Hpos
    isplitl [Hx1]; · iexact Hx1
    iexact HR1
  iintro ⟨HrX, Hcnt, Hpos, HX1, HR1⟩
  iapply ld_cnt $$ Hcnt
  iintro Hcnt
  iapply retWP
  isplitr
  · ipureintro; exact ⟨rfl, pick_cnt H (ho := k0_off97_inb i t) (jW_eq 2 t.val) (by omega) (cnt_off (jW_eq 2 t.val) (by omega))⟩
  isplitl [HrX]; · iexact HrX
  isplitl [HrT]; · iexact HrT
  isplitl [Hcnt]; · iexact Hcnt
  isplitl [Hpos]; · iexact Hpos
  isplitl [HT1]; · iexact HT1
  isplitl [HX1]; · iexact HX1
  iexact HR1

set_option maxRecDepth 65536 in
theorem wp_part46 (H : Tab (nbN (wid i)) (loN (wid i)) k p w cnt cls pos) (t : Fin (k0_t17_loop i).trips) (v804 : BitVec 1) (v805 : BitVec 32) (v825 : Vec F S16 .i32) (v826 : BitVec 32) (v837 : BitVec 1) (v838 : BitVec 32) (c0_i32_432 : BitVec 32)
    (hv : (extractAt ![15] (k0_pay108 (F := F) iotaV v805 v825 v826 v837 v838 c0_i32_432) inpos_S16_p15 : BitVec 32) = BitVec.ofNat 32 (k (4 * t.val + 2 + 4))) :
    iprop(rd (xLoc d) X ∗ rd (tLoc d) T ∗ cntP d i cnt ∗ posP d i pos ∗ tblFree (F := F) d i 2 cc0_scratch9.sem ∗ semVal ((thr d i), .dma cc0_scratch13.sem) 0 ∗ xRest (F := F) d i 2 0)
      ⊢ WP d i (k0_part46 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t (Scf.iv 0#32 1#32 t.val) (jW 2#32 t.val) v804 v805 v825 v826 v837 v838 c0_i32_432)
        fun r => iprop(⌜r.1 = jW 3#32 t.val⌝
          ∗ rd (xLoc d) X ∗ rd (tLoc d) T ∗ cntP d i cnt ∗ posP d i pos ∗ tblSlot d i 2 cc0_scratch9.sem T (loN (wid i) + 128 * (4 * t.val + 2 + 4)) (k (4 * t.val + 2 + 4)) ∗ xBatch d i 2 cc0_scratch13.sem X (p (4 * t.val + 2 + 4)) (k (4 * t.val + 2 + 4)) (k (4 * t.val + 2 + 4)) 0 ∗ xRest (F := F) d i 2 (k (4 * t.val + 2 + 4))) := by
  have ht := t17_lt t
  have hlo := lo_bound i
  have hnb := nb_bounds i
  rw [k0_part46_eq_skeleton]
  unfold k0_part46_skel
  simp only [bind_assoc, Prog.lift, Prog.bind_op, Prog.bind_ret, Prog.pure_eq_ret]
  iintro ⟨HrX, HrT, Hcnt, Hpos, HT2, Hx2, HR2⟩
  iapply (assumeWP (chk64_ok t hv (H.k32 _) (H.knb _)))
  iapply (condIssueT (q := 2) (h := inb_S4x64x128_S1x64x128_2_0_0) (gs := cc0_scratch9.sem) (T := T) (k := k (4 * t.val + 2 + 4)) (col := loN (wid i) + 128 * (4 * t.val + 2 + 4))
    (cond12_iff t hv (H.k32 _) (H.knb _)) rfl (col_off i (jW4_eq 2 t.val) (by omega))) $$ [HrT HT2]
  · isplitl [HrT]; · iexact HrT
    iexact HT2
  iintro ⟨HrT, HT2⟩
  iapply (diteCutF (P := iprop(rd (xLoc d) X ∗ cntP d i cnt ∗ posP d i pos ∗ semVal ((thr d i), .dma cc0_scratch13.sem) 0 ∗ xRest (F := F) d i 2 0))
    (R := iprop(rd (xLoc d) X ∗ cntP d i cnt ∗ posP d i pos ∗ xBatch d i 2 cc0_scratch13.sem X (p (4 * t.val + 2 + 4)) (k (4 * t.val + 2 + 4)) (k (4 * t.val + 2 + 4)) 0
      ∗ xRest (F := F) d i 2 (k (4 * t.val + 2 + 4)))) (fun hh => by
      iintro ⟨HrX, Hcnt, Hpos, Hx, HR⟩ HK
      iapply (cutWP (wp_part29 H t hh)) $$ Hcnt
      iintro %r ⟨%hr, Hcnt⟩
      iapply (assumeWP (chk65_ok t hr (H.k32 _)))
      imod (xBatch_new (q := 2) (X := X) (p := p (4 * t.val + 2 + 4)) (k := k (4 * t.val + 2 + 4))) $$ Hx with HB
      iapply (issueX2 H hr (X := X)) $$ [HrX Hpos HB HR]
      · isplitl [HrX]; · iexact HrX
        isplitl [Hpos]; · iexact Hpos
        isplitl [HB]; · iexact HB
        iexact HR
      iintro ⟨HrX, Hpos, HB, HR⟩
      iapply (for0 (lpB_trips hr (H.k32 _)))
      iapply HK
      isplitl [HrX]; · iexact HrX
      isplitl [Hcnt]; · iexact Hcnt
      isplitl [Hpos]; · iexact Hpos
      isplitl [HB]; · iexact HB
      iexact HR) (fun hh => by
      have e : k (4 * t.val + 2 + 4) = 0 := by
        rw [cond13_iff] at hh
        by_contra hk
        exact hh (H.knb _ (by omega))
      iintro ⟨HrX, Hcnt, Hpos, Hx, HR⟩
      imod (xBatch_none (q := 2) (X := X) (p := p (4 * t.val + 2 + 4)) e) $$ Hx with HB
      imodintro
      isplitl [HrX]; · iexact HrX
      isplitl [Hcnt]; · iexact Hcnt
      isplitl [Hpos]; · iexact Hpos
      isplitl [HB]; · iexact HB
      rw [e]
      iexact HR)) $$ [HrX Hcnt Hpos Hx2 HR2]
  · isplitl [HrX]; · iexact HrX
    isplitl [Hcnt]; · iexact Hcnt
    isplitl [Hpos]; · iexact Hpos
    isplitl [Hx2]; · iexact Hx2
    iexact HR2
  iintro ⟨HrX, Hcnt, Hpos, HX2, HR2⟩
  iapply retWP
  isplitr
  · ipureintro; rfl
  isplitl [HrX]; · iexact HrX
  isplitl [HrT]; · iexact HrT
  isplitl [Hcnt]; · iexact Hcnt
  isplitl [Hpos]; · iexact Hpos
  isplitl [HT2]; · iexact HT2
  isplitl [HX2]; · iexact HX2
  iexact HR2

end Trip

end Cert.Proof.CL

end
-- ==== Proof.TripC.lean ====
/- The main loop's trip, part by part: its last two blocks. -/
module

public import proofs.«01_k».proof.Proof.Steps

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

set_option maxRecDepth 65536 in
theorem wp_part44 (H : Tab (nbN (wid i)) (loN (wid i)) k p w cnt cls pos) (t : Fin (k0_t17_loop i).trips) (v756 : Vec F S16 .i32) (c16_i32_394 : BitVec 32) (v757 : BitVec 32) (v759 : BitVec 32)
    (hv : (extractAt ![15] (k0_pay101 (F := F) iotaV (jW 2#32 t.val) v756 c16_i32_394 v757 v759) inpos_S16_p15 : BitVec 32) = BitVec.ofNat 32 (k (4 * t.val + 2))) :
    iprop(□ MW d i O ∗ owW d i O W ∗ tblSlot d i 2 cc0_scratch9.sem T (loN (wid i) + 128 * (4 * t.val + 2)) (k (4 * t.val + 2)) ∗ xBatch d i 2 cc0_scratch13.sem X (p (4 * t.val + 2)) (k (4 * t.val + 2)) (k (4 * t.val + 2)) 0 ∗ xRest (F := F) d i 2 (k (4 * t.val + 2)))
      ⊢ WP d i (k0_part44 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t (jW 2#32 t.val) v756 c16_i32_394 v757 v759)
        fun r => iprop(⌜r.1 = BitVec.ofNat 32 (k (4 * t.val + 2)) ∧ r.2.2.1 = BitVec.ofNat 32 (loN (wid i) + 128 * (4 * t.val + 2)) ∧ r.2.2.2.1 = 0#32⌝
          ∗ owW d i O W ∗ tblGot d i 2 cc0_scratch9.sem T (loN (wid i) + 128 * (4 * t.val + 2)) (k (4 * t.val + 2)) ∗ xRows d i 2 X (p (4 * t.val + 2)) (k (4 * t.val + 2)) ∗ semVal ((thr d i), .dma cc0_scratch13.sem) 0 ∗ xRest (F := F) d i 2 (k (4 * t.val + 2))) := by
  have ht := t17_lt t
  have hlo := lo_bound i
  have hnb := nb_bounds i
  rw [k0_part44_eq_skeleton]
  unfold k0_part44_skel
  simp only [bind_assoc, Prog.lift, Prog.bind_op, Prog.bind_ret, Prog.pure_eq_ret]
  iintro ⟨#Hmw, HO, HT2, HX2, HR2⟩
  iapply (assumeWP (chk55_ok t hv (H.k32 _)))
  iapply (condWaitT (q := 2) (h := inb_S4x64x128_S1x64x128_2_0_0) (gs := cc0_scratch9.sem) (T := T) (col := loN (wid i) + 128 * (4 * t.val + 2)) (k := k (4 * t.val + 2)) (O := O) (W := W)
    (cBoth_iff i (jW_eq 2 t.val) (by omega) hv (H.k32 _) (H.knb _))) $$ [HT2 HO]
  · isplitr; · iexact Hmw
    isplitl [HT2]; · iexact HT2
    iexact HO
  iintro ⟨HT2, HO⟩
  iapply (wp_waitXLoop (q := 2) (h := inb_S4x32x64_S1x32x64_2_0_0) (xs := cc0_scratch13.sem) (X := X) (p := p (4 * t.val + 2)) (k := k (4 * t.val + 2)) (O := O) (W := W)
    (lpA_trips hv (H.k32 _)) (fun _ _ => rfl)) $$ [HX2 HO]
  · isplitr; · iexact Hmw
    isplitl [HX2]; · iexact HX2
    iexact HO
  iintro ⟨HX2, Hx2, HO⟩
  iapply (for0 (lpB_trips hv (H.k32 _)))
  iapply retWP
  isplitr
  · ipureintro; exact ⟨hv, col_w i (jW_eq 2 t.val), rfl⟩
  isplitl [HO]; · iexact HO
  isplitl [HT2]; · iexact HT2
  isplitl [HX2]; · iexact HX2
  isplitl [Hx2]; · iexact Hx2
  iexact HR2

set_option maxRecDepth 65536 in
theorem wp_part45 (H : Tab (nbN (wid i)) (loN (wid i)) k p w cnt cls pos) (t : Fin (k0_t17_loop i).trips) (v676_0 : FVec F S16 .f32) (v676_1 : FVec F S16 .f32) (v676_2 : FVec F S16 .f32) (v676_3 : FVec F S16 .f32) (v782 : BitVec 32) (k0_hw55 : k0_chk55 i t v782) (v795 : BitVec 32) (v796 : BitVec 32)
    (hv : v782 = BitVec.ofNat 32 (k (4 * t.val + 2))) (hv' : v795 = BitVec.ofNat 32 (loN (wid i) + 128 * (4 * t.val + 2))) :
    iprop(clsP d i cls ∗ tblGot d i 2 cc0_scratch9.sem T (loN (wid i) + 128 * (4 * t.val + 2)) (k (4 * t.val + 2)) ∗ xRows d i 2 X (p (4 * t.val + 2)) (k (4 * t.val + 2)) ∗ xRest (F := F) d i 2 (k (4 * t.val + 2)) ∗ cntP d i cnt)
      ⊢ WP d i (k0_part45 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) iotaV t v676_0 v676_1 v676_2 v676_3 (jW 2#32 t.val) v782 k0_hw55 v795 0#32 v796)
        fun r => iprop(⌜(r.1, r.2.1, r.2.2.1, r.2.2.2.1) = foldC X T (p (4 * t.val + 2)) (w (4 * t.val + 2)) (v676_0, v676_1, v676_2, v676_3) (k (4 * t.val + 2)) ∧ (extractAt ![15] (k0_pay108 (F := F) iotaV r.2.2.2.2.2.1 r.2.2.2.2.2.2.1 r.2.2.2.2.2.2.2.1 r.2.2.2.2.2.2.2.2.1 r.2.2.2.2.2.2.2.2.2.1 r.2.2.2.2.2.2.2.2.2.2) inpos_S16_p15 : BitVec 32) = BitVec.ofNat 32 (k (4 * t.val + 2 + 4))⌝
          ∗ clsP d i cls ∗ tblFree (F := F) d i 2 cc0_scratch9.sem ∗ xRest (F := F) d i 2 0 ∗ cntP d i cnt) := by
  have ht := t17_lt t
  have hlo := lo_bound i
  have hnb := nb_bounds i
  rw [k0_part45_eq_skeleton]
  unfold k0_part45_skel
  simp only [bind_assoc, Prog.lift, Prog.bind_op, Prog.bind_ret, Prog.pure_eq_ret]
  iintro ⟨Hcls, HT2, HX2, HR2, Hcnt⟩
  iapply (comp2 H hv hv' (X := X) (T := T)) $$ [Hcls HT2 HX2]
  · isplitl [Hcls]; · iexact Hcls
    isplitl [HT2]; · iexact HT2
    iexact HX2
  iintro ⟨Hcls, HT2, HX2⟩
  iapply (for0 (lpB_trips hv (H.k32 _)))
  ihave HR2 := (xJoin (H.k32 _)) $$ [HX2 HR2]
  · isplitl [HX2]; · iexact HX2
    iexact HR2
  iapply ld_cnt $$ Hcnt
  iintro Hcnt
  iapply retWP
  isplitr
  · ipureintro; exact ⟨rfl, pick_cnt H (ho := k0_off108_inb i t) (jW4_eq 2 t.val) (by omega) (cnt_off (jW4_eq 2 t.val) (by omega))⟩
  isplitl [Hcls]; · iexact Hcls
  isplitl [HT2]; · iexact HT2
  isplitl [HR2]; · iexact HR2
  iexact Hcnt

set_option maxRecDepth 65536 in
theorem wp_part47 (H : Tab (nbN (wid i)) (loN (wid i)) k p w cnt cls pos) (t : Fin (k0_t17_loop i).trips) (v863 : BitVec 32) (v877 : BitVec 1) (c1_i32_450 : BitVec 32)
     :
    iprop(□ MW d i O ∗ cntP d i cnt ∗ owW d i O W ∗ tblSlot d i 3 cc0_scratch10.sem T (loN (wid i) + 128 * (4 * t.val + 3)) (k (4 * t.val + 3)))
      ⊢ WP d i (k0_part47 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) iotaV t (jW 3#32 t.val) v863 v877 c1_i32_450)
        fun r => iprop(⌜r.1 = BitVec.ofNat 32 (k (4 * t.val + 3))⌝
          ∗ cntP d i cnt ∗ owW d i O W ∗ tblGot d i 3 cc0_scratch10.sem T (loN (wid i) + 128 * (4 * t.val + 3)) (k (4 * t.val + 3))) := by
  have ht := t17_lt t
  have hlo := lo_bound i
  have hnb := nb_bounds i
  rw [k0_part47_eq_skeleton]
  unfold k0_part47_skel
  simp only [bind_assoc, Prog.lift, Prog.bind_op, Prog.bind_ret, Prog.pure_eq_ret]
  iintro ⟨#Hmw, Hcnt, HO, HT3⟩
  iapply ld_cnt $$ Hcnt
  iintro Hcnt
  have hv : (extractAt ![15] (k0_pay112 (F := F) iotaV (jW 3#32 t.val) (ld1 cnt (k0_off119 i t) (k0_off119_inb i t))) inpos_S16_p15 : BitVec 32) = BitVec.ofNat 32 (k (4 * t.val + 3)) := pick_cnt H (ho := k0_off119_inb i t) (jW_eq 3 t.val) (by omega) (cnt_off (jW_eq 3 t.val) (by omega))
  iapply (assumeWP (chk68_ok t hv (H.k32 _)))
  iapply (condWaitT (q := 3) (h := inb_S4x64x128_S1x64x128_3_0_0) (gs := cc0_scratch10.sem) (T := T) (col := loN (wid i) + 128 * (4 * t.val + 3)) (k := k (4 * t.val + 3)) (O := O) (W := W)
    (cBoth_iff i (jW_eq 3 t.val) (by omega) hv (H.k32 _) (H.knb _))) $$ [HT3 HO]
  · isplitr; · iexact Hmw
    isplitl [HT3]; · iexact HT3
    iexact HO
  iintro ⟨HT3, HO⟩
  iapply retWP
  isplitr
  · ipureintro; exact hv
  isplitl [Hcnt]; · iexact Hcnt
  isplitl [HO]; · iexact HO
  iexact HT3

set_option maxRecDepth 65536 in
theorem wp_part48 (H : Tab (nbN (wid i)) (loN (wid i)) k p w cnt cls pos) (t : Fin (k0_t17_loop i).trips) (v802_0 : FVec F S16 .f32) (v802_1 : FVec F S16 .f32) (v802_2 : FVec F S16 .f32) (v802_3 : FVec F S16 .f32) (v908 : BitVec 32) (k0_hw68 : k0_chk68 i t v908) (v909 : BitVec 32) (c0_i32_466 : BitVec 32) (v918 : BitVec 32)
    (hv : v908 = BitVec.ofNat 32 (k (4 * t.val + 3))) :
    iprop(□ MW d i O ∗ clsP d i cls ∗ owW d i O W ∗ tblGot d i 3 cc0_scratch10.sem T (loN (wid i) + 128 * (4 * t.val + 3)) (k (4 * t.val + 3)) ∗ xBatch d i 3 cc0_scratch14.sem X (p (4 * t.val + 3)) (k (4 * t.val + 3)) (k (4 * t.val + 3)) 0 ∗ xRest (F := F) d i 3 (k (4 * t.val + 3)) ∗ cntP d i cnt)
      ⊢ WP d i (k0_part48 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV t v802_0 v802_1 v802_2 v802_3 (jW 3#32 t.val) v908 k0_hw68 v909 c0_i32_466 v918)
        fun r => iprop(⌜(r.1, r.2.1, r.2.2.1, r.2.2.2.1) = foldC X T (p (4 * t.val + 3)) (w (4 * t.val + 3)) (v802_0, v802_1, v802_2, v802_3) (k (4 * t.val + 3)) ∧ (extractAt ![15] (k0_pay300 (F := F) iotaV r.2.2.2.2.2.1 r.2.2.2.2.2.2.1 r.2.2.2.2.2.2.2.1 r.2.2.2.2.2.2.2.2.1 r.2.2.2.2.2.2.2.2.2.1 r.2.2.2.2.2.2.2.2.2.2) inpos_S16_p15 : BitVec 32) = BitVec.ofNat 32 (k (4 * t.val + 3 + 4))⌝
          ∗ clsP d i cls ∗ owW d i O W ∗ tblFree (F := F) d i 3 cc0_scratch10.sem ∗ semVal ((thr d i), .dma cc0_scratch14.sem) 0 ∗ xRest (F := F) d i 3 0 ∗ cntP d i cnt) := by
  have ht := t17_lt t
  have hlo := lo_bound i
  have hnb := nb_bounds i
  rw [k0_part48_eq_skeleton]
  unfold k0_part48_skel
  simp only [bind_assoc, Prog.lift, Prog.bind_op, Prog.bind_ret, Prog.pure_eq_ret]
  iintro ⟨#Hmw, Hcls, HO, HT3, HX3, HR3, Hcnt⟩
  iapply (wp_waitXLoop (q := 3) (h := inb_S4x32x64_S1x32x64_3_0_0) (xs := cc0_scratch14.sem) (X := X) (p := p (4 * t.val + 3)) (k := k (4 * t.val + 3)) (O := O) (W := W)
    (lpA_trips hv (H.k32 _)) (fun _ _ => rfl)) $$ [HX3 HO]
  · isplitr; · iexact Hmw
    isplitl [HX3]; · iexact HX3
    iexact HO
  iintro ⟨HX3, Hx3, HO⟩
  iapply (for0 (lpB_trips hv (H.k32 _)))
  iapply (comp3 H hv (col_w i (jW_eq 3 t.val)) (X := X) (T := T)) $$ [Hcls HT3 HX3]
  · isplitl [Hcls]; · iexact Hcls
    isplitl [HT3]; · iexact HT3
    iexact HX3
  iintro ⟨Hcls, HT3, HX3⟩
  iapply (for0 (lpB_trips hv (H.k32 _)))
  ihave HR3 := (xJoin (H.k32 _)) $$ [HX3 HR3]
  · isplitl [HX3]; · iexact HX3
    iexact HR3
  iapply ld_cnt $$ Hcnt
  iintro Hcnt
  iapply retWP
  isplitr
  · ipureintro; exact ⟨rfl, pick_cnt H (ho := k0_off130_inb i t) (jW4_eq 3 t.val) (by omega) (cnt_off (jW4_eq 3 t.val) (by omega))⟩
  isplitl [Hcls]; · iexact Hcls
  isplitl [HO]; · iexact HO
  isplitl [HT3]; · iexact HT3
  isplitl [Hx3]; · iexact Hx3
  isplitl [HR3]; · iexact HR3
  iexact Hcnt

end Trip

end Cert.Proof.CL

end
-- ==== Proof.Trip.lean ====
/- A trip of the main loop: its parts put together. -/
module

public import proofs.«01_k».proof.Proof.TripA
public import proofs.«01_k».proof.Proof.TripB
public import proofs.«01_k».proof.Proof.TripC

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

/-- A trip's four blocks folded into the accumulators. -/
def quad (X : Vec F S16384x64 .f32) (T : Vec F S64x1000064 .f32) (k : ℕ → ℕ) (p w : ℕ → ℕ → ℕ) (t : ℕ) (a : Quad F) : Quad F :=
  foldC X T (p (4 * t + 3)) (w (4 * t + 3)) (foldC X T (p (4 * t + 2)) (w (4 * t + 2)) (foldC X T (p (4 * t + 1)) (w (4 * t + 1))
    (foldC X T (p (4 * t + 0)) (w (4 * t + 0)) a (k (4 * t + 0))) (k (4 * t + 1))) (k (4 * t + 2))) (k (4 * t + 3))

set_option maxRecDepth 65536 in
theorem wp_trip (H : Tab (nbN (wid i)) (loN (wid i)) k p w cnt cls pos) (v17 : FVec F S16 .f32) (v420 : Vec F S16 .i32) (v441 : IVec S16 1) (v442 : IVec S16 32)
    (t : Fin (k0_t17_loop i).trips) (acc : Quad F) :
    iprop(□ MW d i O ∗ rd (xLoc d) X ∗ rd (tLoc d) T ∗ clsP d i cls ∗ posP d i pos ∗ cntP d i cnt ∗ owW d i O W
        ∗ slotB d i 0 cc0_scratch7.sem cc0_scratch11.sem X T (p (4 * t.val + 0)) (loN (wid i) + 128 * (4 * t.val + 0)) (k (4 * t.val + 0))
        ∗ slotB d i 1 cc0_scratch8.sem cc0_scratch12.sem X T (p (4 * t.val + 1)) (loN (wid i) + 128 * (4 * t.val + 1)) (k (4 * t.val + 1))
        ∗ slotB d i 2 cc0_scratch9.sem cc0_scratch13.sem X T (p (4 * t.val + 2)) (loN (wid i) + 128 * (4 * t.val + 2)) (k (4 * t.val + 2))
        ∗ slotB d i 3 cc0_scratch10.sem cc0_scratch14.sem X T (p (4 * t.val + 3)) (loN (wid i) + 128 * (4 * t.val + 3)) (k (4 * t.val + 3)))
      ⊢ WP d i (k0_t17_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV v17 v420 v441 v442 t acc)
        fun a => iprop(⌜a = quad X T k p w t.val acc⌝ ∗ □ MW d i O ∗ rd (xLoc d) X ∗ rd (tLoc d) T ∗ clsP d i cls ∗ posP d i pos ∗ cntP d i cnt ∗ owW d i O W
        ∗ slotB d i 0 cc0_scratch7.sem cc0_scratch11.sem X T (p (4 * t.val + 0 + 4)) (loN (wid i) + 128 * (4 * t.val + 0 + 4)) (k (4 * t.val + 0 + 4))
        ∗ slotB d i 1 cc0_scratch8.sem cc0_scratch12.sem X T (p (4 * t.val + 1 + 4)) (loN (wid i) + 128 * (4 * t.val + 1 + 4)) (k (4 * t.val + 1 + 4))
        ∗ slotB d i 2 cc0_scratch9.sem cc0_scratch13.sem X T (p (4 * t.val + 2 + 4)) (loN (wid i) + 128 * (4 * t.val + 2 + 4)) (k (4 * t.val + 2 + 4))
        ∗ slotB d i 3 cc0_scratch10.sem cc0_scratch14.sem X T (p (4 * t.val + 3 + 4)) (loN (wid i) + 128 * (4 * t.val + 3 + 4)) (k (4 * t.val + 3 + 4))) := by
  have ht := t17_lt t
  have hlo := lo_bound i
  have hnb := nb_bounds i
  obtain ⟨c0, c1, c2, c3⟩ := acc
  unfold k0_t17_body slotB
  iintro ⟨#Hmw, HrX, HrT, Hcls, Hpos, Hcnt, HO, ⟨HT0, HX0, HR0⟩, ⟨HT1, HX1, HR1⟩, ⟨HT2, HX2, HR2⟩, ⟨HT3, HX3, HR3⟩⟩
  iapply (cutWP (wp_part37 H t)) $$ [Hcnt]
  · iexact Hcnt
  iintro %r ⟨%hr, Hcnt⟩
  obtain ⟨arg21, v484, v504, v523⟩ := r
  obtain ⟨rfl, rfl, hv0⟩ := hr
  dsimp only
  iapply (cutWP (wp_part38 (X := X) (T := T) (O := O) (W := W) H t c0 c1 c2 c3 v504 v523 hv0)) $$ [Hcls HO HT0 HX0 HR0]
  · isplitr; · iexact Hmw
    isplitl [Hcls]; · iexact Hcls
    isplitl [HO]; · iexact HO
    isplitl [HT0]; · iexact HT0
    isplitl [HX0]; · iexact HX0
    iexact HR0
  iintro %r ⟨%hr, Hcls, HO, HT0, Hx0, HR0⟩
  obtain ⟨e0, e1, e2, e3, v552, v553, c16, v554, v559⟩ := r
  obtain ⟨he, rfl⟩ := hr
  dsimp only
  iapply (cutWP (wp_part39 H t c16 v554 v559)) $$ [Hcnt]
  · iexact Hcnt
  iintro %r ⟨%hr, Hcnt⟩
  obtain ⟨v599, hw38, v601⟩ := r
  have hv1 := hr
  dsimp only
  iapply (cutWP (wp_part40 (X := X) (T := T) H t v552 v599 hw38 v601 hv1)) $$ [HrX HrT Hcnt Hpos HT0 Hx0 HR0]
  · isplitl [HrX]; · iexact HrX
    isplitl [HrT]; · iexact HrT
    isplitl [Hcnt]; · iexact Hcnt
    isplitl [Hpos]; · iexact Hpos
    isplitl [HT0]; · iexact HT0
    isplitl [Hx0]; · iexact Hx0
    iexact HR0
  iintro %r ⟨%hr, HrX, HrT, Hcnt, Hpos, HT0, HX0, HR0⟩
  obtain ⟨v610, v630, c16', v631, v636, v641⟩ := r
  obtain ⟨rfl, hv2⟩ := hr
  dsimp only
  iapply (cutWP (wp_part41 (X := X) (T := T) (O := O) (W := W) H t e0 e1 e2 e3 v630 c16' v631 v636 v641 hv2)) $$ [Hcls HO HT1 HX1 HR1]
  · isplitr; · iexact Hmw
    isplitl [Hcls]; · iexact Hcls
    isplitl [HO]; · iexact HO
    isplitl [HT1]; · iexact HT1
    isplitl [HX1]; · iexact HX1
    iexact HR1
  iintro %r ⟨%hr, Hcls, HO, HT1, Hx1, HR1⟩
  obtain ⟨f0, f1, f2, f3, v678⟩ := r
  have hf := hr
  dsimp only
  iapply (cutWP (wp_part42 H t)) $$ [Hcnt]
  · iexact Hcnt
  iintro %r ⟨%hr, Hcnt⟩
  obtain ⟨v699, v720, c0'⟩ := r
  have hv3 := hr
  dsimp only
  iapply (cutWP (wp_part43 (X := X) (T := T) H t v678 v699 v720 c0' hv3)) $$ [HrX HrT Hcnt Hpos HT1 Hx1 HR1]
  · isplitl [HrX]; · iexact HrX
    isplitl [HrT]; · iexact HrT
    isplitl [Hcnt]; · iexact Hcnt
    isplitl [Hpos]; · iexact Hpos
    isplitl [HT1]; · iexact HT1
    isplitl [Hx1]; · iexact Hx1
    iexact HR1
  iintro %r ⟨%hr, HrX, HrT, Hcnt, Hpos, HT1, HX1, HR1⟩
  obtain ⟨v736, v756, d16, v757, v759⟩ := r
  obtain ⟨rfl, hv4⟩ := hr
  dsimp only
  iapply (cutWP (wp_part44 (X := X) (T := T) (O := O) (W := W) H t v756 d16 v757 v759 hv4)) $$ [HO HT2 HX2 HR2]
  · isplitr; · iexact Hmw
    isplitl [HO]; · iexact HO
    isplitl [HT2]; · iexact HT2
    isplitl [HX2]; · iexact HX2
    iexact HR2
  iintro %r ⟨%hr, HO, HT2, HX2, Hx2, HR2⟩
  obtain ⟨v782, hw55, v795, c00, v796⟩ := r
  obtain ⟨hv5, hv6, rfl⟩ := hr
  dsimp only
  iapply (cutWP (wp_part45 (X := X) (T := T) H t f0 f1 f2 f3 v782 hw55 v795 v796 hv5 hv6)) $$ [Hcls HT2 HX2 HR2 Hcnt]
  · isplitl [Hcls]; · iexact Hcls
    isplitl [HT2]; · iexact HT2
    isplitl [HX2]; · iexact HX2
    isplitl [HR2]; · iexact HR2
    iexact Hcnt
  iintro %r ⟨%hr, Hcls, HT2, HR2, Hcnt⟩
  obtain ⟨g0, g1, g2, g3, v804, v805, v825, v826, v837, v838, c01⟩ := r
  obtain ⟨hg, hv7⟩ := hr
  dsimp only
  iapply (cutWP (wp_part46 (X := X) (T := T) H t v804 v805 v825 v826 v837 v838 c01 hv7)) $$ [HrX HrT Hcnt Hpos HT2 Hx2 HR2]
  · isplitl [HrX]; · iexact HrX
    isplitl [HrT]; · iexact HrT
    isplitl [Hcnt]; · iexact Hcnt
    isplitl [Hpos]; · iexact Hpos
    isplitl [HT2]; · iexact HT2
    isplitl [Hx2]; · iexact Hx2
    iexact HR2
  iintro %r ⟨%hr, HrX, HrT, Hcnt, Hpos, HT2, HX2, HR2⟩
  obtain ⟨v862, v863, v877, c1'⟩ := r
  obtain rfl := hr
  dsimp only
  iapply (cutWP (wp_part47 (T := T) (O := O) (W := W) H t v863 v877 c1')) $$ [Hcnt HO HT3]
  · isplitr; · iexact Hmw
    isplitl [Hcnt]; · iexact Hcnt
    isplitl [HO]; · iexact HO
    iexact HT3
  iintro %r ⟨%hr, Hcnt, HO, HT3⟩
  obtain ⟨v908, hw68, v909, c02, v918⟩ := r
  have hv8 := hr
  dsimp only
  iapply (cutWP (wp_part48 (X := X) (T := T) (O := O) (W := W) H t g0 g1 g2 g3 v908 hw68 v909 c02 v918 hv8)) $$ [Hcls HO HT3 HX3 HR3 Hcnt]
  · isplitr; · iexact Hmw
    isplitl [Hcls]; · iexact Hcls
    isplitl [HO]; · iexact HO
    isplitl [HT3]; · iexact HT3
    isplitl [HX3]; · iexact HX3
    isplitl [HR3]; · iexact HR3
    iexact Hcnt
  iintro %r ⟨%hr, Hcls, HO, HT3, Hx3, HR3, Hcnt⟩
  obtain ⟨h0, h1, h2, h3, v930, v931, v951, e16, v952, v954, v956⟩ := r
  obtain ⟨hh, hv9⟩ := hr
  dsimp only
  simp only [bind_assoc, Prog.lift, Prog.bind_op, Prog.bind_ret, Prog.pure_eq_ret]
  iapply (assumeWP (chk77_ok t hv9 (H.k32 _) (H.knb _)))
  iapply (condIssueT (q := 3) (h := inb_S4x64x128_S1x64x128_3_0_0) (gs := cc0_scratch10.sem) (T := T) (k := k (4 * t.val + 3 + 4)) (col := loN (wid i) + 128 * (4 * t.val + 3 + 4))
    (cond15_iff t hv9 (H.k32 _) (H.knb _)) rfl (col_off i (jW4_eq 3 t.val) (by omega))) $$ [HrT HT3]
  · isplitl [HrT]; · iexact HrT
    iexact HT3
  iintro ⟨HrT, HT3⟩
  iapply (diteCutF (P := iprop(rd (xLoc d) X ∗ cntP d i cnt ∗ posP d i pos ∗ semVal ((thr d i), .dma cc0_scratch14.sem) 0 ∗ xRest (F := F) d i 3 0))
    (R := iprop(rd (xLoc d) X ∗ cntP d i cnt ∗ posP d i pos ∗ xBatch d i 3 cc0_scratch14.sem X (p (4 * t.val + 3 + 4)) (k (4 * t.val + 3 + 4)) (k (4 * t.val + 3 + 4)) 0
      ∗ xRest (F := F) d i 3 (k (4 * t.val + 3 + 4)))) (fun hh => by
      iintro ⟨HrX, Hcnt, Hpos, Hx, HR⟩ HK
      iapply (cutWP (wp_part36 H t hh)) $$ Hcnt
      iintro %r ⟨%hr, Hcnt⟩
      iapply (assumeWP (chk78_ok t hr (H.k32 _)))
      imod (xBatch_new (q := 3) (X := X) (p := p (4 * t.val + 3 + 4)) (k := k (4 * t.val + 3 + 4))) $$ Hx with HB
      iapply (issueX3 H hr (X := X)) $$ [HrX Hpos HB HR]
      · isplitl [HrX]; · iexact HrX
        isplitl [Hpos]; · iexact Hpos
        isplitl [HB]; · iexact HB
        iexact HR
      iintro ⟨HrX, Hpos, HB, HR⟩
      iapply (for0 (lpB_trips hr (H.k32 _)))
      iapply HK
      isplitl [HrX]; · iexact HrX
      isplitl [Hcnt]; · iexact Hcnt
      isplitl [Hpos]; · iexact Hpos
      isplitl [HB]; · iexact HB
      iexact HR) (fun hh => by
      have e : k (4 * t.val + 3 + 4) = 0 := by
        rw [cond16_iff] at hh
        by_contra hk
        exact hh (H.knb _ (by omega))
      iintro ⟨HrX, Hcnt, Hpos, Hx, HR⟩
      imod (xBatch_none (q := 3) (X := X) (p := p (4 * t.val + 3 + 4)) e) $$ Hx with HB
      imodintro
      isplitl [HrX]; · iexact HrX
      isplitl [Hcnt]; · iexact Hcnt
      isplitl [Hpos]; · iexact Hpos
      isplitl [HB]; · iexact HB
      rw [e]
      iexact HR)) $$ [HrX Hcnt Hpos Hx3 HR3]
  · isplitl [HrX]; · iexact HrX
    isplitl [Hcnt]; · iexact Hcnt
    isplitl [Hpos]; · iexact Hpos
    isplitl [Hx3]; · iexact Hx3
    iexact HR3
  iintro ⟨HrX, Hcnt, Hpos, HX3, HR3⟩
  iapply retWP
  isplitr
  · ipureintro; unfold quad; dsimp only at he hf hg hh; rw [← he, ← hf, ← hg, ← hh]
  isplitr; · iexact Hmw
  isplitl [HrX]; · iexact HrX
  isplitl [HrT]; · iexact HrT
  isplitl [Hcls]; · iexact Hcls
  isplitl [Hpos]; · iexact Hpos
  isplitl [Hcnt]; · iexact Hcnt
  isplitl [HO]; · iexact HO
  isplitl [HT0 HX0 HR0]
  · isplitl [HT0]; · iexact HT0
    isplitl [HX0]; · iexact HX0
    iexact HR0
  isplitl [HT1 HX1 HR1]
  · isplitl [HT1]; · iexact HT1
    isplitl [HX1]; · iexact HX1
    iexact HR1
  isplitl [HT2 HX2 HR2]
  · isplitl [HT2]; · iexact HT2
    isplitl [HX2]; · iexact HX2
    iexact HR2
  isplitl [HT3]; · iexact HT3
  isplitl [HX3]; · iexact HX3
  iexact HR3

end Trip

end Cert.Proof.CL

end
-- ==== Proof.ProD.lean ====
/- The main loop and what follows it. -/
module

public import proofs.«01_k».proof.Proof.ProB
public import proofs.«01_k».proof.Proof.Trip

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

theorem t42_trips (i : grid0.Coords) : (k0_t42_loop i).trips = 0 := by
  have key : ∀ (a : Fin 2) (b : Fin 16), (k0_t42_loop (fun | 0 => a | 1 => b | ⟨_ + 2, h⟩ => absurd h (Nat.not_lt.2 (Nat.le_add_left _ _)))).trips
      = 0 := by decide +kernel
  exact key (i 0) (i 1)

/-- The accumulators before a trip. -/
def accT (X : Vec F S16384x64 .f32) (T : Vec F S64x1000064 .f32) (k : ℕ → ℕ) (p w : ℕ → ℕ → ℕ) : ℕ → Quad F
  | 0 => (k0_pay231 (F := F), k0_pay231 (F := F), k0_pay231 (F := F), k0_pay231 (F := F))
  | t + 1 => quad X T k p w t (accT X T k p w t)

/-- What the main loop keeps. -/
def loopI (d : Dev nD) (i : grid0.Coords) (O : CellTallies nD τ sig (HIx 1)) (W : Waits sig (HIx 1)) (X : Vec F S16384x64 .f32) (T : Vec F S64x1000064 .f32)
    (cnt : Vec F S256 .i32) (cls pos : Vec F S8192 .i32) (k : ℕ → ℕ) (p : ℕ → ℕ → ℕ) (t : ℕ) : sProp 𝕄 :=
  iprop(□ MW d i O ∗ rd (xLoc d) X ∗ rd (tLoc d) T ∗ clsP d i cls ∗ posP d i pos ∗ cntP d i cnt ∗ owW d i O W
    ∗ slotB d i 0 cc0_scratch7.sem cc0_scratch11.sem X T (p (4 * t + 0)) (loN (wid i) + 128 * (4 * t + 0)) (k (4 * t + 0)) ∗ slotB d i 1 cc0_scratch8.sem cc0_scratch12.sem X T (p (4 * t + 1)) (loN (wid i) + 128 * (4 * t + 1)) (k (4 * t + 1)) ∗ slotB d i 2 cc0_scratch9.sem cc0_scratch13.sem X T (p (4 * t + 2)) (loN (wid i) + 128 * (4 * t + 2)) (k (4 * t + 2)) ∗ slotB d i 3 cc0_scratch10.sem cc0_scratch14.sem X T (p (4 * t + 3)) (loN (wid i) + 128 * (4 * t + 3)) (k (4 * t + 3)))

set_option maxRecDepth 65536 in
theorem wp_main (H : Tab (nbN (wid i)) (loN (wid i)) k p w cnt cls pos) (v17 : FVec F S16 .f32) (v420 : Vec F S16 .i32) (v441 : IVec S16 1) (v442 : IVec S16 32)
    {ok : (k0_t17_loop i).OK} {kk : Quad F → TProg F i α} {Q : α → sProp 𝕄} :
    loopI d i O W X T cnt cls pos k p 0
      ⊢ iprop((loopI d i O W X T cnt cls pos k p (nT i) -∗ WP d i (kk (accT X T k p w (nT i))) Q)
        -∗ WP d i (Scf.Loop.for (k0_t17_loop i) ok (k0_pay231 (F := F), k0_pay231 (F := F), k0_pay231 (F := F), k0_pay231 (F := F))
          (k0_t17_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV v17 v420 v441 v442) >>= kk) Q) := by
  have key := Scf.wp_for_bind frame (wpE (defs₀ (F := F)) 𝒱₀ (thr d i) none) Set.univ (k0_t17_loop i).lb (k0_t17_loop i).ub (k0_t17_loop i).st ok
    (k0_pay231 (F := F), k0_pay231 (F := F), k0_pay231 (F := F), k0_pay231 (F := F))
    (k0_t17_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV v17 v420 v441 v442)
    (fun t acc => iprop(⌜acc = accT X T k p w t⌝ ∗ loopI d i O W X T cnt cls pos k p t)) (fun t acc => by
      unfold loopI
      iintro ⟨%ha, #Hmw, HrX, HrT, Hc, Hp, Hcnt, HO, H0, H1, H2, H3⟩
      iapply (wp_wand Idealize.ShloMosaic.frame (wpE (defs₀ (F := F)) 𝒱₀ (thr d i) none) Set.univ) $$ [HrX HrT Hc Hp Hcnt HO H0 H1 H2 H3]
      · iapply (wp_trip (X := X) (T := T) (O := O) (W := W) H v17 v420 v441 v442 t acc) $$ [HrX HrT Hc Hp Hcnt HO H0 H1 H2 H3]
        isplitr; · iexact Hmw
        isplitl [HrX]; · iexact HrX
        isplitl [HrT]; · iexact HrT
        isplitl [Hc]; · iexact Hc
        isplitl [Hp]; · iexact Hp
        isplitl [Hcnt]; · iexact Hcnt
        isplitl [HO]; · iexact HO
        isplitl [H0]; · iexact H0
        isplitl [H1]; · iexact H1
        isplitl [H2]; · iexact H2
        iexact H3
      iintro %a ⟨%hr, #Hmw2, HrX, HrT, Hc, Hp, Hcnt, HO, H0, H1, H2, H3⟩
      rw [show 4 * (t.val + 1) + 0 = 4 * t.val + 0 + 4 by omega, show 4 * (t.val + 1) + 1 = 4 * t.val + 1 + 4 by omega,
        show 4 * (t.val + 1) + 2 = 4 * t.val + 2 + 4 by omega, show 4 * (t.val + 1) + 3 = 4 * t.val + 3 + 4 by omega]
      isplitr
      · ipureintro; rw [hr, ha]; rfl
      isplitr; · iexact Hmw
      isplitl [HrX]; · iexact HrX
      isplitl [HrT]; · iexact HrT
      isplitl [Hc]; · iexact Hc
      isplitl [Hp]; · iexact Hp
      isplitl [Hcnt]; · iexact Hcnt
      isplitl [HO]; · iexact HO
      isplitl [H0]; · iexact H0
      isplitl [H1]; · iexact H1
      isplitl [H2]; · iexact H2
      iexact H3) (kk := kk) (Q := Q)
  rw [show Scf.trips (k0_t17_loop i).lb (k0_t17_loop i).ub (k0_t17_loop i).st = nT i from t17_trips i] at key
  iintro H HK
  iapply key $$ [H]
  · isplitr
    · ipureintro; rfl
    iexact H
  iintro %acc ⟨%ha, H⟩
  subst ha
  iapply HK
  iexact H

/-- The four slots at the end of the loop, nothing in flight. -/
theorem loopI_end (H : Tab (nbN (wid i)) (loN (wid i)) k p w cnt cls pos) :
    loopI d i O W X T cnt cls pos k p (nT i)
      ⊢ iprop(|={Set.univ}=> (rd (xLoc d) X ∗ rd (tLoc d) T ∗ clsP d i cls ∗ posP d i pos ∗ cntP d i cnt ∗ owW d i O W ∗ slotF (F := F) d i 0 cc0_scratch7.sem cc0_scratch11.sem ∗ slotF (F := F) d i 1 cc0_scratch8.sem cc0_scratch12.sem ∗ slotF (F := F) d i 2 cc0_scratch9.sem cc0_scratch13.sem ∗ slotF (F := F) d i 3 cc0_scratch10.sem cc0_scratch14.sem)) := by
  have hz : ∀ q, k (4 * nT i + q) = 0 := fun q => by
    by_contra h
    have := H.knb _ (Nat.pos_of_ne_zero h)
    have := nb_le_nT i
    omega
  unfold loopI
  rw [hz 0, hz 1, hz 2, hz 3]
  iintro ⟨#Hmw, HrX, HrT, Hc, Hp, Hcnt, HO, H0, H1, H2, H3⟩
  imod slotB_zero $$ H0 with H0
  imod slotB_zero $$ H1 with H1
  imod slotB_zero $$ H2 with H2
  imod slotB_zero $$ H3 with H3
  imodintro
  isplitl [HrX]; · iexact HrX
  isplitl [HrT]; · iexact HrT
  isplitl [Hc]; · iexact Hc
  isplitl [Hp]; · iexact Hp
  isplitl [Hcnt]; · iexact Hcnt
  isplitl [HO]; · iexact HO
  isplitl [H0]; · iexact H0
  isplitl [H1]; · iexact H1
  isplitl [H2]; · iexact H2
  iexact H3

set_option maxRecDepth 65536 in
theorem wp_part103 (H : Tab (nbN (wid i)) (loN (wid i)) k p w cnt cls pos) (v420 : Vec F S16 .i32) (v441 : IVec S16 1) (v442 : IVec S16 32)
    (hv : (extractAt ![15] (k0_pay297 (F := F) v420 v441 v442) inpos_S16_p15 : BitVec 32) = BitVec.ofNat 32 (k (4 * 0 + 3))) :
    iprop(□ MW d i O ∗ rd (xLoc d) X ∗ rd (tLoc d) T ∗ clsP d i cls ∗ posP d i pos ∗ cntP d i cnt ∗ owW d i O W ∗ tblSlot d i 0 cc0_scratch7.sem T (loN (wid i) + 128 * (4 * 0 + 0)) (k (4 * 0 + 0)) ∗ xBatch d i 0 cc0_scratch11.sem X (p (4 * 0 + 0)) (k (4 * 0 + 0)) (k (4 * 0 + 0)) 0 ∗ xRest (F := F) d i 0 (k (4 * 0 + 0)) ∗ tblSlot d i 1 cc0_scratch8.sem T (loN (wid i) + 128 * (4 * 0 + 1)) (k (4 * 0 + 1)) ∗ xBatch d i 1 cc0_scratch12.sem X (p (4 * 0 + 1)) (k (4 * 0 + 1)) (k (4 * 0 + 1)) 0 ∗ xRest (F := F) d i 1 (k (4 * 0 + 1)) ∗ tblSlot d i 2 cc0_scratch9.sem T (loN (wid i) + 128 * (4 * 0 + 2)) (k (4 * 0 + 2)) ∗ xBatch d i 2 cc0_scratch13.sem X (p (4 * 0 + 2)) (k (4 * 0 + 2)) (k (4 * 0 + 2)) 0 ∗ xRest (F := F) d i 2 (k (4 * 0 + 2)) ∗ tblSlot d i 3 cc0_scratch10.sem T (loN (wid i) + 128 * (4 * 0 + 3)) (k (4 * 0 + 3)) ∗ semVal ((thr d i), .dma cc0_scratch14.sem) 0 ∗ xRest (F := F) d i 3 0)
      ⊢ WP d i (k0_part103 (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8 (nbF (v1w i)) (loF (v1w i)) iotaV (k0_pay231 (F := F)) v420 v441 v442)
        fun r => iprop(⌜(r.1, r.2.1, r.2.2.1, r.2.2.2) = accT X T k p w (nT i)⌝
          ∗ rd (xLoc d) X ∗ rd (tLoc d) T ∗ clsP d i cls ∗ posP d i pos ∗ cntP d i cnt ∗ owW d i O W ∗ slotF (F := F) d i 0 cc0_scratch7.sem cc0_scratch11.sem ∗ slotF (F := F) d i 1 cc0_scratch8.sem cc0_scratch12.sem ∗ slotF (F := F) d i 2 cc0_scratch9.sem cc0_scratch13.sem ∗ slotF (F := F) d i 3 cc0_scratch10.sem cc0_scratch14.sem) := by
  have hlo := lo_bound i
  have hnb := nb_bounds i
  rw [k0_part103_eq_skeleton]
  unfold k0_part103_skel
  simp only [bind_assoc, Prog.lift, Prog.bind_op, Prog.bind_ret, Prog.pure_eq_ret]
  iintro ⟨#Hmw, HrX, HrT, Hcls, Hpos, Hcnt, HO, HT0, HX0, HR0, HT1, HX1, HR1, HT2, HX2, HR2, HT3, Hx3, HR3⟩
  iapply (assumeWP (chk26_ok hv (H.k32 _)))
  imod (xBatch_new (q := 3) (X := X) (p := p (4 * 0 + 3)) (k := k (4 * 0 + 3))) $$ Hx3 with HB
  iapply (issueP3 H hv (X := X)) $$ [HrX Hpos HB HR3]
  · isplitl [HrX]; · iexact HrX
    isplitl [Hpos]; · iexact Hpos
    isplitl [HB]; · iexact HB
    iexact HR3
  iintro ⟨HrX, Hpos, HX3, HR3⟩
  iapply (for0 (lpB_trips hv (H.k32 _)))
  ihave HL : loopI d i O W X T cnt cls pos k p 0 $$ [HrX HrT Hcls Hpos Hcnt HO HT0 HX0 HR0 HT1 HX1 HR1 HT2 HX2 HR2 HT3 HX3 HR3]
  · unfold loopI slotB
    isplitr; · iexact Hmw
    isplitl [HrX]; · iexact HrX
    isplitl [HrT]; · iexact HrT
    isplitl [Hcls]; · iexact Hcls
    isplitl [Hpos]; · iexact Hpos
    isplitl [Hcnt]; · iexact Hcnt
    isplitl [HO]; · iexact HO
    isplitl [HT0 HX0 HR0]
    · isplitl [HT0]; · iexact HT0
      isplitl [HX0]; · iexact HX0
      iexact HR0
    isplitl [HT1 HX1 HR1]
    · isplitl [HT1]; · iexact HT1
      isplitl [HX1]; · iexact HX1
      iexact HR1
    isplitl [HT2 HX2 HR2]
    · isplitl [HT2]; · iexact HT2
      isplitl [HX2]; · iexact HX2
      iexact HR2
    isplitl [HT3]; · iexact HT3
    isplitl [HX3]; · iexact HX3
    iexact HR3
  iapply (wp_main (X := X) (T := T) (O := O) (W := W) H) $$ HL
  iintro HL
  iapply (for0 (t42_trips i))
  imod (loopI_end H) $$ HL with ⟨HrX, HrT, Hcls, Hpos, Hcnt, HO, H0, H1, H2, H3⟩
  iapply retWP
  isplitr
  · ipureintro; rfl
  isplitl [HrX]; · iexact HrX
  isplitl [HrT]; · iexact HrT
  isplitl [Hcls]; · iexact Hcls
  isplitl [Hpos]; · iexact Hpos
  isplitl [Hcnt]; · iexact Hcnt
  isplitl [HO]; · iexact HO
  isplitl [H0]; · iexact H0
  isplitl [H1]; · iexact H1
  isplitl [H2]; · iexact H2
  iexact H3

end Trip

end Cert.Proof.CL

end
-- ==== Proof.Body.lean ====
/- A tile's whole program. -/
module

public import proofs.«01_k».proof.Proof.ProC
public import proofs.«01_k».proof.Proof.ProD

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

section Trip

variable {cnt : Vec F S256 .i32} {cls pos : Vec F S8192 .i32} {k : ℕ → ℕ} {p w : ℕ → ℕ → ℕ}
  {X : Vec F S16384x64 .f32} {T : Vec F S64x1000064 .f32} {O : CellTallies nD τ sig (HIx 1)} {W : Waits sig (HIx 1)}

/-- The elements of a tile's row of the partial sums. -/
def SO (n : ℕ) : Finset S32x16.Idx := Finset.univ.filter fun y => (y 0).val = n

/-- A tile's partial sum from its tables. -/
def partA (X : Vec F S16384x64 .f32) (T : Vec F S64x1000064 .f32) (Lb : Vec F S16384 .i32) (n : ℕ) : Vec F S16 .f32 :=
  let q := accT X T (kN (lwN Lb) n) (pN (lwN Lb) n) (wN (lwN Lb) n) ((nbN n + 3) / 4)
  k0_pay1 q.1 q.2.1 q.2.2.1 q.2.2.2

/-- The partial sums of all the tiles. -/
def partsV (X : Vec F S16384x64 .f32) (T : Vec F S64x1000064 .f32) (Lb : Vec F S16384 .i32) : Vec F S32x16 .f32 :=
  fun y => partA X T Lb (y 0).val (lane (y 1))

/-- The row of the partial sums a tile writes. -/
abbrev oRow (i : grid0.Coords) : Memref sig .scVector .hbm S16 .f32 :=
  (oM.slice (Rect.unit (s := S32x16) (k0_off229 i) S1x16.size (k0_off229_inb i)) (fun _ => rfl)).squeeze S16 squeezes_S1x16_S16

theorem oRow_emb (y : S16.Idx) :
    (((oRow i).view.emb y : S32x16.Idx) 0).val = wid i ∧ (((oRow i).view.emb y : S32x16.Idx) 1).val = (y 0).val := by
  have e : ((oRow i).view.emb y : S32x16.Idx)
      = (Rect.unit (s := S32x16) (k0_off229 i) S1x16.size (k0_off229_inb i)).emb (Fin.cons ⟨0, Nat.one_pos⟩ y) := by
    show (Rect.unit (s := S32x16) (k0_off229 i) S1x16.size (k0_off229_inb i)).emb (Shape.reshapeEquiv _ y) = _
    congr 1
    exact Shape.reshapeEquiv_cons_one (n := 1) (d := ![16]) _ y
  have e0 : k0_off229 i 0 = wid i := congrFun (k0_off229_eq i) 0
  have e1 : k0_off229 i 1 = 0 := congrFun (k0_off229_eq i) 1
  rw [e]
  refine ⟨?_, ?_⟩
  · show k0_off229 i 0 + 1 * 0 = _; omega
  · show k0_off229 i 1 + 1 * (y 0).val = _; omega

theorem set_oRow : (oRow i).view.set = SO (wid i) := by
  ext x
  constructor
  · intro hx
    obtain ⟨y, -, rfl⟩ := Finset.mem_map.mp hx
    exact Finset.mem_filter.mpr ⟨Finset.mem_univ _, (oRow_emb y).1⟩
  · intro hx
    have hx0 := (Finset.mem_filter.mp hx).2
    refine Finset.mem_map.mpr ⟨lane ((x : S32x16.Idx) 1), Finset.mem_univ _, ?_⟩
    obtain ⟨e0, e1⟩ := oRow_emb (i := i) (lane ((x : S32x16.Idx) 1))
    funext a
    apply Fin.ext
    match a with
    | ⟨0, _⟩ => exact e0.trans hx0.symm
    | ⟨1, _⟩ => exact e1

theorem oRow_val {Lb : Vec F S16384 .i32} (fd : Vec F S32x16 .f32) :
    ∀ x ∈ (oRow i).view.set, (oRow i).view.write (Elt F) fd (partM.view.read (Elt F) (partA X T Lb (wid i))) Finset.univ x = partsV X T Lb x := by
  intro x hx
  obtain ⟨y, -, rfl⟩ := Finset.mem_map.mp hx
  rw [View.write_emb_of_mem _ _ (Finset.mem_univ _)]
  obtain ⟨e0, e1⟩ := oRow_emb (i := i) y
  show partA X T Lb (wid i) y = partA X T Lb (((oRow i).view.emb y : S32x16.Idx) 0).val (lane (((oRow i).view.emb y : S32x16.Idx) 1))
  rw [e0]
  congr 1
  funext a
  apply Fin.ext
  match a with
  | ⟨0, _⟩ => exact e1.symm

theorem ld_part {f : Vec F S16 .f32} {off : Fin 1 → ℕ} {h : ∀ a, off a + S16.size a ≤ S16.size a}
    {hl : partM.view.LoadsAt (Rect.unit (s := S16) off S16.size h).toLoadRect} {k : (S16.Idx → F .f32) → TProg F i α} {Q : α → sProp 𝕄} :
    partP d i f ⊢ iprop((partP d i f -∗ WP d i (k (partM.view.readAt (Elt F) (Rect.unit (s := S16) off S16.size h).toLoadRect f)) Q)
      -∗ WP d i (.op (.load partM (Rect.unit (s := S16) off S16.size h).toLoadRect hl) k) Q) :=
  wp_load (defs := defs₀ (F := F)) 𝒱₀ (thr d i) none Set.univ (Q := Q) (m := partM) (hl := hl) (k := k) (S := Finset.univ) (q := fullShare) (f := f) (Finset.subset_univ _)

/-- What a copy of a row of partial sums credits. -/
abbrev NO : ℕ := sig.dmaCredit .scVector (Kind.scVector.table .hbm) (main_v2_scv : Ref sig .scVector).idx S16 .f32
theorem NO_pos : 0 < NO := sig.dmaCredit_pos _ _ _ _ _ (by decide)

theorem copyOut {f : Vec F S16 .f32} {fd G : Vec F S32x16 .f32} {hs hd' hs2 hd2}
    {hsem : (DmaTarget.here (oRow i) : DmaTarget nD τ sig (thr d i).2 .hbm S16 .f32).Typed .vmem (.dma cc0_scoped8.sem)}
    {k : PUnit.{1} → TProg F i α} {Q : α → sProp 𝕄}
    (hG : ∀ x ∈ (oRow i).view.set, (oRow i).view.write (Elt F) fd (partM.view.read (Elt F) f) Finset.univ x = G x) :
    iprop(□ MW d i O ∗ partP d i f ∗ (oLoc d ↦[SO (wid i)]{fullShare} fd) ∗ semVal ((thr d i), .dma cc0_scoped8.sem) 0 ∗ owW d i O W)
      ⊢ iprop((iprop(partP d i f ∗ (oLoc d ↦[SO (wid i)]{fullShare} G) ∗ semVal ((thr d i), .dma cc0_scoped8.sem) 0 ∗ owW d i O W) -∗ WP d i (k ⟨⟩) Q)
        -∗ WP d i (.op (.enqueueDma partM (.here (oRow i)) (.dma cc0_scoped8.sem) hs hd' hsem) fun _ =>
            .op (.waitDma2 cc0_scoped8.sem partM (oRow i) hs2 hd2) k) Q) := by
  have epart : (partM.view.loc (thr d i) ↦[partM.view.set]{fullShare} f : sProp 𝕄) = partP d i f := by
    simp only [Memref.view_whole, View.set_whole]
  have eo : ∀ g : Vec F S32x16 .f32, (oLoc d ↦[SO (wid i)]{fullShare} g : sProp 𝕄) = (oRow i).view.loc (thr d i) ↦[(oRow i).view.set]{fullShare} g := by
    intro g; rw [set_oRow]
  rw [eo, eo, ← epart]
  unfold owW
  iintro ⟨#Hmw, Hp, Ho, Hs, ⟨%W', %hW, HO⟩⟩ HK
  iapply (Transfers.wp_dmaLocal countersEmb 𝒱₀ (thr d i) none (none : HIx 1) NO rfl NO_pos (Finset.Subset.refl _) (fd := fd) (fs := f)) $$ [Hp Ho Hs]
  · isplitl [Hp]; · iexact Hp
    isplitl [Ho]; · iexact Ho
    iexact Hs
  iintro Hf
  iapply (Transfers.wp_waitLocalO countersEmb 𝒱₀ (thr d i) none (none : HIx 1) (N := NO) rfl) $$ [Hf HO]
  · isplitl [Hf]; · iexact Hf
    isplitl [HO]; · iexact HO
    iapply (Transfers.MayWaits.elim (SemLoc.dma cc0_scoped8.sem)) $$ Hmw
  iintro ⟨⟨Ho, Hp⟩, Hs, HO⟩
  iapply HK
  isplitl [Hp]; · iexact Hp
  isplitl [Ho]
  · rw [show ((oRow i).view.loc (thr d i) ↦[(oRow i).view.set]{fullShare} G : sProp 𝕄)
      = (oRow i).view.loc (thr d i) ↦[(oRow i).view.set]{fullShare} (oRow i).view.write (Elt F) fd (ReadAs.same.apply (partM.view.read (Elt F) f)) Finset.univ from
      (pointsTo_congr hG).symm]
    iexact Ho
  isplitl [Hs]; · iexact Hs
  iexists (insert (SemLoc.dma cc0_scoped8.sem, (none : HIx 1)) W')
  isplitr
  · ipureintro
    intro q hq
    rcases Finset.mem_insert.mp hq with hq | hq
    · exact .inr (congrArg Prod.snd hq)
    · exact hW q hq
  · iexact HO

variable {Lb : Vec F S16384 .i32} {fl : Vec F S2048 .i32} {fc fp : Vec F S8192 .i32} {f : Vec F S256 .i32} {fq : Vec F S16 .f32} {fo : Vec F S32x16 .f32}

/-- The tables and the partial sum they give, as a block's count, positions and labels. -/
theorem tabOf {cnt : Vec F S256 .i32} {cls pos : Vec F S8192 .i32} (hI : Inv (lwN Lb) (loN (wid i)) (hiN (wid i)) 16384 cnt cls pos) :
    ∃ (k : ℕ → ℕ) (p w : ℕ → ℕ → ℕ), Tab (nbN (wid i)) (loN (wid i)) k p w cnt cls pos
      ∧ ∀ q0 q1 q2 q3, (q0, q1, q2, q3) = accT X T k p w (nT i) → k0_pay1 q0 q1 q2 q3 = partA X T Lb (wid i) := by
  refine ⟨_, _, _, hI.tab, fun q0 q1 q2 q3 h => ?_⟩
  unfold partA
  rw [show (nbN (wid i) + 3) / 4 = nT i from rfl, ← h]

attribute [local irreducible] k0_part96 k0_part99 in
set_option maxRecDepth 65536 in
set_option maxHeartbeats 800000 in
/-- A tile's program, from its scratch at anything to its row of the partial sums. -/
theorem wp_body :
    iprop(□ MW d i O ∗ owW d i O W ∗ rd (xLoc d) X ∗ rd (lLoc d) Lb ∗ rd (tLoc d) T ∗ labP d i fl ∗ clsP d i fc ∗ posP d i fp ∗ cntP d i f ∗ partP d i fq
        ∗ slotF (F := F) d i 0 cc0_scratch7.sem cc0_scratch11.sem ∗ slotF (F := F) d i 1 cc0_scratch8.sem cc0_scratch12.sem ∗ slotF (F := F) d i 2 cc0_scratch9.sem cc0_scratch13.sem ∗ slotF (F := F) d i 3 cc0_scratch10.sem cc0_scratch14.sem ∗ semVal ((thr d i), .dma cc0_scoped0.sem) 0 ∗ semVal ((thr d i), .dma cc0_scoped1.sem) 0 ∗ semVal ((thr d i), .dma cc0_scoped2.sem) 0 ∗ semVal ((thr d i), .dma cc0_scoped3.sem) 0 ∗ semVal ((thr d i), .dma cc0_scoped4.sem) 0 ∗ semVal ((thr d i), .dma cc0_scoped5.sem) 0 ∗ semVal ((thr d i), .dma cc0_scoped6.sem) 0 ∗ semVal ((thr d i), .dma cc0_scoped7.sem) 0 ∗ semVal ((thr d i), .dma cc0_scoped8.sem) 0 ∗ (oLoc d ↦[SO (wid i)]{fullShare} fo))
      ⊢ WP d i (cc0__sc_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8) fun _ =>
        iprop((oLoc d ↦[SO (wid i)]{fullShare} partsV X T Lb) ∗ owW d i O W ∗ (∃ f, labP d i f) ∗ (∃ f, clsP d i f) ∗ (∃ f, posP d i f) ∗ (∃ f, cntP d i f) ∗ (∃ f, partP d i f)
          ∗ slotF (F := F) d i 0 cc0_scratch7.sem cc0_scratch11.sem ∗ slotF (F := F) d i 1 cc0_scratch8.sem cc0_scratch12.sem ∗ slotF (F := F) d i 2 cc0_scratch9.sem cc0_scratch13.sem ∗ slotF (F := F) d i 3 cc0_scratch10.sem cc0_scratch14.sem ∗ semVal ((thr d i), .dma cc0_scoped0.sem) 0 ∗ semVal ((thr d i), .dma cc0_scoped1.sem) 0 ∗ semVal ((thr d i), .dma cc0_scoped2.sem) 0 ∗ semVal ((thr d i), .dma cc0_scoped3.sem) 0 ∗ semVal ((thr d i), .dma cc0_scoped4.sem) 0 ∗ semVal ((thr d i), .dma cc0_scoped5.sem) 0 ∗ semVal ((thr d i), .dma cc0_scoped6.sem) 0 ∗ semVal ((thr d i), .dma cc0_scoped7.sem) 0 ∗ semVal ((thr d i), .dma cc0_scoped8.sem) 0) := by
  rw [cc0__sc_body_eq_skeleton]
  unfold cc0__sc_body_skel
  simp only [bind_assoc, Prog.lift, Prog.bind_op, Prog.bind_ret, Prog.pure_eq_ret]
  unfold slotF
  iintro ⟨#Hmw, HO, HrX, HrL, HrT, Hlab, Hcls, Hpos, Hcnt, Hpart, ⟨HT0, Hx0, HR0⟩, ⟨HT1, Hx1, HR1⟩, ⟨HT2, Hx2, HR2⟩, ⟨HT3, Hx3, HR3⟩, Hs0, Hs1, Hs2, Hs3, Hs4, Hs5, Hs6, Hs7, Hs8, Ho⟩
  iapply (cutWP (wp_part89 )) $$ [Hcnt]
  · iexact Hcnt
  iintro %r ⟨%hr, Hcnt⟩
  obtain ⟨v9, v10, v13, v14, v15, v16, v17, v20⟩ := r
  obtain ⟨rfl, rfl, rfl, rfl, rfl, rfl, rfl, rfl⟩ := hr
  try dsimp only
  iapply (cutWP (wp_part90 (O := O) (W := W))) $$ [HO HrL Hcnt Hcls Hpos Hlab Hs0 Hs1]
  · isplitr; · iexact Hmw
    isplitl [HO]; · iexact HO
    isplitl [HrL]; · iexact HrL
    isplitl [Hcnt]; · iexact Hcnt
    isplitl [Hcls]; · iexact Hcls
    isplitl [Hpos]; · iexact Hpos
    isplitl [Hlab]; · iexact Hlab
    isplitl [Hs0]; · iexact Hs0
    iexact Hs1
  iintro %r ⟨%hr, HO, HrL, HI, Hlab, Hs0, Hs1⟩
  try dsimp only
  subst hr
  iapply (cutWP (wp_part91 (O := O) (W := W))) $$ [HO HrL HI Hlab Hs2 Hs3 Hs4 Hs5]
  · isplitr; · iexact Hmw
    isplitl [HO]; · iexact HO
    isplitl [HrL]; · iexact HrL
    isplitl [HI]; · iexact HI
    isplitl [Hlab]; · iexact Hlab
    isplitl [Hs2]; · iexact Hs2
    isplitl [Hs3]; · iexact Hs3
    isplitl [Hs4]; · iexact Hs4
    iexact Hs5
  iintro %r ⟨%hr, HO, HrL, HI, HF, Hs2, Hs3, Hs4⟩
  try dsimp only
  iapply (cutWP (wp_part92 (O := O) (W := W))) $$ [HO HrL HI HF Hs6 Hs7]
  · isplitr; · iexact Hmw
    isplitl [HO]; · iexact HO
    isplitl [HrL]; · iexact HrL
    isplitl [HI]; · iexact HI
    isplitl [HF]; · iexact HF
    isplitl [Hs6]; · iexact Hs6
    iexact Hs7
  iintro %r ⟨%hr, HO, HrL, HI, Hlab, Hs5, Hs6, Hs7⟩
  obtain ⟨c0_i32_45, c16_i32, v45, v50, v52, v53⟩ := r
  try dsimp only
  unfold scI scatI
  icases HI with ⟨%cnt, %cls, %pos, %hI, Hcnt, Hcls, Hpos⟩
  obtain ⟨k, p, w, H, hA⟩ := tabOf (X := X) (T := T) hI
  clear hI
  iapply (cutWP (wp_part93 H c0_i32_45 c16_i32 v45 v50 v52 v53)) $$ [Hcnt]
  · iexact Hcnt
  iintro %r ⟨%hr, Hcnt⟩
  obtain ⟨c0_i32_66, v94⟩ := r
  dsimp only at hr
  have hc := hr
  try dsimp only
  iapply (cutWP (wp_part94 (T := T) H c0_i32_66 v94 hc)) $$ [HrT HT0 Hcnt]
  · isplitl [HrT]; · iexact HrT
    isplitl [HT0]; · iexact HT0
    iexact Hcnt
  iintro %r ⟨%hr, HrT, HT0, Hcnt⟩
  obtain ⟨v114, v134⟩ := r
  dsimp only at hr
  have h1 := hr
  try dsimp only
  iapply (cutWP (wp_part95 (X := X) H v114 v134 h1)) $$ [HrX Hpos Hx0 HR0 Hcnt]
  · isplitl [HrX]; · iexact HrX
    isplitl [Hpos]; · iexact Hpos
    isplitl [Hx0]; · iexact Hx0
    isplitl [HR0]; · iexact HR0
    iexact Hcnt
  iintro %r ⟨%hr, HrX, Hpos, HX0, HR0, Hcnt⟩
  obtain ⟨v166, c1_i32_105, c16_i32_106, v167, v169, c0_i32_108⟩ := r
  dsimp only at hr
  have h2 := hr
  try dsimp only
  iapply (cutWP (wp_part96 (T := T) H v166 c1_i32_105 c16_i32_106 v167 v169 c0_i32_108 h2)) $$ [HrT HT1 Hcnt]
  · isplitl [HrT]; · iexact HrT
    isplitl [HT1]; · iexact HT1
    iexact Hcnt
  iintro %r ⟨%hr, HrT, HT1, Hcnt⟩
  obtain ⟨v197, v208, v209, c0_i32_127⟩ := r
  try dsimp only
  iapply (cutWP (wp_part97 H v197 v208 v209 c0_i32_127)) $$ [Hcnt]
  · iexact Hcnt
  iintro %r ⟨%hr, Hcnt⟩
  obtain ⟨v242, k0_hw20, c1_i32_144, c0_i32_145, v248, c1_i32_147⟩ := r
  obtain ⟨h3, rfl, rfl, rfl⟩ := hr
  try dsimp only
  iapply (cutWP (wp_part98 (X := X) H v242 k0_hw20 v248 h3)) $$ [HrX Hpos Hx1 HR1 Hcnt]
  · isplitl [HrX]; · iexact HrX
    isplitl [Hpos]; · iexact Hpos
    isplitl [Hx1]; · iexact Hx1
    isplitl [HR1]; · iexact HR1
    iexact Hcnt
  iintro %r ⟨%hr, HrX, Hpos, HX1, HR1, Hcnt⟩
  obtain ⟨v268, v286, c2_i32_167⟩ := r
  dsimp only at hr
  have h4 := hr
  try dsimp only
  iapply (cutWP (wp_part99 (T := T) H v268 v286 c2_i32_167 h4)) $$ [HrT HT2 Hcnt]
  · isplitl [HrT]; · iexact HrT
    isplitl [HT2]; · iexact HT2
    iexact Hcnt
  iintro %r ⟨%hr, HrT, HT2, Hcnt⟩
  obtain ⟨v318, c2_i32_183, c16_i32_184, v319, v324, v325⟩ := r
  dsimp only at hr
  have h5 := hr
  try dsimp only
  iapply (cutWP (wp_part100 (X := X) H v318 c2_i32_183 c16_i32_184 v319 v324 v325 h5)) $$ [HrX Hpos Hx2 HR2]
  · isplitl [HrX]; · iexact HrX
    isplitl [Hpos]; · iexact Hpos
    isplitl [Hx2]; · iexact Hx2
    iexact HR2
  iintro %r ⟨%hr, HrX, Hpos, HX2, HR2⟩
  obtain ⟨c3_i32, c16_i32_202, v351, v362⟩ := r
  try dsimp only
  iapply (cutWP (wp_part101 (T := T) H c3_i32 c16_i32_202 v351 v362)) $$ [HrT HT3 Hcnt]
  · isplitl [HrT]; · iexact HrT
    isplitl [HT3]; · iexact HT3
    iexact Hcnt
  iintro %r ⟨%hr, HrT, HT3, Hcnt⟩
  obtain ⟨c3_i32_226, c16_i32_227⟩ := r
  try dsimp only
  iapply (cutWP (wp_part102 H c3_i32_226 c16_i32_227)) $$ [Hcnt]
  · iexact Hcnt
  iintro %r ⟨%hr, Hcnt⟩
  obtain ⟨v420, v441, v442⟩ := r
  dsimp only at hr
  have h6 := hr
  try dsimp only
  iapply (cutWP (wp_part103 (X := X) (T := T) (O := O) (W := W) H v420 v441 v442 h6)) $$ [HrX HrT Hcls Hpos Hcnt HO HT0 HX0 HR0 HT1 HX1 HR1 HT2 HX2 HR2 HT3 Hx3 HR3]
  · isplitr; · iexact Hmw
    isplitl [HrX]; · iexact HrX
    isplitl [HrT]; · iexact HrT
    isplitl [Hcls]; · iexact Hcls
    isplitl [Hpos]; · iexact Hpos
    isplitl [Hcnt]; · iexact Hcnt
    isplitl [HO]; · iexact HO
    isplitl [HT0]; · iexact HT0
    isplitl [HX0]; · iexact HX0
    isplitl [HR0]; · iexact HR0
    isplitl [HT1]; · iexact HT1
    isplitl [HX1]; · iexact HX1
    isplitl [HR1]; · iexact HR1
    isplitl [HT2]; · iexact HT2
    isplitl [HX2]; · iexact HX2
    isplitl [HR2]; · iexact HR2
    isplitl [HT3]; · iexact HT3
    isplitl [Hx3]; · iexact Hx3
    iexact HR3
  iintro %r ⟨%hr, HrX, HrT, Hcls, Hpos, Hcnt, HO, H0, H1, H2, H3⟩
  obtain ⟨q0, q1, q2, q3⟩ := r
  dsimp only at hr
  have hq := hr
  try dsimp only
  rw [hA q0 q1 q2 q3 hq]
  iapply ld_part $$ Hpart
  iintro Hpart
  iapply st_part $$ Hpart
  iintro Hpart
  iapply (copyOut (O := O) (W := W) (oRow_val (X := X) (T := T) (Lb := Lb) fo)) $$ [Hpart Ho Hs8 HO]
  · isplitr; · iexact Hmw
    isplitl [Hpart]; · iexact Hpart
    isplitl [Ho]; · iexact Ho
    isplitl [Hs8]; · iexact Hs8
    iexact HO
  iintro ⟨Hpart, Ho, Hs8, HO⟩
  iapply retWP
  unfold slotF
  isplitl [Ho]; · iexact Ho
  isplitl [HO]; · iexact HO
  isplitl [Hlab]; · iexists _; iexact Hlab
  isplitl [Hcls]; · iexists _; iexact Hcls
  isplitl [Hpos]; · iexists _; iexact Hpos
  isplitl [Hcnt]; · iexists _; iexact Hcnt
  isplitl [Hpart]; · iexists _; iexact Hpart
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexact Hs8

end Trip

end Cert.Proof.CL

end
-- ==== Proof.Tile.lean ====
/- A tile's run from its own scratch and semaphores, whole, back to them. -/
module

public import proofs.«01_k».proof.Proof.Body

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {i : grid0.Coords} {α : Type}

/-! ## The tile's semaphores and scratch among its own -/

theorem cell_ne {a b : DmaSem sig} (h : b ≠ a) : (((thr d i), .dma b) : GSem nD τ sig) ≠ ((thr d i), .dma a) :=
  fun e => h (SemLoc.dma.inj (Prod.mk.inj e).2)

theorem own_mem {g : DmaSem sig} (h : (SemLoc.dma g : SemLoc sig).isScoped .scVector = true) : (((thr d i), .dma g) : GSem nD τ sig) ∈ ownCells (thr d i) :=
  (mem_ownCells (g := ((thr d i), .dma g))).mpr ⟨rfl, h⟩

theorem ownSems0_V :
    (ownSems0 (thr d i) : sProp 𝕄)
      = iprop(semVal ((thr d i), .dma cc0_scratch7.sem) 0 ∗ semVal ((thr d i), .dma cc0_scratch8.sem) 0 ∗ semVal ((thr d i), .dma cc0_scratch9.sem) 0 ∗ semVal ((thr d i), .dma cc0_scratch10.sem) 0 ∗ semVal ((thr d i), .dma cc0_scratch11.sem) 0 ∗ semVal ((thr d i), .dma cc0_scratch12.sem) 0 ∗ semVal ((thr d i), .dma cc0_scratch13.sem) 0 ∗ semVal ((thr d i), .dma cc0_scratch14.sem) 0 ∗ semVal ((thr d i), .dma cc0_scoped0.sem) 0 ∗ semVal ((thr d i), .dma cc0_scoped1.sem) 0 ∗ semVal ((thr d i), .dma cc0_scoped2.sem) 0 ∗ semVal ((thr d i), .dma cc0_scoped3.sem) 0 ∗ semVal ((thr d i), .dma cc0_scoped4.sem) 0 ∗ semVal ((thr d i), .dma cc0_scoped5.sem) 0 ∗ semVal ((thr d i), .dma cc0_scoped6.sem) 0 ∗ semVal ((thr d i), .dma cc0_scoped7.sem) 0 ∗ semVal ((thr d i), .dma cc0_scoped8.sem) 0
          ∗ bigSep ((((((((((((((((((ownCells (thr d i)).erase ((thr d i), .dma cc0_scratch7.sem)).erase ((thr d i), .dma cc0_scratch8.sem)).erase ((thr d i), .dma cc0_scratch9.sem)).erase ((thr d i), .dma cc0_scratch10.sem)).erase ((thr d i), .dma cc0_scratch11.sem)).erase ((thr d i), .dma cc0_scratch12.sem)).erase ((thr d i), .dma cc0_scratch13.sem)).erase ((thr d i), .dma cc0_scratch14.sem)).erase ((thr d i), .dma cc0_scoped0.sem)).erase ((thr d i), .dma cc0_scoped1.sem)).erase ((thr d i), .dma cc0_scoped2.sem)).erase ((thr d i), .dma cc0_scoped3.sem)).erase ((thr d i), .dma cc0_scoped4.sem)).erase ((thr d i), .dma cc0_scoped5.sem)).erase ((thr d i), .dma cc0_scoped6.sem)).erase ((thr d i), .dma cc0_scoped7.sem)).erase ((thr d i), .dma cc0_scoped8.sem)) fun g => semVal g 0) := by
  unfold SparseCore.Cfg.ownSems0
  rw [SparseCore.bigSep_erase' (own_mem (g := cc0_scratch7.sem) (by decide)),
    SparseCore.bigSep_erase' (Finset.mem_erase.mpr ⟨cell_ne (by decide), (own_mem (g := cc0_scratch8.sem) (by decide))⟩),
    SparseCore.bigSep_erase' (Finset.mem_erase.mpr ⟨cell_ne (by decide), (Finset.mem_erase.mpr ⟨cell_ne (by decide), (own_mem (g := cc0_scratch9.sem) (by decide))⟩)⟩),
    SparseCore.bigSep_erase' (Finset.mem_erase.mpr ⟨cell_ne (by decide), (Finset.mem_erase.mpr ⟨cell_ne (by decide), (Finset.mem_erase.mpr ⟨cell_ne (by decide), (own_mem (g := cc0_scratch10.sem) (by decide))⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scratch11.sem) (by decide))⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scratch12.sem) (by decide))⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scratch13.sem) (by decide))⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scratch14.sem) (by decide))⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped0.sem) (by decide))⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped1.sem) (by decide))⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped2.sem) (by decide))⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped3.sem) (by decide))⟩)⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped4.sem) (by decide))⟩)⟩)⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped5.sem) (by decide))⟩)⟩)⟩)⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped6.sem) (by decide))⟩)⟩)⟩)⟩)⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped7.sem) (by decide))⟩)⟩)⟩)⟩)⟩)⟩)⟩)⟩)⟩)⟩)⟩)⟩)⟩)⟩)⟩),
    SparseCore.bigSep_erase' (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (Finset.mem_erase.mpr ⟨cell_ne (by decide), (own_mem (g := cc0_scoped8.sem) (by decide))⟩)⟩)⟩)⟩)⟩)⟩)⟩)⟩)⟩)⟩)⟩)⟩)⟩)⟩)⟩)⟩)]

theorem ownBufs_V :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f)
          ∗ bigSep ((((((((ownRefs (τ := τ) (.scVector (cV i) (jV i))).erase ((Proc.scVector (cV i) (jV i)).devRef cc0_scratch0)).erase ((Proc.scVector (cV i) (jV i)).devRef cc0_scratch1)).erase ((Proc.scVector (cV i) (jV i)).devRef cc0_scratch2)).erase ((Proc.scVector (cV i) (jV i)).devRef cc0_scratch3)).erase ((Proc.scVector (cV i) (jV i)).devRef cc0_scratch4)).erase ((Proc.scVector (cV i) (jV i)).devRef cc0_scratch5)).erase ((Proc.scVector (cV i) (jV i)).devRef cc0_scratch6)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := ((Proc.scVector (cV i) (jV i)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV i) (jV i)) (b := ((Proc.scVector (cV i) (jV i)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV i) (jV i)) (b := ((Proc.scVector (cV i) (jV i)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV i) (jV i)) (b := ((Proc.scVector (cV i) (jV i)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV i) (jV i)) (b := ((Proc.scVector (cV i) (jV i)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV i) (jV i)) (b := ((Proc.scVector (cV i) (jV i)).devRef cc0_scratch5)) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV i) (jV i)) (b := ((Proc.scVector (cV i) (jV i)).devRef cc0_scratch6)) rfl)⟩)⟩)⟩)⟩)⟩)⟩)]

/-! ## The slots' buffers among the two arrays of slots -/

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem SB_disj : ∀ t ∈ (Finset.univ : Finset (Fin 4)), ∀ t' ∈ (Finset.univ : Finset (Fin 4)), t ≠ t' → Disjoint (SB t.val) (SB t'.val) := by
  intro t _ t' _ h
  refine Finset.disjoint_left.mpr fun x h1 h2 => h (Fin.ext ?_)
  simp only [SB, Finset.mem_filter, Finset.mem_univ, true_and] at h1 h2
  omega
theorem SB_cover : (Finset.univ : Finset (Fin 4)).biUnion (fun q => SB q.val) = Finset.univ := by
  ext x
  simp only [SB, Finset.mem_biUnion, Finset.mem_filter, Finset.mem_univ, true_and, iff_true]
  exact ⟨⟨(x 0).val, (x 0).isLt⟩, rfl⟩

theorem SX_disj (q : ℕ) : ∀ t ∈ (Finset.univ : Finset (Fin 32)), ∀ t' ∈ (Finset.univ : Finset (Fin 32)), t ≠ t' → Disjoint (SX q t.val) (SX q t'.val) := by
  intro t _ t' _ h
  refine Finset.disjoint_left.mpr fun x h1 h2 => h (Fin.ext ?_)
  simp only [SX, Finset.mem_filter, Finset.mem_univ, true_and] at h1 h2
  omega

/-- The rows of one slot. -/
def SQ (q : ℕ) : Finset S4x32x64.Idx := (Finset.univ : Finset (Fin 32)).biUnion fun t => SX q t.val
theorem mem_SQ {q : ℕ} {x : S4x32x64.Idx} : x ∈ SQ q ↔ (x 0).val = q := by
  simp only [SQ, SX, Finset.mem_biUnion, Finset.mem_filter, Finset.mem_univ, true_and]
  exact ⟨fun ⟨_, h⟩ => h.1, fun h => ⟨⟨(x 1).val, (x 1).isLt⟩, h, rfl⟩⟩
theorem SQ_disj : ∀ t ∈ (Finset.univ : Finset (Fin 4)), ∀ t' ∈ (Finset.univ : Finset (Fin 4)), t ≠ t' → Disjoint (SQ t.val) (SQ t'.val) := by
  intro t _ t' _ h
  refine Finset.disjoint_left.mpr fun x h1 h2 => h (Fin.ext ?_)
  rw [mem_SQ] at h1 h2
  omega
theorem SQ_cover : (Finset.univ : Finset (Fin 4)).biUnion (fun q => SQ q.val) = Finset.univ := by
  ext x
  simp only [Finset.mem_biUnion, mem_SQ, Finset.mem_univ, true_and, iff_true]
  exact ⟨⟨(x 0).val, (x 0).isLt⟩, rfl⟩

theorem buf_out {f : Vec F S4x64x128 .f32} :
    ((thr d i).loc cc0_scratch4 ↦{fullShare} f : sProp 𝕄) ⊢ iprop(bufS d i 0 f ∗ bufS d i 1 f ∗ bufS d i 2 f ∗ bufS d i 3 f) := by
  have h := pointsTo_biUnion (ℓ := (thr d i).loc cc0_scratch4) (q := fullShare) (f := f) (Val := Elt F) (Ix := HIx 1) (Name := ℕ) (U := UU) (Lvl := ℕ) Finset.univ (fun q : Fin 4 => SB q.val) SB_disj
  rw [four] at h
  rw [show (Finset.univ : Finset (Idx ((thr d i).loc cc0_scratch4))) = (Finset.univ : Finset (Fin 4)).biUnion (fun q => SB q.val) from SB_cover.symm]
  exact Entails.of_eq h

theorem buf_in :
    iprop((∃ f : Vec F S4x64x128 .f32, bufS d i 0 f) ∗ (∃ f : Vec F S4x64x128 .f32, bufS d i 1 f) ∗ (∃ f : Vec F S4x64x128 .f32, bufS d i 2 f) ∗ (∃ f : Vec F S4x64x128 .f32, bufS d i 3 f))
      ⊢ (iprop(∃ f, (thr d i).loc cc0_scratch4 ↦{fullShare} f) : sProp 𝕄) := by
  iintro ⟨⟨%f0, H0⟩, ⟨%f1, H1⟩, ⟨%f2, H2⟩, ⟨%f3, H3⟩⟩
  ihave H := (Entails.of_eq (four (F := F) (fun q => bufS d i q.val ((![f0, f1, f2, f3] : Fin 4 → Vec F S4x64x128 .f32) q))).symm) $$ [H0 H1 H2 H3]
  · isplitl [H0]; · iexact H0
    isplitl [H1]; · iexact H1
    isplitl [H2]; · iexact H2
    iexact H3
  ihave H' := (pointsTo_biUnion_join (ℓ := (thr d i).loc cc0_scratch4) (q := fullShare) Finset.univ (fun q : Fin 4 => SB q.val) (![f0, f1, f2, f3] : Fin 4 → Vec F S4x64x128 .f32) f0 SB_disj) $$ H
  icases H' with ⟨%g, -, Hg⟩
  rw [SB_cover]
  iexists g; iexact Hg

theorem xf_intro {q : ℕ} {r : Fin 32} {f : Vec F S4x32x64 .f32} : (xrS d i q r.val f : sProp 𝕄) ⊢ xfree (F := F) d i q r := by
  unfold xfree
  iintro H
  iexists f; iexact H

theorem xr_out1 {q : ℕ} {f : Vec F S4x32x64 .f32} :
    ((thr d i).loc cc0_scratch5 ↦[SQ q]{fullShare} f : sProp 𝕄) ⊢ xRest (F := F) d i q 0 := by
  have h := pointsTo_biUnion (ℓ := (thr d i).loc cc0_scratch5) (q := fullShare) (f := f) (Val := Elt F) (Ix := HIx 1) (Name := ℕ) (U := UU) (Lvl := ℕ) Finset.univ (fun t : Fin 32 => SX q t.val) (SX_disj q)
  unfold xRest
  rw [Transfers.pending_zero]
  refine (Entails.of_eq h).trans (bigSep_mono fun r _ => ?_)
  exact xf_intro

theorem xr_in1 {q : ℕ} :
    xRest (F := F) d i q 0 ⊢ (iprop(∃ f : Vec F S4x32x64 .f32, (thr d i).loc cc0_scratch5 ↦[SQ q]{fullShare} f) : sProp 𝕄) := by
  unfold xRest
  rw [Transfers.pending_zero]
  haveI : Nonempty (Vec F S4x32x64 .f32) := ⟨constant S4x32x64 .f32 0#32⟩
  refine (bigSep_exists_pi Finset.univ (fun (r : Fin 32) (f : Vec F S4x32x64 .f32) => xrS d i q r.val f)).trans ?_
  iintro ⟨%fs, H⟩
  ihave H' := (pointsTo_biUnion_join (ℓ := (thr d i).loc cc0_scratch5) (q := fullShare) Finset.univ (fun t : Fin 32 => SX q t.val) fs (fs 0) (SX_disj q)) $$ H
  icases H' with ⟨%g, -, Hg⟩
  iexists g; iexact Hg

theorem xr_out {f : Vec F S4x32x64 .f32} :
    ((thr d i).loc cc0_scratch5 ↦{fullShare} f : sProp 𝕄) ⊢ iprop(xRest (F := F) d i 0 0 ∗ xRest (F := F) d i 1 0 ∗ xRest (F := F) d i 2 0 ∗ xRest (F := F) d i 3 0) := by
  have h := pointsTo_biUnion (ℓ := (thr d i).loc cc0_scratch5) (q := fullShare) (f := f) (Val := Elt F) (Ix := HIx 1) (Name := ℕ) (U := UU) (Lvl := ℕ) Finset.univ (fun q : Fin 4 => SQ q.val) SQ_disj
  rw [four] at h
  rw [show (Finset.univ : Finset (Idx ((thr d i).loc cc0_scratch5))) = (Finset.univ : Finset (Fin 4)).biUnion (fun q => SQ q.val) from SQ_cover.symm]
  refine (Entails.of_eq h).trans ?_
  iintro ⟨H0, H1, H2, H3⟩
  isplitl [H0]; · iapply xr_out1 $$ H0
  isplitl [H1]; · iapply xr_out1 $$ H1
  isplitl [H2]; · iapply xr_out1 $$ H2
  iapply xr_out1 $$ H3

theorem xr_in :
    iprop(xRest (F := F) d i 0 0 ∗ xRest (F := F) d i 1 0 ∗ xRest (F := F) d i 2 0 ∗ xRest (F := F) d i 3 0)
      ⊢ (iprop(∃ f, (thr d i).loc cc0_scratch5 ↦{fullShare} f) : sProp 𝕄) := by
  iintro ⟨K0, K1, K2, K3⟩
  ihave K0 := xr_in1 $$ K0
  ihave K1 := xr_in1 $$ K1
  ihave K2 := xr_in1 $$ K2
  ihave K3 := xr_in1 $$ K3
  icases K0 with ⟨%f0, H0⟩
  icases K1 with ⟨%f1, H1⟩
  icases K2 with ⟨%f2, H2⟩
  icases K3 with ⟨%f3, H3⟩
  ihave H := (Entails.of_eq (four (F := F) (fun q => (thr d i).loc cc0_scratch5 ↦[SQ q.val]{fullShare} ((![f0, f1, f2, f3] : Fin 4 → Vec F S4x32x64 .f32) q))).symm) $$ [H0 H1 H2 H3]
  · isplitl [H0]; · iexact H0
    isplitl [H1]; · iexact H1
    isplitl [H2]; · iexact H2
    iexact H3
  ihave H' := (pointsTo_biUnion_join (ℓ := (thr d i).loc cc0_scratch5) (q := fullShare) Finset.univ (fun q : Fin 4 => SQ q.val) (![f0, f1, f2, f3] : Fin 4 → Vec F S4x32x64 .f32) f0 SQ_disj) $$ H
  icases H' with ⟨%g, -, Hg⟩
  rw [SQ_cover]
  iexists g; iexact Hg

/-! ## The tile's run -/

variable {X : Vec F S16384x64 .f32} {T : Vec F S64x1000064 .f32} {Lb : Vec F S16384 .i32}

attribute [local irreducible] cc0__sc_body in
theorem tile_body (hF : (K (F := F)).Facts) (O : CellTallies nD τ sig (HIx 1)) (W : Waits sig (HIx 1)) (hO : ∀ g, O g none = 0) :
    iprop(levAts (K (F := F)).L (K (F := F)).lev ∗ emp
        ∗ (rd (xLoc d) X ∗ rd (lLoc d) Lb ∗ rd (tLoc d) T ∗ ∃ f, oLoc d ↦[SO (wid i)]{fullShare} f)
        ∗ scopedBufs (thr d i) ∗ scopedSems0 (thr d i) ∗ owes (thr d i) O W)
      ⊢ WP d i (cc0__sc_body (F := F) i xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8) fun _ =>
        iprop((oLoc d ↦[SO (wid i)]{fullShare} partsV X T Lb) ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  iintro ⟨#Hlv, -, ⟨HrX, HrL, HrT, ⟨%fo, Ho⟩⟩,
    ⟨⟨%fl, Hlab⟩, ⟨%fc, Hcls⟩, ⟨%fp, Hpos⟩, ⟨%fn, Hcnt⟩, ⟨%fb, Hbuf⟩, ⟨%fx, Hxr⟩, ⟨%fq, Hpart⟩, Hbufs⟩, ⟨S0, S1, S2, S3, S4, S5, S6, S7, S8, S9, S10, S11, S12, S13, S14, S15, S16, Hsems⟩, HO⟩
  ihave #Hmw := ((K (F := F)).mayWaits_none (thr := thr d i) hO) $$ Hlv
  ihave Hb := buf_out $$ Hbuf
  icases Hb with ⟨B0, B1, B2, B3⟩
  ihave Hx := xr_out $$ Hxr
  icases Hx with ⟨X0, X1, X2, X3⟩
  iapply (wp_wand Idealize.ShloMosaic.frame (wpE (defs₀ (F := F)) 𝒱₀ (thr d i) none) Set.univ) $$ [S0 S1 S2 S3 S4 S5 S6 S7 S8 S9 S10 S11 S12 S13 S14 S15 S16 HrX HrL HrT Ho Hlab Hcls Hpos Hcnt Hpart B0 B1 B2 B3 X0 X1 X2 X3 HO]
  · iapply (wp_body (X := X) (T := T) (O := O) (W := W) (Lb := Lb) (fl := fl) (fc := fc) (fp := fp) (f := fn) (fq := fq) (fo := fo))
    isplitr; · iexact Hmw
    isplitl [HO]
    · unfold owW; iexists W
      isplitr
      · ipureintro; exact fun p hp => .inl hp
      · iexact HO
    isplitl [HrX]; · iexact HrX
    isplitl [HrL]; · iexact HrL
    isplitl [HrT]; · iexact HrT
    isplitl [Hlab]; · iexact Hlab
    isplitl [Hcls]; · iexact Hcls
    isplitl [Hpos]; · iexact Hpos
    isplitl [Hcnt]; · iexact Hcnt
    isplitl [Hpart]; · iexact Hpart
    isplitl [S0 S4 B0 X0]
    · unfold slotF
      isplitl [S0 B0]
      · isplitl [S0]; · iexact S0
        iexists fb; iexact B0
      isplitl [S4]; · iexact S4
      iexact X0
    isplitl [S1 S5 B1 X1]
    · unfold slotF
      isplitl [S1 B1]
      · isplitl [S1]; · iexact S1
        iexists fb; iexact B1
      isplitl [S5]; · iexact S5
      iexact X1
    isplitl [S2 S6 B2 X2]
    · unfold slotF
      isplitl [S2 B2]
      · isplitl [S2]; · iexact S2
        iexists fb; iexact B2
      isplitl [S6]; · iexact S6
      iexact X2
    isplitl [S3 S7 B3 X3]
    · unfold slotF
      isplitl [S3 B3]
      · isplitl [S3]; · iexact S3
        iexists fb; iexact B3
      isplitl [S7]; · iexact S7
      iexact X3
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact Ho
  iintro %r ⟨Ho, HO, Hlab, Hcls, Hpos, Hcnt, Hpart, L0, L1, L2, L3, S8, S9, S10, S11, S12, S13, S14, S15, S16⟩
  unfold slotF
  icases L0 with ⟨⟨S0, B0⟩, S4, X0⟩
  icases L1 with ⟨⟨S1, B1⟩, S5, X1⟩
  icases L2 with ⟨⟨S2, B2⟩, S6, X2⟩
  icases L3 with ⟨⟨S3, B3⟩, S7, X3⟩
  isplitl [Ho]; · iexact Ho
  isplitl [Hlab Hcls Hpos Hcnt Hpart B0 B1 B2 B3 X0 X1 X2 X3 Hbufs]
  · isplitl [Hlab]; · iexact Hlab
    isplitl [Hcls]; · iexact Hcls
    isplitl [Hpos]; · iexact Hpos
    isplitl [Hcnt]; · iexact Hcnt
    isplitl [B0 B1 B2 B3]
    · iapply buf_in
      isplitl [B0]; · iexact B0
      isplitl [B1]; · iexact B1
      isplitl [B2]; · iexact B2
      iexact B3
    isplitl [X0 X1 X2 X3]
    · iapply xr_in
      isplitl [X0]; · iexact X0
      isplitl [X1]; · iexact X1
      isplitl [X2]; · iexact X2
      iexact X3
    isplitl [Hpart]; · iexact Hpart
    iexact Hbufs
  isplitl [S0 S1 S2 S3 S4 S5 S6 S7 S8 S9 S10 S11 S12 S13 S14 S15 S16 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact Hsems
  unfold owW
  iexact HO

end Cert.Proof.CL

end
-- ==== Proof.Launch.lean ====
/- The launch: what the handshakes carry, the host operations around the call, and the program's run. -/
module

public import proofs.«01_k».proof.Proof.Tile

@[expose] public section

noncomputable section

namespace Cert.Proof.CL

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What is read can be shared out as often as wanted -/

theorem rd_many {ℓ : Loc nD τ sig} {f : Buf (Elt F) ℓ} {I : Type} (S : Finset I) : (rd ℓ f : sProp 𝕄) ⊢ bigSep S fun _ => rd ℓ f := by
  classical
  induction S using Finset.induction_on with
  | empty => rw [bigSep_empty]; iintro -; iempintro
  | insert t S ht ih =>
    rw [SparseCore.bigSep_insert' ht]
    iintro H
    ihave H' := (rd_split (Finset.univ)) $$ H
    icases H' with ⟨H1, H2⟩
    isplitl [H2]
    · unfold rd; iexact H2
    · iapply ih $$ H1

theorem rd_two {ℓ : Loc nD τ sig} {f : Buf (Elt F) ℓ} : (rd ℓ f : sProp 𝕄) ⊢ iprop(rd ℓ f ∗ rd ℓ f) := by
  iintro H
  ihave H' := (rd_split (Finset.univ)) $$ H
  icases H' with ⟨H1, H2⟩
  isplitl [H1]; · iexact H1
  unfold rd; iexact H2

instance rd_storable {ℓ : Loc nD τ sig} {f : Buf (Elt F) ℓ} : BI.Storable (upEmb : UEmb _ 𝕄) (rd ℓ f) := by unfold rd; infer_instance

/-! ## The rows of the partial sums by SparseCore -/

/-- The rows of the partial sums of one SparseCore's tiles. -/
def SCr (c : ℕ) : Finset S32x16.Idx := (Finset.univ : Finset (Fin 16)).biUnion fun i => SO (2 * i.val + c)

theorem mem_SCr {c : ℕ} (hc : c < 2) {y : S32x16.Idx} : y ∈ SCr c ↔ (y 0).val % 2 = c := by
  have hy : (y 0).val < 32 := (y 0).isLt
  simp only [SCr, SO, Finset.mem_biUnion, Finset.mem_filter, Finset.mem_univ, true_and]
  constructor
  · rintro ⟨i, h⟩; omega
  · intro h; exact ⟨⟨(y 0).val / 2, by omega⟩, by show (y 0).val = 2 * ((y 0).val / 2) + c; omega⟩

theorem SO_disj (c : ℕ) : ∀ t ∈ (Finset.univ : Finset (Fin 16)), ∀ t' ∈ (Finset.univ : Finset (Fin 16)), t ≠ t' → Disjoint (SO (2 * t.val + c)) (SO (2 * t'.val + c)) := by
  intro t _ t' _ h
  refine Finset.disjoint_left.mpr fun x h1 h2 => h (Fin.ext ?_)
  simp only [SO, Finset.mem_filter, Finset.mem_univ, true_and] at h1 h2
  omega

theorem SCr_disj : Disjoint (SCr 0) (SCr 1) := by
  refine Finset.disjoint_left.mpr fun x h1 h2 => ?_
  rw [mem_SCr (by omega)] at h1 h2
  omega

theorem SCr_cover : SCr 0 ∪ SCr 1 = Finset.univ := by
  ext x
  simp only [Finset.mem_union, mem_SCr (show 0 < 2 by omega), mem_SCr (show 1 < 2 by omega), Finset.mem_univ, iff_true]
  omega

theorem out_tiles (d : Dev nD) (c : ℕ) (f : Buf (Elt F) (oLoc d)) :
    (oLoc d ↦[SCr c]{fullShare} f : sProp 𝕄) = bigSep Finset.univ fun i : Fin 16 => oLoc d ↦[SO (2 * i.val + c)]{fullShare} f :=
  pointsTo_biUnion (ℓ := oLoc d) (q := fullShare) (f := f) Finset.univ (fun i : Fin 16 => SO (2 * i.val + c)) (SO_disj c)

theorem out_cores (d : Dev nD) (f : Buf (Elt F) (oLoc d)) :
    (oLoc d ↦{fullShare} f : sProp 𝕄) ⊣⊢ iprop((oLoc d ↦[SCr 0]{fullShare} f) ∗ oLoc d ↦[SCr 1]{fullShare} f) := by
  have h := pointsTo_union (ℓ := oLoc d) (q := fullShare) (f := f) (Val := Elt F) (Ix := HIx 1) (Name := ℕ) (U := UU) (Lvl := ℕ) SCr_disj
  rw [SCr_cover] at h
  exact h

variable (m : (ℓ : Loc nD τ sig) → Buf (Elt F) ℓ) (ρ : Dev nD → PrngReg)

/-! ## The host's operations -/

abbrev op1 : HloOp τ sig (Elt F) := (StableHlo.nullary main_c (constantI S_ 32 0#32))
abbrev op2 : HloOp τ sig (Elt F) := (StableHlo.TRef.unary (.of main_c : StableHlo.TRef sig ⟨S_, .i32⟩) main_call0.v0 (sitofp .f32))
abbrev op3 : HloOp τ sig (Elt F) := (StableHlo.TRef.binary (.of main_arg2 : StableHlo.TRef sig ⟨S1000000x64, .f32⟩) main_call0.v0 main_call0.v1 (fun x v => pad S1000064x64 ![0, 0] ![64, 0] ![0, 0] x v pads_S1000000x64_S1000064x64_0640_000 h_S_))
abbrev op4 : HloOp τ sig (Elt F) := (StableHlo.unary main_v0 main_v1 ((transpose S64x1000064 [1, 0] · transposes_S1000064x64_S64x1000064_1_0) : (⟨S1000064x64, .f32⟩ : BufTy).Contents (Elt F) → (⟨S64x1000064, .f32⟩ : BufTy).Contents (Elt F)))
abbrev op5 : HloOp τ sig (Elt F) := (StableHlo.nullary main_cst (constant S_ .f32 0x00000000#32))
abbrev op6 : HloOp τ sig (Elt F) := (StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)))
abbrev op7 : HloOp τ sig (Elt F) := (StableHlo.nullary main_cst_0 (constant S_ .f32 0x35800000#32))
abbrev op8 : HloOp τ sig (Elt F) := (StableHlo.binary main_v3 main_cst_0 main_v4 (mulf : (⟨S_, .f32⟩ : BufTy).Contents (Elt F) → (⟨S_, .f32⟩ : BufTy).Contents (Elt F) → (⟨S_, .f32⟩ : BufTy).Contents (Elt F)))

/-- The TensorCore's arrays. -/
abbrev SA : Finset (DevRef τ sig) := {(Proc.devRef .tc (main_arg0 : Ref sig .tc)), (Proc.devRef .tc (main_arg1 : Ref sig .tc)), (Proc.devRef .tc (main_v1 : Ref sig .tc)), (Proc.devRef .tc (main_v2 : Ref sig .tc)), (Proc.devRef .tc (main_arg2 : Ref sig .tc)), (Proc.devRef .tc (main_c : Ref sig .tc)), (Proc.devRef .tc (main_call0_v0 : Ref sig .tc)), (Proc.devRef .tc (main_v0 : Ref sig .tc)), (Proc.devRef .tc (main_cst : Ref sig .tc)), (Proc.devRef .tc (main_v3 : Ref sig .tc)), (Proc.devRef .tc (main_cst_0 : Ref sig .tc)), (Proc.devRef .tc (main_v4 : Ref sig .tc))}
/-- The arrays of the operations after the call. -/
abbrev SZ : Finset (DevRef τ sig) := {(Proc.devRef .tc (main_v2 : Ref sig .tc)), (Proc.devRef .tc (main_cst : Ref sig .tc)), (Proc.devRef .tc (main_v3 : Ref sig .tc)), (Proc.devRef .tc (main_cst_0 : Ref sig .tc)), (Proc.devRef .tc (main_v4 : Ref sig .tc))}

def V0 (d : Dev nD) : Valuation τ sig (Elt F) := fun b => m (d, b)
/-- The arrays as the call finds them. -/
def V4 (d : Dev nD) : Valuation τ sig (Elt F) := op4.result (op3.result (op2.result (op1.result (V0 m d))))
/-- The table of the kernel: the class centers, padded and transposed. -/
def tabT (d : Dev nD) : Vec F S64x1000064 .f32 := V4 m d (Proc.devRef .tc (main_v1 : Ref sig .tc))
def outP (d : Dev nD) : Vec F S32x16 .f32 := partsV (m (xLoc d)) (tabT m d) (m (lLoc d))
def V5 (d : Dev nD) : Valuation τ sig (Elt F) := Function.update (V4 m d) (Proc.devRef .tc (main_v2 : Ref sig .tc)) (outP m d)
def V9 (d : Dev nD) : Valuation τ sig (Elt F) := op8.result (op7.result (op6.result (op5.result (V5 m d))))
abbrev vLoc (d : Dev nD) : Loc nD τ sig := (SparseCore.T d).loc main_v4
/-- The program's result. -/
def resV (d : Dev nD) : Buf (Elt F) (vLoc d) := V9 m d (Proc.devRef .tc (main_v4 : Ref sig .tc))

theorem held_SA (d : Dev nD) (W : Valuation τ sig (Elt F)) :
    (held (T d) SA W : sProp 𝕄) = iprop(((SparseCore.T d).loc main_arg0 ↦{fullShare} W (Proc.devRef .tc (main_arg0 : Ref sig .tc))) ∗ ((SparseCore.T d).loc main_arg1 ↦{fullShare} W (Proc.devRef .tc (main_arg1 : Ref sig .tc))) ∗ ((SparseCore.T d).loc main_v1 ↦{fullShare} W (Proc.devRef .tc (main_v1 : Ref sig .tc))) ∗ ((SparseCore.T d).loc main_v2 ↦{fullShare} W (Proc.devRef .tc (main_v2 : Ref sig .tc))) ∗ ((SparseCore.T d).loc main_arg2 ↦{fullShare} W (Proc.devRef .tc (main_arg2 : Ref sig .tc))) ∗ ((SparseCore.T d).loc main_c ↦{fullShare} W (Proc.devRef .tc (main_c : Ref sig .tc))) ∗ ((SparseCore.T d).loc main_call0_v0 ↦{fullShare} W (Proc.devRef .tc (main_call0_v0 : Ref sig .tc))) ∗ ((SparseCore.T d).loc main_v0 ↦{fullShare} W (Proc.devRef .tc (main_v0 : Ref sig .tc))) ∗ ((SparseCore.T d).loc main_cst ↦{fullShare} W (Proc.devRef .tc (main_cst : Ref sig .tc))) ∗ ((SparseCore.T d).loc main_v3 ↦{fullShare} W (Proc.devRef .tc (main_v3 : Ref sig .tc))) ∗ ((SparseCore.T d).loc main_cst_0 ↦{fullShare} W (Proc.devRef .tc (main_cst_0 : Ref sig .tc))) ∗ ((SparseCore.T d).loc main_v4 ↦{fullShare} W (Proc.devRef .tc (main_v4 : Ref sig .tc)))) := by
  unfold held SA
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_SZ (d : Dev nD) (W : Valuation τ sig (Elt F)) :
    (held (T d) SZ W : sProp 𝕄) = iprop(((SparseCore.T d).loc main_v2 ↦{fullShare} W (Proc.devRef .tc (main_v2 : Ref sig .tc))) ∗ ((SparseCore.T d).loc main_cst ↦{fullShare} W (Proc.devRef .tc (main_cst : Ref sig .tc))) ∗ ((SparseCore.T d).loc main_v3 ↦{fullShare} W (Proc.devRef .tc (main_v3 : Ref sig .tc))) ∗ ((SparseCore.T d).loc main_cst_0 ↦{fullShare} W (Proc.devRef .tc (main_cst_0 : Ref sig .tc))) ∗ ((SparseCore.T d).loc main_v4 ↦{fullShare} W (Proc.devRef .tc (main_v4 : Ref sig .tc)))) := by
  unfold held SZ
  rw [SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_v1 ↦{fullShare} W main_v1) ∗ ((SparseCore.T d).loc main_v2 ↦{fullShare} W main_v2) ∗ ((SparseCore.T d).loc main_arg2 ↦{fullShare} W main_arg2) ∗ ((SparseCore.T d).loc main_c ↦{fullShare} W main_c) ∗ ((SparseCore.T d).loc main_call0_v0 ↦{fullShare} W main_call0_v0) ∗ ((SparseCore.T d).loc main_v0 ↦{fullShare} W main_v0) ∗ ((SparseCore.T d).loc main_cst ↦{fullShare} W main_cst) ∗ ((SparseCore.T d).loc main_v3 ↦{fullShare} W main_v3) ∗ ((SparseCore.T d).loc main_cst_0 ↦{fullShare} W main_cst_0) ∗ ((SparseCore.T d).loc main_v4 ↦{fullShare} W main_v4)) := by
  unfold unscopedBufs
  rw [show (Finset.univ.filter fun b : Ref sig .tc => ¬ b.isScoped) = {main_arg0, main_arg1, main_v1, main_v2, main_arg2, main_c, main_call0_v0, main_v0, main_cst, main_v3, main_cst_0, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) SA (V0 m d) := by
  rw [unscopedBufs_eq, held_SA]; rfl

theorem h1 : (op1 (F := F)).bufs ⊆ SA := by show ({(Proc.devRef .tc (main_c : Ref sig .tc))} : Finset (DevRef τ sig)) ⊆ SA; decide
theorem h2 : (op2 (F := F)).bufs ⊆ SA := by show ({(Proc.devRef .tc (main_c : Ref sig .tc)), (Proc.devRef .tc (main_call0_v0 : Ref sig .tc))} : Finset (DevRef τ sig)) ⊆ SA; decide
theorem h3 : (op3 (F := F)).bufs ⊆ SA := by show ({(Proc.devRef .tc (main_arg2 : Ref sig .tc)), (Proc.devRef .tc (main_call0_v0 : Ref sig .tc)), (Proc.devRef .tc (main_v0 : Ref sig .tc))} : Finset (DevRef τ sig)) ⊆ SA; decide
theorem h4 : (op4 (F := F)).bufs ⊆ SA := by show ({(Proc.devRef .tc (main_v0 : Ref sig .tc)), (Proc.devRef .tc (main_v1 : Ref sig .tc))} : Finset (DevRef τ sig)) ⊆ SA; decide
theorem h5 : (op5 (F := F)).bufs ⊆ SZ := by show ({(Proc.devRef .tc (main_cst : Ref sig .tc))} : Finset (DevRef τ sig)) ⊆ SZ; decide
theorem h6 : (op6 (F := F)).bufs ⊆ SZ := by show ({(Proc.devRef .tc (main_v2 : Ref sig .tc)), (Proc.devRef .tc (main_cst : Ref sig .tc)), (Proc.devRef .tc (main_v3 : Ref sig .tc))} : Finset (DevRef τ sig)) ⊆ SZ; decide
theorem h7 : (op7 (F := F)).bufs ⊆ SZ := by show ({(Proc.devRef .tc (main_cst_0 : Ref sig .tc))} : Finset (DevRef τ sig)) ⊆ SZ; decide
theorem h8 : (op8 (F := F)).bufs ⊆ SZ := by show ({(Proc.devRef .tc (main_v3 : Ref sig .tc)), (Proc.devRef .tc (main_cst_0 : Ref sig .tc)), (Proc.devRef .tc (main_v4 : Ref sig .tc))} : Finset (DevRef τ sig)) ⊆ SZ; decide

theorem V4_of (d : Dev nD) (b : Ref sig .tc) (h : b ≠ main_c ∧ b ≠ main_call0_v0 ∧ b ≠ main_v0 ∧ b ≠ main_v1) :
    V4 m d (Proc.devRef .tc b) = m ((SparseCore.T d).loc b) := by
  unfold V4
  rw [HloOp.result_of_not_mem _ _ (show Proc.devRef .tc b ∉ ({(Proc.devRef .tc (main_v1 : Ref sig .tc))} : Finset (DevRef τ sig)) from fun e => h.2.2.2 (Proc.devRef_injective _ (Finset.mem_singleton.mp e))),
    HloOp.result_of_not_mem _ _ (show Proc.devRef .tc b ∉ ({(Proc.devRef .tc (main_v0 : Ref sig .tc))} : Finset (DevRef τ sig)) from fun e => h.2.2.1 (Proc.devRef_injective _ (Finset.mem_singleton.mp e))),
    HloOp.result_of_not_mem _ _ (show Proc.devRef .tc b ∉ ({(Proc.devRef .tc (main_call0_v0 : Ref sig .tc))} : Finset (DevRef τ sig)) from fun e => h.2.1 (Proc.devRef_injective _ (Finset.mem_singleton.mp e))),
    HloOp.result_of_not_mem _ _ (show Proc.devRef .tc b ∉ ({(Proc.devRef .tc (main_c : Ref sig .tc))} : Finset (DevRef τ sig)) from fun e => h.1 (Proc.devRef_injective _ (Finset.mem_singleton.mp e)))]
  rfl

theorem held_V4 (d : Dev nD) :
    (held (T d) SA (op4.result (op3.result (op2.result (op1.result (V0 m d))))) : sProp 𝕄) ⊢ iprop((xLoc d ↦{fullShare} m (xLoc d)) ∗ (lLoc d ↦{fullShare} m (lLoc d)) ∗ (tLoc d ↦{fullShare} tabT m d)
      ∗ (oLoc d ↦{fullShare} V4 m d (Proc.devRef .tc (main_v2 : Ref sig .tc))) ∗ (cLoc d ↦{fullShare} m (cLoc d))
      ∗ ((SparseCore.T d).loc main_cst ↦{fullShare} V4 m d (Proc.devRef .tc (main_cst : Ref sig .tc))) ∗ ((SparseCore.T d).loc main_v3 ↦{fullShare} V4 m d (Proc.devRef .tc (main_v3 : Ref sig .tc))) ∗ ((SparseCore.T d).loc main_cst_0 ↦{fullShare} V4 m d (Proc.devRef .tc (main_cst_0 : Ref sig .tc))) ∗ ((SparseCore.T d).loc main_v4 ↦{fullShare} V4 m d (Proc.devRef .tc (main_v4 : Ref sig .tc)))) := by
  rw [show op4.result (op3.result (op2.result (op1.result (V0 m d)))) = V4 m d from rfl, held_SA, V4_of m d main_arg0 (by decide), V4_of m d main_arg1 (by decide), V4_of m d main_arg2 (by decide)]
  iintro ⟨Hx, Hl, Ht, Ho, Hc, -, -, -, H1, H2, H3, H4⟩
  isplitl [Hx]; · iexact Hx
  isplitl [Hl]; · iexact Hl
  isplitl [Ht]; · iexact Ht
  isplitl [Ho]; · iexact Ho
  isplitl [Hc]; · iexact Hc
  isplitl [H1]; · iexact H1
  isplitl [H2]; · iexact H2
  isplitl [H3]; · iexact H3
  iexact H4

theorem held_V5 (d : Dev nD) :
    iprop((oLoc d ↦{fullShare} outP m d) ∗ ((SparseCore.T d).loc main_cst ↦{fullShare} V4 m d (Proc.devRef .tc (main_cst : Ref sig .tc))) ∗ ((SparseCore.T d).loc main_v3 ↦{fullShare} V4 m d (Proc.devRef .tc (main_v3 : Ref sig .tc))) ∗ ((SparseCore.T d).loc main_cst_0 ↦{fullShare} V4 m d (Proc.devRef .tc (main_cst_0 : Ref sig .tc))) ∗ ((SparseCore.T d).loc main_v4 ↦{fullShare} V4 m d (Proc.devRef .tc (main_v4 : Ref sig .tc)))) ⊢ (held (T d) SZ (V5 m d) : sProp 𝕄) := by
  rw [held_SZ]
  unfold V5
  rw [Function.update_self, Function.update_of_ne (show (Proc.devRef .tc (main_cst : Ref sig .tc)) ≠ (Proc.devRef .tc (main_v2 : Ref sig .tc)) by decide), Function.update_of_ne (show (Proc.devRef .tc (main_v3 : Ref sig .tc)) ≠ (Proc.devRef .tc (main_v2 : Ref sig .tc)) by decide), Function.update_of_ne (show (Proc.devRef .tc (main_cst_0 : Ref sig .tc)) ≠ (Proc.devRef .tc (main_v2 : Ref sig .tc)) by decide), Function.update_of_ne (show (Proc.devRef .tc (main_v4 : Ref sig .tc)) ≠ (Proc.devRef .tc (main_v2 : Ref sig .tc)) by decide)]

theorem held_V9 (d : Dev nD) : (held (T d) SZ (op8.result (op7.result (op6.result (op5.result (V5 m d))))) : sProp 𝕄) ⊢ vLoc d ↦{fullShare} resV m d := by
  rw [held_SZ]
  iintro ⟨-, -, -, -, H⟩
  iexact H

/-! ## What the handshakes carry -/

abbrev rds (d : Dev nD) : sProp 𝕄 := iprop(rd (xLoc d) (m (xLoc d)) ∗ rd (lLoc d) (m (lLoc d)) ∗ rd (tLoc d) (tabT m d))

def P : (K (F := F)).Pay (nD := nD) (Val := Elt F) (Name := ℕ) (U := UU) where
  st := fun q d c => match q with | 0 => iprop(rds m d ∗ ∃ f, oLoc d ↦[SCr c.val]{fullShare} f)
  dn := fun q d c => match q with | 0 => iprop(oLoc d ↦[SCr c.val]{fullShare} outP m d)
  go := fun q d c i => match q with
    | 0 => iprop(rd (xLoc d) (m (xLoc d)) ∗ rd (lLoc d) (m (lLoc d)) ∗ rd (tLoc d) (tabT m d) ∗ ∃ f, oLoc d ↦[SO (2 * i.val + c.val)]{fullShare} f)
  td := fun q d c i => match q with | 0 => iprop(oLoc d ↦[SO (2 * i.val + c.val)]{fullShare} outP m d)
  x := fun _ _ => iprop(emp)

instance P_storable : (P (F := F) m).IsStorable where
  st q d _ := match q with | 0 => (inferInstance : BI.Storable (upEmb : UEmb _ 𝕄) iprop(_ ∗ _))
  dn q d _ := match q with | 0 => (inferInstance : BI.Storable (upEmb : UEmb _ 𝕄) (pointsTo _ _ _ _))
  go q d _ _ := match q with | 0 => (inferInstance : BI.Storable (upEmb : UEmb _ 𝕄) iprop(_ ∗ _))
  td q d _ _ := match q with | 0 => (inferInstance : BI.Storable (upEmb : UEmb _ 𝕄) (pointsTo _ _ _ _))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) xM (Memref.isWhole_whole _) lM (Memref.isWhole_whole _) tM (Memref.isWhole_whole _) oM (Memref.isWhole_whole _) labM (Memref.isWhole_whole _) clsM (Memref.isWhole_whole _) posM (Memref.isWhole_whole _) cntM (Memref.isWhole_whole _) bufM (Memref.isWhole_whole _) xrM (Memref.isWhole_whole _) partM (Memref.isWhole_whole _) cc0_scratch7 cc0_scratch8 cc0_scratch9 cc0_scratch10 cc0_scratch11 cc0_scratch12 cc0_scratch13 cc0_scratch14 cc0_scoped0 cc0_scoped1 cc0_scoped2 cc0_scoped3 cc0_scoped4 cc0_scoped5 cc0_scoped6 cc0_scoped7 cc0_scoped8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc0__sc_body in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (d := d) (i := coordsV ⟨_, hc.1⟩ ⟨_, hc.2⟩) (X := m (xLoc d)) (T := tabT m d) (Lb := m (lLoc d)) hF O W hO).trans (wp_mono Idealize.ShloMosaic.frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem o_exists (d : Dev nD) (n : ℕ) (f : Buf (Elt F) (oLoc d)) : (oLoc d ↦[SO n]{fullShare} f : sProp 𝕄) ⊢ iprop(∃ f, oLoc d ↦[SO n]{fullShare} f) := by
  iintro H; iexists f; iexact H

theorem vecSplit : (K (F := F)).VecSplit' (P m) 0 := by
  intro d c
  show iprop(rds m d ∗ ∃ f, oLoc d ↦[SCr c.val]{fullShare} f) ⊢ |={Set.univ}=> iprop(
      (bigSep Finset.univ fun i : Fin ((K (F := F)).nSub 0) =>
        iprop(rd (xLoc d) (m (xLoc d)) ∗ rd (lLoc d) (m (lLoc d)) ∗ rd (tLoc d) (tabT m d) ∗ ∃ f, oLoc d ↦[SO (2 * (Fin.cast nSub_zero i).val + c.val)]{fullShare} f))
      ∗ ((bigSep Finset.univ fun i : Fin ((K (F := F)).nSub 0) => oLoc d ↦[SO (2 * (Fin.cast nSub_zero i).val + c.val)]{fullShare} outP m d)
          -∗ oLoc d ↦[SCr c.val]{fullShare} outP m d))
  rw [bigSep_tasks (F := F) (fun i => iprop(rd (xLoc d) (m (xLoc d)) ∗ rd (lLoc d) (m (lLoc d)) ∗ rd (tLoc d) (tabT m d) ∗ ∃ f, oLoc d ↦[SO (2 * i.val + c.val)]{fullShare} f)),
    bigSep_tasks (F := F) (fun i => oLoc d ↦[SO (2 * i.val + c.val)]{fullShare} outP m d), bigSep_sep', bigSep_sep', bigSep_sep', out_tiles d c.val (outP m d)]
  iintro ⟨⟨Hx, Hl, Ht⟩, %f, Ho⟩
  imodintro
  isplitl [Hx Hl Ht Ho]
  · isplitl [Hx]; · iapply (rd_many Finset.univ) $$ Hx
    isplitl [Hl]; · iapply (rd_many Finset.univ) $$ Hl
    isplitl [Ht]; · iapply (rd_many Finset.univ) $$ Ht
    iapply ((Entails.of_eq (out_tiles d c.val f)).trans (bigSep_mono fun i _ => o_exists d (2 * i.val + c.val) f)) $$ Ho
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's part -/

theorem st0_eq (d : Dev nD) : (bigSep Finset.univ fun c : Fin ((K (F := F)).nCore 0) => (P m).st 0 d c)
    = iprop((rds m d ∗ ∃ f, oLoc d ↦[SCr 0]{fullShare} f) ∗ (rds m d ∗ ∃ f, oLoc d ↦[SCr 1]{fullShare} f)) := by
  show (bigSep (Finset.univ : Finset (Fin 2)) fun c => iprop(rds m d ∗ ∃ f, oLoc d ↦[SCr c.val]{fullShare} f)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c)
    = iprop((oLoc d ↦[SCr 0]{fullShare} outP m d) ∗ (oLoc d ↦[SCr 1]{fullShare} outP m d)) := by
  show (bigSep (Finset.univ : Finset (Fin 2)) fun c => iprop(oLoc d ↦[SCr c.val]{fullShare} outP m d)) = _
  rw [show (Finset.univ : Finset (Fin 2)) = {0, 1} by decide, SparseCore.bigSep_insert' (by decide), bigSep_singleton]
  rfl

theorem pts_rd {ℓ : Loc nD τ sig} {f : Buf (Elt F) ℓ} : (ℓ ↦{fullShare} f : sProp 𝕄) ⊢ rd ℓ f := by
  unfold rd
  iintro H; iexists fullShare; iexact H

theorem half (ℓ : Loc nD τ sig) (f : Buf (Elt F) ℓ) : (ℓ ↦{fullShare} f : sProp 𝕄) ⊢ iprop(rd ℓ f ∗ rd ℓ f) := by
  exact BI.Entails.trans pts_rd rd_two

/-- What the host keeps of the arguments, and the result. -/
abbrev FIN (d : Dev nD) : sProp 𝕄 :=
  iprop(rd (xLoc d) (m (xLoc d)) ∗ rd (lLoc d) (m (lLoc d)) ∗ (cLoc d ↦{fullShare} m (cLoc d)) ∗ vLoc d ↦{fullShare} resV m d)

theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op1) (S := SA) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) h2 (V := op1.result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SA) h3 (V := op2.result (op1.result (V0 m d)))) $$ [Hb Hheld]
  · isplitl [Hb]; · iexact Hb
    iexact Hheld
  iintro ⟨Hb, Hheld⟩
  rw [wp_ret]; imodintro
  imodintro
  iapply (wp_hlo_within 𝒱 (SparseCore.T d) none Set.univ (op := op4) (S := SA) h4 (V := op3.result (op2.result (op1.result (V0 m d))))) $$ [Hb Hheld]
  · isplitl [Hb]; · iexact Hb
    iexact Hheld
  iintro ⟨Hb, Hheld⟩
  rw [wp_ret]; imodintro
  ihave Hh := (held_V4 m d) $$ Hheld
  icases Hh with ⟨Hx, Hl, Ht, Ho, Hc, Z1, Z2, Z3, Z4⟩
  ihave Hx' := (half _ _) $$ Hx
  icases Hx' with ⟨Hx, Hx1⟩
  ihave Hl' := (half _ _) $$ Hl
  icases Hl' with ⟨Hl, Hl1⟩
  ihave Hx' := rd_two $$ Hx1
  icases Hx' with ⟨Hx1, Hx2⟩
  ihave Hl' := rd_two $$ Hl1
  icases Hl' with ⟨Hl1, Hl2⟩
  ihave Ht' := (half _ _) $$ Ht
  icases Ht' with ⟨Ht1, Ht2⟩
  ihave Ho' := (out_cores d _).1 $$ Ho
  icases Ho' with ⟨Ho1, Ho2⟩
  iapply ((K (F := F)).wp_run (D (F := F)) 𝒱 (EH := EH) (P := P m) κ d 0) $$ [Hst Hx Hx1 Hx2 Hl Hl1 Hl2 Ht1 Ht2 Ho1 Ho2 Hc Z1 Z2 Z3 Z4 Hb Hts]
  isplitr; · iexact Hctx
  isplitl [Hst]; · iexact Hst
  isplitl [Hx1 Hx2 Hl1 Hl2 Ht1 Ht2 Ho1 Ho2]
  · rw [st0_eq]
    isplitl [Hx1 Hl1 Ht1 Ho1]
    · isplitl [Hx1 Hl1 Ht1]
      · isplitl [Hx1]; · iexact Hx1
        isplitl [Hl1]; · iexact Hl1
        iexact Ht1
      · iexists _; iexact Ho1
    · isplitl [Hx2 Hl2 Ht2]
      · isplitl [Hx2]; · iexact Hx2
        isplitl [Hl2]; · iexact Hl2
        iexact Ht2
      · iexists _; iexact Ho2
  iintro ⟨Hst, Hdn⟩
  ihave Hdn' := ((Entails.of_eq (dn0_eq m d)).trans (out_cores d (outP m d)).2) $$ Hdn
  ihave Hheld := (held_V5 m d) $$ [Hdn' Z1 Z2 Z3 Z4]
  · isplitl [Hdn']; · iexact Hdn'
    isplitl [Z1]; · iexact Z1
    isplitl [Z2]; · iexact Z2
    isplitl [Z3]; · iexact Z3
    iexact Z4
  iapply (wp_hlo_within 𝒱 (SparseCore.T d) none Set.univ (op := op5) (S := SZ) h5 (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := SZ) h6 (V := op5.result (V5 m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := SZ) h7 (V := op6.result (op5.result (V5 m d)))) $$ [Hb Hheld]
  · isplitl [Hb]; · iexact Hb
    iexact Hheld
  iintro ⟨Hb, Hheld⟩
  rw [wp_ret]; imodintro
  iapply (wp_hlo_within 𝒱 (SparseCore.T d) none Set.univ (op := op8) (S := SZ) h8 (V := op7.result (op6.result (op5.result (V5 m d))))) $$ [Hb Hheld]
  · isplitl [Hb]; · iexact Hb
    iexact Hheld
  iintro ⟨Hb, Hheld⟩
  rw [wp_ret]; imodintro
  imodintro
  isplitl [Hst]; · iexact Hst
  isplitr [Hb Hts]
  · isplitl [Hx]; · iexact Hx
    isplitl [Hl]; · iexact Hl
    isplitl [Hc]; · iexact Hc
    iapply (held_V9 m d) $$ Hheld
  isplitl [Hb] <;> iassumption

def fq (d : Dev nD) (s' : Phys nD τ sig (Elt F)) : Prop :=
  s'.mem.mem (xLoc d) = m (xLoc d) ∧ s'.mem.mem (lLoc d) = m (lLoc d) ∧ s'.mem.mem (cLoc d) = m (cLoc d) ∧ s'.mem.mem (vLoc d) = resV m d

theorem agree {ℓ : Loc nD τ sig} {f : Buf (Elt F) ℓ} {q} (s' : Phys nD τ sig (Elt F)) :
    iprop((ℓ ↦{q} f) ∗ SI s') ⊢ (⌜s'.mem.mem ℓ = f⌝ : sProp 𝕄) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem agreeP {ℓ : Loc nD τ sig} {f : Buf (Elt F) ℓ} {q} (s' : Phys nD τ sig (Elt F)) :
    iprop((ℓ ↦{q} f) ∗ SI s') ⊢ (iprop(⌜s'.mem.mem ℓ = f⌝ ∗ ((ℓ ↦{q} f) ∗ SI s')) : sProp 𝕄) := persistent_entails_right (agree s')

theorem hfin (d : Dev nD) (s' : Phys nD τ sig (Elt F)) : iprop(FIN m d ∗ SI s') ⊢ (⌜fq m d s'⌝ : sProp 𝕄) := by
  unfold FIN rd
  iintro ⟨⟨⟨%q1, Hx⟩, ⟨%q2, Hl⟩, Hc, Hv⟩, HSI⟩
  ihave H := (agreeP s') $$ [Hx HSI]
  · isplitl [Hx] <;> iassumption
  icases H with ⟨%e1, -, HSI⟩
  ihave H := (agreeP s') $$ [Hl HSI]
  · isplitl [Hl] <;> iassumption
  icases H with ⟨%e2, -, HSI⟩
  ihave H := (agreeP s') $$ [Hc HSI]
  · isplitl [Hc] <;> iassumption
  icases H with ⟨%e3, -, HSI⟩
  ihave H := (agree s') $$ [Hv HSI]
  · isplitl [Hv] <;> iassumption
  icases H with %e4
  ipureintro; exact ⟨e1, e2, e3, e4⟩

/-! ## The program's run -/

def QC : PUnit × MemSt nD τ sig (Elt F) → Prop := fun r =>
  (∀ d : Dev nD, r.2.mem (xLoc d) = m (xLoc d) ∧ r.2.mem (lLoc d) = m (lLoc d) ∧ r.2.mem (cLoc d) = m (cLoc d) ∧ r.2.mem (vLoc d) = resV m d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.CL

end
-- ==== Proof.ValSum.lean ====
/- The partial sums at the ideal values: every tile's items together are the labels' positions, each once. -/
module

public import proofs.«01_k».proof.Proof.Body
public import Idealize.ShloMosaic.PureOps.Ideal.Laws

@[expose] public section

noncomputable section

namespace Cert.Proof.CL

open Cert.KernelIdeal Cert.KernelIdeal.Gen

open Idealize.ShloMosaic

variable {X : Vec Ideal S16384x64 .f32} {T : Vec Ideal S64x1000064 .f32}

/-! ## One item -/

/-- The square of one dimension of an item at position `p` with class `w`. -/
def sq (X : Vec Ideal S16384x64 .f32) (T : Vec Ideal S64x1000064 .f32) (p w f : ℕ) : EReal :=
  ((xAt X p f : EReal) - (tAt T f w : EReal)) * ((xAt X p f : EReal) - (tAt T f w : EReal))

def item (X : Vec Ideal S16384x64 .f32) (T : Vec Ideal S64x1000064 .f32) (p w : ℕ) : EReal := ∑ f ∈ Finset.range 64, sq X T p w f

/-- The sum of sixteen lanes. -/
def lanes (v : FVec Ideal S16 .f32) : EReal := ∑ y : Fin 16, (v (lane y) : EReal)

def tot (q : Quad Ideal) : EReal := lanes q.1 + lanes q.2.1 + lanes q.2.2.1 + lanes q.2.2.2

theorem lanes_step (p w c : ℕ) (a : FVec Ideal S16 .f32) :
    lanes (stepC X T p w c a) = lanes a + ∑ y ∈ Finset.range 16, sq X T p w (16 * c + y) := by
  unfold lanes
  rw [← Fin.sum_univ_eq_sum_range (fun y => sq X T p w (16 * c + y)), ← Finset.sum_add_distrib]
  rfl

theorem item_eq (p w : ℕ) : item X T p w = ∑ y ∈ Finset.range 16, sq X T p w (16 * 0 + y) + (∑ y ∈ Finset.range 16, sq X T p w (16 * 1 + y)
    + (∑ y ∈ Finset.range 16, sq X T p w (16 * 2 + y) + ∑ y ∈ Finset.range 16, sq X T p w (16 * 3 + y))) := by
  unfold item
  rw [show 64 = 16 + (16 + (16 + 16)) from rfl, Finset.sum_range_add, Finset.sum_range_add, Finset.sum_range_add]
  simp only [Nat.mul_zero, Nat.zero_add, ← Nat.add_assoc]

theorem tot_fold (p w : ℕ → ℕ) (a : Quad Ideal) (k : ℕ) :
    tot (foldC X T p w a k) = tot a + ∑ t ∈ Finset.range k, item X T (p t) (w t) := by
  induction k with
  | zero => simp [foldC]
  | succ k ih =>
    rw [Finset.sum_range_succ, ← add_assoc, ← ih, item_eq]
    simp only [foldC, tot, lanes_step]
    abel

theorem tot_accT (k : ℕ → ℕ) (p w : ℕ → ℕ → ℕ) (n : ℕ) :
    tot (accT X T k p w n) = ∑ j ∈ Finset.range (4 * n), ∑ t ∈ Finset.range (k j), item X T (p j t) (w j t) := by
  induction n with
  | zero =>
    have e : ∀ y, ((k0_pay231 (F := Ideal)) (lane y) : EReal) = 0 := fun y => Ideal.ofBits_zero_f32
    simp [accT, tot, lanes, e]
  | succ n ih =>
    rw [show 4 * (n + 1) = 4 * n + 0 + 1 + 1 + 1 + 1 from by omega, Finset.sum_range_succ, Finset.sum_range_succ, Finset.sum_range_succ,
      Finset.sum_range_succ]
    simp only [accT, quad, tot_fold, ih, Nat.add_zero]

theorem lanes_partA (Lb : Vec Ideal S16384 .i32) (n : ℕ) : lanes (partA X T Lb n)
    = ∑ j ∈ Finset.range (4 * ((nbN n + 3) / 4)), ∑ t ∈ Finset.range (kN (lwN Lb) n j), item X T (pN (lwN Lb) n j t) (wN (lwN Lb) n j t) := by
  rw [← tot_accT]
  unfold lanes partA tot lanes
  rw [← Finset.sum_add_distrib, ← Finset.sum_add_distrib, ← Finset.sum_add_distrib]
  rfl

/-! ## A block's items are its positions -/

theorem sum_getD (G : ℕ → EReal) : ∀ l : List ℕ, ∑ t ∈ Finset.range l.length, G (l.getD t 0) = (l.map G).sum
  | [] => by simp
  | a :: l => by
    rw [List.length_cons, Finset.sum_range_succ', List.map_cons, List.sum_cons, ← sum_getD G l, add_comm]
    rfl

theorem sum_L (lw : ℕ → BitVec 32) (lo hi b : ℕ) (G : ℕ → EReal) (n : ℕ) :
    ((L lw lo hi n b).map G).sum = ∑ p ∈ Finset.range n, if inB lw lo hi b p then G p else 0 := by
  induction n with
  | zero => simp [L_zero]
  | succ n ih =>
    rw [Finset.sum_range_succ, ← ih]
    by_cases h : inB lw lo hi b n
    · rw [L_succ_of_in h, if_pos h]; simp
    · rw [L_succ_of_not h, if_neg h, add_zero]

theorem sum_block (lw : ℕ → BitVec 32) (n j : ℕ) (G : ℕ → ℕ → EReal) (h : (L lw (loN n) (hiN n) 16384 j).length ≤ 32) :
    ∑ t ∈ Finset.range (kN lw n j), G (pN lw n j t) (wN lw n j t)
      = ∑ p ∈ Finset.range 16384, if inB lw (loN n) (hiN n) j p then G p (lw p).toNat else 0 := by
  rw [← sum_L lw (loN n) (hiN n) j (fun p => G p (lw p).toNat), ← sum_getD]
  unfold kN
  rw [Nat.min_eq_right h]
  rfl

/-! ## A tile's items, and all the tiles' -/

theorem sum_blocks (lw : ℕ → BitVec 32) (lo hi J : ℕ) (h : hi ≤ lo + 128 * J) (G : ℕ → EReal) (N : ℕ) :
    ∑ j ∈ Finset.range J, ∑ p ∈ Finset.range N, (if inB lw lo hi j p then G p else 0)
      = ∑ p ∈ Finset.range N, if lo ≤ (lw p).toNat ∧ (lw p).toNat < hi then G p else 0 := by
  rw [Finset.sum_comm]
  refine Finset.sum_congr rfl fun p _ => ?_
  by_cases hp : lo ≤ (lw p).toNat ∧ (lw p).toNat < hi
  · rw [if_pos hp, Finset.sum_eq_single (((lw p).toNat - lo) / 128)]
    · exact if_pos ⟨hp.1, hp.2, rfl⟩
    · intro j _ hj
      exact if_neg fun hb => hj hb.2.2.symm
    · intro hj
      exact absurd (Finset.mem_range.mpr (by omega)) hj
  · rw [if_neg hp]
    exact Finset.sum_eq_zero fun j _ => if_neg fun hb => hp ⟨hb.1, hb.2.1⟩

theorem sum_tiles_lt (l : ℕ) (hl : l < 1000000) (g : EReal) : ∀ N, N ≤ 31 →
    ∑ n ∈ Finset.range N, (if loN n ≤ l ∧ l < hiN n then g else 0) = if l < loN N then g else 0 := by
  intro N
  induction N with
  | zero => intro _; simp [loN, bloN]
  | succ N ih =>
    intro h
    have e := bloN_succ ⟨N, by omega⟩
    simp only at e
    rw [Finset.sum_range_succ, ih (by omega)]
    have e2 : hiN N = min (loN (N + 1)) 1000000 := by unfold hiN loN; rw [e]; congr 1; omega
    have e3 : loN N ≤ loN (N + 1) := by unfold loN; rw [e]; omega
    rw [e2]
    by_cases h1 : l < loN N
    · rw [if_pos h1, if_neg (by omega), if_pos (by omega), add_zero]
    · by_cases h2 : l < loN (N + 1)
      · rw [if_neg h1, if_pos (by omega), if_pos h2, zero_add]
      · rw [if_neg h1, if_neg (by omega), if_neg h2, zero_add]

theorem sum_tiles (l : ℕ) (hl : l < 1000000) (g : EReal) :
    ∑ n ∈ Finset.range 32, (if loN n ≤ l ∧ l < hiN n then g else 0) = g := by
  rw [Finset.sum_range_succ, sum_tiles_lt l hl g 31 le_rfl]
  have e : hiN 31 = 1000000 := by decide
  rw [e]
  by_cases h : l < loN 31
  · rw [if_pos h, if_neg (by omega), add_zero]
  · rw [if_neg h, if_pos (by omega), zero_add]

/-- The tiles' partial sums together: every position's item, once. -/
theorem parts_sum {Lb : Vec Ideal S16384 .i32} (hlab : ∀ p, p < 16384 → (lwN Lb p).toNat < 1000000)
    (hcap : ∀ n j, (L (lwN Lb) (loN n) (hiN n) 16384 j).length ≤ 32) :
    ∑ n ∈ Finset.range 32, lanes (partA X T Lb n) = ∑ p ∈ Finset.range 16384, item X T p (lwN Lb p).toNat := by
  have e : ∀ n ∈ Finset.range 32, lanes (partA X T Lb n)
      = ∑ p ∈ Finset.range 16384, if loN n ≤ (lwN Lb p).toNat ∧ (lwN Lb p).toNat < hiN n then item X T p (lwN Lb p).toNat else 0 := by
    intro n _
    rw [lanes_partA, ← sum_blocks (lwN Lb) (loN n) (hiN n) (4 * ((nbN n + 3) / 4)) (by unfold hiN; omega)]
    exact Finset.sum_congr rfl fun j _ => sum_block (lwN Lb) n j (item X T) (hcap n j)
  rw [Finset.sum_congr rfl e, Finset.sum_comm]
  exact Finset.sum_congr rfl fun p hp => sum_tiles _ (hlab p (Finset.mem_range.mp hp)) _

end Cert.Proof.CL

end
-- ==== Proof.ValRef.lean ====
/- The reference's value at the ideal values: the mean over positions and dimensions of the squared distance of a row of `x` from
   the row of the class centers that the position's label names. -/
module

public import proofs.«01_k».proof.Proof.Gen.ReferenceIdeal
public import Idealize.ShloMosaic.Lib.ValueIdxCore
public import Idealize.ShloMosaic.Lib.Pipeline.Value
public import Idealize.ShloMosaic.PureOps.Ideal.Laws

@[expose] public section

noncomputable section

namespace Cert.Proof.Ref

open Cert.ReferenceIdeal Cert.ReferenceIdeal.Gen

open Idealize.ShloMosaic
open Idealize.ShloMosaic.ValueIdx (ix1 ix2 eq_ix2 eq_ix1 sum_idx2)

variable (X : FVec Ideal S16384x64 .f32) (Lb : IVec S16384 32) (C : FVec Ideal S1000000x64 .f32)

/-- The row each position reads: a negative label counts from the end. -/
def wrapL : IVec S16384 32 :=
  select (cmpi .slt Lb (broadcastInDim S16384 ![] bcast_S_S16384 (constantI S_ 32 0#32)))
    (addi Lb (broadcastInDim S16384 ![] bcast_S_S16384 (constantI S_ 32 1000000#32))) Lb

def idxL : IVec S16384x1 32 := broadcastInDim S16384x1 ![0] bcast_S16384_S16384x1_0 (wrapL Lb)

/-- Whether each position's row exists. -/
def okL : IVec S16384x1 1 :=
  andi (cmpi .sge (idxL Lb) (broadcastInDim S16384x1 ![] bcast_S_S16384x1 (constantI S_ 32 0#32)))
    (cmpi .sle (idxL Lb) (broadcastInDim S16384x1 ![0, 1] bcast_S1x1_S16384x1_0_1 (broadcastInDim S1x1 ![1] bcast_S1_S1x1_1 (constantI S1 32 999999#32))))

def rowsC : FVec Ideal S16384x64 .f32 :=
  select (broadcastInDim S16384x64 ![0] bcast_S16384_S16384x64_0 (Host.reduce IntOp.andi (okL Lb) (constantI S_ 1 1#1) reducesTo_S16384x1_S16384_d1 h_S_))
    (Host.gather gather_S1000000x64_S16384x1_S16384x64_1_0_n_n_0_1_164 C (idxL Lb))
    (broadcastInDim S16384x64 ![] bcast_S_S16384x64 (constant S_ .f32 0x7FC00000#32))

/-- The reference's result. -/
def refV : FVec Ideal S_ .f32 :=
  Host.divf (Host.reduceAdd (mulf (subf X (rowsC Lb C)) (subf X (rowsC Lb C))) (constant S_ .f32 0x00000000#32) reducesTo_S16384x64_S_d0_1 h_S_)
    (constant S_ .f32 0x49800000#32)

variable {X Lb C}

theorem reduce_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize (List.finRange s.numel).filter _ = l
  induction l with
  | nil => rfl
  | cons a l ih => rw [List.foldl_cons, hx]; exact ih

theorem word_small {v : BitVec 32} (h : v.toNat < 1000000) : v.toInt = (v.toNat : ℤ) := by
  rw [BitVec.toInt_eq_toNat_cond]; split <;> omega

theorem wrapL_at (i : S16384.Idx) (h : (Lb i).toNat < 1000000) : wrapL Lb i = Lb i := by
  show (if BitVec.ofBool ((Lb i).slt 0#32) = 1#1 then _ else Lb i) = Lb i
  rw [if_neg]
  have e : (Lb i).slt 0#32 = false := by
    rw [BitVec.slt_eq_decide, word_small h]; simp
  rw [e]; decide

theorem idxL_at (i : S16384x1.Idx) (k : S16384.Idx) (hk : (k 0).val = (i 0).val) (h : (Lb k).toNat < 1000000) : idxL Lb i = Lb k := by
  rw [← wrapL_at k h]
  refine broadcastInDim_apply _ _ _ _ _ fun a => ?_
  obtain rfl : a = 0 := Subsingleton.elim _ _
  rw [if_neg (by decide)]
  exact hk

theorem okL_at (i : S16384x1.Idx) (h : ∀ k, (Lb k).toNat < 1000000) : okL Lb i = 1#1 := by
  have e := idxL_at (Lb := Lb) i (fun | 0 => (i 0 : Fin 16384)) rfl (h _)
  have hl := h (fun | 0 => (i 0 : Fin 16384))
  show IntOp.andi (BitVec.ofBool ((0#32 : BitVec 32).sle (idxL Lb i))) (BitVec.ofBool ((idxL Lb i).sle 999999#32)) = 1#1
  rw [e]
  rw [BitVec.sle_eq_decide, BitVec.sle_eq_decide, word_small hl, decide_eq_true (by simp), decide_eq_true (by
    show _ ≤ (999999 : ℤ); omega)]
  decide

theorem gather_at (p : Fin 16384) (f : Fin 64) (l : Fin 1000000) (h : idxL Lb (ix2 p (0 : Fin 1)) = BitVec.ofNat 32 l.val) :
    Host.gather gather_S1000000x64_S16384x1_S16384x64_1_0_n_n_0_1_164 C (idxL Lb) (ix2 p f) = C (ix2 l f) := by
  unfold Host.gather
  congr 1
  funext a
  refine Fin.ext ?_
  show gather_S1000000x64_S16384x1_S16384x64_1_0_n_n_0_1_164.start (ix2 p f) (idxL Lb) a + gather_S1000000x64_S16384x1_S16384x64_1_0_n_n_0_1_164.batchCoord (ix2 p f) a
      + gather_S1000000x64_S16384x1_S16384x64_1_0_n_n_0_1_164.offCoord (ix2 p f) a = _
  have hw : (BitVec.ofNat 32 l.val).toInt = (l.val : ℤ) := by
    have : (BitVec.ofNat 32 l.val).toNat = l.val := by rw [BitVec.toNat_ofNat]; omega
    rw [word_small (by omega), this]
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x64_S16384x1_S16384x64_1_0_n_n_0_1_164.startIndexMap from List.mem_singleton.mpr rfl)]
    have hsi : gather_S1000000x64_S16384x1_S16384x64_1_0_n_n_0_1_164.siIdx (ix2 p f) ⟨List.idxOf (0 : Fin 2) gather_S1000000x64_S16384x1_S16384x64_1_0_n_n_0_1_164.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi, h, hw]
    show min ((l.val : ℤ).toNat) (1000000 - 1) = l.val
    have := l.isLt
    rw [Int.toNat_natCast]; omega
  · unfold GatherDims.start
    rw [dif_neg (show (1 : Fin 2) ∉ gather_S1000000x64_S16384x1_S16384x64_1_0_n_n_0_1_164.startIndexMap from by
      intro h; exact absurd (List.mem_singleton.mp h) (by decide))]
    simp only [Nat.zero_add]
    rfl

set_option maxRecDepth 65536 in
theorem rowsC_at (h : ∀ k, (Lb k).toNat < 1000000) (p : Fin 16384) (f : Fin 64) :
    rowsC Lb C (ix2 p f) = C (ix2 ⟨(Lb (ix1 p)).toNat, h _⟩ f) := by
  show (if broadcastInDim S16384x64 ![0] bcast_S16384_S16384x64_0 (Host.reduce IntOp.andi (okL Lb) (constantI S_ 1 1#1) reducesTo_S16384x1_S16384_d1 h_S_) (ix2 p f) = 1#1
    then Host.gather gather_S1000000x64_S16384x1_S16384x64_1_0_n_n_0_1_164 C (idxL Lb) (ix2 p f) else _) = _
  rw [if_pos]
  · refine gather_at p f ⟨(Lb (ix1 p)).toNat, h _⟩ ?_
    rw [idxL_at _ (ix1 p) rfl (h _)]
    exact (BitVec.eq_of_toNat_eq (by
      have := h (ix1 p)
      show (BitVec.ofNat 32 (Lb (ix1 p)).toNat).toNat = _
      rw [BitVec.toNat_ofNat]; omega)).symm
  · exact (broadcastInDim_apply _ _ _ _ (ix1 p) (fun a => by
      obtain rfl : a = 0 := Subsingleton.elim _ _
      rw [if_neg (by decide)]; rfl)).trans (reduce_ones _ _ _ _ (fun i => okL_at i h) (fun _ => rfl) _)

theorem word_mean : Ideal.ofBits .f32 0x49800000#32 = ((1048576 : ℝ) : EReal) := by
  simp [Ideal.ofBits, Ideal.ieee, -EReal.coe_mul]; norm_num

theorem word_inv : Ideal.ofBits .f32 0x35800000#32 = (((1048576 : ℝ)⁻¹ : ℝ) : EReal) := by
  simp [Ideal.ofBits, Ideal.ieee, -EReal.coe_mul]; norm_num

/-- A division by `2^20` is a product with `2^-20`. -/
theorem div_mean (x : EReal) : Ideal.div x (Ideal.ofBits .f32 0x49800000#32) = x * Ideal.ofBits .f32 0x35800000#32 := by
  rw [word_mean, word_inv]
  unfold Ideal.div
  rw [if_neg (by
    intro e
    have := EReal.coe_eq_zero.mp e
    norm_num at this), EReal.coe_inv]

set_option maxRecDepth 65536 in
theorem refV_at (h : ∀ k, (Lb k).toNat < 1000000) (j : S_.Idx) :
    (refV X Lb C j : EReal) = (∑ p : Fin 16384, ∑ f : Fin 64,
      ((X (ix2 p f) : EReal) - (C (ix2 ⟨(Lb (ix1 p)).toNat, h _⟩ f) : EReal)) * ((X (ix2 p f) : EReal) - (C (ix2 ⟨(Lb (ix1 p)).toNat, h _⟩ f) : EReal)))
        * Ideal.ofBits .f32 0x35800000#32 := by
  show Ideal.div (Ideal.hostReduceAdd reducesTo_S16384x64_S_d0_1 (fun i => ((X i : EReal) - (rowsC Lb C i : EReal)) * ((X i : EReal) - (rowsC Lb C i : EReal)))
    (Ideal.ofBits .f32 0x00000000#32) j) (Ideal.ofBits .f32 0x49800000#32) = _
  rw [div_mean, Ideal.hostReduceAdd_total _ (fun b => b.elim0), Ideal.ofBits_zero_f32, zero_add]
  refine congrArg (fun z : EReal => z * Ideal.ofBits .f32 0x35800000#32) ?_
  refine (sum_idx2 _).trans (Finset.sum_congr rfl fun p _ => Finset.sum_congr rfl fun f _ => ?_)
  rw [rowsC_at h]

end Cert.Proof.Ref

end
-- ==== Proof.ValPre.lean ====
/- What the precondition says: every label names a class, and a block of 128 classes has at most 32 labels. -/
module

public import proofs.«01_k».proof.Pre_labels_fit
public import proofs.«01_k».proof.Proof.Stage
public import proofs.«01_k».proof.Proof.ValRef

@[expose] public section

noncomputable section

namespace Cert.Proof.Fit

open Cert.Pre_labels_fit

open Idealize.ShloMosaic
open Idealize.ShloMosaic.ValueIdx (ix1 ix2 eq_ix2 eq_ix1)

theorem fit_facts : Cert.Pre_labels_fit.Facts where
  bcast_S_S7813 := by decide
  bcast_S7813_S7813x1_0 := by decide
  bcast_S16384_S1x16384_1 := by decide
  bcast_S1x16384_S7813x16384_0_1 := by decide
  bcast_S7813x1_S7813x16384_0_1 := by decide
  bcast_S_S7813x1 := by decide
  natLt_1_32 := by decide
  reducesTo_S7813x16384_S7813_d1 := by decide
  h_S_ := by decide
  bcast_S_S1x16384 := by decide

variable [hF : Cert.Pre_labels_fit.Facts]
open Facts

/-! ## Counting -/

theorem foldl_count {κ : Type} (x : κ → BitVec 1) (h1 : 1 < 32) : ∀ (l : List κ) (a : ℕ),
    l.foldl (fun r n => IntOp.addi r ((x n).setWidth 32)) (BitVec.ofNat 32 a) = BitVec.ofNat 32 (a + l.countP fun n => x n == 1#1)
  | [], a => by simp
  | c :: l, a => by
    rw [List.foldl_cons, List.countP_cons]
    have e : IntOp.addi (BitVec.ofNat 32 a) ((x c).setWidth 32) = BitVec.ofNat 32 (a + if (x c == 1#1) = true then 1 else 0) := by
      rcases (show x c = 0#1 ∨ x c = 1#1 by generalize x c = v; revert v; decide) with h | h
      · rw [h]; simp [IntOp.addi]
      · rw [h]
        unfold IntOp.addi
        rw [BitVec.ofNat_add]
        rfl
    rw [e, foldl_count x h1 l]
    congr 1
    omega

theorem reduce_count {s t u : Shape} {axes : List (Fin s.rank)} (x : IVec s 1) (h : s.ReducesTo axes t) (hu : 0 < u.numel) (h1 : 1 < 32) (j : t.Idx) :
    ∃ N, N ≤ s.numel ∧ (∀ S : Finset s.Idx, (∀ i ∈ S, h.drop i = j ∧ x i = 1#1) → S.card ≤ N)
      ∧ Host.reduce IntOp.addi (extui 32 x h1) (constantI u 32 0#32) h hu j = BitVec.ofNat 32 N := by
  refine ⟨((List.finRange s.numel).filter fun n => h.drop (s.rowMajor.symm n) = j).countP fun n => x (s.rowMajor.symm n) == 1#1, ?_, ?_, ?_⟩
  · refine (List.countP_le_length).trans ((List.length_filter_le _ _).trans ?_)
    rw [List.length_finRange]
  · intro S hS
    rw [List.countP_eq_length_filter]
    have hnd : (((List.finRange s.numel).filter fun n => h.drop (s.rowMajor.symm n) = j).filter fun n => x (s.rowMajor.symm n) == 1#1).Nodup :=
      ((List.nodup_finRange _).filter _).filter _
    rw [← List.toFinset_card_of_nodup hnd, ← Finset.card_map s.rowMajor.toEmbedding]
    refine Finset.card_le_card fun n hn => ?_
    obtain ⟨i, hi, rfl⟩ := Finset.mem_map.mp hn
    obtain ⟨e1, e2⟩ := hS i hi
    rw [List.mem_toFinset, List.mem_filter, List.mem_filter]
    simp [e1, e2]
  · unfold Host.reduce
    refine (foldl_count (fun n => x (s.rowMajor.symm n)) h1 _ 0).trans ?_
    rw [Nat.zero_add]

/-! ## The function's parts -/

variable (X : FVec Ideal S16384x64 .f32) (Lb : IVec S16384 32) (C : FVec Ideal S1000000x64 .f32)

/-- The first class of every block. -/
def loV : IVec S7813x1 32 :=
  broadcastInDim S7813x1 ![0] bcast_S7813_S7813x1_0 (muli (broadcastInDim S7813 ![] bcast_S_S7813 (constantI S_ 32 128#32)) (iotaInDim S7813 32 0))

def labR : IVec S1x16384 32 := broadcastInDim S1x16384 ![1] bcast_S16384_S1x16384_1 Lb

/-- Whether a label lies in a block. -/
def inV : IVec S7813x16384 1 :=
  andi (cmpi .sge (broadcastInDim S7813x16384 ![0, 1] bcast_S1x16384_S7813x16384_0_1 (labR Lb)) (broadcastInDim S7813x16384 ![0, 1] bcast_S7813x1_S7813x16384_0_1 loV))
    (cmpi .slt (broadcastInDim S7813x16384 ![0, 1] bcast_S1x16384_S7813x16384_0_1 (labR Lb))
      (broadcastInDim S7813x16384 ![0, 1] bcast_S7813x1_S7813x16384_0_1 (addi loV (broadcastInDim S7813x1 ![] bcast_S_S7813x1 (constantI S_ 32 128#32)))))

def cntV : IVec S7813 32 := Host.reduce IntOp.addi (extui 32 (inV Lb) natLt_1_32) (constantI S_ 32 0#32) reducesTo_S7813x16384_S7813_d1 h_S_

def fewV : IVec S7813x1 1 :=
  broadcastInDim S7813x1 ![0] bcast_S7813_S7813x1_0 (cmpi .sle (cntV Lb) (broadcastInDim S7813 ![] bcast_S_S7813 (constantI S_ 32 32#32)))

theorem fn_eq : fn X Lb C = andi (andi (broadcastInDim S7813x16384 ![0, 1] bcast_S7813x1_S7813x16384_0_1 (fewV Lb))
      (broadcastInDim S7813x16384 ![0, 1] bcast_S1x16384_S7813x16384_0_1 (cmpi .sge (labR Lb) (broadcastInDim S1x16384 ![] bcast_S_S1x16384 (constantI S_ 32 0#32)))))
    (broadcastInDim S7813x16384 ![0, 1] bcast_S1x16384_S7813x16384_0_1 (cmpi .slt (labR Lb) (broadcastInDim S1x16384 ![] bcast_S_S1x16384 (constantI S_ 32 1000000#32)))) := rfl

variable {X Lb C}

theorem row_at {α : Type} (x : S1x16384.Idx → α) (b : Fin 7813) (p : Fin 16384) :
    broadcastInDim S7813x16384 ![0, 1] bcast_S1x16384_S7813x16384_0_1 x (ix2 b p) = x (ix2 (0 : Fin 1) p) :=
  broadcastInDim_apply _ _ _ _ _ fun a => by
    match a with
    | ⟨0, _⟩ => rfl
    | ⟨1, _⟩ => exact (if_neg (show ¬ (16384 : ℕ) = 1 by decide)).symm

theorem col_at {α : Type} (x : S7813x1.Idx → α) (b : Fin 7813) (p : Fin 16384) :
    broadcastInDim S7813x16384 ![0, 1] bcast_S7813x1_S7813x16384_0_1 x (ix2 b p) = x (ix2 b (0 : Fin 1)) :=
  broadcastInDim_apply _ _ _ _ _ fun a => by
    match a with
    | ⟨0, _⟩ => exact (if_neg (show ¬ (7813 : ℕ) = 1 by decide)).symm
    | ⟨1, _⟩ => rfl

theorem labR_at (p : Fin 16384) : labR Lb (ix2 (0 : Fin 1) p) = Lb (ix1 p) :=
  broadcastInDim_apply _ _ _ _ _ fun a => by
    obtain rfl : a = 0 := Subsingleton.elim _ _
    exact (if_neg (by decide)).symm

theorem up_at {α : Type} (x : S7813.Idx → α) (b : Fin 7813) :
    broadcastInDim S7813x1 ![0] bcast_S7813_S7813x1_0 x (ix2 b (0 : Fin 1)) = x (ix1 b) :=
  broadcastInDim_apply _ _ _ _ _ fun a => by
    obtain rfl : a = 0 := Subsingleton.elim _ _
    exact (if_neg (by decide)).symm

theorem loV_at (b : Fin 7813) : loV (ix2 b (0 : Fin 1)) = BitVec.ofNat 32 (128 * b.val) := by
  refine (up_at _ b).trans ?_
  show (128#32 : BitVec 32) * BitVec.ofNat 32 b.val = _
  rw [BitVec.ofNat_mul]

theorem andi_one {v w : BitVec 1} (h : IntOp.andi v w = 1#1) : v = 1#1 ∧ w = 1#1 := by
  revert v w; decide

theorem ofBool_one {p : Bool} (h : BitVec.ofBool p = 1#1) : p = true := by revert h; cases p <;> decide

theorem toInt_small {v : BitVec 32} (h : v.toNat < 2147483648) : v.toInt = (v.toNat : ℤ) := by
  rw [BitVec.toInt_eq_toNat_cond]; split <;> omega

theorem inV_at {b : Fin 7813} {p : Fin 16384} (hl : (Lb (ix1 p)).toNat < 1000000) (h1 : 128 * b.val ≤ (Lb (ix1 p)).toNat)
    (h2 : (Lb (ix1 p)).toNat < 128 * b.val + 128) : inV Lb (ix2 b p) = 1#1 := by
  have hb := b.isLt
  show IntOp.andi (BitVec.ofBool ((broadcastInDim S7813x16384 ![0, 1] bcast_S7813x1_S7813x16384_0_1 loV (ix2 b p)).sle
      (broadcastInDim S7813x16384 ![0, 1] bcast_S1x16384_S7813x16384_0_1 (labR Lb) (ix2 b p))))
    (BitVec.ofBool ((broadcastInDim S7813x16384 ![0, 1] bcast_S1x16384_S7813x16384_0_1 (labR Lb) (ix2 b p)).slt
      (broadcastInDim S7813x16384 ![0, 1] bcast_S7813x1_S7813x16384_0_1 (addi loV (broadcastInDim S7813x1 ![] bcast_S_S7813x1 (constantI S_ 32 128#32))) (ix2 b p)))) = 1#1
  rw [row_at, col_at, col_at, labR_at]
  have e1 : (loV (ix2 b (0 : Fin 1))).toNat = 128 * b.val := by rw [loV_at, BitVec.toNat_ofNat]; omega
  have e2 : (addi loV (broadcastInDim S7813x1 ![] bcast_S_S7813x1 (constantI S_ 32 128#32)) (ix2 b (0 : Fin 1))).toNat = 128 * b.val + 128 := by
    show (loV (ix2 b (0 : Fin 1)) + 128#32).toNat = _
    rw [BitVec.toNat_add, e1, BitVec.toNat_ofNat]; omega
  rw [BitVec.sle_eq_decide, BitVec.slt_eq_decide, toInt_small (v := loV _) (by omega), toInt_small (v := Lb _) (by omega), toInt_small (v := addi _ _ _) (by omega), e1, e2,
    decide_eq_true (by omega), decide_eq_true (by omega)]
  decide

/-- The precondition, read. -/
theorem fit (h : fn X Lb C = fun _ => 1#1) : (∀ k : S16384.Idx, (Lb k).toNat < 1000000)
    ∧ ∀ (b : Fin 7813) (S : Finset (Fin 16384)), (∀ p ∈ S, 128 * b.val ≤ (Lb (ix1 p)).toNat ∧ (Lb (ix1 p)).toNat < 128 * b.val + 128) → S.card ≤ 32 := by
  have key : ∀ (b : Fin 7813) (p : Fin 16384), IntOp.cmpi .sle (cntV Lb (ix1 b)) 32#32 = 1#1 ∧ IntOp.cmpi .sge (Lb (ix1 p)) 0#32 = 1#1
      ∧ IntOp.cmpi .slt (Lb (ix1 p)) 1000000#32 = 1#1 := by
    intro b p
    have e := congrFun h (ix2 b p)
    rw [fn_eq] at e
    obtain ⟨e', e3⟩ := andi_one e
    obtain ⟨e1, e2⟩ := andi_one e'
    rw [col_at] at e1
    rw [row_at] at e2 e3
    rw [fewV, up_at] at e1
    refine ⟨e1, ?_, ?_⟩
    · exact (congrArg (fun v => IntOp.cmpi .sge v 0#32) (labR_at (Lb := Lb) p)).symm.trans e2
    · exact (congrArg (fun v => IntOp.cmpi .slt v 1000000#32) (labR_at (Lb := Lb) p)).symm.trans e3
  have hlab : ∀ k : S16384.Idx, (Lb k).toNat < 1000000 := by
    intro k
    obtain ⟨-, e2, e3⟩ := key ⟨0, by omega⟩ (k 0 : Fin 16384)
    have hk : (ix1 (k 0 : Fin 16384) : S16384.Idx) = k := (eq_ix1 k).symm
    replace e2 : IntOp.cmpi .sge (Lb k) 0#32 = 1#1 := (congrArg (fun i => IntOp.cmpi .sge (Lb i) 0#32) hk).symm.trans e2
    replace e3 : IntOp.cmpi .slt (Lb k) 1000000#32 = 1#1 := (congrArg (fun i => IntOp.cmpi .slt (Lb i) 1000000#32) hk).symm.trans e3
    have e2' := ofBool_one e2
    have e3' := ofBool_one e3
    simp only [BitVec.sle_eq_decide, BitVec.slt_eq_decide, decide_eq_true_eq, BitVec.toInt_eq_toNat_cond, BitVec.toNat_ofNat, Nat.reducePow, Nat.reduceMod] at e2' e3'
    omega
  refine ⟨hlab, fun b S hS => ?_⟩
  obtain ⟨N, hN, hc, he⟩ := reduce_count (inV Lb) reducesTo_S7813x16384_S7813_d1 h_S_ natLt_1_32 (ix1 b)
  have hN' : N ≤ 128008192 := hN
  have e1 := ofBool_one (key b ⟨0, by omega⟩).1
  have hcn : cntV Lb (ix1 b) = BitVec.ofNat 32 N := he
  have ht : (BitVec.ofNat 32 N).toNat = N := by rw [BitVec.toNat_ofNat]; omega
  rw [hcn, BitVec.sle_eq_decide, toInt_small (by omega), ht, decide_eq_true_eq] at e1
  have e32 : (32#32 : BitVec 32).toInt = 32 := by decide
  rw [e32] at e1
  have hcard := hc (S.map ⟨fun p => (ix2 b p : S7813x16384.Idx), fun p q e => congrFun e 1⟩) (by
    intro i hi
    obtain ⟨p, hp, rfl⟩ := Finset.mem_map.mp hi
    refine ⟨?_, inV_at (hlab _) (hS p hp).1 (hS p hp).2⟩
    funext a
    obtain rfl : a = 0 := Subsingleton.elim _ _
    rfl)
  rw [Finset.card_map] at hcard
  omega

end Cert.Proof.Fit

end
-- ==== Proof.ValKer.lean ====
/- The program's result at the ideal values is the reference's result, for labels the precondition allows. -/
module

public import proofs.«01_k».proof.Proof.Launch
public import proofs.«01_k».proof.Proof.ValSum
public import proofs.«01_k».proof.Proof.ValRef
public import proofs.«01_k».proof.Proof.ValPre
public import Idealize.ShloMosaic.Lib.KernelVsHost

@[expose] public section

noncomputable section

namespace Cert.Proof.CL

open Cert.KernelIdeal Cert.KernelIdeal.Gen

open Idealize.ShloMosaic Idealize.ShloMosaic.StableHlo
open Idealize.ShloMosaic.ValueIdx (ix1 ix2 eq_ix2 eq_ix1 sum_idx2)

variable (m : (ℓ : Loc nD τ sig) → Buf (Elt Ideal) ℓ)

/-! ## The host's operations, read -/

theorem tabT_eq (d : Dev nD) : tabT m d = transpose S64x1000064 [1, 0]
    (pad S1000064x64 ![0, 0] ![64, 0] ![0, 0] (m ((SparseCore.T d).loc main_arg2) : FVec Ideal S1000000x64 .f32) (sitofp (F := Ideal) .f32 (constantI S_ 32 0#32)) pads_S1000000x64_S1000064x64_0640_000 h_S_)
    transposes_S1000064x64_S64x1000064_1_0 := by
  unfold tabT V4 op1 op2 op3 op4
  generalize hW : V0 m d = W
  after_results
  subst hW
  rfl

theorem resV_eq (d : Dev nD) : resV m d = mulf (Host.reduceAdd (outP m d) (constant S_ .f32 0x00000000#32) reducesTo_S32x16_S_d0_1 h_S_) (constant S_ .f32 0x35800000#32) := by
  unfold resV V9 V5 op5 op6 op7 op8
  generalize outP m d = P
  generalize V4 m d = W
  after_results <;> rfl

/-- A class's column of the table is its row of the class centers. -/
theorem tabT_at (d : Dev nD) {c f : ℕ} (hc : c < 1000000) (hf : f < 64) :
    tAt (tabT m d) f c = (m ((SparseCore.T d).loc main_arg2) : FVec Ideal S1000000x64 .f32) (ix2 ⟨c, hc⟩ ⟨f, hf⟩) := by
  unfold tAt
  rw [dif_pos ⟨hf, by omega⟩, tabT_eq]
  refine pad_apply_of_inside (s := S1000000x64) (t := S1000064x64) ![0, 0] ![64, 0] ![0, 0] _ _ _ _ _ _ fun a => ?_
  have h01 : a = 0 ∨ a = 1 := by
    match a with
    | ⟨0, _⟩ => exact Or.inl rfl
    | ⟨1, _⟩ => exact Or.inr rfl
  rcases h01 with rfl | rfl
  · show c = 0 + c * (0 + 1)
    omega
  · show f = 0 + f * (0 + 1)
    omega

/-! ## The precondition on the kernel's lists -/

variable {m}

theorem lwN_ix {F : FTy → Type} (Lb : Vec F S16384 .i32) (p : Fin 16384) : lwN Lb p.val = Lb (ix1 p) := by
  unfold lwN
  rw [dif_pos p.isLt]
  congr 1
  exact (eq_ix1 (_ : S16384.Idx)).trans rfl

theorem cap {Lb : Vec Ideal S16384 .i32}
    (h : ∀ (b : Fin 7813) (S : Finset (Fin 16384)), (∀ p ∈ S, 128 * b.val ≤ (Lb (ix1 p)).toNat ∧ (Lb (ix1 p)).toNat < 128 * b.val + 128) → S.card ≤ 32)
    (n j : ℕ) : (L (lwN Lb) (loN n) (hiN n) 16384 j).length ≤ 32 := by
  have hnd : (L (lwN Lb) (loN n) (hiN n) 16384 j).Nodup := List.nodup_range.filter _
  have hmem : ∀ p ∈ L (lwN Lb) (loN n) (hiN n) 16384 j, p < 16384 ∧ inB (lwN Lb) (loN n) (hiN n) j p := by
    intro p hp
    have := List.mem_filter.mp hp
    exact ⟨List.mem_range.mp this.1, of_decide_eq_true this.2⟩
  have hin : ∀ p ∈ L (lwN Lb) (loN n) (hiN n) 16384 j, 128 * (bloN n + j) ≤ (lwN Lb p).toNat ∧ (lwN Lb p).toNat < 128 * (bloN n + j) + 128 ∧ bloN n + j < 7813 := by
    intro p hp
    obtain ⟨-, h1, h2, h3⟩ := hmem p hp
    have h4 : hiN n ≤ 1000000 := min_le_right _ _
    have h5 : loN n = 128 * bloN n := rfl
    omega
  by_cases hb : bloN n + j < 7813
  · rw [← List.toFinset_card_of_nodup hnd]
    have hc := h ⟨bloN n + j, hb⟩ (Finset.univ.filter fun p : Fin 16384 => p.val ∈ L (lwN Lb) (loN n) (hiN n) 16384 j) (fun p hp => by
      have e := hin p.val (Finset.mem_filter.mp hp).2
      rw [lwN_ix] at e
      exact ⟨e.1, e.2.1⟩)
    refine le_trans ?_ hc
    rw [← Finset.card_map Fin.valEmbedding]
    refine Finset.card_le_card fun p hp => ?_
    have hp' := List.mem_toFinset.mp hp
    exact Finset.mem_map.mpr ⟨⟨p, (hmem p hp').1⟩, Finset.mem_filter.mpr ⟨Finset.mem_univ _, hp'⟩, rfl⟩
  · rw [List.eq_nil_iff_forall_not_mem.mpr fun p hp => hb (hin p hp).2.2]
    exact Nat.zero_le _

/-! ## The result -/

theorem sum_partsV {X : Vec Ideal S16384x64 .f32} {T : Vec Ideal S64x1000064 .f32} {Lb : Vec Ideal S16384 .i32} :
    ∑ i : S32x16.Idx, (partsV X T Lb i : EReal) = ∑ n ∈ Finset.range 32, lanes (partA X T Lb n) := by
  rw [← Fin.sum_univ_eq_sum_range (fun n => lanes (partA X T Lb n)) 32]
  unfold lanes partsV
  generalize partA X T Lb = g
  exact sum_idx2 (n0 := 32) (n1 := 16) (fun y => (g (y 0).val (lane (y 1)) : EReal))

set_option maxRecDepth 65536 in
theorem res_ref (d : Dev nD) {X : FVec Ideal S16384x64 .f32} {Lb : IVec S16384 32} {C : FVec Ideal S1000000x64 .f32} (hX : m (xLoc d) = X) (hL : m (lLoc d) = Lb)
    (hC : m ((SparseCore.T d).loc main_arg2) = C) (hlab : ∀ k : S16384.Idx, (Lb k).toNat < 1000000)
    (hcap : ∀ (b : Fin 7813) (S : Finset (Fin 16384)), (∀ p ∈ S, 128 * b.val ≤ (Lb (ix1 p)).toNat ∧ (Lb (ix1 p)).toNat < 128 * b.val + 128) → S.card ≤ 32) :
    resV m d = Ref.refV X Lb C := by
  have e1 : ∀ p, p < 16384 → (lwN (F := Ideal) Lb p).toNat < 1000000 := fun p hp => by
    rw [lwN_ix Lb ⟨p, hp⟩]; exact hlab _
  have e2 := parts_sum (X := X) (T := tabT m d) (Lb := Lb) e1 (cap hcap)
  have e3 : outP m d = partsV X (tabT m d) Lb := by unfold outP; rw [hX, hL]
  have e4 : ∑ i : S32x16.Idx, (partsV X (tabT m d) Lb i : EReal) = ∑ p : Fin 16384, ∑ f : Fin 64,
      ((X (ix2 p f) : EReal) - (C (ix2 ⟨(Lb (ix1 p)).toNat, hlab _⟩ f) : EReal)) * ((X (ix2 p f) : EReal) - (C (ix2 ⟨(Lb (ix1 p)).toNat, hlab _⟩ f) : EReal)) := by
    refine sum_partsV.trans (e2.trans ?_)
    rw [← Fin.sum_univ_eq_sum_range (fun p => item X (tabT m d) p (lwN (F := Ideal) Lb p).toNat) 16384]
    refine Finset.sum_congr rfl fun p _ => ?_
    unfold item
    rw [← Fin.sum_univ_eq_sum_range (fun f => sq X (tabT m d) p.val (lwN (F := Ideal) Lb p.val).toNat f) 64]
    refine Finset.sum_congr rfl fun f _ => ?_
    have hx : xAt X p.val f.val = X (ix2 p f) := by
      unfold xAt
      rw [dif_pos ⟨p.isLt, f.isLt⟩]
      congr 1
      exact (eq_ix2 (_ : S16384x64.Idx)).trans rfl
    have ht : tAt (tabT m d) f.val (lwN (F := Ideal) Lb p.val).toNat = C (ix2 ⟨(Lb (ix1 p)).toNat, hlab _⟩ f) := by
      rw [lwN_ix, tabT_at m d (hlab _) f.isLt, hC]
    unfold sq
    rw [hx, ht]
  funext j
  refine Eq.trans ?_ (Ref.refV_at hlab j).symm
  rw [resV_eq, e3, ← e4]
  refine congrArg (fun z : EReal => z * Ideal.ofBits .f32 0x35800000#32) ?_
  refine (Ideal.hostReduceAdd_total reducesTo_S32x16_S_d0_1 (fun b => b.elim0) _ _ j).trans ?_
  refine (congrArg (fun z : EReal => z + _) Ideal.ofBits_zero_f32).trans ?_
  exact zero_add _

end Cert.Proof.CL

end
-- ==== Proof.lean ====
/- The claims: each program ends with every argument as it was and every semaphore at zero, the idealized kernel is the
   kernel, and on labels that fit the idealized kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.ValKer

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun d => ⟨(h.1 d).1, (h.1 d).2.1, (h.1 d).2.2.1⟩, h.2⟩) (CL.run_main (F := Ideal) m ρ)

set_option maxHeartbeats 4000000 in
theorem frame_kernel : Cert.quiescent_Kernel := fun m ρ _ =>
  (θ_run Cert.KernelIdeal.defs _ _).mono (fun _ h => ⟨fun d => ⟨(h.1 d).1, (h.1 d).2.1, (h.1 d).2.2.1⟩, h.2⟩) (CL.run_main (F := Bits) m ρ)

theorem frame_reference : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_labels_fit (hPre_labels_fit := Fit.fit_facts) := by
  intro m g m' g' hpre hargs
  refine ⟨fun c => CL.resV m c, ?_, ?_⟩
  · exact (θ_run Cert.KernelIdeal.defs _ _).mono (fun _ h d => ⟨(h.1 d).2.2.2, (h.1 d).1, (h.1 d).2.1, (h.1 d).2.2.1⟩) (CL.run_main (F := Ideal) m g)
  · refine (θ_run Cert.ReferenceIdeal.defs _ _).mono (fun r h c => ⟨(h c).1.trans ?_, (h c).2⟩) (Cert.ReferenceIdeal.Value.run (F := Ideal) m' g')
    obtain ⟨hlab, hcap⟩ := Fit.fit (hF := Fit.fit_facts) (hpre c)
    refine Eq.trans ?_ (CL.res_ref (m := m) c rfl rfl rfl hlab hcap).symm
    obtain ⟨h0, h1, h2⟩ := hargs c
    rw [h0, h1, h2]
    rfl

theorem claim : Cert.Claim := ⟨Cert.Kernel.Gen.facts, Cert.KernelIdeal.Gen.facts, Cert.ReferenceIdeal.Gen.facts, Fit.fit_facts, frame_kernel, frame_ideal,
  fun m ρ _ => frame_ideal m ρ trivial, frame_reference, fun m ρ _ => frame_reference m ρ trivial, trivial, algebraic⟩

end Cert.Proof

end
